-- ==== Defs.lean ====
def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_attn_finite [hPre_attn_finite : Cert.Pre_attn_finite.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_attn_finite.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))).1 = (fun _ => 1#1)
    ∧ (Cert.Pre_attn_finite.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))).2.1 = (fun _ => 1#1)
    ∧ (Cert.Pre_attn_finite.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))).2.2.1 = (fun _ => 1#1)
    ∧ (Cert.Pre_attn_finite.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))).2.2.2.1 = (fun _ => 1#1)
    ∧ (Cert.Pre_attn_finite.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4))).2.2.2.2 = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_attn_finite [hPre_attn_finite : Cert.Pre_attn_finite.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_attn_finite.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4))).1 = (fun _ => 1#1)
    ∧ (Cert.Pre_attn_finite.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4))).2.1 = (fun _ => 1#1)
    ∧ (Cert.Pre_attn_finite.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4))).2.2.1 = (fun _ => 1#1)
    ∧ (Cert.Pre_attn_finite.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4))).2.2.2.1 = (fun _ => 1#1)
    ∧ (Cert.Pre_attn_finite.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4))).2.2.2.2 = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_ffn_finite [hPre_ffn_finite : Cert.Pre_ffn_finite.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_ffn_finite.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).1 = (fun _ => 1#1)
    ∧ (Cert.Pre_ffn_finite.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).2.1 = (fun _ => 1#1)
    ∧ (Cert.Pre_ffn_finite.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).2.2.1 = (fun _ => 1#1)
    ∧ (Cert.Pre_ffn_finite.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).2.2.2.1 = (fun _ => 1#1)
    ∧ (Cert.Pre_ffn_finite.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).2.2.2.2 = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_ffn_finite [hPre_ffn_finite : Cert.Pre_ffn_finite.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_ffn_finite.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).1 = (fun _ => 1#1)
    ∧ (Cert.Pre_ffn_finite.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).2.1 = (fun _ => 1#1)
    ∧ (Cert.Pre_ffn_finite.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).2.2.1 = (fun _ => 1#1)
    ∧ (Cert.Pre_ffn_finite.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).2.2.2.1 = (fun _ => 1#1)
    ∧ (Cert.Pre_ffn_finite.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).2.2.2.2 = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_KernelInIdeal_x_finite [hPre_x_finite : Cert.Pre_x_finite.Facts] (m : (ℓ : Loc Cert.KernelInIdeal.nD Cert.KernelInIdeal.τ Cert.KernelInIdeal.sig) → Buf (Elt Ideal) ℓ) : Prop :=
  ∀ c : Dev Cert.KernelInIdeal.nD,
    (Cert.Pre_x_finite.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4)) (m ((c.tc : Thread Cert.KernelInIdeal.nD Cert.KernelInIdeal.τ).loc Cert.KernelInIdeal.main_arg5)) (m ((c.tc : Thread Cert.KernelInIdeal.nD Cert.KernelInIdeal.τ).loc Cert.KernelInIdeal.main_arg6)) (m ((c.tc : Thread Cert.KernelInIdeal.nD Cert.KernelInIdeal.τ).loc Cert.KernelInIdeal.main_arg7)) (m ((c.tc : Thread Cert.KernelInIdeal.nD Cert.KernelInIdeal.τ).loc Cert.KernelInIdeal.main_arg8))) = (fun _ => 1#1)

def Pre_ReferenceInIdeal (m : (ℓ : Loc Cert.ReferenceInIdeal.nD Cert.ReferenceInIdeal.τ Cert.ReferenceInIdeal.sig) → Buf (Elt Ideal) ℓ) : Prop :=
  True

def Pre_ReferenceInIdeal_x_finite [hPre_x_finite : Cert.Pre_x_finite.Facts] (m : (ℓ : Loc Cert.ReferenceInIdeal.nD Cert.ReferenceInIdeal.τ Cert.ReferenceInIdeal.sig) → Buf (Elt Ideal) ℓ) : Prop :=
  ∀ c : Dev Cert.ReferenceInIdeal.nD,
    (Cert.Pre_x_finite.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4)) (m ((c.tc : Thread Cert.ReferenceInIdeal.nD Cert.ReferenceInIdeal.τ).loc Cert.ReferenceInIdeal.main_arg5)) (m ((c.tc : Thread Cert.ReferenceInIdeal.nD Cert.ReferenceInIdeal.τ).loc Cert.ReferenceInIdeal.main_arg6)) (m ((c.tc : Thread Cert.ReferenceInIdeal.nD Cert.ReferenceInIdeal.τ).loc Cert.ReferenceInIdeal.main_arg7)) (m ((c.tc : Thread Cert.ReferenceInIdeal.nD Cert.ReferenceInIdeal.τ).loc Cert.ReferenceInIdeal.main_arg8))) = (fun _ => 1#1)

def Pre_KernelMem (m : (ℓ : Loc Cert.KernelMem.nD Cert.KernelMem.τ Cert.KernelMem.sig) → Buf (Elt Bits) ℓ) : Prop :=
  True

def Pre_KernelMemIdeal (m : (ℓ : Loc Cert.KernelMemIdeal.nD Cert.KernelMemIdeal.τ Cert.KernelMemIdeal.sig) → Buf (Elt Ideal) ℓ) : Prop :=
  True

def Pre_KernelMemIdeal_mem_finite [hPre_mem_finite : Cert.Pre_mem_finite.Facts] (m : (ℓ : Loc Cert.KernelMemIdeal.nD Cert.KernelMemIdeal.τ Cert.KernelMemIdeal.sig) → Buf (Elt Ideal) ℓ) : Prop :=
  ∀ c : Dev Cert.KernelMemIdeal.nD,
    (Cert.Pre_mem_finite.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1)) (m ((c.tc : Thread Cert.KernelMemIdeal.nD Cert.KernelMemIdeal.τ).loc Cert.KernelMemIdeal.main_arg2)) (m ((c.tc : Thread Cert.KernelMemIdeal.nD Cert.KernelMemIdeal.τ).loc Cert.KernelMemIdeal.main_arg3)) (m ((c.tc : Thread Cert.KernelMemIdeal.nD Cert.KernelMemIdeal.τ).loc Cert.KernelMemIdeal.main_arg4)) (m ((c.tc : Thread Cert.KernelMemIdeal.nD Cert.KernelMemIdeal.τ).loc Cert.KernelMemIdeal.main_arg5)) (m ((c.tc : Thread Cert.KernelMemIdeal.nD Cert.KernelMemIdeal.τ).loc Cert.KernelMemIdeal.main_arg6)) (m ((c.tc : Thread Cert.KernelMemIdeal.nD Cert.KernelMemIdeal.τ).loc Cert.KernelMemIdeal.main_arg7)) (m ((c.tc : Thread Cert.KernelMemIdeal.nD Cert.KernelMemIdeal.τ).loc Cert.KernelMemIdeal.main_arg8)) (m ((c.tc : Thread Cert.KernelMemIdeal.nD Cert.KernelMemIdeal.τ).loc Cert.KernelMemIdeal.main_arg9)) (m ((c.tc : Thread Cert.KernelMemIdeal.nD Cert.KernelMemIdeal.τ).loc Cert.KernelMemIdeal.main_arg10)) (m ((c.tc : Thread Cert.KernelMemIdeal.nD Cert.KernelMemIdeal.τ).loc Cert.KernelMemIdeal.main_arg11)) (m ((c.tc : Thread Cert.KernelMemIdeal.nD Cert.KernelMemIdeal.τ).loc Cert.KernelMemIdeal.main_arg12)) (m ((c.tc : Thread Cert.KernelMemIdeal.nD Cert.KernelMemIdeal.τ).loc Cert.KernelMemIdeal.main_arg13)) (m ((c.tc : Thread Cert.KernelMemIdeal.nD Cert.KernelMemIdeal.τ).loc Cert.KernelMemIdeal.main_arg14))).1 = (fun _ => 1#1)
    ∧ (Cert.Pre_mem_finite.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1)) (m ((c.tc : Thread Cert.KernelMemIdeal.nD Cert.KernelMemIdeal.τ).loc Cert.KernelMemIdeal.main_arg2)) (m ((c.tc : Thread Cert.KernelMemIdeal.nD Cert.KernelMemIdeal.τ).loc Cert.KernelMemIdeal.main_arg3)) (m ((c.tc : Thread Cert.KernelMemIdeal.nD Cert.KernelMemIdeal.τ).loc Cert.KernelMemIdeal.main_arg4)) (m ((c.tc : Thread Cert.KernelMemIdeal.nD Cert.KernelMemIdeal.τ).loc Cert.KernelMemIdeal.main_arg5)) (m ((c.tc : Thread Cert.KernelMemIdeal.nD Cert.KernelMemIdeal.τ).loc Cert.KernelMemIdeal.main_arg6)) (m ((c.tc : Thread Cert.KernelMemIdeal.nD Cert.KernelMemIdeal.τ).loc Cert.KernelMemIdeal.main_arg7)) (m ((c.tc : Thread Cert.KernelMemIdeal.nD Cert.KernelMemIdeal.τ).loc Cert.KernelMemIdeal.main_arg8)) (m ((c.tc : Thread Cert.KernelMemIdeal.nD Cert.KernelMemIdeal.τ).loc Cert.KernelMemIdeal.main_arg9)) (m ((c.tc : Thread Cert.KernelMemIdeal.nD Cert.KernelMemIdeal.τ).loc Cert.KernelMemIdeal.main_arg10)) (m ((c.tc : Thread Cert.KernelMemIdeal.nD Cert.KernelMemIdeal.τ).loc Cert.KernelMemIdeal.main_arg11)) (m ((c.tc : Thread Cert.KernelMemIdeal.nD Cert.KernelMemIdeal.τ).loc Cert.KernelMemIdeal.main_arg12)) (m ((c.tc : Thread Cert.KernelMemIdeal.nD Cert.KernelMemIdeal.τ).loc Cert.KernelMemIdeal.main_arg13)) (m ((c.tc : Thread Cert.KernelMemIdeal.nD Cert.KernelMemIdeal.τ).loc Cert.KernelMemIdeal.main_arg14))).2.1 = (fun _ => 1#1)
    ∧ (Cert.Pre_mem_finite.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1)) (m ((c.tc : Thread Cert.KernelMemIdeal.nD Cert.KernelMemIdeal.τ).loc Cert.KernelMemIdeal.main_arg2)) (m ((c.tc : Thread Cert.KernelMemIdeal.nD Cert.KernelMemIdeal.τ).loc Cert.KernelMemIdeal.main_arg3)) (m ((c.tc : Thread Cert.KernelMemIdeal.nD Cert.KernelMemIdeal.τ).loc Cert.KernelMemIdeal.main_arg4)) (m ((c.tc : Thread Cert.KernelMemIdeal.nD Cert.KernelMemIdeal.τ).loc Cert.KernelMemIdeal.main_arg5)) (m ((c.tc : Thread Cert.KernelMemIdeal.nD Cert.KernelMemIdeal.τ).loc Cert.KernelMemIdeal.main_arg6)) (m ((c.tc : Thread Cert.KernelMemIdeal.nD Cert.KernelMemIdeal.τ).loc Cert.KernelMemIdeal.main_arg7)) (m ((c.tc : Thread Cert.KernelMemIdeal.nD Cert.KernelMemIdeal.τ).loc Cert.KernelMemIdeal.main_arg8)) (m ((c.tc : Thread Cert.KernelMemIdeal.nD Cert.KernelMemIdeal.τ).loc Cert.KernelMemIdeal.main_arg9)) (m ((c.tc : Thread Cert.KernelMemIdeal.nD Cert.KernelMemIdeal.τ).loc Cert.KernelMemIdeal.main_arg10)) (m ((c.tc : Thread Cert.KernelMemIdeal.nD Cert.KernelMemIdeal.τ).loc Cert.KernelMemIdeal.main_arg11)) (m ((c.tc : Thread Cert.KernelMemIdeal.nD Cert.KernelMemIdeal.τ).loc Cert.KernelMemIdeal.main_arg12)) (m ((c.tc : Thread Cert.KernelMemIdeal.nD Cert.KernelMemIdeal.τ).loc Cert.KernelMemIdeal.main_arg13)) (m ((c.tc : Thread Cert.KernelMemIdeal.nD Cert.KernelMemIdeal.τ).loc Cert.KernelMemIdeal.main_arg14))).2.2.1 = (fun _ => 1#1)
    ∧ (Cert.Pre_mem_finite.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1)) (m ((c.tc : Thread Cert.KernelMemIdeal.nD Cert.KernelMemIdeal.τ).loc Cert.KernelMemIdeal.main_arg2)) (m ((c.tc : Thread Cert.KernelMemIdeal.nD Cert.KernelMemIdeal.τ).loc Cert.KernelMemIdeal.main_arg3)) (m ((c.tc : Thread Cert.KernelMemIdeal.nD Cert.KernelMemIdeal.τ).loc Cert.KernelMemIdeal.main_arg4)) (m ((c.tc : Thread Cert.KernelMemIdeal.nD Cert.KernelMemIdeal.τ).loc Cert.KernelMemIdeal.main_arg5)) (m ((c.tc : Thread Cert.KernelMemIdeal.nD Cert.KernelMemIdeal.τ).loc Cert.KernelMemIdeal.main_arg6)) (m ((c.tc : Thread Cert.KernelMemIdeal.nD Cert.KernelMemIdeal.τ).loc Cert.KernelMemIdeal.main_arg7)) (m ((c.tc : Thread Cert.KernelMemIdeal.nD Cert.KernelMemIdeal.τ).loc Cert.KernelMemIdeal.main_arg8)) (m ((c.tc : Thread Cert.KernelMemIdeal.nD Cert.KernelMemIdeal.τ).loc Cert.KernelMemIdeal.main_arg9)) (m ((c.tc : Thread Cert.KernelMemIdeal.nD Cert.KernelMemIdeal.τ).loc Cert.KernelMemIdeal.main_arg10)) (m ((c.tc : Thread Cert.KernelMemIdeal.nD Cert.KernelMemIdeal.τ).loc Cert.KernelMemIdeal.main_arg11)) (m ((c.tc : Thread Cert.KernelMemIdeal.nD Cert.KernelMemIdeal.τ).loc Cert.KernelMemIdeal.main_arg12)) (m ((c.tc : Thread Cert.KernelMemIdeal.nD Cert.KernelMemIdeal.τ).loc Cert.KernelMemIdeal.main_arg13)) (m ((c.tc : Thread Cert.KernelMemIdeal.nD Cert.KernelMemIdeal.τ).loc Cert.KernelMemIdeal.main_arg14))).2.2.2.1 = (fun _ => 1#1)
    ∧ (Cert.Pre_mem_finite.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1)) (m ((c.tc : Thread Cert.KernelMemIdeal.nD Cert.KernelMemIdeal.τ).loc Cert.KernelMemIdeal.main_arg2)) (m ((c.tc : Thread Cert.KernelMemIdeal.nD Cert.KernelMemIdeal.τ).loc Cert.KernelMemIdeal.main_arg3)) (m ((c.tc : Thread Cert.KernelMemIdeal.nD Cert.KernelMemIdeal.τ).loc Cert.KernelMemIdeal.main_arg4)) (m ((c.tc : Thread Cert.KernelMemIdeal.nD Cert.KernelMemIdeal.τ).loc Cert.KernelMemIdeal.main_arg5)) (m ((c.tc : Thread Cert.KernelMemIdeal.nD Cert.KernelMemIdeal.τ).loc Cert.KernelMemIdeal.main_arg6)) (m ((c.tc : Thread Cert.KernelMemIdeal.nD Cert.KernelMemIdeal.τ).loc Cert.KernelMemIdeal.main_arg7)) (m ((c.tc : Thread Cert.KernelMemIdeal.nD Cert.KernelMemIdeal.τ).loc Cert.KernelMemIdeal.main_arg8)) (m ((c.tc : Thread Cert.KernelMemIdeal.nD Cert.KernelMemIdeal.τ).loc Cert.KernelMemIdeal.main_arg9)) (m ((c.tc : Thread Cert.KernelMemIdeal.nD Cert.KernelMemIdeal.τ).loc Cert.KernelMemIdeal.main_arg10)) (m ((c.tc : Thread Cert.KernelMemIdeal.nD Cert.KernelMemIdeal.τ).loc Cert.KernelMemIdeal.main_arg11)) (m ((c.tc : Thread Cert.KernelMemIdeal.nD Cert.KernelMemIdeal.τ).loc Cert.KernelMemIdeal.main_arg12)) (m ((c.tc : Thread Cert.KernelMemIdeal.nD Cert.KernelMemIdeal.τ).loc Cert.KernelMemIdeal.main_arg13)) (m ((c.tc : Thread Cert.KernelMemIdeal.nD Cert.KernelMemIdeal.τ).loc Cert.KernelMemIdeal.main_arg14))).2.2.2.2.1 = (fun _ => 1#1)
    ∧ (Cert.Pre_mem_finite.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1)) (m ((c.tc : Thread Cert.KernelMemIdeal.nD Cert.KernelMemIdeal.τ).loc Cert.KernelMemIdeal.main_arg2)) (m ((c.tc : Thread Cert.KernelMemIdeal.nD Cert.KernelMemIdeal.τ).loc Cert.KernelMemIdeal.main_arg3)) (m ((c.tc : Thread Cert.KernelMemIdeal.nD Cert.KernelMemIdeal.τ).loc Cert.KernelMemIdeal.main_arg4)) (m ((c.tc : Thread Cert.KernelMemIdeal.nD Cert.KernelMemIdeal.τ).loc Cert.KernelMemIdeal.main_arg5)) (m ((c.tc : Thread Cert.KernelMemIdeal.nD Cert.KernelMemIdeal.τ).loc Cert.KernelMemIdeal.main_arg6)) (m ((c.tc : Thread Cert.KernelMemIdeal.nD Cert.KernelMemIdeal.τ).loc Cert.KernelMemIdeal.main_arg7)) (m ((c.tc : Thread Cert.KernelMemIdeal.nD Cert.KernelMemIdeal.τ).loc Cert.KernelMemIdeal.main_arg8)) (m ((c.tc : Thread Cert.KernelMemIdeal.nD Cert.KernelMemIdeal.τ).loc Cert.KernelMemIdeal.main_arg9)) (m ((c.tc : Thread Cert.KernelMemIdeal.nD Cert.KernelMemIdeal.τ).loc Cert.KernelMemIdeal.main_arg10)) (m ((c.tc : Thread Cert.KernelMemIdeal.nD Cert.KernelMemIdeal.τ).loc Cert.KernelMemIdeal.main_arg11)) (m ((c.tc : Thread Cert.KernelMemIdeal.nD Cert.KernelMemIdeal.τ).loc Cert.KernelMemIdeal.main_arg12)) (m ((c.tc : Thread Cert.KernelMemIdeal.nD Cert.KernelMemIdeal.τ).loc Cert.KernelMemIdeal.main_arg13)) (m ((c.tc : Thread Cert.KernelMemIdeal.nD Cert.KernelMemIdeal.τ).loc Cert.KernelMemIdeal.main_arg14))).2.2.2.2.2.1 = (fun _ => 1#1)
    ∧ (Cert.Pre_mem_finite.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1)) (m ((c.tc : Thread Cert.KernelMemIdeal.nD Cert.KernelMemIdeal.τ).loc Cert.KernelMemIdeal.main_arg2)) (m ((c.tc : Thread Cert.KernelMemIdeal.nD Cert.KernelMemIdeal.τ).loc Cert.KernelMemIdeal.main_arg3)) (m ((c.tc : Thread Cert.KernelMemIdeal.nD Cert.KernelMemIdeal.τ).loc Cert.KernelMemIdeal.main_arg4)) (m ((c.tc : Thread Cert.KernelMemIdeal.nD Cert.KernelMemIdeal.τ).loc Cert.KernelMemIdeal.main_arg5)) (m ((c.tc : Thread Cert.KernelMemIdeal.nD Cert.KernelMemIdeal.τ).loc Cert.KernelMemIdeal.main_arg6)) (m ((c.tc : Thread Cert.KernelMemIdeal.nD Cert.KernelMemIdeal.τ).loc Cert.KernelMemIdeal.main_arg7)) (m ((c.tc : Thread Cert.KernelMemIdeal.nD Cert.KernelMemIdeal.τ).loc Cert.KernelMemIdeal.main_arg8)) (m ((c.tc : Thread Cert.KernelMemIdeal.nD Cert.KernelMemIdeal.τ).loc Cert.KernelMemIdeal.main_arg9)) (m ((c.tc : Thread Cert.KernelMemIdeal.nD Cert.KernelMemIdeal.τ).loc Cert.KernelMemIdeal.main_arg10)) (m ((c.tc : Thread Cert.KernelMemIdeal.nD Cert.KernelMemIdeal.τ).loc Cert.KernelMemIdeal.main_arg11)) (m ((c.tc : Thread Cert.KernelMemIdeal.nD Cert.KernelMemIdeal.τ).loc Cert.KernelMemIdeal.main_arg12)) (m ((c.tc : Thread Cert.KernelMemIdeal.nD Cert.KernelMemIdeal.τ).loc Cert.KernelMemIdeal.main_arg13)) (m ((c.tc : Thread Cert.KernelMemIdeal.nD Cert.KernelMemIdeal.τ).loc Cert.KernelMemIdeal.main_arg14))).2.2.2.2.2.2.1 = (fun _ => 1#1)
    ∧ (Cert.Pre_mem_finite.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1)) (m ((c.tc : Thread Cert.KernelMemIdeal.nD Cert.KernelMemIdeal.τ).loc Cert.KernelMemIdeal.main_arg2)) (m ((c.tc : Thread Cert.KernelMemIdeal.nD Cert.KernelMemIdeal.τ).loc Cert.KernelMemIdeal.main_arg3)) (m ((c.tc : Thread Cert.KernelMemIdeal.nD Cert.KernelMemIdeal.τ).loc Cert.KernelMemIdeal.main_arg4)) (m ((c.tc : Thread Cert.KernelMemIdeal.nD Cert.KernelMemIdeal.τ).loc Cert.KernelMemIdeal.main_arg5)) (m ((c.tc : Thread Cert.KernelMemIdeal.nD Cert.KernelMemIdeal.τ).loc Cert.KernelMemIdeal.main_arg6)) (m ((c.tc : Thread Cert.KernelMemIdeal.nD Cert.KernelMemIdeal.τ).loc Cert.KernelMemIdeal.main_arg7)) (m ((c.tc : Thread Cert.KernelMemIdeal.nD Cert.KernelMemIdeal.τ).loc Cert.KernelMemIdeal.main_arg8)) (m ((c.tc : Thread Cert.KernelMemIdeal.nD Cert.KernelMemIdeal.τ).loc Cert.KernelMemIdeal.main_arg9)) (m ((c.tc : Thread Cert.KernelMemIdeal.nD Cert.KernelMemIdeal.τ).loc Cert.KernelMemIdeal.main_arg10)) (m ((c.tc : Thread Cert.KernelMemIdeal.nD Cert.KernelMemIdeal.τ).loc Cert.KernelMemIdeal.main_arg11)) (m ((c.tc : Thread Cert.KernelMemIdeal.nD Cert.KernelMemIdeal.τ).loc Cert.KernelMemIdeal.main_arg12)) (m ((c.tc : Thread Cert.KernelMemIdeal.nD Cert.KernelMemIdeal.τ).loc Cert.KernelMemIdeal.main_arg13)) (m ((c.tc : Thread Cert.KernelMemIdeal.nD Cert.KernelMemIdeal.τ).loc Cert.KernelMemIdeal.main_arg14))).2.2.2.2.2.2.2.1 = (fun _ => 1#1)
    ∧ (Cert.Pre_mem_finite.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1)) (m ((c.tc : Thread Cert.KernelMemIdeal.nD Cert.KernelMemIdeal.τ).loc Cert.KernelMemIdeal.main_arg2)) (m ((c.tc : Thread Cert.KernelMemIdeal.nD Cert.KernelMemIdeal.τ).loc Cert.KernelMemIdeal.main_arg3)) (m ((c.tc : Thread Cert.KernelMemIdeal.nD Cert.KernelMemIdeal.τ).loc Cert.KernelMemIdeal.main_arg4)) (m ((c.tc : Thread Cert.KernelMemIdeal.nD Cert.KernelMemIdeal.τ).loc Cert.KernelMemIdeal.main_arg5)) (m ((c.tc : Thread Cert.KernelMemIdeal.nD Cert.KernelMemIdeal.τ).loc Cert.KernelMemIdeal.main_arg6)) (m ((c.tc : Thread Cert.KernelMemIdeal.nD Cert.KernelMemIdeal.τ).loc Cert.KernelMemIdeal.main_arg7)) (m ((c.tc : Thread Cert.KernelMemIdeal.nD Cert.KernelMemIdeal.τ).loc Cert.KernelMemIdeal.main_arg8)) (m ((c.tc : Thread Cert.KernelMemIdeal.nD Cert.KernelMemIdeal.τ).loc Cert.KernelMemIdeal.main_arg9)) (m ((c.tc : Thread Cert.KernelMemIdeal.nD Cert.KernelMemIdeal.τ).loc Cert.KernelMemIdeal.main_arg10)) (m ((c.tc : Thread Cert.KernelMemIdeal.nD Cert.KernelMemIdeal.τ).loc Cert.KernelMemIdeal.main_arg11)) (m ((c.tc : Thread Cert.KernelMemIdeal.nD Cert.KernelMemIdeal.τ).loc Cert.KernelMemIdeal.main_arg12)) (m ((c.tc : Thread Cert.KernelMemIdeal.nD Cert.KernelMemIdeal.τ).loc Cert.KernelMemIdeal.main_arg13)) (m ((c.tc : Thread Cert.KernelMemIdeal.nD Cert.KernelMemIdeal.τ).loc Cert.KernelMemIdeal.main_arg14))).2.2.2.2.2.2.2.2.1 = (fun _ => 1#1)
    ∧ (Cert.Pre_mem_finite.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1)) (m ((c.tc : Thread Cert.KernelMemIdeal.nD Cert.KernelMemIdeal.τ).loc Cert.KernelMemIdeal.main_arg2)) (m ((c.tc : Thread Cert.KernelMemIdeal.nD Cert.KernelMemIdeal.τ).loc Cert.KernelMemIdeal.main_arg3)) (m ((c.tc : Thread Cert.KernelMemIdeal.nD Cert.KernelMemIdeal.τ).loc Cert.KernelMemIdeal.main_arg4)) (m ((c.tc : Thread Cert.KernelMemIdeal.nD Cert.KernelMemIdeal.τ).loc Cert.KernelMemIdeal.main_arg5)) (m ((c.tc : Thread Cert.KernelMemIdeal.nD Cert.KernelMemIdeal.τ).loc Cert.KernelMemIdeal.main_arg6)) (m ((c.tc : Thread Cert.KernelMemIdeal.nD Cert.KernelMemIdeal.τ).loc Cert.KernelMemIdeal.main_arg7)) (m ((c.tc : Thread Cert.KernelMemIdeal.nD Cert.KernelMemIdeal.τ).loc Cert.KernelMemIdeal.main_arg8)) (m ((c.tc : Thread Cert.KernelMemIdeal.nD Cert.KernelMemIdeal.τ).loc Cert.KernelMemIdeal.main_arg9)) (m ((c.tc : Thread Cert.KernelMemIdeal.nD Cert.KernelMemIdeal.τ).loc Cert.KernelMemIdeal.main_arg10)) (m ((c.tc : Thread Cert.KernelMemIdeal.nD Cert.KernelMemIdeal.τ).loc Cert.KernelMemIdeal.main_arg11)) (m ((c.tc : Thread Cert.KernelMemIdeal.nD Cert.KernelMemIdeal.τ).loc Cert.KernelMemIdeal.main_arg12)) (m ((c.tc : Thread Cert.KernelMemIdeal.nD Cert.KernelMemIdeal.τ).loc Cert.KernelMemIdeal.main_arg13)) (m ((c.tc : Thread Cert.KernelMemIdeal.nD Cert.KernelMemIdeal.τ).loc Cert.KernelMemIdeal.main_arg14))).2.2.2.2.2.2.2.2.2.1 = (fun _ => 1#1)
    ∧ (Cert.Pre_mem_finite.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1)) (m ((c.tc : Thread Cert.KernelMemIdeal.nD Cert.KernelMemIdeal.τ).loc Cert.KernelMemIdeal.main_arg2)) (m ((c.tc : Thread Cert.KernelMemIdeal.nD Cert.KernelMemIdeal.τ).loc Cert.KernelMemIdeal.main_arg3)) (m ((c.tc : Thread Cert.KernelMemIdeal.nD Cert.KernelMemIdeal.τ).loc Cert.KernelMemIdeal.main_arg4)) (m ((c.tc : Thread Cert.KernelMemIdeal.nD Cert.KernelMemIdeal.τ).loc Cert.KernelMemIdeal.main_arg5)) (m ((c.tc : Thread Cert.KernelMemIdeal.nD Cert.KernelMemIdeal.τ).loc Cert.KernelMemIdeal.main_arg6)) (m ((c.tc : Thread Cert.KernelMemIdeal.nD Cert.KernelMemIdeal.τ).loc Cert.KernelMemIdeal.main_arg7)) (m ((c.tc : Thread Cert.KernelMemIdeal.nD Cert.KernelMemIdeal.τ).loc Cert.KernelMemIdeal.main_arg8)) (m ((c.tc : Thread Cert.KernelMemIdeal.nD Cert.KernelMemIdeal.τ).loc Cert.KernelMemIdeal.main_arg9)) (m ((c.tc : Thread Cert.KernelMemIdeal.nD Cert.KernelMemIdeal.τ).loc Cert.KernelMemIdeal.main_arg10)) (m ((c.tc : Thread Cert.KernelMemIdeal.nD Cert.KernelMemIdeal.τ).loc Cert.KernelMemIdeal.main_arg11)) (m ((c.tc : Thread Cert.KernelMemIdeal.nD Cert.KernelMemIdeal.τ).loc Cert.KernelMemIdeal.main_arg12)) (m ((c.tc : Thread Cert.KernelMemIdeal.nD Cert.KernelMemIdeal.τ).loc Cert.KernelMemIdeal.main_arg13)) (m ((c.tc : Thread Cert.KernelMemIdeal.nD Cert.KernelMemIdeal.τ).loc Cert.KernelMemIdeal.main_arg14))).2.2.2.2.2.2.2.2.2.2.1 = (fun _ => 1#1)
    ∧ (Cert.Pre_mem_finite.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1)) (m ((c.tc : Thread Cert.KernelMemIdeal.nD Cert.KernelMemIdeal.τ).loc Cert.KernelMemIdeal.main_arg2)) (m ((c.tc : Thread Cert.KernelMemIdeal.nD Cert.KernelMemIdeal.τ).loc Cert.KernelMemIdeal.main_arg3)) (m ((c.tc : Thread Cert.KernelMemIdeal.nD Cert.KernelMemIdeal.τ).loc Cert.KernelMemIdeal.main_arg4)) (m ((c.tc : Thread Cert.KernelMemIdeal.nD Cert.KernelMemIdeal.τ).loc Cert.KernelMemIdeal.main_arg5)) (m ((c.tc : Thread Cert.KernelMemIdeal.nD Cert.KernelMemIdeal.τ).loc Cert.KernelMemIdeal.main_arg6)) (m ((c.tc : Thread Cert.KernelMemIdeal.nD Cert.KernelMemIdeal.τ).loc Cert.KernelMemIdeal.main_arg7)) (m ((c.tc : Thread Cert.KernelMemIdeal.nD Cert.KernelMemIdeal.τ).loc Cert.KernelMemIdeal.main_arg8)) (m ((c.tc : Thread Cert.KernelMemIdeal.nD Cert.KernelMemIdeal.τ).loc Cert.KernelMemIdeal.main_arg9)) (m ((c.tc : Thread Cert.KernelMemIdeal.nD Cert.KernelMemIdeal.τ).loc Cert.KernelMemIdeal.main_arg10)) (m ((c.tc : Thread Cert.KernelMemIdeal.nD Cert.KernelMemIdeal.τ).loc Cert.KernelMemIdeal.main_arg11)) (m ((c.tc : Thread Cert.KernelMemIdeal.nD Cert.KernelMemIdeal.τ).loc Cert.KernelMemIdeal.main_arg12)) (m ((c.tc : Thread Cert.KernelMemIdeal.nD Cert.KernelMemIdeal.τ).loc Cert.KernelMemIdeal.main_arg13)) (m ((c.tc : Thread Cert.KernelMemIdeal.nD Cert.KernelMemIdeal.τ).loc Cert.KernelMemIdeal.main_arg14))).2.2.2.2.2.2.2.2.2.2.2.1 = (fun _ => 1#1)
    ∧ (Cert.Pre_mem_finite.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1)) (m ((c.tc : Thread Cert.KernelMemIdeal.nD Cert.KernelMemIdeal.τ).loc Cert.KernelMemIdeal.main_arg2)) (m ((c.tc : Thread Cert.KernelMemIdeal.nD Cert.KernelMemIdeal.τ).loc Cert.KernelMemIdeal.main_arg3)) (m ((c.tc : Thread Cert.KernelMemIdeal.nD Cert.KernelMemIdeal.τ).loc Cert.KernelMemIdeal.main_arg4)) (m ((c.tc : Thread Cert.KernelMemIdeal.nD Cert.KernelMemIdeal.τ).loc Cert.KernelMemIdeal.main_arg5)) (m ((c.tc : Thread Cert.KernelMemIdeal.nD Cert.KernelMemIdeal.τ).loc Cert.KernelMemIdeal.main_arg6)) (m ((c.tc : Thread Cert.KernelMemIdeal.nD Cert.KernelMemIdeal.τ).loc Cert.KernelMemIdeal.main_arg7)) (m ((c.tc : Thread Cert.KernelMemIdeal.nD Cert.KernelMemIdeal.τ).loc Cert.KernelMemIdeal.main_arg8)) (m ((c.tc : Thread Cert.KernelMemIdeal.nD Cert.KernelMemIdeal.τ).loc Cert.KernelMemIdeal.main_arg9)) (m ((c.tc : Thread Cert.KernelMemIdeal.nD Cert.KernelMemIdeal.τ).loc Cert.KernelMemIdeal.main_arg10)) (m ((c.tc : Thread Cert.KernelMemIdeal.nD Cert.KernelMemIdeal.τ).loc Cert.KernelMemIdeal.main_arg11)) (m ((c.tc : Thread Cert.KernelMemIdeal.nD Cert.KernelMemIdeal.τ).loc Cert.KernelMemIdeal.main_arg12)) (m ((c.tc : Thread Cert.KernelMemIdeal.nD Cert.KernelMemIdeal.τ).loc Cert.KernelMemIdeal.main_arg13)) (m ((c.tc : Thread Cert.KernelMemIdeal.nD Cert.KernelMemIdeal.τ).loc Cert.KernelMemIdeal.main_arg14))).2.2.2.2.2.2.2.2.2.2.2.2.1 = (fun _ => 1#1)
    ∧ (Cert.Pre_mem_finite.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1)) (m ((c.tc : Thread Cert.KernelMemIdeal.nD Cert.KernelMemIdeal.τ).loc Cert.KernelMemIdeal.main_arg2)) (m ((c.tc : Thread Cert.KernelMemIdeal.nD Cert.KernelMemIdeal.τ).loc Cert.KernelMemIdeal.main_arg3)) (m ((c.tc : Thread Cert.KernelMemIdeal.nD Cert.KernelMemIdeal.τ).loc Cert.KernelMemIdeal.main_arg4)) (m ((c.tc : Thread Cert.KernelMemIdeal.nD Cert.KernelMemIdeal.τ).loc Cert.KernelMemIdeal.main_arg5)) (m ((c.tc : Thread Cert.KernelMemIdeal.nD Cert.KernelMemIdeal.τ).loc Cert.KernelMemIdeal.main_arg6)) (m ((c.tc : Thread Cert.KernelMemIdeal.nD Cert.KernelMemIdeal.τ).loc Cert.KernelMemIdeal.main_arg7)) (m ((c.tc : Thread Cert.KernelMemIdeal.nD Cert.KernelMemIdeal.τ).loc Cert.KernelMemIdeal.main_arg8)) (m ((c.tc : Thread Cert.KernelMemIdeal.nD Cert.KernelMemIdeal.τ).loc Cert.KernelMemIdeal.main_arg9)) (m ((c.tc : Thread Cert.KernelMemIdeal.nD Cert.KernelMemIdeal.τ).loc Cert.KernelMemIdeal.main_arg10)) (m ((c.tc : Thread Cert.KernelMemIdeal.nD Cert.KernelMemIdeal.τ).loc Cert.KernelMemIdeal.main_arg11)) (m ((c.tc : Thread Cert.KernelMemIdeal.nD Cert.KernelMemIdeal.τ).loc Cert.KernelMemIdeal.main_arg12)) (m ((c.tc : Thread Cert.KernelMemIdeal.nD Cert.KernelMemIdeal.τ).loc Cert.KernelMemIdeal.main_arg13)) (m ((c.tc : Thread Cert.KernelMemIdeal.nD Cert.KernelMemIdeal.τ).loc Cert.KernelMemIdeal.main_arg14))).2.2.2.2.2.2.2.2.2.2.2.2.2.1 = (fun _ => 1#1)
    ∧ (Cert.Pre_mem_finite.fn (F := Ideal) (m ((c.tc : Thread Cert.KernelMemIdeal.nD Cert.KernelMemIdeal.τ).loc Cert.KernelMemIdeal.main_arg0)) (m ((c.tc : Thread Cert.KernelMemIdeal.nD Cert.KernelMemIdeal.τ).loc Cert.KernelMemIdeal.main_arg1)) (m ((c.tc : Thread Cert.KernelMemIdeal.nD Cert.KernelMemIdeal.τ).loc Cert.KernelMemIdeal.main_arg2)) (m ((c.tc : Thread Cert.KernelMemIdeal.nD Cert.KernelMemIdeal.τ).loc Cert.KernelMemIdeal.main_arg3)) (m ((c.tc : Thread Cert.KernelMemIdeal.nD Cert.KernelMemIdeal.τ).loc Cert.KernelMemIdeal.main_arg4)) (m ((c.tc : Thread Cert.KernelMemIdeal.nD Cert.KernelMemIdeal.τ).loc Cert.KernelMemIdeal.main_arg5)) (m ((c.tc : Thread Cert.KernelMemIdeal.nD Cert.KernelMemIdeal.τ).loc Cert.KernelMemIdeal.main_arg6)) (m ((c.tc : Thread Cert.KernelMemIdeal.nD Cert.KernelMemIdeal.τ).loc Cert.KernelMemIdeal.main_arg7)) (m ((c.tc : Thread Cert.KernelMemIdeal.nD Cert.KernelMemIdeal.τ).loc Cert.KernelMemIdeal.main_arg8)) (m ((c.tc : Thread Cert.KernelMemIdeal.nD Cert.KernelMemIdeal.τ).loc Cert.KernelMemIdeal.main_arg9)) (m ((c.tc : Thread Cert.KernelMemIdeal.nD Cert.KernelMemIdeal.τ).loc Cert.KernelMemIdeal.main_arg10)) (m ((c.tc : Thread Cert.KernelMemIdeal.nD Cert.KernelMemIdeal.τ).loc Cert.KernelMemIdeal.main_arg11)) (m ((c.tc : Thread Cert.KernelMemIdeal.nD Cert.KernelMemIdeal.τ).loc Cert.KernelMemIdeal.main_arg12)) (m ((c.tc : Thread Cert.KernelMemIdeal.nD Cert.KernelMemIdeal.τ).loc Cert.KernelMemIdeal.main_arg13)) (m ((c.tc : Thread Cert.KernelMemIdeal.nD Cert.KernelMemIdeal.τ).loc Cert.KernelMemIdeal.main_arg14))).2.2.2.2.2.2.2.2.2.2.2.2.2.2 = (fun _ => 1#1)

def Pre_ReferenceMemIdeal (m : (ℓ : Loc Cert.ReferenceMemIdeal.nD Cert.ReferenceMemIdeal.τ Cert.ReferenceMemIdeal.sig) → Buf (Elt Ideal) ℓ) : Prop :=
  True

def Pre_ReferenceMemIdeal_mem_finite [hPre_mem_finite : Cert.Pre_mem_finite.Facts] (m : (ℓ : Loc Cert.ReferenceMemIdeal.nD Cert.ReferenceMemIdeal.τ Cert.ReferenceMemIdeal.sig) → Buf (Elt Ideal) ℓ) : Prop :=
  ∀ c : Dev Cert.ReferenceMemIdeal.nD,
    (Cert.Pre_mem_finite.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1)) (m ((c.tc : Thread Cert.ReferenceMemIdeal.nD Cert.ReferenceMemIdeal.τ).loc Cert.ReferenceMemIdeal.main_arg2)) (m ((c.tc : Thread Cert.ReferenceMemIdeal.nD Cert.ReferenceMemIdeal.τ).loc Cert.ReferenceMemIdeal.main_arg3)) (m ((c.tc : Thread Cert.ReferenceMemIdeal.nD Cert.ReferenceMemIdeal.τ).loc Cert.ReferenceMemIdeal.main_arg4)) (m ((c.tc : Thread Cert.ReferenceMemIdeal.nD Cert.ReferenceMemIdeal.τ).loc Cert.ReferenceMemIdeal.main_arg5)) (m ((c.tc : Thread Cert.ReferenceMemIdeal.nD Cert.ReferenceMemIdeal.τ).loc Cert.ReferenceMemIdeal.main_arg6)) (m ((c.tc : Thread Cert.ReferenceMemIdeal.nD Cert.ReferenceMemIdeal.τ).loc Cert.ReferenceMemIdeal.main_arg7)) (m ((c.tc : Thread Cert.ReferenceMemIdeal.nD Cert.ReferenceMemIdeal.τ).loc Cert.ReferenceMemIdeal.main_arg8)) (m ((c.tc : Thread Cert.ReferenceMemIdeal.nD Cert.ReferenceMemIdeal.τ).loc Cert.ReferenceMemIdeal.main_arg9)) (m ((c.tc : Thread Cert.ReferenceMemIdeal.nD Cert.ReferenceMemIdeal.τ).loc Cert.ReferenceMemIdeal.main_arg10)) (m ((c.tc : Thread Cert.ReferenceMemIdeal.nD Cert.ReferenceMemIdeal.τ).loc Cert.ReferenceMemIdeal.main_arg11)) (m ((c.tc : Thread Cert.ReferenceMemIdeal.nD Cert.ReferenceMemIdeal.τ).loc Cert.ReferenceMemIdeal.main_arg12)) (m ((c.tc : Thread Cert.ReferenceMemIdeal.nD Cert.ReferenceMemIdeal.τ).loc Cert.ReferenceMemIdeal.main_arg13)) (m ((c.tc : Thread Cert.ReferenceMemIdeal.nD Cert.ReferenceMemIdeal.τ).loc Cert.ReferenceMemIdeal.main_arg14))).1 = (fun _ => 1#1)
    ∧ (Cert.Pre_mem_finite.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1)) (m ((c.tc : Thread Cert.ReferenceMemIdeal.nD Cert.ReferenceMemIdeal.τ).loc Cert.ReferenceMemIdeal.main_arg2)) (m ((c.tc : Thread Cert.ReferenceMemIdeal.nD Cert.ReferenceMemIdeal.τ).loc Cert.ReferenceMemIdeal.main_arg3)) (m ((c.tc : Thread Cert.ReferenceMemIdeal.nD Cert.ReferenceMemIdeal.τ).loc Cert.ReferenceMemIdeal.main_arg4)) (m ((c.tc : Thread Cert.ReferenceMemIdeal.nD Cert.ReferenceMemIdeal.τ).loc Cert.ReferenceMemIdeal.main_arg5)) (m ((c.tc : Thread Cert.ReferenceMemIdeal.nD Cert.ReferenceMemIdeal.τ).loc Cert.ReferenceMemIdeal.main_arg6)) (m ((c.tc : Thread Cert.ReferenceMemIdeal.nD Cert.ReferenceMemIdeal.τ).loc Cert.ReferenceMemIdeal.main_arg7)) (m ((c.tc : Thread Cert.ReferenceMemIdeal.nD Cert.ReferenceMemIdeal.τ).loc Cert.ReferenceMemIdeal.main_arg8)) (m ((c.tc : Thread Cert.ReferenceMemIdeal.nD Cert.ReferenceMemIdeal.τ).loc Cert.ReferenceMemIdeal.main_arg9)) (m ((c.tc : Thread Cert.ReferenceMemIdeal.nD Cert.ReferenceMemIdeal.τ).loc Cert.ReferenceMemIdeal.main_arg10)) (m ((c.tc : Thread Cert.ReferenceMemIdeal.nD Cert.ReferenceMemIdeal.τ).loc Cert.ReferenceMemIdeal.main_arg11)) (m ((c.tc : Thread Cert.ReferenceMemIdeal.nD Cert.ReferenceMemIdeal.τ).loc Cert.ReferenceMemIdeal.main_arg12)) (m ((c.tc : Thread Cert.ReferenceMemIdeal.nD Cert.ReferenceMemIdeal.τ).loc Cert.ReferenceMemIdeal.main_arg13)) (m ((c.tc : Thread Cert.ReferenceMemIdeal.nD Cert.ReferenceMemIdeal.τ).loc Cert.ReferenceMemIdeal.main_arg14))).2.1 = (fun _ => 1#1)
    ∧ (Cert.Pre_mem_finite.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1)) (m ((c.tc : Thread Cert.ReferenceMemIdeal.nD Cert.ReferenceMemIdeal.τ).loc Cert.ReferenceMemIdeal.main_arg2)) (m ((c.tc : Thread Cert.ReferenceMemIdeal.nD Cert.ReferenceMemIdeal.τ).loc Cert.ReferenceMemIdeal.main_arg3)) (m ((c.tc : Thread Cert.ReferenceMemIdeal.nD Cert.ReferenceMemIdeal.τ).loc Cert.ReferenceMemIdeal.main_arg4)) (m ((c.tc : Thread Cert.ReferenceMemIdeal.nD Cert.ReferenceMemIdeal.τ).loc Cert.ReferenceMemIdeal.main_arg5)) (m ((c.tc : Thread Cert.ReferenceMemIdeal.nD Cert.ReferenceMemIdeal.τ).loc Cert.ReferenceMemIdeal.main_arg6)) (m ((c.tc : Thread Cert.ReferenceMemIdeal.nD Cert.ReferenceMemIdeal.τ).loc Cert.ReferenceMemIdeal.main_arg7)) (m ((c.tc : Thread Cert.ReferenceMemIdeal.nD Cert.ReferenceMemIdeal.τ).loc Cert.ReferenceMemIdeal.main_arg8)) (m ((c.tc : Thread Cert.ReferenceMemIdeal.nD Cert.ReferenceMemIdeal.τ).loc Cert.ReferenceMemIdeal.main_arg9)) (m ((c.tc : Thread Cert.ReferenceMemIdeal.nD Cert.ReferenceMemIdeal.τ).loc Cert.ReferenceMemIdeal.main_arg10)) (m ((c.tc : Thread Cert.ReferenceMemIdeal.nD Cert.ReferenceMemIdeal.τ).loc Cert.ReferenceMemIdeal.main_arg11)) (m ((c.tc : Thread Cert.ReferenceMemIdeal.nD Cert.ReferenceMemIdeal.τ).loc Cert.ReferenceMemIdeal.main_arg12)) (m ((c.tc : Thread Cert.ReferenceMemIdeal.nD Cert.ReferenceMemIdeal.τ).loc Cert.ReferenceMemIdeal.main_arg13)) (m ((c.tc : Thread Cert.ReferenceMemIdeal.nD Cert.ReferenceMemIdeal.τ).loc Cert.ReferenceMemIdeal.main_arg14))).2.2.1 = (fun _ => 1#1)
    ∧ (Cert.Pre_mem_finite.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1)) (m ((c.tc : Thread Cert.ReferenceMemIdeal.nD Cert.ReferenceMemIdeal.τ).loc Cert.ReferenceMemIdeal.main_arg2)) (m ((c.tc : Thread Cert.ReferenceMemIdeal.nD Cert.ReferenceMemIdeal.τ).loc Cert.ReferenceMemIdeal.main_arg3)) (m ((c.tc : Thread Cert.ReferenceMemIdeal.nD Cert.ReferenceMemIdeal.τ).loc Cert.ReferenceMemIdeal.main_arg4)) (m ((c.tc : Thread Cert.ReferenceMemIdeal.nD Cert.ReferenceMemIdeal.τ).loc Cert.ReferenceMemIdeal.main_arg5)) (m ((c.tc : Thread Cert.ReferenceMemIdeal.nD Cert.ReferenceMemIdeal.τ).loc Cert.ReferenceMemIdeal.main_arg6)) (m ((c.tc : Thread Cert.ReferenceMemIdeal.nD Cert.ReferenceMemIdeal.τ).loc Cert.ReferenceMemIdeal.main_arg7)) (m ((c.tc : Thread Cert.ReferenceMemIdeal.nD Cert.ReferenceMemIdeal.τ).loc Cert.ReferenceMemIdeal.main_arg8)) (m ((c.tc : Thread Cert.ReferenceMemIdeal.nD Cert.ReferenceMemIdeal.τ).loc Cert.ReferenceMemIdeal.main_arg9)) (m ((c.tc : Thread Cert.ReferenceMemIdeal.nD Cert.ReferenceMemIdeal.τ).loc Cert.ReferenceMemIdeal.main_arg10)) (m ((c.tc : Thread Cert.ReferenceMemIdeal.nD Cert.ReferenceMemIdeal.τ).loc Cert.ReferenceMemIdeal.main_arg11)) (m ((c.tc : Thread Cert.ReferenceMemIdeal.nD Cert.ReferenceMemIdeal.τ).loc Cert.ReferenceMemIdeal.main_arg12)) (m ((c.tc : Thread Cert.ReferenceMemIdeal.nD Cert.ReferenceMemIdeal.τ).loc Cert.ReferenceMemIdeal.main_arg13)) (m ((c.tc : Thread Cert.ReferenceMemIdeal.nD Cert.ReferenceMemIdeal.τ).loc Cert.ReferenceMemIdeal.main_arg14))).2.2.2.1 = (fun _ => 1#1)
    ∧ (Cert.Pre_mem_finite.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1)) (m ((c.tc : Thread Cert.ReferenceMemIdeal.nD Cert.ReferenceMemIdeal.τ).loc Cert.ReferenceMemIdeal.main_arg2)) (m ((c.tc : Thread Cert.ReferenceMemIdeal.nD Cert.ReferenceMemIdeal.τ).loc Cert.ReferenceMemIdeal.main_arg3)) (m ((c.tc : Thread Cert.ReferenceMemIdeal.nD Cert.ReferenceMemIdeal.τ).loc Cert.ReferenceMemIdeal.main_arg4)) (m ((c.tc : Thread Cert.ReferenceMemIdeal.nD Cert.ReferenceMemIdeal.τ).loc Cert.ReferenceMemIdeal.main_arg5)) (m ((c.tc : Thread Cert.ReferenceMemIdeal.nD Cert.ReferenceMemIdeal.τ).loc Cert.ReferenceMemIdeal.main_arg6)) (m ((c.tc : Thread Cert.ReferenceMemIdeal.nD Cert.ReferenceMemIdeal.τ).loc Cert.ReferenceMemIdeal.main_arg7)) (m ((c.tc : Thread Cert.ReferenceMemIdeal.nD Cert.ReferenceMemIdeal.τ).loc Cert.ReferenceMemIdeal.main_arg8)) (m ((c.tc : Thread Cert.ReferenceMemIdeal.nD Cert.ReferenceMemIdeal.τ).loc Cert.ReferenceMemIdeal.main_arg9)) (m ((c.tc : Thread Cert.ReferenceMemIdeal.nD Cert.ReferenceMemIdeal.τ).loc Cert.ReferenceMemIdeal.main_arg10)) (m ((c.tc : Thread Cert.ReferenceMemIdeal.nD Cert.ReferenceMemIdeal.τ).loc Cert.ReferenceMemIdeal.main_arg11)) (m ((c.tc : Thread Cert.ReferenceMemIdeal.nD Cert.ReferenceMemIdeal.τ).loc Cert.ReferenceMemIdeal.main_arg12)) (m ((c.tc : Thread Cert.ReferenceMemIdeal.nD Cert.ReferenceMemIdeal.τ).loc Cert.ReferenceMemIdeal.main_arg13)) (m ((c.tc : Thread Cert.ReferenceMemIdeal.nD Cert.ReferenceMemIdeal.τ).loc Cert.ReferenceMemIdeal.main_arg14))).2.2.2.2.1 = (fun _ => 1#1)
    ∧ (Cert.Pre_mem_finite.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1)) (m ((c.tc : Thread Cert.ReferenceMemIdeal.nD Cert.ReferenceMemIdeal.τ).loc Cert.ReferenceMemIdeal.main_arg2)) (m ((c.tc : Thread Cert.ReferenceMemIdeal.nD Cert.ReferenceMemIdeal.τ).loc Cert.ReferenceMemIdeal.main_arg3)) (m ((c.tc : Thread Cert.ReferenceMemIdeal.nD Cert.ReferenceMemIdeal.τ).loc Cert.ReferenceMemIdeal.main_arg4)) (m ((c.tc : Thread Cert.ReferenceMemIdeal.nD Cert.ReferenceMemIdeal.τ).loc Cert.ReferenceMemIdeal.main_arg5)) (m ((c.tc : Thread Cert.ReferenceMemIdeal.nD Cert.ReferenceMemIdeal.τ).loc Cert.ReferenceMemIdeal.main_arg6)) (m ((c.tc : Thread Cert.ReferenceMemIdeal.nD Cert.ReferenceMemIdeal.τ).loc Cert.ReferenceMemIdeal.main_arg7)) (m ((c.tc : Thread Cert.ReferenceMemIdeal.nD Cert.ReferenceMemIdeal.τ).loc Cert.ReferenceMemIdeal.main_arg8)) (m ((c.tc : Thread Cert.ReferenceMemIdeal.nD Cert.ReferenceMemIdeal.τ).loc Cert.ReferenceMemIdeal.main_arg9)) (m ((c.tc : Thread Cert.ReferenceMemIdeal.nD Cert.ReferenceMemIdeal.τ).loc Cert.ReferenceMemIdeal.main_arg10)) (m ((c.tc : Thread Cert.ReferenceMemIdeal.nD Cert.ReferenceMemIdeal.τ).loc Cert.ReferenceMemIdeal.main_arg11)) (m ((c.tc : Thread Cert.ReferenceMemIdeal.nD Cert.ReferenceMemIdeal.τ).loc Cert.ReferenceMemIdeal.main_arg12)) (m ((c.tc : Thread Cert.ReferenceMemIdeal.nD Cert.ReferenceMemIdeal.τ).loc Cert.ReferenceMemIdeal.main_arg13)) (m ((c.tc : Thread Cert.ReferenceMemIdeal.nD Cert.ReferenceMemIdeal.τ).loc Cert.ReferenceMemIdeal.main_arg14))).2.2.2.2.2.1 = (fun _ => 1#1)
    ∧ (Cert.Pre_mem_finite.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1)) (m ((c.tc : Thread Cert.ReferenceMemIdeal.nD Cert.ReferenceMemIdeal.τ).loc Cert.ReferenceMemIdeal.main_arg2)) (m ((c.tc : Thread Cert.ReferenceMemIdeal.nD Cert.ReferenceMemIdeal.τ).loc Cert.ReferenceMemIdeal.main_arg3)) (m ((c.tc : Thread Cert.ReferenceMemIdeal.nD Cert.ReferenceMemIdeal.τ).loc Cert.ReferenceMemIdeal.main_arg4)) (m ((c.tc : Thread Cert.ReferenceMemIdeal.nD Cert.ReferenceMemIdeal.τ).loc Cert.ReferenceMemIdeal.main_arg5)) (m ((c.tc : Thread Cert.ReferenceMemIdeal.nD Cert.ReferenceMemIdeal.τ).loc Cert.ReferenceMemIdeal.main_arg6)) (m ((c.tc : Thread Cert.ReferenceMemIdeal.nD Cert.ReferenceMemIdeal.τ).loc Cert.ReferenceMemIdeal.main_arg7)) (m ((c.tc : Thread Cert.ReferenceMemIdeal.nD Cert.ReferenceMemIdeal.τ).loc Cert.ReferenceMemIdeal.main_arg8)) (m ((c.tc : Thread Cert.ReferenceMemIdeal.nD Cert.ReferenceMemIdeal.τ).loc Cert.ReferenceMemIdeal.main_arg9)) (m ((c.tc : Thread Cert.ReferenceMemIdeal.nD Cert.ReferenceMemIdeal.τ).loc Cert.ReferenceMemIdeal.main_arg10)) (m ((c.tc : Thread Cert.ReferenceMemIdeal.nD Cert.ReferenceMemIdeal.τ).loc Cert.ReferenceMemIdeal.main_arg11)) (m ((c.tc : Thread Cert.ReferenceMemIdeal.nD Cert.ReferenceMemIdeal.τ).loc Cert.ReferenceMemIdeal.main_arg12)) (m ((c.tc : Thread Cert.ReferenceMemIdeal.nD Cert.ReferenceMemIdeal.τ).loc Cert.ReferenceMemIdeal.main_arg13)) (m ((c.tc : Thread Cert.ReferenceMemIdeal.nD Cert.ReferenceMemIdeal.τ).loc Cert.ReferenceMemIdeal.main_arg14))).2.2.2.2.2.2.1 = (fun _ => 1#1)
    ∧ (Cert.Pre_mem_finite.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1)) (m ((c.tc : Thread Cert.ReferenceMemIdeal.nD Cert.ReferenceMemIdeal.τ).loc Cert.ReferenceMemIdeal.main_arg2)) (m ((c.tc : Thread Cert.ReferenceMemIdeal.nD Cert.ReferenceMemIdeal.τ).loc Cert.ReferenceMemIdeal.main_arg3)) (m ((c.tc : Thread Cert.ReferenceMemIdeal.nD Cert.ReferenceMemIdeal.τ).loc Cert.ReferenceMemIdeal.main_arg4)) (m ((c.tc : Thread Cert.ReferenceMemIdeal.nD Cert.ReferenceMemIdeal.τ).loc Cert.ReferenceMemIdeal.main_arg5)) (m ((c.tc : Thread Cert.ReferenceMemIdeal.nD Cert.ReferenceMemIdeal.τ).loc Cert.ReferenceMemIdeal.main_arg6)) (m ((c.tc : Thread Cert.ReferenceMemIdeal.nD Cert.ReferenceMemIdeal.τ).loc Cert.ReferenceMemIdeal.main_arg7)) (m ((c.tc : Thread Cert.ReferenceMemIdeal.nD Cert.ReferenceMemIdeal.τ).loc Cert.ReferenceMemIdeal.main_arg8)) (m ((c.tc : Thread Cert.ReferenceMemIdeal.nD Cert.ReferenceMemIdeal.τ).loc Cert.ReferenceMemIdeal.main_arg9)) (m ((c.tc : Thread Cert.ReferenceMemIdeal.nD Cert.ReferenceMemIdeal.τ).loc Cert.ReferenceMemIdeal.main_arg10)) (m ((c.tc : Thread Cert.ReferenceMemIdeal.nD Cert.ReferenceMemIdeal.τ).loc Cert.ReferenceMemIdeal.main_arg11)) (m ((c.tc : Thread Cert.ReferenceMemIdeal.nD Cert.ReferenceMemIdeal.τ).loc Cert.ReferenceMemIdeal.main_arg12)) (m ((c.tc : Thread Cert.ReferenceMemIdeal.nD Cert.ReferenceMemIdeal.τ).loc Cert.ReferenceMemIdeal.main_arg13)) (m ((c.tc : Thread Cert.ReferenceMemIdeal.nD Cert.ReferenceMemIdeal.τ).loc Cert.ReferenceMemIdeal.main_arg14))).2.2.2.2.2.2.2.1 = (fun _ => 1#1)
    ∧ (Cert.Pre_mem_finite.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1)) (m ((c.tc : Thread Cert.ReferenceMemIdeal.nD Cert.ReferenceMemIdeal.τ).loc Cert.ReferenceMemIdeal.main_arg2)) (m ((c.tc : Thread Cert.ReferenceMemIdeal.nD Cert.ReferenceMemIdeal.τ).loc Cert.ReferenceMemIdeal.main_arg3)) (m ((c.tc : Thread Cert.ReferenceMemIdeal.nD Cert.ReferenceMemIdeal.τ).loc Cert.ReferenceMemIdeal.main_arg4)) (m ((c.tc : Thread Cert.ReferenceMemIdeal.nD Cert.ReferenceMemIdeal.τ).loc Cert.ReferenceMemIdeal.main_arg5)) (m ((c.tc : Thread Cert.ReferenceMemIdeal.nD Cert.ReferenceMemIdeal.τ).loc Cert.ReferenceMemIdeal.main_arg6)) (m ((c.tc : Thread Cert.ReferenceMemIdeal.nD Cert.ReferenceMemIdeal.τ).loc Cert.ReferenceMemIdeal.main_arg7)) (m ((c.tc : Thread Cert.ReferenceMemIdeal.nD Cert.ReferenceMemIdeal.τ).loc Cert.ReferenceMemIdeal.main_arg8)) (m ((c.tc : Thread Cert.ReferenceMemIdeal.nD Cert.ReferenceMemIdeal.τ).loc Cert.ReferenceMemIdeal.main_arg9)) (m ((c.tc : Thread Cert.ReferenceMemIdeal.nD Cert.ReferenceMemIdeal.τ).loc Cert.ReferenceMemIdeal.main_arg10)) (m ((c.tc : Thread Cert.ReferenceMemIdeal.nD Cert.ReferenceMemIdeal.τ).loc Cert.ReferenceMemIdeal.main_arg11)) (m ((c.tc : Thread Cert.ReferenceMemIdeal.nD Cert.ReferenceMemIdeal.τ).loc Cert.ReferenceMemIdeal.main_arg12)) (m ((c.tc : Thread Cert.ReferenceMemIdeal.nD Cert.ReferenceMemIdeal.τ).loc Cert.ReferenceMemIdeal.main_arg13)) (m ((c.tc : Thread Cert.ReferenceMemIdeal.nD Cert.ReferenceMemIdeal.τ).loc Cert.ReferenceMemIdeal.main_arg14))).2.2.2.2.2.2.2.2.1 = (fun _ => 1#1)
    ∧ (Cert.Pre_mem_finite.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1)) (m ((c.tc : Thread Cert.ReferenceMemIdeal.nD Cert.ReferenceMemIdeal.τ).loc Cert.ReferenceMemIdeal.main_arg2)) (m ((c.tc : Thread Cert.ReferenceMemIdeal.nD Cert.ReferenceMemIdeal.τ).loc Cert.ReferenceMemIdeal.main_arg3)) (m ((c.tc : Thread Cert.ReferenceMemIdeal.nD Cert.ReferenceMemIdeal.τ).loc Cert.ReferenceMemIdeal.main_arg4)) (m ((c.tc : Thread Cert.ReferenceMemIdeal.nD Cert.ReferenceMemIdeal.τ).loc Cert.ReferenceMemIdeal.main_arg5)) (m ((c.tc : Thread Cert.ReferenceMemIdeal.nD Cert.ReferenceMemIdeal.τ).loc Cert.ReferenceMemIdeal.main_arg6)) (m ((c.tc : Thread Cert.ReferenceMemIdeal.nD Cert.ReferenceMemIdeal.τ).loc Cert.ReferenceMemIdeal.main_arg7)) (m ((c.tc : Thread Cert.ReferenceMemIdeal.nD Cert.ReferenceMemIdeal.τ).loc Cert.ReferenceMemIdeal.main_arg8)) (m ((c.tc : Thread Cert.ReferenceMemIdeal.nD Cert.ReferenceMemIdeal.τ).loc Cert.ReferenceMemIdeal.main_arg9)) (m ((c.tc : Thread Cert.ReferenceMemIdeal.nD Cert.ReferenceMemIdeal.τ).loc Cert.ReferenceMemIdeal.main_arg10)) (m ((c.tc : Thread Cert.ReferenceMemIdeal.nD Cert.ReferenceMemIdeal.τ).loc Cert.ReferenceMemIdeal.main_arg11)) (m ((c.tc : Thread Cert.ReferenceMemIdeal.nD Cert.ReferenceMemIdeal.τ).loc Cert.ReferenceMemIdeal.main_arg12)) (m ((c.tc : Thread Cert.ReferenceMemIdeal.nD Cert.ReferenceMemIdeal.τ).loc Cert.ReferenceMemIdeal.main_arg13)) (m ((c.tc : Thread Cert.ReferenceMemIdeal.nD Cert.ReferenceMemIdeal.τ).loc Cert.ReferenceMemIdeal.main_arg14))).2.2.2.2.2.2.2.2.2.1 = (fun _ => 1#1)
    ∧ (Cert.Pre_mem_finite.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1)) (m ((c.tc : Thread Cert.ReferenceMemIdeal.nD Cert.ReferenceMemIdeal.τ).loc Cert.ReferenceMemIdeal.main_arg2)) (m ((c.tc : Thread Cert.ReferenceMemIdeal.nD Cert.ReferenceMemIdeal.τ).loc Cert.ReferenceMemIdeal.main_arg3)) (m ((c.tc : Thread Cert.ReferenceMemIdeal.nD Cert.ReferenceMemIdeal.τ).loc Cert.ReferenceMemIdeal.main_arg4)) (m ((c.tc : Thread Cert.ReferenceMemIdeal.nD Cert.ReferenceMemIdeal.τ).loc Cert.ReferenceMemIdeal.main_arg5)) (m ((c.tc : Thread Cert.ReferenceMemIdeal.nD Cert.ReferenceMemIdeal.τ).loc Cert.ReferenceMemIdeal.main_arg6)) (m ((c.tc : Thread Cert.ReferenceMemIdeal.nD Cert.ReferenceMemIdeal.τ).loc Cert.ReferenceMemIdeal.main_arg7)) (m ((c.tc : Thread Cert.ReferenceMemIdeal.nD Cert.ReferenceMemIdeal.τ).loc Cert.ReferenceMemIdeal.main_arg8)) (m ((c.tc : Thread Cert.ReferenceMemIdeal.nD Cert.ReferenceMemIdeal.τ).loc Cert.ReferenceMemIdeal.main_arg9)) (m ((c.tc : Thread Cert.ReferenceMemIdeal.nD Cert.ReferenceMemIdeal.τ).loc Cert.ReferenceMemIdeal.main_arg10)) (m ((c.tc : Thread Cert.ReferenceMemIdeal.nD Cert.ReferenceMemIdeal.τ).loc Cert.ReferenceMemIdeal.main_arg11)) (m ((c.tc : Thread Cert.ReferenceMemIdeal.nD Cert.ReferenceMemIdeal.τ).loc Cert.ReferenceMemIdeal.main_arg12)) (m ((c.tc : Thread Cert.ReferenceMemIdeal.nD Cert.ReferenceMemIdeal.τ).loc Cert.ReferenceMemIdeal.main_arg13)) (m ((c.tc : Thread Cert.ReferenceMemIdeal.nD Cert.ReferenceMemIdeal.τ).loc Cert.ReferenceMemIdeal.main_arg14))).2.2.2.2.2.2.2.2.2.2.1 = (fun _ => 1#1)
    ∧ (Cert.Pre_mem_finite.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1)) (m ((c.tc : Thread Cert.ReferenceMemIdeal.nD Cert.ReferenceMemIdeal.τ).loc Cert.ReferenceMemIdeal.main_arg2)) (m ((c.tc : Thread Cert.ReferenceMemIdeal.nD Cert.ReferenceMemIdeal.τ).loc Cert.ReferenceMemIdeal.main_arg3)) (m ((c.tc : Thread Cert.ReferenceMemIdeal.nD Cert.ReferenceMemIdeal.τ).loc Cert.ReferenceMemIdeal.main_arg4)) (m ((c.tc : Thread Cert.ReferenceMemIdeal.nD Cert.ReferenceMemIdeal.τ).loc Cert.ReferenceMemIdeal.main_arg5)) (m ((c.tc : Thread Cert.ReferenceMemIdeal.nD Cert.ReferenceMemIdeal.τ).loc Cert.ReferenceMemIdeal.main_arg6)) (m ((c.tc : Thread Cert.ReferenceMemIdeal.nD Cert.ReferenceMemIdeal.τ).loc Cert.ReferenceMemIdeal.main_arg7)) (m ((c.tc : Thread Cert.ReferenceMemIdeal.nD Cert.ReferenceMemIdeal.τ).loc Cert.ReferenceMemIdeal.main_arg8)) (m ((c.tc : Thread Cert.ReferenceMemIdeal.nD Cert.ReferenceMemIdeal.τ).loc Cert.ReferenceMemIdeal.main_arg9)) (m ((c.tc : Thread Cert.ReferenceMemIdeal.nD Cert.ReferenceMemIdeal.τ).loc Cert.ReferenceMemIdeal.main_arg10)) (m ((c.tc : Thread Cert.ReferenceMemIdeal.nD Cert.ReferenceMemIdeal.τ).loc Cert.ReferenceMemIdeal.main_arg11)) (m ((c.tc : Thread Cert.ReferenceMemIdeal.nD Cert.ReferenceMemIdeal.τ).loc Cert.ReferenceMemIdeal.main_arg12)) (m ((c.tc : Thread Cert.ReferenceMemIdeal.nD Cert.ReferenceMemIdeal.τ).loc Cert.ReferenceMemIdeal.main_arg13)) (m ((c.tc : Thread Cert.ReferenceMemIdeal.nD Cert.ReferenceMemIdeal.τ).loc Cert.ReferenceMemIdeal.main_arg14))).2.2.2.2.2.2.2.2.2.2.2.1 = (fun _ => 1#1)
    ∧ (Cert.Pre_mem_finite.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1)) (m ((c.tc : Thread Cert.ReferenceMemIdeal.nD Cert.ReferenceMemIdeal.τ).loc Cert.ReferenceMemIdeal.main_arg2)) (m ((c.tc : Thread Cert.ReferenceMemIdeal.nD Cert.ReferenceMemIdeal.τ).loc Cert.ReferenceMemIdeal.main_arg3)) (m ((c.tc : Thread Cert.ReferenceMemIdeal.nD Cert.ReferenceMemIdeal.τ).loc Cert.ReferenceMemIdeal.main_arg4)) (m ((c.tc : Thread Cert.ReferenceMemIdeal.nD Cert.ReferenceMemIdeal.τ).loc Cert.ReferenceMemIdeal.main_arg5)) (m ((c.tc : Thread Cert.ReferenceMemIdeal.nD Cert.ReferenceMemIdeal.τ).loc Cert.ReferenceMemIdeal.main_arg6)) (m ((c.tc : Thread Cert.ReferenceMemIdeal.nD Cert.ReferenceMemIdeal.τ).loc Cert.ReferenceMemIdeal.main_arg7)) (m ((c.tc : Thread Cert.ReferenceMemIdeal.nD Cert.ReferenceMemIdeal.τ).loc Cert.ReferenceMemIdeal.main_arg8)) (m ((c.tc : Thread Cert.ReferenceMemIdeal.nD Cert.ReferenceMemIdeal.τ).loc Cert.ReferenceMemIdeal.main_arg9)) (m ((c.tc : Thread Cert.ReferenceMemIdeal.nD Cert.ReferenceMemIdeal.τ).loc Cert.ReferenceMemIdeal.main_arg10)) (m ((c.tc : Thread Cert.ReferenceMemIdeal.nD Cert.ReferenceMemIdeal.τ).loc Cert.ReferenceMemIdeal.main_arg11)) (m ((c.tc : Thread Cert.ReferenceMemIdeal.nD Cert.ReferenceMemIdeal.τ).loc Cert.ReferenceMemIdeal.main_arg12)) (m ((c.tc : Thread Cert.ReferenceMemIdeal.nD Cert.ReferenceMemIdeal.τ).loc Cert.ReferenceMemIdeal.main_arg13)) (m ((c.tc : Thread Cert.ReferenceMemIdeal.nD Cert.ReferenceMemIdeal.τ).loc Cert.ReferenceMemIdeal.main_arg14))).2.2.2.2.2.2.2.2.2.2.2.2.1 = (fun _ => 1#1)
    ∧ (Cert.Pre_mem_finite.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1)) (m ((c.tc : Thread Cert.ReferenceMemIdeal.nD Cert.ReferenceMemIdeal.τ).loc Cert.ReferenceMemIdeal.main_arg2)) (m ((c.tc : Thread Cert.ReferenceMemIdeal.nD Cert.ReferenceMemIdeal.τ).loc Cert.ReferenceMemIdeal.main_arg3)) (m ((c.tc : Thread Cert.ReferenceMemIdeal.nD Cert.ReferenceMemIdeal.τ).loc Cert.ReferenceMemIdeal.main_arg4)) (m ((c.tc : Thread Cert.ReferenceMemIdeal.nD Cert.ReferenceMemIdeal.τ).loc Cert.ReferenceMemIdeal.main_arg5)) (m ((c.tc : Thread Cert.ReferenceMemIdeal.nD Cert.ReferenceMemIdeal.τ).loc Cert.ReferenceMemIdeal.main_arg6)) (m ((c.tc : Thread Cert.ReferenceMemIdeal.nD Cert.ReferenceMemIdeal.τ).loc Cert.ReferenceMemIdeal.main_arg7)) (m ((c.tc : Thread Cert.ReferenceMemIdeal.nD Cert.ReferenceMemIdeal.τ).loc Cert.ReferenceMemIdeal.main_arg8)) (m ((c.tc : Thread Cert.ReferenceMemIdeal.nD Cert.ReferenceMemIdeal.τ).loc Cert.ReferenceMemIdeal.main_arg9)) (m ((c.tc : Thread Cert.ReferenceMemIdeal.nD Cert.ReferenceMemIdeal.τ).loc Cert.ReferenceMemIdeal.main_arg10)) (m ((c.tc : Thread Cert.ReferenceMemIdeal.nD Cert.ReferenceMemIdeal.τ).loc Cert.ReferenceMemIdeal.main_arg11)) (m ((c.tc : Thread Cert.ReferenceMemIdeal.nD Cert.ReferenceMemIdeal.τ).loc Cert.ReferenceMemIdeal.main_arg12)) (m ((c.tc : Thread Cert.ReferenceMemIdeal.nD Cert.ReferenceMemIdeal.τ).loc Cert.ReferenceMemIdeal.main_arg13)) (m ((c.tc : Thread Cert.ReferenceMemIdeal.nD Cert.ReferenceMemIdeal.τ).loc Cert.ReferenceMemIdeal.main_arg14))).2.2.2.2.2.2.2.2.2.2.2.2.2.1 = (fun _ => 1#1)
    ∧ (Cert.Pre_mem_finite.fn (F := Ideal) (m ((c.tc : Thread Cert.ReferenceMemIdeal.nD Cert.ReferenceMemIdeal.τ).loc Cert.ReferenceMemIdeal.main_arg0)) (m ((c.tc : Thread Cert.ReferenceMemIdeal.nD Cert.ReferenceMemIdeal.τ).loc Cert.ReferenceMemIdeal.main_arg1)) (m ((c.tc : Thread Cert.ReferenceMemIdeal.nD Cert.ReferenceMemIdeal.τ).loc Cert.ReferenceMemIdeal.main_arg2)) (m ((c.tc : Thread Cert.ReferenceMemIdeal.nD Cert.ReferenceMemIdeal.τ).loc Cert.ReferenceMemIdeal.main_arg3)) (m ((c.tc : Thread Cert.ReferenceMemIdeal.nD Cert.ReferenceMemIdeal.τ).loc Cert.ReferenceMemIdeal.main_arg4)) (m ((c.tc : Thread Cert.ReferenceMemIdeal.nD Cert.ReferenceMemIdeal.τ).loc Cert.ReferenceMemIdeal.main_arg5)) (m ((c.tc : Thread Cert.ReferenceMemIdeal.nD Cert.ReferenceMemIdeal.τ).loc Cert.ReferenceMemIdeal.main_arg6)) (m ((c.tc : Thread Cert.ReferenceMemIdeal.nD Cert.ReferenceMemIdeal.τ).loc Cert.ReferenceMemIdeal.main_arg7)) (m ((c.tc : Thread Cert.ReferenceMemIdeal.nD Cert.ReferenceMemIdeal.τ).loc Cert.ReferenceMemIdeal.main_arg8)) (m ((c.tc : Thread Cert.ReferenceMemIdeal.nD Cert.ReferenceMemIdeal.τ).loc Cert.ReferenceMemIdeal.main_arg9)) (m ((c.tc : Thread Cert.ReferenceMemIdeal.nD Cert.ReferenceMemIdeal.τ).loc Cert.ReferenceMemIdeal.main_arg10)) (m ((c.tc : Thread Cert.ReferenceMemIdeal.nD Cert.ReferenceMemIdeal.τ).loc Cert.ReferenceMemIdeal.main_arg11)) (m ((c.tc : Thread Cert.ReferenceMemIdeal.nD Cert.ReferenceMemIdeal.τ).loc Cert.ReferenceMemIdeal.main_arg12)) (m ((c.tc : Thread Cert.ReferenceMemIdeal.nD Cert.ReferenceMemIdeal.τ).loc Cert.ReferenceMemIdeal.main_arg13)) (m ((c.tc : Thread Cert.ReferenceMemIdeal.nD Cert.ReferenceMemIdeal.τ).loc Cert.ReferenceMemIdeal.main_arg14))).2.2.2.2.2.2.2.2.2.2.2.2.2.2 = (fun _ => 1#1)

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_KernelLossIdeal_loss_finite [hPre_loss_finite : Cert.Pre_loss_finite.Facts] (m : (ℓ : Loc Cert.KernelLossIdeal.nD Cert.KernelLossIdeal.τ Cert.KernelLossIdeal.sig) → Buf (Elt Ideal) ℓ) : Prop :=
  ∀ c : Dev Cert.KernelLossIdeal.nD,
    (Cert.Pre_loss_finite.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6))).1 = (fun _ => 1#1)
    ∧ (Cert.Pre_loss_finite.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6))).2.1 = (fun _ => 1#1)
    ∧ (Cert.Pre_loss_finite.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6))).2.2.1 = (fun _ => 1#1)
    ∧ (Cert.Pre_loss_finite.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6))).2.2.2.1 = (fun _ => 1#1)
    ∧ (Cert.Pre_loss_finite.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6))).2.2.2.2 = (fun _ => 1#1)

def Pre_ReferenceLossIdeal (m : (ℓ : Loc Cert.ReferenceLossIdeal.nD Cert.ReferenceLossIdeal.τ Cert.ReferenceLossIdeal.sig) → Buf (Elt Ideal) ℓ) : Prop :=
  True

def Pre_ReferenceLossIdeal_loss_finite [hPre_loss_finite : Cert.Pre_loss_finite.Facts] (m : (ℓ : Loc Cert.ReferenceLossIdeal.nD Cert.ReferenceLossIdeal.τ Cert.ReferenceLossIdeal.sig) → Buf (Elt Ideal) ℓ) : Prop :=
  ∀ c : Dev Cert.ReferenceLossIdeal.nD,
    (Cert.Pre_loss_finite.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6))).1 = (fun _ => 1#1)
    ∧ (Cert.Pre_loss_finite.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6))).2.1 = (fun _ => 1#1)
    ∧ (Cert.Pre_loss_finite.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6))).2.2.1 = (fun _ => 1#1)
    ∧ (Cert.Pre_loss_finite.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6))).2.2.2.1 = (fun _ => 1#1)
    ∧ (Cert.Pre_loss_finite.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6))).2.2.2.2 = (fun _ => 1#1)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2)
      ∧ r.2.mem ((c.tc : Thread Cert.KernelKv.nD Cert.KernelKv.τ).loc Cert.KernelKv.main_arg3) = m ((c.tc : Thread Cert.KernelKv.nD Cert.KernelKv.τ).loc Cert.KernelKv.main_arg3)
      ∧ r.2.mem ((c.tc : Thread Cert.KernelKv.nD Cert.KernelKv.τ).loc Cert.KernelKv.main_arg4) = m ((c.tc : Thread Cert.KernelKv.nD Cert.KernelKv.τ).loc Cert.KernelKv.main_arg4))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
      ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3)
      ∧ r.2.mem ((c.tc : Thread Cert.KernelKvIdeal.nD Cert.KernelKvIdeal.τ).loc Cert.KernelKvIdeal.main_arg4) = m ((c.tc : Thread Cert.KernelKvIdeal.nD Cert.KernelKvIdeal.τ).loc Cert.KernelKvIdeal.main_arg4))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2)
      ∧ r.2.mem ((c.tc : Thread Cert.ReferenceKvIdeal.nD Cert.ReferenceKvIdeal.τ).loc Cert.ReferenceKvIdeal.main_arg3) = m ((c.tc : Thread Cert.ReferenceKvIdeal.nD Cert.ReferenceKvIdeal.τ).loc Cert.ReferenceKvIdeal.main_arg3)
      ∧ r.2.mem ((c.tc : Thread Cert.ReferenceKvIdeal.nD Cert.ReferenceKvIdeal.τ).loc Cert.ReferenceKvIdeal.main_arg4) = m ((c.tc : Thread Cert.ReferenceKvIdeal.nD Cert.ReferenceKvIdeal.τ).loc Cert.ReferenceKvIdeal.main_arg4))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2)
      ∧ r.2.mem ((c.tc : Thread Cert.KernelAttn.nD Cert.KernelAttn.τ).loc Cert.KernelAttn.main_arg3) = m ((c.tc : Thread Cert.KernelAttn.nD Cert.KernelAttn.τ).loc Cert.KernelAttn.main_arg3)
      ∧ r.2.mem ((c.tc : Thread Cert.KernelAttn.nD Cert.KernelAttn.τ).loc Cert.KernelAttn.main_arg4) = m ((c.tc : Thread Cert.KernelAttn.nD Cert.KernelAttn.τ).loc Cert.KernelAttn.main_arg4))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ r.2.sem = fun _ => 0)

def quiescent_KernelAttnIdeal_pre_attn_finite [hKernelAttnIdeal : Cert.KernelAttnIdeal.Facts] [hPre_attn_finite : Cert.Pre_attn_finite.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_attn_finite m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4))
      ∧ r.2.sem = fun _ => 0)

def quiescent_ReferenceAttnIdeal_pre_attn_finite [hReferenceAttnIdeal : Cert.ReferenceAttnIdeal.Facts] [hPre_attn_finite : Cert.Pre_attn_finite.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_attn_finite m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_KernelFfnIdeal_pre_ffn_finite [hKernelFfnIdeal : Cert.KernelFfnIdeal.Facts] [hPre_ffn_finite : Cert.Pre_ffn_finite.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_ffn_finite m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_ReferenceFfnIdeal_pre_ffn_finite [hReferenceFfnIdeal : Cert.ReferenceFfnIdeal.Facts] [hPre_ffn_finite : Cert.Pre_ffn_finite.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_ffn_finite m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5)
      ∧ r.2.mem ((c.tc : Thread Cert.KernelIn.nD Cert.KernelIn.τ).loc Cert.KernelIn.main_arg6) = m ((c.tc : Thread Cert.KernelIn.nD Cert.KernelIn.τ).loc Cert.KernelIn.main_arg6)
      ∧ r.2.mem ((c.tc : Thread Cert.KernelIn.nD Cert.KernelIn.τ).loc Cert.KernelIn.main_arg7) = m ((c.tc : Thread Cert.KernelIn.nD Cert.KernelIn.τ).loc Cert.KernelIn.main_arg7)
      ∧ r.2.mem ((c.tc : Thread Cert.KernelIn.nD Cert.KernelIn.τ).loc Cert.KernelIn.main_arg8) = m ((c.tc : Thread Cert.KernelIn.nD Cert.KernelIn.τ).loc Cert.KernelIn.main_arg8))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
      ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7)
      ∧ r.2.mem ((c.tc : Thread Cert.KernelInIdeal.nD Cert.KernelInIdeal.τ).loc Cert.KernelInIdeal.main_arg8) = m ((c.tc : Thread Cert.KernelInIdeal.nD Cert.KernelInIdeal.τ).loc Cert.KernelInIdeal.main_arg8))
      ∧ r.2.sem = fun _ => 0)

def quiescent_KernelInIdeal_pre_x_finite [hKernelInIdeal : Cert.KernelInIdeal.Facts] [hPre_x_finite : Cert.Pre_x_finite.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal_x_finite m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
      ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7)
      ∧ r.2.mem ((c.tc : Thread Cert.KernelInIdeal.nD Cert.KernelInIdeal.τ).loc Cert.KernelInIdeal.main_arg8) = m ((c.tc : Thread Cert.KernelInIdeal.nD Cert.KernelInIdeal.τ).loc Cert.KernelInIdeal.main_arg8))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5)
      ∧ r.2.mem ((c.tc : Thread Cert.ReferenceInIdeal.nD Cert.ReferenceInIdeal.τ).loc Cert.ReferenceInIdeal.main_arg6) = m ((c.tc : Thread Cert.ReferenceInIdeal.nD Cert.ReferenceInIdeal.τ).loc Cert.ReferenceInIdeal.main_arg6)
      ∧ r.2.mem ((c.tc : Thread Cert.ReferenceInIdeal.nD Cert.ReferenceInIdeal.τ).loc Cert.ReferenceInIdeal.main_arg7) = m ((c.tc : Thread Cert.ReferenceInIdeal.nD Cert.ReferenceInIdeal.τ).loc Cert.ReferenceInIdeal.main_arg7)
      ∧ r.2.mem ((c.tc : Thread Cert.ReferenceInIdeal.nD Cert.ReferenceInIdeal.τ).loc Cert.ReferenceInIdeal.main_arg8) = m ((c.tc : Thread Cert.ReferenceInIdeal.nD Cert.ReferenceInIdeal.τ).loc Cert.ReferenceInIdeal.main_arg8))
      ∧ r.2.sem = fun _ => 0)

def quiescent_ReferenceInIdeal_pre_x_finite [hReferenceInIdeal : Cert.ReferenceInIdeal.Facts] [hPre_x_finite : Cert.Pre_x_finite.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal_x_finite m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5)
      ∧ r.2.mem ((c.tc : Thread Cert.ReferenceInIdeal.nD Cert.ReferenceInIdeal.τ).loc Cert.ReferenceInIdeal.main_arg6) = m ((c.tc : Thread Cert.ReferenceInIdeal.nD Cert.ReferenceInIdeal.τ).loc Cert.ReferenceInIdeal.main_arg6)
      ∧ r.2.mem ((c.tc : Thread Cert.ReferenceInIdeal.nD Cert.ReferenceInIdeal.τ).loc Cert.ReferenceInIdeal.main_arg7) = m ((c.tc : Thread Cert.ReferenceInIdeal.nD Cert.ReferenceInIdeal.τ).loc Cert.ReferenceInIdeal.main_arg7)
      ∧ r.2.mem ((c.tc : Thread Cert.ReferenceInIdeal.nD Cert.ReferenceInIdeal.τ).loc Cert.ReferenceInIdeal.main_arg8) = m ((c.tc : Thread Cert.ReferenceInIdeal.nD Cert.ReferenceInIdeal.τ).loc Cert.ReferenceInIdeal.main_arg8))
      ∧ r.2.sem = fun _ => 0)

def quiescent_KernelMem [hKernelMem : Cert.KernelMem.Facts] : Prop :=
  ∀ (m : (ℓ : Loc Cert.KernelMem.nD Cert.KernelMem.τ Cert.KernelMem.sig) → Buf (Elt Bits) ℓ) (g : Dev Cert.KernelMem.nD → PrngReg), Pre_KernelMem m →
    θ_run (Cert.KernelMem.defs (F := Bits)) (onTc (τ := Cert.KernelMem.τ) (Cert.KernelMem.main (F := Bits))) ⟨m, fun _ => 0, g⟩ (fun r => (∀ c : Dev Cert.KernelMem.nD,
      r.2.mem ((c.tc : Thread Cert.KernelMem.nD Cert.KernelMem.τ).loc Cert.KernelMem.main_arg0) = m ((c.tc : Thread Cert.KernelMem.nD Cert.KernelMem.τ).loc Cert.KernelMem.main_arg0)
      ∧ r.2.mem ((c.tc : Thread Cert.KernelMem.nD Cert.KernelMem.τ).loc Cert.KernelMem.main_arg1) = m ((c.tc : Thread Cert.KernelMem.nD Cert.KernelMem.τ).loc Cert.KernelMem.main_arg1)
      ∧ r.2.mem ((c.tc : Thread Cert.KernelMem.nD Cert.KernelMem.τ).loc Cert.KernelMem.main_arg2) = m ((c.tc : Thread Cert.KernelMem.nD Cert.KernelMem.τ).loc Cert.KernelMem.main_arg2)
      ∧ r.2.mem ((c.tc : Thread Cert.KernelMem.nD Cert.KernelMem.τ).loc Cert.KernelMem.main_arg3) = m ((c.tc : Thread Cert.KernelMem.nD Cert.KernelMem.τ).loc Cert.KernelMem.main_arg3)
      ∧ r.2.mem ((c.tc : Thread Cert.KernelMem.nD Cert.KernelMem.τ).loc Cert.KernelMem.main_arg4) = m ((c.tc : Thread Cert.KernelMem.nD Cert.KernelMem.τ).loc Cert.KernelMem.main_arg4)
      ∧ r.2.mem ((c.tc : Thread Cert.KernelMem.nD Cert.KernelMem.τ).loc Cert.KernelMem.main_arg5) = m ((c.tc : Thread Cert.KernelMem.nD Cert.KernelMem.τ).loc Cert.KernelMem.main_arg5)
      ∧ r.2.mem ((c.tc : Thread Cert.KernelMem.nD Cert.KernelMem.τ).loc Cert.KernelMem.main_arg6) = m ((c.tc : Thread Cert.KernelMem.nD Cert.KernelMem.τ).loc Cert.KernelMem.main_arg6)
      ∧ r.2.mem ((c.tc : Thread Cert.KernelMem.nD Cert.KernelMem.τ).loc Cert.KernelMem.main_arg7) = m ((c.tc : Thread Cert.KernelMem.nD Cert.KernelMem.τ).loc Cert.KernelMem.main_arg7)
      ∧ r.2.mem ((c.tc : Thread Cert.KernelMem.nD Cert.KernelMem.τ).loc Cert.KernelMem.main_arg8) = m ((c.tc : Thread Cert.KernelMem.nD Cert.KernelMem.τ).loc Cert.KernelMem.main_arg8)
      ∧ r.2.mem ((c.tc : Thread Cert.KernelMem.nD Cert.KernelMem.τ).loc Cert.KernelMem.main_arg9) = m ((c.tc : Thread Cert.KernelMem.nD Cert.KernelMem.τ).loc Cert.KernelMem.main_arg9)
      ∧ r.2.mem ((c.tc : Thread Cert.KernelMem.nD Cert.KernelMem.τ).loc Cert.KernelMem.main_arg10) = m ((c.tc : Thread Cert.KernelMem.nD Cert.KernelMem.τ).loc Cert.KernelMem.main_arg10)
      ∧ r.2.mem ((c.tc : Thread Cert.KernelMem.nD Cert.KernelMem.τ).loc Cert.KernelMem.main_arg11) = m ((c.tc : Thread Cert.KernelMem.nD Cert.KernelMem.τ).loc Cert.KernelMem.main_arg11)
      ∧ r.2.mem ((c.tc : Thread Cert.KernelMem.nD Cert.KernelMem.τ).loc Cert.KernelMem.main_arg12) = m ((c.tc : Thread Cert.KernelMem.nD Cert.KernelMem.τ).loc Cert.KernelMem.main_arg12)
      ∧ r.2.mem ((c.tc : Thread Cert.KernelMem.nD Cert.KernelMem.τ).loc Cert.KernelMem.main_arg13) = m ((c.tc : Thread Cert.KernelMem.nD Cert.KernelMem.τ).loc Cert.KernelMem.main_arg13)
      ∧ r.2.mem ((c.tc : Thread Cert.KernelMem.nD Cert.KernelMem.τ).loc Cert.KernelMem.main_arg14) = m ((c.tc : Thread Cert.KernelMem.nD Cert.KernelMem.τ).loc Cert.KernelMem.main_arg14))
      ∧ r.2.sem = fun _ => 0)

def quiescent_KernelMemIdeal [hKernelMemIdeal : Cert.KernelMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
      ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)
      ∧ r.2.mem ((c.tc : Thread Cert.KernelMemIdeal.nD Cert.KernelMemIdeal.τ).loc Cert.KernelMemIdeal.main_arg3) = m ((c.tc : Thread Cert.KernelMemIdeal.nD Cert.KernelMemIdeal.τ).loc Cert.KernelMemIdeal.main_arg3)
      ∧ r.2.mem ((c.tc : Thread Cert.KernelMemIdeal.nD Cert.KernelMemIdeal.τ).loc Cert.KernelMemIdeal.main_arg4) = m ((c.tc : Thread Cert.KernelMemIdeal.nD Cert.KernelMemIdeal.τ).loc Cert.KernelMemIdeal.main_arg4)
      ∧ r.2.mem ((c.tc : Thread Cert.KernelMemIdeal.nD Cert.KernelMemIdeal.τ).loc Cert.KernelMemIdeal.main_arg5) = m ((c.tc : Thread Cert.KernelMemIdeal.nD Cert.KernelMemIdeal.τ).loc Cert.KernelMemIdeal.main_arg5)
      ∧ r.2.mem ((c.tc : Thread Cert.KernelMemIdeal.nD Cert.KernelMemIdeal.τ).loc Cert.KernelMemIdeal.main_arg6) = m ((c.tc : Thread Cert.KernelMemIdeal.nD Cert.KernelMemIdeal.τ).loc Cert.KernelMemIdeal.main_arg6)
      ∧ r.2.mem ((c.tc : Thread Cert.KernelMemIdeal.nD Cert.KernelMemIdeal.τ).loc Cert.KernelMemIdeal.main_arg7) = m ((c.tc : Thread Cert.KernelMemIdeal.nD Cert.KernelMemIdeal.τ).loc Cert.KernelMemIdeal.main_arg7)
      ∧ r.2.mem ((c.tc : Thread Cert.KernelMemIdeal.nD Cert.KernelMemIdeal.τ).loc Cert.KernelMemIdeal.main_arg8) = m ((c.tc : Thread Cert.KernelMemIdeal.nD Cert.KernelMemIdeal.τ).loc Cert.KernelMemIdeal.main_arg8)
      ∧ r.2.mem ((c.tc : Thread Cert.KernelMemIdeal.nD Cert.KernelMemIdeal.τ).loc Cert.KernelMemIdeal.main_arg9) = m ((c.tc : Thread Cert.KernelMemIdeal.nD Cert.KernelMemIdeal.τ).loc Cert.KernelMemIdeal.main_arg9)
      ∧ r.2.mem ((c.tc : Thread Cert.KernelMemIdeal.nD Cert.KernelMemIdeal.τ).loc Cert.KernelMemIdeal.main_arg10) = m ((c.tc : Thread Cert.KernelMemIdeal.nD Cert.KernelMemIdeal.τ).loc Cert.KernelMemIdeal.main_arg10)
      ∧ r.2.mem ((c.tc : Thread Cert.KernelMemIdeal.nD Cert.KernelMemIdeal.τ).loc Cert.KernelMemIdeal.main_arg11) = m ((c.tc : Thread Cert.KernelMemIdeal.nD Cert.KernelMemIdeal.τ).loc Cert.KernelMemIdeal.main_arg11)
      ∧ r.2.mem ((c.tc : Thread Cert.KernelMemIdeal.nD Cert.KernelMemIdeal.τ).loc Cert.KernelMemIdeal.main_arg12) = m ((c.tc : Thread Cert.KernelMemIdeal.nD Cert.KernelMemIdeal.τ).loc Cert.KernelMemIdeal.main_arg12)
      ∧ r.2.mem ((c.tc : Thread Cert.KernelMemIdeal.nD Cert.KernelMemIdeal.τ).loc Cert.KernelMemIdeal.main_arg13) = m ((c.tc : Thread Cert.KernelMemIdeal.nD Cert.KernelMemIdeal.τ).loc Cert.KernelMemIdeal.main_arg13)
      ∧ r.2.mem ((c.tc : Thread Cert.KernelMemIdeal.nD Cert.KernelMemIdeal.τ).loc Cert.KernelMemIdeal.main_arg14) = m ((c.tc : Thread Cert.KernelMemIdeal.nD Cert.KernelMemIdeal.τ).loc Cert.KernelMemIdeal.main_arg14))
      ∧ r.2.sem = fun _ => 0)

def quiescent_KernelMemIdeal_pre_mem_finite [hKernelMemIdeal : Cert.KernelMemIdeal.Facts] [hPre_mem_finite : Cert.Pre_mem_finite.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal_mem_finite m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
      ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)
      ∧ r.2.mem ((c.tc : Thread Cert.KernelMemIdeal.nD Cert.KernelMemIdeal.τ).loc Cert.KernelMemIdeal.main_arg3) = m ((c.tc : Thread Cert.KernelMemIdeal.nD Cert.KernelMemIdeal.τ).loc Cert.KernelMemIdeal.main_arg3)
      ∧ r.2.mem ((c.tc : Thread Cert.KernelMemIdeal.nD Cert.KernelMemIdeal.τ).loc Cert.KernelMemIdeal.main_arg4) = m ((c.tc : Thread Cert.KernelMemIdeal.nD Cert.KernelMemIdeal.τ).loc Cert.KernelMemIdeal.main_arg4)
      ∧ r.2.mem ((c.tc : Thread Cert.KernelMemIdeal.nD Cert.KernelMemIdeal.τ).loc Cert.KernelMemIdeal.main_arg5) = m ((c.tc : Thread Cert.KernelMemIdeal.nD Cert.KernelMemIdeal.τ).loc Cert.KernelMemIdeal.main_arg5)
      ∧ r.2.mem ((c.tc : Thread Cert.KernelMemIdeal.nD Cert.KernelMemIdeal.τ).loc Cert.KernelMemIdeal.main_arg6) = m ((c.tc : Thread Cert.KernelMemIdeal.nD Cert.KernelMemIdeal.τ).loc Cert.KernelMemIdeal.main_arg6)
      ∧ r.2.mem ((c.tc : Thread Cert.KernelMemIdeal.nD Cert.KernelMemIdeal.τ).loc Cert.KernelMemIdeal.main_arg7) = m ((c.tc : Thread Cert.KernelMemIdeal.nD Cert.KernelMemIdeal.τ).loc Cert.KernelMemIdeal.main_arg7)
      ∧ r.2.mem ((c.tc : Thread Cert.KernelMemIdeal.nD Cert.KernelMemIdeal.τ).loc Cert.KernelMemIdeal.main_arg8) = m ((c.tc : Thread Cert.KernelMemIdeal.nD Cert.KernelMemIdeal.τ).loc Cert.KernelMemIdeal.main_arg8)
      ∧ r.2.mem ((c.tc : Thread Cert.KernelMemIdeal.nD Cert.KernelMemIdeal.τ).loc Cert.KernelMemIdeal.main_arg9) = m ((c.tc : Thread Cert.KernelMemIdeal.nD Cert.KernelMemIdeal.τ).loc Cert.KernelMemIdeal.main_arg9)
      ∧ r.2.mem ((c.tc : Thread Cert.KernelMemIdeal.nD Cert.KernelMemIdeal.τ).loc Cert.KernelMemIdeal.main_arg10) = m ((c.tc : Thread Cert.KernelMemIdeal.nD Cert.KernelMemIdeal.τ).loc Cert.KernelMemIdeal.main_arg10)
      ∧ r.2.mem ((c.tc : Thread Cert.KernelMemIdeal.nD Cert.KernelMemIdeal.τ).loc Cert.KernelMemIdeal.main_arg11) = m ((c.tc : Thread Cert.KernelMemIdeal.nD Cert.KernelMemIdeal.τ).loc Cert.KernelMemIdeal.main_arg11)
      ∧ r.2.mem ((c.tc : Thread Cert.KernelMemIdeal.nD Cert.KernelMemIdeal.τ).loc Cert.KernelMemIdeal.main_arg12) = m ((c.tc : Thread Cert.KernelMemIdeal.nD Cert.KernelMemIdeal.τ).loc Cert.KernelMemIdeal.main_arg12)
      ∧ r.2.mem ((c.tc : Thread Cert.KernelMemIdeal.nD Cert.KernelMemIdeal.τ).loc Cert.KernelMemIdeal.main_arg13) = m ((c.tc : Thread Cert.KernelMemIdeal.nD Cert.KernelMemIdeal.τ).loc Cert.KernelMemIdeal.main_arg13)
      ∧ r.2.mem ((c.tc : Thread Cert.KernelMemIdeal.nD Cert.KernelMemIdeal.τ).loc Cert.KernelMemIdeal.main_arg14) = m ((c.tc : Thread Cert.KernelMemIdeal.nD Cert.KernelMemIdeal.τ).loc Cert.KernelMemIdeal.main_arg14))
      ∧ r.2.sem = fun _ => 0)

def quiescent_ReferenceMemIdeal [hReferenceMemIdeal : Cert.ReferenceMemIdeal.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1)
      ∧ r.2.mem ((c.tc : Thread Cert.ReferenceMemIdeal.nD Cert.ReferenceMemIdeal.τ).loc Cert.ReferenceMemIdeal.main_arg2) = m ((c.tc : Thread Cert.ReferenceMemIdeal.nD Cert.ReferenceMemIdeal.τ).loc Cert.ReferenceMemIdeal.main_arg2)
      ∧ r.2.mem ((c.tc : Thread Cert.ReferenceMemIdeal.nD Cert.ReferenceMemIdeal.τ).loc Cert.ReferenceMemIdeal.main_arg3) = m ((c.tc : Thread Cert.ReferenceMemIdeal.nD Cert.ReferenceMemIdeal.τ).loc Cert.ReferenceMemIdeal.main_arg3)
      ∧ r.2.mem ((c.tc : Thread Cert.ReferenceMemIdeal.nD Cert.ReferenceMemIdeal.τ).loc Cert.ReferenceMemIdeal.main_arg4) = m ((c.tc : Thread Cert.ReferenceMemIdeal.nD Cert.ReferenceMemIdeal.τ).loc Cert.ReferenceMemIdeal.main_arg4)
      ∧ r.2.mem ((c.tc : Thread Cert.ReferenceMemIdeal.nD Cert.ReferenceMemIdeal.τ).loc Cert.ReferenceMemIdeal.main_arg5) = m ((c.tc : Thread Cert.ReferenceMemIdeal.nD Cert.ReferenceMemIdeal.τ).loc Cert.ReferenceMemIdeal.main_arg5)
      ∧ r.2.mem ((c.tc : Thread Cert.ReferenceMemIdeal.nD Cert.ReferenceMemIdeal.τ).loc Cert.ReferenceMemIdeal.main_arg6) = m ((c.tc : Thread Cert.ReferenceMemIdeal.nD Cert.ReferenceMemIdeal.τ).loc Cert.ReferenceMemIdeal.main_arg6)
      ∧ r.2.mem ((c.tc : Thread Cert.ReferenceMemIdeal.nD Cert.ReferenceMemIdeal.τ).loc Cert.ReferenceMemIdeal.main_arg7) = m ((c.tc : Thread Cert.ReferenceMemIdeal.nD Cert.ReferenceMemIdeal.τ).loc Cert.ReferenceMemIdeal.main_arg7)
      ∧ r.2.mem ((c.tc : Thread Cert.ReferenceMemIdeal.nD Cert.ReferenceMemIdeal.τ).loc Cert.ReferenceMemIdeal.main_arg8) = m ((c.tc : Thread Cert.ReferenceMemIdeal.nD Cert.ReferenceMemIdeal.τ).loc Cert.ReferenceMemIdeal.main_arg8)
      ∧ r.2.mem ((c.tc : Thread Cert.ReferenceMemIdeal.nD Cert.ReferenceMemIdeal.τ).loc Cert.ReferenceMemIdeal.main_arg9) = m ((c.tc : Thread Cert.ReferenceMemIdeal.nD Cert.ReferenceMemIdeal.τ).loc Cert.ReferenceMemIdeal.main_arg9)
      ∧ r.2.mem ((c.tc : Thread Cert.ReferenceMemIdeal.nD Cert.ReferenceMemIdeal.τ).loc Cert.ReferenceMemIdeal.main_arg10) = m ((c.tc : Thread Cert.ReferenceMemIdeal.nD Cert.ReferenceMemIdeal.τ).loc Cert.ReferenceMemIdeal.main_arg10)
      ∧ r.2.mem ((c.tc : Thread Cert.ReferenceMemIdeal.nD Cert.ReferenceMemIdeal.τ).loc Cert.ReferenceMemIdeal.main_arg11) = m ((c.tc : Thread Cert.ReferenceMemIdeal.nD Cert.ReferenceMemIdeal.τ).loc Cert.ReferenceMemIdeal.main_arg11)
      ∧ r.2.mem ((c.tc : Thread Cert.ReferenceMemIdeal.nD Cert.ReferenceMemIdeal.τ).loc Cert.ReferenceMemIdeal.main_arg12) = m ((c.tc : Thread Cert.ReferenceMemIdeal.nD Cert.ReferenceMemIdeal.τ).loc Cert.ReferenceMemIdeal.main_arg12)
      ∧ r.2.mem ((c.tc : Thread Cert.ReferenceMemIdeal.nD Cert.ReferenceMemIdeal.τ).loc Cert.ReferenceMemIdeal.main_arg13) = m ((c.tc : Thread Cert.ReferenceMemIdeal.nD Cert.ReferenceMemIdeal.τ).loc Cert.ReferenceMemIdeal.main_arg13)
      ∧ r.2.mem ((c.tc : Thread Cert.ReferenceMemIdeal.nD Cert.ReferenceMemIdeal.τ).loc Cert.ReferenceMemIdeal.main_arg14) = m ((c.tc : Thread Cert.ReferenceMemIdeal.nD Cert.ReferenceMemIdeal.τ).loc Cert.ReferenceMemIdeal.main_arg14))
      ∧ r.2.sem = fun _ => 0)

def quiescent_ReferenceMemIdeal_pre_mem_finite [hReferenceMemIdeal : Cert.ReferenceMemIdeal.Facts] [hPre_mem_finite : Cert.Pre_mem_finite.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal_mem_finite m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1)
      ∧ r.2.mem ((c.tc : Thread Cert.ReferenceMemIdeal.nD Cert.ReferenceMemIdeal.τ).loc Cert.ReferenceMemIdeal.main_arg2) = m ((c.tc : Thread Cert.ReferenceMemIdeal.nD Cert.ReferenceMemIdeal.τ).loc Cert.ReferenceMemIdeal.main_arg2)
      ∧ r.2.mem ((c.tc : Thread Cert.ReferenceMemIdeal.nD Cert.ReferenceMemIdeal.τ).loc Cert.ReferenceMemIdeal.main_arg3) = m ((c.tc : Thread Cert.ReferenceMemIdeal.nD Cert.ReferenceMemIdeal.τ).loc Cert.ReferenceMemIdeal.main_arg3)
      ∧ r.2.mem ((c.tc : Thread Cert.ReferenceMemIdeal.nD Cert.ReferenceMemIdeal.τ).loc Cert.ReferenceMemIdeal.main_arg4) = m ((c.tc : Thread Cert.ReferenceMemIdeal.nD Cert.ReferenceMemIdeal.τ).loc Cert.ReferenceMemIdeal.main_arg4)
      ∧ r.2.mem ((c.tc : Thread Cert.ReferenceMemIdeal.nD Cert.ReferenceMemIdeal.τ).loc Cert.ReferenceMemIdeal.main_arg5) = m ((c.tc : Thread Cert.ReferenceMemIdeal.nD Cert.ReferenceMemIdeal.τ).loc Cert.ReferenceMemIdeal.main_arg5)
      ∧ r.2.mem ((c.tc : Thread Cert.ReferenceMemIdeal.nD Cert.ReferenceMemIdeal.τ).loc Cert.ReferenceMemIdeal.main_arg6) = m ((c.tc : Thread Cert.ReferenceMemIdeal.nD Cert.ReferenceMemIdeal.τ).loc Cert.ReferenceMemIdeal.main_arg6)
      ∧ r.2.mem ((c.tc : Thread Cert.ReferenceMemIdeal.nD Cert.ReferenceMemIdeal.τ).loc Cert.ReferenceMemIdeal.main_arg7) = m ((c.tc : Thread Cert.ReferenceMemIdeal.nD Cert.ReferenceMemIdeal.τ).loc Cert.ReferenceMemIdeal.main_arg7)
      ∧ r.2.mem ((c.tc : Thread Cert.ReferenceMemIdeal.nD Cert.ReferenceMemIdeal.τ).loc Cert.ReferenceMemIdeal.main_arg8) = m ((c.tc : Thread Cert.ReferenceMemIdeal.nD Cert.ReferenceMemIdeal.τ).loc Cert.ReferenceMemIdeal.main_arg8)
      ∧ r.2.mem ((c.tc : Thread Cert.ReferenceMemIdeal.nD Cert.ReferenceMemIdeal.τ).loc Cert.ReferenceMemIdeal.main_arg9) = m ((c.tc : Thread Cert.ReferenceMemIdeal.nD Cert.ReferenceMemIdeal.τ).loc Cert.ReferenceMemIdeal.main_arg9)
      ∧ r.2.mem ((c.tc : Thread Cert.ReferenceMemIdeal.nD Cert.ReferenceMemIdeal.τ).loc Cert.ReferenceMemIdeal.main_arg10) = m ((c.tc : Thread Cert.ReferenceMemIdeal.nD Cert.ReferenceMemIdeal.τ).loc Cert.ReferenceMemIdeal.main_arg10)
      ∧ r.2.mem ((c.tc : Thread Cert.ReferenceMemIdeal.nD Cert.ReferenceMemIdeal.τ).loc Cert.ReferenceMemIdeal.main_arg11) = m ((c.tc : Thread Cert.ReferenceMemIdeal.nD Cert.ReferenceMemIdeal.τ).loc Cert.ReferenceMemIdeal.main_arg11)
      ∧ r.2.mem ((c.tc : Thread Cert.ReferenceMemIdeal.nD Cert.ReferenceMemIdeal.τ).loc Cert.ReferenceMemIdeal.main_arg12) = m ((c.tc : Thread Cert.ReferenceMemIdeal.nD Cert.ReferenceMemIdeal.τ).loc Cert.ReferenceMemIdeal.main_arg12)
      ∧ r.2.mem ((c.tc : Thread Cert.ReferenceMemIdeal.nD Cert.ReferenceMemIdeal.τ).loc Cert.ReferenceMemIdeal.main_arg13) = m ((c.tc : Thread Cert.ReferenceMemIdeal.nD Cert.ReferenceMemIdeal.τ).loc Cert.ReferenceMemIdeal.main_arg13)
      ∧ r.2.mem ((c.tc : Thread Cert.ReferenceMemIdeal.nD Cert.ReferenceMemIdeal.τ).loc Cert.ReferenceMemIdeal.main_arg14) = m ((c.tc : Thread Cert.ReferenceMemIdeal.nD Cert.ReferenceMemIdeal.τ).loc Cert.ReferenceMemIdeal.main_arg14))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4)
      ∧ r.2.mem ((c.tc : Thread Cert.KernelLoss.nD Cert.KernelLoss.τ).loc Cert.KernelLoss.main_arg5) = m ((c.tc : Thread Cert.KernelLoss.nD Cert.KernelLoss.τ).loc Cert.KernelLoss.main_arg5)
      ∧ r.2.mem ((c.tc : Thread Cert.KernelLoss.nD Cert.KernelLoss.τ).loc Cert.KernelLoss.main_arg6) = m ((c.tc : Thread Cert.KernelLoss.nD Cert.KernelLoss.τ).loc Cert.KernelLoss.main_arg6))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
      ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5)
      ∧ r.2.mem ((c.tc : Thread Cert.KernelLossIdeal.nD Cert.KernelLossIdeal.τ).loc Cert.KernelLossIdeal.main_arg6) = m ((c.tc : Thread Cert.KernelLossIdeal.nD Cert.KernelLossIdeal.τ).loc Cert.KernelLossIdeal.main_arg6))
      ∧ r.2.sem = fun _ => 0)

def quiescent_KernelLossIdeal_pre_loss_finite [hKernelLossIdeal : Cert.KernelLossIdeal.Facts] [hPre_loss_finite : Cert.Pre_loss_finite.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal_loss_finite m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
      ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5)
      ∧ r.2.mem ((c.tc : Thread Cert.KernelLossIdeal.nD Cert.KernelLossIdeal.τ).loc Cert.KernelLossIdeal.main_arg6) = m ((c.tc : Thread Cert.KernelLossIdeal.nD Cert.KernelLossIdeal.τ).loc Cert.KernelLossIdeal.main_arg6))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4)
      ∧ r.2.mem ((c.tc : Thread Cert.ReferenceLossIdeal.nD Cert.ReferenceLossIdeal.τ).loc Cert.ReferenceLossIdeal.main_arg5) = m ((c.tc : Thread Cert.ReferenceLossIdeal.nD Cert.ReferenceLossIdeal.τ).loc Cert.ReferenceLossIdeal.main_arg5)
      ∧ r.2.mem ((c.tc : Thread Cert.ReferenceLossIdeal.nD Cert.ReferenceLossIdeal.τ).loc Cert.ReferenceLossIdeal.main_arg6) = m ((c.tc : Thread Cert.ReferenceLossIdeal.nD Cert.ReferenceLossIdeal.τ).loc Cert.ReferenceLossIdeal.main_arg6))
      ∧ r.2.sem = fun _ => 0)

def quiescent_ReferenceLossIdeal_pre_loss_finite [hReferenceLossIdeal : Cert.ReferenceLossIdeal.Facts] [hPre_loss_finite : Cert.Pre_loss_finite.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal_loss_finite m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4)
      ∧ r.2.mem ((c.tc : Thread Cert.ReferenceLossIdeal.nD Cert.ReferenceLossIdeal.τ).loc Cert.ReferenceLossIdeal.main_arg5) = m ((c.tc : Thread Cert.ReferenceLossIdeal.nD Cert.ReferenceLossIdeal.τ).loc Cert.ReferenceLossIdeal.main_arg5)
      ∧ r.2.mem ((c.tc : Thread Cert.ReferenceLossIdeal.nD Cert.ReferenceLossIdeal.τ).loc Cert.ReferenceLossIdeal.main_arg6) = m ((c.tc : Thread Cert.ReferenceLossIdeal.nD Cert.ReferenceLossIdeal.τ).loc Cert.ReferenceLossIdeal.main_arg6))
      ∧ r.2.sem = fun _ => 0)

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)
      ∧ m' ((c.tc : Thread Cert.ReferenceKvIdeal.nD Cert.ReferenceKvIdeal.τ).loc Cert.ReferenceKvIdeal.main_arg3) = m ((c.tc : Thread Cert.KernelKvIdeal.nD Cert.KernelKvIdeal.τ).loc Cert.KernelKvIdeal.main_arg3)
      ∧ m' ((c.tc : Thread Cert.ReferenceKvIdeal.nD Cert.ReferenceKvIdeal.τ).loc Cert.ReferenceKvIdeal.main_arg4) = m ((c.tc : Thread Cert.KernelKvIdeal.nD Cert.KernelKvIdeal.τ).loc Cert.KernelKvIdeal.main_arg4)) →
    ∃ (v0 : (c : Dev Cert.KernelKvIdeal.nD) → Buf (Elt Ideal) ((c.tc : Thread Cert.KernelKvIdeal.nD Cert.KernelKvIdeal.τ).loc Cert.KernelKvIdeal.main_v20_0)) (v1 : (c : Dev Cert.KernelKvIdeal.nD) → Buf (Elt Ideal) ((c.tc : Thread Cert.KernelKvIdeal.nD Cert.KernelKvIdeal.τ).loc Cert.KernelKvIdeal.main_v20_1)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v20_0) = v0 c
          ∧ r.2.mem ((c.tc : Thread Cert.KernelKvIdeal.nD Cert.KernelKvIdeal.τ).loc Cert.KernelKvIdeal.main_v20_1) = v1 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
          ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3)
          ∧ r.2.mem ((c.tc : Thread Cert.KernelKvIdeal.nD Cert.KernelKvIdeal.τ).loc Cert.KernelKvIdeal.main_arg4) = m ((c.tc : Thread Cert.KernelKvIdeal.nD Cert.KernelKvIdeal.τ).loc Cert.KernelKvIdeal.main_arg4))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v34) = v0 c
          ∧ r.2.mem ((c.tc : Thread Cert.ReferenceKvIdeal.nD Cert.ReferenceKvIdeal.τ).loc Cert.ReferenceKvIdeal.main_v35) = v1 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2)
          ∧ r.2.mem ((c.tc : Thread Cert.ReferenceKvIdeal.nD Cert.ReferenceKvIdeal.τ).loc Cert.ReferenceKvIdeal.main_arg3) = m' ((c.tc : Thread Cert.ReferenceKvIdeal.nD Cert.ReferenceKvIdeal.τ).loc Cert.ReferenceKvIdeal.main_arg3)
          ∧ r.2.mem ((c.tc : Thread Cert.ReferenceKvIdeal.nD Cert.ReferenceKvIdeal.τ).loc Cert.ReferenceKvIdeal.main_arg4) = m' ((c.tc : Thread Cert.ReferenceKvIdeal.nD Cert.ReferenceKvIdeal.τ).loc Cert.ReferenceKvIdeal.main_arg4))

def preserves_KernelAttn_KernelAttnIdeal : Prop :=
  IdealRules.named_const.Statement Cert.KernelAttnIdeal.κ "mask" .f32 0xF149F2CA#32 ⊥

def algebraic_KernelAttnIdeal_ReferenceAttnIdeal_pre_attn_finite [hKernelAttnIdeal : Cert.KernelAttnIdeal.Facts] [hReferenceAttnIdeal : Cert.ReferenceAttnIdeal.Facts] [hPre_attn_finite : Cert.Pre_attn_finite.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_attn_finite m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)
      ∧ m' ((c.tc : Thread Cert.ReferenceAttnIdeal.nD Cert.ReferenceAttnIdeal.τ).loc Cert.ReferenceAttnIdeal.main_arg3) = m ((c.tc : Thread Cert.KernelAttnIdeal.nD Cert.KernelAttnIdeal.τ).loc Cert.KernelAttnIdeal.main_arg3)
      ∧ m' ((c.tc : Thread Cert.ReferenceAttnIdeal.nD Cert.ReferenceAttnIdeal.τ).loc Cert.ReferenceAttnIdeal.main_arg4) = m ((c.tc : Thread Cert.KernelAttnIdeal.nD Cert.KernelAttnIdeal.τ).loc Cert.KernelAttnIdeal.main_arg4)) →
    ∃ (v0 : (c : Dev Cert.KernelAttnIdeal.nD) → Buf (Elt Ideal) ((c.tc : Thread Cert.KernelAttnIdeal.nD Cert.KernelAttnIdeal.τ).loc Cert.KernelAttnIdeal.main_v11_0)) (v1 : (c : Dev Cert.KernelAttnIdeal.nD) → Buf (Elt Ideal) ((c.tc : Thread Cert.KernelAttnIdeal.nD Cert.KernelAttnIdeal.τ).loc Cert.KernelAttnIdeal.main_v11_1)) (v2 : (c : Dev Cert.KernelAttnIdeal.nD) → Buf (Elt Ideal) ((c.tc : Thread Cert.KernelAttnIdeal.nD Cert.KernelAttnIdeal.τ).loc Cert.KernelAttnIdeal.main_v11_2)) (v3 : (c : Dev Cert.KernelAttnIdeal.nD) → Buf (Elt Ideal) ((c.tc : Thread Cert.KernelAttnIdeal.nD Cert.KernelAttnIdeal.τ).loc Cert.KernelAttnIdeal.main_v11_3)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v11_0) = v0 c
          ∧ r.2.mem ((c.tc : Thread Cert.KernelAttnIdeal.nD Cert.KernelAttnIdeal.τ).loc Cert.KernelAttnIdeal.main_v11_1) = v1 c
          ∧ r.2.mem ((c.tc : Thread Cert.KernelAttnIdeal.nD Cert.KernelAttnIdeal.τ).loc Cert.KernelAttnIdeal.main_v11_2) = v2 c
          ∧ r.2.mem ((c.tc : Thread Cert.KernelAttnIdeal.nD Cert.KernelAttnIdeal.τ).loc Cert.KernelAttnIdeal.main_v11_3) = v3 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
          ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
          ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v178) = v0 c
          ∧ r.2.mem ((c.tc : Thread Cert.ReferenceAttnIdeal.nD Cert.ReferenceAttnIdeal.τ).loc Cert.ReferenceAttnIdeal.main_v179) = v1 c
          ∧ r.2.mem ((c.tc : Thread Cert.ReferenceAttnIdeal.nD Cert.ReferenceAttnIdeal.τ).loc Cert.ReferenceAttnIdeal.main_v180) = v2 c
          ∧ r.2.mem ((c.tc : Thread Cert.ReferenceAttnIdeal.nD Cert.ReferenceAttnIdeal.τ).loc Cert.ReferenceAttnIdeal.main_v182) = v3 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2)
          ∧ r.2.mem ((c.tc : Thread Cert.ReferenceAttnIdeal.nD Cert.ReferenceAttnIdeal.τ).loc Cert.ReferenceAttnIdeal.main_arg3) = m' ((c.tc : Thread Cert.ReferenceAttnIdeal.nD Cert.ReferenceAttnIdeal.τ).loc Cert.ReferenceAttnIdeal.main_arg3)
          ∧ r.2.mem ((c.tc : Thread Cert.ReferenceAttnIdeal.nD Cert.ReferenceAttnIdeal.τ).loc Cert.ReferenceAttnIdeal.main_arg4) = m' ((c.tc : Thread Cert.ReferenceAttnIdeal.nD Cert.ReferenceAttnIdeal.τ).loc Cert.ReferenceAttnIdeal.main_arg4))

def preserves_KernelFfn_KernelFfnIdeal : Prop :=
  True

def algebraic_KernelFfnIdeal_ReferenceFfnIdeal_pre_ffn_finite [hKernelFfnIdeal : Cert.KernelFfnIdeal.Facts] [hReferenceFfnIdeal : Cert.ReferenceFfnIdeal.Facts] [hPre_ffn_finite : Cert.Pre_ffn_finite.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_ffn_finite m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)) →
    ∃ (v0 : (c : Dev Cert.KernelFfnIdeal.nD) → Buf (Elt Ideal) ((c.tc : Thread Cert.KernelFfnIdeal.nD Cert.KernelFfnIdeal.τ).loc Cert.KernelFfnIdeal.main_v31_0)) (v1 : (c : Dev Cert.KernelFfnIdeal.nD) → Buf (Elt Ideal) ((c.tc : Thread Cert.KernelFfnIdeal.nD Cert.KernelFfnIdeal.τ).loc Cert.KernelFfnIdeal.main_v31_1)) (v2 : (c : Dev Cert.KernelFfnIdeal.nD) → Buf (Elt Ideal) ((c.tc : Thread Cert.KernelFfnIdeal.nD Cert.KernelFfnIdeal.τ).loc Cert.KernelFfnIdeal.main_v31_2)) (v3 : (c : Dev Cert.KernelFfnIdeal.nD) → Buf (Elt Ideal) ((c.tc : Thread Cert.KernelFfnIdeal.nD Cert.KernelFfnIdeal.τ).loc Cert.KernelFfnIdeal.main_v31_3)) (v4 : (c : Dev Cert.KernelFfnIdeal.nD) → Buf (Elt Ideal) ((c.tc : Thread Cert.KernelFfnIdeal.nD Cert.KernelFfnIdeal.τ).loc Cert.KernelFfnIdeal.main_v31_4)) (v5 : (c : Dev Cert.KernelFfnIdeal.nD) → Buf (Elt Ideal) ((c.tc : Thread Cert.KernelFfnIdeal.nD Cert.KernelFfnIdeal.τ).loc Cert.KernelFfnIdeal.main_v31_5)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v31_0) = v0 c
          ∧ r.2.mem ((c.tc : Thread Cert.KernelFfnIdeal.nD Cert.KernelFfnIdeal.τ).loc Cert.KernelFfnIdeal.main_v31_1) = v1 c
          ∧ r.2.mem ((c.tc : Thread Cert.KernelFfnIdeal.nD Cert.KernelFfnIdeal.τ).loc Cert.KernelFfnIdeal.main_v31_2) = v2 c
          ∧ r.2.mem ((c.tc : Thread Cert.KernelFfnIdeal.nD Cert.KernelFfnIdeal.τ).loc Cert.KernelFfnIdeal.main_v31_3) = v3 c
          ∧ r.2.mem ((c.tc : Thread Cert.KernelFfnIdeal.nD Cert.KernelFfnIdeal.τ).loc Cert.KernelFfnIdeal.main_v31_4) = v4 c
          ∧ r.2.mem ((c.tc : Thread Cert.KernelFfnIdeal.nD Cert.KernelFfnIdeal.τ).loc Cert.KernelFfnIdeal.main_v31_5) = v5 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v83) = v0 c
          ∧ r.2.mem ((c.tc : Thread Cert.ReferenceFfnIdeal.nD Cert.ReferenceFfnIdeal.τ).loc Cert.ReferenceFfnIdeal.main_v85) = v1 c
          ∧ r.2.mem ((c.tc : Thread Cert.ReferenceFfnIdeal.nD Cert.ReferenceFfnIdeal.τ).loc Cert.ReferenceFfnIdeal.main_v87) = v2 c
          ∧ r.2.mem ((c.tc : Thread Cert.ReferenceFfnIdeal.nD Cert.ReferenceFfnIdeal.τ).loc Cert.ReferenceFfnIdeal.main_v89) = v3 c
          ∧ r.2.mem ((c.tc : Thread Cert.ReferenceFfnIdeal.nD Cert.ReferenceFfnIdeal.τ).loc Cert.ReferenceFfnIdeal.main_v93) = v4 c
          ∧ r.2.mem ((c.tc : Thread Cert.ReferenceFfnIdeal.nD Cert.ReferenceFfnIdeal.τ).loc Cert.ReferenceFfnIdeal.main_v94) = v5 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5))

def preserves_KernelIn_KernelInIdeal : Prop :=
  True

def algebraic_KernelInIdeal_ReferenceInIdeal_pre_x_finite [hKernelInIdeal : Cert.KernelInIdeal.Facts] [hReferenceInIdeal : Cert.ReferenceInIdeal.Facts] [hPre_x_finite : Cert.Pre_x_finite.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal_x_finite m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)
      ∧ m' ((c.tc : Thread Cert.ReferenceInIdeal.nD Cert.ReferenceInIdeal.τ).loc Cert.ReferenceInIdeal.main_arg6) = m ((c.tc : Thread Cert.KernelInIdeal.nD Cert.KernelInIdeal.τ).loc Cert.KernelInIdeal.main_arg6)
      ∧ m' ((c.tc : Thread Cert.ReferenceInIdeal.nD Cert.ReferenceInIdeal.τ).loc Cert.ReferenceInIdeal.main_arg7) = m ((c.tc : Thread Cert.KernelInIdeal.nD Cert.KernelInIdeal.τ).loc Cert.KernelInIdeal.main_arg7)
      ∧ m' ((c.tc : Thread Cert.ReferenceInIdeal.nD Cert.ReferenceInIdeal.τ).loc Cert.ReferenceInIdeal.main_arg8) = m ((c.tc : Thread Cert.KernelInIdeal.nD Cert.KernelInIdeal.τ).loc Cert.KernelInIdeal.main_arg8)) →
    ∃ (v0 : (c : Dev Cert.KernelInIdeal.nD) → Buf (Elt Ideal) ((c.tc : Thread Cert.KernelInIdeal.nD Cert.KernelInIdeal.τ).loc Cert.KernelInIdeal.main_v36_0)) (v1 : (c : Dev Cert.KernelInIdeal.nD) → Buf (Elt Ideal) ((c.tc : Thread Cert.KernelInIdeal.nD Cert.KernelInIdeal.τ).loc Cert.KernelInIdeal.main_v36_1)) (v2 : (c : Dev Cert.KernelInIdeal.nD) → Buf (Elt Ideal) ((c.tc : Thread Cert.KernelInIdeal.nD Cert.KernelInIdeal.τ).loc Cert.KernelInIdeal.main_v36_2)) (v3 : (c : Dev Cert.KernelInIdeal.nD) → Buf (Elt Ideal) ((c.tc : Thread Cert.KernelInIdeal.nD Cert.KernelInIdeal.τ).loc Cert.KernelInIdeal.main_v36_3)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v36_0) = v0 c
          ∧ r.2.mem ((c.tc : Thread Cert.KernelInIdeal.nD Cert.KernelInIdeal.τ).loc Cert.KernelInIdeal.main_v36_1) = v1 c
          ∧ r.2.mem ((c.tc : Thread Cert.KernelInIdeal.nD Cert.KernelInIdeal.τ).loc Cert.KernelInIdeal.main_v36_2) = v2 c
          ∧ r.2.mem ((c.tc : Thread Cert.KernelInIdeal.nD Cert.KernelInIdeal.τ).loc Cert.KernelInIdeal.main_v36_3) = v3 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
          ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
          ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7)
          ∧ r.2.mem ((c.tc : Thread Cert.KernelInIdeal.nD Cert.KernelInIdeal.τ).loc Cert.KernelInIdeal.main_arg8) = m ((c.tc : Thread Cert.KernelInIdeal.nD Cert.KernelInIdeal.τ).loc Cert.KernelInIdeal.main_arg8))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v140) = v0 c
          ∧ r.2.mem ((c.tc : Thread Cert.ReferenceInIdeal.nD Cert.ReferenceInIdeal.τ).loc Cert.ReferenceInIdeal.main_v142) = v1 c
          ∧ r.2.mem ((c.tc : Thread Cert.ReferenceInIdeal.nD Cert.ReferenceInIdeal.τ).loc Cert.ReferenceInIdeal.main_v143) = v2 c
          ∧ r.2.mem ((c.tc : Thread Cert.ReferenceInIdeal.nD Cert.ReferenceInIdeal.τ).loc Cert.ReferenceInIdeal.main_v145) = v3 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5)
          ∧ r.2.mem ((c.tc : Thread Cert.ReferenceInIdeal.nD Cert.ReferenceInIdeal.τ).loc Cert.ReferenceInIdeal.main_arg6) = m' ((c.tc : Thread Cert.ReferenceInIdeal.nD Cert.ReferenceInIdeal.τ).loc Cert.ReferenceInIdeal.main_arg6)
          ∧ r.2.mem ((c.tc : Thread Cert.ReferenceInIdeal.nD Cert.ReferenceInIdeal.τ).loc Cert.ReferenceInIdeal.main_arg7) = m' ((c.tc : Thread Cert.ReferenceInIdeal.nD Cert.ReferenceInIdeal.τ).loc Cert.ReferenceInIdeal.main_arg7)
          ∧ r.2.mem ((c.tc : Thread Cert.ReferenceInIdeal.nD Cert.ReferenceInIdeal.τ).loc Cert.ReferenceInIdeal.main_arg8) = m' ((c.tc : Thread Cert.ReferenceInIdeal.nD Cert.ReferenceInIdeal.τ).loc Cert.ReferenceInIdeal.main_arg8))

def preserves_KernelMem_KernelMemIdeal : Prop :=
  True

def algebraic_KernelMemIdeal_ReferenceMemIdeal_pre_mem_finite [hKernelMemIdeal : Cert.KernelMemIdeal.Facts] [hReferenceMemIdeal : Cert.ReferenceMemIdeal.Facts] [hPre_mem_finite : Cert.Pre_mem_finite.Facts] : Prop :=
  ∀ (m : (ℓ : Loc Cert.KernelMemIdeal.nD Cert.KernelMemIdeal.τ Cert.KernelMemIdeal.sig) → Buf (Elt Ideal) ℓ) (g : Dev Cert.KernelMemIdeal.nD → PrngReg)
    (m' : (ℓ : Loc Cert.ReferenceMemIdeal.nD Cert.ReferenceMemIdeal.τ Cert.ReferenceMemIdeal.sig) → Buf (Elt Ideal) ℓ) (g' : Dev Cert.ReferenceMemIdeal.nD → PrngReg), Pre_KernelMemIdeal_mem_finite m →
    (∀ c : Dev Cert.KernelMemIdeal.nD,
      m' ((c.tc : Thread Cert.ReferenceMemIdeal.nD Cert.ReferenceMemIdeal.τ).loc Cert.ReferenceMemIdeal.main_arg0) = m ((c.tc : Thread Cert.KernelMemIdeal.nD Cert.KernelMemIdeal.τ).loc Cert.KernelMemIdeal.main_arg0)
      ∧ m' ((c.tc : Thread Cert.ReferenceMemIdeal.nD Cert.ReferenceMemIdeal.τ).loc Cert.ReferenceMemIdeal.main_arg1) = m ((c.tc : Thread Cert.KernelMemIdeal.nD Cert.KernelMemIdeal.τ).loc Cert.KernelMemIdeal.main_arg1)
      ∧ m' ((c.tc : Thread Cert.ReferenceMemIdeal.nD Cert.ReferenceMemIdeal.τ).loc Cert.ReferenceMemIdeal.main_arg2) = m ((c.tc : Thread Cert.KernelMemIdeal.nD Cert.KernelMemIdeal.τ).loc Cert.KernelMemIdeal.main_arg2)
      ∧ m' ((c.tc : Thread Cert.ReferenceMemIdeal.nD Cert.ReferenceMemIdeal.τ).loc Cert.ReferenceMemIdeal.main_arg3) = m ((c.tc : Thread Cert.KernelMemIdeal.nD Cert.KernelMemIdeal.τ).loc Cert.KernelMemIdeal.main_arg3)
      ∧ m' ((c.tc : Thread Cert.ReferenceMemIdeal.nD Cert.ReferenceMemIdeal.τ).loc Cert.ReferenceMemIdeal.main_arg4) = m ((c.tc : Thread Cert.KernelMemIdeal.nD Cert.KernelMemIdeal.τ).loc Cert.KernelMemIdeal.main_arg4)
      ∧ m' ((c.tc : Thread Cert.ReferenceMemIdeal.nD Cert.ReferenceMemIdeal.τ).loc Cert.ReferenceMemIdeal.main_arg5) = m ((c.tc : Thread Cert.KernelMemIdeal.nD Cert.KernelMemIdeal.τ).loc Cert.KernelMemIdeal.main_arg5)
      ∧ m' ((c.tc : Thread Cert.ReferenceMemIdeal.nD Cert.ReferenceMemIdeal.τ).loc Cert.ReferenceMemIdeal.main_arg6) = m ((c.tc : Thread Cert.KernelMemIdeal.nD Cert.KernelMemIdeal.τ).loc Cert.KernelMemIdeal.main_arg6)
      ∧ m' ((c.tc : Thread Cert.ReferenceMemIdeal.nD Cert.ReferenceMemIdeal.τ).loc Cert.ReferenceMemIdeal.main_arg7) = m ((c.tc : Thread Cert.KernelMemIdeal.nD Cert.KernelMemIdeal.τ).loc Cert.KernelMemIdeal.main_arg7)
      ∧ m' ((c.tc : Thread Cert.ReferenceMemIdeal.nD Cert.ReferenceMemIdeal.τ).loc Cert.ReferenceMemIdeal.main_arg8) = m ((c.tc : Thread Cert.KernelMemIdeal.nD Cert.KernelMemIdeal.τ).loc Cert.KernelMemIdeal.main_arg8)
      ∧ m' ((c.tc : Thread Cert.ReferenceMemIdeal.nD Cert.ReferenceMemIdeal.τ).loc Cert.ReferenceMemIdeal.main_arg9) = m ((c.tc : Thread Cert.KernelMemIdeal.nD Cert.KernelMemIdeal.τ).loc Cert.KernelMemIdeal.main_arg9)
      ∧ m' ((c.tc : Thread Cert.ReferenceMemIdeal.nD Cert.ReferenceMemIdeal.τ).loc Cert.ReferenceMemIdeal.main_arg10) = m ((c.tc : Thread Cert.KernelMemIdeal.nD Cert.KernelMemIdeal.τ).loc Cert.KernelMemIdeal.main_arg10)
      ∧ m' ((c.tc : Thread Cert.ReferenceMemIdeal.nD Cert.ReferenceMemIdeal.τ).loc Cert.ReferenceMemIdeal.main_arg11) = m ((c.tc : Thread Cert.KernelMemIdeal.nD Cert.KernelMemIdeal.τ).loc Cert.KernelMemIdeal.main_arg11)
      ∧ m' ((c.tc : Thread Cert.ReferenceMemIdeal.nD Cert.ReferenceMemIdeal.τ).loc Cert.ReferenceMemIdeal.main_arg12) = m ((c.tc : Thread Cert.KernelMemIdeal.nD Cert.KernelMemIdeal.τ).loc Cert.KernelMemIdeal.main_arg12)
      ∧ m' ((c.tc : Thread Cert.ReferenceMemIdeal.nD Cert.ReferenceMemIdeal.τ).loc Cert.ReferenceMemIdeal.main_arg13) = m ((c.tc : Thread Cert.KernelMemIdeal.nD Cert.KernelMemIdeal.τ).loc Cert.KernelMemIdeal.main_arg13)
      ∧ m' ((c.tc : Thread Cert.ReferenceMemIdeal.nD Cert.ReferenceMemIdeal.τ).loc Cert.ReferenceMemIdeal.main_arg14) = m ((c.tc : Thread Cert.KernelMemIdeal.nD Cert.KernelMemIdeal.τ).loc Cert.KernelMemIdeal.main_arg14)) →
    ∃ (v0 : (c : Dev Cert.KernelMemIdeal.nD) → Buf (Elt Ideal) ((c.tc : Thread Cert.KernelMemIdeal.nD Cert.KernelMemIdeal.τ).loc Cert.KernelMemIdeal.main_v87_0)) (v1 : (c : Dev Cert.KernelMemIdeal.nD) → Buf (Elt Ideal) ((c.tc : Thread Cert.KernelMemIdeal.nD Cert.KernelMemIdeal.τ).loc Cert.KernelMemIdeal.main_v87_1)) (v2 : (c : Dev Cert.KernelMemIdeal.nD) → Buf (Elt Ideal) ((c.tc : Thread Cert.KernelMemIdeal.nD Cert.KernelMemIdeal.τ).loc Cert.KernelMemIdeal.main_v87_2)) (v3 : (c : Dev Cert.KernelMemIdeal.nD) → Buf (Elt Ideal) ((c.tc : Thread Cert.KernelMemIdeal.nD Cert.KernelMemIdeal.τ).loc Cert.KernelMemIdeal.main_v87_3)) (v4 : (c : Dev Cert.KernelMemIdeal.nD) → Buf (Elt Ideal) ((c.tc : Thread Cert.KernelMemIdeal.nD Cert.KernelMemIdeal.τ).loc Cert.KernelMemIdeal.main_v87_4)) (v5 : (c : Dev Cert.KernelMemIdeal.nD) → Buf (Elt Ideal) ((c.tc : Thread Cert.KernelMemIdeal.nD Cert.KernelMemIdeal.τ).loc Cert.KernelMemIdeal.main_v87_5)) (v6 : (c : Dev Cert.KernelMemIdeal.nD) → Buf (Elt Ideal) ((c.tc : Thread Cert.KernelMemIdeal.nD Cert.KernelMemIdeal.τ).loc Cert.KernelMemIdeal.main_v87_6)) (v7 : (c : Dev Cert.KernelMemIdeal.nD) → Buf (Elt Ideal) ((c.tc : Thread Cert.KernelMemIdeal.nD Cert.KernelMemIdeal.τ).loc Cert.KernelMemIdeal.main_v87_7)) (v8 : (c : Dev Cert.KernelMemIdeal.nD) → Buf (Elt Ideal) ((c.tc : Thread Cert.KernelMemIdeal.nD Cert.KernelMemIdeal.τ).loc Cert.KernelMemIdeal.main_v87_8)) (v9 : (c : Dev Cert.KernelMemIdeal.nD) → Buf (Elt Ideal) ((c.tc : Thread Cert.KernelMemIdeal.nD Cert.KernelMemIdeal.τ).loc Cert.KernelMemIdeal.main_v87_9)) (v10 : (c : Dev Cert.KernelMemIdeal.nD) → Buf (Elt Ideal) ((c.tc : Thread Cert.KernelMemIdeal.nD Cert.KernelMemIdeal.τ).loc Cert.KernelMemIdeal.main_v87_10)) (v11 : (c : Dev Cert.KernelMemIdeal.nD) → Buf (Elt Ideal) ((c.tc : Thread Cert.KernelMemIdeal.nD Cert.KernelMemIdeal.τ).loc Cert.KernelMemIdeal.main_v87_11)) (v12 : (c : Dev Cert.KernelMemIdeal.nD) → Buf (Elt Ideal) ((c.tc : Thread Cert.KernelMemIdeal.nD Cert.KernelMemIdeal.τ).loc Cert.KernelMemIdeal.main_v87_12)),
      θ_run (Cert.KernelMemIdeal.defs (F := Ideal)) (onTc (τ := Cert.KernelMemIdeal.τ) (Cert.KernelMemIdeal.main (F := Ideal))) ⟨m, fun _ => 0, g⟩ (fun r => ∀ c : Dev Cert.KernelMemIdeal.nD,
          r.2.mem ((c.tc : Thread Cert.KernelMemIdeal.nD Cert.KernelMemIdeal.τ).loc Cert.KernelMemIdeal.main_v87_0) = v0 c
          ∧ r.2.mem ((c.tc : Thread Cert.KernelMemIdeal.nD Cert.KernelMemIdeal.τ).loc Cert.KernelMemIdeal.main_v87_1) = v1 c
          ∧ r.2.mem ((c.tc : Thread Cert.KernelMemIdeal.nD Cert.KernelMemIdeal.τ).loc Cert.KernelMemIdeal.main_v87_2) = v2 c
          ∧ r.2.mem ((c.tc : Thread Cert.KernelMemIdeal.nD Cert.KernelMemIdeal.τ).loc Cert.KernelMemIdeal.main_v87_3) = v3 c
          ∧ r.2.mem ((c.tc : Thread Cert.KernelMemIdeal.nD Cert.KernelMemIdeal.τ).loc Cert.KernelMemIdeal.main_v87_4) = v4 c
          ∧ r.2.mem ((c.tc : Thread Cert.KernelMemIdeal.nD Cert.KernelMemIdeal.τ).loc Cert.KernelMemIdeal.main_v87_5) = v5 c
          ∧ r.2.mem ((c.tc : Thread Cert.KernelMemIdeal.nD Cert.KernelMemIdeal.τ).loc Cert.KernelMemIdeal.main_v87_6) = v6 c
          ∧ r.2.mem ((c.tc : Thread Cert.KernelMemIdeal.nD Cert.KernelMemIdeal.τ).loc Cert.KernelMemIdeal.main_v87_7) = v7 c
          ∧ r.2.mem ((c.tc : Thread Cert.KernelMemIdeal.nD Cert.KernelMemIdeal.τ).loc Cert.KernelMemIdeal.main_v87_8) = v8 c
          ∧ r.2.mem ((c.tc : Thread Cert.KernelMemIdeal.nD Cert.KernelMemIdeal.τ).loc Cert.KernelMemIdeal.main_v87_9) = v9 c
          ∧ r.2.mem ((c.tc : Thread Cert.KernelMemIdeal.nD Cert.KernelMemIdeal.τ).loc Cert.KernelMemIdeal.main_v87_10) = v10 c
          ∧ r.2.mem ((c.tc : Thread Cert.KernelMemIdeal.nD Cert.KernelMemIdeal.τ).loc Cert.KernelMemIdeal.main_v87_11) = v11 c
          ∧ r.2.mem ((c.tc : Thread Cert.KernelMemIdeal.nD Cert.KernelMemIdeal.τ).loc Cert.KernelMemIdeal.main_v87_12) = v12 c
          ∧ r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
          ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
          ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)
          ∧ r.2.mem ((c.tc : Thread Cert.KernelMemIdeal.nD Cert.KernelMemIdeal.τ).loc Cert.KernelMemIdeal.main_arg3) = m ((c.tc : Thread Cert.KernelMemIdeal.nD Cert.KernelMemIdeal.τ).loc Cert.KernelMemIdeal.main_arg3)
          ∧ r.2.mem ((c.tc : Thread Cert.KernelMemIdeal.nD Cert.KernelMemIdeal.τ).loc Cert.KernelMemIdeal.main_arg4) = m ((c.tc : Thread Cert.KernelMemIdeal.nD Cert.KernelMemIdeal.τ).loc Cert.KernelMemIdeal.main_arg4)
          ∧ r.2.mem ((c.tc : Thread Cert.KernelMemIdeal.nD Cert.KernelMemIdeal.τ).loc Cert.KernelMemIdeal.main_arg5) = m ((c.tc : Thread Cert.KernelMemIdeal.nD Cert.KernelMemIdeal.τ).loc Cert.KernelMemIdeal.main_arg5)
          ∧ r.2.mem ((c.tc : Thread Cert.KernelMemIdeal.nD Cert.KernelMemIdeal.τ).loc Cert.KernelMemIdeal.main_arg6) = m ((c.tc : Thread Cert.KernelMemIdeal.nD Cert.KernelMemIdeal.τ).loc Cert.KernelMemIdeal.main_arg6)
          ∧ r.2.mem ((c.tc : Thread Cert.KernelMemIdeal.nD Cert.KernelMemIdeal.τ).loc Cert.KernelMemIdeal.main_arg7) = m ((c.tc : Thread Cert.KernelMemIdeal.nD Cert.KernelMemIdeal.τ).loc Cert.KernelMemIdeal.main_arg7)
          ∧ r.2.mem ((c.tc : Thread Cert.KernelMemIdeal.nD Cert.KernelMemIdeal.τ).loc Cert.KernelMemIdeal.main_arg8) = m ((c.tc : Thread Cert.KernelMemIdeal.nD Cert.KernelMemIdeal.τ).loc Cert.KernelMemIdeal.main_arg8)
          ∧ r.2.mem ((c.tc : Thread Cert.KernelMemIdeal.nD Cert.KernelMemIdeal.τ).loc Cert.KernelMemIdeal.main_arg9) = m ((c.tc : Thread Cert.KernelMemIdeal.nD Cert.KernelMemIdeal.τ).loc Cert.KernelMemIdeal.main_arg9)
          ∧ r.2.mem ((c.tc : Thread Cert.KernelMemIdeal.nD Cert.KernelMemIdeal.τ).loc Cert.KernelMemIdeal.main_arg10) = m ((c.tc : Thread Cert.KernelMemIdeal.nD Cert.KernelMemIdeal.τ).loc Cert.KernelMemIdeal.main_arg10)
          ∧ r.2.mem ((c.tc : Thread Cert.KernelMemIdeal.nD Cert.KernelMemIdeal.τ).loc Cert.KernelMemIdeal.main_arg11) = m ((c.tc : Thread Cert.KernelMemIdeal.nD Cert.KernelMemIdeal.τ).loc Cert.KernelMemIdeal.main_arg11)
          ∧ r.2.mem ((c.tc : Thread Cert.KernelMemIdeal.nD Cert.KernelMemIdeal.τ).loc Cert.KernelMemIdeal.main_arg12) = m ((c.tc : Thread Cert.KernelMemIdeal.nD Cert.KernelMemIdeal.τ).loc Cert.KernelMemIdeal.main_arg12)
          ∧ r.2.mem ((c.tc : Thread Cert.KernelMemIdeal.nD Cert.KernelMemIdeal.τ).loc Cert.KernelMemIdeal.main_arg13) = m ((c.tc : Thread Cert.KernelMemIdeal.nD Cert.KernelMemIdeal.τ).loc Cert.KernelMemIdeal.main_arg13)
          ∧ r.2.mem ((c.tc : Thread Cert.KernelMemIdeal.nD Cert.KernelMemIdeal.τ).loc Cert.KernelMemIdeal.main_arg14) = m ((c.tc : Thread Cert.KernelMemIdeal.nD Cert.KernelMemIdeal.τ).loc Cert.KernelMemIdeal.main_arg14))
      ∧ θ_run (Cert.ReferenceMemIdeal.defs (F := Ideal)) (onTc (τ := Cert.ReferenceMemIdeal.τ) (Cert.ReferenceMemIdeal.main (F := Ideal))) ⟨m', fun _ => 0, g'⟩ (fun r => ∀ c : Dev Cert.ReferenceMemIdeal.nD,
          r.2.mem ((c.tc : Thread Cert.ReferenceMemIdeal.nD Cert.ReferenceMemIdeal.τ).loc Cert.ReferenceMemIdeal.main_v221) = v0 c
          ∧ r.2.mem ((c.tc : Thread Cert.ReferenceMemIdeal.nD Cert.ReferenceMemIdeal.τ).loc Cert.ReferenceMemIdeal.main_v223) = v1 c
          ∧ r.2.mem ((c.tc : Thread Cert.ReferenceMemIdeal.nD Cert.ReferenceMemIdeal.τ).loc Cert.ReferenceMemIdeal.main_v225) = v2 c
          ∧ r.2.mem ((c.tc : Thread Cert.ReferenceMemIdeal.nD Cert.ReferenceMemIdeal.τ).loc Cert.ReferenceMemIdeal.main_v227) = v3 c
          ∧ r.2.mem ((c.tc : Thread Cert.ReferenceMemIdeal.nD Cert.ReferenceMemIdeal.τ).loc Cert.ReferenceMemIdeal.main_v228) = v4 c
          ∧ r.2.mem ((c.tc : Thread Cert.ReferenceMemIdeal.nD Cert.ReferenceMemIdeal.τ).loc Cert.ReferenceMemIdeal.main_v230) = v5 c
          ∧ r.2.mem ((c.tc : Thread Cert.ReferenceMemIdeal.nD Cert.ReferenceMemIdeal.τ).loc Cert.ReferenceMemIdeal.main_v231) = v6 c
          ∧ r.2.mem ((c.tc : Thread Cert.ReferenceMemIdeal.nD Cert.ReferenceMemIdeal.τ).loc Cert.ReferenceMemIdeal.main_v232) = v7 c
          ∧ r.2.mem ((c.tc : Thread Cert.ReferenceMemIdeal.nD Cert.ReferenceMemIdeal.τ).loc Cert.ReferenceMemIdeal.main_v233) = v8 c
          ∧ r.2.mem ((c.tc : Thread Cert.ReferenceMemIdeal.nD Cert.ReferenceMemIdeal.τ).loc Cert.ReferenceMemIdeal.main_v234) = v9 c
          ∧ r.2.mem ((c.tc : Thread Cert.ReferenceMemIdeal.nD Cert.ReferenceMemIdeal.τ).loc Cert.ReferenceMemIdeal.main_v235) = v10 c
          ∧ r.2.mem ((c.tc : Thread Cert.ReferenceMemIdeal.nD Cert.ReferenceMemIdeal.τ).loc Cert.ReferenceMemIdeal.main_v236) = v11 c
          ∧ r.2.mem ((c.tc : Thread Cert.ReferenceMemIdeal.nD Cert.ReferenceMemIdeal.τ).loc Cert.ReferenceMemIdeal.main_v237) = v12 c
          ∧ r.2.mem ((c.tc : Thread Cert.ReferenceMemIdeal.nD Cert.ReferenceMemIdeal.τ).loc Cert.ReferenceMemIdeal.main_arg0) = m' ((c.tc : Thread Cert.ReferenceMemIdeal.nD Cert.ReferenceMemIdeal.τ).loc Cert.ReferenceMemIdeal.main_arg0)
          ∧ r.2.mem ((c.tc : Thread Cert.ReferenceMemIdeal.nD Cert.ReferenceMemIdeal.τ).loc Cert.ReferenceMemIdeal.main_arg1) = m' ((c.tc : Thread Cert.ReferenceMemIdeal.nD Cert.ReferenceMemIdeal.τ).loc Cert.ReferenceMemIdeal.main_arg1)
          ∧ r.2.mem ((c.tc : Thread Cert.ReferenceMemIdeal.nD Cert.ReferenceMemIdeal.τ).loc Cert.ReferenceMemIdeal.main_arg2) = m' ((c.tc : Thread Cert.ReferenceMemIdeal.nD Cert.ReferenceMemIdeal.τ).loc Cert.ReferenceMemIdeal.main_arg2)
          ∧ r.2.mem ((c.tc : Thread Cert.ReferenceMemIdeal.nD Cert.ReferenceMemIdeal.τ).loc Cert.ReferenceMemIdeal.main_arg3) = m' ((c.tc : Thread Cert.ReferenceMemIdeal.nD Cert.ReferenceMemIdeal.τ).loc Cert.ReferenceMemIdeal.main_arg3)
          ∧ r.2.mem ((c.tc : Thread Cert.ReferenceMemIdeal.nD Cert.ReferenceMemIdeal.τ).loc Cert.ReferenceMemIdeal.main_arg4) = m' ((c.tc : Thread Cert.ReferenceMemIdeal.nD Cert.ReferenceMemIdeal.τ).loc Cert.ReferenceMemIdeal.main_arg4)
          ∧ r.2.mem ((c.tc : Thread Cert.ReferenceMemIdeal.nD Cert.ReferenceMemIdeal.τ).loc Cert.ReferenceMemIdeal.main_arg5) = m' ((c.tc : Thread Cert.ReferenceMemIdeal.nD Cert.ReferenceMemIdeal.τ).loc Cert.ReferenceMemIdeal.main_arg5)
          ∧ r.2.mem ((c.tc : Thread Cert.ReferenceMemIdeal.nD Cert.ReferenceMemIdeal.τ).loc Cert.ReferenceMemIdeal.main_arg6) = m' ((c.tc : Thread Cert.ReferenceMemIdeal.nD Cert.ReferenceMemIdeal.τ).loc Cert.ReferenceMemIdeal.main_arg6)
          ∧ r.2.mem ((c.tc : Thread Cert.ReferenceMemIdeal.nD Cert.ReferenceMemIdeal.τ).loc Cert.ReferenceMemIdeal.main_arg7) = m' ((c.tc : Thread Cert.ReferenceMemIdeal.nD Cert.ReferenceMemIdeal.τ).loc Cert.ReferenceMemIdeal.main_arg7)
          ∧ r.2.mem ((c.tc : Thread Cert.ReferenceMemIdeal.nD Cert.ReferenceMemIdeal.τ).loc Cert.ReferenceMemIdeal.main_arg8) = m' ((c.tc : Thread Cert.ReferenceMemIdeal.nD Cert.ReferenceMemIdeal.τ).loc Cert.ReferenceMemIdeal.main_arg8)
          ∧ r.2.mem ((c.tc : Thread Cert.ReferenceMemIdeal.nD Cert.ReferenceMemIdeal.τ).loc Cert.ReferenceMemIdeal.main_arg9) = m' ((c.tc : Thread Cert.ReferenceMemIdeal.nD Cert.ReferenceMemIdeal.τ).loc Cert.ReferenceMemIdeal.main_arg9)
          ∧ r.2.mem ((c.tc : Thread Cert.ReferenceMemIdeal.nD Cert.ReferenceMemIdeal.τ).loc Cert.ReferenceMemIdeal.main_arg10) = m' ((c.tc : Thread Cert.ReferenceMemIdeal.nD Cert.ReferenceMemIdeal.τ).loc Cert.ReferenceMemIdeal.main_arg10)
          ∧ r.2.mem ((c.tc : Thread Cert.ReferenceMemIdeal.nD Cert.ReferenceMemIdeal.τ).loc Cert.ReferenceMemIdeal.main_arg11) = m' ((c.tc : Thread Cert.ReferenceMemIdeal.nD Cert.ReferenceMemIdeal.τ).loc Cert.ReferenceMemIdeal.main_arg11)
          ∧ r.2.mem ((c.tc : Thread Cert.ReferenceMemIdeal.nD Cert.ReferenceMemIdeal.τ).loc Cert.ReferenceMemIdeal.main_arg12) = m' ((c.tc : Thread Cert.ReferenceMemIdeal.nD Cert.ReferenceMemIdeal.τ).loc Cert.ReferenceMemIdeal.main_arg12)
          ∧ r.2.mem ((c.tc : Thread Cert.ReferenceMemIdeal.nD Cert.ReferenceMemIdeal.τ).loc Cert.ReferenceMemIdeal.main_arg13) = m' ((c.tc : Thread Cert.ReferenceMemIdeal.nD Cert.ReferenceMemIdeal.τ).loc Cert.ReferenceMemIdeal.main_arg13)
          ∧ r.2.mem ((c.tc : Thread Cert.ReferenceMemIdeal.nD Cert.ReferenceMemIdeal.τ).loc Cert.ReferenceMemIdeal.main_arg14) = m' ((c.tc : Thread Cert.ReferenceMemIdeal.nD Cert.ReferenceMemIdeal.τ).loc Cert.ReferenceMemIdeal.main_arg14))

def preserves_KernelLoss_KernelLossIdeal : Prop :=
  True

def algebraic_KernelLossIdeal_ReferenceLossIdeal_pre_loss_finite [hKernelLossIdeal : Cert.KernelLossIdeal.Facts] [hReferenceLossIdeal : Cert.ReferenceLossIdeal.Facts] [hPre_loss_finite : Cert.Pre_loss_finite.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal_loss_finite m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)
      ∧ m' ((c.tc : Thread Cert.ReferenceLossIdeal.nD Cert.ReferenceLossIdeal.τ).loc Cert.ReferenceLossIdeal.main_arg5) = m ((c.tc : Thread Cert.KernelLossIdeal.nD Cert.KernelLossIdeal.τ).loc Cert.KernelLossIdeal.main_arg5)
      ∧ m' ((c.tc : Thread Cert.ReferenceLossIdeal.nD Cert.ReferenceLossIdeal.τ).loc Cert.ReferenceLossIdeal.main_arg6) = m ((c.tc : Thread Cert.KernelLossIdeal.nD Cert.KernelLossIdeal.τ).loc Cert.KernelLossIdeal.main_arg6)) →
    ∃ (v0 : (c : Dev Cert.KernelLossIdeal.nD) → Buf (Elt Ideal) ((c.tc : Thread Cert.KernelLossIdeal.nD Cert.KernelLossIdeal.τ).loc Cert.KernelLossIdeal.main_v11_0)) (v1 : (c : Dev Cert.KernelLossIdeal.nD) → Buf (Elt Ideal) ((c.tc : Thread Cert.KernelLossIdeal.nD Cert.KernelLossIdeal.τ).loc Cert.KernelLossIdeal.main_v11_1)) (v2 : (c : Dev Cert.KernelLossIdeal.nD) → Buf (Elt Ideal) ((c.tc : Thread Cert.KernelLossIdeal.nD Cert.KernelLossIdeal.τ).loc Cert.KernelLossIdeal.main_v11_2)) (v3 : (c : Dev Cert.KernelLossIdeal.nD) → Buf (Elt Ideal) ((c.tc : Thread Cert.KernelLossIdeal.nD Cert.KernelLossIdeal.τ).loc Cert.KernelLossIdeal.main_v11_3)) (v4 : (c : Dev Cert.KernelLossIdeal.nD) → Buf (Elt Ideal) ((c.tc : Thread Cert.KernelLossIdeal.nD Cert.KernelLossIdeal.τ).loc Cert.KernelLossIdeal.main_v11_4)) (v5 : (c : Dev Cert.KernelLossIdeal.nD) → Buf (Elt Ideal) ((c.tc : Thread Cert.KernelLossIdeal.nD Cert.KernelLossIdeal.τ).loc Cert.KernelLossIdeal.main_v11_5)) (v6 : (c : Dev Cert.KernelLossIdeal.nD) → Buf (Elt Ideal) ((c.tc : Thread Cert.KernelLossIdeal.nD Cert.KernelLossIdeal.τ).loc Cert.KernelLossIdeal.main_v11_6)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v11_0) = v0 c
          ∧ r.2.mem ((c.tc : Thread Cert.KernelLossIdeal.nD Cert.KernelLossIdeal.τ).loc Cert.KernelLossIdeal.main_v11_1) = v1 c
          ∧ r.2.mem ((c.tc : Thread Cert.KernelLossIdeal.nD Cert.KernelLossIdeal.τ).loc Cert.KernelLossIdeal.main_v11_2) = v2 c
          ∧ r.2.mem ((c.tc : Thread Cert.KernelLossIdeal.nD Cert.KernelLossIdeal.τ).loc Cert.KernelLossIdeal.main_v11_3) = v3 c
          ∧ r.2.mem ((c.tc : Thread Cert.KernelLossIdeal.nD Cert.KernelLossIdeal.τ).loc Cert.KernelLossIdeal.main_v11_4) = v4 c
          ∧ r.2.mem ((c.tc : Thread Cert.KernelLossIdeal.nD Cert.KernelLossIdeal.τ).loc Cert.KernelLossIdeal.main_v11_5) = v5 c
          ∧ r.2.mem ((c.tc : Thread Cert.KernelLossIdeal.nD Cert.KernelLossIdeal.τ).loc Cert.KernelLossIdeal.main_v11_6) = v6 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
          ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5)
          ∧ r.2.mem ((c.tc : Thread Cert.KernelLossIdeal.nD Cert.KernelLossIdeal.τ).loc Cert.KernelLossIdeal.main_arg6) = m ((c.tc : Thread Cert.KernelLossIdeal.nD Cert.KernelLossIdeal.τ).loc Cert.KernelLossIdeal.main_arg6))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v78) = v0 c
          ∧ r.2.mem ((c.tc : Thread Cert.ReferenceLossIdeal.nD Cert.ReferenceLossIdeal.τ).loc Cert.ReferenceLossIdeal.main_v82) = v1 c
          ∧ r.2.mem ((c.tc : Thread Cert.ReferenceLossIdeal.nD Cert.ReferenceLossIdeal.τ).loc Cert.ReferenceLossIdeal.main_v84) = v2 c
          ∧ r.2.mem ((c.tc : Thread Cert.ReferenceLossIdeal.nD Cert.ReferenceLossIdeal.τ).loc Cert.ReferenceLossIdeal.main_v85) = v3 c
          ∧ r.2.mem ((c.tc : Thread Cert.ReferenceLossIdeal.nD Cert.ReferenceLossIdeal.τ).loc Cert.ReferenceLossIdeal.main_v87) = v4 c
          ∧ r.2.mem ((c.tc : Thread Cert.ReferenceLossIdeal.nD Cert.ReferenceLossIdeal.τ).loc Cert.ReferenceLossIdeal.main_v88) = v5 c
          ∧ r.2.mem ((c.tc : Thread Cert.ReferenceLossIdeal.nD Cert.ReferenceLossIdeal.τ).loc Cert.ReferenceLossIdeal.main_v90) = v6 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4)
          ∧ r.2.mem ((c.tc : Thread Cert.ReferenceLossIdeal.nD Cert.ReferenceLossIdeal.τ).loc Cert.ReferenceLossIdeal.main_arg5) = m' ((c.tc : Thread Cert.ReferenceLossIdeal.nD Cert.ReferenceLossIdeal.τ).loc Cert.ReferenceLossIdeal.main_arg5)
          ∧ r.2.mem ((c.tc : Thread Cert.ReferenceLossIdeal.nD Cert.ReferenceLossIdeal.τ).loc Cert.ReferenceLossIdeal.main_arg6) = m' ((c.tc : Thread Cert.ReferenceLossIdeal.nD Cert.ReferenceLossIdeal.τ).loc Cert.ReferenceLossIdeal.main_arg6))

def Claim : Prop :=
  ∃ (hKernelKv : Cert.KernelKv.Facts) (hKernelKvIdeal : Cert.KernelKvIdeal.Facts) (hReferenceKvIdeal : Cert.ReferenceKvIdeal.Facts) (hKernelAttn : Cert.KernelAttn.Facts) (hKernelAttnIdeal : Cert.KernelAttnIdeal.Facts) (hReferenceAttnIdeal : Cert.ReferenceAttnIdeal.Facts) (hKernelFfn : Cert.KernelFfn.Facts) (hKernelFfnIdeal : Cert.KernelFfnIdeal.Facts) (hReferenceFfnIdeal : Cert.ReferenceFfnIdeal.Facts) (hKernelIn : Cert.KernelIn.Facts) (hKernelInIdeal : Cert.KernelInIdeal.Facts) (hReferenceInIdeal : Cert.ReferenceInIdeal.Facts) (hKernelMem : Cert.KernelMem.Facts) (hKernelMemIdeal : Cert.KernelMemIdeal.Facts) (hReferenceMemIdeal : Cert.ReferenceMemIdeal.Facts) (hKernelLoss : Cert.KernelLoss.Facts) (hKernelLossIdeal : Cert.KernelLossIdeal.Facts) (hReferenceLossIdeal : Cert.ReferenceLossIdeal.Facts) (hPre_attn_finite : Cert.Pre_attn_finite.Facts) (hPre_ffn_finite : Cert.Pre_ffn_finite.Facts) (hPre_x_finite : Cert.Pre_x_finite.Facts) (hPre_mem_finite : Cert.Pre_mem_finite.Facts) (hPre_loss_finite : Cert.Pre_loss_finite.Facts),
    quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelAttn (hKernelAttn := hKernelAttn)
    ∧ quiescent_KernelAttnIdeal (hKernelAttnIdeal := hKernelAttnIdeal)
    ∧ quiescent_KernelAttnIdeal_pre_attn_finite (hKernelAttnIdeal := hKernelAttnIdeal) (hPre_attn_finite := hPre_attn_finite)
    ∧ quiescent_ReferenceAttnIdeal (hReferenceAttnIdeal := hReferenceAttnIdeal)
    ∧ quiescent_ReferenceAttnIdeal_pre_attn_finite (hReferenceAttnIdeal := hReferenceAttnIdeal) (hPre_attn_finite := hPre_attn_finite)
    ∧ quiescent_KernelFfn (hKernelFfn := hKernelFfn)
    ∧ quiescent_KernelFfnIdeal (hKernelFfnIdeal := hKernelFfnIdeal)
    ∧ quiescent_KernelFfnIdeal_pre_ffn_finite (hKernelFfnIdeal := hKernelFfnIdeal) (hPre_ffn_finite := hPre_ffn_finite)
    ∧ quiescent_ReferenceFfnIdeal (hReferenceFfnIdeal := hReferenceFfnIdeal)
    ∧ quiescent_ReferenceFfnIdeal_pre_ffn_finite (hReferenceFfnIdeal := hReferenceFfnIdeal) (hPre_ffn_finite := hPre_ffn_finite)
    ∧ quiescent_KernelIn (hKernelIn := hKernelIn)
    ∧ quiescent_KernelInIdeal (hKernelInIdeal := hKernelInIdeal)
    ∧ quiescent_KernelInIdeal_pre_x_finite (hKernelInIdeal := hKernelInIdeal) (hPre_x_finite := hPre_x_finite)
    ∧ quiescent_ReferenceInIdeal (hReferenceInIdeal := hReferenceInIdeal)
    ∧ quiescent_ReferenceInIdeal_pre_x_finite (hReferenceInIdeal := hReferenceInIdeal) (hPre_x_finite := hPre_x_finite)
    ∧ quiescent_KernelMem (hKernelMem := hKernelMem)
    ∧ quiescent_KernelMemIdeal (hKernelMemIdeal := hKernelMemIdeal)
    ∧ quiescent_KernelMemIdeal_pre_mem_finite (hKernelMemIdeal := hKernelMemIdeal) (hPre_mem_finite := hPre_mem_finite)
    ∧ quiescent_ReferenceMemIdeal (hReferenceMemIdeal := hReferenceMemIdeal)
    ∧ quiescent_ReferenceMemIdeal_pre_mem_finite (hReferenceMemIdeal := hReferenceMemIdeal) (hPre_mem_finite := hPre_mem_finite)
    ∧ quiescent_KernelLoss (hKernelLoss := hKernelLoss)
    ∧ quiescent_KernelLossIdeal (hKernelLossIdeal := hKernelLossIdeal)
    ∧ quiescent_KernelLossIdeal_pre_loss_finite (hKernelLossIdeal := hKernelLossIdeal) (hPre_loss_finite := hPre_loss_finite)
    ∧ quiescent_ReferenceLossIdeal (hReferenceLossIdeal := hReferenceLossIdeal)
    ∧ quiescent_ReferenceLossIdeal_pre_loss_finite (hReferenceLossIdeal := hReferenceLossIdeal) (hPre_loss_finite := hPre_loss_finite)
    ∧ preserves_KernelKv_KernelKvIdeal
    ∧ algebraic_KernelKvIdeal_ReferenceKvIdeal (hKernelKvIdeal := hKernelKvIdeal) (hReferenceKvIdeal := hReferenceKvIdeal)
    ∧ preserves_KernelAttn_KernelAttnIdeal
    ∧ algebraic_KernelAttnIdeal_ReferenceAttnIdeal_pre_attn_finite (hKernelAttnIdeal := hKernelAttnIdeal) (hReferenceAttnIdeal := hReferenceAttnIdeal) (hPre_attn_finite := hPre_attn_finite)
    ∧ preserves_KernelFfn_KernelFfnIdeal
    ∧ algebraic_KernelFfnIdeal_ReferenceFfnIdeal_pre_ffn_finite (hKernelFfnIdeal := hKernelFfnIdeal) (hReferenceFfnIdeal := hReferenceFfnIdeal) (hPre_ffn_finite := hPre_ffn_finite)
    ∧ preserves_KernelIn_KernelInIdeal
    ∧ algebraic_KernelInIdeal_ReferenceInIdeal_pre_x_finite (hKernelInIdeal := hKernelInIdeal) (hReferenceInIdeal := hReferenceInIdeal) (hPre_x_finite := hPre_x_finite)
    ∧ preserves_KernelMem_KernelMemIdeal
    ∧ algebraic_KernelMemIdeal_ReferenceMemIdeal_pre_mem_finite (hKernelMemIdeal := hKernelMemIdeal) (hReferenceMemIdeal := hReferenceMemIdeal) (hPre_mem_finite := hPre_mem_finite)
    ∧ preserves_KernelLoss_KernelLossIdeal
    ∧ algebraic_KernelLossIdeal_ReferenceLossIdeal_pre_loss_finite (hKernelLossIdeal := hKernelLossIdeal) (hReferenceLossIdeal := hReferenceLossIdeal) (hPre_loss_finite := hPre_loss_finite)
-- ==== Pre_attn_finite.lean ====
abbrev S1x4096x8x64 : Shape := ⟨4, ![1, 4096, 8, 64]⟩
abbrev S1x4096x2x64 : Shape := ⟨4, ![1, 4096, 2, 64]⟩
abbrev S1x8 : Shape := ⟨2, ![1, 8]⟩
abbrev S1x4096x512 : Shape := ⟨3, ![1, 4096, 512]⟩
abbrev S_ : Shape := ⟨0, ![]⟩

class Facts : Prop where
  bcast_S_S1x4096x8x64 : S_.BroadcastsInDim S1x4096x8x64 (![] : Fin 0 → Fin S1x4096x8x64.rank)
  bcast_S_S1x4096x2x64 : S_.BroadcastsInDim S1x4096x2x64 (![] : Fin 0 → Fin S1x4096x2x64.rank)
  bcast_S_S1x8 : S_.BroadcastsInDim S1x8 (![] : Fin 0 → Fin S1x8.rank)
  bcast_S_S1x4096x512 : S_.BroadcastsInDim S1x4096x512 (![] : Fin 0 → Fin S1x4096x512.rank)

variable [Facts]

def fn {F : FTy → Type} [FloatOps F] (main_arg0 : FVec F S1x4096x8x64 .f32) (main_arg1 : FVec F S1x4096x2x64 .f32) (main_arg2 : FVec F S1x4096x2x64 .f32) (main_arg3 : FVec F S1x8 .f32) (main_arg4 : FVec F S1x4096x512 .f32) : IVec S1x4096x8x64 1 × IVec S1x4096x2x64 1 × IVec S1x4096x2x64 1 × IVec S1x8 1 × IVec S1x4096x512 1 :=
  let main_v0 : FVec F S1x4096x8x64 .f32 := Host.absf main_arg0
  let main_cst : FVec F S_ .f32 := constant S_ .f32 0x7F800000#32
  let main_v1 : FVec F S1x4096x8x64 .f32 := broadcastInDim S1x4096x8x64 ![] bcast_S_S1x4096x8x64 main_cst
  let main_v2 : IVec S1x4096x8x64 1 := cmpf .olt main_v0 main_v1
  let main_v3 : FVec F S1x4096x2x64 .f32 := Host.absf main_arg1
  let main_cst_0 : FVec F S_ .f32 := constant S_ .f32 0x7F800000#32
  let main_v4 : FVec F S1x4096x2x64 .f32 := broadcastInDim S1x4096x2x64 ![] bcast_S_S1x4096x2x64 main_cst_0
  let main_v5 : IVec S1x4096x2x64 1 := cmpf .olt main_v3 main_v4
  let main_v6 : FVec F S1x4096x2x64 .f32 := Host.absf main_arg2
  let main_cst_1 : FVec F S_ .f32 := constant S_ .f32 0x7F800000#32
  let main_v7 : FVec F S1x4096x2x64 .f32 := broadcastInDim S1x4096x2x64 ![] bcast_S_S1x4096x2x64 main_cst_1
  let main_v8 : IVec S1x4096x2x64 1 := cmpf .olt main_v6 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_v12 : FVec F S1x4096x512 .f32 := Host.absf main_arg4
  let main_cst_3 : FVec F S_ .f32 := constant S_ .f32 0x7F800000#32
  let main_v13 : FVec F S1x4096x512 .f32 := broadcastInDim S1x4096x512 ![] bcast_S_S1x4096x512 main_cst_3
  let main_v14 : IVec S1x4096x512 1 := cmpf .olt main_v12 main_v13
  (main_v2, main_v5, main_v8, main_v11, main_v14)
-- ==== Pre_ffn_finite.lean ====
abbrev S1x4096x1024 : Shape := ⟨3, ![1, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn {F : FTy → Type} [FloatOps F] (main_arg0 : FVec F S1x4096x1024 .f32) (main_arg1 : FVec F S1x1024 .f32) (main_arg2 : FVec F S1x1024x2816 .f32) (main_arg3 : FVec F S1x1024x2816 .f32) (main_arg4 : FVec F S1x2816x1024 .f32) (main_arg5 : FVec F S1x4096x1024 .f32) : IVec S1x4096x1024 1 × IVec S1x1024 1 × IVec S1x1024x2816 1 × IVec S1x2816x1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2816 .f32 := Host.absf main_arg3
  let main_cst_1 : FVec F S_ .f32 := constant S_ .f32 0x7F800000#32
  let main_v7 : FVec F S1x1024x2816 .f32 := broadcastInDim S1x1024x2816 ![] bcast_S_S1x1024x2816 main_cst_1
  let main_v8 : IVec S1x1024x2816 1 := cmpf .olt main_v6 main_v7
  let main_v9 : FVec F S1x2816x1024 .f32 := Host.absf main_arg4
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  let main_v12 : FVec F S1x4096x1024 .f32 := Host.absf main_arg5
  let main_cst_3 : FVec F S_ .f32 := constant S_ .f32 0x7F800000#32
  let main_v13 : FVec F S1x4096x1024 .f32 := broadcastInDim S1x4096x1024 ![] bcast_S_S1x4096x1024 main_cst_3
  let main_v14 : IVec S1x4096x1024 1 := cmpf .olt main_v12 main_v13
  (main_v2, main_v5, main_v8, main_v11, main_v14)
-- ==== Pre_loss_finite.lean ====
abbrev S1x4096x1024 : Shape := ⟨3, ![1, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn {F : FTy → Type} [FloatOps F] (main_arg0 : FVec F S1x4096x1024 .f32) (main_arg1 : FVec F S1x4096x1024 .f32) (main_arg2 : FVec F S1x1024 .f32) (main_arg3 : FVec F S1x1024x2816 .f32) (main_arg4 : FVec F S1x1024x2816 .f32) (main_arg5 : FVec F S1x2816x1024 .f32) (main_arg6 : FVec F S1024 .f32) : IVec S1x4096x1024 1 × IVec S1x1024 1 × IVec S1x1024x2816 1 × IVec S1x1024x2816 1 × IVec S1x2816x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2816 .f32 := Host.absf main_arg3
  let main_cst_1 : FVec F S_ .f32 := constant S_ .f32 0x7F800000#32
  let main_v7 : FVec F S1x1024x2816 .f32 := broadcastInDim S1x1024x2816 ![] bcast_S_S1x1024x2816 main_cst_1
  let main_v8 : IVec S1x1024x2816 1 := cmpf .olt main_v6 main_v7
  let main_v9 : FVec F S1x1024x2816 .f32 := Host.absf main_arg4
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_v12 : FVec F S1x2816x1024 .f32 := Host.absf main_arg5
  let main_cst_3 : FVec F S_ .f32 := constant S_ .f32 0x7F800000#32
  let main_v13 : FVec F S1x2816x1024 .f32 := broadcastInDim S1x2816x1024 ![] bcast_S_S1x2816x1024 main_cst_3
  let main_v14 : IVec S1x2816x1024 1 := cmpf .olt main_v12 main_v13
  (main_v2, main_v5, main_v8, main_v11, main_v14)
-- ==== Pre_mem_finite.lean ====
abbrev S1x4096x1024 : Shape := ⟨3, ![1, 4096, 1024]⟩
abbrev S1x4096x512 : Shape := ⟨3, ![1, 4096, 512]⟩
abbrev S1x512 : Shape := ⟨2, ![1, 512]⟩
abbrev S1x256x1024 : Shape := ⟨3, ![1, 256, 1024]⟩
abbrev S1x1024x1024 : Shape := ⟨3, ![1, 1024, 1024]⟩
abbrev S1x1024 : Shape := ⟨2, ![1, 1024]⟩
abbrev S1x1024x2048 : Shape := ⟨3, ![1, 1024, 2048]⟩
abbrev S_ : Shape := ⟨0, ![]⟩

class Facts : Prop where
  bcast_S_S1x4096x1024 : S_.BroadcastsInDim S1x4096x1024 (![] : Fin 0 → Fin S1x4096x1024.rank)
  bcast_S_S1x4096x512 : S_.BroadcastsInDim S1x4096x512 (![] : Fin 0 → Fin S1x4096x512.rank)
  bcast_S_S1x512 : S_.BroadcastsInDim S1x512 (![] : Fin 0 → Fin S1x512.rank)
  bcast_S_S1x256x1024 : S_.BroadcastsInDim S1x256x1024 (![] : Fin 0 → Fin S1x256x1024.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)
  bcast_S_S1x1024x2048 : S_.BroadcastsInDim S1x1024x2048 (![] : Fin 0 → Fin S1x1024x2048.rank)

variable [Facts]

def fn_part2 {F : FTy → Type} [FloatOps F] (main_arg12 : FVec F S1x1024x2048 .f32) (main_arg13 : FVec F S1x1024x1024 .f32) (main_arg14 : FVec F S1x4096x1024 .f32) (main_v2 : IVec S1x4096x1024 1) (main_v5 : IVec S1x4096x512 1) (main_v8 : IVec S1x512 1) (main_v11 : IVec S1x4096x512 1) (main_v14 : IVec S1x256x1024 1) (main_v17 : IVec S1x512 1) (main_v20 : IVec S1x512 1) (main_v23 : IVec S1x1024x1024 1) (main_v26 : IVec S1x1024 1) (main_v29 : IVec S1x1024 1) (main_v32 : IVec S1x1024 1) (main_v35 : IVec S1x1024x1024 1) : IVec S1x4096x1024 1 × IVec S1x4096x512 1 × IVec S1x512 1 × IVec S1x4096x512 1 × IVec S1x256x1024 1 × IVec S1x512 1 × IVec S1x512 1 × IVec S1x1024x1024 1 × IVec S1x1024 1 × IVec S1x1024 1 × IVec S1x1024 1 × IVec S1x1024x1024 1 × IVec S1x1024x2048 1 × IVec S1x1024x1024 1 × IVec S1x4096x1024 1 :=
  let main_v36 : FVec F S1x1024x2048 .f32 := Host.absf main_arg12
  let main_cst_11 : FVec F S_ .f32 := constant S_ .f32 0x7F800000#32
  let main_v37 : FVec F S1x1024x2048 .f32 := broadcastInDim S1x1024x2048 ![] bcast_S_S1x1024x2048 main_cst_11
  let main_v38 : IVec S1x1024x2048 1 := cmpf .olt main_v36 main_v37
  let main_v39 : FVec F S1x1024x1024 .f32 := Host.absf main_arg13
  let main_cst_12 : FVec F S_ .f32 := constant S_ .f32 0x7F800000#32
  let main_v40 : FVec F S1x1024x1024 .f32 := broadcastInDim S1x1024x1024 ![] bcast_S_S1x1024x1024 main_cst_12
  let main_v41 : IVec S1x1024x1024 1 := cmpf .olt main_v39 main_v40
  let main_v42 : FVec F S1x4096x1024 .f32 := Host.absf main_arg14
  let main_cst_13 : FVec F S_ .f32 := constant S_ .f32 0x7F800000#32
  let main_v43 : FVec F S1x4096x1024 .f32 := broadcastInDim S1x4096x1024 ![] bcast_S_S1x4096x1024 main_cst_13
  let main_v44 : IVec S1x4096x1024 1 := cmpf .olt main_v42 main_v43
  (main_v2, main_v5, main_v8, main_v11, main_v14, main_v17, main_v20, main_v23, main_v26, main_v29, main_v32, main_v35, main_v38, main_v41, main_v44)

def fn_part1 {F : FTy → Type} [FloatOps F] (main_arg6 : FVec F S1x512 .f32) (main_arg7 : FVec F S1x1024x1024 .f32) (main_arg8 : FVec F S1x1024 .f32) (main_arg9 : FVec F S1x1024 .f32) (main_arg10 : FVec F S1x1024 .f32) (main_arg11 : FVec F S1x1024x1024 .f32) (main_arg12 : FVec F S1x1024x2048 .f32) (main_arg13 : FVec F S1x1024x1024 .f32) (main_arg14 : FVec F S1x4096x1024 .f32) (main_v2 : IVec S1x4096x1024 1) (main_v5 : IVec S1x4096x512 1) (main_v8 : IVec S1x512 1) (main_v11 : IVec S1x4096x512 1) (main_v14 : IVec S1x256x1024 1) (main_v17 : IVec S1x512 1) : IVec S1x4096x1024 1 × IVec S1x4096x512 1 × IVec S1x512 1 × IVec S1x4096x512 1 × IVec S1x256x1024 1 × IVec S1x512 1 × IVec S1x512 1 × IVec S1x1024x1024 1 × IVec S1x1024 1 × IVec S1x1024 1 × IVec S1x1024 1 × IVec S1x1024x1024 1 × IVec S1x1024x2048 1 × IVec S1x1024x1024 1 × IVec S1x4096x1024 1 :=
  let main_v18 : FVec F S1x512 .f32 := Host.absf main_arg6
  let main_cst_5 : FVec F S_ .f32 := constant S_ .f32 0x7F800000#32
  let main_v19 : FVec F S1x512 .f32 := broadcastInDim S1x512 ![] bcast_S_S1x512 main_cst_5
  let main_v20 : IVec S1x512 1 := cmpf .olt main_v18 main_v19
  let main_v21 : FVec F S1x1024x1024 .f32 := Host.absf main_arg7
  let main_cst_6 : FVec F S_ .f32 := constant S_ .f32 0x7F800000#32
  let main_v22 : FVec F S1x1024x1024 .f32 := broadcastInDim S1x1024x1024 ![] bcast_S_S1x1024x1024 main_cst_6
  let main_v23 : IVec S1x1024x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  let main_v27 : FVec F S1x1024 .f32 := Host.absf main_arg9
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  let main_v30 : FVec F S1x1024 .f32 := Host.absf main_arg10
  let main_cst_9 : FVec F S_ .f32 := constant S_ .f32 0x7F800000#32
  let main_v31 : FVec F S1x1024 .f32 := broadcastInDim S1x1024 ![] bcast_S_S1x1024 main_cst_9
  let main_v32 : IVec S1x1024 1 := cmpf .olt main_v30 main_v31
  let main_v33 : FVec F S1x1024x1024 .f32 := Host.absf main_arg11
  let main_cst_10 : FVec F S_ .f32 := constant S_ .f32 0x7F800000#32
  let main_v34 : FVec F S1x1024x1024 .f32 := broadcastInDim S1x1024x1024 ![] bcast_S_S1x1024x1024 main_cst_10
  let main_v35 : IVec S1x1024x1024 1 := cmpf .olt main_v33 main_v34
  fn_part2 (F := F) main_arg12 main_arg13 main_arg14 main_v2 main_v5 main_v8 main_v11 main_v14 main_v17 main_v20 main_v23 main_v26 main_v29 main_v32 main_v35

def fn {F : FTy → Type} [FloatOps F] (main_arg0 : FVec F S1x4096x1024 .f32) (main_arg1 : FVec F S1x4096x512 .f32) (main_arg2 : FVec F S1x512 .f32) (main_arg3 : FVec F S1x4096x512 .f32) (main_arg4 : FVec F S1x256x1024 .f32) (main_arg5 : FVec F S1x512 .f32) (main_arg6 : FVec F S1x512 .f32) (main_arg7 : FVec F S1x1024x1024 .f32) (main_arg8 : FVec F S1x1024 .f32) (main_arg9 : FVec F S1x1024 .f32) (main_arg10 : FVec F S1x1024 .f32) (main_arg11 : FVec F S1x1024x1024 .f32) (main_arg12 : FVec F S1x1024x2048 .f32) (main_arg13 : FVec F S1x1024x1024 .f32) (main_arg14 : FVec F S1x4096x1024 .f32) : IVec S1x4096x1024 1 × IVec S1x4096x512 1 × IVec S1x512 1 × IVec S1x4096x512 1 × IVec S1x256x1024 1 × IVec S1x512 1 × IVec S1x512 1 × IVec S1x1024x1024 1 × IVec S1x1024 1 × IVec S1x1024 1 × IVec S1x1024 1 × IVec S1x1024x1024 1 × IVec S1x1024x2048 1 × IVec S1x1024x1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x512 .f32 := Host.absf main_arg1
  let main_cst_0 : FVec F S_ .f32 := constant S_ .f32 0x7F800000#32
  let main_v4 : FVec F S1x4096x512 .f32 := broadcastInDim S1x4096x512 ![] bcast_S_S1x4096x512 main_cst_0
  let main_v5 : IVec S1x4096x512 1 := cmpf .olt main_v3 main_v4
  let main_v6 : FVec F S1x512 .f32 := Host.absf main_arg2
  let main_cst_1 : FVec F S_ .f32 := constant S_ .f32 0x7F800000#32
  let main_v7 : FVec F S1x512 .f32 := broadcastInDim S1x512 ![] bcast_S_S1x512 main_cst_1
  let main_v8 : IVec S1x512 1 := cmpf .olt main_v6 main_v7
  let main_v9 : FVec F S1x4096x512 .f32 := Host.absf main_arg3
  let main_cst_2 : FVec F S_ .f32 := constant S_ .f32 0x7F800000#32
  let main_v10 : FVec F S1x4096x512 .f32 := broadcastInDim S1x4096x512 ![] bcast_S_S1x4096x512 main_cst_2
  let main_v11 : IVec S1x4096x512 1 := cmpf .olt main_v9 main_v10
  let main_v12 : FVec F S1x256x1024 .f32 := Host.absf main_arg4
  let main_cst_3 : FVec F S_ .f32 := constant S_ .f32 0x7F800000#32
  let main_v13 : FVec F S1x256x1024 .f32 := broadcastInDim S1x256x1024 ![] bcast_S_S1x256x1024 main_cst_3
  let main_v14 : IVec S1x256x1024 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  fn_part1 (F := F) main_arg6 main_arg7 main_arg8 main_arg9 main_arg10 main_arg11 main_arg12 main_arg13 main_arg14 main_v2 main_v5 main_v8 main_v11 main_v14 main_v17
-- ==== Pre_x_finite.lean ====
abbrev S1x4096x1024 : Shape := ⟨3, ![1, 4096, 1024]⟩
abbrev S1x1024 : Shape := ⟨2, ![1, 1024]⟩
abbrev S1x1024x1792 : Shape := ⟨3, ![1, 1024, 1792]⟩
abbrev S1x1792 : Shape := ⟨2, ![1, 1792]⟩
abbrev S4096x1024 : Shape := ⟨2, ![4096, 1024]⟩
abbrev S1x4096x8x64 : Shape := ⟨4, ![1, 4096, 8, 64]⟩
abbrev S1x4096x2x64 : Shape := ⟨4, ![1, 4096, 2, 64]⟩
abbrev S_ : Shape := ⟨0, ![]⟩

class Facts : Prop where
  bcast_S_S1x4096x1024 : S_.BroadcastsInDim S1x4096x1024 (![] : Fin 0 → Fin S1x4096x1024.rank)

variable [Facts]

def fn {F : FTy → Type} [FloatOps F] (main_arg0 : FVec F S1x4096x1024 .f32) (main_arg1 : FVec F S1x1024 .f32) (main_arg2 : FVec F S1x1024x1792 .f32) (main_arg3 : FVec F S1x1792 .f32) (main_arg4 : FVec F S4096x1024 .f32) (main_arg5 : FVec F S1x4096x8x64 .f32) (main_arg6 : FVec F S1x4096x2x64 .f32) (main_arg7 : FVec F S1x4096x2x64 .f32) (main_arg8 : FVec F S1x4096x1024 .f32) : IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  main_v2
-- ==== KernelKv.lean ====
abbrev S1x256x1024 : Shape := ⟨3, ![1, 256, 1024]⟩
abbrev S1x1024 : Shape := ⟨2, ![1, 1024]⟩
abbrev S1x1024x2048 : Shape := ⟨3, ![1, 1024, 2048]⟩
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1024x2048 : Shape := ⟨2, ![1024, 2048]⟩
abbrev S2048x1024 : Shape := ⟨2, ![2048, 1024]⟩
abbrev S8x1024 : Shape := ⟨2, ![8, 1024]⟩
abbrev S256x2048 : Shape := ⟨2, ![256, 2048]⟩

abbrev nBuf : Space → Nat
  | .hbm => 30
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x2048, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S1024, .f32⟩
  | .hbm, ⟨7, _⟩ => ⟨S256x1024, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x1024, .bf16⟩
  | .hbm, ⟨24, _⟩ => ⟨S1024x2048, .f32⟩
  | .hbm, ⟨25, _⟩ => ⟨S2048x1024, .f32⟩
  | .hbm, ⟨26, _⟩ => ⟨S2048x1024, .bf16⟩
  | .hbm, ⟨27, _⟩ => ⟨S256x1024, .f32⟩
  | .hbm, ⟨28, _⟩ => ⟨S2048x1024, .bf16⟩
  | .hbm, ⟨29, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S256x1024, .bf16⟩
  | .local _ .vmem, ⟨5, _⟩ => ⟨S2048x1024, .bf16⟩
  | .local _ .vmem, ⟨6, _⟩ => ⟨S2048x1024, .bf16⟩
  | .local _ .vmem, ⟨7, _⟩ => ⟨S8x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceKvIdeal.lean ====
abbrev S1x256x1024 : Shape := ⟨3, ![1, 256, 1024]⟩
abbrev S1x1024 : Shape := ⟨2, ![1, 1024]⟩
abbrev S1x1024x2048 : Shape := ⟨3, ![1, 1024, 2048]⟩
abbrev S256x1024 : Shape := ⟨2, ![256, 1024]⟩
abbrev S1024 : Shape := ⟨1, ![1024]⟩
abbrev S_ : Shape := ⟨0, ![]⟩
abbrev S1x256 : Shape := ⟨2, ![1, 256]⟩
abbrev S1x256x1 : Shape := ⟨3, ![1, 256, 1]⟩
abbrev S1x1x1024 : Shape := ⟨3, ![1, 1, 1024]⟩
abbrev S1024x2048 : Shape := ⟨2, ![1024, 2048]⟩
abbrev S1x256x2048 : Shape := ⟨3, ![1, 256, 2048]⟩
abbrev S2048x1024 : Shape := ⟨2, ![2048, 1024]⟩
abbrev S8x1024 : Shape := ⟨2, ![8, 1024]⟩

abbrev nBuf : Space → Nat
  | .hbm => 46
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x1024, .f32⟩
  | .hbm, ⟨2, _⟩ => ⟨S1x1024x2048, .f32⟩
  | .hbm, ⟨3, _⟩ => ⟨S256x1024, .f32⟩
  | .hbm, ⟨4, _⟩ => ⟨S256x1024, .f32⟩
  | .hbm, ⟨5, _⟩ => ⟨S1024, .f32⟩
  | .hbm, ⟨6, _⟩ => ⟨S1x256x1024, .f32⟩
  | .hbm, ⟨7, _⟩ => ⟨S_, .f32⟩
  | .hbm, ⟨8, _⟩ => ⟨S1x256, .f32⟩
  | .hbm, ⟨9, _⟩ => ⟨S1x256x1, .f32⟩
  | .hbm, ⟨10, _⟩ => ⟨S_, .f32⟩
  | .hbm, ⟨11, _⟩ => ⟨S1x256x1, .f32⟩
  | .hbm, ⟨12, _⟩ => ⟨S1x256x1, .f32⟩
  | .hbm, ⟨13, _⟩ => ⟨S_, .f32⟩
  | .hbm, ⟨14, _⟩ => ⟨S1x256x1, .f32⟩
  | .hbm, ⟨15, _⟩ => ⟨S1x256x1, .f32⟩
  | .hbm, ⟨16, _⟩ => ⟨S1x256x1, .f32⟩
  | .hbm, ⟨17, _⟩ => ⟨S1x256x1024, .f32⟩
  | .hbm, ⟨18, _⟩ => ⟨S1x256x1024, .f32⟩
  | .hbm, ⟨19, _⟩ => ⟨S1x1x1024, .f32⟩
  | .hbm, ⟨20, _⟩ => ⟨S1x256x1024, .f32⟩
  | .hbm, ⟨21, _⟩ => ⟨S1x256x1024, .f32⟩
  | .hbm, ⟨22, _⟩ => ⟨S1024x2048, .f32⟩
  | .hbm, ⟨23, _⟩ => ⟨S1x256x2048, .f32⟩
  | .hbm, ⟨24, _⟩ => ⟨S1x256x1024, .f32⟩
  | .hbm, ⟨25, _⟩ => ⟨S1x256x1024, .f32⟩
  | .hbm, ⟨26, _⟩ => ⟨S256x1024, .f32⟩
  | .hbm, ⟨27, _⟩ => ⟨S256x1024, .f32⟩
  | .hbm, ⟨28, _⟩ => ⟨S1x256x1024, .f32⟩
  | .hbm, ⟨29, _⟩ => ⟨S1x256x1024, .f32⟩
  | .hbm, ⟨30, _⟩ => ⟨S1x256x2048, .f32⟩
  | .hbm, ⟨31, _⟩ => ⟨S2048x1024, .f32⟩
  | .hbm, ⟨32, _⟩ => ⟨S1024x2048, .f32⟩
  | .hbm, ⟨33, _⟩ => ⟨S1x256x1024, .f32⟩
  | .hbm, ⟨34, _⟩ => ⟨S1x1024x2048, .f32⟩
  | .hbm, ⟨35, _⟩ => ⟨S1x256x1024, .f32⟩
  | .hbm, ⟨36, _⟩ => ⟨S_, .f32⟩
  | .hbm, ⟨37, _⟩ => ⟨S1x1024, .f32⟩
  | .hbm, ⟨38, _⟩ => ⟨S1x1x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S1024x2048, .f32⟩
  | .hbm, ⟨43, _⟩ => ⟨S2048x1024, .f32⟩
  | .hbm, ⟨44, _⟩ => ⟨S2048x1024, .bf16⟩
  | .hbm, ⟨45, _⟩ => ⟨S8x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== KernelAttn.lean ====
abbrev S1x4096x8x64 : Shape := ⟨4, ![1, 4096, 8, 64]⟩
abbrev S1x4096x2x64 : Shape := ⟨4, ![1, 4096, 2, 64]⟩
abbrev S1x8 : Shape := ⟨2, ![1, 8]⟩
abbrev S1x4096x512 : Shape := ⟨3, ![1, 4096, 512]⟩
abbrev S4096x512 : Shape := ⟨2, ![4096, 512]⟩
abbrev S_ : Shape := ⟨0, ![]⟩
abbrev S4096x128 : Shape := ⟨2, ![4096, 128]⟩
abbrev S8x128 : Shape := ⟨2, ![8, 128]⟩
abbrev S1024x512 : Shape := ⟨2, ![1024, 512]⟩
abbrev S8x512 : Shape := ⟨2, ![8, 512]⟩
abbrev S384x512 : Shape := ⟨2, ![384, 512]⟩
abbrev S384x128 : Shape := ⟨2, ![384, 128]⟩
abbrev S128x512 : Shape := ⟨2, ![128, 512]⟩
abbrev S128x64 : Shape := ⟨2, ![128, 64]⟩
abbrev S512x64 : Shape := ⟨2, ![512, 64]⟩
abbrev S384x64 : Shape := ⟨2, ![384, 64]⟩
abbrev S1x1 : Shape := ⟨2, ![1, 1]⟩
abbrev S1x128 : Shape := ⟨2, ![1, 128]⟩
abbrev S1x512 : Shape := ⟨2, ![1, 512]⟩
abbrev S512 : Shape := ⟨1, ![512]⟩
abbrev S64x512 : Shape := ⟨2, ![64, 512]⟩
abbrev S64x128 : Shape := ⟨2, ![64, 128]⟩
abbrev S128x128 : Shape := ⟨2, ![128, 128]⟩
abbrev S128x256 : Shape := ⟨2, ![128, 256]⟩
abbrev S1 : Shape := ⟨1, ![1]⟩

abbrev nBuf : Space → Nat
  | .hbm => 22
  | .vmem => 13
  | .smem => 0
  | _ => 0

abbrev bufTy : (tb : Table) → Fin (tcTables nBuf tb) → BufTy
  | .hbm, ⟨0, _⟩ => ⟨S1x4096x8x64, .f32⟩
  | .hbm, ⟨1, _⟩ => ⟨S1x4096x2x64, .f32⟩
  | .hbm, ⟨2, _⟩ => ⟨S1x4096x2x64, .f32⟩
  | .hbm, ⟨3, _⟩ => ⟨S1x8, .f32⟩
  | .hbm, ⟨4, _⟩ => ⟨S1x4096x512, .f32⟩
  | .hbm, ⟨5, _⟩ => ⟨S4096x512, .f32⟩
  | .hbm, ⟨6, _⟩ => ⟨S_, .f32⟩
  | .hbm, ⟨7, _⟩ => ⟨S4096x512, .f32⟩
  | .hbm, ⟨8, _⟩ => ⟨S4096x512, .f32⟩
  | .hbm, ⟨9, _⟩ => ⟨S4096x512, .bf16⟩
  | .hbm, ⟨10, _⟩ => ⟨S4096x128, .f32⟩
  | .hbm, ⟨11, _⟩ => ⟨S4096x128, .bf16⟩
  | .hbm, ⟨12, _⟩ => ⟨S4096x128, .f32⟩
  | .hbm, ⟨13, _⟩ => ⟨S4096x128, .bf16⟩
  | .hbm, ⟨14, _⟩ => ⟨S4096x512, .f32⟩
  | .hbm, ⟨15, _⟩ => ⟨S4096x512, .bf16⟩
  | .hbm, ⟨16, _⟩ => ⟨S_, .f32⟩
  | .hbm, ⟨17, _⟩ => ⟨S8x128, .f32⟩
  | .hbm, ⟨18, _⟩ => ⟨S4096x512, .f32⟩
  | .hbm, ⟨19, _⟩ => ⟨S4096x128, .f32⟩
  | .hbm, ⟨20, _⟩ => ⟨S4096x128, .f32⟩
  | .hbm, ⟨21, _⟩ => ⟨S8x128, .f32⟩
  | .local _ .vmem, ⟨0, _⟩ => ⟨S1024x512, .bf16⟩
  | .local _ .vmem, ⟨1, _⟩ => ⟨S1024x512, .bf16⟩
  | .local _ .vmem, ⟨2, _⟩ => ⟨S4096x128, .bf16⟩
  | .local _ .vmem, ⟨3, _⟩ => ⟨S4096x128, .bf16⟩
  | .local _ .vmem, ⟨4, _⟩ => ⟨S1x8, .f32⟩
  | .local _ .vmem, ⟨5, _⟩ => ⟨S1024x512, .bf16⟩
  | .local _ .vmem, ⟨6, _⟩ => ⟨S1024x512, .bf16⟩
  | .local _ .vmem, ⟨7, _⟩ => ⟨S1024x512, .f32⟩
  | .local _ .vmem, ⟨8, _⟩ => ⟨S1024x512, .f32⟩
  | .local _ .vmem, ⟨9, _⟩ => ⟨S4096x128, .f32⟩
  | .local _ .vmem, ⟨10, _⟩ => ⟨S4096x128, .f32⟩
  | .local _ .vmem, ⟨11, _⟩ => ⟨S8x128, .f32⟩
  | .local _ .vmem, ⟨12, _⟩ => ⟨S8x512, .f32⟩
  | _, _ => ⟨S1x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![4], ![false]⟩

def k0_mult1 (i : grid0.Coords) : BitVec 32 :=
  let c3712_i32 : BitVec 32 := 3712#32
  let c0_i32_2 : BitVec 32 := 0#32
  let arg0 : BitVec 32 := BitVec.ofNat 32 (i 0).val
  let c8_i32 : BitVec 32 := 8#32
  let v8 : BitVec 32 := Scalar.muli arg0 c8_i32
  let c0_i32_1 : BitVec 32 := 0#32
  let v9 : BitVec 32 := Scalar.addi v8 c0_i32_1
  let c1_i32 : BitVec 32 := 1#32
  let v10 : BitVec 32 := Scalar.subi v9 c1_i32
  let c128_i32 : BitVec 32 := 128#32
  let v11 : BitVec 32 := Scalar.muli v10 c128_i32
  let v12 : BitVec 32 := Scalar.maxsi c0_i32_2 v11
  let v13 : BitVec 32 := Scalar.minsi c3712_i32 v12
  v13
def k0_off1 (i : grid0.Coords) (c0_i32_1 : BitVec 32) : Fin 2 → Nat :=
  let c3712_i32 : BitVec 32 := 3712#32
  let c0_i32_2 : BitVec 32 := 0#32
  let arg0 : BitVec 32 := BitVec.ofNat 32 (i 0).val
  let c8_i32 : BitVec 32 := 8#32
  let v8 : BitVec 32 := Scalar.muli arg0 c8_i32
  let v9 : BitVec 32 := Scalar.addi v8 c0_i32_1
  let c1_i32 : BitVec 32 := 1#32
  let v10 : BitVec 32 := Scalar.subi v9 c1_i32
  let c128_i32 : BitVec 32 := 128#32
  let v11 : BitVec 32 := Scalar.muli v10 c128_i32
  let v12 : BitVec 32 := Scalar.maxsi c0_i32_2 v11
  let v13 : BitVec 32 := Scalar.minsi c3712_i32 v12
  let v14 : BitVec 32 := v13
  let v15 : Index := Scalar.indexCast v14
  let c0 : Index := 0#32
  ![v15.toNat, 0]
def k0_mult2 (i : grid0.Coords) : BitVec 32 :=
  let c3712_i32_59 : BitVec 32 := 3712#32
  let c0_i32_58 : BitVec 32 := 0#32
  let arg0 : BitVec 32 := BitVec.ofNat 32 (i 0).val
  let c8_i32_54 : BitVec 32 := 8#32
  let v200 : BitVec 32 := Scalar.muli arg0 c8_i32_54
  let c1_i32_55 : BitVec 32 := 1#32
  let v201 : BitVec 32 := Scalar.addi v200 c1_i32_55
  let c1_i32_56 : BitVec 32 := 1#32
  let v202 : BitVec 32 := Scalar.subi v201 c1_i32_56
  let c128_i32_57 : BitVec 32 := 128#32
  let v203 : BitVec 32 := Scalar.muli v202 c128_i32_57
  let v204 : BitVec 32 := Scalar.maxsi c0_i32_58 v203
  let v205 : BitVec 32 := Scalar.minsi c3712_i32_59 v204
  v205
def k0_mult3 (i : grid0.Coords) : BitVec 32 :=
  let c3712_i32_123 : BitVec 32 := 3712#32
  let c0_i32_122 : BitVec 32 := 0#32
  let arg0 : BitVec 32 := BitVec.ofNat 32 (i 0).val
  let c8_i32_119 : BitVec 32 := 8#32
  let v392 : BitVec 32 := Scalar.muli arg0 c8_i32_119
  let c2_i32 : BitVec 32 := 2#32
  let v393 : BitVec 32 := Scalar.addi v392 c2_i32
  let c1_i32_120 : BitVec 32 := 1#32
  let v394 : BitVec 32 := Scalar.subi v393 c1_i32_120
  let c128_i32_121 : BitVec 32 := 128#32
  let v395 : BitVec 32 := Scalar.muli v394 c128_i32_121
  let v396 : BitVec 32 := Scalar.maxsi c0_i32_122 v395
  let v397 : BitVec 32 := Scalar.minsi c3712_i32_123 v396
  v397
def k0_mult4 (i : grid0.Coords) : BitVec 32 :=
  let c3712_i32_187 : BitVec 32 := 3712#32
  let c0_i32_186 : BitVec 32 := 0#32
  let arg0 : BitVec 32 := BitVec.ofNat 32 (i 0).val
  let c8_i32_183 : BitVec 32 := 8#32
  let v584 : BitVec 32 := Scalar.muli arg0 c8_i32_183
  let c3_i32 : BitVec 32 := 3#32
  let v585 : BitVec 32 := Scalar.addi v584 c3_i32
  let c1_i32_184 : BitVec 32 := 1#32
  let v586 : BitVec 32 := Scalar.subi v585 c1_i32_184
  let c128_i32_185 : BitVec 32 := 128#32
  let v587 : BitVec 32 := Scalar.muli v586 c128_i32_185
  let v588 : BitVec 32 := Scalar.maxsi c0_i32_186 v587
  let v589 : BitVec 32 := Scalar.minsi c3712_i32_187 v588
  v589
def k0_mult5 (i : grid0.Coords) : BitVec 32 :=
  let c3712_i32_251 : BitVec 32 := 3712#32
  let c0_i32_250 : BitVec 32 := 0#32
  let arg0 : BitVec 32 := BitVec.ofNat 32 (i 0).val
  let c8_i32_247 : BitVec 32 := 8#32
  let v776 : BitVec 32 := Scalar.muli arg0 c8_i32_247
  let c4_i32 : BitVec 32 := 4#32
  let v777 : BitVec 32 := Scalar.addi v776 c4_i32
  let c1_i32_248 : BitVec 32 := 1#32
  let v778 : BitVec 32 := Scalar.subi v777 c1_i32_248
  let c128_i32_249 : BitVec 32 := 128#32
  let v779 : BitVec 32 := Scalar.muli v778 c128_i32_249
  let v780 : BitVec 32 := Scalar.maxsi c0_i32_250 v779
  let v781 : BitVec 32 := Scalar.minsi c3712_i32_251 v780
  v781
def k0_mult6 (i : grid0.Coords) : BitVec 32 :=
  let c3712_i32_315 : BitVec 32 := 3712#32
  let c0_i32_314 : BitVec 32 := 0#32
  let arg0 : BitVec 32 := BitVec.ofNat 32 (i 0).val
  let c8_i32_311 : BitVec 32 := 8#32
  let v968 : BitVec 32 := Scalar.muli arg0 c8_i32_311
  let c5_i32 : BitVec 32 := 5#32
  let v969 : BitVec 32 := Scalar.addi v968 c5_i32
  let c1_i32_312 : BitVec 32 := 1#32
  let v970 : BitVec 32 := Scalar.subi v969 c1_i32_312
  let c128_i32_313 : BitVec 32 := 128#32
  let v971 : BitVec 32 := Scalar.muli v970 c128_i32_313
  let v972 : BitVec 32 := Scalar.maxsi c0_i32_314 v971
  let v973 : BitVec 32 := Scalar.minsi c3712_i32_315 v972
  v973
def k0_mult7 (i : grid0.Coords) : BitVec 32 :=
  let c3712_i32_379 : BitVec 32 := 3712#32
  let c0_i32_378 : BitVec 32 := 0#32
  let arg0 : BitVec 32 := BitVec.ofNat 32 (i 0).val
  let c8_i32_375 : BitVec 32 := 8#32
  let v1160 : BitVec 32 := Scalar.muli arg0 c8_i32_375
  let c6_i32 : BitVec 32 := 6#32
  let v1161 : BitVec 32 := Scalar.addi v1160 c6_i32
  let c1_i32_376 : BitVec 32 := 1#32
  let v1162 : BitVec 32 := Scalar.subi v1161 c1_i32_376
  let c128_i32_377 : BitVec 32 := 128#32
  let v1163 : BitVec 32 := Scalar.muli v1162 c128_i32_377
  let v1164 : BitVec 32 := Scalar.maxsi c0_i32_378 v1163
  let v1165 : BitVec 32 := Scalar.minsi c3712_i32_379 v1164
  v1165
def k0_mult8 (i : grid0.Coords) : BitVec 32 :=
  let c3712_i32_443 : BitVec 32 := 3712#32
  let c0_i32_442 : BitVec 32 := 0#32
  let arg0 : BitVec 32 := BitVec.ofNat 32 (i 0).val
  let c8_i32_439 : BitVec 32 := 8#32
  let v1352 : BitVec 32 := Scalar.muli arg0 c8_i32_439
  let c7_i32 : BitVec 32 := 7#32
  let v1353 : BitVec 32 := Scalar.addi v1352 c7_i32
  let c1_i32_440 : BitVec 32 := 1#32
  let v1354 : BitVec 32 := Scalar.subi v1353 c1_i32_440
  let c128_i32_441 : BitVec 32 := 128#32
  let v1355 : BitVec 32 := Scalar.muli v1354 c128_i32_441
  let v1356 : BitVec 32 := Scalar.maxsi c0_i32_442 v1355
  let v1357 : BitVec 32 := Scalar.minsi c3712_i32_443 v1356
  v1357
def k0_cond2 (i : grid0.Coords) : BitVec 1 :=
  let arg0 : BitVec 32 := BitVec.ofNat 32 (i 0).val
  let c3_i32_503 : BitVec 32 := 3#32
  let v1544 : BitVec 1 := Scalar.cmpi .eq arg0 c3_i32_503
  let v1545 : BitVec 32 := Scalar.extui v1544
  let c0_i32_504 : BitVec 32 := 0#32
  let v1546 : BitVec 1 := Scalar.cmpi .ne v1545 c0_i32_504
  v1546

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4096x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelAttnIdeal.lean ====
variable {F : FTy → Type} [FloatOps F] [Named F]
def κ : String → Option EReal := fun
  | "mask" => some ⊥
  | _ => none
-- ==== ReferenceAttnIdeal.lean ====
abbrev S1x4096x8x64 : Shape := ⟨4, ![1, 4096, 8, 64]⟩
abbrev S1x4096x2x64 : Shape := ⟨4, ![1, 4096, 2, 64]⟩
abbrev S1x8 : Shape := ⟨2, ![1, 8]⟩
abbrev S1x4096x512 : Shape := ⟨3, ![1, 4096, 512]⟩
abbrev S4096x8x64 : Shape := ⟨3, ![4096, 8, 64]⟩
abbrev S4096x2x64 : Shape := ⟨3, ![4096, 2, 64]⟩
abbrev S8 : Shape := ⟨1, ![8]⟩
abbrev S32x128x2x4x64 : Shape := ⟨5, ![32, 128, 2, 4, 64]⟩
abbrev S_ : Shape := ⟨0, ![]⟩
abbrev S128x2x64 : Shape := ⟨3, ![128, 2, 64]⟩
abbrev S4352x2x64 : Shape := ⟨3, ![4352, 2, 64]⟩
abbrev S34x128x2x64 : Shape := ⟨4, ![34, 128, 2, 64]⟩
abbrev S32x128x2x64 : Shape := ⟨4, ![32, 128, 2, 64]⟩
abbrev S32x384x2x64 : Shape := ⟨4, ![32, 384, 2, 64]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S32 : Shape := ⟨1, ![32]⟩
abbrev S32x1 : Shape := ⟨2, ![32, 1]⟩
abbrev S32x384 : Shape := ⟨2, ![32, 384]⟩
abbrev S1x128x384 : Shape := ⟨3, ![1, 128, 384]⟩
abbrev S32x1x384 : Shape := ⟨3, ![32, 1, 384]⟩
abbrev S32x128x384 : Shape := ⟨3, ![32, 128, 384]⟩
abbrev S32x2x384x128x4 : Shape := ⟨5, ![32, 2, 384, 128, 4]⟩
abbrev S32x2x4x128x384 : Shape := ⟨5, ![32, 2, 4, 128, 384]⟩
abbrev S32x1x1x128x384 : Shape := ⟨5, ![32, 1, 1, 128, 384]⟩
abbrev S2x4 : Shape := ⟨2, ![2, 4]⟩
abbrev S1x2x4x1x1 : Shape := ⟨5, ![1, 2, 4, 1, 1]⟩
abbrev S32x2x4x128 : Shape := ⟨4, ![32, 2, 4, 128]⟩
abbrev S32x2x4x128x1 : Shape := ⟨5, ![32, 2, 4, 128, 1]⟩
abbrev S32x2x64x4x128 : Shape := ⟨5, ![32, 2, 64, 4, 128]⟩
abbrev S4096x512 : Shape := ⟨2, ![4096, 512]⟩
abbrev S32x2x64x384 : Shape := ⟨4, ![32, 2, 64, 384]⟩
abbrev S2x4x1 : Shape := ⟨3, ![2, 4, 1]⟩
abbrev S32x2x128x4x64 : Shape := ⟨5, ![32, 2, 128, 4, 64]⟩
abbrev S32x2x384x64 : Shape := ⟨4, ![32, 2, 384, 64]⟩
abbrev S4096x128 : Shape := ⟨2, ![4096, 128]⟩
abbrev S8x1 : Shape := ⟨2, ![8, 1]⟩
abbrev S8x128 : Shape := ⟨2, ![8, 128]⟩

abbrev nBuf : Space → Nat
  | .hbm => 232
  | .vmem => 0
  | .smem => 0
  | _ => 0

abbrev hbmTy0_0 (i : Nat) : BufTy := match i % 128 with
  | 0 => ⟨S1x4096x8x64, .f32⟩
  | 1 => ⟨S1x4096x2x64, .f32⟩
  | 2 => ⟨S1x4096x2x64, .f32⟩
  | 3 => ⟨S1x8, .f32⟩
  | 4 => ⟨S1x4096x512, .f32⟩
  | 5 => ⟨S4096x8x64, .f32⟩
  | 6 => ⟨S4096x2x64, .f32⟩
  | 7 => ⟨S4096x2x64, .f32⟩
  | 8 => ⟨S8, .f32⟩
  | 9 => ⟨S32x128x2x4x64, .f32⟩
  | 10 => ⟨S_, .f32⟩
  | 11 => ⟨S128x2x64, .f32⟩
  | 12 => ⟨S4352x2x64, .f32⟩
  | 13 => ⟨S_, .f32⟩
  | 14 => ⟨S128x2x64, .f32⟩
  | 15 => ⟨S_, .f32⟩
  | 16 => ⟨S128x2x64, .f32⟩
  | 17 => ⟨S34x128x2x64, .f32⟩
  | 18 => ⟨S4352x2x64, .f32⟩
  | 19 => ⟨S_, .f32⟩
  | 20 => ⟨S128x2x64, .f32⟩
  | 21 => ⟨S_, .f32⟩
  | 22 => ⟨S128x2x64, .f32⟩
  | 23 => ⟨S34x128x2x64, .f32⟩
  | 24 => ⟨S32x128x2x64, .f32⟩
  | 25 => ⟨S32x128x2x64, .f32⟩
  | 26 => ⟨S32x128x2x64, .f32⟩
  | 27 => ⟨S32x384x2x64, .f32⟩
  | 28 => ⟨S32x128x2x64, .f32⟩
  | 29 => ⟨S32x128x2x64, .f32⟩
  | 30 => ⟨S32x128x2x64, .f32⟩
  | 31 => ⟨S32x384x2x64, .f32⟩
  | 32 => ⟨S128, .i32⟩
  | 33 => ⟨S128x1, .i32⟩
  | 34 => ⟨S384, .i32⟩
  | 35 => ⟨S1x384, .i32⟩
  | 36 => ⟨S_, .i32⟩
  | 37 => ⟨S1x384, .i32⟩
  | 38 => ⟨S1x384, .i32⟩
  | 39 => ⟨S128x384, .i32⟩
  | 40 => ⟨S128x384, .i32⟩
  | 41 => ⟨S128x384, .i32⟩
  | 42 => ⟨S32, .i32⟩
  | 43 => ⟨S32x1, .i32⟩
  | 44 => ⟨S_, .i32⟩
  | 45 => ⟨S32x1, .i32⟩
  | 46 => ⟨S32x1, .i32⟩
  | 47 => ⟨S_, .i32⟩
  | 48 => ⟨S32x1, .i32⟩
  | 49 => ⟨S32x1, .i32⟩
  | 50 => ⟨S384, .i32⟩
  | 51 => ⟨S1x384, .i32⟩
  | 52 => ⟨S32x384, .i32⟩
  | 53 => ⟨S32x384, .i32⟩
  | 54 => ⟨S32x384, .i32⟩
  | 55 => ⟨S_, .i32⟩
  | 56 => ⟨S32x384, .i32⟩
  | 57 => ⟨S32x384, .i1⟩
  | 58 => ⟨S_, .i32⟩
  | 59 => ⟨S32x384, .i32⟩
  | 60 => ⟨S32x384, .i1⟩
  | 61 => ⟨S32x384, .i1⟩
  | 62 => ⟨S128x384, .i32⟩
  | 63 => ⟨S_, .i32⟩
  | 64 => ⟨S128x384, .i32⟩
  | 65 => ⟨S128x384, .i1⟩
  | 66 => ⟨S1x128x384, .i1⟩
  | 67 => ⟨S32x1x384, .i1⟩
  | 68 => ⟨S32x128x384, .i1⟩
  | 69 => ⟨S32x128x384, .i1⟩
  | 70 => ⟨S32x128x384, .i1⟩
  | 71 => ⟨S32x2x384x128x4, .f32⟩
  | 72 => ⟨S32x2x4x128x384, .f32⟩
  | 73 => ⟨S_, .f32⟩
  | 74 => ⟨S32x2x4x128x384, .f32⟩
  | 75 => ⟨S32x2x4x128x384, .f32⟩
  | 76 => ⟨S32x1x1x128x384, .i1⟩
  | 77 => ⟨S_, .f32⟩
  | 78 => ⟨S_, .f32⟩
  | 79 => ⟨S32x2x4x128x384, .i1⟩
  | 80 => ⟨S32x2x4x128x384, .f32⟩
  | 81 => ⟨S32x2x4x128x384, .f32⟩
  | 82 => ⟨S_, .f32⟩
  | 83 => ⟨S32x2x4x128x384, .f32⟩
  | 84 => ⟨S2x4, .f32⟩
  | 85 => ⟨S1x2x4x1x1, .f32⟩
  | 86 => ⟨S_, .f32⟩
  | 87 => ⟨S32x2x4x128, .f32⟩
  | 88 => ⟨S32x2x4x128x1, .f32⟩
  | 89 => ⟨S32x2x4x128x384, .f32⟩
  | 90 => ⟨S32x2x4x128x384, .i1⟩
  | 91 => ⟨S32x2x4x128x384, .f32⟩
  | 92 => ⟨S_, .f32⟩
  | 93 => ⟨S32x2x4x128, .f32⟩
  | 94 => ⟨S32x2x4x128x1, .f32⟩
  | 95 => ⟨S32x2x4x128x1, .f32⟩
  | 96 => ⟨S32x2x4x128x1, .f32⟩
  | 97 => ⟨S32x2x4x128x1, .f32⟩
  | 98 => ⟨S32x2x4x128x1, .i1⟩
  | 99 => ⟨S32x2x4x128x1, .f32⟩
  | 100 => ⟨S32x2x4x128x1, .i1⟩
  | 101 => ⟨S_, .f32⟩
  | 102 => ⟨S32x2x4x128x1, .f32⟩
  | 103 => ⟨S_, .f32⟩
  | 104 => ⟨S32x2x4x128x1, .f32⟩
  | 105 => ⟨S_, .f32⟩
  | 106 => ⟨S32x2x4x128x1, .f32⟩
  | 107 => ⟨S32x2x4x128x1, .f32⟩
  | 108 => ⟨S32x2x4x128x1, .f32⟩
  | 109 => ⟨S32x2x4x128x1, .f32⟩
  | 110 => ⟨S32x2x4x128x1, .i1⟩
  | 111 => ⟨S32x2x4x128x1, .f32⟩
  | 112 => ⟨S32x2x4x128x1, .i1⟩
  | 113 => ⟨S_, .f32⟩
  | 114 => ⟨S32x2x4x128x1, .f32⟩
  | 115 => ⟨S_, .f32⟩
  | 116 => ⟨S32x2x4x128x1, .f32⟩
  | 117 => ⟨S_, .f32⟩
  | 118 => ⟨S32x2x4x128x1, .f32⟩
  | 119 => ⟨S32x2x4x128x1, .f32⟩
  | 120 => ⟨S32x2x4x128x1, .f32⟩
  | 121 => ⟨S32x2x4x128x384, .f32⟩
  | 122 => ⟨S32x2x4x128x384, .f32⟩
  | 123 => ⟨S32x2x4x128x384, .f32⟩
  | 124 => ⟨S_, .f32⟩
  | 125 => ⟨S32x2x4x128, .f32⟩
  | 126 => ⟨S32x2x4x128x1, .f32⟩
  | 127 => ⟨S32x2x4x128x1, .f32⟩
  | _ => ⟨S1x4096x8x64, .f32⟩

abbrev hbmTy0_1 (i : Nat) : BufTy := match i % 128 with
  | 0 => ⟨S32x2x4x128x1, .f32⟩
  | 1 => ⟨S32x2x4x128x1, .f32⟩
  | 2 => ⟨S32x2x4x128x1, .f32⟩
  | 3 => ⟨S32x2x4x128x384, .f32⟩
  | 4 => ⟨S32x2x4x128x384, .f32⟩
  | 5 => ⟨S32x2x4x128x1, .f32⟩
  | 6 => ⟨S_, .f32⟩
  | 7 => ⟨S32x2x4x128x1, .f32⟩
  | 8 => ⟨S32x2x4x128x1, .f32⟩
  | 9 => ⟨S32x2x64x4x128, .f32⟩
  | 10 => ⟨S32x128x2x4x64, .f32⟩
  | 11 => ⟨S4096x512, .f32⟩
  | 12 => ⟨S4096x512, .f32⟩
  | 13 => ⟨S32x128x2x4x64, .f32⟩
  | 14 => ⟨S32x2x64x4x128, .f32⟩
  | 15 => ⟨S32x2x4x128x384, .f32⟩
  | 16 => ⟨S32x2x64x384, .f32⟩
  | 17 => ⟨S32x384x2x64, .f32⟩
  | 18 => ⟨S32x2x4x128x384, .f32⟩
  | 19 => ⟨S32x2x4x128x384, .f32⟩
  | 20 => ⟨S32x2x4x128x384, .f32⟩
  | 21 => ⟨S_, .f32⟩
  | 22 => ⟨S32x2x4x128, .f32⟩
  | 23 => ⟨S32x2x4x128x1, .f32⟩
  | 24 => ⟨S32x2x4x128x1, .f32⟩
  | 25 => ⟨S32x2x4x128x384, .f32⟩
  | 26 => ⟨S32x2x4x128x384, .f32⟩
  | 27 => ⟨S32x2x4x128x1, .f32⟩
  | 28 => ⟨S_, .f32⟩
  | 29 => ⟨S2x4x1, .f32⟩
  | 30 => ⟨S1x2x4x1x1, .f32⟩
  | 31 => ⟨S32x2x4x128x1, .f32⟩
  | 32 => ⟨S_, .f32⟩
  | 33 => ⟨S32x2x4x128, .f32⟩
  | 34 => ⟨S32x2x4x128x384, .f32⟩
  | 35 => ⟨S32x2x4x128x384, .f32⟩
  | 36 => ⟨S32x2x4x128x384, .f32⟩
  | 37 => ⟨S32x2x4x128x384, .f32⟩
  | 38 => ⟨S_, .f32⟩
  | 39 => ⟨S32x2x4x128, .f32⟩
  | 40 => ⟨S32x2x4x128x1, .f32⟩
  | 41 => ⟨S32x2x4x128x1, .f32⟩
  | 42 => ⟨S32x2x4x128x1, .f32⟩
  | 43 => ⟨S_, .f32⟩
  | 44 => ⟨S2x4x1, .f32⟩
  | 45 => ⟨S1x2x4x1x1, .f32⟩
  | 46 => ⟨S1x2x4x1x1, .f32⟩
  | 47 => ⟨S32x2x4x128x1, .f32⟩
  | 48 => ⟨S_, .f32⟩
  | 49 => ⟨S32x2x4x128, .f32⟩
  | 50 => ⟨S32x2x4x128, .f32⟩
  | 51 => ⟨S32x2x4x128x384, .f32⟩
  | 52 => ⟨S32x2x4x128x384, .f32⟩
  | 53 => ⟨S32x2x4x128x384, .f32⟩
  | 54 => ⟨S_, .f32⟩
  | 55 => ⟨S2x4, .f32⟩
  | 56 => ⟨S8, .f32⟩
  | 57 => ⟨S_, .f32⟩
  | 58 => ⟨S32x2x4x128x384, .f32⟩
  | 59 => ⟨S32x2x4x128x384, .f32⟩
  | 60 => ⟨S_, .f32⟩
  | 61 => ⟨S32x2x4x128x384, .f32⟩
  | 62 => ⟨S32x2x4x128x384, .f32⟩
  | 63 => ⟨S32x2x384x128x4, .f32⟩
  | 64 => ⟨S32x2x128x4x64, .f32⟩
  | 65 => ⟨S32x128x2x4x64, .f32⟩
  | 66 => ⟨S32x2x384x64, .f32⟩
  | 67 => ⟨S32x384x2x64, .f32⟩
  | 68 => ⟨S32x128x2x64, .f32⟩
  | 69 => ⟨S32x128x2x64, .f32⟩
  | 70 => ⟨S32x128x2x64, .f32⟩
  | 71 => ⟨S_, .f32⟩
  | 72 => ⟨S34x128x2x64, .f32⟩
  | 73 => ⟨S_, .f32⟩
  | 74 => ⟨S34x128x2x64, .f32⟩
  | 75 => ⟨S34x128x2x64, .f32⟩
  | 76 => ⟨S_, .f32⟩
  | 77 => ⟨S34x128x2x64, .f32⟩
  | 78 => ⟨S34x128x2x64, .f32⟩
  | 79 => ⟨S32x128x2x64, .f32⟩
  | 80 => ⟨S32x128x2x64, .f32⟩
  | 81 => ⟨S32x128x2x64, .f32⟩
  | 82 => ⟨S_, .f32⟩
  | 83 => ⟨S34x128x2x64, .f32⟩
  | 84 => ⟨S_, .f32⟩
  | 85 => ⟨S34x128x2x64, .f32⟩
  | 86 => ⟨S34x128x2x64, .f32⟩
  | 87 => ⟨S_, .f32⟩
  | 88 => ⟨S34x128x2x64, .f32⟩
  | 89 => ⟨S34x128x2x64, .f32⟩
  | 90 => ⟨S4352x2x64, .f32⟩
  | 91 => ⟨S128x2x64, .f32⟩
  | 92 => ⟨S4096x2x64, .f32⟩
  | 93 => ⟨S128x2x64, .f32⟩
  | 94 => ⟨S4352x2x64, .f32⟩
  | 95 => ⟨S128x2x64, .f32⟩
  | 96 => ⟨S4096x2x64, .f32⟩
  | 97 => ⟨S128x2x64, .f32⟩
  | 98 => ⟨S4096x8x64, .f32⟩
  | 99 => ⟨S4096x512, .f32⟩
  | 100 => ⟨S4096x128, .f32⟩
  | 101 => ⟨S4096x128, .f32⟩
  | 102 => ⟨S8x1, .f32⟩
  | 103 => ⟨S8x128, .f32⟩
  | _ => ⟨S1x4096x8x64, .f32⟩

abbrev hbmTy (i : Nat) : BufTy := match i / 128 with
  | 0 => hbmTy0_0 i
  | 1 => hbmTy0_1 i
  | _ => ⟨S1x4096x8x64, .f32⟩

abbrev bufTy : (tb : Table) → Fin (tcTables nBuf tb) → BufTy
  | .hbm, ⟨i, _⟩ => hbmTy i
  | _, _ => ⟨S1x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_4 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_6 : Ref sig .tc := ⟨.hbm, 55, rfl⟩
abbrev main_v42 : Ref sig .tc := ⟨.hbm, 56, rfl⟩
abbrev main_v43 : Ref sig .tc := ⟨.hbm, 57, rfl⟩
abbrev main_c_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_call0_v0 : Ref sig .tc := ⟨.hbm, 78, rfl⟩
abbrev main_v60_1 : Ref sig .tc := ⟨.hbm, 79, rfl⟩
abbrev main_call0_v2 : Ref sig .tc := ⟨.hbm, 80, rfl⟩
abbrev main_v60_0 : Ref sig .tc := ⟨.hbm, 81, rfl⟩
abbrev main_call0_cst : Ref sig .tc := ⟨.hbm, 82, rfl⟩
abbrev main_v60_2 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_13 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_cst_15 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_16 : Ref sig .tc := ⟨.hbm, 113, rfl⟩
abbrev main_v85 : Ref sig .tc := ⟨.hbm, 114, rfl⟩
abbrev main_cst_17 : Ref sig .tc := ⟨.hbm, 115, rfl⟩
abbrev main_v86 : Ref sig .tc := ⟨.hbm, 116, rfl⟩
abbrev main_cst_18 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_19 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_20 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_cst_21 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_22 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_cst_23 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_24 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_25 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_26 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_cst_27 : Ref sig .tc := ⟨.hbm, 182, rfl⟩
abbrev main_v143 : Ref sig .tc := ⟨.hbm, 183, rfl⟩
abbrev main_v144 : Ref sig .tc := ⟨.hbm, 184, rfl⟩
abbrev main_call1_cst : Ref sig .tc := ⟨.hbm, 185, rfl⟩
abbrev main_call1_v0 : Ref sig .tc := ⟨.hbm, 186, rfl⟩
abbrev main_v145 : Ref sig .tc := ⟨.hbm, 187, rfl⟩
abbrev main_cst_28 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_cst_29 : Ref sig .tc := ⟨.hbm, 199, rfl⟩
abbrev main_v156 : Ref sig .tc := ⟨.hbm, 200, rfl⟩
abbrev main_cst_30 : Ref sig .tc := ⟨.hbm, 201, rfl⟩
abbrev main_v157 : Ref sig .tc := ⟨.hbm, 202, rfl⟩
abbrev main_v158 : Ref sig .tc := ⟨.hbm, 203, rfl⟩
abbrev main_cst_31 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_cst_32 : Ref sig .tc := ⟨.hbm, 210, rfl⟩
abbrev main_v164 : Ref sig .tc := ⟨.hbm, 211, rfl⟩
abbrev main_cst_33 : Ref sig .tc := ⟨.hbm, 212, rfl⟩
abbrev main_v165 : Ref sig .tc := ⟨.hbm, 213, rfl⟩
abbrev main_v166 : Ref sig .tc := ⟨.hbm, 214, rfl⟩
abbrev main_cst_34 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩

abbrev nD : Nat := 1
abbrev τ : Topo := Topo.v7x

variable {F : FTy → Type} [FloatOps F]
-- ==== KernelFfn.lean ====
abbrev S1x4096x1024 : Shape := ⟨3, ![1, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S2816x1024 : Shape := ⟨2, ![2816, 1024]⟩
abbrev S8x1024 : Shape := ⟨2, ![8, 1024]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 46
  | .vmem => 23
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x4096x1024, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1024x2816, .f32⟩
  | .hbm, ⟨25, _⟩ => ⟨S4096x2816, .f32⟩
  | .hbm, ⟨26, _⟩ => ⟨S4096x2816, .bf16⟩
  | .hbm, ⟨27, _⟩ => ⟨S1024x2816, .f32⟩
  | .hbm, ⟨28, _⟩ => ⟨S4096x2816, .f32⟩
  | .hbm, ⟨29, _⟩ => ⟨S4096x2816, .bf16⟩
  | .hbm, ⟨30, _⟩ => ⟨S4096x1024, .f32⟩
  | .hbm, ⟨31, _⟩ => ⟨S4096x1024, .f32⟩
  | .hbm, ⟨32, _⟩ => ⟨S2816x1024, .f32⟩
  | .hbm, ⟨33, _⟩ => ⟨S2816x1024, .bf16⟩
  | .hbm, ⟨34, _⟩ => ⟨S1024x2816, .f32⟩
  | .hbm, ⟨35, _⟩ => ⟨S2816x1024, .f32⟩
  | .hbm, ⟨36, _⟩ => ⟨S2816x1024, .bf16⟩
  | .hbm, ⟨37, _⟩ => ⟨S1024x2816, .f32⟩
  | .hbm, ⟨38, _⟩ => ⟨S2816x1024, .f32⟩
  | .hbm, ⟨39, _⟩ => ⟨S2816x1024, .bf16⟩
  | .hbm, ⟨40, _⟩ => ⟨S4096x1024, .f32⟩
  | .hbm, ⟨41, _⟩ => ⟨S4096x1024, .bf16⟩
  | .hbm, ⟨42, _⟩ => ⟨S4096x2816, .bf16⟩
  | .hbm, ⟨43, _⟩ => ⟨S4096x2816, .bf16⟩
  | .hbm, ⟨44, _⟩ => ⟨S4096x2816, .bf16⟩
  | .hbm, ⟨45, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S8x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31_0 : Ref sig .tc := ⟨.hbm, 40, rfl⟩
abbrev main_v31_1 : Ref sig .tc := ⟨.hbm, 41, rfl⟩
abbrev main_v31_2 : Ref sig .tc := ⟨.hbm, 42, rfl⟩
abbrev main_v31_3 : Ref sig .tc := ⟨.hbm, 43, rfl⟩
abbrev main_v31_4 : Ref sig .tc := ⟨.hbm, 44, rfl⟩
abbrev main_v31_5 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceFfnIdeal.lean ====
abbrev S1x4096x1024 : Shape := ⟨3, ![1, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x2816 : Shape := ⟨2, ![1024, 2816]⟩
abbrev S1x4096x2816 : Shape := ⟨3, ![1, 4096, 2816]⟩
abbrev S2816x1024 : Shape := ⟨2, ![2816, 1024]⟩
abbrev S4096 : Shape := ⟨1, ![4096]⟩
abbrev S4096x1024 : Shape := ⟨2, ![4096, 1024]⟩
abbrev S4096x2816 : Shape := ⟨2, ![4096, 2816]⟩
abbrev S8x1024 : Shape := ⟨2, ![8, 1024]⟩

abbrev nBuf : Space → Nat
  | .hbm => 151
  | .vmem => 0
  | .smem => 0
  | _ => 0

abbrev hbmTy0_0 (i : Nat) : BufTy := match i % 128 with
  | 0 => ⟨S1x4096x1024, .f32⟩
  | 1 => ⟨S1x1024, .f32⟩
  | 2 => ⟨S1x1024x2816, .f32⟩
  | 3 => ⟨S1x1024x2816, .f32⟩
  | 4 => ⟨S1x2816x1024, .f32⟩
  | 5 => ⟨S1x4096x1024, .f32⟩
  | 6 => ⟨S1024, .f32⟩
  | 7 => ⟨S1x4096x1024, .f32⟩
  | 8 => ⟨S_, .f32⟩
  | 9 => ⟨S1x4096, .f32⟩
  | 10 => ⟨S1x4096x1, .f32⟩
  | 11 => ⟨S_, .f32⟩
  | 12 => ⟨S1x4096x1, .f32⟩
  | 13 => ⟨S1x4096x1, .f32⟩
  | 14 => ⟨S_, .f32⟩
  | 15 => ⟨S1x4096x1, .f32⟩
  | 16 => ⟨S1x4096x1, .f32⟩
  | 17 => ⟨S1x4096x1, .f32⟩
  | 18 => ⟨S1x4096x1, .f32⟩
  | 19 => ⟨S_, .f32⟩
  | 20 => ⟨S1x4096x1, .f32⟩
  | 21 => ⟨S1x4096x1, .f32⟩
  | 22 => ⟨S1x4096x1024, .f32⟩
  | 23 => ⟨S1x4096x1024, .f32⟩
  | 24 => ⟨S1x1x1024, .f32⟩
  | 25 => ⟨S1x4096x1024, .f32⟩
  | 26 => ⟨S1x4096x1024, .f32⟩
  | 27 => ⟨S1024x2816, .f32⟩
  | 28 => ⟨S1x4096x2816, .f32⟩
  | 29 => ⟨S1024x2816, .f32⟩
  | 30 => ⟨S1x4096x2816, .f32⟩
  | 31 => ⟨S1x4096x2816, .f32⟩
  | 32 => ⟨S1x4096x2816, .f32⟩
  | 33 => ⟨S_, .f32⟩
  | 34 => ⟨S1x4096x2816, .f32⟩
  | 35 => ⟨S1x4096x2816, .f32⟩
  | 36 => ⟨S_, .f32⟩
  | 37 => ⟨S1x4096x2816, .f32⟩
  | 38 => ⟨S1x4096x2816, .f32⟩
  | 39 => ⟨S_, .f32⟩
  | 40 => ⟨S1x4096x2816, .f32⟩
  | 41 => ⟨S1x4096x2816, .f32⟩
  | 42 => ⟨S1x4096x2816, .f32⟩
  | 43 => ⟨S1x4096x2816, .f32⟩
  | 44 => ⟨S1x4096x2816, .f32⟩
  | 45 => ⟨S2816x1024, .f32⟩
  | 46 => ⟨S1x4096x1024, .f32⟩
  | 47 => ⟨S1x4096x1024, .f32⟩
  | 48 => ⟨S1x4096x1024, .f32⟩
  | 49 => ⟨S1x4096x2816, .f32⟩
  | 50 => ⟨S1x4096x2816, .f32⟩
  | 51 => ⟨S1x4096x2816, .f32⟩
  | 52 => ⟨S1x4096x2816, .f32⟩
  | 53 => ⟨S1x4096x2816, .f32⟩
  | 54 => ⟨S1x4096x2816, .f32⟩
  | 55 => ⟨S1x4096x2816, .f32⟩
  | 56 => ⟨S1x4096x1024, .f32⟩
  | 57 => ⟨S1x4096x1024, .f32⟩
  | 58 => ⟨S1x4096x1024, .f32⟩
  | 59 => ⟨S1x4096x1024, .f32⟩
  | 60 => ⟨S_, .f32⟩
  | 61 => ⟨S1x1024, .f32⟩
  | 62 => ⟨S1x1x1024, .f32⟩
  | 63 => ⟨S1x4096x1024, .f32⟩
  | 64 => ⟨S1x4096x1024, .f32⟩
  | 65 => ⟨S_, .f32⟩
  | 66 => ⟨S1024, .f32⟩
  | 67 => ⟨S1x4096x1024, .f32⟩
  | 68 => ⟨S_, .f32⟩
  | 69 => ⟨S1x4096, .f32⟩
  | 70 => ⟨S1x4096x1, .f32⟩
  | 71 => ⟨S1x4096x1024, .f32⟩
  | 72 => ⟨S1x4096x1024, .f32⟩
  | 73 => ⟨S1x4096x1024, .f32⟩
  | 74 => ⟨S1x4096x1, .f32⟩
  | 75 => ⟨S_, .f32⟩
  | 76 => ⟨S1x4096x1, .f32⟩
  | 77 => ⟨S1x4096x1, .f32⟩
  | 78 => ⟨S_, .f32⟩
  | 79 => ⟨S4096, .f32⟩
  | 80 => ⟨S1x4096, .f32⟩
  | 81 => ⟨S1x4096x1024, .f32⟩
  | 82 => ⟨S1x4096x1024, .f32⟩
  | 83 => ⟨S1x4096x1024, .f32⟩
  | 84 => ⟨S1x4096x1024, .f32⟩
  | 85 => ⟨S1x4096x1024, .f32⟩
  | 86 => ⟨S1x1024, .f32⟩
  | 87 => ⟨S1024, .f32⟩
  | 88 => ⟨S1x4096x1024, .f32⟩
  | 89 => ⟨S_, .f32⟩
  | 90 => ⟨S1x4096, .f32⟩
  | 91 => ⟨S1x4096x1, .f32⟩
  | 92 => ⟨S_, .f32⟩
  | 93 => ⟨S1x4096x1, .f32⟩
  | 94 => ⟨S1x4096x1, .f32⟩
  | 95 => ⟨S_, .f32⟩
  | 96 => ⟨S1x4096x1, .f32⟩
  | 97 => ⟨S1x4096x1, .f32⟩
  | 98 => ⟨S1x4096x1, .f32⟩
  | 99 => ⟨S1x4096x1024, .f32⟩
  | 100 => ⟨S1x4096x1024, .f32⟩
  | 101 => ⟨S1x1x1024, .f32⟩
  | 102 => ⟨S1x4096x1024, .f32⟩
  | 103 => ⟨S1x4096x1024, .f32⟩
  | 104 => ⟨S1024x2816, .f32⟩
  | 105 => ⟨S1x4096x2816, .f32⟩
  | 106 => ⟨S1024x2816, .f32⟩
  | 107 => ⟨S1x4096x2816, .f32⟩
  | 108 => ⟨S1x4096x2816, .f32⟩
  | 109 => ⟨S1x4096x2816, .f32⟩
  | 110 => ⟨S_, .f32⟩
  | 111 => ⟨S1x4096x2816, .f32⟩
  | 112 => ⟨S1x4096x2816, .f32⟩
  | 113 => ⟨S_, .f32⟩
  | 114 => ⟨S1x4096x2816, .f32⟩
  | 115 => ⟨S1x4096x2816, .f32⟩
  | 116 => ⟨S_, .f32⟩
  | 117 => ⟨S1x4096x2816, .f32⟩
  | 118 => ⟨S1x4096x2816, .f32⟩
  | 119 => ⟨S1x4096x2816, .f32⟩
  | 120 => ⟨S1x4096x2816, .f32⟩
  | 121 => ⟨S1x4096x2816, .f32⟩
  | 122 => ⟨S2816x1024, .f32⟩
  | 123 => ⟨S1x4096x1024, .f32⟩
  | 124 => ⟨S1x4096x2816, .f32⟩
  | 125 => ⟨S1x4096x2816, .f32⟩
  | 126 => ⟨S1x4096x2816, .f32⟩
  | 127 => ⟨S1x4096x2816, .f32⟩
  | _ => ⟨S1x4096x1024, .f32⟩

abbrev hbmTy0_1 (i : Nat) : BufTy := match i % 128 with
  | 0 => ⟨S1x4096x2816, .f32⟩
  | 1 => ⟨S1x4096x2816, .f32⟩
  | 2 => ⟨S1x4096x2816, .f32⟩
  | 3 => ⟨S4096x1024, .f32⟩
  | 4 => ⟨S4096x1024, .f32⟩
  | 5 => ⟨S4096x1024, .bf16⟩
  | 6 => ⟨S4096x2816, .f32⟩
  | 7 => ⟨S4096x2816, .bf16⟩
  | 8 => ⟨S4096x2816, .f32⟩
  | 9 => ⟨S4096x2816, .bf16⟩
  | 10 => ⟨S1x4096x2816, .f32⟩
  | 11 => ⟨S1x4096x2816, .f32⟩
  | 12 => ⟨S_, .f32⟩
  | 13 => ⟨S1x4096x2816, .f32⟩
  | 14 => ⟨S1x4096x2816, .f32⟩
  | 15 => ⟨S_, .f32⟩
  | 16 => ⟨S1x4096x2816, .f32⟩
  | 17 => ⟨S1x4096x2816, .f32⟩
  | 18 => ⟨S1x4096x2816, .f32⟩
  | 19 => ⟨S1x4096x2816, .f32⟩
  | 20 => ⟨S4096x2816, .f32⟩
  | 21 => ⟨S4096x2816, .bf16⟩
  | 22 => ⟨S8x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v21_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v21_1 : Ref sig .tc := ⟨.hbm, 42, rfl⟩
abbrev main_v21_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_3 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_4 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_v60 : Ref sig .tc := ⟨.hbm, 91, rfl⟩
abbrev main_cst_9 : Ref sig .tc := ⟨.hbm, 92, rfl⟩
abbrev main_v61 : Ref sig .tc := ⟨.hbm, 93, rfl⟩
abbrev main_v62 : Ref sig .tc := ⟨.hbm, 94, rfl⟩
abbrev main_cst_10 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_call2_v0 : Ref sig .tc := ⟨.hbm, 108, rfl⟩
abbrev main_call2_v1 : Ref sig .tc := ⟨.hbm, 109, rfl⟩
abbrev main_call2_cst : Ref sig .tc := ⟨.hbm, 110, rfl⟩
abbrev main_call2_v2 : Ref sig .tc := ⟨.hbm, 111, rfl⟩
abbrev main_call2_v3 : Ref sig .tc := ⟨.hbm, 112, rfl⟩
abbrev main_call2_cst_0 : Ref sig .tc := ⟨.hbm, 113, rfl⟩
abbrev main_call2_v4 : Ref sig .tc := ⟨.hbm, 114, rfl⟩
abbrev main_v75_2 : Ref sig .tc := ⟨.hbm, 115, rfl⟩
abbrev main_call2_cst_1 : Ref sig .tc := ⟨.hbm, 116, rfl⟩
abbrev main_call2_v6 : Ref sig .tc := ⟨.hbm, 117, rfl⟩
abbrev main_call2_v7 : Ref sig .tc := ⟨.hbm, 118, rfl⟩
abbrev main_v75_1 : Ref sig .tc := ⟨.hbm, 119, rfl⟩
abbrev main_v75_0 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_call3_v0 : Ref sig .tc := ⟨.hbm, 127, rfl⟩
abbrev main_call3_v1 : Ref sig .tc := ⟨.hbm, 128, rfl⟩
abbrev main_call3_v2 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_call4_v0 : Ref sig .tc := ⟨.hbm, 138, rfl⟩
abbrev main_call4_v1 : Ref sig .tc := ⟨.hbm, 139, rfl⟩
abbrev main_call4_cst : Ref sig .tc := ⟨.hbm, 140, rfl⟩
abbrev main_call4_v2 : Ref sig .tc := ⟨.hbm, 141, rfl⟩
abbrev main_call4_v3 : Ref sig .tc := ⟨.hbm, 142, rfl⟩
abbrev main_call4_cst_0 : Ref sig .tc := ⟨.hbm, 143, rfl⟩
abbrev main_call4_v4 : Ref sig .tc := ⟨.hbm, 144, rfl⟩
abbrev main_call4_v5 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩

abbrev nD : Nat := 1
abbrev τ : Topo := Topo.v7x

variable {F : FTy → Type} [FloatOps F]
-- ==== KernelIn.lean ====
abbrev S1x4096x1024 : Shape := ⟨3, ![1, 4096, 1024]⟩
abbrev S1x1024 : Shape := ⟨2, ![1, 1024]⟩
abbrev S1x1024x1792 : Shape := ⟨3, ![1, 1024, 1792]⟩
abbrev S1x1792 : Shape := ⟨2, ![1, 1792]⟩
abbrev S4096x1024 : Shape := ⟨2, ![4096, 1024]⟩
abbrev S1x4096x8x64 : Shape := ⟨4, ![1, 4096, 8, 64]⟩
abbrev S1x4096x2x64 : Shape := ⟨4, ![1, 4096, 2, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S1x4096x1x64 : Shape := ⟨4, ![1, 4096, 1, 64]⟩
abbrev S4096x128 : Shape := ⟨2, ![4096, 128]⟩
abbrev S4096x512 : Shape := ⟨2, ![4096, 512]⟩
abbrev S1024x1792 : Shape := ⟨2, ![1024, 1792]⟩
abbrev S1792x1024 : Shape := ⟨2, ![1792, 1024]⟩
abbrev S4096x1792 : Shape := ⟨2, ![4096, 1792]⟩
abbrev S8x1024 : Shape := ⟨2, ![8, 1024]⟩
abbrev S8x768 : Shape := ⟨2, ![8, 768]⟩
abbrev S512x1024 : Shape := ⟨2, ![512, 1024]⟩
abbrev S512x512 : Shape := ⟨2, ![512, 512]⟩
abbrev S512x128 : Shape := ⟨2, ![512, 128]⟩
abbrev S512x1792 : Shape := ⟨2, ![512, 1792]⟩
abbrev S512x768 : Shape := ⟨2, ![512, 768]⟩
abbrev S768 : Shape := ⟨1, ![768]⟩
abbrev S1x768 : Shape := ⟨2, ![1, 768]⟩
abbrev S512 : Shape := ⟨1, ![512]⟩
abbrev S512x1 : Shape := ⟨2, ![512, 1]⟩
abbrev S1024 : Shape := ⟨1, ![1024]⟩

abbrev nBuf : Space → Nat
  | .hbm => 53
  | .vmem => 24
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x1792, .f32⟩
  | .hbm, ⟨3, _⟩ => ⟨S1x1792, .f32⟩
  | .hbm, ⟨4, _⟩ => ⟨S4096x1024, .f32⟩
  | .hbm, ⟨5, _⟩ => ⟨S1x4096x8x64, .f32⟩
  | .hbm, ⟨6, _⟩ => ⟨S1x4096x2x64, .f32⟩
  | .hbm, ⟨7, _⟩ => ⟨S1x4096x2x64, .f32⟩
  | .hbm, ⟨8, _⟩ => ⟨S1x4096x1024, .f32⟩
  | .hbm, ⟨9, _⟩ => ⟨S4096, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S4096x1, .f32⟩
  | .hbm, ⟨25, _⟩ => ⟨S1x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x64, .f32⟩
  | .hbm, ⟨32, _⟩ => ⟨S1x4096x1x64, .f32⟩
  | .hbm, ⟨33, _⟩ => ⟨S1x4096x2x64, .f32⟩
  | .hbm, ⟨34, _⟩ => ⟨S4096x128, .f32⟩
  | .hbm, ⟨35, _⟩ => ⟨S4096x32, .f32⟩
  | .hbm, ⟨36, _⟩ => ⟨S4096x64, .f32⟩
  | .hbm, ⟨37, _⟩ => ⟨S1x4096x1x64, .f32⟩
  | .hbm, ⟨38, _⟩ => ⟨S1x4096x2x64, .f32⟩
  | .hbm, ⟨39, _⟩ => ⟨S4096x128, .f32⟩
  | .hbm, ⟨40, _⟩ => ⟨S4096x1024, .bf16⟩
  | .hbm, ⟨41, _⟩ => ⟨S4096x512, .f32⟩
  | .hbm, ⟨42, _⟩ => ⟨S4096x128, .f32⟩
  | .hbm, ⟨43, _⟩ => ⟨S4096x128, .f32⟩
  | .hbm, ⟨44, _⟩ => ⟨S4096x1024, .f32⟩
  | .hbm, ⟨45, _⟩ => ⟨S4096x1024, .f32⟩
  | .hbm, ⟨46, _⟩ => ⟨S1024x1792, .f32⟩
  | .hbm, ⟨47, _⟩ => ⟨S1792x1024, .f32⟩
  | .hbm, ⟨48, _⟩ => ⟨S1792x1024, .bf16⟩
  | .hbm, ⟨49, _⟩ => ⟨S4096x1024, .f32⟩
  | .hbm, ⟨50, _⟩ => ⟨S4096x1792, .bf16⟩
  | .hbm, ⟨51, _⟩ => ⟨S8x1024, .f32⟩
  | .hbm, ⟨52, _⟩ => ⟨S8x768, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1792x1024, .bf16⟩
  | .local _ .vmem, ⟨18, _⟩ => ⟨S512x1024, .f32⟩
  | .local _ .vmem, ⟨19, _⟩ => ⟨S512x1024, .f32⟩
  | .local _ .vmem, ⟨20, _⟩ => ⟨S512x1792, .bf16⟩
  | .local _ .vmem, ⟨21, _⟩ => ⟨S512x1792, .bf16⟩
  | .local _ .vmem, ⟨22, _⟩ => ⟨S8x1024, .f32⟩
  | .local _ .vmem, ⟨23, _⟩ => ⟨S8x768, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36_0 : Ref sig .tc := ⟨.hbm, 49, rfl⟩
abbrev main_v36_1 : Ref sig .tc := ⟨.hbm, 50, rfl⟩
abbrev main_v36_2 : Ref sig .tc := ⟨.hbm, 51, rfl⟩
abbrev main_v36_3 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1792x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1792 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceInIdeal.lean ====
abbrev S1x4096x1024 : Shape := ⟨3, ![1, 4096, 1024]⟩
abbrev S1x1024 : Shape := ⟨2, ![1, 1024]⟩
abbrev S1x1024x1792 : Shape := ⟨3, ![1, 1024, 1792]⟩
abbrev S1x1792 : Shape := ⟨2, ![1, 1792]⟩
abbrev S4096x1024 : Shape := ⟨2, ![4096, 1024]⟩
abbrev S1x4096x8x64 : Shape := ⟨4, ![1, 4096, 8, 64]⟩
abbrev S1x4096x2x64 : Shape := ⟨4, ![1, 4096, 2, 64]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x1792 : Shape := ⟨2, ![1024, 1792]⟩
abbrev S1x4096x1792 : Shape := ⟨3, ![1, 4096, 1792]⟩
abbrev S1792 : Shape := ⟨1, ![1792]⟩
abbrev S1x1x1792 : Shape := ⟨3, ![1, 1, 1792]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x512 : Shape := ⟨3, ![1, 4096, 512]⟩
abbrev S1x4096x128 : Shape := ⟨3, ![1, 4096, 128]⟩
abbrev S1x4096x8x32 : Shape := ⟨4, ![1, 4096, 8, 32]⟩
abbrev S1x4096x1x32 : Shape := ⟨4, ![1, 4096, 1, 32]⟩
abbrev S1x4096x2x32 : Shape := ⟨4, ![1, 4096, 2, 32]⟩
abbrev S4096x1792 : Shape := ⟨2, ![4096, 1792]⟩
abbrev S8x1024 : Shape := ⟨2, ![8, 1024]⟩
abbrev S1x768 : Shape := ⟨2, ![1, 768]⟩
abbrev S8x768 : Shape := ⟨2, ![8, 768]⟩

abbrev nBuf : Space → Nat
  | .hbm => 170
  | .vmem => 0
  | .smem => 0
  | _ => 0

abbrev hbmTy0_0 (i : Nat) : BufTy := match i % 128 with
  | 0 => ⟨S1x4096x1024, .f32⟩
  | 1 => ⟨S1x1024, .f32⟩
  | 2 => ⟨S1x1024x1792, .f32⟩
  | 3 => ⟨S1x1792, .f32⟩
  | 4 => ⟨S4096x1024, .f32⟩
  | 5 => ⟨S1x4096x8x64, .f32⟩
  | 6 => ⟨S1x4096x2x64, .f32⟩
  | 7 => ⟨S1x4096x2x64, .f32⟩
  | 8 => ⟨S1x4096x1024, .f32⟩
  | 9 => ⟨S1024, .f32⟩
  | 10 => ⟨S1x4096x1024, .f32⟩
  | 11 => ⟨S_, .f32⟩
  | 12 => ⟨S1x4096, .f32⟩
  | 13 => ⟨S1x4096x1, .f32⟩
  | 14 => ⟨S_, .f32⟩
  | 15 => ⟨S1x4096x1, .f32⟩
  | 16 => ⟨S1x4096x1, .f32⟩
  | 17 => ⟨S_, .f32⟩
  | 18 => ⟨S1x4096x1, .f32⟩
  | 19 => ⟨S1x4096x1, .f32⟩
  | 20 => ⟨S1x4096x1, .f32⟩
  | 21 => ⟨S1x4096x1, .f32⟩
  | 22 => ⟨S_, .f32⟩
  | 23 => ⟨S1x4096x1, .f32⟩
  | 24 => ⟨S1x4096x1, .f32⟩
  | 25 => ⟨S1x4096x1024, .f32⟩
  | 26 => ⟨S1x4096x1024, .f32⟩
  | 27 => ⟨S1x1x1024, .f32⟩
  | 28 => ⟨S1x4096x1024, .f32⟩
  | 29 => ⟨S1x4096x1024, .f32⟩
  | 30 => ⟨S1024x1792, .f32⟩
  | 31 => ⟨S1x4096x1792, .f32⟩
  | 32 => ⟨S1792, .f32⟩
  | 33 => ⟨S1x1x1792, .f32⟩
  | 34 => ⟨S1x4096x1792, .f32⟩
  | 35 => ⟨S1x4096x1792, .f32⟩
  | 36 => ⟨S4096, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S32, .f32⟩
  | 45 => ⟨S_, .f32⟩
  | 46 => ⟨S32, .f32⟩
  | 47 => ⟨S32, .f32⟩
  | 48 => ⟨S_, .f32⟩
  | 49 => ⟨S32, .f32⟩
  | 50 => ⟨S32, .f32⟩
  | 51 => ⟨S4096x1, .f32⟩
  | 52 => ⟨S1x32, .f32⟩
  | 53 => ⟨S4096x32, .f32⟩
  | 54 => ⟨S4096x32, .f32⟩
  | 55 => ⟨S4096x32, .f32⟩
  | 56 => ⟨S4096x32, .f32⟩
  | 57 => ⟨S4096x32, .f32⟩
  | 58 => ⟨S1x4096x1024, .f32⟩
  | 59 => ⟨S1x4096x512, .f32⟩
  | 60 => ⟨S1x4096x128, .f32⟩
  | 61 => ⟨S1x4096x128, .f32⟩
  | 62 => ⟨S1x4096x8x64, .f32⟩
  | 63 => ⟨S1x4096x8x32, .f32⟩
  | 64 => ⟨S1x4096x8x32, .f32⟩
  | 65 => ⟨S1x4096x1x32, .f32⟩
  | 66 => ⟨S1x4096x1x32, .f32⟩
  | 67 => ⟨S1x4096x8x32, .f32⟩
  | 68 => ⟨S1x4096x8x32, .f32⟩
  | 69 => ⟨S1x4096x8x32, .f32⟩
  | 70 => ⟨S1x4096x8x32, .f32⟩
  | 71 => ⟨S1x4096x8x32, .f32⟩
  | 72 => ⟨S1x4096x8x32, .f32⟩
  | 73 => ⟨S1x4096x8x32, .f32⟩
  | 74 => ⟨S1x4096x8x32, .f32⟩
  | 75 => ⟨S1x4096x8x32, .f32⟩
  | 76 => ⟨S1x4096x8x32, .f32⟩
  | 77 => ⟨S1x4096x8x64, .f32⟩
  | 78 => ⟨S1x4096x2x64, .f32⟩
  | 79 => ⟨S1x4096x2x32, .f32⟩
  | 80 => ⟨S1x4096x2x32, .f32⟩
  | 81 => ⟨S1x4096x1x32, .f32⟩
  | 82 => ⟨S1x4096x1x32, .f32⟩
  | 83 => ⟨S1x4096x2x32, .f32⟩
  | 84 => ⟨S1x4096x2x32, .f32⟩
  | 85 => ⟨S1x4096x2x32, .f32⟩
  | 86 => ⟨S1x4096x2x32, .f32⟩
  | 87 => ⟨S1x4096x2x32, .f32⟩
  | 88 => ⟨S1x4096x2x32, .f32⟩
  | 89 => ⟨S1x4096x2x32, .f32⟩
  | 90 => ⟨S1x4096x2x32, .f32⟩
  | 91 => ⟨S1x4096x2x32, .f32⟩
  | 92 => ⟨S1x4096x2x32, .f32⟩
  | 93 => ⟨S1x4096x2x64, .f32⟩
  | 94 => ⟨S1x4096x2x64, .f32⟩
  | 95 => ⟨S1x4096x1024, .f32⟩
  | 96 => ⟨S1x4096x128, .f32⟩
  | 97 => ⟨S1x4096x2x32, .f32⟩
  | 98 => ⟨S1x4096x2x32, .f32⟩
  | 99 => ⟨S1x4096x2x32, .f32⟩
  | 100 => ⟨S1x4096x2x32, .f32⟩
  | 101 => ⟨S1x4096x2x32, .f32⟩
  | 102 => ⟨S1x4096x2x32, .f32⟩
  | 103 => ⟨S1x4096x2x32, .f32⟩
  | 104 => ⟨S1x4096x2x32, .f32⟩
  | 105 => ⟨S1x4096x2x32, .f32⟩
  | 106 => ⟨S1x4096x2x32, .f32⟩
  | 107 => ⟨S1x4096x2x32, .f32⟩
  | 108 => ⟨S1x4096x2x32, .f32⟩
  | 109 => ⟨S1x4096x2x32, .f32⟩
  | 110 => ⟨S1x4096x2x64, .f32⟩
  | 111 => ⟨S1x4096x128, .f32⟩
  | 112 => ⟨S1x4096x8x32, .f32⟩
  | 113 => ⟨S1x4096x8x32, .f32⟩
  | 114 => ⟨S1x4096x8x32, .f32⟩
  | 115 => ⟨S1x4096x8x32, .f32⟩
  | 116 => ⟨S1x4096x8x32, .f32⟩
  | 117 => ⟨S1x4096x8x32, .f32⟩
  | 118 => ⟨S1x4096x8x32, .f32⟩
  | 119 => ⟨S1x4096x8x32, .f32⟩
  | 120 => ⟨S1x4096x8x32, .f32⟩
  | 121 => ⟨S1x4096x8x32, .f32⟩
  | 122 => ⟨S1x4096x8x32, .f32⟩
  | 123 => ⟨S1x4096x8x32, .f32⟩
  | 124 => ⟨S1x4096x8x32, .f32⟩
  | 125 => ⟨S1x4096x8x64, .f32⟩
  | 126 => ⟨S1x4096x512, .f32⟩
  | 127 => ⟨S1x4096x1792, .f32⟩
  | _ => ⟨S1x4096x1024, .f32⟩

abbrev hbmTy0_1 (i : Nat) : BufTy := match i % 128 with
  | 0 => ⟨S_, .f32⟩
  | 1 => ⟨S1x1792, .f32⟩
  | 2 => ⟨S1x1x1792, .f32⟩
  | 3 => ⟨S_, .f32⟩
  | 4 => ⟨S1792, .f32⟩
  | 5 => ⟨S1x1792, .f32⟩
  | 6 => ⟨S1x4096x1024, .f32⟩
  | 7 => ⟨S1x4096x1024, .f32⟩
  | 8 => ⟨S_, .f32⟩
  | 9 => ⟨S1x1024, .f32⟩
  | 10 => ⟨S1x1x1024, .f32⟩
  | 11 => ⟨S1x4096x1024, .f32⟩
  | 12 => ⟨S1x4096x1024, .f32⟩
  | 13 => ⟨S_, .f32⟩
  | 14 => ⟨S1024, .f32⟩
  | 15 => ⟨S1x4096x1024, .f32⟩
  | 16 => ⟨S_, .f32⟩
  | 17 => ⟨S1x4096, .f32⟩
  | 18 => ⟨S1x4096x1, .f32⟩
  | 19 => ⟨S1x4096x1024, .f32⟩
  | 20 => ⟨S1x4096x1024, .f32⟩
  | 21 => ⟨S1x4096x1, .f32⟩
  | 22 => ⟨S_, .f32⟩
  | 23 => ⟨S1x4096x1, .f32⟩
  | 24 => ⟨S1x4096x1, .f32⟩
  | 25 => ⟨S_, .f32⟩
  | 26 => ⟨S4096, .f32⟩
  | 27 => ⟨S1x4096, .f32⟩
  | 28 => ⟨S1x4096x1024, .f32⟩
  | 29 => ⟨S1x4096x1024, .f32⟩
  | 30 => ⟨S1x4096x1024, .f32⟩
  | 31 => ⟨S1x4096x1024, .f32⟩
  | 32 => ⟨S1x4096x1024, .f32⟩
  | 33 => ⟨S1x1024, .f32⟩
  | 34 => ⟨S4096x1024, .f32⟩
  | 35 => ⟨S4096x1024, .f32⟩
  | 36 => ⟨S4096x1024, .f32⟩
  | 37 => ⟨S4096x1792, .f32⟩
  | 38 => ⟨S4096x1792, .bf16⟩
  | 39 => ⟨S8x1024, .f32⟩
  | 40 => ⟨S1x768, .f32⟩
  | 41 => ⟨S8x768, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_cst_7 : Ref sig .tc := ⟨.hbm, 128, rfl⟩
abbrev main_v111 : Ref sig .tc := ⟨.hbm, 129, rfl⟩
abbrev main_v112 : Ref sig .tc := ⟨.hbm, 130, rfl⟩
abbrev main_cst_8 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_cst_9 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_cst_10 : Ref sig .tc := ⟨.hbm, 141, rfl⟩
abbrev main_v121 : Ref sig .tc := ⟨.hbm, 142, rfl⟩
abbrev main_v122 : Ref sig .tc := ⟨.hbm, 143, rfl⟩
abbrev main_cst_11 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_cst_12 : Ref sig .tc := ⟨.hbm, 150, rfl⟩
abbrev main_v128 : Ref sig .tc := ⟨.hbm, 151, rfl⟩
abbrev main_v129 : Ref sig .tc := ⟨.hbm, 152, rfl⟩
abbrev main_cst_13 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩

abbrev nD : Nat := 1
abbrev τ : Topo := Topo.v7x

variable {F : FTy → Type} [FloatOps F]
-- ==== KernelMem.lean ====
abbrev S1x4096x1024 : Shape := ⟨3, ![1, 4096, 1024]⟩
abbrev S1x4096x512 : Shape := ⟨3, ![1, 4096, 512]⟩
abbrev S1x512 : Shape := ⟨2, ![1, 512]⟩
abbrev S1x256x1024 : Shape := ⟨3, ![1, 256, 1024]⟩
abbrev S1x1024x1024 : Shape := ⟨3, ![1, 1024, 1024]⟩
abbrev S1x1024 : Shape := ⟨2, ![1, 1024]⟩
abbrev S1x1024x2048 : Shape := ⟨3, ![1, 1024, 2048]⟩
abbrev S4096x512 : Shape := ⟨2, ![4096, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S4096x1024 : Shape := ⟨2, ![4096, 1024]⟩
abbrev S1024x1024 : Shape := ⟨2, ![1024, 1024]⟩
abbrev S1024 : Shape := ⟨1, ![1024]⟩
abbrev S256x1024 : Shape := ⟨2, ![256, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩
abbrev S8x128 : Shape := ⟨2, ![8, 128]⟩
abbrev S8x1024 : Shape := ⟨2, ![8, 1024]⟩
abbrev S8x512 : Shape := ⟨2, ![8, 512]⟩
abbrev S512x1024 : Shape := ⟨2, ![512, 1024]⟩
abbrev S512x512 : Shape := ⟨2, ![512, 512]⟩
abbrev S1024x512 : Shape := ⟨2, ![1024, 512]⟩
abbrev S512x256 : Shape := ⟨2, ![512, 256]⟩
abbrev S256x256 : Shape := ⟨2, ![256, 256]⟩
abbrev S256x512 : Shape := ⟨2, ![256, 512]⟩
abbrev S512x1 : Shape := ⟨2, ![512, 1]⟩

abbrev nBuf : Space → Nat
  | .hbm => 136
  | .vmem => 35
  | .smem => 0
  | _ => 0

abbrev hbmTy0_0 (i : Nat) : BufTy := match i % 128 with
  | 0 => ⟨S1x4096x1024, .f32⟩
  | 1 => ⟨S1x4096x512, .f32⟩
  | 2 => ⟨S1x512, .f32⟩
  | 3 => ⟨S1x4096x512, .f32⟩
  | 4 => ⟨S1x256x1024, .f32⟩
  | 5 => ⟨S1x512, .f32⟩
  | 6 => ⟨S1x512, .f32⟩
  | 7 => ⟨S1x1024x1024, .f32⟩
  | 8 => ⟨S1x1024, .f32⟩
  | 9 => ⟨S1x1024, .f32⟩
  | 10 => ⟨S1x1024, .f32⟩
  | 11 => ⟨S1x1024x1024, .f32⟩
  | 12 => ⟨S1x1024x2048, .f32⟩
  | 13 => ⟨S1x1024x1024, .f32⟩
  | 14 => ⟨S1x4096x1024, .f32⟩
  | 15 => ⟨S4096x512, .f32⟩
  | 16 => ⟨S4096x512, .f32⟩
  | 17 => ⟨S4096x512, .f32⟩
  | 18 => ⟨S512, .f32⟩
  | 19 => ⟨S512, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S4096x512, .f32⟩
  | 27 => ⟨S4096x512, .f32⟩
  | 28 => ⟨S4096x512, .f32⟩
  | 29 => ⟨S_, .f32⟩
  | 30 => ⟨S4096, .f32⟩
  | 31 => ⟨S4096x1, .f32⟩
  | 32 => ⟨S_, .f32⟩
  | 33 => ⟨S4096x1, .f32⟩
  | 34 => ⟨S4096x1, .f32⟩
  | 35 => ⟨S4096x512, .f32⟩
  | 36 => ⟨S4096x512, .f32⟩
  | 37 => ⟨S_, .f32⟩
  | 38 => ⟨S4096x1, .f32⟩
  | 39 => ⟨S4096x1, .f32⟩
  | 40 => ⟨S4096x1, .f32⟩
  | 41 => ⟨S4096x512, .f32⟩
  | 42 => ⟨S4096x512, .f32⟩
  | 43 => ⟨S1x512, .f32⟩
  | 44 => ⟨S4096x512, .f32⟩
  | 45 => ⟨S4096x512, .f32⟩
  | 46 => ⟨S1x512, .f32⟩
  | 47 => ⟨S4096x512, .f32⟩
  | 48 => ⟨S4096x512, .f32⟩
  | 49 => ⟨S4096x512, .f32⟩
  | 50 => ⟨S4096x512, .f32⟩
  | 51 => ⟨S_, .f32⟩
  | 52 => ⟨S4096x512, .f32⟩
  | 53 => ⟨S4096x512, .f32⟩
  | 54 => ⟨S_, .f32⟩
  | 55 => ⟨S4096x512, .f32⟩
  | 56 => ⟨S4096x512, .f32⟩
  | 57 => ⟨S4096x512, .f32⟩
  | 58 => ⟨S4096x1024, .f32⟩
  | 59 => ⟨S4096x512, .f32⟩
  | 60 => ⟨S4096x1024, .f32⟩
  | 61 => ⟨S1024x1024, .f32⟩
  | 62 => ⟨S4096x1024, .f32⟩
  | 63 => ⟨S1024, .f32⟩
  | 64 => ⟨S1x1024, .f32⟩
  | 65 => ⟨S4096x1024, .f32⟩
  | 66 => ⟨S4096x1024, .f32⟩
  | 67 => ⟨S4096x1024, .f32⟩
  | 68 => ⟨S1024, .f32⟩
  | 69 => ⟨S4096x1024, .f32⟩
  | 70 => ⟨S_, .f32⟩
  | 71 => ⟨S4096, .f32⟩
  | 72 => ⟨S4096x1, .f32⟩
  | 73 => ⟨S_, .f32⟩
  | 74 => ⟨S4096x1, .f32⟩
  | 75 => ⟨S4096x1, .f32⟩
  | 76 => ⟨S_, .f32⟩
  | 77 => ⟨S4096x1, .f32⟩
  | 78 => ⟨S4096x1, .f32⟩
  | 79 => ⟨S4096x1, .f32⟩
  | 80 => ⟨S4096x1024, .f32⟩
  | 81 => ⟨S4096x1024, .f32⟩
  | 82 => ⟨S1x1024, .f32⟩
  | 83 => ⟨S4096x1024, .f32⟩
  | 84 => ⟨S4096x1024, .f32⟩
  | 85 => ⟨S1024x1024, .f32⟩
  | 86 => ⟨S4096x1024, .f32⟩
  | 87 => ⟨S_, .f32⟩
  | 88 => ⟨S4096x1024, .f32⟩
  | 89 => ⟨S4096x1024, .f32⟩
  | 90 => ⟨S4096x1024, .bf16⟩
  | 91 => ⟨S256x1024, .f32⟩
  | 92 => ⟨S1024, .f32⟩
  | 93 => ⟨S256x1024, .f32⟩
  | 94 => ⟨S_, .f32⟩
  | 95 => ⟨S256, .f32⟩
  | 96 => ⟨S256x1, .f32⟩
  | 97 => ⟨S_, .f32⟩
  | 98 => ⟨S256x1, .f32⟩
  | 99 => ⟨S256x1, .f32⟩
  | 100 => ⟨S_, .f32⟩
  | 101 => ⟨S256x1, .f32⟩
  | 102 => ⟨S256x1, .f32⟩
  | 103 => ⟨S256x1, .f32⟩
  | 104 => ⟨S256x1024, .f32⟩
  | 105 => ⟨S256x1024, .f32⟩
  | 106 => ⟨S1x1024, .f32⟩
  | 107 => ⟨S256x1024, .f32⟩
  | 108 => ⟨S256x1024, .f32⟩
  | 109 => ⟨S1024x2048, .f32⟩
  | 110 => ⟨S256x2048, .f32⟩
  | 111 => ⟨S256x2048, .bf16⟩
  | 112 => ⟨S256x1024, .bf16⟩
  | 113 => ⟨S256x1024, .bf16⟩
  | 114 => ⟨S4096x1024, .f32⟩
  | 115 => ⟨S1024x1024, .f32⟩
  | 116 => ⟨S1024x1024, .bf16⟩
  | 117 => ⟨S1024x1024, .f32⟩
  | 118 => ⟨S1024x1024, .bf16⟩
  | 119 => ⟨S1024x1024, .f32⟩
  | 120 => ⟨S1024x1024, .bf16⟩
  | 121 => ⟨S_, .f32⟩
  | 122 => ⟨S8x128, .f32⟩
  | 123 => ⟨S4096x1024, .f32⟩
  | 124 => ⟨S4096x1024, .bf16⟩
  | 125 => ⟨S4096x1024, .bf16⟩
  | 126 => ⟨S4096x1024, .bf16⟩
  | 127 => ⟨S4096x512, .f32⟩
  | _ => ⟨S1x4096x1024, .f32⟩

abbrev hbmTy0_1 (i : Nat) : BufTy := match i % 128 with
  | 0 => ⟨S4096x512, .bf16⟩
  | 1 => ⟨S256x1024, .f32⟩
  | 2 => ⟨S256x1024, .f32⟩
  | 3 => ⟨S8x1024, .f32⟩
  | 4 => ⟨S8x1024, .f32⟩
  | 5 => ⟨S8x512, .f32⟩
  | 6 => ⟨S8x512, .f32⟩
  | 7 => ⟨S8x512, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x512, .f32⟩
  | .local _ .vmem, ⟨13, _⟩ => ⟨S512x512, .f32⟩
  | .local _ .vmem, ⟨14, _⟩ => ⟨S1x512, .f32⟩
  | .local _ .vmem, ⟨15, _⟩ => ⟨S1x512, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x512, .f32⟩
  | .local _ .vmem, ⟨25, _⟩ => ⟨S512x512, .f32⟩
  | .local _ .vmem, ⟨26, _⟩ => ⟨S512x512, .bf16⟩
  | .local _ .vmem, ⟨27, _⟩ => ⟨S512x512, .bf16⟩
  | .local _ .vmem, ⟨28, _⟩ => ⟨S256x1024, .f32⟩
  | .local _ .vmem, ⟨29, _⟩ => ⟨S256x1024, .f32⟩
  | .local _ .vmem, ⟨30, _⟩ => ⟨S8x1024, .f32⟩
  | .local _ .vmem, ⟨31, _⟩ => ⟨S8x1024, .f32⟩
  | .local _ .vmem, ⟨32, _⟩ => ⟨S8x512, .f32⟩
  | .local _ .vmem, ⟨33, _⟩ => ⟨S8x512, .f32⟩
  | .local _ .vmem, ⟨34, _⟩ => ⟨S8x512, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_4 : Ref sig .tc := ⟨.hbm, 70, rfl⟩
abbrev main_v42 : Ref sig .tc := ⟨.hbm, 71, rfl⟩
abbrev main_v43 : Ref sig .tc := ⟨.hbm, 72, rfl⟩
abbrev main_cst_5 : Ref sig .tc := ⟨.hbm, 73, rfl⟩
abbrev main_v44 : Ref sig .tc := ⟨.hbm, 74, rfl⟩
abbrev main_v45 : Ref sig .tc := ⟨.hbm, 75, rfl⟩
abbrev main_cst_6 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_7 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_8 : Ref sig .tc := ⟨.hbm, 94, rfl⟩
abbrev main_v62 : Ref sig .tc := ⟨.hbm, 95, rfl⟩
abbrev main_v63 : Ref sig .tc := ⟨.hbm, 96, rfl⟩
abbrev main_cst_9 : Ref sig .tc := ⟨.hbm, 97, rfl⟩
abbrev main_v64 : Ref sig .tc := ⟨.hbm, 98, rfl⟩
abbrev main_v65 : Ref sig .tc := ⟨.hbm, 99, rfl⟩
abbrev main_cst_10 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_11 : Ref sig .tc := ⟨.hbm, 121, rfl⟩
abbrev main_v86 : Ref sig .tc := ⟨.hbm, 122, rfl⟩
abbrev main_v87_0 : Ref sig .tc := ⟨.hbm, 123, rfl⟩
abbrev main_v87_1 : Ref sig .tc := ⟨.hbm, 124, rfl⟩
abbrev main_v87_2 : Ref sig .tc := ⟨.hbm, 125, rfl⟩
abbrev main_v87_3 : Ref sig .tc := ⟨.hbm, 126, rfl⟩
abbrev main_v87_4 : Ref sig .tc := ⟨.hbm, 127, rfl⟩
abbrev main_v87_5 : Ref sig .tc := ⟨.hbm, 128, rfl⟩
abbrev main_v87_6 : Ref sig .tc := ⟨.hbm, 129, rfl⟩
abbrev main_v87_7 : Ref sig .tc := ⟨.hbm, 130, rfl⟩
abbrev main_v87_8 : Ref sig .tc := ⟨.hbm, 131, rfl⟩
abbrev main_v87_9 : Ref sig .tc := ⟨.hbm, 132, rfl⟩
abbrev main_v87_10 : Ref sig .tc := ⟨.hbm, 133, rfl⟩
abbrev main_v87_11 : Ref sig .tc := ⟨.hbm, 134, rfl⟩
abbrev main_v87_12 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg22_0 : Ref sig .tc := ⟨.vmem, 32, rfl⟩
abbrev cc0_stg23_0 : Ref sig .tc := ⟨.vmem, 33, rfl⟩
abbrev cc0_stg24_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem22_0 : DmaSem sig := 32
abbrev cc0_sem23_0 : DmaSem sig := 33
abbrev cc0_sem24_0 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S256x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== ReferenceMemIdeal.lean ====
abbrev S1x4096x1024 : Shape := ⟨3, ![1, 4096, 1024]⟩
abbrev S1x4096x512 : Shape := ⟨3, ![1, 4096, 512]⟩
abbrev S1x512 : Shape := ⟨2, ![1, 512]⟩
abbrev S1x256x1024 : Shape := ⟨3, ![1, 256, 1024]⟩
abbrev S1x1024x1024 : Shape := ⟨3, ![1, 1024, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S1x256 : Shape := ⟨2, ![1, 256]⟩
abbrev S1x256x1 : Shape := ⟨3, ![1, 256, 1]⟩
abbrev S1x1x1024 : Shape := ⟨3, ![1, 1, 1024]⟩
abbrev S1024x2048 : Shape := ⟨2, ![1024, 2048]⟩
abbrev S1x256x2048 : Shape := ⟨3, ![1, 256, 2048]⟩
abbrev S512 : Shape := ⟨1, ![512]⟩
abbrev S1x1x512 : Shape := ⟨3, ![1, 1, 512]⟩
abbrev S1x4096 : Shape := ⟨2, ![1, 4096]⟩
abbrev S1x4096x1 : Shape := ⟨3, ![1, 4096, 1]⟩
abbrev S1024x1024 : Shape := ⟨2, ![1024, 1024]⟩
abbrev S1x4096x4x256 : Shape := ⟨4, ![1, 4096, 4, 256]⟩
abbrev S1x256x4x256 : Shape := ⟨4, ![1, 256, 4, 256]⟩
abbrev S1x4x4096x256 : Shape := ⟨4, ![1, 4, 4096, 256]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩
abbrev S1x4x256x256 : Shape := ⟨4, ![1, 4, 256, 256]⟩
abbrev S4x4096 : Shape := ⟨2, ![4, 4096]⟩
abbrev S4096 : Shape := ⟨1, ![4096]⟩
abbrev S4096x1024 : Shape := ⟨2, ![4096, 1024]⟩
abbrev S4096x512 : Shape := ⟨2, ![4096, 512]⟩
abbrev S256x1024 : Shape := ⟨2, ![256, 1024]⟩
abbrev S8x1024 : Shape := ⟨2, ![8, 1024]⟩
abbrev S8x512 : Shape := ⟨2, ![8, 512]⟩

abbrev nBuf : Space → Nat
  | .hbm => 316
  | .vmem => 0
  | .smem => 0
  | _ => 0

abbrev hbmTy0_0 (i : Nat) : BufTy := match i % 128 with
  | 0 => ⟨S1x4096x1024, .f32⟩
  | 1 => ⟨S1x4096x512, .f32⟩
  | 2 => ⟨S1x512, .f32⟩
  | 3 => ⟨S1x4096x512, .f32⟩
  | 4 => ⟨S1x256x1024, .f32⟩
  | 5 => ⟨S1x512, .f32⟩
  | 6 => ⟨S1x512, .f32⟩
  | 7 => ⟨S1x1024x1024, .f32⟩
  | 8 => ⟨S1x1024, .f32⟩
  | 9 => ⟨S1x1024, .f32⟩
  | 10 => ⟨S1x1024, .f32⟩
  | 11 => ⟨S1x1024x1024, .f32⟩
  | 12 => ⟨S1x1024x2048, .f32⟩
  | 13 => ⟨S1x1024x1024, .f32⟩
  | 14 => ⟨S1x4096x1024, .f32⟩
  | 15 => ⟨S1024, .f32⟩
  | 16 => ⟨S1x256x1024, .f32⟩
  | 17 => ⟨S_, .f32⟩
  | 18 => ⟨S1x256, .f32⟩
  | 19 => ⟨S1x256x1, .f32⟩
  | 20 => ⟨S_, .f32⟩
  | 21 => ⟨S1x256x1, .f32⟩
  | 22 => ⟨S1x256x1, .f32⟩
  | 23 => ⟨S_, .f32⟩
  | 24 => ⟨S1x256x1, .f32⟩
  | 25 => ⟨S1x256x1, .f32⟩
  | 26 => ⟨S1x256x1, .f32⟩
  | 27 => ⟨S1x256x1024, .f32⟩
  | 28 => ⟨S1x256x1024, .f32⟩
  | 29 => ⟨S1x1x1024, .f32⟩
  | 30 => ⟨S1x256x1024, .f32⟩
  | 31 => ⟨S1x256x1024, .f32⟩
  | 32 => ⟨S1024x2048, .f32⟩
  | 33 => ⟨S1x256x2048, .f32⟩
  | 34 => ⟨S1x256x1024, .f32⟩
  | 35 => ⟨S1x256x1024, .f32⟩
  | 36 => ⟨S512, .f32⟩
  | 37 => ⟨S1x1x512, .f32⟩
  | 38 => ⟨S1x4096x512, .f32⟩
  | 39 => ⟨S1x4096x512, .f32⟩
  | 40 => ⟨S512, .f32⟩
  | 41 => ⟨S512, .f32⟩
  | 42 => ⟨S_, .f32⟩
  | 43 => ⟨S1x4096, .f32⟩
  | 44 => ⟨S1x4096x1, .f32⟩
  | 45 => ⟨S_, .f32⟩
  | 46 => ⟨S1x4096x1, .f32⟩
  | 47 => ⟨S1x4096x1, .f32⟩
  | 48 => ⟨S1x4096x512, .f32⟩
  | 49 => ⟨S1x4096x512, .f32⟩
  | 50 => ⟨S1x4096x512, .f32⟩
  | 51 => ⟨S_, .f32⟩
  | 52 => ⟨S1x4096x512, .f32⟩
  | 53 => ⟨S1x4096x512, .f32⟩
  | 54 => ⟨S_, .f32⟩
  | 55 => ⟨S1x4096, .f32⟩
  | 56 => ⟨S1x4096x1, .f32⟩
  | 57 => ⟨S_, .f32⟩
  | 58 => ⟨S1x4096x1, .f32⟩
  | 59 => ⟨S1x4096x1, .f32⟩
  | 60 => ⟨S1x4096x512, .f32⟩
  | 61 => ⟨S1x4096x512, .f32⟩
  | 62 => ⟨S_, .f32⟩
  | 63 => ⟨S1x4096x1, .f32⟩
  | 64 => ⟨S1x4096x1, .f32⟩
  | 65 => ⟨S1x4096x1, .f32⟩
  | 66 => ⟨S1x4096x1, .f32⟩
  | 67 => ⟨S_, .f32⟩
  | 68 => ⟨S1x4096x1, .f32⟩
  | 69 => ⟨S1x4096x1, .f32⟩
  | 70 => ⟨S1x4096x512, .f32⟩
  | 71 => ⟨S1x4096x512, .f32⟩
  | 72 => ⟨S1x1x512, .f32⟩
  | 73 => ⟨S1x4096x512, .f32⟩
  | 74 => ⟨S1x4096x512, .f32⟩
  | 75 => ⟨S1x1x512, .f32⟩
  | 76 => ⟨S1x4096x512, .f32⟩
  | 77 => ⟨S1x4096x512, .f32⟩
  | 78 => ⟨S1x4096x512, .f32⟩
  | 79 => ⟨S1x4096x512, .f32⟩
  | 80 => ⟨S_, .f32⟩
  | 81 => ⟨S1x4096x512, .f32⟩
  | 82 => ⟨S1x4096x512, .f32⟩
  | 83 => ⟨S_, .f32⟩
  | 84 => ⟨S1x4096x512, .f32⟩
  | 85 => ⟨S1x4096x512, .f32⟩
  | 86 => ⟨S_, .f32⟩
  | 87 => ⟨S1x4096x512, .f32⟩
  | 88 => ⟨S1x4096x512, .f32⟩
  | 89 => ⟨S1x4096x512, .f32⟩
  | 90 => ⟨S1x4096x512, .f32⟩
  | 91 => ⟨S1x4096x1024, .f32⟩
  | 92 => ⟨S1024x1024, .f32⟩
  | 93 => ⟨S1x4096x1024, .f32⟩
  | 94 => ⟨S1024, .f32⟩
  | 95 => ⟨S1x1x1024, .f32⟩
  | 96 => ⟨S1x4096x1024, .f32⟩
  | 97 => ⟨S1x4096x1024, .f32⟩
  | 98 => ⟨S1x4096x1024, .f32⟩
  | 99 => ⟨S1024, .f32⟩
  | 100 => ⟨S1x4096x1024, .f32⟩
  | 101 => ⟨S_, .f32⟩
  | 102 => ⟨S1x4096, .f32⟩
  | 103 => ⟨S1x4096x1, .f32⟩
  | 104 => ⟨S_, .f32⟩
  | 105 => ⟨S1x4096x1, .f32⟩
  | 106 => ⟨S1x4096x1, .f32⟩
  | 107 => ⟨S_, .f32⟩
  | 108 => ⟨S1x4096x1, .f32⟩
  | 109 => ⟨S1x4096x1, .f32⟩
  | 110 => ⟨S1x4096x1, .f32⟩
  | 111 => ⟨S1x4096x1, .f32⟩
  | 112 => ⟨S_, .f32⟩
  | 113 => ⟨S1x4096x1, .f32⟩
  | 114 => ⟨S1x4096x1, .f32⟩
  | 115 => ⟨S1x4096x1024, .f32⟩
  | 116 => ⟨S1x4096x1024, .f32⟩
  | 117 => ⟨S1x1x1024, .f32⟩
  | 118 => ⟨S1x4096x1024, .f32⟩
  | 119 => ⟨S1x4096x1024, .f32⟩
  | 120 => ⟨S1024x1024, .f32⟩
  | 121 => ⟨S1x4096x1024, .f32⟩
  | 122 => ⟨S1024x1024, .f32⟩
  | 123 => ⟨S1x4096x4x256, .f32⟩
  | 124 => ⟨S1x256x4x256, .f32⟩
  | 125 => ⟨S1x256x4x256, .f32⟩
  | 126 => ⟨S1x4x4096x256, .f32⟩
  | 127 => ⟨S_, .f32⟩
  | _ => ⟨S1x4096x1024, .f32⟩

abbrev hbmTy0_1 (i : Nat) : BufTy := match i % 128 with
  | 0 => ⟨S1x4x4096x256, .f32⟩
  | 1 => ⟨S1x4x4096x256, .f32⟩
  | 2 => ⟨S_, .f32⟩
  | 3 => ⟨S1x4x4096, .f32⟩
  | 4 => ⟨S1x4x4096x1, .f32⟩
  | 5 => ⟨S1x4x4096x256, .f32⟩
  | 6 => ⟨S1x4x4096x256, .i1⟩
  | 7 => ⟨S1x4x4096x256, .f32⟩
  | 8 => ⟨S_, .f32⟩
  | 9 => ⟨S1x4x4096, .f32⟩
  | 10 => ⟨S_, .f32⟩
  | 11 => ⟨S1x4x4096, .f32⟩
  | 12 => ⟨S1x4x4096, .f32⟩
  | 13 => ⟨S_, .f32⟩
  | 14 => ⟨S1x4x4096, .f32⟩
  | 15 => ⟨S1x4x4096, .i1⟩
  | 16 => ⟨S_, .f32⟩
  | 17 => ⟨S1x4x4096, .f32⟩
  | 18 => ⟨S1x4x4096, .i1⟩
  | 19 => ⟨S_, .f32⟩
  | 20 => ⟨S1x4x4096, .f32⟩
  | 21 => ⟨S_, .f32⟩
  | 22 => ⟨S1x4x4096, .f32⟩
  | 23 => ⟨S_, .f32⟩
  | 24 => ⟨S1x4x4096, .f32⟩
  | 25 => ⟨S1x4x4096, .f32⟩
  | 26 => ⟨S1x4x4096, .f32⟩
  | 27 => ⟨S1x4x4096x1, .f32⟩
  | 28 => ⟨S1x4x4096x256, .f32⟩
  | 29 => ⟨S1x4x4096x256, .f32⟩
  | 30 => ⟨S1x4x4096x256, .f32⟩
  | 31 => ⟨S_, .f32⟩
  | 32 => ⟨S1x4x4096, .f32⟩
  | 33 => ⟨S1x4x4096x1, .f32⟩
  | 34 => ⟨S1x4x4096x256, .f32⟩
  | 35 => ⟨S1x4x4096x256, .f32⟩
  | 36 => ⟨S1x4x4096x1, .f32⟩
  | 37 => ⟨S_, .f32⟩
  | 38 => ⟨S1x4x4096x1, .f32⟩
  | 39 => ⟨S1x4x4096x1, .f32⟩
  | 40 => ⟨S1x4x256x4096, .f32⟩
  | 41 => ⟨S1x4096x4x256, .f32⟩
  | 42 => ⟨S1x4096x1024, .f32⟩
  | 43 => ⟨S1x4096x1024, .f32⟩
  | 44 => ⟨S1x4096x1024, .f32⟩
  | 45 => ⟨S1x4096x4x256, .f32⟩
  | 46 => ⟨S1x4x256x4096, .f32⟩
  | 47 => ⟨S1x4x4096x256, .f32⟩
  | 48 => ⟨S1x4x256x256, .f32⟩
  | 49 => ⟨S1x256x4x256, .f32⟩
  | 50 => ⟨S1x4x4096x256, .f32⟩
  | 51 => ⟨S1x4x4096x256, .f32⟩
  | 52 => ⟨S1x4x4096x256, .f32⟩
  | 53 => ⟨S_, .f32⟩
  | 54 => ⟨S1x4x4096, .f32⟩
  | 55 => ⟨S1x4x4096x1, .f32⟩
  | 56 => ⟨S1x4x4096x1, .f32⟩
  | 57 => ⟨S1x4x4096x256, .f32⟩
  | 58 => ⟨S1x4x4096x256, .f32⟩
  | 59 => ⟨S_, .f32⟩
  | 60 => ⟨S4x4096, .f32⟩
  | 61 => ⟨S1x4x4096, .f32⟩
  | 62 => ⟨S1x4x4096x256, .f32⟩
  | 63 => ⟨S1x4x4096x256, .f32⟩
  | 64 => ⟨S1x4x4096x256, .f32⟩
  | 65 => ⟨S_, .f32⟩
  | 66 => ⟨S1x4x4096x256, .f32⟩
  | 67 => ⟨S1x4x4096x256, .f32⟩
  | 68 => ⟨S1x4x256x256, .f32⟩
  | 69 => ⟨S1x256x4x256, .f32⟩
  | 70 => ⟨S1x4x4096x256, .f32⟩
  | 71 => ⟨S1x4096x4x256, .f32⟩
  | 72 => ⟨S1x256x1024, .f32⟩
  | 73 => ⟨S1x256x1024, .f32⟩
  | 74 => ⟨S1x4096x1024, .f32⟩
  | 75 => ⟨S1x4096x1024, .f32⟩
  | 76 => ⟨S1x4096x1024, .f32⟩
  | 77 => ⟨S_, .f32⟩
  | 78 => ⟨S1x1024, .f32⟩
  | 79 => ⟨S1x1x1024, .f32⟩
  | 80 => ⟨S1x4096x1024, .f32⟩
  | 81 => ⟨S1x4096x1024, .f32⟩
  | 82 => ⟨S_, .f32⟩
  | 83 => ⟨S1024, .f32⟩
  | 84 => ⟨S1x4096x1024, .f32⟩
  | 85 => ⟨S_, .f32⟩
  | 86 => ⟨S1x4096, .f32⟩
  | 87 => ⟨S1x4096x1, .f32⟩
  | 88 => ⟨S1x4096x1024, .f32⟩
  | 89 => ⟨S1x4096x1024, .f32⟩
  | 90 => ⟨S1x4096x1, .f32⟩
  | 91 => ⟨S_, .f32⟩
  | 92 => ⟨S1x4096x1, .f32⟩
  | 93 => ⟨S1x4096x1, .f32⟩
  | 94 => ⟨S_, .f32⟩
  | 95 => ⟨S4096, .f32⟩
  | 96 => ⟨S1x4096, .f32⟩
  | 97 => ⟨S1x4096x1024, .f32⟩
  | 98 => ⟨S1x4096x1024, .f32⟩
  | 99 => ⟨S1x4096x1024, .f32⟩
  | 100 => ⟨S1x4096x1024, .f32⟩
  | 101 => ⟨S1x4096x1024, .f32⟩
  | 102 => ⟨S1x1024, .f32⟩
  | 103 => ⟨S1x4096x1024, .f32⟩
  | 104 => ⟨S_, .f32⟩
  | 105 => ⟨S1x1024, .f32⟩
  | 106 => ⟨S1x1x1024, .f32⟩
  | 107 => ⟨S_, .f32⟩
  | 108 => ⟨S1024, .f32⟩
  | 109 => ⟨S1x1024, .f32⟩
  | 110 => ⟨S1x4096x1024, .f32⟩
  | 111 => ⟨S1x4096x512, .f32⟩
  | 112 => ⟨S1x4096x512, .f32⟩
  | 113 => ⟨S1x4096x512, .f32⟩
  | 114 => ⟨S1x4096x512, .f32⟩
  | 115 => ⟨S1x4096x512, .f32⟩
  | 116 => ⟨S1x4096x512, .f32⟩
  | 117 => ⟨S_, .f32⟩
  | 118 => ⟨S1x512, .f32⟩
  | 119 => ⟨S1x1x512, .f32⟩
  | 120 => ⟨S_, .f32⟩
  | 121 => ⟨S512, .f32⟩
  | 122 => ⟨S1x4096x512, .f32⟩
  | 123 => ⟨S_, .f32⟩
  | 124 => ⟨S1x512, .f32⟩
  | 125 => ⟨S1x1x512, .f32⟩
  | 126 => ⟨S1x4096x512, .f32⟩
  | 127 => ⟨S1x4096x512, .f32⟩
  | _ => ⟨S1x4096x1024, .f32⟩

abbrev hbmTy0_2 (i : Nat) : BufTy := match i % 128 with
  | 0 => ⟨S_, .f32⟩
  | 1 => ⟨S512, .f32⟩
  | 2 => ⟨S1x4096x512, .f32⟩
  | 3 => ⟨S_, .f32⟩
  | 4 => ⟨S1x4096, .f32⟩
  | 5 => ⟨S1x4096x1, .f32⟩
  | 6 => ⟨S1x4096x512, .f32⟩
  | 7 => ⟨S1x4096x512, .f32⟩
  | 8 => ⟨S1x4096x1, .f32⟩
  | 9 => ⟨S1x4096x512, .f32⟩
  | 10 => ⟨S_, .f32⟩
  | 11 => ⟨S1x4096, .f32⟩
  | 12 => ⟨S1x4096x1, .f32⟩
  | 13 => ⟨S_, .f32⟩
  | 14 => ⟨S1x4096x1, .f32⟩
  | 15 => ⟨S1x4096x1, .f32⟩
  | 16 => ⟨S_, .f32⟩
  | 17 => ⟨S4096, .f32⟩
  | 18 => ⟨S1x4096, .f32⟩
  | 19 => ⟨S1x4096x512, .f32⟩
  | 20 => ⟨S1x4096x512, .f32⟩
  | 21 => ⟨S1x4096x512, .f32⟩
  | 22 => ⟨S_, .f32⟩
  | 23 => ⟨S1x4096, .f32⟩
  | 24 => ⟨S1x4096x1, .f32⟩
  | 25 => ⟨S1x4096x512, .f32⟩
  | 26 => ⟨S1x4096x1, .f32⟩
  | 27 => ⟨S_, .f32⟩
  | 28 => ⟨S1x4096x1, .f32⟩
  | 29 => ⟨S1x4096x1, .f32⟩
  | 30 => ⟨S_, .f32⟩
  | 31 => ⟨S4096, .f32⟩
  | 32 => ⟨S1x4096, .f32⟩
  | 33 => ⟨S1x4096x512, .f32⟩
  | 34 => ⟨S1x4096x512, .f32⟩
  | 35 => ⟨S1x512, .f32⟩
  | 36 => ⟨S1x512, .f32⟩
  | 37 => ⟨S_, .f32⟩
  | 38 => ⟨S1x512, .f32⟩
  | 39 => ⟨S1x1x512, .f32⟩
  | 40 => ⟨S_, .f32⟩
  | 41 => ⟨S512, .f32⟩
  | 42 => ⟨S1x512, .f32⟩
  | 43 => ⟨S4096x1024, .f32⟩
  | 44 => ⟨S4096x1024, .f32⟩
  | 45 => ⟨S4096x1024, .bf16⟩
  | 46 => ⟨S4096x1024, .f32⟩
  | 47 => ⟨S4096x1024, .bf16⟩
  | 48 => ⟨S4096x1024, .f32⟩
  | 49 => ⟨S4096x1024, .bf16⟩
  | 50 => ⟨S4096x512, .f32⟩
  | 51 => ⟨S4096x512, .f32⟩
  | 52 => ⟨S4096x512, .bf16⟩
  | 53 => ⟨S256x1024, .f32⟩
  | 54 => ⟨S256x1024, .f32⟩
  | 55 => ⟨S8x1024, .f32⟩
  | 56 => ⟨S8x1024, .f32⟩
  | 57 => ⟨S8x512, .f32⟩
  | 58 => ⟨S8x512, .f32⟩
  | 59 => ⟨S8x512, .f32⟩
  | _ => ⟨S1x4096x1024, .f32⟩

abbrev hbmTy (i : Nat) : BufTy := match i / 128 with
  | 0 => hbmTy0_0 i
  | 1 => hbmTy0_1 i
  | 2 => hbmTy0_2 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_v53_2 : Ref sig .tc := ⟨.hbm, 85, rfl⟩
abbrev main_call0_cst_1 : Ref sig .tc := ⟨.hbm, 86, rfl⟩
abbrev main_call0_v6 : Ref sig .tc := ⟨.hbm, 87, rfl⟩
abbrev main_call0_v7 : Ref sig .tc := ⟨.hbm, 88, rfl⟩
abbrev main_v53_1 : Ref sig .tc := ⟨.hbm, 89, rfl⟩
abbrev main_v53_0 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_9 : Ref sig .tc := ⟨.hbm, 101, rfl⟩
abbrev main_v64 : Ref sig .tc := ⟨.hbm, 102, rfl⟩
abbrev main_v65 : Ref sig .tc := ⟨.hbm, 103, rfl⟩
abbrev main_cst_10 : Ref sig .tc := ⟨.hbm, 104, rfl⟩
abbrev main_v66 : Ref sig .tc := ⟨.hbm, 105, rfl⟩
abbrev main_v67 : Ref sig .tc := ⟨.hbm, 106, rfl⟩
abbrev main_cst_11 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_12 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_13 : Ref sig .tc := ⟨.hbm, 127, rfl⟩
abbrev main_v86 : Ref sig .tc := ⟨.hbm, 128, rfl⟩
abbrev main_v87 : Ref sig .tc := ⟨.hbm, 129, rfl⟩
abbrev main_cst_14 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_15 : Ref sig .tc := ⟨.hbm, 136, rfl⟩
abbrev main_v93 : Ref sig .tc := ⟨.hbm, 137, rfl⟩
abbrev main_cst_16 : Ref sig .tc := ⟨.hbm, 138, rfl⟩
abbrev main_v94 : Ref sig .tc := ⟨.hbm, 139, rfl⟩
abbrev main_v95 : Ref sig .tc := ⟨.hbm, 140, rfl⟩
abbrev main_cst_17 : Ref sig .tc := ⟨.hbm, 141, rfl⟩
abbrev main_v96 : Ref sig .tc := ⟨.hbm, 142, rfl⟩
abbrev main_v97 : Ref sig .tc := ⟨.hbm, 143, rfl⟩
abbrev main_cst_18 : Ref sig .tc := ⟨.hbm, 144, rfl⟩
abbrev main_v98 : Ref sig .tc := ⟨.hbm, 145, rfl⟩
abbrev main_v99 : Ref sig .tc := ⟨.hbm, 146, rfl⟩
abbrev main_cst_19 : Ref sig .tc := ⟨.hbm, 147, rfl⟩
abbrev main_v100 : Ref sig .tc := ⟨.hbm, 148, rfl⟩
abbrev main_cst_20 : Ref sig .tc := ⟨.hbm, 149, rfl⟩
abbrev main_v101 : Ref sig .tc := ⟨.hbm, 150, rfl⟩
abbrev main_cst_21 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_22 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_cst_23 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_24 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_25 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_cst_26 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_cst_27 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_cst_28 : Ref sig .tc := ⟨.hbm, 210, rfl⟩
abbrev main_v154 : Ref sig .tc := ⟨.hbm, 211, rfl⟩
abbrev main_v155 : Ref sig .tc := ⟨.hbm, 212, rfl⟩
abbrev main_cst_29 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_cst_30 : Ref sig .tc := ⟨.hbm, 219, rfl⟩
abbrev main_v161 : Ref sig .tc := ⟨.hbm, 220, rfl⟩
abbrev main_v162 : Ref sig .tc := ⟨.hbm, 221, rfl⟩
abbrev main_cst_31 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_cst_32 : Ref sig .tc := ⟨.hbm, 232, rfl⟩
abbrev main_v172 : Ref sig .tc := ⟨.hbm, 233, rfl⟩
abbrev main_v173 : Ref sig .tc := ⟨.hbm, 234, rfl⟩
abbrev main_cst_33 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_call1_v0 : Ref sig .tc := ⟨.hbm, 241, rfl⟩
abbrev main_call1_v1 : Ref sig .tc := ⟨.hbm, 242, rfl⟩
abbrev main_call1_v2 : Ref sig .tc := ⟨.hbm, 243, rfl⟩
abbrev main_v179 : Ref sig .tc := ⟨.hbm, 244, rfl⟩
abbrev main_cst_34 : Ref sig .tc := ⟨.hbm, 245, rfl⟩
abbrev main_v180 : Ref sig .tc := ⟨.hbm, 246, rfl⟩
abbrev main_v181 : Ref sig .tc := ⟨.hbm, 247, rfl⟩
abbrev main_cst_35 : Ref sig .tc := ⟨.hbm, 248, rfl⟩
abbrev main_v182 : Ref sig .tc := ⟨.hbm, 249, rfl⟩
abbrev main_v183 : Ref sig .tc := ⟨.hbm, 250, rfl⟩
abbrev main_cst_36 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_cst_37 : Ref sig .tc := ⟨.hbm, 256, rfl⟩
abbrev main_v188 : Ref sig .tc := ⟨.hbm, 257, rfl⟩
abbrev main_v189 : Ref sig .tc := ⟨.hbm, 258, rfl⟩
abbrev main_cst_38 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_cst_39 : Ref sig .tc := ⟨.hbm, 266, rfl⟩
abbrev main_v196 : Ref sig .tc := ⟨.hbm, 267, rfl⟩
abbrev main_v197 : Ref sig .tc := ⟨.hbm, 268, rfl⟩
abbrev main_cst_40 : Ref sig .tc := ⟨.hbm, 269, rfl⟩
abbrev main_v198 : Ref sig .tc := ⟨.hbm, 270, rfl⟩
abbrev main_v199 : Ref sig .tc := ⟨.hbm, 271, rfl⟩
abbrev main_cst_41 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_cst_42 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_cst_43 : Ref sig .tc := ⟨.hbm, 283, rfl⟩
abbrev main_v209 : Ref sig .tc := ⟨.hbm, 284, rfl⟩
abbrev main_v210 : Ref sig .tc := ⟨.hbm, 285, rfl⟩
abbrev main_cst_44 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_cst_45 : Ref sig .tc := ⟨.hbm, 293, rfl⟩
abbrev main_v217 : Ref sig .tc := ⟨.hbm, 294, rfl⟩
abbrev main_v218 : Ref sig .tc := ⟨.hbm, 295, rfl⟩
abbrev main_cst_46 : Ref sig .tc := ⟨.hbm, 296, rfl⟩
abbrev main_v219 : Ref sig .tc := ⟨.hbm, 297, rfl⟩
abbrev main_v220 : Ref sig .tc := ⟨.hbm, 298, rfl⟩
abbrev main_v221 : Ref sig .tc := ⟨.hbm, 299, rfl⟩
abbrev main_v222 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_v234 : Ref sig .tc := ⟨.hbm, 312, rfl⟩
abbrev main_v235 : Ref sig .tc := ⟨.hbm, 313, rfl⟩
abbrev main_v236 : Ref sig .tc := ⟨.hbm, 314, rfl⟩
abbrev main_v237 : Ref sig .tc := ⟨.hbm, 315, rfl⟩

abbrev nD : Nat := 1
abbrev τ : Topo := Topo.v7x

variable {F : FTy → Type} [FloatOps F]
-- ==== KernelLoss.lean ====
abbrev S1x4096x1024 : Shape := ⟨3, ![1, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S8x128 : Shape := ⟨2, ![8, 128]⟩
abbrev S8x1024 : Shape := ⟨2, ![8, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1 : Shape := ⟨1, ![1]⟩
abbrev S1x1 : Shape := ⟨2, ![1, 1]⟩

abbrev nBuf : Space → Nat
  | .hbm => 25
  | .vmem => 21
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S4096x1024, .f32⟩
  | .hbm, ⟨8, _⟩ => ⟨S4096x1024, .f32⟩
  | .hbm, ⟨9, _⟩ => ⟨S1x1024, .f32⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S1024x2816, .f32⟩
  | .hbm, ⟨14, _⟩ => ⟨S2816x1024, .f32⟩
  | .hbm, ⟨15, _⟩ => ⟨S2816x1024, .bf16⟩
  | .hbm, ⟨16, _⟩ => ⟨S2816x1024, .f32⟩
  | .hbm, ⟨17, _⟩ => ⟨S2816x1024, .bf16⟩
  | .hbm, ⟨18, _⟩ => ⟨S4096x2816, .bf16⟩
  | .hbm, ⟨19, _⟩ => ⟨S4096x2816, .bf16⟩
  | .hbm, ⟨20, _⟩ => ⟨S4096x1024, .bf16⟩
  | .hbm, ⟨21, _⟩ => ⟨S4096x1024, .f32⟩
  | .hbm, ⟨22, _⟩ => ⟨S4096x1024, .bf16⟩
  | .hbm, ⟨23, _⟩ => ⟨S8x128, .f32⟩
  | .hbm, ⟨24, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S2816x1024, .bf16⟩
  | .local _ .vmem, ⟨7, _⟩ => ⟨S2816x1024, .bf16⟩
  | .local _ .vmem, ⟨8, _⟩ => ⟨S2816x1024, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S8x128, .f32⟩
  | .local _ .vmem, ⟨20, _⟩ => ⟨S8x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v11_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceLossIdeal.lean ====
abbrev S1x4096x1024 : Shape := ⟨3, ![1, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S1x4096x2816 : Shape := ⟨3, ![1, 4096, 2816]⟩
abbrev S4096 : Shape := ⟨1, ![4096]⟩
abbrev S4096x2816 : Shape := ⟨2, ![4096, 2816]⟩
abbrev S4096x1024 : Shape := ⟨2, ![4096, 1024]⟩
abbrev S8x128 : Shape := ⟨2, ![8, 128]⟩
abbrev S8x1024 : Shape := ⟨2, ![8, 1024]⟩

abbrev nBuf : Space → Nat
  | .hbm => 125
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S1x4096x1024, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S1x4096x1024, .f32⟩
  | .hbm, ⟨20, _⟩ => ⟨S1x4096x1024, .f32⟩
  | .hbm, ⟨21, _⟩ => ⟨S1x1x1024, .f32⟩
  | .hbm, ⟨22, _⟩ => ⟨S1x4096x1024, .f32⟩
  | .hbm, ⟨23, _⟩ => ⟨S1x4096x1024, .f32⟩
  | .hbm, ⟨24, _⟩ => ⟨S1024x2816, .f32⟩
  | .hbm, ⟨25, _⟩ => ⟨S1024x2816, .f32⟩
  | .hbm, ⟨26, _⟩ => ⟨S2816x1024, .f32⟩
  | .hbm, ⟨27, _⟩ => ⟨S1x4096x2816, .f32⟩
  | .hbm, ⟨28, _⟩ => ⟨S1x4096x2816, .f32⟩
  | .hbm, ⟨29, _⟩ => ⟨S1x4096x2816, .f32⟩
  | .hbm, ⟨30, _⟩ => ⟨S_, .f32⟩
  | .hbm, ⟨31, _⟩ => ⟨S1x4096x2816, .f32⟩
  | .hbm, ⟨32, _⟩ => ⟨S1x4096x2816, .f32⟩
  | .hbm, ⟨33, _⟩ => ⟨S_, .f32⟩
  | .hbm, ⟨34, _⟩ => ⟨S1x4096x2816, .f32⟩
  | .hbm, ⟨35, _⟩ => ⟨S1x4096x2816, .f32⟩
  | .hbm, ⟨36, _⟩ => ⟨S1x4096x2816, .f32⟩
  | .hbm, ⟨37, _⟩ => ⟨S1x4096x2816, .f32⟩
  | .hbm, ⟨38, _⟩ => ⟨S1x4096x2816, .f32⟩
  | .hbm, ⟨39, _⟩ => ⟨S1x4096x1024, .f32⟩
  | .hbm, ⟨40, _⟩ => ⟨S1x4096x1024, .f32⟩
  | .hbm, ⟨41, _⟩ => ⟨S1x4096x1024, .f32⟩
  | .hbm, ⟨42, _⟩ => ⟨S_, .f32⟩
  | .hbm, ⟨43, _⟩ => ⟨S1x4096, .f32⟩
  | .hbm, ⟨44, _⟩ => ⟨S1x4096x1, .f32⟩
  | .hbm, ⟨45, _⟩ => ⟨S_, .f32⟩
  | .hbm, ⟨46, _⟩ => ⟨S1x4096x1, .f32⟩
  | .hbm, ⟨47, _⟩ => ⟨S1x4096x1, .f32⟩
  | .hbm, ⟨48, _⟩ => ⟨S_, .f32⟩
  | .hbm, ⟨49, _⟩ => ⟨S1x4096x1, .f32⟩
  | .hbm, ⟨50, _⟩ => ⟨S1x4096x1, .f32⟩
  | .hbm, ⟨51, _⟩ => ⟨S1x4096x1, .f32⟩
  | .hbm, ⟨52, _⟩ => ⟨S1x4096x1, .f32⟩
  | .hbm, ⟨53, _⟩ => ⟨S_, .f32⟩
  | .hbm, ⟨54, _⟩ => ⟨S1x4096x1, .f32⟩
  | .hbm, ⟨55, _⟩ => ⟨S1x4096x1, .f32⟩
  | .hbm, ⟨56, _⟩ => ⟨S1x4096x1024, .f32⟩
  | .hbm, ⟨57, _⟩ => ⟨S1x4096x1024, .f32⟩
  | .hbm, ⟨58, _⟩ => ⟨S1x1x1024, .f32⟩
  | .hbm, ⟨59, _⟩ => ⟨S1x4096x1024, .f32⟩
  | .hbm, ⟨60, _⟩ => ⟨S1x4096x1024, .f32⟩
  | .hbm, ⟨61, _⟩ => ⟨S1x4096x1024, .f32⟩
  | .hbm, ⟨62, _⟩ => ⟨S1x4096x1024, .f32⟩
  | .hbm, ⟨63, _⟩ => ⟨S_, .f32⟩
  | .hbm, ⟨64, _⟩ => ⟨S1x4096, .f32⟩
  | .hbm, ⟨65, _⟩ => ⟨S_, .f32⟩
  | .hbm, ⟨66, _⟩ => ⟨S1x4096, .f32⟩
  | .hbm, ⟨67, _⟩ => ⟨S1x4096, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S1x4096, .f32⟩
  | .hbm, ⟨76, _⟩ => ⟨S_, .f32⟩
  | .hbm, ⟨77, _⟩ => ⟨S1x4096, .f32⟩
  | .hbm, ⟨78, _⟩ => ⟨S1x4096, .f32⟩
  | .hbm, ⟨79, _⟩ => ⟨S1x4096x1024, .f32⟩
  | .hbm, ⟨80, _⟩ => ⟨S1x4096x1024, .f32⟩
  | .hbm, ⟨81, _⟩ => ⟨S1x4096x1024, .f32⟩
  | .hbm, ⟨82, _⟩ => ⟨S1x4096x1024, .f32⟩
  | .hbm, ⟨83, _⟩ => ⟨S1x4096x1024, .f32⟩
  | .hbm, ⟨84, _⟩ => ⟨S_, .f32⟩
  | .hbm, ⟨85, _⟩ => ⟨S1x1024, .f32⟩
  | .hbm, ⟨86, _⟩ => ⟨S1x1x1024, .f32⟩
  | .hbm, ⟨87, _⟩ => ⟨S1x4096x1024, .f32⟩
  | .hbm, ⟨88, _⟩ => ⟨S1x4096x1024, .f32⟩
  | .hbm, ⟨89, _⟩ => ⟨S_, .f32⟩
  | .hbm, ⟨90, _⟩ => ⟨S1024, .f32⟩
  | .hbm, ⟨91, _⟩ => ⟨S1x4096x1024, .f32⟩
  | .hbm, ⟨92, _⟩ => ⟨S_, .f32⟩
  | .hbm, ⟨93, _⟩ => ⟨S1x4096, .f32⟩
  | .hbm, ⟨94, _⟩ => ⟨S1x4096x1, .f32⟩
  | .hbm, ⟨95, _⟩ => ⟨S1x4096x1024, .f32⟩
  | .hbm, ⟨96, _⟩ => ⟨S1x4096x1024, .f32⟩
  | .hbm, ⟨97, _⟩ => ⟨S1x4096x1, .f32⟩
  | .hbm, ⟨98, _⟩ => ⟨S_, .f32⟩
  | .hbm, ⟨99, _⟩ => ⟨S1x4096x1, .f32⟩
  | .hbm, ⟨100, _⟩ => ⟨S1x4096x1, .f32⟩
  | .hbm, ⟨101, _⟩ => ⟨S_, .f32⟩
  | .hbm, ⟨102, _⟩ => ⟨S4096, .f32⟩
  | .hbm, ⟨103, _⟩ => ⟨S1x4096, .f32⟩
  | .hbm, ⟨104, _⟩ => ⟨S1x4096x1024, .f32⟩
  | .hbm, ⟨105, _⟩ => ⟨S1x4096x1024, .f32⟩
  | .hbm, ⟨106, _⟩ => ⟨S1x4096x1024, .f32⟩
  | .hbm, ⟨107, _⟩ => ⟨S1x4096x1024, .f32⟩
  | .hbm, ⟨108, _⟩ => ⟨S1x4096x1024, .f32⟩
  | .hbm, ⟨109, _⟩ => ⟨S1024x2816, .f32⟩
  | .hbm, ⟨110, _⟩ => ⟨S1x4096x2816, .f32⟩
  | .hbm, ⟨111, _⟩ => ⟨S4096x2816, .f32⟩
  | .hbm, ⟨112, _⟩ => ⟨S4096x2816, .bf16⟩
  | .hbm, ⟨113, _⟩ => ⟨S1024x2816, .f32⟩
  | .hbm, ⟨114, _⟩ => ⟨S1x4096x2816, .f32⟩
  | .hbm, ⟨115, _⟩ => ⟨S4096x2816, .f32⟩
  | .hbm, ⟨116, _⟩ => ⟨S4096x2816, .bf16⟩
  | .hbm, ⟨117, _⟩ => ⟨S4096x1024, .f32⟩
  | .hbm, ⟨118, _⟩ => ⟨S4096x1024, .bf16⟩
  | .hbm, ⟨119, _⟩ => ⟨S4096x1024, .f32⟩
  | .hbm, ⟨120, _⟩ => ⟨S4096x1024, .f32⟩
  | .hbm, ⟨121, _⟩ => ⟨S4096x1024, .bf16⟩
  | .hbm, ⟨122, _⟩ => ⟨S8x128, .f32⟩
  | .hbm, ⟨123, _⟩ => ⟨S1x1024, .f32⟩
  | .hbm, ⟨124, _⟩ => ⟨S8x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_cst_10 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_13 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_14 : Ref sig .tc := ⟨.hbm, 89, rfl⟩
abbrev main_v59 : Ref sig .tc := ⟨.hbm, 90, rfl⟩
abbrev main_v60 : Ref sig .tc := ⟨.hbm, 91, rfl⟩
abbrev main_cst_15 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_16 : Ref sig .tc := ⟨.hbm, 98, rfl⟩
abbrev main_v66 : Ref sig .tc := ⟨.hbm, 99, rfl⟩
abbrev main_v67 : Ref sig .tc := ⟨.hbm, 100, rfl⟩
abbrev main_cst_17 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]
-- ==== Proof.Sums.lean ====
/- Sums over several axes, and small facts on the extended reals, that the calls' value theorems share. -/
module

public import Idealize.ShloMosaic.Lib.Claim
public import Idealize.ShloMosaic.Lib.Pointwise

@[expose] public section

noncomputable section

namespace Cert.Sums

open Idealize.ShloMosaic

/-- A sum over one index. -/
theorem sum_one (f : Fin 1 → EReal) : ∑ i, f i = f 0 := Fin.sum_univ_one f

/-- Sums of equal terms. -/
theorem sum_ext {n : Nat} {f g : Fin n → EReal} (h : ∀ i, f i = g i) : ∑ i, f i = ∑ i, g i :=
  Finset.sum_congr rfl fun i _ => h i

/-- A host sum over the two leading axes of a rank-3 array is the double sum. -/
theorem hostReduceAdd_r3_a01 {n0 n1 n2 : Nat} (h : (⟨3, ![n0, n1, n2]⟩ : Shape).ReducesTo [0, 1] ⟨1, ![n2]⟩)
    (v : (⟨3, ![n0, n1, n2]⟩ : Shape).Idx → EReal) (init : EReal) (q : Fin n2) :
    Ideal.hostReduceAdd h v init (ix1 q) = init + ∑ a : Fin n0, ∑ b : Fin n1, v (ix3 a b q) := by
  have key : ∑ i ∈ Finset.univ.filter (fun i => h.drop i = ix1 q), v i
      = ∑ p : Fin n0 × Fin n1, v (ix3 p.1 p.2 q) := by
    refine Finset.sum_filter_eq_sum_of_fiber _ (fun p : Fin n0 × Fin n1 => ix3 p.1 p.2 q)
      (fun p p' e => Prod.ext (congrFun e 0) (congrFun e 1)) (fun i => ?_) v
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨p, rfl⟩
      funext b
      apply Fin.ext
      match b with
      | ⟨0, _⟩ => rfl
  exact (congrArg (init + ·) key).trans (by rw [Fintype.sum_prod_type])

/-- A host sum over the first and the last axis of a rank-3 array is the double sum. -/
theorem hostReduceAdd_r3_a02 {n0 n1 n2 : Nat} (h : (⟨3, ![n0, n1, n2]⟩ : Shape).ReducesTo [0, 2] ⟨1, ![n1]⟩)
    (v : (⟨3, ![n0, n1, n2]⟩ : Shape).Idx → EReal) (init : EReal) (q : Fin n1) :
    Ideal.hostReduceAdd h v init (ix1 q) = init + ∑ a : Fin n0, ∑ b : Fin n2, v (ix3 a q b) := by
  have key : ∑ i ∈ Finset.univ.filter (fun i => h.drop i = ix1 q), v i
      = ∑ p : Fin n0 × Fin n2, v (ix3 p.1 q p.2) := by
    refine Finset.sum_filter_eq_sum_of_fiber _ (fun p : Fin n0 × Fin n2 => ix3 p.1 q p.2)
      (fun p p' e => Prod.ext (congrFun e 0) (congrFun e 2)) (fun i => ⟨fun e => ⟨(i 0, i 2), ?_⟩, ?_⟩) v
    · funext a; apply Fin.ext
      match a with
      | ⟨0, _⟩ => rfl
      | ⟨1, _⟩ => exact (congrArg Fin.val (congrFun e 0)).symm
      | ⟨2, _⟩ => rfl
    · rintro ⟨p, rfl⟩
      funext b
      apply Fin.ext
      match b with
      | ⟨0, _⟩ => rfl
  exact (congrArg (init + ·) key).trans (by rw [Fintype.sum_prod_type])

/-- A host sum over the first and the fourth axis of a rank-5 array is the double sum. -/
theorem hostReduceAdd_r5_a03 {n0 n1 n2 n3 n4 : Nat} (h : (⟨5, ![n0, n1, n2, n3, n4]⟩ : Shape).ReducesTo [0, 3] ⟨3, ![n1, n2, n4]⟩)
    (v : (⟨5, ![n0, n1, n2, n3, n4]⟩ : Shape).Idx → EReal) (init : EReal) (p : Fin n1) (q : Fin n2) (r : Fin n4) :
    Ideal.hostReduceAdd h v init (ix3 p q r) = init + ∑ a : Fin n0, ∑ b : Fin n3, v (ix5 a p q b r) := by
  have key : ∑ i ∈ Finset.univ.filter (fun i => h.drop i = ix3 p q r), v i = ∑ x : Fin n0 × Fin n3, v (ix5 x.1 p q x.2 r) := by
    refine Finset.sum_filter_eq_sum_of_fiber _ (fun x : Fin n0 × Fin n3 => ix5 x.1 p q x.2 r)
      (fun x x' e => Prod.ext (congrFun e 0) (congrFun e 3)) (fun i => ⟨fun e => ⟨(i 0, i 3), ?_⟩, ?_⟩) v
    · funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
      | ⟨4, _⟩ => exact (congrArg Fin.val (congrFun e 2)).symm
    · rintro ⟨x, rfl⟩
      funext a
      apply Fin.ext
      match a with
      | ⟨0, _⟩ => rfl
      | ⟨1, _⟩ => rfl
      | ⟨2, _⟩ => rfl
  exact (congrArg (init + ·) key).trans (by rw [Fintype.sum_prod_type])

/-- A host sum over the first axis and the last two of a rank-5 array is the triple sum. -/
theorem hostReduceAdd_r5_a034 {n0 n1 n2 n3 n4 : Nat} (h : (⟨5, ![n0, n1, n2, n3, n4]⟩ : Shape).ReducesTo [0, 3, 4] ⟨2, ![n1, n2]⟩)
    (v : (⟨5, ![n0, n1, n2, n3, n4]⟩ : Shape).Idx → EReal) (init : EReal) (p : Fin n1) (q : Fin n2) :
    Ideal.hostReduceAdd h v init (ix2 p q) = init + ∑ a : Fin n0, ∑ b : Fin n3, ∑ c : Fin n4, v (ix5 a p q b c) := by
  have key : ∑ i ∈ Finset.univ.filter (fun i => h.drop i = ix2 p q), v i
      = ∑ x : Fin n0 × Fin n3 × Fin n4, v (ix5 x.1 p q x.2.1 x.2.2) := by
    refine Finset.sum_filter_eq_sum_of_fiber _ (fun x : Fin n0 × Fin n3 × Fin n4 => ix5 x.1 p q x.2.1 x.2.2)
      (fun x x' e => Prod.ext (congrFun e 0) (Prod.ext (congrFun e 3) (congrFun e 4))) (fun i => ⟨fun e => ⟨(i 0, i 3, i 4), ?_⟩, ?_⟩) v
    · funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
      | ⟨4, _⟩ => rfl
    · rintro ⟨x, rfl⟩
      funext a
      apply Fin.ext
      match a with
      | ⟨0, _⟩ => rfl
      | ⟨1, _⟩ => rfl
  refine (congrArg (init + ·) key).trans ?_
  rw [Fintype.sum_prod_type]
  exact congrArg (init + ·) (Finset.sum_congr rfl fun _ _ => Fintype.sum_prod_type _)

end Cert.Sums

end
-- ==== Proof.KvValue.lean ====
/- The gradient of the memory's key/value projection: what the call `mem_kv_bwd` leaves in its two results is
   what the derivative of the reference's forward lines computes. -/
module

public import proofs.«01_k».proof.Proof.Gen.KernelKvIdeal.Frame
public import proofs.«01_k».proof.Proof.Gen.ReferenceKvIdeal.Read
public import proofs.«01_k».proof.Proof.Sums
public import proofs.«01_k».proof.Defs
public import Idealize.ShloMosaic.Lib.Pipeline.ValueKit

@[expose] public section

set_option maxRecDepth 16384

noncomputable section

namespace Cert.Kv

open Cert.KernelKvIdeal Cert.KernelKvIdeal.Gen Idealize.ShloMosaic Idealize.ShloMosaic.TcCoe Idealize.SL.Sem
open Idealize.ShloMosaic.Pipeline (Dat)
open Cert.ReferenceKvIdeal.Read

variable (m : (ℓ : Loc nD τ sig) → Buf (Elt Ideal) ℓ)

/-- The windows' block numbers at the grid's one point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- One entry of the normalised memory. -/
def normed (x : (⟨3, ![1, 256, 1024]⟩ : Shape).Idx → EReal) (g : (⟨2, ![1, 1024]⟩ : Shape).Idx → EReal)
    (r : Fin 256) (k : Fin 1024) : EReal :=
  x (ix3 0 r k) * Ideal.rsqrt (Ideal.div (∑ k : Fin 1024, x (ix3 0 r k) * x (ix3 0 r k)) (Ideal.ofBits FTy.f32 1149239296#32)
        + Ideal.ofBits FTy.f32 897988541#32) * g (ix2 0 k)

/-- The keys' cotangent, as the call's first window holds it. -/
theorem blk0 (c : Dev nD) (r : Fin 256) (k : Fin 1024) :
    iblk m c 0 t0_0 (ix2 r k) = m ((c : Thread nD τ).loc main_arg3) (ix2 r k) := by
  blk_point [iblk, V, idx t0_0]

/-- The values' cotangent, in the second window. -/
theorem blk1 (c : Dev nD) (r : Fin 256) (k : Fin 1024) :
    iblk m c 1 t0_0 (ix2 r k) = m ((c : Thread nD τ).loc main_arg4) (ix2 r k) := by
  blk_point [iblk, V, idx t0_0]

/-- The memory, in the third. -/
theorem blk2 (c : Dev nD) (r : Fin 256) (k : Fin 1024) :
    iblk m c 2 t0_0 (ix2 r k) = m ((c : Thread nD τ).loc main_arg0) (ix3 0 r k) := by
  have h : iblk m c 2 t0_0 (ix2 r k) = V m c main_v19 (ix2 r k) := by blk_point [iblk, idx t0_0]
  rw [h]
  entry_read
  pointwise

/-- The normalised memory, in the fifth. -/
theorem blk4 (c : Dev nD) (r : Fin 256) (k : Fin 1024) :
    iblk m c 4 t0_0 (ix2 r k) = normed (m ((c : Thread nD τ).loc main_arg0)) (m ((c : Thread nD τ).loc main_arg1)) r k := by
  have h : iblk m c 4 t0_0 (ix2 r k) = V m c main_v15 (ix2 r k) := by blk_point [iblk, idx t0_0]
  rw [h]
  entry_read
  pointwise [normed]

/-- The projection's weight, transposed, in the sixth. -/
theorem blk5 (c : Dev nD) (r : Fin 2048) (k : Fin 1024) :
    iblk m c 5 t0_0 (ix2 r k) = m ((c : Thread nD τ).loc main_arg2) (ix3 0 k r) := by
  have h : iblk m c 5 t0_0 (ix2 r k) = V m c main_v18 (ix2 r k) := by blk_point [iblk, idx t0_0]
  rw [h]
  entry_read
  pointwise

/-- The first result is the gradient of the projection's weight, transposed. -/
theorem weight (c : Dev nD) : (dats m 0 c).arrAt 6 (cfgs 0).N
    = val_main_v34 (F := Ideal) (m ((c : Thread nD τ).loc main_arg0)) (m ((c : Thread nD τ).loc main_arg1))
        (m ((c : Thread nD τ).loc main_arg3)) (m ((c : Thread nD τ).loc main_arg4)) := by
  refine (dats m 0 c).arrAt_eq_of_after_last 6 t0_0 (by decide +kernel) _ fun j => ?_
  blk_simp
  rw [after0_6]
  frame_out
  pointwise [k0_pay1, k0_pay2, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_cst_2, val_main_v28, val_main_v29, val_main_cst_3, val_main_v30, val_main_v31, val_main_v32, val_main_v33, val_main_v34, val_main_v35, blk0 m c, blk1 m c, blk4 m c, normed]
  refine Eq.trans ?_ (Cert.Sums.sum_one _).symm
  rfl

set_option maxHeartbeats 1600000 in
/-- The second result is the gradient of the norm's gain, on eight equal rows. -/
theorem gain (c : Dev nD) : (dats m 0 c).arrAt 7 (cfgs 0).N
    = val_main_v35 (F := Ideal) (m ((c : Thread nD τ).loc main_arg0)) (m ((c : Thread nD τ).loc main_arg2))
        (m ((c : Thread nD τ).loc main_arg3)) (m ((c : Thread nD τ).loc main_arg4)) := by
  refine (dats m 0 c).arrAt_eq_of_after_last 7 t0_0 (by decide +kernel) _ fun j => ?_
  blk_simp
  rw [after0_7]
  frame_out
  pointwise [k0_pay1, k0_pay3, val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_cst_2, val_main_v28, val_main_v29, val_main_cst_3, val_main_v30, val_main_v31, val_main_v32, val_main_v33, val_main_v34, val_main_v35, Cert.Sums.hostReduceAdd_r3_a01, blk0 m c, blk1 m c, blk2 m c, blk5 m c]
  refine Eq.trans ?_ (Cert.Sums.sum_one _).symm
  refine Eq.trans ?_ (Cert.Sums.sum_one _).symm
  exact Cert.Sums.sum_ext fun r => EReal.mul_comm _ _

/-- The reference's run, its two results named. -/
theorem run_reference (m : (ℓ : Loc ReferenceKvIdeal.nD ReferenceKvIdeal.τ ReferenceKvIdeal.sig) → Buf (Elt Ideal) ℓ)
    (g : Dev ReferenceKvIdeal.nD → PrngReg) :
    θ_run (ReferenceKvIdeal.defs (F := Ideal)) (onTc (τ := ReferenceKvIdeal.τ) (ReferenceKvIdeal.main (F := Ideal)))
      ⟨m, fun _ => 0, g⟩ (fun r => ∀ c : Dev ReferenceKvIdeal.nD,
        r.2.mem ((c.tc : Thread ReferenceKvIdeal.nD ReferenceKvIdeal.τ).loc ReferenceKvIdeal.main_v34)
          = val_main_v34 (F := Ideal) (m ((c.tc : Thread ReferenceKvIdeal.nD ReferenceKvIdeal.τ).loc ReferenceKvIdeal.main_arg0))
            (m ((c.tc : Thread ReferenceKvIdeal.nD ReferenceKvIdeal.τ).loc ReferenceKvIdeal.main_arg1))
            (m ((c.tc : Thread ReferenceKvIdeal.nD ReferenceKvIdeal.τ).loc ReferenceKvIdeal.main_arg3))
            (m ((c.tc : Thread ReferenceKvIdeal.nD ReferenceKvIdeal.τ).loc ReferenceKvIdeal.main_arg4))
        ∧ r.2.mem ((c.tc : Thread ReferenceKvIdeal.nD ReferenceKvIdeal.τ).loc ReferenceKvIdeal.main_v35)
          = val_main_v35 (F := Ideal) (m ((c.tc : Thread ReferenceKvIdeal.nD ReferenceKvIdeal.τ).loc ReferenceKvIdeal.main_arg0))
            (m ((c.tc : Thread ReferenceKvIdeal.nD ReferenceKvIdeal.τ).loc ReferenceKvIdeal.main_arg2))
            (m ((c.tc : Thread ReferenceKvIdeal.nD ReferenceKvIdeal.τ).loc ReferenceKvIdeal.main_arg3))
            (m ((c.tc : Thread ReferenceKvIdeal.nD ReferenceKvIdeal.τ).loc ReferenceKvIdeal.main_arg4))) :=
  (θ_run _ _ _).mono (fun r h c =>
    ⟨(h c).1.trans (val_main_v34_eq _ _ _ _), (h c).2.1.trans (val_main_v35_eq _ _ _ _)⟩)
    (Cert.ReferenceKvIdeal.Value.run m g)

/-- The reference ends with its arguments unchanged; it has no semaphores. -/
theorem frame_reference : Cert.quiescent_ReferenceKvIdeal := fun m g _ =>
  (θ_run Cert.ReferenceKvIdeal.defs _ _).mono
    (fun r h => ⟨fun c => (h c).2.2, sem_eq_zero_of_no_sems rfl r.2⟩) (Cert.ReferenceKvIdeal.Value.run m g)

/-- The call computes the gradients that the reference computes. -/
theorem algebraic : Cert.algebraic_KernelKvIdeal_ReferenceKvIdeal := by
  pair_intro
  · run_from Cert.KernelKvIdeal.Gen.run_main m g
  · run_from run_reference m' g' & frame_reference m' g' trivial
    · exact (weight m c).symm
    · exact (gain m c).symm

end Cert.Kv

end
-- ==== Proof.AttnBlock.lean ====
/- The backward call of the windowed attention, one block of 128 queries at a time: what a block computes as plain functions
   of the arrays that it loads, and the kernel's body as eight runs of one block program. -/
module

public import proofs.«01_k».proof.Proof.Gen.KernelAttnIdeal.Frame

@[expose] public section

set_option maxRecDepth 16384

noncomputable section

namespace Cert.Attn

open Idealize.ShloMosaic Idealize.ShloMosaic.TcCoe Idealize.SL Idealize.SL.Sem
open Cert.KernelAttnIdeal Cert.KernelAttnIdeal.Gen

variable {F : FTy → Type} [FloatOps F] [Named F]

/-! ## The functions of one block -/

/-- A key's row less the query's place in its block: keys down the rows, the queries of four heads across the lanes. -/
def base : IVec S384x512 32 :=
  subi (iota .tc S384x512 32 [0] iota_S384x512_d0_w32)
    (andi (iota .tc S384x512 32 [1] iota_S384x512_d1_w32) (broadcast S384x512 127#32))

/-- The number of block `n` of grid point `i` in the whole sequence. -/
def blockNo (i : grid0.Coords) (n : BitVec 32) : BitVec 32 := Scalar.addi (Scalar.muli (BitVec.ofNat 32 (i 0).val) 8#32) n

/-- The first key row of the block's window, kept inside the sequence. -/
def startNo (i : grid0.Coords) (n : BitVec 32) : BitVec 32 :=
  Scalar.minsi 3712#32 (Scalar.maxsi 0#32 (Scalar.muli (Scalar.subi (blockNo i n) 1#32) 128#32))

/-- Which keys of the window are within 128 places of the query. -/
def mask (i : grid0.Coords) (n : BitVec 32) : IVec S384x512 1 :=
  cmpi .sle (absi (addi base (broadcast S384x512 (Scalar.subi (startNo i n) (Scalar.muli (blockNo i n) 128#32)))))
    (broadcast S384x512 128#32)

/-- The four query heads of the first key head, one under the other. -/
def stack0 (x : FVec F S128x512 .bf16) : FVec F S512x64 .bf16 :=
  concatenate S512x64 0
    [⟨S128x64, extractStridedSlice S128x64 ![0, 0] x slices_S128x512_o0_0_S128x64⟩,
     ⟨S128x64, extractStridedSlice S128x64 ![0, 64] x slices_S128x512_o0_64_S128x64⟩,
     ⟨S128x64, extractStridedSlice S128x64 ![0, 128] x slices_S128x512_o0_128_S128x64⟩,
     ⟨S128x64, extractStridedSlice S128x64 ![0, 192] x slices_S128x512_o0_192_S128x64⟩]
    concatenates_S128x64_S128x64_S128x64_S128x64_S512x64_d0

/-- The four query heads of the second key head, one under the other. -/
def stack1 (x : FVec F S128x512 .bf16) : FVec F S512x64 .bf16 :=
  concatenate S512x64 0
    [⟨S128x64, extractStridedSlice S128x64 ![0, 256] x slices_S128x512_o0_256_S128x64⟩,
     ⟨S128x64, extractStridedSlice S128x64 ![0, 320] x slices_S128x512_o0_320_S128x64⟩,
     ⟨S128x64, extractStridedSlice S128x64 ![0, 384] x slices_S128x512_o0_384_S128x64⟩,
     ⟨S128x64, extractStridedSlice S128x64 ![0, 448] x slices_S128x512_o0_448_S128x64⟩]
    concatenates_S128x64_S128x64_S128x64_S128x64_S512x64_d0

/-- The columns of the first and of the second key head. -/
def head0 (x : FVec F S384x128 .bf16) : FVec F S384x64 .bf16 := extractStridedSlice S384x64 ![0, 0] x slices_S384x128_o0_0_S384x64
def head1 (x : FVec F S384x128 .bf16) : FVec F S384x64 .bf16 := extractStridedSlice S384x64 ![0, 64] x slices_S384x128_o0_64_S384x64

/-- The sinks of four heads, each over its 128 lanes. -/
def sinkRow (a b c d : Vec F S1x1 .f32) : FVec F S1x512 .f32 :=
  concatenate S1x512 1
    [⟨S1x128, broadcastTo S1x128 (shapeCast S1x1 a shapeCasts_S1x1_S1x1) broadcasts_S1x1_S1x128⟩,
     ⟨S1x128, broadcastTo S1x128 (shapeCast S1x1 b shapeCasts_S1x1_S1x1) broadcasts_S1x1_S1x128⟩,
     ⟨S1x128, broadcastTo S1x128 (shapeCast S1x1 c shapeCasts_S1x1_S1x1) broadcasts_S1x1_S1x128⟩,
     ⟨S1x128, broadcastTo S1x128 (shapeCast S1x1 d shapeCasts_S1x1_S1x1) broadcasts_S1x1_S1x128⟩]
    concatenates_S1x128_S1x128_S1x128_S1x128_S1x512_d1

/-- The scores, the masked ones at the named constant. -/
def score (mk : IVec S384x512 1) (kh : FVec F S384x64 .bf16) (qs : FVec F S512x64 .bf16) : FVec F S384x512 .f32 :=
  select mk (matmul dot_S384x64_S512x64_S384x512_1_1_0_0_n_n none kh qs (constant S384x512 .f32 0x00000000#32))
    (broadcast S384x512 (Named.named κ "mask" 0xF149F2CA#32))

/-- A column's greatest score, the sink among them. -/
def top (s : FVec F S384x512 .f32) (sk : FVec F S1x512 .f32) : FVec F S1x512 .f32 :=
  maximumf (shapeCast S1x512 (multiReduction .maximumf [0] S512 s 0xFF800000#32 reduces_S384x512_S512 (.inl rfl) rfl) shapeCasts_S512_S1x512) sk

/-- The exponentials of the scores and of the sink, less the column's greatest. -/
def expS (s : FVec F S384x512 .f32) (sk : FVec F S1x512 .f32) : FVec F S384x512 .f32 :=
  exp (subf s (broadcastTo S384x512 (top s sk) broadcasts_S1x512_S384x512))
def expSink (s : FVec F S384x512 .f32) (sk : FVec F S1x512 .f32) : FVec F S1x512 .f32 := exp (subf sk (top s sk))

/-- One over a column's sum of exponentials, the sink's among them. -/
def inv (s : FVec F S384x512 .f32) (sk : FVec F S1x512 .f32) : FVec F S1x512 .f32 :=
  divf (broadcast S1x512 (Scalar.ofBits .f32 0x3F800000#32))
    (addf (shapeCast S1x512 (multiReduction .add [0] S512 (expS s sk) 0x00000000#32 reduces_S384x512_S512 (.inl rfl) rfl) shapeCasts_S512_S1x512)
      (expSink s sk))

/-- The probabilities. -/
def prob (s : FVec F S384x512 .f32) (sk : FVec F S1x512 .f32) : FVec F S384x512 .f32 :=
  mulf (expS s sk) (broadcastTo S384x512 (inv s sk) broadcasts_S1x512_S384x512)

/-- The cotangent of the probabilities. -/
def dProb (vh : FVec F S384x64 .bf16) (ds : FVec F S512x64 .bf16) : FVec F S384x512 .f32 :=
  matmul dot_S384x64_S512x64_S384x512_1_1_0_0_n_n none vh ds (constant S384x512 .f32 0x00000000#32)

/-- A column's sum of cotangent times probability. -/
def delta (p dp : FVec F S384x512 .f32) : FVec F S1x512 .f32 :=
  shapeCast S1x512 (multiReduction .add [0] S512 (mulf dp p) 0x00000000#32 reduces_S384x512_S512 (.inl rfl) rfl) shapeCasts_S512_S1x512

/-- The cotangent of the scores. -/
def dScore (p dp : FVec F S384x512 .f32) : FVec F S384x512 .bf16 :=
  truncf .bf16 (mulf p (subf dp (broadcastTo S384x512 (delta p dp) broadcasts_S1x512_S384x512))) bitsLt_bf16_f32

/-- The cotangent of the queries, features down the rows, scaled. -/
def dqT (kh : FVec F S384x64 .bf16) (ds : FVec F S384x512 .bf16) : FVec F S64x512 .f32 :=
  mulf (matmul dot_S384x64_S384x512_S64x512_0_0_1_1_n_n none kh ds (constant S64x512 .f32 0x00000000#32))
    (broadcast S64x512 (Scalar.ofBits .f32 0x3E000000#32))

/-- Two heads side by side and turned, -/
def turn (a b : FVec F S64x128 .f32) : FVec F S128x128 .f32 :=
  transpose S128x128 [1, 0] (concatenate S128x128 0 [⟨S64x128, a⟩, ⟨S64x128, b⟩] concatenates_S64x128_S64x128_S128x128_d0) transposes_S128x128_p1_0_S128x128

/-- and four heads. -/
def unstack (x : FVec F S64x512 .f32) : FVec F S128x256 .f32 :=
  concatenate S128x256 1
    [⟨S128x128, turn (extractStridedSlice S64x128 ![0, 0] x slices_S64x512_o0_0_S64x128) (extractStridedSlice S64x128 ![0, 128] x slices_S64x512_o0_128_S64x128)⟩,
     ⟨S128x128, turn (extractStridedSlice S64x128 ![0, 256] x slices_S64x512_o0_256_S64x128) (extractStridedSlice S64x128 ![0, 384] x slices_S64x512_o0_384_S64x128)⟩]
    concatenates_S128x128_S128x128_S128x256_d1

/-- The cotangents of the keys and of the values. -/
def dkH (ds : FVec F S384x512 .bf16) (qs : FVec F S512x64 .bf16) : FVec F S384x64 .f32 :=
  matmul dot_S384x512_S512x64_S384x64_1_0_0_1_n_n none ds qs (constant S384x64 .f32 0x00000000#32)
def dvH (p : FVec F S384x512 .f32) (ds : FVec F S512x64 .bf16) : FVec F S384x64 .f32 :=
  matmul dot_S384x512_S512x64_S384x64_1_0_0_1_n_n none (truncf .bf16 p bitsLt_bf16_f32) ds (constant S384x64 .f32 0x00000000#32)

/-- What the block takes from the sinks' sums of four heads. -/
def sinkTerm (s : FVec F S384x512 .f32) (sk : FVec F S1x512 .f32) (dp : FVec F S384x512 .f32) : FVec F S1x512 .f32 :=
  mulf (mulf (expSink s sk) (inv s sk)) (delta (prob s sk) dp)

/-- The row of the sinks' sums after the block. -/
def sinkAfter (row : FVec F S1x512 .f32) (s : FVec F S384x512 .f32) (sk : FVec F S1x512 .f32) (dp : FVec F S384x512 .f32) : FVec F S1x512 .f32 :=
  shapeCast S1x512 (subf row (sinkTerm s sk dp)) shapeCasts_S1x512_S1x512

/-- The block's rows of the queries' gradient. -/
def dqRows (k0 k1 : FVec F S384x64 .bf16) (s0 s1 : FVec F S384x512 .f32) (sk0 sk1 : FVec F S1x512 .f32) (dp0 dp1 : FVec F S384x512 .f32) :
    FVec F S128x512 .f32 :=
  shapeCast S128x512 (concatenate S128x512 1
    [⟨S128x256, unstack (dqT k0 (dScore (prob s0 sk0) dp0))⟩, ⟨S128x256, unstack (dqT k1 (dScore (prob s1 sk1) dp1))⟩]
    concatenates_S128x256_S128x256_S128x512_d1) shapeCasts_S128x512_S128x512

/-- The window's rows of a gradient after the block: what they were and the two heads' parts side by side. -/
def rowsAfter (r : FVec F S384x128 .f32) (a b : FVec F S384x64 .f32) : FVec F S384x128 .f32 :=
  shapeCast S384x128 (addf r (concatenate S384x128 1 [⟨S384x64, a⟩, ⟨S384x64, b⟩] concatenates_S384x64_S384x64_S384x128_d1))
    shapeCasts_S384x128_S384x128

/-- A head's sink gradient, from its lanes of the sums. -/
def sinkTotal (x : Vec F S1x128 .f32) : FVec F S1x128 .f32 :=
  shapeCast S1x128 (broadcastTo S1x128 (shapeCast S1x1 (shapeCast S1x1 (multiReduction .add [1] S1 x 0x00000000#32 reduces_S1x128_S1 (.inl rfl) rfl)
    shapeCasts_S1_S1x1) shapeCasts_S1x1_S1x1) broadcasts_S1x1_S1x128) shapeCasts_S1x128_S1x128

/-! ## The block as a program -/

theorem rows_inb (n : Fin 8) : ∀ a, (![128 * n.val, 0] : Fin 2 → Nat) a + S128x512.size a ≤ S1024x512.size a := by
  revert n; decide
theorem sink_inb (n : Fin 8) : ∀ a, (![0, n.val] : Fin 2 → Nat) a + S1x1.size a ≤ S1x8.size a := by revert n; decide
theorem acc_inb (n : Fin 2) : ∀ a, (![n.val, 0] : Fin 2 → Nat) a + S1x512.size a ≤ S8x512.size a := by revert n; decide
theorem lane_inb (n : Fin 8) : ∀ a, (![n.val / 4, 128 * (n.val % 4)] : Fin 2 → Nat) a + S1x128.size a ≤ S8x512.size a := by revert n; decide
theorem out_inb (n : Fin 8) : ∀ a, (![n.val, 0] : Fin 2 → Nat) a + S1x128.size a ≤ S8x128.size a := by revert n; decide

/-- The rectangles of a block: its window of keys, its query rows, a head's sink, a key head's row of the sinks' sums, a head's
    lanes of that row, and a head's row of the sinks' gradient. -/
abbrev winR (i : grid0.Coords) (n : Fin 8) : Rect S4096x128 :=
  Rect.unit (s := S4096x128) (k0_off1 i (BitVec.ofNat 32 n.val)) S384x128.size (k0_off1_inb i n)
abbrev rowsR (n : Fin 8) : Rect S1024x512 := Rect.unit (s := S1024x512) ![128 * n.val, 0] S128x512.size (rows_inb n)
abbrev sinkR (n : Fin 8) : Rect S1x8 := Rect.unit (s := S1x8) ![0, n.val] S1x1.size (sink_inb n)
abbrev accR (n : Fin 2) : Rect S8x512 := Rect.unit (s := S8x512) ![n.val, 0] S1x512.size (acc_inb n)
abbrev laneR (n : Fin 8) : Rect S8x512 := Rect.unit (s := S8x512) ![n.val / 4, 128 * (n.val % 4)] S1x128.size (lane_inb n)
abbrev outR (n : Fin 8) : Rect S8x128 := Rect.unit (s := S8x128) ![n.val, 0] S1x128.size (out_inb n)

section Prog

variable (i : grid0.Coords) (arg1 : Memref sig .tc .vmem S1024x512 .bf16) (arg2 arg3 : Memref sig .tc .vmem S4096x128 .bf16)
  (arg4 : Memref sig .tc .vmem S1x8 .f32) (arg5 : Memref sig .tc .vmem S1024x512 .bf16) (arg7 : Memref sig .tc .vmem S1024x512 .f32)
  (arg8 arg9 : Memref sig .tc .vmem S4096x128 .f32) (arg10 : Memref sig .tc .vmem S8x128 .f32) (arg11 : Memref sig .tc .vmem S8x512 .f32)

/-- A block with number `n` of grid point `i`. -/
def block (n : Fin 8) : Prog (TpuEff nD τ sig (Elt F) Λ₀ .tc) PUnit := do
  let kb : Vec F S384x128 .bf16 ← Prog.lift (.load arg2 (winR i n).toLoadRect (View.loadsAt_vmem h_S384x128))
  let vb : Vec F S384x128 .bf16 ← Prog.lift (.load arg3 (winR i n).toLoadRect (View.loadsAt_vmem h_S384x128))
  let q : Vec F S128x512 .bf16 ← Prog.lift (.load arg1 (rowsR n).toLoadRect (View.loadsAt_vmem h_S128x512))
  let d : Vec F S128x512 .bf16 ← Prog.lift (.load arg5 (rowsR n).toLoadRect (View.loadsAt_vmem h_S128x512))
  let k : FVec F S384x128 .bf16 := shapeCast S384x128 kb shapeCasts_S384x128_S384x128
  let v : FVec F S384x128 .bf16 := shapeCast S384x128 vb shapeCasts_S384x128_S384x128
  let qq : FVec F S128x512 .bf16 := shapeCast S128x512 q shapeCasts_S128x512_S128x512
  let dd : FVec F S128x512 .bf16 := shapeCast S128x512 d shapeCasts_S128x512_S128x512
  let s0 := score (mask i (BitVec.ofNat 32 n.val)) (head0 k) (stack0 qq)
  let dp0 := dProb (head0 v) (stack0 dd)
  let a0 : Vec F S1x1 .f32 ← Prog.lift (.load arg4 (sinkR 0).toLoadRect (View.loadsAt_vmem h_S1x1))
  let a1 : Vec F S1x1 .f32 ← Prog.lift (.load arg4 (sinkR 1).toLoadRect (View.loadsAt_vmem h_S1x1))
  let a2 : Vec F S1x1 .f32 ← Prog.lift (.load arg4 (sinkR 2).toLoadRect (View.loadsAt_vmem h_S1x1))
  let a3 : Vec F S1x1 .f32 ← Prog.lift (.load arg4 (sinkR 3).toLoadRect (View.loadsAt_vmem h_S1x1))
  let sk0 := sinkRow a0 a1 a2 a3
  let r0 : Vec F S1x512 .f32 ← Prog.lift (.load arg11 (accR 0).toLoadRect (View.loadsAt_vmem h_S1x512))
  let _ : Vec F S1x512 .f32 ← Prog.lift (.load arg11 (accR 0).toLoadRect (View.loadsAt_vmem h_S1x512))
  Prog.lift (.store arg11 (accR 0) (sinkAfter r0 s0 sk0 dp0) Finset.univ (View.stores_vmem_bits_univ h_S1x512 rfl) (.inl rfl))
  let s1 := score (mask i (BitVec.ofNat 32 n.val)) (head1 k) (stack1 qq)
  let dp1 := dProb (head1 v) (stack1 dd)
  let a4 : Vec F S1x1 .f32 ← Prog.lift (.load arg4 (sinkR 4).toLoadRect (View.loadsAt_vmem h_S1x1))
  let a5 : Vec F S1x1 .f32 ← Prog.lift (.load arg4 (sinkR 5).toLoadRect (View.loadsAt_vmem h_S1x1))
  let a6 : Vec F S1x1 .f32 ← Prog.lift (.load arg4 (sinkR 6).toLoadRect (View.loadsAt_vmem h_S1x1))
  let a7 : Vec F S1x1 .f32 ← Prog.lift (.load arg4 (sinkR 7).toLoadRect (View.loadsAt_vmem h_S1x1))
  let sk1 := sinkRow a4 a5 a6 a7
  let r1 : Vec F S1x512 .f32 ← Prog.lift (.load arg11 (accR 1).toLoadRect (View.loadsAt_vmem h_S1x512))
  let _ : Vec F S1x512 .f32 ← Prog.lift (.load arg11 (accR 1).toLoadRect (View.loadsAt_vmem h_S1x512))
  Prog.lift (.store arg11 (accR 1) (sinkAfter r1 s1 sk1 dp1) Finset.univ (View.stores_vmem_bits_univ h_S1x512 rfl) (.inl rfl))
  let _ : Vec F S128x512 .f32 ← Prog.lift (.load arg7 (rowsR n).toLoadRect (View.loadsAt_vmem h_S128x512))
  Prog.lift (.store arg7 (rowsR n) (dqRows (head0 k) (head1 k) s0 s1 sk0 sk1 dp0 dp1) Finset.univ (View.stores_vmem_bits_univ h_S128x512 rfl) (.inl rfl))
  let ok : Vec F S384x128 .f32 ← Prog.lift (.load arg8 (winR i n).toLoadRect (View.loadsAt_vmem h_S384x128))
  let _ : Vec F S384x128 .f32 ← Prog.lift (.load arg8 (winR i n).toLoadRect (View.loadsAt_vmem h_S384x128))
  Prog.lift (.store arg8 (winR i n) (rowsAfter ok (dkH (dScore (prob s0 sk0) dp0) (stack0 qq)) (dkH (dScore (prob s1 sk1) dp1) (stack1 qq)))
    Finset.univ (View.stores_vmem_bits_univ h_S384x128 rfl) (.inl rfl))
  let ov : Vec F S384x128 .f32 ← Prog.lift (.load arg9 (winR i n).toLoadRect (View.loadsAt_vmem h_S384x128))
  let _ : Vec F S384x128 .f32 ← Prog.lift (.load arg9 (winR i n).toLoadRect (View.loadsAt_vmem h_S384x128))
  Prog.lift (.store arg9 (winR i n) (rowsAfter ov (dvH (prob s0 sk0) (stack0 dd)) (dvH (prob s1 sk1) (stack1 dd)))
    Finset.univ (View.stores_vmem_bits_univ h_S384x128 rfl) (.inl rfl))

/-- The three sums set to zero. -/
def zeros : Prog (TpuEff nD τ sig (Elt F) Λ₀ .tc) PUnit := do
  let _ : Vec F S4096x128 .f32 ← Prog.lift (.load arg8 (Rect.unit (s := S4096x128) ![0, 0] S4096x128.size inb_S4096x128_S4096x128_0_0).toLoadRect (View.loadsAt_vmem h_S4096x128))
  Prog.lift (.store arg8 (Rect.unit (s := S4096x128) ![0, 0] S4096x128.size inb_S4096x128_S4096x128_0_0)
    (shapeCast S4096x128 (broadcast S4096x128 (Scalar.ofBits .f32 0x00000000#32 : F .f32)) shapeCasts_S4096x128_S4096x128)
    Finset.univ (View.stores_vmem_bits_univ h_S4096x128 rfl) (.inl rfl))
  let _ : Vec F S4096x128 .f32 ← Prog.lift (.load arg9 (Rect.unit (s := S4096x128) ![0, 0] S4096x128.size inb_S4096x128_S4096x128_0_0).toLoadRect (View.loadsAt_vmem h_S4096x128))
  Prog.lift (.store arg9 (Rect.unit (s := S4096x128) ![0, 0] S4096x128.size inb_S4096x128_S4096x128_0_0)
    (shapeCast S4096x128 (broadcast S4096x128 (Scalar.ofBits .f32 0x00000000#32 : F .f32)) shapeCasts_S4096x128_S4096x128)
    Finset.univ (View.stores_vmem_bits_univ h_S4096x128 rfl) (.inl rfl))
  let _ : Vec F S8x512 .f32 ← Prog.lift (.load arg11 (Rect.unit (s := S8x512) ![0, 0] S8x512.size inb_S8x512_S8x512_0_0).toLoadRect (View.loadsAt_vmem h_S8x512))
  Prog.lift (.store arg11 (Rect.unit (s := S8x512) ![0, 0] S8x512.size inb_S8x512_S8x512_0_0)
    (shapeCast S8x512 (broadcast S8x512 (Scalar.ofBits .f32 0x00000000#32 : F .f32)) shapeCasts_S8x512_S8x512)
    Finset.univ (View.stores_vmem_bits_univ h_S8x512 rfl) (.inl rfl))

/-- A head's row of the sinks' gradient written. -/
def total (n : Fin 8) : Prog (TpuEff nD τ sig (Elt F) Λ₀ .tc) PUnit := do
  let x : Vec F S1x128 .f32 ← Prog.lift (.load arg11 (laneR n).toLoadRect (View.loadsAt_vmem h_S1x128))
  let _ : Vec F S1x128 .f32 ← Prog.lift (.load arg10 (outR n).toLoadRect (View.loadsAt_vmem h_S1x128))
  Prog.lift (.store arg10 (outR n) (sinkTotal x) Finset.univ (View.stores_vmem_bits_univ h_S1x128 rfl) (.inl rfl))

/-- The eight blocks of a grid point, one after the other. -/
def blocks : Prog (TpuEff nD τ sig (Elt F) Λ₀ .tc) PUnit := do
  block i arg1 arg2 arg3 arg4 arg5 arg7 arg8 arg9 arg11 0
  block i arg1 arg2 arg3 arg4 arg5 arg7 arg8 arg9 arg11 1
  block i arg1 arg2 arg3 arg4 arg5 arg7 arg8 arg9 arg11 2
  block i arg1 arg2 arg3 arg4 arg5 arg7 arg8 arg9 arg11 3
  block i arg1 arg2 arg3 arg4 arg5 arg7 arg8 arg9 arg11 4
  block i arg1 arg2 arg3 arg4 arg5 arg7 arg8 arg9 arg11 5
  block i arg1 arg2 arg3 arg4 arg5 arg7 arg8 arg9 arg11 6
  block i arg1 arg2 arg3 arg4 arg5 arg7 arg8 arg9 arg11 7

/-- The eight heads' rows. -/
def totals : Prog (TpuEff nD τ sig (Elt F) Λ₀ .tc) PUnit := do
  total arg10 arg11 0
  total arg10 arg11 1
  total arg10 arg11 2
  total arg10 arg11 3
  total arg10 arg11 4
  total arg10 arg11 5
  total arg10 arg11 6
  total arg10 arg11 7

variable (harg1 : arg1.IsWhole) (harg2 : arg2.IsWhole) (harg3 : arg3.IsWhole) (harg4 : arg4.IsWhole) (harg5 : arg5.IsWhole)
  (arg6 : Memref sig .tc .hbm S8x128 .f32) (harg6 : arg6.IsWhole) (harg7 : arg7.IsWhole) (harg8 : arg8.IsWhole) (harg9 : arg9.IsWhole)
  (harg10 : arg10.IsWhole) (harg11 : arg11.IsWhole)

/-- Whether the point is the first. -/
def isFirst (i : grid0.Coords) : BitVec 1 := Scalar.cmpi .ne (Scalar.extui (Scalar.cmpi .eq (BitVec.ofNat 32 (i 0).val) 0#32) : BitVec 32) 0#32

set_option maxHeartbeats 4000000 in
/-- The body at a middle point. -/
theorem body_mid (h1 : ¬ isFirst i = 1#1) (h2 : ¬ k0_cond2 i = 1#1) :
    cc0_attn_bwd (F := F) i arg1 harg1 arg2 harg2 arg3 harg3 arg4 harg4 arg5 harg5 arg6 harg6 arg7 harg7 arg8 harg8 arg9 harg9 arg10 harg10 arg11 harg11
      = blocks i arg1 arg2 arg3 arg4 arg5 arg7 arg8 arg9 arg11 := by
  unfold isFirst at h1
  unfold cc0_attn_bwd k0_part2
  rw [dif_neg h1, dif_neg h2]
  rfl

set_option maxHeartbeats 4000000 in
/-- The body at the first point. -/
theorem body_first (h1 : isFirst i = 1#1) (h2 : ¬ k0_cond2 i = 1#1) :
    cc0_attn_bwd (F := F) i arg1 harg1 arg2 harg2 arg3 harg3 arg4 harg4 arg5 harg5 arg6 harg6 arg7 harg7 arg8 harg8 arg9 harg9 arg10 harg10 arg11 harg11
      = (zeros arg8 arg9 arg11 >>= fun _ => blocks i arg1 arg2 arg3 arg4 arg5 arg7 arg8 arg9 arg11) := by
  unfold isFirst at h1
  unfold cc0_attn_bwd k0_part2
  rw [dif_pos h1, dif_neg h2]
  rfl

set_option maxHeartbeats 4000000 in
/-- The body at the last point. -/
theorem body_last (h1 : ¬ isFirst i = 1#1) (h2 : k0_cond2 i = 1#1) :
    cc0_attn_bwd (F := F) i arg1 harg1 arg2 harg2 arg3 harg3 arg4 harg4 arg5 harg5 arg6 harg6 arg7 harg7 arg8 harg8 arg9 harg9 arg10 harg10 arg11 harg11
      = (blocks i arg1 arg2 arg3 arg4 arg5 arg7 arg8 arg9 arg11 >>= fun _ => totals arg10 arg11) := by
  unfold isFirst at h1
  unfold cc0_attn_bwd k0_part2
  rw [dif_neg h1, dif_pos h2]
  rfl

end Prog

end Cert.Attn

end
-- ==== Proof.AttnRun.lean ====
/- The backward call of the windowed attention: its run. What one block, one grid point and the whole grid leave in the call's
   results and in its scratch buffer. -/
module

public import proofs.«01_k».proof.Proof.AttnBlock

@[expose] public section

set_option maxRecDepth 16384

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelAttnIdeal Cert.KernelAttnIdeal.Gen

variable {F : FTy → Type} [FloatOps F] [Named F]

local notation "𝕄" => MT nD τ sig Unit (Elt F) ℕ (UR sig nD τ) ℕ

/-! ## A load and a store of a memref held at what it reads -/

section Steps

variable (c : Dev nD) {sp : CoreSpace} {s : Shape} {e : EltTy} (m : Memref sig .tc sp s e) (r : Rect s)

/-- A load of a rectangle goes on with the rectangle's part of what the memref reads. -/
theorem wp_ld (X : s.Idx → Elt F e) {hl : m.view.LoadsAt r} {k : (r.shape.Idx → Elt F e) → Prog (TpuEff nD τ sig (Elt F) Λ₀ .tc) PUnit}
    {Q : PUnit → sProp 𝕄} :
    (owns (c : Thread nD τ) m fullShare X : sProp 𝕄)
      ⊢ iprop((owns (c : Thread nD τ) m fullShare X
          -∗ wp frame (wpE (defs₀ (F := F)) Variants.none (c : Thread nD τ) none) Set.univ (k fun y => X (r.emb y)) Q)
        -∗ wp frame (wpE (defs₀ (F := F)) Variants.none (c : Thread nD τ) none) Set.univ (.op (.load m r hl) k) Q) := by
  iintro H Hk
  ihave H' := (show owns (c : Thread nD τ) m fullShare X
    ⊢ iprop(∃ f, ⌜m.view.read (Elt F) f = X⌝ ∗ (m.view.loc (c : Thread nD τ) ↦[m.view.set]{fullShare} f)) from .rfl) $$ H
  icases H' with ⟨%f, %hf, H⟩
  subst hf
  iapply (wp_load_rect Variants.none (c : Thread nD τ) none Set.univ (m := m) (r := r) (S := m.view.set) (View.set_slice_subset _ _)) $$ H
  iintro H
  iapply Hk
  iapply (owns_intro (c : Thread nD τ) m fullShare f)
  iexact H

theorem read_write_eq (f : m.view.ty.Contents (Elt F)) (w : r.shape.Idx → Elt F e) :
    m.view.read (Elt F) ((m.access r).write (Elt F) f w Finset.univ) = r.overlay (m.view.read (Elt F) f) w := by
  funext j
  by_cases hj : j ∈ r.set
  · obtain ⟨i, rfl⟩ := r.exists_idx_of_mem hj
    change m.view.read (Elt F) _ (r.emb i) = r.overlay _ w (r.emb i)
    rw [Rect.overlay_emb]
    exact congrFun (View.read_write_univ (v := m.access r) f w) i
  · rw [Rect.overlay_of_not_mem _ _ _ hj]
    rw [View.read_apply, View.read_apply]
    congr 1
    refine View.write_of_not_mem (v := m.access r) f w Finset.univ ?_
    show m.view.emb j ∉ (m.view.slice r).set
    rw [View.set_slice, Finset.mem_map' m.view.emb]; exact hj

/-- A store leaves the memref with the rectangle's part replaced. -/
theorem wp_st (X : s.Idx → Elt F e) {w : r.shape.Idx → Elt F e} {hx : (m.access r).Stores Finset.univ} {hm : Finset.univ = Finset.univ ∨ ∀ a, r.stride a = 1}
    {k : PUnit → Prog (TpuEff nD τ sig (Elt F) Λ₀ .tc) PUnit} {Q : PUnit → sProp 𝕄} :
    (owns (c : Thread nD τ) m fullShare X : sProp 𝕄)
      ⊢ iprop((owns (c : Thread nD τ) m fullShare (r.overlay X w)
          -∗ wp frame (wpE (defs₀ (F := F)) Variants.none (c : Thread nD τ) none) Set.univ (k ⟨⟩) Q)
        -∗ wp frame (wpE (defs₀ (F := F)) Variants.none (c : Thread nD τ) none) Set.univ (.op (.store m r w Finset.univ hx hm) k) Q) := by
  iintro H Hk
  ihave H' := (show owns (c : Thread nD τ) m fullShare X
    ⊢ iprop(∃ f, ⌜m.view.read (Elt F) f = X⌝ ∗ (m.view.loc (c : Thread nD τ) ↦[m.view.set]{fullShare} f)) from .rfl) $$ H
  icases H' with ⟨%f, %hf, H⟩
  subst hf
  iapply (wp_store Variants.none (c : Thread nD τ) none Set.univ (m := m) (r := r) (Mk := Finset.univ) (S := m.view.set) (View.set_slice_subset _ _)) $$ H
  iintro H
  iapply Hk
  rw [← read_write_eq]
  iapply (owns_intro (c : Thread nD τ) m fullShare _)
  iexact H

end Steps

/-! ## One block -/

/-- What a grid point reads: its query rows, the keys, the values, the sinks, its rows of the output's cotangent. -/
structure Ins (F : FTy → Type) where
  q : S1024x512.Idx → Elt F .bf16
  k : S4096x128.Idx → Elt F .bf16
  v : S4096x128.Idx → Elt F .bf16
  sink : S1x8.Idx → Elt F .f32
  d : S1024x512.Idx → Elt F .bf16

/-- What a block changes: the point's rows of the queries' gradient, the keys', the values', and the sinks' sums. -/
structure Outs (F : FTy → Type) where
  dq : S1024x512.Idx → Elt F .f32
  dk : S4096x128.Idx → Elt F .f32
  dv : S4096x128.Idx → Elt F .f32
  acc : S8x512.Idx → Elt F .f32

section Block

variable (i : grid0.Coords) (x : Ins F) (n : Fin 8)

/-- The block's rows of keys, values, queries and cotangents. -/
def kRows : FVec F S384x128 .bf16 := shapeCast S384x128 (fun y => x.k ((winR i n).emb y)) shapeCasts_S384x128_S384x128
def vRows : FVec F S384x128 .bf16 := shapeCast S384x128 (fun y => x.v ((winR i n).emb y)) shapeCasts_S384x128_S384x128
def qRows : FVec F S128x512 .bf16 := shapeCast S128x512 (fun y => x.q ((rowsR n).emb y)) shapeCasts_S128x512_S128x512
def dRows : FVec F S128x512 .bf16 := shapeCast S128x512 (fun y => x.d ((rowsR n).emb y)) shapeCasts_S128x512_S128x512

/-- The scores of the first and of the second key head, -/
def s0 : FVec F S384x512 .f32 := score (mask i (BitVec.ofNat 32 n.val)) (head0 (kRows i x n)) (stack0 (qRows x n))
def s1 : FVec F S384x512 .f32 := score (mask i (BitVec.ofNat 32 n.val)) (head1 (kRows i x n)) (stack1 (qRows x n))
/-- the cotangents of their probabilities, -/
def dp0 : FVec F S384x512 .f32 := dProb (head0 (vRows i x n)) (stack0 (dRows x n))
def dp1 : FVec F S384x512 .f32 := dProb (head1 (vRows i x n)) (stack1 (dRows x n))
/-- and their sinks. -/
def sinkAt (h : Fin 8) : Vec F S1x1 .f32 := fun y => x.sink ((sinkR h).emb y)
def sk0 : FVec F S1x512 .f32 := sinkRow (sinkAt x 0) (sinkAt x 1) (sinkAt x 2) (sinkAt x 3)
def sk1 : FVec F S1x512 .f32 := sinkRow (sinkAt x 4) (sinkAt x 5) (sinkAt x 6) (sinkAt x 7)

/-- The block's rows of the queries' gradient, -/
def dqBlock : FVec F S128x512 .f32 :=
  dqRows (head0 (kRows i x n)) (head1 (kRows i x n)) (s0 i x n) (s1 i x n) (sk0 x) (sk1 x) (dp0 i x n) (dp1 i x n)
/-- its part of the keys' and of the values', by key head. -/
def dk0 : FVec F S384x64 .f32 := dkH (dScore (prob (s0 i x n) (sk0 x)) (dp0 i x n)) (stack0 (qRows x n))
def dk1 : FVec F S384x64 .f32 := dkH (dScore (prob (s1 i x n) (sk1 x)) (dp1 i x n)) (stack1 (qRows x n))
def dv0 : FVec F S384x64 .f32 := dvH (prob (s0 i x n) (sk0 x)) (stack0 (dRows x n))
def dv1 : FVec F S384x64 .f32 := dvH (prob (s1 i x n) (sk1 x)) (stack1 (dRows x n))

/-- The sums after the block's first key head. -/
def acc0 (a : S8x512.Idx → Elt F .f32) : S8x512.Idx → Elt F .f32 :=
  (accR 0).overlay a (sinkAfter (fun y => a ((accR 0).emb y)) (s0 i x n) (sk0 x) (dp0 i x n))

/-- What the block leaves. -/
def step (o : Outs F) : Outs F where
  dq := (rowsR n).overlay o.dq (dqBlock i x n)
  dk := (winR i n).overlay o.dk (rowsAfter (fun y => o.dk ((winR i n).emb y)) (dk0 i x n) (dk1 i x n))
  dv := (winR i n).overlay o.dv (rowsAfter (fun y => o.dv ((winR i n).emb y)) (dv0 i x n) (dv1 i x n))
  acc := (accR 1).overlay (acc0 i x n o.acc) (sinkAfter (fun y => acc0 i x n o.acc ((accR 1).emb y)) (s1 i x n) (sk1 x) (dp1 i x n))

/-- What is left after the first `k` blocks of a point. -/
def steps : ℕ → Outs F → Outs F
  | 0, o => o
  | k + 1, o => step i x (Fin.ofNat 8 k) (steps k o)

end Block

section Run

variable (c : Dev nD) (i : grid0.Coords) (arg1 : Memref sig .tc .vmem S1024x512 .bf16) (arg2 arg3 : Memref sig .tc .vmem S4096x128 .bf16)
  (arg4 : Memref sig .tc .vmem S1x8 .f32) (arg5 : Memref sig .tc .vmem S1024x512 .bf16) (arg7 : Memref sig .tc .vmem S1024x512 .f32)
  (arg8 arg9 : Memref sig .tc .vmem S4096x128 .f32) (arg10 : Memref sig .tc .vmem S8x128 .f32) (arg11 : Memref sig .tc .vmem S8x512 .f32)

/-- The buffers that a block reads and writes, at what they hold. -/
def held (x : Ins F) (o : Outs F) : sProp 𝕄 :=
  iprop(owns (c : Thread nD τ) arg1 fullShare x.q ∗ owns (c : Thread nD τ) arg2 fullShare x.k ∗ owns (c : Thread nD τ) arg3 fullShare x.v
    ∗ owns (c : Thread nD τ) arg4 fullShare x.sink ∗ owns (c : Thread nD τ) arg5 fullShare x.d
    ∗ owns (c : Thread nD τ) arg7 fullShare o.dq ∗ owns (c : Thread nD τ) arg8 fullShare o.dk ∗ owns (c : Thread nD τ) arg9 fullShare o.dv
    ∗ owns (c : Thread nD τ) arg11 fullShare o.acc)

set_option maxHeartbeats 2000000 in
/-- A block turns what the buffers hold into what it leaves. -/
theorem wp_block (n : Fin 8) (x : Ins F) (o : Outs F) {Q : PUnit → sProp 𝕄} :
    held c arg1 arg2 arg3 arg4 arg5 arg7 arg8 arg9 arg11 x o
      ⊢ iprop((held c arg1 arg2 arg3 arg4 arg5 arg7 arg8 arg9 arg11 x (step i x n o) -∗ Q ⟨⟩)
        -∗ wp frame (wpE (defs₀ (F := F)) Variants.none (c : Thread nD τ) none) Set.univ (block i arg1 arg2 arg3 arg4 arg5 arg7 arg8 arg9 arg11 n) Q) := by
  unfold held block
  simp only [Prog.lift, Prog.bind_op, Prog.bind_ret]
  iintro ⟨H1, H2, H3, H4, H5, H7, H8, H9, H11⟩ HQ
  iapply (wp_ld c arg2 (winR i n) x.k) $$ H2; iintro H2
  iapply (wp_ld c arg3 (winR i n) x.v) $$ H3; iintro H3
  iapply (wp_ld c arg1 (rowsR n) x.q) $$ H1; iintro H1
  iapply (wp_ld c arg5 (rowsR n) x.d) $$ H5; iintro H5
  iapply (wp_ld c arg4 (sinkR 0) x.sink) $$ H4; iintro H4
  iapply (wp_ld c arg4 (sinkR 1) x.sink) $$ H4; iintro H4
  iapply (wp_ld c arg4 (sinkR 2) x.sink) $$ H4; iintro H4
  iapply (wp_ld c arg4 (sinkR 3) x.sink) $$ H4; iintro H4
  iapply (wp_ld c arg11 (accR 0) o.acc) $$ H11; iintro H11
  iapply (wp_ld c arg11 (accR 0) o.acc) $$ H11; iintro H11
  iapply (wp_st c arg11 (accR 0) o.acc) $$ H11; iintro H11
  iapply (wp_ld c arg4 (sinkR 4) x.sink) $$ H4; iintro H4
  iapply (wp_ld c arg4 (sinkR 5) x.sink) $$ H4; iintro H4
  iapply (wp_ld c arg4 (sinkR 6) x.sink) $$ H4; iintro H4
  iapply (wp_ld c arg4 (sinkR 7) x.sink) $$ H4; iintro H4
  iapply (wp_ld c arg11 (accR 1) _) $$ H11; iintro H11
  iapply (wp_ld c arg11 (accR 1) _) $$ H11; iintro H11
  iapply (wp_st c arg11 (accR 1) _) $$ H11; iintro H11
  iapply (wp_ld c arg7 (rowsR n) o.dq) $$ H7; iintro H7
  iapply (wp_st c arg7 (rowsR n) o.dq) $$ H7; iintro H7
  iapply (wp_ld c arg8 (winR i n) o.dk) $$ H8; iintro H8
  iapply (wp_ld c arg8 (winR i n) o.dk) $$ H8; iintro H8
  iapply (wp_st c arg8 (winR i n) o.dk) $$ H8; iintro H8
  iapply (wp_ld c arg9 (winR i n) o.dv) $$ H9; iintro H9
  iapply (wp_ld c arg9 (winR i n) o.dv) $$ H9; iintro H9
  iapply (wp_st c arg9 (winR i n) o.dv) $$ H9; iintro H9
  iapply (le_wp_ret _ _ _ _ _)
  iapply HQ
  isplitl [H1]; · iexact H1
  isplitl [H2]; · iexact H2
  isplitl [H3]; · iexact H3
  isplitl [H4]; · iexact H4
  isplitl [H5]; · iexact H5
  isplitl [H7]; · iexact H7
  isplitl [H8]; · iexact H8
  isplitl [H9]; · iexact H9
  iexact H11

end Run

end Cert.Attn

end
-- ==== Proof.AttnPoint.lean ====
/- The backward call of the windowed attention: a grid point's run, the call's proof data, and the run of the whole program. -/
module

public import proofs.«01_k».proof.Proof.AttnRun
public import Idealize.ShloMosaic.Lib.ValueIdx

@[expose] public section

set_option maxRecDepth 16384

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx
open Cert.KernelAttnIdeal Cert.KernelAttnIdeal.Gen

variable {F : FTy → Type} [FloatOps F] [Named F]

local notation "𝕄" => MT nD τ sig Unit (Elt F) ℕ (UR sig nD τ) ℕ

/-! ## Arrays written rectangle by rectangle -/

/-- Where the array is `G` already or the rectangle's part is `G`'s, the array with the rectangle replaced is `G`. -/
theorem overlay_agree {s : Shape} {α : Type} (r : Rect s) (X G : s.Idx → α) (w : r.shape.Idx → α) (hw : ∀ y, w y = G (r.emb y)) (j : s.Idx)
    (h : X j = G j ∨ j ∈ r.set) : r.overlay X w j = G j := by
  by_cases hj : j ∈ r.set
  · obtain ⟨y, rfl⟩ := r.exists_idx_of_mem hj
    exact (Rect.overlay_emb r X w y).trans (hw y)
  · rw [Rect.overlay_of_not_mem _ _ _ hj]
    exact h.resolve_right hj

/-- Replacing the whole array leaves the replacement. -/
theorem overlay_const {s : Shape} {α : Type} (off : Fin s.rank → ℕ) (inb : ∀ a, off a + s.size a ≤ s.size a) (X : s.Idx → α) (z : α) :
    (Rect.unit (s := s) off s.size inb).overlay X (fun _ => z) = fun _ => z := by
  funext j
  refine overlay_agree _ X (fun _ => z) _ (fun _ => rfl) j (.inr (Rect.mem_set_unit.mpr fun a => ?_))
  have := inb a; have := (j a).isLt
  omega

theorem mem_rowsR (n : Fin 8) (j : S1024x512.Idx) : j ∈ (rowsR n).set ↔ 128 * n.val ≤ (j 0).val ∧ (j 0).val < 128 * n.val + 128 := by
  rw [Rect.mem_set_unit, Fin.forall_fin_two]
  have := (j 1).isLt
  simp [S128x512, S1024x512] at this ⊢
  omega

theorem mem_outR (n : Fin 8) (j : S8x128.Idx) : j ∈ (outR n).set ↔ (j 0).val = n.val := by
  rw [Rect.mem_set_unit, Fin.forall_fin_two]
  have := (j 1).isLt
  simp [S1x128, S8x128] at this ⊢
  omega

section Point

variable (i : grid0.Coords) (x : Ins F)

/-- A point's rows of the queries' gradient: each from its block. -/
def dqTile : S1024x512.Idx → Elt F .f32 := fun j =>
  dqBlock i x ⟨(j 0).val / 128, Nat.div_lt_of_lt_mul (j 0).isLt⟩ (ix2 ⟨(j 0).val % 128, Nat.mod_lt _ (by decide)⟩ (j 1))

theorem dqTile_emb (n : Fin 8) (y : S128x512.Idx) : dqBlock i x n y = dqTile i x ((rowsR n).emb y) := by
  have h0 := (y 0).isLt
  change (y 0).val < 128 at h0
  have e0 : ((rowsR n).emb y 0).val = 128 * n.val + (y 0).val := by rw [Rect.emb_apply]; simp
  have e1 : ((rowsR n).emb y 1).val = (y 1).val := by rw [Rect.emb_apply]; simp
  unfold dqTile
  have a : (⟨((rowsR n).emb y 0).val / 128, Nat.div_lt_of_lt_mul ((rowsR n).emb y 0).isLt⟩ : Fin 8) = n := Fin.ext (by simp only [e0]; omega)
  have b : (ix2 ⟨((rowsR n).emb y 0).val % 128, Nat.mod_lt _ (by decide)⟩ ((rowsR n).emb y 1) : S128x512.Idx) = y := by
    funext k; fin_cases k
    · exact Fin.ext (by simp only [ix2, e0]; show (128 * n.val + (y 0).val) % 128 = (y 0).val; omega)
    · exact Fin.ext e1
  rw [a, b]

theorem step_dq (n : Fin 8) (o : Outs F) (j : S1024x512.Idx) (h : o.dq j = dqTile i x j ∨ 128 * n.val ≤ (j 0).val ∧ (j 0).val < 128 * n.val + 128) :
    (step i x n o).dq j = dqTile i x j := by
  unfold step
  dsimp only
  have hw := dqTile_emb i x n
  generalize dqTile i x = G at hw h ⊢
  generalize dqBlock i x n = w at hw ⊢
  exact overlay_agree (rowsR n) o.dq G w hw j (h.imp_right (mem_rowsR n j).mpr)

/-- After the first `k` blocks of a point its first `128 k` rows are its tile's. -/
theorem steps_dq (o : Outs F) (k : ℕ) : k ≤ 8 → ∀ j : S1024x512.Idx, (j 0).val < 128 * k → (steps i x k o).dq j = dqTile i x j := by
  induction k with
  | zero => intro _ j h; exact absurd h (by omega)
  | succ k ih =>
    intro hk j h
    have hn : (Fin.ofNat 8 k).val = k := Nat.mod_eq_of_lt (by omega)
    refine step_dq i x (Fin.ofNat 8 k) (steps i x k o) j ?_
    by_cases hj : (j 0).val < 128 * k
    · exact .inl (ih (by omega) j hj)
    · exact .inr (by rw [hn]; omega)

/-- What the blocks leave in the sums does not depend on the rows of the queries' gradient. -/
theorem steps_rest {o o' : Outs F} (hk : o.dk = o'.dk) (hv : o.dv = o'.dv) (ha : o.acc = o'.acc) :
    ∀ k : ℕ, (steps i x k o).dk = (steps i x k o').dk ∧ (steps i x k o).dv = (steps i x k o').dv ∧ (steps i x k o).acc = (steps i x k o').acc
  | 0 => ⟨hk, hv, ha⟩
  | k + 1 => by
    obtain ⟨h1, h2, h3⟩ := steps_rest hk hv ha k
    simp only [steps, step, h1, h2, h3, and_self]

theorem steps_eight {o o' : Outs F} (hk : o.dk = o'.dk) (hv : o.dv = o'.dv) (ha : o.acc = o'.acc) : steps i x 8 o = steps i x 8 o' := by
  obtain ⟨h1, h2, h3⟩ := steps_rest i x hk hv ha 8
  have h0 : ∀ p : Outs F, (steps i x 8 p).dq = dqTile i x := fun p => funext fun j => steps_dq i x p 8 le_rfl j (by have := (j 0).isLt; exact this)
  have h := (h0 o).trans (h0 o').symm
  generalize steps i x 8 o = a at *
  generalize steps i x 8 o' = b at *
  cases a; cases b
  simp only at h h1 h2 h3
  subst h h1 h2 h3
  rfl

/-- The sinks' gradient, from the sums. -/
def sinkOut (a : S8x512.Idx → Elt F .f32) : S8x128.Idx → Elt F .f32 := fun j =>
  sinkTotal (fun y => a ((laneR (j 0)).emb y)) (ix2 0 (j 1))

theorem sinkOut_emb (a : S8x512.Idx → Elt F .f32) (n : Fin 8) (y : S1x128.Idx) :
    sinkTotal (fun y => a ((laneR n).emb y)) y = sinkOut a ((outR n).emb y) := by
  have h0 := (y 0).isLt
  change (y 0).val < 1 at h0
  have e0 : (outR n).emb y 0 = n := Fin.ext (by rw [Rect.emb_apply]; simp; omega)
  have e1 : (outR n).emb y 1 = y 1 := Fin.ext (by rw [Rect.emb_apply]; simp)
  unfold sinkOut
  have b : (ix2 0 (y 1) : S1x128.Idx) = y := by
    funext k; fin_cases k
    · exact Fin.ext (by show 0 = (y 0).val; omega)
    · rfl
  rw [e0, e1, b]

/-- The sums at zero. -/
def clear (o : Outs F) : Outs F := ⟨o.dq, fun _ => Scalar.ofBits .f32 0x00000000#32, fun _ => Scalar.ofBits .f32 0x00000000#32, fun _ => Scalar.ofBits .f32 0x00000000#32⟩

end Point

section Run

variable (c : Dev nD) (i : grid0.Coords) (arg1 : Memref sig .tc .vmem S1024x512 .bf16) (arg2 arg3 : Memref sig .tc .vmem S4096x128 .bf16)
  (arg4 : Memref sig .tc .vmem S1x8 .f32) (arg5 : Memref sig .tc .vmem S1024x512 .bf16) (arg7 : Memref sig .tc .vmem S1024x512 .f32)
  (arg8 arg9 : Memref sig .tc .vmem S4096x128 .f32) (arg10 : Memref sig .tc .vmem S8x128 .f32) (arg11 : Memref sig .tc .vmem S8x512 .f32)

/-- The eight blocks of a point. -/
theorem wp_blocks (x : Ins F) (o : Outs F) {Q : PUnit → sProp 𝕄} :
    held c arg1 arg2 arg3 arg4 arg5 arg7 arg8 arg9 arg11 x o
      ⊢ iprop((held c arg1 arg2 arg3 arg4 arg5 arg7 arg8 arg9 arg11 x (steps i x 8 o) -∗ Q ⟨⟩)
        -∗ wp frame (wpE (defs₀ (F := F)) Variants.none (c : Thread nD τ) none) Set.univ (blocks i arg1 arg2 arg3 arg4 arg5 arg7 arg8 arg9 arg11) Q) := by
  unfold blocks
  simp only [wp_bind]
  iintro H HQ
  iapply (wp_block c i arg1 arg2 arg3 arg4 arg5 arg7 arg8 arg9 arg11 0 x o) $$ H; iintro H
  iapply (wp_block c i arg1 arg2 arg3 arg4 arg5 arg7 arg8 arg9 arg11 1 x _) $$ H; iintro H
  iapply (wp_block c i arg1 arg2 arg3 arg4 arg5 arg7 arg8 arg9 arg11 2 x _) $$ H; iintro H
  iapply (wp_block c i arg1 arg2 arg3 arg4 arg5 arg7 arg8 arg9 arg11 3 x _) $$ H; iintro H
  iapply (wp_block c i arg1 arg2 arg3 arg4 arg5 arg7 arg8 arg9 arg11 4 x _) $$ H; iintro H
  iapply (wp_block c i arg1 arg2 arg3 arg4 arg5 arg7 arg8 arg9 arg11 5 x _) $$ H; iintro H
  iapply (wp_block c i arg1 arg2 arg3 arg4 arg5 arg7 arg8 arg9 arg11 6 x _) $$ H; iintro H
  iapply (wp_block c i arg1 arg2 arg3 arg4 arg5 arg7 arg8 arg9 arg11 7 x _) $$ H; iintro H
  iapply HQ
  iexact H

/-- The sums set to zero. -/
theorem wp_zeros (x : Ins F) (o : Outs F) {Q : PUnit → sProp 𝕄} :
    held c arg1 arg2 arg3 arg4 arg5 arg7 arg8 arg9 arg11 x o
      ⊢ iprop((held c arg1 arg2 arg3 arg4 arg5 arg7 arg8 arg9 arg11 x (clear o) -∗ Q ⟨⟩)
        -∗ wp frame (wpE (defs₀ (F := F)) Variants.none (c : Thread nD τ) none) Set.univ (zeros arg8 arg9 arg11) Q) := by
  unfold held zeros
  simp only [Prog.lift, Prog.bind_op, Prog.bind_ret]
  iintro ⟨H1, H2, H3, H4, H5, H7, H8, H9, H11⟩ HQ
  iapply (wp_ld c arg8 _ o.dk) $$ H8; iintro H8
  iapply (wp_st c arg8 _ o.dk) $$ H8; iintro H8
  iapply (wp_ld c arg9 _ o.dv) $$ H9; iintro H9
  iapply (wp_st c arg9 _ o.dv) $$ H9; iintro H9
  iapply (wp_ld c arg11 _ o.acc) $$ H11; iintro H11
  iapply (wp_st c arg11 _ o.acc) $$ H11; iintro H11
  iapply (le_wp_ret _ _ _ _ _)
  iapply HQ
  isplitl [H1]; · iexact H1
  isplitl [H2]; · iexact H2
  isplitl [H3]; · iexact H3
  isplitl [H4]; · iexact H4
  isplitl [H5]; · iexact H5
  isplitl [H7]; · iexact H7
  isplitl [H8]
  · rw [show (clear o).dk = _ from (overlay_const (s := S4096x128) ![0, 0] inb_S4096x128_S4096x128_0_0 o.dk (Scalar.ofBits .f32 0x00000000#32 : F .f32)).symm]
    iexact H8
  isplitl [H9]
  · rw [show (clear o).dv = _ from (overlay_const (s := S4096x128) ![0, 0] inb_S4096x128_S4096x128_0_0 o.dv (Scalar.ofBits .f32 0x00000000#32 : F .f32)).symm]
    iexact H9
  rw [show (clear o).acc = _ from (overlay_const (s := S8x512) ![0, 0] inb_S8x512_S8x512_0_0 o.acc (Scalar.ofBits .f32 0x00000000#32 : F .f32)).symm]
  iexact H11

/-- A head's row of the sinks' gradient. -/
theorem wp_total (n : Fin 8) (a : S8x512.Idx → Elt F .f32) (Y : S8x128.Idx → Elt F .f32) {Q : PUnit → sProp 𝕄} :
    iprop(owns (c : Thread nD τ) arg11 fullShare a ∗ owns (c : Thread nD τ) arg10 fullShare Y)
      ⊢ iprop((iprop(owns (c : Thread nD τ) arg11 fullShare a
            ∗ owns (c : Thread nD τ) arg10 fullShare ((outR n).overlay Y (sinkTotal fun y => a ((laneR n).emb y)))) -∗ Q ⟨⟩)
        -∗ wp frame (wpE (defs₀ (F := F)) Variants.none (c : Thread nD τ) none) Set.univ (total arg10 arg11 n) Q) := by
  unfold total
  simp only [Prog.lift, Prog.bind_op, Prog.bind_ret]
  iintro ⟨H11, H10⟩ HQ
  iapply (wp_ld c arg11 (laneR n) a) $$ H11; iintro H11
  iapply (wp_ld c arg10 (outR n) Y) $$ H10; iintro H10
  iapply (wp_st c arg10 (outR n) Y) $$ H10; iintro H10
  iapply (le_wp_ret _ _ _ _ _)
  iapply HQ
  isplitl [H11]; · iexact H11
  iexact H10

/-- The first `k` rows written. -/
def rowsDone (a : S8x512.Idx → Elt F .f32) (Y : S8x128.Idx → Elt F .f32) : ℕ → S8x128.Idx → Elt F .f32
  | 0 => Y
  | k + 1 => (outR (Fin.ofNat 8 k)).overlay (rowsDone a Y k) (sinkTotal fun y => a ((laneR (Fin.ofNat 8 k)).emb y))

theorem rowsDone_eq (a : S8x512.Idx → Elt F .f32) (Y : S8x128.Idx → Elt F .f32) :
    ∀ k : ℕ, k ≤ 8 → ∀ j : S8x128.Idx, (j 0).val < k → rowsDone a Y k j = sinkOut a j
  | 0, _, j, h => absurd h (by omega)
  | k + 1, hk, j, h => by
    have hn : (Fin.ofNat 8 k).val = k := Nat.mod_eq_of_lt (by omega)
    refine overlay_agree (outR (Fin.ofNat 8 k)) _ (sinkOut a) _ (sinkOut_emb a _) j ?_
    by_cases hj : (j 0).val < k
    · exact .inl (rowsDone_eq a Y k (by omega) j hj)
    · exact .inr ((mem_outR _ j).mpr (by rw [hn]; omega))

/-- The eight heads' rows. -/
theorem wp_totals (a : S8x512.Idx → Elt F .f32) (Y : S8x128.Idx → Elt F .f32) {Q : PUnit → sProp 𝕄} :
    iprop(owns (c : Thread nD τ) arg11 fullShare a ∗ owns (c : Thread nD τ) arg10 fullShare Y)
      ⊢ iprop((iprop(owns (c : Thread nD τ) arg11 fullShare a ∗ owns (c : Thread nD τ) arg10 fullShare (sinkOut a)) -∗ Q ⟨⟩)
        -∗ wp frame (wpE (defs₀ (F := F)) Variants.none (c : Thread nD τ) none) Set.univ (totals arg10 arg11) Q) := by
  unfold totals
  simp only [wp_bind]
  rw [show sinkOut a = rowsDone a Y 8 from funext fun j => (rowsDone_eq a Y 8 le_rfl j (j 0).isLt).symm]
  iintro H HQ
  iapply (wp_total c arg10 arg11 0 a Y) $$ H; iintro H
  iapply (wp_total c arg10 arg11 1 a _) $$ H; iintro H
  iapply (wp_total c arg10 arg11 2 a _) $$ H; iintro H
  iapply (wp_total c arg10 arg11 3 a _) $$ H; iintro H
  iapply (wp_total c arg10 arg11 4 a _) $$ H; iintro H
  iapply (wp_total c arg10 arg11 5 a _) $$ H; iintro H
  iapply (wp_total c arg10 arg11 6 a _) $$ H; iintro H
  iapply (wp_total c arg10 arg11 7 a _) $$ H; iintro H
  iapply HQ
  iexact H

end Run

end Cert.Attn

end
-- ==== Proof.AttnFrame.lean ====
/- The backward call of the windowed attention: the call's proof data and the run of the whole program. -/
module

public import proofs.«01_k».proof.Proof.AttnPoint
public import Idealize.ShloMosaic.Lib.Claim

@[expose] public section

set_option maxRecDepth 16384

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelAttnIdeal Cert.KernelAttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Point `k` of the grid. -/
def pt (k : ℕ) : Fin cfg0.N := ⟨k % 4, by rw [show cfg0.N = 4 from N_0]; exact Nat.mod_lt _ (by decide)⟩

theorem pt_val (t : Fin cfg0.N) : pt t.val = t :=
  Fin.ext (Nat.mod_eq_of_lt (lt_of_lt_of_eq t.isLt (show cfg0.N = 4 from N_0)))

/-- What point `t` reads. -/
def ins (c : Dev nD) (t : Fin cfg0.N) : Ins F := ⟨iblk m c 0 t, iblk m c 1 t, iblk m c 2 t, iblk m c 3 t, iblk m c 4 t⟩

/-- What is left after the first `k` points. -/
def left (c : Dev nD) : ℕ → Outs F
  | 0 => clear ⟨fun _ => Scalar.ofBits .f32 0x00000000#32, fun _ => Scalar.ofBits .f32 0x00000000#32,
      fun _ => Scalar.ofBits .f32 0x00000000#32, fun _ => Scalar.ofBits .f32 0x00000000#32⟩
  | k + 1 => steps (grid0.coords (pt k)) (ins m c (pt k)) 8 (left c k)

theorem left_succ (c : Dev nD) (t : Fin cfg0.N) (o : Outs F) (hk : o.dk = (left m c t.val).dk) (hv : o.dv = (left m c t.val).dv)
    (ha : o.acc = (left m c t.val).acc) : steps (grid0.coords t) (ins m c t) 8 o = left m c (t.val + 1) := by
  rw [left, pt_val]
  exact steps_eight _ _ hk hv ha

/-- Between points: before the first the scratch buffer at anything, then at the sinks' sums so far. -/
def between (c : Dev nD) (k : ℕ) : sProp 𝕄 :=
  match k with
  | 0 => Pipeline.ΦA spec0 c
  | k + 1 => iprop(owns (c : Thread nD τ) (Memref.whole cc0_scratch0) fullShare (left m c (k + 1)).acc ∗ ∃ r, prngReg c r)

/-- The proof data: the arrays as the region finds them; after a point the inputs' blocks, the point's rows of the queries'
    gradient, the sums so far, and at the last point the sinks' gradient. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (left m c (t.val + 1)).dq
    | ⟨6, _⟩ => (left m c (t.val + 1)).dk
    | ⟨7, _⟩ => (left m c (t.val + 1)).dv
    | ⟨8, _⟩ => sinkOut (left m c (t.val + 1)).acc
  Φ t := between m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (left m c (t.val + 1)).dq := by dsimp only [dats]
theorem after_6 (c : Dev nD) (t : Fin cfg0.N) : (dats m 0 c).after 6 t = (left m c (t.val + 1)).dk := by dsimp only [dats]
theorem after_7 (c : Dev nD) (t : Fin cfg0.N) : (dats m 0 c).after 7 t = (left m c (t.val + 1)).dv := by dsimp only [dats]
theorem after_8 (c : Dev nD) (t : Fin cfg0.N) : (dats m 0 c).after 8 t = sinkOut (left m c (t.val + 1)).acc := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- After the first point the keys' and the values' buffers hold the sums so far. -/
theorem before_6 (c : Dev nD) (t : Fin cfg0.N) (h0 : t.val ≠ 0) (d) : (dats m 0 c).before 6 t d = (left m c t.val).dk := by
  have hN : t.val < 4 := lt_of_lt_of_eq t.isLt (show cfg0.N = 4 from N_0)
  rw [Dat.before_out_kept _ 6 rfl t h0 (Bool.eq_false_iff.mpr fun h => by have := (flush0_6 _).mp h; dsimp only at this; omega)
    (fun _ => rfl) (fun _ _ => rfl), after_6, show (⟨t.val - 1, _⟩ : Fin cfg0.N).val + 1 = t.val from by simp only; omega]
theorem before_7 (c : Dev nD) (t : Fin cfg0.N) (h0 : t.val ≠ 0) (d) : (dats m 0 c).before 7 t d = (left m c t.val).dv := by
  have hN : t.val < 4 := lt_of_lt_of_eq t.isLt (show cfg0.N = 4 from N_0)
  rw [Dat.before_out_kept _ 7 rfl t h0 (Bool.eq_false_iff.mpr fun h => by have := (flush0_7 _).mp h; dsimp only at this; omega)
    (fun _ => rfl) (fun _ _ => rfl), after_7, show (⟨t.val - 1, _⟩ : Fin cfg0.N).val + 1 = t.val from by simp only; omega]

/-! ## The body at a point -/

theorem first_iff (t : Fin cfg0.N) : isFirst (grid0.coords t) = 1#1 ↔ t.val = 0 := by
  rcases fin_N0 t with rfl | rfl | rfl | rfl <;> decide +kernel
theorem last_iff (t : Fin cfg0.N) : k0_cond2 (grid0.coords t) = 1#1 ↔ t.val = 3 := by
  rcases fin_N0 t with rfl | rfl | rfl | rfl <;> decide +kernel

/-- Each window's buffer at point `t`. -/
abbrev ms0_0 (t : Fin cfg0.N) : Memref sig .tc .vmem S1024x512 .bf16 := win0_0.stage (cfg0.slots t 0)
abbrev ms0_1 (t : Fin cfg0.N) : Memref sig .tc .vmem S4096x128 .bf16 := win0_1.stage (cfg0.slots t 1)
abbrev ms0_2 (t : Fin cfg0.N) : Memref sig .tc .vmem S4096x128 .bf16 := win0_2.stage (cfg0.slots t 2)
abbrev ms0_3 (t : Fin cfg0.N) : Memref sig .tc .vmem S1x8 .f32 := win0_3.stage (cfg0.slots t 3)
abbrev ms0_4 (t : Fin cfg0.N) : Memref sig .tc .vmem S1024x512 .bf16 := win0_4.stage (cfg0.slots t 4)
abbrev ms0_5 (t : Fin cfg0.N) : Memref sig .tc .vmem S1024x512 .f32 := win0_5.stage (cfg0.slots t 5)
abbrev ms0_6 (t : Fin cfg0.N) : Memref sig .tc .vmem S4096x128 .f32 := win0_6.stage (cfg0.slots t 6)
abbrev ms0_7 (t : Fin cfg0.N) : Memref sig .tc .vmem S4096x128 .f32 := win0_7.stage (cfg0.slots t 7)
abbrev ms0_8 (t : Fin cfg0.N) : Memref sig .tc .vmem S8x128 .f32 := win0_8.stage (cfg0.slots t 8)

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (dats m 0 c).leavesExact 8 t)

/-- The sinks' buffer before the last point: as it was found. -/
theorem leaves_8_idle (c : Dev nD) (t : Fin cfg0.N) (h : ¬ t.val = 3) :
    (dats m 0 c).leavesExact 8 t = iprop(∃ d, owns (c : Thread nD τ) (ms0_8 t) fullShare ((dats m 0 c).before 8 t d)) := by
  have hN : t.val < 4 := lt_of_lt_of_eq t.isLt (show cfg0.N = 4 from N_0)
  refine Pipeline.Dat.leavesExact_idle _ 8 t ?_ (Bool.eq_false_iff.mpr fun hf => by have := (flush0_8 _).mp hf; omega)
  show (!(k0_cond2 (grid0.coords t) == 1#1)) = true
  simpa using fun e => h ((last_iff t).mp e)

/-- The sinks' buffer after the last point. -/
theorem leaves_8_last (c : Dev nD) (t : Fin cfg0.N) (h : t.val = 3) :
    (dats m 0 c).leavesExact 8 t = owns (c : Thread nD τ) (ms0_8 t) fullShare ((dats m 0 c).after 8 t) := by
  unfold Pipeline.Dat.leavesExact
  rw [show cfg0.idle 8 (cfg0.grid.coords t) = false from by
    show (!(k0_cond2 (grid0.coords t) == 1#1)) = false
    simpa using (last_iff t).mpr h]

/-- The buffers of the blocks at point `t`. -/
abbrev heldAt (c : Dev nD) (t : Fin cfg0.N) (x : Ins F) (o : Outs F) : sProp 𝕄 :=
  held c (ms0_0 t) (ms0_1 t) (ms0_2 t) (ms0_3 t) (ms0_4 t) (ms0_5 t) (ms0_6 t) (ms0_7 t) (Memref.whole cc0_scratch0) x o

/-- What the sinks' buffer holds after point `t`. -/
def sinkLeft (c : Dev nD) (t : Fin cfg0.N) (Y : S8x128.Idx → Elt F .f32) : S8x128.Idx → Elt F .f32 :=
  if t.val = 3 then sinkOut (left m c (t.val + 1)).acc else Y

set_option maxHeartbeats 1000000 in
/-- The body at any point: the first sets the sums to zero, every point adds its eight blocks, the last writes the sinks' gradient. -/
theorem wp_body (c : Dev nD) (t : Fin cfg0.N) (o : Outs F) (Y : S8x128.Idx → Elt F .f32)
    (h : t.val ≠ 0 → o.dk = (left m c t.val).dk ∧ o.dv = (left m c t.val).dv ∧ o.acc = (left m c t.val).acc) {Q : PUnit → sProp 𝕄} :
    iprop(heldAt c t (ins m c t) o ∗ owns (c : Thread nD τ) (ms0_8 t) fullShare Y)
      ⊢ iprop((iprop(heldAt c t (ins m c t) (left m c (t.val + 1)) ∗ owns (c : Thread nD τ) (ms0_8 t) fullShare (sinkLeft m c t Y)) -∗ Q ⟨⟩)
        -∗ wp frame (wpE (defs₀ (F := F)) Variants.none (c : Thread nD τ) none) Set.univ (bodyAt0 t) Q) := by
  have hN : t.val < 4 := lt_of_lt_of_eq t.isLt (show cfg0.N = 4 from N_0)
  unfold bodyAt0 sinkLeft
  by_cases h0 : t.val = 0
  · rw [body_first (h1 := (first_iff t).mpr h0) (h2 := fun e => by have := (last_iff t).mp e; omega), wp_bind, if_neg (by omega)]
    iintro ⟨H, HY⟩ HQ
    iapply (wp_zeros c (ms0_0 t) (ms0_1 t) (ms0_2 t) (ms0_3 t) (ms0_4 t) (ms0_5 t) (ms0_6 t) (ms0_7 t) (Memref.whole cc0_scratch0) (ins m c t) o) $$ H
    iintro H
    iapply (wp_blocks c (grid0.coords t) (ms0_0 t) (ms0_1 t) (ms0_2 t) (ms0_3 t) (ms0_4 t) (ms0_5 t) (ms0_6 t) (ms0_7 t) (Memref.whole cc0_scratch0) (ins m c t) (clear o)) $$ H
    rw [left_succ m c t (clear o) (by rw [h0]; rfl) (by rw [h0]; rfl) (by rw [h0]; rfl)]
    iintro H
    iapply HQ
    isplitl [H]; · iexact H
    iexact HY
  · obtain ⟨hk, hv, ha⟩ := h h0
    by_cases h3 : t.val = 3
    · rw [body_last (h1 := fun e => h0 ((first_iff t).mp e)) (h2 := (last_iff t).mpr h3), wp_bind, if_pos h3]
      iintro ⟨H, HY⟩ HQ
      iapply (wp_blocks c (grid0.coords t) (ms0_0 t) (ms0_1 t) (ms0_2 t) (ms0_3 t) (ms0_4 t) (ms0_5 t) (ms0_6 t) (ms0_7 t) (Memref.whole cc0_scratch0) (ins m c t) o) $$ H
      rw [left_succ m c t o hk hv ha]
      unfold heldAt held
      iintro ⟨H0, H1, H2, H3, H4, H5, H6, H7, Hs⟩
      ihave H := (show iprop(owns (c : Thread nD τ) (Memref.whole cc0_scratch0) fullShare (left m c (t.val + 1)).acc ∗ owns (c : Thread nD τ) (ms0_8 t) fullShare Y)
        ⊢ (iprop(owns (c : Thread nD τ) (Memref.whole cc0_scratch0) fullShare (left m c (t.val + 1)).acc ∗ owns (c : Thread nD τ) (ms0_8 t) fullShare Y) : sProp 𝕄) from .rfl) $$ [Hs HY]
      · isplitl [Hs]; · iexact Hs
        iexact HY
      iapply (wp_totals c (ms0_8 t) (Memref.whole cc0_scratch0) (left m c (t.val + 1)).acc Y) $$ H
      iintro ⟨Hs, HY⟩
      iapply HQ
      isplitr [HY]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact Hs
      · iexact HY
    · rw [body_mid (h1 := fun e => h0 ((first_iff t).mp e)) (h2 := fun e => h3 ((last_iff t).mp e)), if_neg h3]
      iintro ⟨H, HY⟩ HQ
      iapply (wp_blocks c (grid0.coords t) (ms0_0 t) (ms0_1 t) (ms0_2 t) (ms0_3 t) (ms0_4 t) (ms0_5 t) (ms0_6 t) (ms0_7 t) (Memref.whole cc0_scratch0) (ins m c t) o) $$ H
      rw [left_succ m c t o hk hv ha]
      iintro H
      iapply HQ
      isplitl [H]; · iexact H
      iexact HY

/-- Before any point the scratch buffer holds something, after the first the sums so far. -/
theorem between_elim (c : Dev nD) (k : ℕ) : between m c k
    ⊢ iprop((∃ a, ⌜k ≠ 0 → a = (left m c k).acc⌝ ∗ owns (c : Thread nD τ) (Memref.whole cc0_scratch0) fullShare a) ∗ ∃ r, prngReg c r) := by
  cases k with
  | zero =>
    show Pipeline.ΦA spec0 c ⊢ _
    unfold Pipeline.ΦA
    rw [scopedRest0_eq]
    iintro ⟨⟨%f, H⟩, Hg⟩
    isplitl [H]
    · iexists f
      isplitr; · ipureintro; exact fun h => absurd rfl h
      iapply (show (((c : Thread nD τ).loc cc0_scratch0) ↦{fullShare} f) ⊢ (owns (c : Thread nD τ) (Memref.whole cc0_scratch0) fullShare f : sProp 𝕄) from by
        rw [owns_whole])
      iexact H
    · iexact Hg
  | succ k =>
    show iprop(owns (c : Thread nD τ) (Memref.whole cc0_scratch0) fullShare (left m c (k + 1)).acc ∗ ∃ r, prngReg c r) ⊢ _
    iintro ⟨H, Hg⟩
    isplitl [H]
    · iexists _
      isplitr; swap; · iexact H
      ipureintro; exact fun _ => rfl
    · iexact Hg

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4]
  rw [show (dats m 0 c).Φ t.succ = iprop(owns (c : Thread nD τ) (Memref.whole cc0_scratch0) fullShare (left m c (t.val + 1)).acc ∗ ∃ r, prngReg c r) from rfl,
    show (dats m 0 c).Φ t.castSucc = between m c t.val from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HΦ' := (between_elim m c t.val) $$ HΦ
  icases HΦ' with ⟨⟨%a, %ha, Hs⟩, Hg⟩
  ihave H := (show iprop((owns (c : Thread nD τ) (ms0_0 t) fullShare (iblk m c 0 t) ∗ owns (c : Thread nD τ) (ms0_1 t) fullShare (iblk m c 1 t)
        ∗ owns (c : Thread nD τ) (ms0_2 t) fullShare (iblk m c 2 t) ∗ owns (c : Thread nD τ) (ms0_3 t) fullShare (iblk m c 3 t)
        ∗ owns (c : Thread nD τ) (ms0_4 t) fullShare (iblk m c 4 t) ∗ owns (c : Thread nD τ) (ms0_5 t) fullShare ((dats m 0 c).before 5 t d5)
        ∗ owns (c : Thread nD τ) (ms0_6 t) fullShare ((dats m 0 c).before 6 t d6) ∗ owns (c : Thread nD τ) (ms0_7 t) fullShare ((dats m 0 c).before 7 t d7)
        ∗ owns (c : Thread nD τ) (Memref.whole cc0_scratch0) fullShare a) ∗ owns (c : Thread nD τ) (ms0_8 t) fullShare ((dats m 0 c).before 8 t d8))
      ⊢ (iprop(heldAt c t (ins m c t) ⟨(dats m 0 c).before 5 t d5, (dats m 0 c).before 6 t d6, (dats m 0 c).before 7 t d7, a⟩
          ∗ owns (c : Thread nD τ) (ms0_8 t) fullShare ((dats m 0 c).before 8 t d8)) : sProp 𝕄) from .rfl) $$ [H0 H1 H2 H3 H4 H5 H6 H7 Hs H8]
  · isplitr [H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact Hs
    · iexact H8
  iapply (wp_body m c t _ _ (fun h0 => ⟨before_6 m c t h0 d6, before_7 m c t h0 d7, ha h0⟩)) $$ H
  unfold heldAt held
  iintro ⟨⟨H0, H1, H2, H3, H4, H5, H6, H7, Hs⟩, H8⟩
  isplitl [Hs Hg]
  · isplitl [Hs]; · iexact Hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  by_cases h3 : t.val = 3
  · rw [leaves_8_last m c t h3, after_8, sinkLeft, if_pos h3]
    iexact H8
  · rw [leaves_8_idle m c t h3, sinkLeft, if_neg h3]
    iexists d8
    iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- After the last point the scratch buffer's contents are forgotten. -/
theorem between_last (c : Dev nD) : (dats m 0 c).Φ (Fin.last cfg0.N) ⊢ Pipeline.ΦA spec0 c := by
  rw [show (dats m 0 c).Φ (Fin.last cfg0.N) = between m c 4 from congrArg (between m c) (show cfg0.N = 4 from N_0)]
  refine (between_elim m c 4).trans ?_
  unfold Pipeline.ΦA
  rw [scopedRest0_eq]
  iintro ⟨⟨%a, -, H⟩, Hg⟩
  isplitl [H]
  · iexists a
    iapply (show (owns (c : Thread nD τ) (Memref.whole cc0_scratch0) fullShare a : sProp 𝕄) ⊢ ((c : Thread nD τ).loc cc0_scratch0) ↦{fullShare} a from by
      rw [owns_whole])
    iexact H
  · iexact Hg

set_option backward.isDefEq.respectTransparency.types false in
/-- From any memory every execution of the program terminates, with every array at what the proof data say and the counters at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := between_last m)

theorem run_main : θ_run defs (onTc (τ := τ) (main (F := F))) (s₀ m ρ) (Pipeline.FramePost cfgs (dats m) 0 (V m)) :=
  (θ_run defs _ _).mono (fun _ h => h.1) (run_quiescent m ρ)

/-- The program's frame: its arguments as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Attn

end
-- ==== Proof.AttnBits.lean ====
/- The backward call of the windowed attention on floats: the same run, read at the float words. -/
module

public import proofs.«01_k».proof.Proof.AttnFrame
public import proofs.«01_k».proof.Proof.Gen.KernelAttn
public import proofs.«01_k».proof.Defs

@[expose] public section

set_option maxRecDepth 16384

noncomputable section

namespace Cert.Attn

open Idealize.ShloMosaic Idealize.ShloMosaic.TcCoe

/-- On float words a named constant is the word itself: so read, the idealized program is the kernel. -/
local instance : Named Bits := ⟨fun _ _ {_} w => FloatOps.ofBits _ w⟩

set_option maxHeartbeats 1000000 in
/-- The kernel's frame on floats. -/
theorem frame_kernel : Cert.quiescent_KernelAttn (hKernelAttn := Cert.KernelAttn.Gen.facts) := fun m ρ _ =>
  cast (by sl_kernel_rfl) (frame (F := Bits) m ρ)

/-- The idealized kernel's frame. -/
theorem frame_ideal : Cert.quiescent_KernelAttnIdeal (hKernelAttnIdeal := Cert.KernelAttnIdeal.Gen.facts) := fun m ρ _ => frame m ρ

end Cert.Attn

end
-- ==== Proof.AttnMath.lean ====
/- Attention with a sink over the reals: one query's softmax gradient, and sums over a window of keys. -/
module

public import Idealize.ShloMosaic.Lib.Claim
public import Idealize.ShloMosaic.Lib.Pointwise

@[expose] public section

noncomputable section

namespace Cert.AttnMath

open Idealize.ShloMosaic

/-! ## Real sums among the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem sum_coe {n : ℕ} {f : Fin n → EReal} (g : Fin n → ℝ) (h : ∀ i, f i = (g i : EReal)) : ∑ i, f i = ((∑ i, g i : ℝ) : EReal) := by
  rw [coe_sum]; exact Finset.sum_congr rfl fun i _ => h i

/-- A quotient of reals, the divisor not zero. -/
theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem exp_coe (x : ℝ) : Ideal.exp (x : EReal) = ((Real.exp x : ℝ) : EReal) := rfl
theorem exp_bot : Ideal.exp ⊥ = 0 := rfl

/-- A maximum with a real is a real, where the other side is not infinite upwards. -/
theorem max_real {x : EReal} (hx : x ≠ ⊤) (s : ℝ) : ∃ μ : ℝ, max x (s : EReal) = (μ : EReal) := by
  refine ⟨(max x (s : EReal)).toReal, (EReal.coe_toReal ?_ ?_).symm⟩
  · rcases max_cases x (s : EReal) with ⟨h, _⟩ | ⟨h, _⟩ <;> rw [h]
    · exact hx
    · exact EReal.coe_ne_top s
  · exact ne_of_gt (lt_of_lt_of_le (EReal.bot_lt_coe s) (le_max_right _ _))

/-! ## One query's column of scores -/

section Column

variable {ι : Type} [Fintype ι] (M : ι → Prop) [DecidablePred M] (z dp : ι → ℝ) (s : ℝ)

/-- A key's weight, none where masked. -/
def cw (i : ι) : ℝ := if M i then Real.exp (z i) else 0
/-- The weights' sum, the sink's among them. -/
def cZ : ℝ := ∑ i, cw M z i + Real.exp s
/-- The probabilities, -/
def cp (i : ι) : ℝ := cw M z i / cZ M z s
/-- the mean of their cotangents under them, -/
def cδ : ℝ := ∑ i, dp i * cp M z s i
/-- the cotangent of the scores -/
def cds (i : ι) : ℝ := cp M z s i * (dp i - cδ M z dp s)
/-- and that of the sink. -/
def csk : ℝ := -(Real.exp s / cZ M z s * cδ M z dp s)

theorem cw_nonneg (i : ι) : 0 ≤ cw M z i := by unfold cw; split <;> positivity
theorem cZ_pos : 0 < cZ M z s := add_pos_of_nonneg_of_pos (Finset.sum_nonneg fun i _ => cw_nonneg M z i) (Real.exp_pos s)

/-- A score, as an extended real. -/
def cs (i : ι) : EReal := if M i then (z i : EReal) else ⊥

theorem cs_ne_top (i : ι) : cs M z i ≠ ⊤ := by
  unfold cs; split
  · exact EReal.coe_ne_top _
  · exact bot_ne_top

/-- The exponential of a score less any real is the weight scaled. -/
theorem exp_cs (μ : ℝ) (i : ι) : Ideal.exp (cs M z i - (μ : EReal)) = ((cw M z i * Real.exp (-μ) : ℝ) : EReal) := by
  unfold cs cw
  split
  · rw [← EReal.coe_sub, exp_coe, ← Real.exp_add, sub_eq_add_neg]
  · rw [EReal.bot_sub, exp_bot, zero_mul, EReal.coe_zero]

theorem exp_sink (μ : ℝ) : Ideal.exp ((s : EReal) - (μ : EReal)) = ((Real.exp s * Real.exp (-μ) : ℝ) : EReal) := by
  rw [← EReal.coe_sub, exp_coe, ← Real.exp_add, sub_eq_add_neg]

theorem sum_exp (μ : ℝ) : ∑ i, cw M z i * Real.exp (-μ) + Real.exp s * Real.exp (-μ) = cZ M z s * Real.exp (-μ) := by
  unfold cZ; rw [← Finset.sum_mul, add_mul]

theorem scaled_ne (μ : ℝ) : cZ M z s * Real.exp (-μ) ≠ 0 := (mul_pos (cZ_pos M z s) (Real.exp_pos _)).ne'

theorem prob_eq (μ : ℝ) (i : ι) : cw M z i * Real.exp (-μ) / (cZ M z s * Real.exp (-μ)) = cp M z s i :=
  mul_div_mul_right _ _ (Real.exp_pos _).ne'

/-- The mean written with the weights. -/
theorem cδ_eq : cδ M z dp s = (∑ i, dp i * cw M z i) / cZ M z s := by
  unfold cδ cp; rw [Finset.sum_div]; exact Finset.sum_congr rfl fun i _ => (mul_div_assoc _ _ _).symm

/-- The cotangent of the scores written with the quotient's derivative. -/
theorem cds_eq (μ : ℝ) (i : ι) :
    (dp i / (cZ M z s * Real.exp (-μ)) + -(∑ k, dp k * (1 / (cZ M z s * Real.exp (-μ) * (cZ M z s * Real.exp (-μ)))) * (cw M z k * Real.exp (-μ))))
        * (cw M z i * Real.exp (-μ)) = cds M z dp s i := by
  have hc := (Real.exp_pos (-μ)).ne'
  have hZ := (cZ_pos M z s).ne'
  have e : ∑ k, dp k * (1 / (cZ M z s * Real.exp (-μ) * (cZ M z s * Real.exp (-μ)))) * (cw M z k * Real.exp (-μ))
      = (∑ k, dp k * cw M z k) / (cZ M z s * cZ M z s * Real.exp (-μ)) := by
    rw [Finset.sum_div]; refine Finset.sum_congr rfl fun k _ => ?_
    field_simp
  rw [e, cds, cδ_eq, cp]
  field_simp
  ring

/-- The sink's cotangent through the quotient. -/
theorem csk_eq (μ : ℝ) :
    -(∑ k, dp k * (1 / (cZ M z s * Real.exp (-μ) * (cZ M z s * Real.exp (-μ)))) * (cw M z k * Real.exp (-μ))) * (Real.exp s * Real.exp (-μ))
      = csk M z dp s := by
  have hc := (Real.exp_pos (-μ)).ne'
  have hZ := (cZ_pos M z s).ne'
  have e : ∑ k, dp k * (1 / (cZ M z s * Real.exp (-μ) * (cZ M z s * Real.exp (-μ)))) * (cw M z k * Real.exp (-μ))
      = (∑ k, dp k * cw M z k) / (cZ M z s * cZ M z s * Real.exp (-μ)) := by
    rw [Finset.sum_div]; refine Finset.sum_congr rfl fun k _ => ?_
    field_simp
  rw [e, csk, cδ_eq]
  field_simp

/-- The scores' cotangents and the sink's add up to zero: what flows into the maximum vanishes. -/
theorem sum_cds : ∑ i, cds M z dp s i + csk M z dp s = 0 := by
  have hZ := (cZ_pos M z s).ne'
  have hp : ∑ i, cp M z s i = 1 - Real.exp s / cZ M z s := by
    unfold cp; rw [← Finset.sum_div, eq_sub_iff_add_eq, ← add_div]; exact div_self hZ
  have e : ∑ i, cds M z dp s i = cδ M z dp s - (∑ i, cp M z s i) * cδ M z dp s := by
    unfold cds; simp only [mul_sub]; rw [Finset.sum_sub_distrib, ← Finset.sum_mul]
    congr 1
    unfold cδ; exact Finset.sum_congr rfl fun i _ => mul_comm _ _
  rw [e, hp, csk]; ring

end Column

/-! ## Windows of keys -/

/-- A key at most 128 places from a query. -/
def near (s j : ℕ) : Prop := j ≤ s + 128 ∧ s ≤ j + 128

instance (s j : ℕ) : Decidable (near s j) := inferInstanceAs (Decidable (_ ∧ _))

/-- A sum over a window that holds all keys near the query is the sum over all keys. The window's first entry is key `w`, less
    the `e` entries before the sequence's first. -/
theorem sum_window (w e s : ℕ) (f : ℕ → ℝ) (hw : w ≤ s + e - 128) (hs : s + e + 128 < w + 384 ∨ 4096 + e ≤ w + 384) :
    ∑ c : Fin 384, (if e ≤ w + c.val ∧ w + c.val < 4096 + e ∧ near s (w + c.val - e) then f (w + c.val - e) else 0)
      = ∑ j : Fin 4096, (if near s j.val then f j.val else 0) := by
  classical
  rw [← Finset.sum_filter, ← Finset.sum_filter]
  refine Finset.sum_nbij' (fun c => ⟨(w + c.val - e) % 4096, Nat.mod_lt _ (by decide)⟩) (fun j => ⟨(j.val + e - w) % 384, Nat.mod_lt _ (by decide)⟩) ?_ ?_ ?_ ?_ ?_
  · intro c hc
    simp only [Finset.mem_filter, Finset.mem_univ, true_and] at hc ⊢
    rw [Nat.mod_eq_of_lt (by omega)]; exact hc.2.2
  · intro j hj
    simp only [Finset.mem_filter, Finset.mem_univ, true_and] at hj ⊢
    have hj' := hj
    unfold near at hj
    have := j.isLt
    rw [Nat.mod_eq_of_lt (by omega)]
    have e1 : w + (j.val + e - w) - e = j.val := by omega
    rw [e1]
    exact ⟨by omega, by omega, hj'⟩
  · intro c hc
    simp only [Finset.mem_filter, Finset.mem_univ, true_and] at hc
    apply Fin.ext
    have := c.isLt
    show ((w + c.val - e) % 4096 + e - w) % 384 = c.val
    rw [Nat.mod_eq_of_lt (a := w + c.val - e) (by omega), Nat.mod_eq_of_lt (by omega)]; omega
  · intro j hj
    simp only [Finset.mem_filter, Finset.mem_univ, true_and] at hj
    unfold near at hj
    apply Fin.ext
    have := j.isLt
    show (w + (j.val + e - w) % 384 - e) % 4096 = j.val
    rw [Nat.mod_eq_of_lt (a := j.val + e - w) (by omega), Nat.mod_eq_of_lt (by omega)]; omega
  · intro c hc
    simp only [Finset.mem_filter, Finset.mem_univ, true_and] at hc
    show f _ = f ((w + c.val - e) % 4096)
    rw [Nat.mod_eq_of_lt (by omega)]

/-! ## The whole sequence -/

/-- The queries (unscaled), keys, values, cotangents and sinks: by place, head and feature. -/
structure Data where
  Q : ℕ → ℕ → ℕ → ℝ
  K : ℕ → ℕ → ℕ → ℝ
  V : ℕ → ℕ → ℕ → ℝ
  D : ℕ → ℕ → ℕ → ℝ
  S : ℕ → ℝ

section Dense

variable (A : Data)

/-- The score of key `j` for query `s` of head `h`, -/
def zS (s h j : ℕ) : ℝ := ∑ d : Fin 64, A.K j (h / 4) d * (A.Q s h d * (1 / 8))
/-- the cotangent of its probability, -/
def dpS (s h j : ℕ) : ℝ := ∑ d : Fin 64, A.V j (h / 4) d * A.D s h d
/-- its weight, -/
def wS (s h j : ℕ) : ℝ := if near s j then Real.exp (zS A s h j) else 0
/-- the weights' sum, -/
def ZS (s h : ℕ) : ℝ := ∑ j : Fin 4096, wS A s h j + Real.exp (A.S h)
/-- its probability, -/
def pS (s h j : ℕ) : ℝ := wS A s h j / ZS A s h
/-- the mean cotangent, -/
def δS (s h : ℕ) : ℝ := ∑ j : Fin 4096, dpS A s h j * pS A s h j
/-- the score's cotangent -/
def dsS (s h j : ℕ) : ℝ := pS A s h j * (dpS A s h j - δS A s h)
/-- and the sink's. -/
def skS (s h : ℕ) : ℝ := -(Real.exp (A.S h) / ZS A s h * δS A s h)

theorem pS_far {s h j : ℕ} (hn : ¬ near s j) : pS A s h j = 0 := by unfold pS wS; rw [if_neg hn, zero_div]
theorem dsS_far {s h j : ℕ} (hn : ¬ near s j) : dsS A s h j = 0 := by unfold dsS; rw [pS_far A hn, zero_mul]

/-- The gradients of the queries, of the keys, of the values and of the sinks. -/
def gQ (s h d : ℕ) : ℝ := (∑ j : Fin 4096, A.K j (h / 4) d * dsS A s h j) * (1 / 8)
def gK (j k d : ℕ) : ℝ := ∑ b : Fin 32, ∑ a : Fin 128, ∑ g : Fin 4,
  dsS A (128 * b + a) (4 * k + g) j * (A.Q (128 * b + a) (4 * k + g) d * (1 / 8))
def gV (j k d : ℕ) : ℝ := ∑ b : Fin 32, ∑ a : Fin 128, ∑ g : Fin 4, pS A (128 * b + a) (4 * k + g) j * A.D (128 * b + a) (4 * k + g) d
def gS (h : ℕ) : ℝ := ∑ b : Fin 32, ∑ a : Fin 128, skS A (128 * b + a) h

/-- What one block's queries add to a value's gradient and to a key's. -/
def partV (k d j b : ℕ) : ℝ := ∑ a : Fin 128, ∑ g : Fin 4, pS A (128 * b + a) (4 * k + g) j * A.D (128 * b + a) (4 * k + g) d
def partK (k d j b : ℕ) : ℝ := ∑ a : Fin 128, ∑ g : Fin 4, dsS A (128 * b + a) (4 * k + g) j * (A.Q (128 * b + a) (4 * k + g) d * (1 / 8))

theorem partV_away (k d j b : ℕ) (h : j + 128 < 128 * b ∨ 128 * b + 255 < j) : partV A k d j b = 0 :=
  Finset.sum_eq_zero fun a _ => Finset.sum_eq_zero fun g _ => by
    have := a.isLt
    rw [pS_far A (by unfold near; omega), zero_mul]

theorem partK_away (k d j b : ℕ) (h : j + 128 < 128 * b ∨ 128 * b + 255 < j) : partK A k d j b = 0 :=
  Finset.sum_eq_zero fun a _ => Finset.sum_eq_zero fun g _ => by
    have := a.isLt
    rw [dsS_far A (by unfold near; omega), zero_mul]

theorem partV_far (k d j b : ℕ) (h : b + 1 < j / 128 ∨ j / 128 + 1 < b) : partV A k d j b = 0 := partV_away A k d j b (by omega)
theorem partK_far (k d j b : ℕ) (h : b + 1 < j / 128 ∨ j / 128 + 1 < b) : partK A k d j b = 0 := partK_away A k d j b (by omega)

/-! A query's column over a window that holds all keys near it is the column over all keys. -/

/-- Which entries of the window are near keys. -/
def inW (w e s : ℕ) (c : Fin 384) : Prop := e ≤ w + c.val ∧ w + c.val < 4096 + e ∧ near s (w + c.val - e)

instance (w e s : ℕ) : DecidablePred (inW w e s) := fun _ => inferInstanceAs (Decidable (_ ∧ _))

variable {w e s h : ℕ} {z dp : Fin 384 → ℝ} (hw : w ≤ s + e - 128) (hs : s + e + 128 < w + 384 ∨ 4096 + e ≤ w + 384)
  (hz : ∀ c, inW w e s c → z c = zS A s h (w + c.val - e)) (hd : ∀ c, inW w e s c → dp c = dpS A s h (w + c.val - e))

include hz in
theorem win_w (c : Fin 384) : cw (inW w e s) z c = if inW w e s c then wS A s h (w + c.val - e) else 0 := by
  unfold cw
  by_cases hM : inW w e s c
  · rw [if_pos hM, if_pos hM, hz c hM, wS, if_pos hM.2.2]
  · rw [if_neg hM, if_neg hM]

/-- A sum over the window of what vanishes away from the query. -/
theorem win_sum (f : ℕ → ℝ) (hf : ∀ j, ¬ near s j → f j = 0) (hw : w ≤ s + e - 128) (hs : s + e + 128 < w + 384 ∨ 4096 + e ≤ w + 384) :
    ∑ c : Fin 384, (if inW w e s c then f (w + c.val - e) else 0) = ∑ j : Fin 4096, f j := by
  refine Eq.trans ?_ ((sum_window w e s f hw hs).trans (Finset.sum_congr rfl fun j _ => ?_))
  · exact Finset.sum_congr rfl fun c _ => by unfold inW; congr 1
  · by_cases hn : near s j.val
    · rw [if_pos hn]
    · rw [if_neg hn, hf _ hn]

include hw hs hz in
theorem win_Z : cZ (inW w e s) z (A.S h) = ZS A s h := by
  unfold cZ ZS
  rw [Finset.sum_congr rfl fun c _ => win_w A hz c, win_sum (wS A s h) (fun j hn => by unfold wS; rw [if_neg hn]) hw hs]

include hw hs hz in
theorem win_p (c : Fin 384) : cp (inW w e s) z (A.S h) c = if inW w e s c then pS A s h (w + c.val - e) else 0 := by
  unfold cp pS
  rw [win_Z A hw hs hz, win_w A hz]
  split
  · rfl
  · exact zero_div _

include hw hs hz hd in
theorem win_δ : cδ (inW w e s) z dp (A.S h) = δS A s h := by
  unfold cδ δS
  refine Eq.trans (Finset.sum_congr rfl fun c _ => ?_) (win_sum (fun j => dpS A s h j * pS A s h j) (fun j hn => by
    show _ * pS A s h j = 0; rw [pS_far A hn, mul_zero]) hw hs)
  rw [win_p A hw hs hz]
  by_cases hM : inW w e s c
  · rw [if_pos hM, if_pos hM, hd c hM]
  · rw [if_neg hM, if_neg hM, mul_zero]

include hw hs hz hd in
theorem win_ds (c : Fin 384) : cds (inW w e s) z dp (A.S h) c = if inW w e s c then dsS A s h (w + c.val - e) else 0 := by
  unfold cds dsS
  rw [win_p A hw hs hz, win_δ A hw hs hz hd]
  by_cases hM : inW w e s c
  · rw [if_pos hM, if_pos hM, hd c hM]
  · rw [if_neg hM, if_neg hM, zero_mul]

include hw hs hz hd in
theorem win_sk : csk (inW w e s) z dp (A.S h) = skS A s h := by
  unfold csk skS
  rw [win_Z A hw hs hz, win_δ A hw hs hz hd]

end Dense

end Cert.AttnMath

end
-- ==== Proof.AttnInt.lean ====
/- The mask's integer arithmetic: 32-bit words as whole numbers. -/
module

public import Idealize.ShloMosaic.Lib.Claim

@[expose] public section

namespace Cert.AttnInt

open Idealize.ShloMosaic

theorem toInt_small (n : ℕ) (h : n < 2147483648) : (BitVec.ofNat 32 n).toInt = n := by
  rw [BitVec.toInt_ofNat']
  exact Int.bmod_eq_of_le (by omega) (by omega)

theorem toInt_subi (x y : BitVec 32) (h : -2147483648 ≤ x.toInt - y.toInt ∧ x.toInt - y.toInt < 2147483648) :
    (IntOp.subi x y).toInt = x.toInt - y.toInt := by
  show (x - y).toInt = _
  rw [BitVec.toInt_sub]
  exact Int.bmod_eq_of_le (by omega) (by omega)

theorem toInt_addi (x y : BitVec 32) (h : -2147483648 ≤ x.toInt + y.toInt ∧ x.toInt + y.toInt < 2147483648) :
    (IntOp.addi x y).toInt = x.toInt + y.toInt := by
  show (x + y).toInt = _
  rw [BitVec.toInt_add]
  exact Int.bmod_eq_of_le (by omega) (by omega)

theorem toInt_muli (x y : BitVec 32) (h : -2147483648 ≤ x.toInt * y.toInt ∧ x.toInt * y.toInt < 2147483648) :
    (IntOp.muli x y).toInt = x.toInt * y.toInt := by
  show (x * y).toInt = _
  rw [BitVec.toInt_mul]
  exact Int.bmod_eq_of_le (by omega) (by omega)

theorem toInt_absi (x : BitVec 32) (h : -2147483648 < x.toInt) : (IntOp.absi x).toInt = |x.toInt| := by
  show (if x.msb then -x else x).toInt = _
  have hm : x.msb = decide (x.toInt < 0) := BitVec.msb_eq_toInt
  rw [hm]
  by_cases hx : x.toInt < 0
  · rw [if_pos (decide_eq_true hx), BitVec.toInt_neg, abs_of_neg hx]
    have := BitVec.toInt_lt (x := x)
    exact Int.bmod_eq_of_le (by omega) (by omega)
  · rw [if_neg (by simpa using hx), abs_of_nonneg (not_lt.mp hx)]

/-- A signed comparison is the comparison of the whole numbers. -/
theorem sle_iff (x y : BitVec 32) (p : Prop) [Decidable p] (h : x.toInt ≤ y.toInt ↔ p) :
    IntOp.cmpi .sle x y = BitVec.ofBool (decide p) := by
  show BitVec.ofBool (x.sle y) = _
  rw [BitVec.sle, decide_eq_decide.mpr h]

theorem sge_iff (x y : BitVec 32) (p : Prop) [Decidable p] (h : y.toInt ≤ x.toInt ↔ p) :
    IntOp.cmpi .sge x y = BitVec.ofBool (decide p) := by
  show BitVec.ofBool (y.sle x) = _
  rw [BitVec.sle, decide_eq_decide.mpr h]

theorem slt_iff (x y : BitVec 32) (p : Prop) [Decidable p] (h : x.toInt < y.toInt ↔ p) :
    IntOp.cmpi .slt x y = BitVec.ofBool (decide p) := by
  show BitVec.ofBool (x.slt y) = _
  rw [BitVec.slt, decide_eq_decide.mpr h]

theorem and_bool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- A selection by a decided bit. -/
theorem select_bool {α : Type} (p : Prop) [Decidable p] (x y : α) :
    Scalar.select (BitVec.ofBool (decide p)) x y = if p then x else y := by
  by_cases hp : p <;> simp [hp, Scalar.select]

end Cert.AttnInt
-- ==== Proof.AttnKer.lean ====
/- The backward call's block of 128 queries over the reals: what each of its stages holds at an index. -/
module

public import proofs.«01_k».proof.Proof.AttnMath
public import proofs.«01_k».proof.Proof.AttnInt
public import proofs.«01_k».proof.Proof.AttnPoint
public import Idealize.ShloMosaic.Lib.Pointwise

@[expose] public section

set_option maxRecDepth 16384

noncomputable section

namespace Cert.AttnKer

open Idealize.ShloMosaic
open Cert.KernelAttnIdeal Cert.KernelAttnIdeal.Gen Cert.Attn Cert.AttnMath Cert.AttnInt

theorem masked : (Named.named κ "mask" 0xF149F2CA#32 : Ideal .f32) = (⊥ : EReal) := by
  exact IdealRules.named_const.ideal_named_scalar _ _ _ _ rfl

theorem eighth : Ideal.ofBits .f32 0x3E000000#32 = ((1 / 8 : ℝ) : EReal) := by
  simp [Ideal.ofBits, Ideal.ieee, -EReal.coe_mul]; norm_num

theorem lowest : Ideal.ofBits .f32 0xFF800000#32 = ⊥ := by
  simp [Ideal.ofBits, Ideal.ieee]

/-- The largest score is not infinite upwards. -/
theorem fold_ne_top {n : ℕ} (f : Fin n → EReal) (h : ∀ i, f i ≠ ⊤) : Finset.univ.fold max ⊥ f ≠ ⊤ := by
  refine ne_of_lt ((Finset.fold_max_lt _).mpr ⟨bot_lt_top, fun i _ => lt_top_iff_ne_top.mpr (h i)⟩)

/-! ## One key head of a block -/

/-- What a key head of block `B` reads, its window of keys from row `w`: the mask, the keys, the values, the stacked queries, the
    stacked cotangents and the sinks. -/
structure Head (A : Data) (B w k : ℕ) (mk : IVec S384x512 1) (kh vh : FVec Ideal S384x64 .bf16) (qs ds : FVec Ideal S512x64 .bf16)
    (sk : FVec Ideal S1x512 .f32) : Prop where
  low : w ≤ 128 * B - 128
  high : 128 * B + 256 ≤ w + 384 ∨ 4096 ≤ w + 384
  top : w + 384 ≤ 4096
  mask : ∀ (r : Fin 384) (l : Fin 512), mk (ix2 r l) = BitVec.ofBool (decide (inW w 0 (128 * B + l % 128) r))
  key : ∀ (r : Fin 384) (d : Fin 64), kh (ix2 r d) = (A.K (w + r) k d : EReal)
  val : ∀ (r : Fin 384) (d : Fin 64), vh (ix2 r d) = (A.V (w + r) k d : EReal)
  qry : ∀ (l : Fin 512) (d : Fin 64), qs (ix2 l d) = ((A.Q (128 * B + l % 128) (4 * k + l / 128) d * (1 / 8) : ℝ) : EReal)
  cot : ∀ (l : Fin 512) (d : Fin 64), ds (ix2 l d) = (A.D (128 * B + l % 128) (4 * k + l / 128) d : EReal)
  sink : ∀ (l : Fin 512), sk (ix2 0 l) = (A.S (4 * k + l / 128) : EReal)

variable {A : Data} {B w k : ℕ} {mk : IVec S384x512 1} {kh vh : FVec Ideal S384x64 .bf16} {qs ds : FVec Ideal S512x64 .bf16}
    {sk : FVec Ideal S1x512 .f32} (H : Head A B w k mk kh vh qs ds sk)

variable (r : Fin 384) (l : Fin 512) (d : Fin 64)

/-- The scores, -/
def zK (A : Data) (B w k : ℕ) (l : Fin 512) (r : Fin 384) : ℝ := zS A (128 * B + l % 128) (4 * k + l / 128) (w + r - 0)
/-- the cotangents of the probabilities. -/
def dpK (A : Data) (B w k : ℕ) (l : Fin 512) (r : Fin 384) : ℝ := dpS A (128 * B + l % 128) (4 * k + l / 128) (w + r - 0)

include H in
theorem score_at : score mk kh qs (ix2 r l) = cs (inW w 0 (128 * B + l % 128)) (zK A B w k l) r := by
  have hl := l.isLt
  pointwise [score, H.mask, H.key, H.qry, masked]
  unfold cs zK zS
  refine if_congr Iff.rfl ?_ rfl
  rw [sum_coe _ fun _ => (EReal.coe_mul _ _).symm, show (4 * k + l.val / 128) / 4 = k by omega, Nat.sub_zero]

include H in
theorem dp_at : dProb vh ds (ix2 r l) = (dpK A B w k l r : EReal) := by
  have hl := l.isLt
  pointwise [dProb, H.val, H.cot]
  unfold dpK dpS
  rw [sum_coe _ fun _ => (EReal.coe_mul _ _).symm, show (4 * k + l.val / 128) / 4 = k by omega, Nat.sub_zero]

section Column

variable {s dp : FVec Ideal S384x512 .f32} {M : Fin 384 → Prop} [DecidablePred M] {z q : Fin 384 → ℝ} {σ : ℝ}
  (hs : ∀ r, s (ix2 r l) = cs M z r) (hk : sk (ix2 0 l) = (σ : EReal)) (hd : ∀ r, dp (ix2 r l) = (q r : EReal))

include hs in
theorem largest_at : shapeCast S1x512 (multiReduction .maximumf [0] S512 s 0xFF800000#32 reduces_S384x512_S512 (.inl rfl) rfl) shapeCasts_S512_S1x512 (ix2 0 l)
    = Finset.univ.fold max ⊥ (fun r => cs M z r) := by
  pointwise [hs]
  rw [lowest]

include hs hk in
theorem top_at : ∃ μ : ℝ, top s sk (ix2 0 l) = (μ : EReal) := by
  have h : shapeCast S1x512 (multiReduction .maximumf [0] S512 s 0xFF800000#32 reduces_S384x512_S512 (.inl rfl) rfl) shapeCasts_S512_S1x512 (ix2 0 l) ≠ (⊤ : EReal) :=
    fun e => fold_ne_top _ (fun r => cs_ne_top M z r) ((largest_at l hs).symm.trans e)
  obtain ⟨μ, e⟩ := max_real h σ
  exact ⟨μ, (congrArg (max (α := EReal) _) hk).trans e⟩

variable {μ : ℝ} (hμ : top s sk (ix2 0 l) = (μ : EReal))

include hs hμ in
theorem exp_at : expS s sk (ix2 r l) = ((cw M z r * Real.exp (-μ) : ℝ) : EReal) := by
  pointwise [expS, hs, hμ]
  exact exp_cs M z μ r

include hk hμ in
theorem expSink_at : expSink s sk (ix2 0 l) = ((Real.exp σ * Real.exp (-μ) : ℝ) : EReal) := by
  pointwise [expSink, hk, hμ]
  exact exp_sink σ μ

include hs hk hμ in
theorem inv_at : Attn.inv s sk (ix2 0 l) = ((1 / (cZ M z σ * Real.exp (-μ)) : ℝ) : EReal) := by
  pointwise [Attn.inv, exp_at _ l hs hμ, expSink_at l hk hμ]
  rw [sum_coe _ fun _ => rfl, ← EReal.coe_add, sum_exp, ← EReal.coe_one, div_coe _ _ (scaled_ne _ _ _ μ)]

omit hμ
include hs hk

theorem prob_at : prob s sk (ix2 r l) = (cp M z σ r : EReal) := by
  obtain ⟨μ, hμ⟩ := top_at l hs hk
  pointwise [prob, exp_at _ l hs hμ, inv_at l hs hk hμ]
  rw [← EReal.coe_mul, mul_one_div, prob_eq]

include hd

theorem delta_at : delta (prob s sk) dp (ix2 0 l) = (cδ M z q σ : EReal) := by
  pointwise [delta, prob_at _ l hs hk, hd]
  exact sum_coe _ fun _ => (EReal.coe_mul _ _).symm

theorem dScore_at : dScore (prob s sk) dp (ix2 r l) = (cds M z q σ r : EReal) := by
  pointwise [dScore, prob_at _ l hs hk, hd, delta_at l hs hk hd]
  rw [← EReal.coe_sub, ← EReal.coe_mul]
  rfl

theorem sinkTerm_at : sinkTerm s sk dp (ix2 0 l) = ((-csk M z q σ : ℝ) : EReal) := by
  obtain ⟨μ, hμ⟩ := top_at l hs hk
  pointwise [sinkTerm, expSink_at l hk hμ, inv_at l hs hk hμ, delta_at l hs hk hd]
  rw [← EReal.coe_mul, ← EReal.coe_mul, mul_one_div, mul_div_mul_right _ _ (Real.exp_pos _).ne', csk, neg_neg]

end Column

/-! By places of the sequence. -/

include H

theorem lo : w ≤ 128 * B + l % 128 + 0 - 128 := by have := H.low; omega
theorem hi : 128 * B + l.val % 128 + 0 + 128 < w + 384 ∨ 4096 + 0 ≤ w + 384 := by have := H.high; omega

omit H in
theorem in_iff (w s : ℕ) (r : Fin 384) (hw : w + 384 ≤ 4096) : inW w 0 s r ↔ near s (w + r) := by
  have := r.isLt
  unfold inW
  rw [Nat.sub_zero]
  exact ⟨fun h => h.2.2, fun h => ⟨by omega, by omega, h⟩⟩

theorem p_at : prob (score mk kh qs) sk (ix2 r l) = (pS A (128 * B + l % 128) (4 * k + l / 128) (w + r) : EReal) := by
  rw [prob_at r l (fun r => score_at H r l) (H.sink l), win_p A (z := zK A B w k l) (lo H l) (hi H l) fun _ _ => rfl, if_congr (in_iff _ _ _ H.top) rfl rfl, Nat.sub_zero]
  by_cases hn : near (128 * B + l % 128) (w + r)
  · rw [if_pos hn]
  · rw [if_neg hn, pS_far A hn]

theorem ds_at : dScore (prob (score mk kh qs) sk) (dProb vh ds) (ix2 r l) = (dsS A (128 * B + l % 128) (4 * k + l / 128) (w + r) : EReal) := by
  rw [dScore_at r l (fun r => score_at H r l) (H.sink l) (fun r => dp_at H r l), win_ds A (z := zK A B w k l) (dp := dpK A B w k l) (lo H l) (hi H l) (fun _ _ => rfl) (fun _ _ => rfl),
    if_congr (in_iff _ _ _ H.top) rfl rfl, Nat.sub_zero]
  by_cases hn : near (128 * B + l % 128) (w + r)
  · rw [if_pos hn]
  · rw [if_neg hn, dsS_far A hn]

/-- The sinks' sums after the block. -/
theorem sink_at (row : FVec Ideal S1x512 .f32) (ρ : ℝ) (h : row (ix2 0 l) = (ρ : EReal)) :
    sinkAfter row (score mk kh qs) sk (dProb vh ds) (ix2 0 l) = ((ρ + skS A (128 * B + l % 128) (4 * k + l / 128) : ℝ) : EReal) := by
  pointwise [sinkAfter, h, sinkTerm_at l (fun r => score_at H r l) (H.sink l) (fun r => dp_at H r l)]
  rw [win_sk A (z := zK A B w k l) (dp := dpK A B w k l) (lo H l) (hi H l) (fun _ _ => rfl) (fun _ _ => rfl), ← EReal.coe_sub, sub_neg_eq_add]

/-- The queries' gradient. -/
theorem dq_at : dqT kh (dScore (prob (score mk kh qs) sk) (dProb vh ds)) (ix2 d l) = (gQ A (128 * B + l % 128) (4 * k + l / 128) d : EReal) := by
  have hl := l.isLt
  pointwise [dqT, H.key, ds_at H]
  rw [eighth, sum_coe _ fun _ => (EReal.coe_mul _ _).symm, ← EReal.coe_mul, gQ, show (4 * k + l.val / 128) / 4 = k by omega,
    ← win_sum (w := w) (e := 0) (s := 128 * B + l % 128) (fun j => A.K j k d * dsS A (128 * B + l % 128) (4 * k + l / 128) j) (fun j hn => by
      show _ * dsS A _ _ j = 0; rw [dsS_far A hn, mul_zero]) (lo H l) (hi H l)]
  congr 2
  refine Finset.sum_congr rfl fun r _ => ?_
  rw [if_congr (in_iff _ _ _ H.top) rfl rfl, Nat.sub_zero]
  by_cases hn : near (128 * B + l % 128) (w + r)
  · rw [if_pos hn]
  · rw [if_neg hn, dsS_far A hn, mul_zero]

omit H in
/-- The 512 lanes are 4 heads of 128 queries. -/
theorem lanes (f : ℕ → ℕ → ℝ) : ∑ l : Fin 512, f (l % 128) (l / 128) = ∑ a : Fin 128, ∑ g : Fin 4, f a g := by
  rw [Finset.sum_comm, ← Fintype.sum_prod_type' (f := fun (g : Fin 4) (a : Fin 128) => f a g)]
  refine (Fintype.sum_equiv (finProdFinEquiv : Fin 4 × Fin 128 ≃ Fin 512) _ _ fun x => ?_).symm
  have h1 := x.1.isLt; have h2 := x.2.isLt
  have e : ((finProdFinEquiv : Fin 4 × Fin 128 ≃ Fin 512) x).val = x.2.val + 128 * x.1.val := rfl
  rw [e, show (x.2.val + 128 * x.1.val) % 128 = x.2.val by omega, show (x.2.val + 128 * x.1.val) / 128 = x.1.val by omega]

/-- The keys' and the values' parts of the gradient. -/
theorem dk_at : dkH (dScore (prob (score mk kh qs) sk) (dProb vh ds)) qs (ix2 r d) = (partK A k d (w + r) B : EReal) := by
  pointwise [dkH, ds_at H, H.qry]
  rw [sum_coe _ fun _ => (EReal.coe_mul _ _).symm, partK]
  exact congrArg _ (lanes fun a g => dsS A (128 * B + a) (4 * k + g) (w + r) * (A.Q (128 * B + a) (4 * k + g) d * (1 / 8)))

theorem dv_at : dvH (prob (score mk kh qs) sk) ds (ix2 r d) = (partV A k d (w + r) B : EReal) := by
  pointwise [dvH, p_at H, H.cot]
  rw [sum_coe _ fun _ => (EReal.coe_mul _ _).symm, partV]
  exact congrArg _ (lanes fun a g => pS A (128 * B + a) (4 * k + g) (w + r) * A.D (128 * B + a) (4 * k + g) d)

end Cert.AttnKer

end
-- ==== Proof.AttnStep.lean ====
/- One block of the backward call over the reals: from the arrays that a grid point reads to what the block leaves in them. -/
module

public import proofs.«01_k».proof.Proof.AttnKer

@[expose] public section

set_option maxRecDepth 16384

noncomputable section

namespace Cert.AttnStep

open Idealize.ShloMosaic
open Cert.KernelAttnIdeal Cert.KernelAttnIdeal.Gen Cert.Attn Cert.AttnMath Cert.AttnInt Cert.AttnKer

/-- The first key row of block `B`'s window. -/
def start (B : ℕ) : ℕ := min 3712 (128 * (B - 1))

/-- What grid point `t` reads. -/
structure Reads (A : Data) (t : ℕ) (x : Ins Ideal) : Prop where
  q : ∀ (r : Fin 1024) (l : Fin 512), x.q (ix2 r l) = ((A.Q (1024 * t + r) (l / 64) (l % 64) * (1 / 8) : ℝ) : EReal)
  k : ∀ (j : Fin 4096) (l : Fin 128), x.k (ix2 j l) = (A.K j (l / 64) (l % 64) : EReal)
  v : ∀ (j : Fin 4096) (l : Fin 128), x.v (ix2 j l) = (A.V j (l / 64) (l % 64) : EReal)
  sink : ∀ (h : Fin 8), x.sink (ix2 0 h) = (A.S h : EReal)
  d : ∀ (r : Fin 1024) (l : Fin 512), x.d (ix2 r l) = (A.D (1024 * t + r) (l / 64) (l % 64) : EReal)

/-! ## The mask and the windows -/

variable (i : grid0.Coords) (n : Fin 8)

theorem start_words : ∀ (a : Fin 4) (n : Fin 8),
    (Scalar.subi (Scalar.minsi 3712#32 (Scalar.maxsi 0#32 (Scalar.muli (Scalar.subi (Scalar.addi (Scalar.muli (BitVec.ofNat 32 a.val) 8#32) (BitVec.ofNat 32 n.val)) 1#32) 128#32)))
      (Scalar.muli (Scalar.addi (Scalar.muli (BitVec.ofNat 32 a.val) 8#32) (BitVec.ofNat 32 n.val)) 128#32)).toInt
      = (start (8 * a.val + n.val) : ℤ) - 128 * (8 * a.val + n.val) ∧
    (Scalar.indexCast (Scalar.minsi 3712#32 (Scalar.maxsi 0#32 (Scalar.muli (Scalar.subi (Scalar.addi (Scalar.muli (BitVec.ofNat 32 a.val) 8#32) (BitVec.ofNat 32 n.val)) 1#32) 128#32))) : Index).toNat
      = start (8 * a.val + n.val) := by
  unfold start
  decide

/-- The number of block `n` of grid point `i`. -/
abbrev num (i : grid0.Coords) (n : Fin 8) : ℕ := 8 * (i 0).val + n.val

theorem num_lt : num i n < 32 := by
  have h : (i 0).val < 4 := (i 0).isLt
  have := n.isLt
  unfold num
  omega

theorem start_at : (Scalar.subi (startNo i (BitVec.ofNat 32 n.val)) (Scalar.muli (blockNo i (BitVec.ofNat 32 n.val)) 128#32)).toInt
    = (start (num i n) : ℤ) - 128 * num i n := by
  have h : (i 0).val < 4 := (i 0).isLt
  have e := (start_words ⟨(i 0).val, h⟩ n).1
  push_cast [num]
  exact e

theorem off_at : k0_off1 i (BitVec.ofNat 32 n.val) = ![start (num i n), 0] := by
  have h : (i 0).val < 4 := (i 0).isLt
  have e := (start_words ⟨(i 0).val, h⟩ n).2
  unfold k0_off1
  dsimp only
  exact congrArg (fun z => (![z, 0] : Fin 2 → ℕ)) e

theorem start_bounds (B : ℕ) (hB : B < 32) :
    start B ≤ 128 * B - 128 ∧ (128 * B + 256 ≤ start B + 384 ∨ 4096 ≤ start B + 384) ∧ start B + 384 ≤ 4096 := by
  unfold start
  omega

theorem lane_word (l : Fin 512) : (IntOp.andi (BitVec.ofNat 32 l.val) 127#32).toInt = ((l.val % 128 : ℕ) : ℤ) := by
  have h : IntOp.andi (BitVec.ofNat 32 l.val) 127#32 = BitVec.ofNat 32 (l.val % 128) := by
    apply BitVec.eq_of_toNat_eq
    show (BitVec.ofNat 32 l.val &&& 127#32).toNat = _
    rw [BitVec.toNat_and, BitVec.toNat_ofNat, BitVec.toNat_ofNat, BitVec.toNat_ofNat, Nat.mod_eq_of_lt (by have := l.isLt; omega), Nat.mod_eq_of_lt (by omega : l.val % 128 < 2 ^ 32)]
    exact Nat.and_two_pow_sub_one_eq_mod l.val 7
  rw [h, toInt_small _ (by omega)]

theorem mask_at (r : Fin 384) (l : Fin 512) : mask i (BitVec.ofNat 32 n.val) (ix2 r l)
    = BitVec.ofBool (decide (inW (start (num i n)) 0 (128 * num i n + l % 128) r)) := by
  have hx := start_at i n
  have hB := num_lt i n
  obtain ⟨_, _, ht⟩ := start_bounds (num i n) hB
  unfold mask
  generalize Scalar.subi (startNo i (BitVec.ofNat 32 n.val)) (Scalar.muli (blockNo i (BitVec.ofNat 32 n.val)) 128#32) = X at hx ⊢
  pointwise [base]
  have hr := r.isLt
  have hl := lane_word l
  have h1 := toInt_small r.val (by omega)
  generalize IntOp.andi (BitVec.ofNat 32 l.val) 127#32 = L at hl ⊢
  generalize BitVec.ofNat 32 r.val = R at h1 ⊢
  have h2 := toInt_subi R L (by omega)
  have h3 := toInt_addi (IntOp.subi R L) X (by omega)
  have h4 := toInt_absi (IntOp.addi (IntOp.subi R L) X) (by omega)
  apply sle_iff
  rw [in_iff _ _ _ ht, h4, show (128#32 : BitVec 32).toInt = 128 from rfl, abs_le]
  unfold near
  omega

/-! ## The rows that a block loads -/

theorem win_emb (r : Fin 384) (l : Fin 128) (h : start (num i n) + r.val < 4096) :
    (winR i n).emb (ix2 r l) = ix2 ⟨start (num i n) + r.val, h⟩ l := by
  have e := off_at i n
  funext a; fin_cases a
  · refine Fin.ext ?_
    rw [Rect.emb_apply]
    simp [e]
  · refine Fin.ext ?_
    rw [Rect.emb_apply]
    simp [e]

theorem rows_emb (a : Fin 128) (l : Fin 512) (h : 128 * n.val + a.val < 1024) : (rowsR n).emb (ix2 a l) = ix2 ⟨128 * n.val + a.val, h⟩ l := by
  funext k; fin_cases k
  · exact Fin.ext (by rw [Rect.emb_apply]; simp)
  · exact Fin.ext (by rw [Rect.emb_apply]; simp)

theorem sink_emb (h : Fin 8) : (sinkR h).emb (ix2 0 0) = ix2 0 h := by
  funext k; fin_cases k
  · exact Fin.ext (by rw [Rect.emb_apply]; simp)
  · exact Fin.ext (by rw [Rect.emb_apply]; simp)

section Loads

variable {A : Data} {t : ℕ} {x : Ins Ideal} (H : Reads A t x) (ht : (i 0).val = t)
include H

theorem key_at (r : Fin 384) (l : Fin 128) : kRows i x n (ix2 r l) = (A.K (start (num i n) + r) (l / 64) (l % 64) : EReal) := by
  have h := (start_bounds _ (num_lt i n)).2.2
  have hr := r.isLt
  pointwise [kRows]
  rw [win_emb i n r l (by omega), H.k]

theorem val_at (r : Fin 384) (l : Fin 128) : vRows i x n (ix2 r l) = (A.V (start (num i n) + r) (l / 64) (l % 64) : EReal) := by
  have h := (start_bounds _ (num_lt i n)).2.2
  have hr := r.isLt
  pointwise [vRows]
  rw [win_emb i n r l (by omega), H.v]

include ht

theorem qry_at (a : Fin 128) (l : Fin 512) : qRows x n (ix2 a l) = ((A.Q (128 * num i n + a) (l / 64) (l % 64) * (1 / 8) : ℝ) : EReal) := by
  have ha := a.isLt
  have hn := n.isLt
  pointwise [qRows]
  rw [rows_emb n a l (by omega), H.q, show 1024 * t + (128 * n.val + a.val) = 128 * num i n + a.val by unfold num; omega]

theorem cot_at (a : Fin 128) (l : Fin 512) : dRows x n (ix2 a l) = (A.D (128 * num i n + a) (l / 64) (l % 64) : EReal) := by
  have ha := a.isLt
  have hn := n.isLt
  pointwise [dRows]
  rw [rows_emb n a l (by omega), H.d, show 1024 * t + (128 * n.val + a.val) = 128 * num i n + a.val by unfold num; omega]

omit ht in
theorem sinkAt_at (h : Fin 8) : sinkAt x h (ix2 0 0) = (A.S h : EReal) := by
  unfold sinkAt
  rw [sink_emb, H.sink]

end Loads

/-! ## The heads stacked -/

section Stack

variable (g : ℕ → ℕ → ℕ → EReal)

theorem stack0_at (x : FVec Ideal S128x512 .bf16) (h : ∀ (a : Fin 128) (c : Fin 512), x (ix2 a c) = g a (c / 64) (c % 64)) (l : Fin 512) (d : Fin 64) :
    stack0 x (ix2 l d) = g (l % 128) (4 * 0 + l / 128) d := by
  have hl := l.isLt
  have hd := d.isLt
  pointwise [stack0, h]
  split_ifs <;> congr 1 <;> omega

theorem stack1_at (x : FVec Ideal S128x512 .bf16) (h : ∀ (a : Fin 128) (c : Fin 512), x (ix2 a c) = g a (c / 64) (c % 64)) (l : Fin 512) (d : Fin 64) :
    stack1 x (ix2 l d) = g (l % 128) (4 * 1 + l / 128) d := by
  have hl := l.isLt
  have hd := d.isLt
  pointwise [stack1, h]
  split_ifs <;> congr 1 <;> omega

theorem head0_at (x : FVec Ideal S384x128 .bf16) (h : ∀ (a : Fin 384) (c : Fin 128), x (ix2 a c) = g a (c / 64) (c % 64)) (r : Fin 384) (d : Fin 64) :
    head0 x (ix2 r d) = g r 0 d := by
  have hd := d.isLt
  pointwise [head0, h]
  congr 1 <;> omega

theorem head1_at (x : FVec Ideal S384x128 .bf16) (h : ∀ (a : Fin 384) (c : Fin 128), x (ix2 a c) = g a (c / 64) (c % 64)) (r : Fin 384) (d : Fin 64) :
    head1 x (ix2 r d) = g r 1 d := by
  have hd := d.isLt
  pointwise [head1, h]
  congr 1 <;> omega

theorem sinkRow_at (a b c d : Vec Ideal S1x1 .f32) (f : ℕ → EReal) (k : ℕ) (ha : a (ix2 0 0) = f (4 * k)) (hb : b (ix2 0 0) = f (4 * k + 1))
    (hc : c (ix2 0 0) = f (4 * k + 2)) (hd : d (ix2 0 0) = f (4 * k + 3)) (l : Fin 512) : sinkRow a b c d (ix2 0 l) = f (4 * k + l / 128) := by
  have hl := l.isLt
  pointwise [sinkRow, ha, hb, hc, hd]
  split_ifs <;> congr 1 <;> omega

end Stack

/-! ## The two key heads of a block -/

section Heads

variable {A : Data} {t : ℕ} {x : Ins Ideal} (H : Reads A t x) (ht : (i 0).val = t)
include H ht

theorem head_zero : Head A (num i n) (start (num i n)) 0 (mask i (BitVec.ofNat 32 n.val)) (head0 (kRows i x n)) (head0 (vRows i x n))
    (stack0 (qRows x n)) (stack0 (dRows x n)) (sk0 x) where
  low := (start_bounds _ (num_lt i n)).1
  high := (start_bounds _ (num_lt i n)).2.1
  top := (start_bounds _ (num_lt i n)).2.2
  mask := mask_at i n
  key r d := head0_at (fun a b c => (A.K (start (num i n) + a) b c : EReal)) _ (key_at i n H) r d
  val r d := head0_at (fun a b c => (A.V (start (num i n) + a) b c : EReal)) _ (val_at i n H) r d
  qry l d := stack0_at (fun a b c => ((A.Q (128 * num i n + a) b c * (1 / 8) : ℝ) : EReal)) _ (qry_at i n H ht) l d
  cot l d := stack0_at (fun a b c => (A.D (128 * num i n + a) b c : EReal)) _ (cot_at i n H ht) l d
  sink l := sinkRow_at _ _ _ _ (fun h => (A.S h : EReal)) 0 (sinkAt_at H 0) (sinkAt_at H 1) (sinkAt_at H 2) (sinkAt_at H 3) l

theorem head_one : Head A (num i n) (start (num i n)) 1 (mask i (BitVec.ofNat 32 n.val)) (head1 (kRows i x n)) (head1 (vRows i x n))
    (stack1 (qRows x n)) (stack1 (dRows x n)) (sk1 x) where
  low := (start_bounds _ (num_lt i n)).1
  high := (start_bounds _ (num_lt i n)).2.1
  top := (start_bounds _ (num_lt i n)).2.2
  mask := mask_at i n
  key r d := head1_at (fun a b c => (A.K (start (num i n) + a) b c : EReal)) _ (key_at i n H) r d
  val r d := head1_at (fun a b c => (A.V (start (num i n) + a) b c : EReal)) _ (val_at i n H) r d
  qry l d := stack1_at (fun a b c => ((A.Q (128 * num i n + a) b c * (1 / 8) : ℝ) : EReal)) _ (qry_at i n H ht) l d
  cot l d := stack1_at (fun a b c => (A.D (128 * num i n + a) b c : EReal)) _ (cot_at i n H ht) l d
  sink l := sinkRow_at _ _ _ _ (fun h => (A.S h : EReal)) 1 (sinkAt_at H 4) (sinkAt_at H 5) (sinkAt_at H 6) (sinkAt_at H 7) l

end Heads

/-! ## What the block's results are -/

theorem unstack_at (y : FVec Ideal S64x512 .f32) (g : ℕ → ℕ → ℕ → EReal) (h : ∀ (d : Fin 64) (l : Fin 512), y (ix2 d l) = g (l % 128) (l / 128) d)
    (a : Fin 128) (c : Fin 256) : unstack y (ix2 a c) = g a (c / 64) (c % 64) := by
  have ha := a.isLt
  have hc := c.isLt
  pointwise [unstack, turn, h]
  split_ifs <;> congr 1 <;> omega

/-- The block's rows of the queries' gradient. -/
theorem dqBlock_at {A : Data} {t : ℕ} {x : Ins Ideal} (H : Reads A t x) (ht : (i 0).val = t) (a : Fin 128) (l : Fin 512) :
    dqBlock i x n (ix2 a l) = (gQ A (128 * num i n + a) (l / 64) (l % 64) : EReal) := by
  have hl := l.isLt
  have h0 := unstack_at _ (fun p q r => (gQ A (128 * num i n + p) (4 * 0 + q) r : EReal)) (fun d l => dq_at (head_zero i n H ht) l d)
  have h1 := unstack_at _ (fun p q r => (gQ A (128 * num i n + p) (4 * 1 + q) r : EReal)) (fun d l => dq_at (head_one i n H ht) l d)
  unfold dqBlock s0 s1 dp0 dp1
  unfold dqRows
  generalize unstack _ = u0 at h0 ⊢
  generalize unstack _ = u1 at h1 ⊢
  pointwise [h0, h1]
  split_ifs <;> congr 2 <;> omega

theorem rowsAfter_at (r : FVec Ideal S384x128 .f32) (a b : FVec Ideal S384x64 .f32) (f : ℕ → ℕ → EReal) (p : Fin 384)
    (ha : ∀ d : Fin 64, a (ix2 p d) = f 0 d) (hb : ∀ d : Fin 64, b (ix2 p d) = f 1 d)
    (l : Fin 128) : rowsAfter r a b (ix2 p l) = r (ix2 p l) + f (l / 64) (l % 64) := by
  have hl := l.isLt
  pointwise [rowsAfter, ha, hb]
  split_ifs <;> congr 2 <;> omega

end Cert.AttnStep

end
-- ==== Proof.AttnLeft.lean ====
/- The backward call over the reals: what its sums hold after any number of blocks. -/
module

public import proofs.«01_k».proof.Proof.AttnStep
public import proofs.«01_k».proof.Proof.AttnFrame

@[expose] public section

set_option maxRecDepth 16384

noncomputable section

namespace Cert.AttnStep

open Idealize.ShloMosaic
open Cert.KernelAttnIdeal Cert.KernelAttnIdeal.Gen Cert.Attn Cert.AttnMath Cert.AttnInt Cert.AttnKer

/-- What the sums hold after the sequence's first `N` blocks. -/
structure Sums (A : Data) (N : ℕ) (o : Outs Ideal) : Prop where
  dk : ∀ (j : Fin 4096) (l : Fin 128), o.dk (ix2 j l) = ((∑ b ∈ Finset.range N, partK A (l / 64) (l % 64) j b : ℝ) : EReal)
  dv : ∀ (j : Fin 4096) (l : Fin 128), o.dv (ix2 j l) = ((∑ b ∈ Finset.range N, partV A (l / 64) (l % 64) j b : ℝ) : EReal)
  acc : ∀ (k : Fin 2) (l : Fin 512), o.acc (ix2 (k.castLE (by decide)) l)
    = ((∑ b ∈ Finset.range N, skS A (128 * b + l % 128) (4 * k + l / 128) : ℝ) : EReal)

theorem zero_word : (Scalar.ofBits .f32 0x00000000#32 : Ideal .f32) = (0 : EReal) := by
  show Ideal.ofBits .f32 0x00000000#32 = 0
  simp [Ideal.ofBits, Ideal.ieee]

theorem sums_clear (A : Data) (o : Outs Ideal) : Sums A 0 (clear o) where
  dk j l := by rw [Finset.sum_range_zero, EReal.coe_zero]; exact zero_word
  dv j l := by rw [Finset.sum_range_zero, EReal.coe_zero]; exact zero_word
  acc j l := by rw [Finset.sum_range_zero, EReal.coe_zero]; exact zero_word

variable (i : grid0.Coords) (n : Fin 8)

theorem mem_winR (j : Fin 4096) (l : Fin 128) : (ix2 j l : S4096x128.Idx) ∈ (winR i n).set ↔ start (num i n) ≤ j.val ∧ j.val < start (num i n) + 384 := by
  rw [Rect.mem_set_unit, Fin.forall_fin_two, off_at]
  have := l.isLt
  simp [ix2]

theorem mem_accR (q : Fin 2) (k : Fin 8) (l : Fin 512) : (ix2 k l : S8x512.Idx) ∈ (accR q).set ↔ k.val = q.val := by
  rw [Rect.mem_set_unit, Fin.forall_fin_two]
  have := l.isLt
  simp [ix2]
  omega

theorem acc_emb (q : Fin 2) (l : Fin 512) : (accR q).emb (ix2 0 l) = ix2 (q.castLE (by decide)) l := by
  funext k; fin_cases k
  · exact Fin.ext (by rw [Rect.emb_apply]; simp)
  · exact Fin.ext (by rw [Rect.emb_apply]; simp)

/-- An array with the window's rows replaced by what they were and a block's part: the sum goes on by one block, the block's part
    being zero outside its window. -/
theorem window_sum (X : S4096x128.Idx → EReal) (w : S384x128.Idx → EReal) (f : ℕ → ℕ → ℕ → ℕ → ℝ)
    (hX : ∀ (j : Fin 4096) (l : Fin 128), X (ix2 j l) = ((∑ b ∈ Finset.range (num i n), f (l / 64) (l % 64) j b : ℝ) : EReal))
    (hw : ∀ (r : Fin 384) (l : Fin 128), w (ix2 r l) = X ((winR i n).emb (ix2 r l)) + (f (l / 64) (l % 64) (start (num i n) + r) (num i n) : EReal))
    (h0 : ∀ k d (j b : ℕ), j + 128 < 128 * b ∨ 128 * b + 255 < j → f k d j b = 0) (j : Fin 4096) (l : Fin 128) :
    (winR i n).overlay X w (ix2 j l) = ((∑ b ∈ Finset.range (num i n + 1), f (l / 64) (l % 64) j b : ℝ) : EReal) := by
  have hB := num_lt i n
  obtain ⟨hlo, hhi, htop⟩ := start_bounds _ hB
  rw [Finset.sum_range_succ, EReal.coe_add]
  by_cases hj : start (num i n) ≤ j.val ∧ j.val < start (num i n) + 384
  · obtain ⟨r, hr⟩ : ∃ r : Fin 384, start (num i n) + r.val = j.val := ⟨⟨j.val - start (num i n), by omega⟩, by simp only; omega⟩
    have e : (winR i n).emb (ix2 r l) = ix2 j l := by
      rw [win_emb i n r l (by omega)]
      exact congrArg (fun z => (ix2 z l : S4096x128.Idx)) (Fin.ext hr)
    rw [← e]
    refine (Rect.overlay_emb _ _ _ _).trans ?_
    rw [hw, e, hX, hr]
  · rw [Rect.overlay_of_not_mem _ _ _ (fun h => hj ((mem_winR i n j l).mp h)), hX, h0 _ _ _ _ (by have := j.isLt; omega), EReal.coe_zero, add_zero]

/-- A row of the sinks' sums replaced. -/
theorem row_sum (q : Fin 2) (X : S8x512.Idx → EReal) (w : S1x512.Idx → EReal) (k : Fin 8) (l : Fin 512) :
    (accR q).overlay X w (ix2 k l) = if k.val = q.val then w (ix2 0 l) else X (ix2 k l) := by
  by_cases h : k.val = q.val
  · have e : (ix2 k l : S8x512.Idx) = (accR q).emb (ix2 0 l) := by
      rw [acc_emb]
      exact congrArg (fun z => (ix2 z l : S8x512.Idx)) (Fin.ext h)
    rw [if_pos h, e]
    exact Rect.overlay_emb _ _ _ _
  · rw [if_neg h, Rect.overlay_of_not_mem _ _ _ (fun e => h ((mem_accR q k l).mp e))]

section Step

variable {A : Data} {t : ℕ} {x : Ins Ideal} (H : Reads A t x) (ht : (i 0).val = t)
include H ht

theorem dk0_at (r : Fin 384) (d : Fin 64) : dk0 i x n (ix2 r d) = (partK A 0 d (start (num i n) + r) (num i n) : EReal) := by
  unfold dk0 s0 dp0
  exact dk_at (head_zero i n H ht) r d
theorem dk1_at (r : Fin 384) (d : Fin 64) : dk1 i x n (ix2 r d) = (partK A 1 d (start (num i n) + r) (num i n) : EReal) := by
  unfold dk1 s1 dp1
  exact dk_at (head_one i n H ht) r d
theorem dv0_at (r : Fin 384) (d : Fin 64) : dv0 i x n (ix2 r d) = (partV A 0 d (start (num i n) + r) (num i n) : EReal) := by
  unfold dv0 s0
  exact dv_at (head_zero i n H ht) r d
theorem dv1_at (r : Fin 384) (d : Fin 64) : dv1 i x n (ix2 r d) = (partV A 1 d (start (num i n) + r) (num i n) : EReal) := by
  unfold dv1 s1
  exact dv_at (head_one i n H ht) r d

theorem sink0_at (row : FVec Ideal S1x512 .f32) (l : Fin 512) (ρ : ℝ) (h : row (ix2 0 l) = (ρ : EReal)) :
    sinkAfter row (s0 i x n) (sk0 x) (dp0 i x n) (ix2 0 l) = ((ρ + skS A (128 * num i n + l % 128) (4 * 0 + l / 128) : ℝ) : EReal) := by
  unfold s0 dp0
  exact sink_at (head_zero i n H ht) l row ρ h
theorem sink1_at (row : FVec Ideal S1x512 .f32) (l : Fin 512) (ρ : ℝ) (h : row (ix2 0 l) = (ρ : EReal)) :
    sinkAfter row (s1 i x n) (sk1 x) (dp1 i x n) (ix2 0 l) = ((ρ + skS A (128 * num i n + l % 128) (4 * 1 + l / 128) : ℝ) : EReal) := by
  unfold s1 dp1
  exact sink_at (head_one i n H ht) l row ρ h

theorem step_dk (o : Outs Ideal) (hS : Sums A (num i n) o) (j : Fin 4096) (l : Fin 128) :
    (step i x n o).dk (ix2 j l) = ((∑ b ∈ Finset.range (num i n + 1), partK A (l / 64) (l % 64) j b : ℝ) : EReal) := by
  have h0 := dk0_at i n H ht
  have h1 := dk1_at i n H ht
  have h2 := hS.dk
  unfold step
  dsimp only
  generalize dk0 i x n = a at h0 ⊢
  generalize dk1 i x n = b at h1 ⊢
  generalize o.dk = X at h2 ⊢
  refine window_sum i n X _ (partK A) h2 (fun r l => ?_) (partK_away A) j l
  exact rowsAfter_at (fun y => X ((winR i n).emb y)) a b (fun k d => (partK A k d (start (num i n) + r) (num i n) : EReal)) r (h0 r) (h1 r) l

theorem step_dv (o : Outs Ideal) (hS : Sums A (num i n) o) (j : Fin 4096) (l : Fin 128) :
    (step i x n o).dv (ix2 j l) = ((∑ b ∈ Finset.range (num i n + 1), partV A (l / 64) (l % 64) j b : ℝ) : EReal) := by
  have h0 := dv0_at i n H ht
  have h1 := dv1_at i n H ht
  have h2 := hS.dv
  unfold step
  dsimp only
  generalize dv0 i x n = a at h0 ⊢
  generalize dv1 i x n = b at h1 ⊢
  generalize o.dv = X at h2 ⊢
  refine window_sum i n X _ (partV A) h2 (fun r l => ?_) (partV_away A) j l
  exact rowsAfter_at (fun y => X ((winR i n).emb y)) a b (fun k d => (partV A k d (start (num i n) + r) (num i n) : EReal)) r (h0 r) (h1 r) l

theorem step_acc (o : Outs Ideal) (hS : Sums A (num i n) o) (k : Fin 2) (l : Fin 512) :
    (step i x n o).acc (ix2 (k.castLE (by decide)) l) = ((∑ b ∈ Finset.range (num i n + 1), skS A (128 * b + l % 128) (4 * k + l / 128) : ℝ) : EReal) := by
  have h0 := sink0_at i n H ht
  have h1 := sink1_at i n H ht
  have h2 := hS.acc
  rw [Finset.sum_range_succ]
  unfold step acc0
  dsimp only
  generalize o.acc = X at h2 ⊢
  have e0 := h0 (fun y => X ((accR 0).emb y)) l _ ((congrArg X (acc_emb 0 l)).trans (h2 0 l))
  generalize sinkAfter _ (s0 i x n) _ _ = u at e0 ⊢
  have g0 : ∀ k : Fin 8, (accR 0).overlay X u (ix2 k l) = _ := fun k => row_sum 0 X u k l
  generalize (accR 0).overlay X u = Y at g0 ⊢
  have e1 := h1 (fun y => Y ((accR 1).emb y)) l _ ((congrArg Y (acc_emb 1 l)).trans (((g0 _).trans (if_neg (by decide))).trans (h2 1 l)))
  generalize sinkAfter _ (s1 i x n) _ _ = v at e1 ⊢
  refine (row_sum 1 Y v _ l).trans ?_
  match k with
  | 0 => exact (if_neg (by decide)).trans (((g0 _).trans (if_pos rfl)).trans e0)
  | 1 => exact (if_pos rfl).trans e1

theorem sums_step (o : Outs Ideal) (hS : Sums A (num i n) o) : Sums A (num i n + 1) (step i x n o) :=
  ⟨step_dk i n H ht o hS, step_dv i n H ht o hS, step_acc i n H ht o hS⟩

theorem sums_steps (o : Outs Ideal) (hS : Sums A (8 * t) o) : ∀ k : ℕ, k ≤ 8 → Sums A (8 * t + k) (steps i x k o)
  | 0, _ => hS
  | k + 1, hk => by
    have h := sums_steps o hS k (by omega)
    have hn : (Fin.ofNat 8 k).val = k := Nat.mod_eq_of_lt (by omega)
    have e : num i (Fin.ofNat 8 k) = 8 * t + k := by unfold num; omega
    have := sums_step i (Fin.ofNat 8 k) H ht (steps i x k o) (by rw [e]; exact h)
    rw [e] at this
    exact this

/-- The point's rows of the queries' gradient. -/
theorem dqTile_at (r : Fin 1024) (l : Fin 512) : dqTile i x (ix2 r l) = (gQ A (1024 * t + r) (l / 64) (l % 64) : EReal) := by
  unfold dqTile
  refine (dqBlock_at i _ H ht _ _).trans ?_
  have : 128 * num i ⟨r.val / 128, Nat.div_lt_of_lt_mul r.isLt⟩ + r.val % 128 = 1024 * t + r.val := by
    unfold num
    dsimp only
    omega
  exact congrArg (fun z => ((gQ A z (l / 64) (l % 64) : ℝ) : EReal)) this

end Step

theorem lane_emb (h : Fin 8) (c : Fin 128) : (laneR h).emb (ix2 0 c)
    = ix2 ((⟨h.val / 4, by omega⟩ : Fin 2).castLE (by decide)) ⟨128 * (h.val % 4) + c.val, by have := h.isLt; have := c.isLt; omega⟩ := by
  funext k; fin_cases k
  · exact Fin.ext (by rw [Rect.emb_apply]; simp)
  · exact Fin.ext (by rw [Rect.emb_apply]; simp)

theorem sinkTotal_at (x : Vec Ideal S1x128 .f32) (l : Fin 128) : sinkTotal x (ix2 0 l) = ∑ c : Fin 128, (x (ix2 0 c) : EReal) := by
  pointwise [sinkTotal]

/-- The sinks' gradient after all 32 blocks. -/
theorem sinkOut_at {A : Data} (o : Outs Ideal) (hS : Sums A 32 o) (h : Fin 8) (l : Fin 128) : sinkOut o.acc (ix2 h l) = (gS A h : EReal) := by
  unfold sinkOut
  refine (sinkTotal_at _ l).trans ?_
  have e : ∀ c : Fin 128, o.acc ((laneR h).emb (ix2 0 c)) = ((∑ b ∈ Finset.range 32, skS A (128 * b + c) h : ℝ) : EReal) := fun c => by
    rw [lane_emb, hS.acc]
    have hc := c.isLt
    dsimp only
    rw [show (128 * (h.val % 4) + c.val) % 128 = c.val by omega, show 4 * (h.val / 4) + (128 * (h.val % 4) + c.val) / 128 = h.val by omega]
  refine (sum_coe _ e).trans ?_
  unfold gS
  rw [Finset.sum_comm, Finset.sum_range]

end Cert.AttnStep

end
-- ==== Proof.AttnRef.lean ====
/- The reference's attention: each stage of its forward and backward pass at an index, over the reals. -/
module

public import proofs.«01_k».proof.Proof.AttnMath
public import proofs.«01_k».proof.Proof.AttnInt
public import proofs.«01_k».proof.Proof.Sums
public import proofs.«01_k».proof.Proof.Gen.ReferenceAttnIdeal.Read

@[expose] public section

set_option maxRecDepth 16384

noncomputable section

namespace Cert.AttnRef

open Idealize.ShloMosaic
open Cert.ReferenceAttnIdeal Cert.ReferenceAttnIdeal.Read Cert.AttnMath Cert.AttnInt

/-- The arrays, and the reals that they hold. -/
structure Holds (A : Data) (x0 : (⟨S1x4096x8x64, .f32⟩ : BufTy).Contents (Elt Ideal)) (x1 x2 : (⟨S1x4096x2x64, .f32⟩ : BufTy).Contents (Elt Ideal))
    (x3 : (⟨S1x8, .f32⟩ : BufTy).Contents (Elt Ideal)) (x4 : (⟨S1x4096x512, .f32⟩ : BufTy).Contents (Elt Ideal)) : Prop where
  q : ∀ (s : Fin 4096) (h : Fin 8) (d : Fin 64), x0 (ix4 0 s h d) = (A.Q s h d : EReal)
  k : ∀ (s : Fin 4096) (h : Fin 2) (d : Fin 64), x1 (ix4 0 s h d) = (A.K s h d : EReal)
  v : ∀ (s : Fin 4096) (h : Fin 2) (d : Fin 64), x2 (ix4 0 s h d) = (A.V s h d : EReal)
  s : ∀ (h : Fin 8), x3 (ix2 0 h) = (A.S h : EReal)
  d : ∀ (s : Fin 4096) (l : Fin 512), x4 (ix3 0 s l) = (A.D s (l / 64) (l % 64) : EReal)

variable {A : Data} {x0 : (⟨S1x4096x8x64, .f32⟩ : BufTy).Contents (Elt Ideal)} {x1 x2 : (⟨S1x4096x2x64, .f32⟩ : BufTy).Contents (Elt Ideal)}
    {x3 : (⟨S1x8, .f32⟩ : BufTy).Contents (Elt Ideal)} {x4 : (⟨S1x4096x512, .f32⟩ : BufTy).Contents (Elt Ideal)} (H : Holds A x0 x1 x2 x3 x4)

variable (b : Fin 32) (k : Fin 2) (g : Fin 4) (a : Fin 128) (c : Fin 384) (d : Fin 64)

/-! ## The arguments, cut into blocks -/

include H in
theorem q_at : val_main_v4 (F := Ideal) x0 (ix5 b a k g d) = (A.Q (128 * b + a) (4 * k + g) d : EReal) := by
  pointwise [val_main_v4, val_main_v0]
  rw [H.q]
  congr 2 <;> show _ * _ + _ = _ <;> omega

include H in
theorem d_at : val_main_v109 (F := Ideal) x4 (ix5 b k d g a) = (A.D (128 * b + a) (4 * k + g) d : EReal) := by
  pointwise [val_main_v109, val_main_v108, val_main_v107]
  rw [H.d]
  congr 2
  · show _ * _ + _ = _; omega
  · show (_ * 256 + _ * 64 + _) / 64 = _; omega
  · show (_ * 256 + _ * 64 + _) % 64 = _; omega

include H in
theorem s_at : val_main_v62 (F := Ideal) x3 (ix5 0 k g 0 0) = (A.S (4 * k + g) : EReal) := by
  pointwise [val_main_v62, val_main_v61, val_main_v3]
  rw [H.s]
  congr 2; show _ * _ + _ = _; omega

/-- A padded block of keys: the keys of the block and of its two neighbours, zero past the ends. -/
def padded (f : ℕ → ℕ → ℕ → ℝ) (b k c d : ℕ) : ℝ := if 128 ≤ 128 * b + c ∧ 128 * b + c < 4224 then f (128 * b + c - 128) k d else 0

theorem padded_in (f : ℕ → ℕ → ℕ → ℝ) {b k c d : ℕ} (h : 128 ≤ 128 * b + c ∧ 128 * b + c < 4224) : padded f b k c d = f (128 * b + c - 128) k d := if_pos h
theorem padded_out (f : ℕ → ℕ → ℕ → ℝ) {b k c d : ℕ} (h : ¬ (128 ≤ 128 * b + c ∧ 128 * b + c < 4224)) : padded f b k c d = 0 := if_neg h

theorem padded_eq {y : (⟨S1x4096x2x64, .f32⟩ : BufTy).Contents (Elt Ideal)} (f : ℕ → ℕ → ℕ → ℝ)
    (hy : ∀ (s : Fin 4096) (h : Fin 2) (d : Fin 64), y (ix4 0 s h d) = (f s h d : EReal)) (n : ℕ) (hn : n < 4096) (h : 128 * b.val + c.val - 128 = n)
    (h' : 128 ≤ 128 * b.val + c.val) : y (ix4 0 ⟨n, hn⟩ k d) = (padded f b k c d : EReal) := by
  rw [hy, padded_in f ⟨h', by omega⟩, h]

include H in
theorem k_at : val_main_v17 (F := Ideal) x1 (ix4 b c k d) = (padded A.K b k c d : EReal) := by
  pointwise [val_main_v17, val_main_v16, val_main_v15, val_main_v14, val_main_v9, val_main_v6, val_main_v5, val_main_v1, val_main_cst]
  have hb := b.isLt; have hc := c.isLt
  repeat' split
  all_goals first
    | exact padded_eq b k c d A.K H.k _ _ (by omega) (by omega)
    | (rw [padded_out A.K (by omega)]; rfl)

include H in
theorem v_at : val_main_v21 (F := Ideal) x2 (ix4 b c k d) = (padded A.V b k c d : EReal) := by
  pointwise [val_main_v21, val_main_v20, val_main_v19, val_main_v18, val_main_v13, val_main_v10, val_main_v5, val_main_v2, val_main_cst]
  have hb := b.isLt; have hc := c.isLt
  repeat' split
  all_goals first
    | exact padded_eq b k c d A.V H.v _ _ (by omega) (by omega)
    | (rw [padded_out A.V (by omega)]; rfl)

theorem mask_at : val_main_v60_1 (F := Ideal) (ix5 b k g a c) = BitVec.ofBool (decide (inW (128 * b) 128 (128 * b + a) c)) := by
  pointwise [val_main_v60_1, val_main_v59, val_main_v54, val_main_v53, val_main_v52, val_main_v51, val_main_v50, val_main_v49, val_main_v48, val_main_v47, val_main_v46,
    val_main_v45, val_main_v44, val_main_v43, val_main_v42, val_main_v41, val_main_v40, val_main_v39, val_main_v38, val_main_v37, val_main_v36, val_main_v35, val_main_v34,
    val_main_v33, val_main_v32, val_main_v31, val_main_v30, val_main_v29, val_main_v28, val_main_v27, val_main_v26, val_main_v25, val_main_v24, val_main_v23, val_main_v22,
    val_main_c, val_main_c_4, val_main_c_5, val_main_c_6, val_main_c_7, val_main_c_8]
  have hb := b.isLt; have hc := c.isLt; have ha := a.isLt
  have tb := toInt_small b (by omega)
  have tc := toInt_small c (by omega)
  have ta := toInt_small a (by omega)
  have t128 : (128#32).toInt = 128 := rfl
  have t1 : (IntOp.subi (BitVec.ofNat 32 ↑c) 128#32).toInt = c - 128 := by rw [toInt_subi _ _ (by rw [tc, t128]; omega), tc, t128]
  have t2 : (IntOp.subi (IntOp.subi (BitVec.ofNat 32 ↑c) 128#32) (BitVec.ofNat 32 ↑a)).toInt = c - 128 - a := by
    rw [toInt_subi _ _ (by rw [t1, ta]; omega), t1, ta]
  have t3 : (IntOp.muli (BitVec.ofNat 32 ↑b) 128#32).toInt = b * 128 := by rw [toInt_muli _ _ (by rw [tb, t128]; omega), tb, t128]
  have t4 : (IntOp.subi (IntOp.muli (BitVec.ofNat 32 ↑b) 128#32) 128#32).toInt = b * 128 - 128 := by rw [toInt_subi _ _ (by rw [t3, t128]; omega), t3, t128]
  have t5 : (IntOp.addi (IntOp.subi (IntOp.muli (BitVec.ofNat 32 ↑b) 128#32) 128#32) (BitVec.ofNat 32 ↑c)).toInt = b * 128 - 128 + c := by
    rw [toInt_addi _ _ (by rw [t4, tc]; omega), t4, tc]
  rw [sle_iff _ _ (-128 ≤ (c.val : ℤ) - 128 - a ∧ (c.val : ℤ) - 128 - a ≤ 128) (by rw [toInt_absi _ (by rw [t2]; omega), t2, t128]; exact abs_le),
    sge_iff _ _ ((0 : ℤ) ≤ b.val * 128 - 128 + c) (by rw [t5]; exact Iff.rfl),
    slt_iff _ _ ((b.val : ℤ) * 128 - 128 + c < 4096) (by rw [t5]; exact Iff.rfl), and_bool, and_bool]
  congr 1
  refine decide_eq_decide.mpr ?_
  unfold inW near
  omega

/-! ## One query's column -/

/-- The scores, -/
def zR (A : Data) (c : Fin 384) : ℝ := (∑ d : Fin 64, padded A.K b k c d * A.Q (128 * b + a) (4 * k + g) d) * (1 / 8)
/-- the cotangents of the probabilities. -/
def dpR (A : Data) (c : Fin 384) : ℝ := ∑ d : Fin 64, A.D (128 * b + a) (4 * k + g) d * padded A.V b k c d

theorem eighth : Ideal.ofBits .f32 0x3E000000#32 = ((1 / 8 : ℝ) : EReal) := by
  simp [Ideal.ofBits, Ideal.ieee, -EReal.coe_mul]; norm_num

theorem lowest : Ideal.ofBits .f32 0xFF800000#32 = ⊥ := by
  simp [Ideal.ofBits, Ideal.ieee]

include H in
theorem score_at : val_main_v60_0 (F := Ideal) x0 x1 (ix5 b k g a c) = cs (inW (128 * b) 128 (128 * b + a)) (zR b k g a A) c := by
  pointwise [val_main_v60_0, val_main_v58, val_main_v57, val_main_cst_9, val_main_v56, val_main_v55, val_main_call0_v2, val_main_call0_v0, val_main_cst_10, mask_at, q_at H, k_at H]
  unfold cs zR
  refine if_congr Iff.rfl ?_ lowest
  rw [sum_coe _ fun _ => (EReal.coe_mul _ _).symm, eighth, EReal.coe_mul]

include H in
theorem dp_at : val_main_v110 (F := Ideal) x2 x4 (ix5 b k g a c) = (dpR b k g a A c : EReal) := by
  pointwise [val_main_v110, d_at H, v_at H]
  exact sum_coe _ fun _ => (EReal.coe_mul _ _).symm

/-- The largest score is not infinite upwards. -/
theorem fold_ne_top {n : ℕ} (f : Fin n → EReal) (h : ∀ i, f i ≠ ⊤) : Finset.univ.fold max ⊥ f ≠ ⊤ := by
  refine ne_of_lt ((Finset.fold_max_lt _).mpr ⟨bot_lt_top, fun i _ => lt_top_iff_ne_top.mpr (h i)⟩)

include H in
theorem largest_at : val_main_v63 (F := Ideal) x0 x1 (ix4 b k g a)
    = Finset.univ.fold max ⊥ (fun c => cs (inW (128 * b) 128 (128 * b + a)) (zR b k g a A) c) := by
  pointwise [val_main_v63, val_main_cst_11, score_at H]
  rw [lowest]

include H in
theorem largest_ne_top : val_main_v63 (F := Ideal) x0 x1 (ix4 b k g a) ≠ (⊤ : EReal) :=
  fun h => fold_ne_top _ (fun c => cs_ne_top _ _ c) ((largest_at H b k g a).symm.trans h)

/-- The maximum with the sink, of any two arrays. -/
theorem max_at (h1 : S32x2x4x128.BroadcastsInDim S32x2x4x128x1 ![0, 1, 2, 3]) (h2 : S1x2x4x1x1.BroadcastsInDim S32x2x4x128x1 ![0, 1, 2, 3, 4])
    (y : (⟨S32x2x4x128, .f32⟩ : BufTy).Contents (Elt Ideal)) (z : (⟨S1x2x4x1x1, .f32⟩ : BufTy).Contents (Elt Ideal)) :
    maximumf (F := Ideal) (φ := .f32) (broadcastInDim S32x2x4x128x1 ![0, 1, 2, 3] h1 y : FVec Ideal S32x2x4x128x1 .f32)
      (broadcastInDim S32x2x4x128x1 ![0, 1, 2, 3, 4] h2 z : FVec Ideal S32x2x4x128x1 .f32) (ix5 b k g a 0)
      = max (α := EReal) (y (ix4 b k g a)) (z (ix5 0 k g 0 0)) := by
  pointwise []

include H in
theorem top_at : ∃ μ : ℝ, val_main_v71 (F := Ideal) x0 x1 x3 (ix5 b k g a 0) = (μ : EReal) := by
  obtain ⟨μ, e⟩ := max_real (largest_ne_top H b k g a) (A.S (4 * k + g))
  refine ⟨μ, (max_at b k g a _ _ (val_main_v63 (F := Ideal) x0 x1) (val_main_v62 (F := Ideal) x3)).trans ?_⟩
  rw [s_at H k g]
  exact e

section Column

variable {μ : ℝ} (hμ : val_main_v71 (F := Ideal) x0 x1 x3 (ix5 b k g a 0) = (μ : EReal))

local notation "Wn" => inW (128 * b) 128 (128 * b + a)

include H hμ

theorem exp_at : val_main_v92 (F := Ideal) x0 x1 x3 (ix5 b k g a c) = ((cw Wn (zR b k g a A) c * Real.exp (-μ) : ℝ) : EReal) := by
  pointwise [val_main_v92, val_main_v91, val_main_v90, score_at H, hμ]
  exact exp_cs _ _ μ c

theorem expSink_at : val_main_v97 (F := Ideal) x0 x1 x3 (ix5 b k g a 0) = ((Real.exp (A.S (4 * k + g)) * Real.exp (-μ) : ℝ) : EReal) := by
  pointwise [val_main_v97, val_main_v96, val_main_v95, s_at H, hμ]
  exact exp_sink _ μ

theorem den_at : val_main_v98 (F := Ideal) x0 x1 x3 (ix5 b k g a 0) = ((cZ Wn (zR b k g a A) (A.S (4 * k + g)) * Real.exp (-μ) : ℝ) : EReal) := by
  pointwise [val_main_v98, val_main_v94, val_main_v93, val_main_cst_19, exp_at H b k g a _ hμ, expSink_at H b k g a hμ]
  rw [sum_coe _ fun _ => rfl, ← EReal.coe_add, sum_exp]

theorem prob_at : val_main_v100 (F := Ideal) x0 x1 x3 (ix5 b k g a c) = (cp Wn (zR b k g a A) (A.S (4 * k + g)) c : EReal) := by
  pointwise [val_main_v100, val_main_v99, exp_at H b k g a _ hμ, den_at H b k g a hμ]
  rw [div_coe _ _ (scaled_ne _ _ _ μ), prob_eq]

theorem quot_at : val_main_v118 (F := Ideal) x0 x1 x2 x3 x4 (ix5 b k g a 0)
    = ((-(∑ c, dpR b k g a A c * (1 / (cZ Wn (zR b k g a A) (A.S (4 * k + g)) * Real.exp (-μ) * (cZ Wn (zR b k g a A) (A.S (4 * k + g)) * Real.exp (-μ))))
        * (cw Wn (zR b k g a A) c * Real.exp (-μ))) : ℝ) : EReal) := by
  pointwise [val_main_v118, val_main_v117, val_main_v116, val_main_cst_21, val_main_v115, val_main_v114, val_main_v113, val_main_v103, val_main_v102, val_main_cst_20,
    val_main_v101, exp_at H b k g a _ hμ, den_at H b k g a hμ, dp_at H b k g a _]
  rw [← EReal.coe_mul, ← EReal.coe_one, div_coe _ _ (mul_ne_zero (scaled_ne _ _ _ μ) (scaled_ne _ _ _ μ)),
    sum_coe _ fun c => by rw [← EReal.coe_mul, ← EReal.coe_mul], ← EReal.coe_neg]

theorem mean_at : val_main_v125 (F := Ideal) x0 x1 x2 x3 x4 (ix4 b k g a)
    = ((-(∑ c, dpR b k g a A c * (1 / (cZ Wn (zR b k g a A) (A.S (4 * k + g)) * Real.exp (-μ) * (cZ Wn (zR b k g a A) (A.S (4 * k + g)) * Real.exp (-μ))))
        * (cw Wn (zR b k g a A) c * Real.exp (-μ))) : ℝ) : EReal) := by
  pointwise [val_main_v125, val_main_cst_23]
  exact (Cert.Sums.sum_one _).trans (quot_at H b k g a hμ)

theorem ds_at : val_main_v128 (F := Ideal) x0 x1 x2 x3 x4 (ix5 b k g a c) = (cds Wn (zR b k g a A) (dpR b k g a A) (A.S (4 * k + g)) c : EReal) := by
  pointwise [val_main_v128, val_main_v127, val_main_v126, val_main_v120, val_main_v119, exp_at H b k g a _ hμ, den_at H b k g a hμ,
    dp_at H b k g a, mean_at H b k g a hμ]
  rw [div_coe _ _ (scaled_ne _ _ _ μ), ← EReal.coe_add, ← EReal.coe_mul, cds_eq]

theorem sk_at : val_main_v121 (F := Ideal) x0 x1 x2 x3 x4 (ix5 b k g a 0) = (csk Wn (zR b k g a A) (dpR b k g a A) (A.S (4 * k + g)) : EReal) := by
  pointwise [val_main_v121, expSink_at H b k g a hμ, quot_at H b k g a hμ]
  rw [← EReal.coe_mul, csk_eq]

theorem flow_at : val_main_v132 (F := Ideal) x0 x1 x2 x3 x4 (ix5 b k g a 0) = 0 := by
  pointwise [val_main_v132, val_main_v131, val_main_v130, val_main_v129, val_main_v124, val_main_cst_24, ds_at H b k g a _ hμ, sk_at H b k g a hμ]
  rw [sum_coe _ fun c => (EReal.coe_neg _).symm, ← EReal.coe_neg, ← EReal.coe_add, Finset.sum_neg_distrib, ← neg_add, add_comm, sum_cds, neg_zero, EReal.coe_zero]

end Column

/-! ## The stages by places of the sequence -/

include A in
theorem z_in (hM : inW (128 * b) 128 (128 * b + a) c) : zR b k g a A c = zS A (128 * b + a) (4 * k + g) (128 * b + c - 128) := by
  have hg := g.isLt
  unfold zR zS
  rw [Finset.sum_mul, show (4 * k.val + g.val) / 4 = k by omega]
  exact Finset.sum_congr rfl fun d _ => by rw [padded_in A.K ⟨hM.1, hM.2.1⟩, mul_assoc]

include A in
theorem dp_in (hM : inW (128 * b) 128 (128 * b + a) c) : dpR b k g a A c = dpS A (128 * b + a) (4 * k + g) (128 * b + c - 128) := by
  have hg := g.isLt
  unfold dpR dpS
  rw [show (4 * k.val + g.val) / 4 = k by omega]
  exact Finset.sum_congr rfl fun d _ => by rw [padded_in A.V ⟨hM.1, hM.2.1⟩, mul_comm]

theorem low : 128 * b.val ≤ 128 * b.val + a.val + 128 - 128 := by omega
theorem high : 128 * b.val + a.val + 128 + 128 < 128 * b.val + 384 ∨ 4096 + 128 ≤ 128 * b.val + 384 := by
  have := a.isLt; omega

end Cert.AttnRef

end
-- ==== Proof.AttnRefOut.lean ====
/- The reference's attention by places of the sequence, and its four gradients. -/
module

public import proofs.«01_k».proof.Proof.AttnRef

@[expose] public section

set_option maxRecDepth 16384

noncomputable section

namespace Cert.AttnRef

open Idealize.ShloMosaic
open Cert.ReferenceAttnIdeal Cert.ReferenceAttnIdeal.Read Cert.AttnMath Cert.AttnInt

variable {A : Data} {x0 : (⟨S1x4096x8x64, .f32⟩ : BufTy).Contents (Elt Ideal)} {x1 x2 : (⟨S1x4096x2x64, .f32⟩ : BufTy).Contents (Elt Ideal)}
    {x3 : (⟨S1x8, .f32⟩ : BufTy).Contents (Elt Ideal)} {x4 : (⟨S1x4096x512, .f32⟩ : BufTy).Contents (Elt Ideal)} (H : Holds A x0 x1 x2 x3 x4)

variable (b : Fin 32) (k : Fin 2) (g : Fin 4) (a : Fin 128) (c : Fin 384) (d : Fin 64)

/-- A share of zero among ties is zero. -/
theorem tie (n : ℕ) (f : Fin n → BitVec 1) (c : Fin n) :
    Ideal.div 0 (∑ i, (((f i).toNat : ℝ) : EReal)) * (((f c).toNat : ℝ) : EReal) = 0 := by
  rw [sum_coe _ fun _ => rfl]
  by_cases h : (f c).toNat = 0
  · rw [h, Nat.cast_zero, EReal.coe_zero, mul_zero]
  · have : (∑ i, ((f i).toNat : ℝ)) ≠ 0 := by
      refine ne_of_gt (lt_of_lt_of_le (Nat.cast_pos.mpr (Nat.pos_of_ne_zero h)) ?_)
      exact Finset.single_le_sum (f := fun i => ((f i).toNat : ℝ)) (fun i _ => Nat.cast_nonneg _) (Finset.mem_univ c)
    rw [← EReal.coe_zero, div_coe _ _ this, zero_div, ← EReal.coe_mul, zero_mul]

include H

/-- The probabilities: -/
theorem p_at : val_main_v100 (F := Ideal) x0 x1 x3 (ix5 b k g a c)
    = ((if inW (128 * b) 128 (128 * b + a) c then pS A (128 * b + a) (4 * k + g) (128 * b + c - 128) else 0 : ℝ) : EReal) := by
  obtain ⟨μ, hμ⟩ := top_at H b k g a
  rw [prob_at H b k g a c hμ, win_p A (low b a) (high b a) fun c => z_in (A := A) b k g a c]

/-- the sinks' cotangents; -/
theorem sink_ct : val_main_v121 (F := Ideal) x0 x1 x2 x3 x4 (ix5 b k g a 0) = (skS A (128 * b + a) (4 * k + g) : EReal) := by
  obtain ⟨μ, hμ⟩ := top_at H b k g a
  rw [sk_at H b k g a hμ, win_sk A (low b a) (high b a) (fun c => z_in (A := A) b k g a c) fun c => dp_in (A := A) b k g a c]

/-- through the maximum nothing flows: -/
theorem flow_zero : val_main_v132 (F := Ideal) x0 x1 x2 x3 x4 (ix5 b k g a 0) = (0 : EReal) := by
  obtain ⟨μ, hμ⟩ := top_at H b k g a
  exact flow_at H b k g a hμ

theorem flow_sum : val_main_v138 (F := Ideal) x0 x1 x2 x3 x4 (ix4 b k g a) = (0 : EReal) := by
  have h : val_main_v137 (F := Ideal) x0 x1 x2 x3 x4 (ix5 b k g a 0) = (0 : EReal) := by
    rw [val_main_v137_apply, flow_zero H]
    exact zero_mul _
  unfold val_main_v138
  generalize val_main_v137 (F := Ideal) x0 x1 x2 x3 x4 = y at h ⊢
  pointwise [val_main_cst_26]
  exact (Cert.Sums.sum_one _).trans h

omit H in
theorem count_at : val_main_v68 (F := Ideal) x0 x1 (ix4 b k g a) = (∑ i, (((val_main_v66 (F := Ideal) x0 x1 (ix5 b k g a i)).toNat : ℝ) : EReal) : EReal) := by
  unfold val_main_v68 val_main_v67
  generalize val_main_v66 (F := Ideal) x0 x1 = y
  pointwise [val_main_cst_12]
  rfl

theorem shared_zero : val_main_v141 (F := Ideal) x0 x1 x2 x3 x4 (ix5 b k g a c) = (0 : EReal) := by
  have h : val_main_v139 (F := Ideal) x0 x1 x2 x3 x4 (ix4 b k g a)
      = Ideal.div 0 (∑ i, (((val_main_v66 (F := Ideal) x0 x1 (ix5 b k g a i)).toNat : ℝ) : EReal)) := by
    rw [val_main_v139_apply, flow_sum H, count_at]
    rfl
  unfold val_main_v141 val_main_v140 val_main_v67
  generalize val_main_v139 (F := Ideal) x0 x1 x2 x3 x4 = y at h ⊢
  generalize val_main_v66 (F := Ideal) x0 x1 = z at h ⊢
  pointwise [h]
  exact tie _ (fun i => z (ix5 b k g a i)) c

/-- the scores' cotangents. -/
theorem score_ct : val_main_v145 (F := Ideal) x0 x1 x2 x3 x4 (ix5 b k g a c)
    = ((if inW (128 * b) 128 (128 * b + a) c then dsS A (128 * b + a) (4 * k + g) (128 * b + c - 128) else 0 : ℝ) : EReal) := by
  obtain ⟨μ, hμ⟩ := top_at H b k g a
  pointwise [val_main_v145, mask_at, val_main_v142, shared_zero H, val_main_call1_v0, val_main_call1_cst, ds_at H b k g a _ hμ]
  rw [win_ds A (low b a) (high b a) (fun c => z_in (A := A) b k g a c) fun c => dp_in (A := A) b k g a c]
  by_cases hM : inW (128 * b) 128 (128 * b + a) c
  · rw [if_pos hM, if_pos hM]
  · rw [if_neg hM, if_neg hM]; rfl

/-! ## The four gradients -/

theorem dq_block : val_main_v149 (F := Ideal) x0 x1 x2 x3 x4 (ix5 b k a g d) = (gQ A (128 * b + a) (4 * k + g) d : EReal) := by
  have hg := g.isLt
  pointwise [val_main_v149, val_main_v148, val_main_v147, val_main_v146, val_main_cst_28, score_ct H, k_at H]
  rw [eighth, sum_coe _ fun c => by rw [← EReal.coe_mul, ← EReal.coe_mul]]
  congr 1
  unfold gQ
  rw [Finset.sum_mul, show (4 * k.val + g.val) / 4 = k by omega,
    ← win_sum (fun j => A.K j k d * dsS A (128 * b + a) (4 * k + g) j * (1 / 8)) (fun j hn => by
      show _ * dsS A _ _ j * _ = 0; rw [dsS_far A hn, mul_zero, zero_mul]) (low b a) (high b a)]
  refine Finset.sum_congr rfl fun c _ => ?_
  by_cases hM : inW (128 * b) 128 (128 * b + a) c
  · rw [if_pos hM, if_pos hM, padded_in A.K ⟨hM.1, hM.2.1⟩]; ring
  · rw [if_neg hM, if_neg hM, zero_mul, zero_mul]

theorem dq (r : Fin 4096) (l : Fin 512) : val_main_v178 (F := Ideal) x0 x1 x2 x3 x4 (ix2 r l) = (gQ A r (l / 64) (l % 64) : EReal) := by
  pointwise [val_main_v178, val_main_v177, val_main_v150, dq_block H]
  congr 2 <;> omega

omit H in
theorem guarded (s j : ℕ) (f : ℕ → ℝ) (hf : ¬ near s j → f j = 0) (w : ℕ) (h : w + c = j + 128) (hj : j < 4096) :
    (if inW w 128 s c then f (w + c.val - 128) else 0) = f j := by
  rw [show w + c.val - 128 = j by omega]
  by_cases hn : near s j
  · exact if_pos ⟨by omega, by omega, by rw [show w + c.val - 128 = j by omega]; exact hn⟩
  · rw [hf hn, ite_self]

theorem dv_block (j : ℕ) (h : 128 * b.val + c.val = j + 128) (hj : j < 4096) : val_main_v111 (F := Ideal) x0 x1 x3 x4 (ix4 b k d c) = (partV A k d j b : EReal) := by
  pointwise [val_main_v111, d_at H, p_at H]
  rw [sum_coe _ fun g => sum_coe _ fun a => (EReal.coe_mul _ _).symm, partV, Finset.sum_comm]
  congr 1
  refine Finset.sum_congr rfl fun a _ => Finset.sum_congr rfl fun g _ => ?_
  rw [guarded c (128 * b + a) j (pS A (128 * b + a) (4 * k + g)) (pS_far A) _ h hj, mul_comm]

theorem dk_block (j : ℕ) (h : 128 * b.val + c.val = j + 128) (hj : j < 4096) : val_main_v151 (F := Ideal) x0 x1 x2 x3 x4 (ix4 b k c d) = (partK A k d j b : EReal) := by
  pointwise [val_main_v151, val_main_v148, val_main_v147, val_main_v146, val_main_cst_28, score_ct H, q_at H]
  rw [eighth, sum_coe _ fun a => sum_coe _ fun g => by rw [← EReal.coe_mul, ← EReal.coe_mul], partK]
  congr 1
  refine Finset.sum_congr rfl fun a _ => Finset.sum_congr rfl fun g _ => ?_
  rw [guarded c (128 * b + a) j (dsS A (128 * b + a) (4 * k + g)) (dsS_far A) _ h hj]
  ring

omit H in
/-- The blocks that reach a key are its own and its two neighbours. -/
theorem three (f : ℕ → ℝ) (J : ℕ) (hJ : J < 32) (h : ∀ b, b + 1 < J ∨ J + 1 < b → f b = 0) :
    (if 1 ≤ J then f (J - 1) else 0) + f J + (if J + 1 < 32 then f (J + 1) else 0) = ∑ b : Fin 32, f b := by
  have e : ∀ b : Fin 32, f b = (if b.val + 1 = J then f (J - 1) else 0) + (if b.val = J then f J else 0) + (if b.val = J + 1 then f (J + 1) else 0) := by
    intro b
    by_cases h1 : b.val + 1 = J
    · rw [if_pos h1, if_neg (by omega), if_neg (by omega), ← h1]; simp
    · by_cases h2 : b.val = J
      · rw [if_neg h1, if_pos h2, if_neg (by omega), h2]; ring
      · by_cases h3 : b.val = J + 1
        · rw [if_neg h1, if_neg h2, if_pos h3, h3]; ring
        · rw [if_neg h1, if_neg h2, if_neg h3, h b (by omega)]; ring
  have one : ∀ (n : ℕ) (x : ℝ), (∑ b : Fin 32, if b.val = n then x else 0) = if n < 32 then x else 0 := by
    intro n x
    by_cases hn : n < 32
    · rw [if_pos hn, Finset.sum_eq_single (⟨n, hn⟩ : Fin 32) (fun b _ hb => if_neg fun h => hb (Fin.ext h)) (fun h => absurd (Finset.mem_univ _) h), if_pos rfl]
    · rw [if_neg hn]; exact Finset.sum_eq_zero fun b _ => if_neg (by omega)
  rw [Finset.sum_congr rfl fun b _ => e b, Finset.sum_add_distrib, Finset.sum_add_distrib, one J, one (J + 1), if_pos hJ]
  congr 2
  by_cases h1 : 1 ≤ J
  · rw [if_pos h1, Finset.sum_congr rfl fun (b : Fin 32) _ => if_congr (show b.val + 1 = J ↔ b.val = J - 1 by omega) rfl rfl, one, if_pos (by omega)]
  · rw [if_neg h1]; exact (Finset.sum_eq_zero fun b _ => if_neg (by omega)).symm

omit H in
/-- The padded sum of three neighbours' blocks, of any array that holds what a block adds. -/
theorem neighbours (u : Fin 32 → Fin 384 → EReal) (f : ℕ → ℝ) (n : Fin 4096) (hu : ∀ b c, 128 * b.val + c.val = n.val + 128 → u b c = (f b : EReal))
    (hf : ∀ b, b + 1 < n.val / 128 ∨ n.val / 128 + 1 < b → f b = 0) (P1 P2 P3 : Prop) [Decidable P1] [Decidable P2] [Decidable P3]
    (h1 : P1 ↔ 2 ≤ (128 + n.val) / 128) (h2 : P2 ↔ True) (h3 : P3 ↔ (128 + n.val) / 128 < 32)
    (b1 : P1 → (128 + n.val) / 128 - 2 < 32) (b2 : P2 → (128 + n.val) / 128 - 1 < 32) (b3 : P3 → (128 + n.val) / 128 < 32)
    (c1 : P1 → 256 + (128 + n.val) % 128 < 384) (c2 : P2 → 128 + (128 + n.val) % 128 < 384) (c3 : P3 → (128 + n.val) % 128 < 384) :
    ((if h : P1 then u ⟨(128 + n.val) / 128 - 2, b1 h⟩ ⟨256 + (128 + n.val) % 128, c1 h⟩ else 0)
      + (if h : P2 then u ⟨(128 + n.val) / 128 - 1, b2 h⟩ ⟨128 + (128 + n.val) % 128, c2 h⟩ else 0))
      + (if h : P3 then u ⟨(128 + n.val) / 128, b3 h⟩ ⟨(128 + n.val) % 128, c3 h⟩ else 0) = ((∑ b : Fin 32, f b : ℝ) : EReal) := by
  have hn := n.isLt
  rw [← three f (n.val / 128) (by omega) hf, EReal.coe_add, EReal.coe_add]
  congr 1
  · congr 1
    · by_cases h : P1
      · have := h1.mp h
        rw [dif_pos h, hu _ _ (by show 128 * ((128 + n.val) / 128 - 2) + (256 + (128 + n.val) % 128) = _; omega), if_pos (by omega)]
        congr 2; show (128 + n.val) / 128 - 2 = _; omega
      · have := mt h1.mpr h
        rw [dif_neg h, if_neg (by omega)]; rfl
    · rw [dif_pos (h2.mpr trivial), hu _ _ (by show 128 * ((128 + n.val) / 128 - 1) + (128 + (128 + n.val) % 128) = _; omega)]
      congr 2; show (128 + n.val) / 128 - 1 = _; omega
  · by_cases h : P3
    · have := h3.mp h
      rw [dif_pos h, hu _ _ (by show 128 * ((128 + n.val) / 128) + ((128 + n.val) % 128) = _; omega), if_pos (by omega)]
      congr 2; show (128 + n.val) / 128 = _; omega
    · have := mt h3.mpr h
      rw [dif_neg h, if_neg (by omega)]; rfl

theorem dv (n : Fin 4096) (l : Fin 128) : val_main_v180 (F := Ideal) x0 x1 x3 x4 (ix2 n l) = (gV A n (l / 64) (l % 64) : EReal) := by
  have hn := n.isLt; have hl := l.isLt
  pointwise [val_main_v180, val_main_v171, val_main_v169, val_main_v160, val_main_v159, val_main_v158, val_main_v157, val_main_v156, val_main_v155, val_main_v154, val_main_v153,
    val_main_v112, val_main_cst_29, val_main_cst_30, val_main_cst_31]
  exact neighbours (fun b c => val_main_v111 (F := Ideal) x0 x1 x3 x4 (ix4 b ⟨l / 64, by omega⟩ ⟨l % 64, by omega⟩ c)) (partV A (l / 64) (l % 64) n) n
    (fun b c h => dv_block H b ⟨l / 64, by omega⟩ c ⟨l % 64, by omega⟩ n h hn) (fun b h => partV_far _ _ _ _ _ h) _ _ _
    ⟨fun h => h.1.1, fun h => by omega⟩ ⟨fun _ => trivial, fun _ => by omega⟩ ⟨fun h => h.1, fun h => by omega⟩ _ _ _ _ _ _

theorem dk (n : Fin 4096) (l : Fin 128) : val_main_v179 (F := Ideal) x0 x1 x2 x3 x4 (ix2 n l) = (gK A n (l / 64) (l % 64) : EReal) := by
  have hn := n.isLt; have hl := l.isLt
  pointwise [val_main_v179, val_main_v175, val_main_v173, val_main_v168, val_main_v167, val_main_v166, val_main_v165, val_main_v164, val_main_v163, val_main_v162, val_main_v161,
    val_main_v152, val_main_cst_32, val_main_cst_33, val_main_cst_34]
  exact neighbours (fun b c => val_main_v151 (F := Ideal) x0 x1 x2 x3 x4 (ix4 b ⟨l / 64, by omega⟩ c ⟨l % 64, by omega⟩)) (partK A (l / 64) (l % 64) n) n
    (fun b c h => dk_block H b ⟨l / 64, by omega⟩ c ⟨l % 64, by omega⟩ n h hn) (fun b h => partK_far _ _ _ _ _ h) _ _ _
    ⟨fun h => h.1.1, fun h => by omega⟩ ⟨fun _ => trivial, fun _ => by omega⟩ ⟨fun h => h.1, fun h => by omega⟩ _ _ _ _ _ _

theorem sink_sum : val_main_v122 (F := Ideal) x0 x1 x2 x3 x4 (ix3 k g 0) = (gS A (4 * k + g) : EReal) := by
  pointwise [val_main_v122, Cert.Sums.hostReduceAdd_r5_a03, val_main_cst_22, sink_ct H]
  exact sum_coe _ fun b => sum_coe _ fun a => rfl

theorem flow_none : val_main_v134 (F := Ideal) x0 x1 x2 x3 x4 (ix3 k g 0) = (0 : EReal) := by
  have h : ∀ b a, val_main_v133 (F := Ideal) x0 x1 x2 x3 x4 (ix5 b k g a 0) = (0 : EReal) := fun b a => by
    rw [val_main_v133_apply, flow_zero H]
    exact zero_mul _
  unfold val_main_v134
  generalize val_main_v133 (F := Ideal) x0 x1 x2 x3 x4 = y at h ⊢
  pointwise [Cert.Sums.hostReduceAdd_r5_a03, val_main_cst_25, h]
  exact Finset.sum_eq_zero fun _ _ => Finset.sum_const_zero

theorem dsink (h : Fin 8) (l : Fin 128) : val_main_v182 (F := Ideal) x0 x1 x2 x3 x4 (ix2 h l) = (gS A h : EReal) := by
  pointwise [val_main_v182, val_main_v181, val_main_v144, val_main_v143, Cert.Sums.hostReduceAdd_r5_a034, val_main_cst_27, val_main_v136, val_main_v135, val_main_v123]
  refine ((Cert.Sums.sum_one _).trans ((Cert.Sums.sum_one _).trans (Cert.Sums.sum_one _))).trans ?_
  have e : 4 * (h.val / 4) + h.val % 4 = h.val := by omega
  have s := sink_sum H ⟨h / 4, by omega⟩ ⟨h % 4, by omega⟩
  rw [s, flow_none H, add_zero]
  exact congrArg (fun n => (gS A n : EReal)) e

end Cert.AttnRef

end
-- ==== Proof.AttnValue.lean ====
/- The gradients of the windowed attention: what the backward call leaves in its four results is what the derivative of the
   reference's forward lines computes. -/
module

public import proofs.«01_k».proof.Proof.AttnLeft
public import proofs.«01_k».proof.Proof.AttnRefOut
public import proofs.«01_k».proof.Defs
public import proofs.«01_k».proof.Proof.Gen.Pre_attn_finite
public import Idealize.ShloMosaic.Lib.Pipeline.ValueKit

@[expose] public section

set_option maxRecDepth 16384

noncomputable section

namespace Cert.AttnValue

open Idealize.ShloMosaic Idealize.ShloMosaic.TcCoe Idealize.SL.Sem
open Idealize.ShloMosaic.Pipeline (Dat)
open Cert.KernelAttnIdeal Cert.KernelAttnIdeal.Gen Cert.Attn Cert.AttnMath Cert.AttnStep
open Cert.ReferenceAttnIdeal.Read

/-! ## The precondition -/

/-- An extended real whose magnitude is below ∞ is a real. -/
theorem real_of_finite (x : Ideal .f32) (h : BitVec.ofBool (decide (FloatOps.absf x < Ideal.ofBits .f32 0x7F800000#32)) = 1#1) :
    (x : EReal) = (EReal.toReal x : EReal) := by
  have e : Ideal.ofBits .f32 0x7F800000#32 = (⊤ : EReal) := by simp [Ideal.ofBits, Ideal.ieee]
  have h1 : (FloatOps.absf x : EReal) < ⊤ := by
    rw [e] at h
    by_contra hn
    rw [decide_eq_false hn] at h
    exact absurd h (by decide)
  change max (x : EReal) (-(x : EReal)) < ⊤ at h1
  refine (EReal.coe_toReal ?_ ?_).symm
  · rintro rfl
    simp at h1
  · rintro rfl
    simp at h1

variable (m : (ℓ : Loc nD τ sig) → Buf (Elt Ideal) ℓ)

section Finite

variable {x0 : FVec Ideal Cert.Pre_attn_finite.S1x4096x8x64 .f32} {x1 x2 : FVec Ideal Cert.Pre_attn_finite.S1x4096x2x64 .f32}
  {x3 : FVec Ideal Cert.Pre_attn_finite.S1x8 .f32} {x4 : FVec Ideal Cert.Pre_attn_finite.S1x4096x512 .f32}

theorem finite0 (h : (Cert.Pre_attn_finite.fn (F := Ideal) x0 x1 x2 x3 x4).1 = (fun _ => 1#1)) (s : Fin 4096) (k : Fin 8) (d : Fin 64) :
    (x0 (ix4 0 s k d) : EReal) = (EReal.toReal (x0 (ix4 0 s k d)) : EReal) := by
  have e := congrFun h (ix4 0 s k d)
  apply real_of_finite
  revert e
  unfold Cert.Pre_attn_finite.fn
  pointwise
  exact id
theorem finite1 (h : (Cert.Pre_attn_finite.fn (F := Ideal) x0 x1 x2 x3 x4).2.1 = (fun _ => 1#1)) (s : Fin 4096) (k : Fin 2) (d : Fin 64) :
    (x1 (ix4 0 s k d) : EReal) = (EReal.toReal (x1 (ix4 0 s k d)) : EReal) := by
  have e := congrFun h (ix4 0 s k d)
  apply real_of_finite
  revert e
  unfold Cert.Pre_attn_finite.fn
  pointwise
  exact id
theorem finite2 (h : (Cert.Pre_attn_finite.fn (F := Ideal) x0 x1 x2 x3 x4).2.2.1 = (fun _ => 1#1)) (s : Fin 4096) (k : Fin 2) (d : Fin 64) :
    (x2 (ix4 0 s k d) : EReal) = (EReal.toReal (x2 (ix4 0 s k d)) : EReal) := by
  have e := congrFun h (ix4 0 s k d)
  apply real_of_finite
  revert e
  unfold Cert.Pre_attn_finite.fn
  pointwise
  exact id
theorem finite3 (h : (Cert.Pre_attn_finite.fn (F := Ideal) x0 x1 x2 x3 x4).2.2.2.1 = (fun _ => 1#1)) (k : Fin 8) :
    (x3 (ix2 0 k) : EReal) = (EReal.toReal (x3 (ix2 0 k)) : EReal) := by
  have e := congrFun h (ix2 0 k)
  apply real_of_finite
  revert e
  unfold Cert.Pre_attn_finite.fn
  pointwise
  exact id
theorem finite4 (h : (Cert.Pre_attn_finite.fn (F := Ideal) x0 x1 x2 x3 x4).2.2.2.2 = (fun _ => 1#1)) (s : Fin 4096) (l : Fin 512) :
    (x4 (ix3 0 s l) : EReal) = (EReal.toReal (x4 (ix3 0 s l)) : EReal) := by
  have e := congrFun h (ix3 0 s l)
  apply real_of_finite
  revert e
  unfold Cert.Pre_attn_finite.fn
  pointwise
  exact id

/-- The reals that the arguments hold. -/
def data (x0 : FVec Ideal Cert.Pre_attn_finite.S1x4096x8x64 .f32) (x1 x2 : FVec Ideal Cert.Pre_attn_finite.S1x4096x2x64 .f32)
    (x3 : FVec Ideal Cert.Pre_attn_finite.S1x8 .f32) (x4 : FVec Ideal Cert.Pre_attn_finite.S1x4096x512 .f32) : Data where
  Q s h d := EReal.toReal (x0 (ix4 0 (Fin.ofNat 4096 s) (Fin.ofNat 8 h) (Fin.ofNat 64 d)))
  K s h d := EReal.toReal (x1 (ix4 0 (Fin.ofNat 4096 s) (Fin.ofNat 2 h) (Fin.ofNat 64 d)))
  V s h d := EReal.toReal (x2 (ix4 0 (Fin.ofNat 4096 s) (Fin.ofNat 2 h) (Fin.ofNat 64 d)))
  S h := EReal.toReal (x3 (ix2 0 (Fin.ofNat 8 h)))
  D s h d := EReal.toReal (x4 (ix3 0 (Fin.ofNat 4096 s) (Fin.ofNat 512 (64 * h + d))))

theorem ofNat_val {n : ℕ} [NeZero n] (i : Fin n) : Fin.ofNat n i.val = i := Fin.ext (Nat.mod_eq_of_lt i.isLt)

/-- Under the precondition every argument holds reals. -/
theorem holds (h0 : (Cert.Pre_attn_finite.fn (F := Ideal) x0 x1 x2 x3 x4).1 = (fun _ => 1#1))
    (h1 : (Cert.Pre_attn_finite.fn (F := Ideal) x0 x1 x2 x3 x4).2.1 = (fun _ => 1#1))
    (h2 : (Cert.Pre_attn_finite.fn (F := Ideal) x0 x1 x2 x3 x4).2.2.1 = (fun _ => 1#1))
    (h3 : (Cert.Pre_attn_finite.fn (F := Ideal) x0 x1 x2 x3 x4).2.2.2.1 = (fun _ => 1#1))
    (h4 : (Cert.Pre_attn_finite.fn (F := Ideal) x0 x1 x2 x3 x4).2.2.2.2 = (fun _ => 1#1)) :
    AttnRef.Holds (data x0 x1 x2 x3 x4) x0 x1 x2 x3 x4 where
  q s h d := by
    refine (finite0 h0 s h d).trans ?_
    dsimp only [data]
    rw [ofNat_val, ofNat_val, ofNat_val]
  k s h d := by
    refine (finite1 h1 s h d).trans ?_
    dsimp only [data]
    rw [ofNat_val, ofNat_val, ofNat_val]
  v s h d := by
    refine (finite2 h2 s h d).trans ?_
    dsimp only [data]
    rw [ofNat_val, ofNat_val, ofNat_val]
  s h := by
    refine (finite3 h3 h).trans ?_
    dsimp only [data]
    rw [ofNat_val]
  d s l := by
    refine (finite4 h4 s l).trans ?_
    dsimp only [data]
    rw [ofNat_val, Nat.div_add_mod, ofNat_val]

end Finite

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![0, 0]
    ∧ win0_7.index t = ![0, 0] ∧ win0_8.index t = ![0, 0] :=
  (by decide +kernel : ∀ t : Fin grid0.N, _)

theorem lt4 (t : Fin cfg0.N) : t.val < 4 := lt_of_lt_of_eq t.isLt (show cfg0.N = 4 from N_0)

theorem blk0 (c : Dev nD) (t : Fin cfg0.N) (r : Fin 1024) (l : Fin 512) :
    iblk m c 0 t (ix2 r l) = V m c main_v3 (ix2 ⟨1024 * t.val + r.val, by have := lt4 t; omega⟩ l) := by
  have ht := lt4 t
  blk_point [iblk, idx t]
theorem blk1 (c : Dev nD) (t : Fin cfg0.N) (r : Fin 4096) (l : Fin 128) : iblk m c 1 t (ix2 r l) = V m c main_v5 (ix2 r l) := by
  blk_point [iblk, idx t]
theorem blk2 (c : Dev nD) (t : Fin cfg0.N) (r : Fin 4096) (l : Fin 128) : iblk m c 2 t (ix2 r l) = V m c main_v7 (ix2 r l) := by
  blk_point [iblk, idx t]
theorem blk3 (c : Dev nD) (t : Fin cfg0.N) (h : Fin 8) : iblk m c 3 t (ix2 0 h) = m ((c : Thread nD τ).loc main_arg3) (ix2 0 h) := by
  blk_point [iblk, V, idx t]
theorem blk4 (c : Dev nD) (t : Fin cfg0.N) (r : Fin 1024) (l : Fin 512) :
    iblk m c 4 t (ix2 r l) = V m c main_v9 (ix2 ⟨1024 * t.val + r.val, by have := lt4 t; omega⟩ l) := by
  have ht := lt4 t
  blk_point [iblk, idx t]

theorem host0 (c : Dev nD) (x0 : S1x4096x8x64.Idx → EReal) (h : m ((c : Thread nD τ).loc main_arg0) = x0) (r : Fin 4096) (l : Fin 512) :
    V m c main_v3 (ix2 r l) = x0 (ix4 0 r ⟨l / 64, by omega⟩ ⟨l % 64, by omega⟩) * ((1 / 8 : ℝ) : EReal) := by
  have e := AttnKer.eighth
  rw [← h]
  entry_read
  pointwise [e]
theorem host1 (c : Dev nD) (r : Fin 4096) (l : Fin 128) :
    V m c main_v5 (ix2 r l) = m ((c : Thread nD τ).loc main_arg1) (ix4 0 r ⟨l / 64, by omega⟩ ⟨l % 64, by omega⟩) := by
  entry_read
  pointwise
theorem host2 (c : Dev nD) (r : Fin 4096) (l : Fin 128) :
    V m c main_v7 (ix2 r l) = m ((c : Thread nD τ).loc main_arg2) (ix4 0 r ⟨l / 64, by omega⟩ ⟨l % 64, by omega⟩) := by
  entry_read
  pointwise
theorem host4 (c : Dev nD) (r : Fin 4096) (l : Fin 512) :
    V m c main_v9 (ix2 r l) = m ((c : Thread nD τ).loc main_arg4) (ix3 0 r l) := by
  entry_read
  pointwise

/-- The call reads the reference's arguments. -/
theorem reads (c : Dev nD) {A : Data} {x0 x1 x2 x3 x4} (H : AttnRef.Holds A x0 x1 x2 x3 x4)
    (h0 : m ((c : Thread nD τ).loc main_arg0) = x0) (h1 : m ((c : Thread nD τ).loc main_arg1) = x1) (h2 : m ((c : Thread nD τ).loc main_arg2) = x2)
    (h3 : m ((c : Thread nD τ).loc main_arg3) = x3) (h4 : m ((c : Thread nD τ).loc main_arg4) = x4) (t : Fin cfg0.N) :
    Reads A t (ins m c t) where
  q r l := by
    refine (blk0 m c t r l).trans ((host0 m c x0 h0 _ _).trans ?_)
    rw [H.q, EReal.coe_mul]
  k j l := (blk1 m c t j l).trans ((host1 m c _ _).trans ((congrFun h1 _).trans (H.k _ _ _)))
  v j l := (blk2 m c t j l).trans ((host2 m c _ _).trans ((congrFun h2 _).trans (H.v _ _ _)))
  sink h := (blk3 m c t h).trans ((congrFun h3 _).trans (H.s _))
  d r l := (blk4 m c t r l).trans ((host4 m c _ _).trans ((congrFun h4 _).trans (H.d _ _)))

theorem coord (t : Fin cfg0.N) : (grid0.coords t 0).val = t.val := by
  revert t
  exact (by decide +kernel : ∀ t : Fin grid0.N, (grid0.coords t 0).val = t.val)

section Result

variable (c : Dev nD) {A : Data} (H : ∀ t : Fin cfg0.N, Reads A t (ins m c t))
include H

/-- The sums after any number of grid points. -/
theorem left_sums : ∀ k : ℕ, k ≤ 4 → Sums A (8 * k) (left m c k)
  | 0, _ => sums_clear A _
  | k + 1, hk => by
    have hp : (pt k).val = k := Nat.mod_eq_of_lt (by omega)
    have h := sums_steps (grid0.coords (pt k)) (H (pt k)) (coord (pt k)) (left m c k) (by rw [hp]; exact left_sums k (by omega)) 8 le_rfl
    rw [hp] at h
    exact h

/-- A point's rows of the queries' gradient. -/
theorem left_dq (t : Fin cfg0.N) (r : Fin 1024) (l : Fin 512) :
    (left m c (t.val + 1)).dq (ix2 r l) = (gQ A (1024 * t + r) (l / 64) (l % 64) : EReal) := by
  rw [left, pt_val, steps_dq _ _ _ 8 le_rfl _ r.isLt]
  exact dqTile_at _ (H t) (coord t) r l

/-- The four results. -/
theorem out5 (G : S4096x512.Idx → EReal) (hG : ∀ (r : Fin 4096) (l : Fin 512), G (ix2 r l) = (gQ A r (l / 64) (l % 64) : EReal)) :
    (dats m 0 c).arrAt 5 (cfgs 0).N = G := by
  refine (dats m 0 c).arrAt_eq_of_covers 5 _ (by decide +kernel) fun t _ y => ?_
  have ht := lt4 t
  blk_simp
  rw [after_5]
  idx_vars y
  have e := left_dq m c H t y0 y1
  generalize left m c (t.val + 1) = o at e ⊢
  have he : ((View.whole main_v11_0).slice (win0_5.rect t)).emb (ix2 y0 y1) = (ix2 ⟨1024 * t.val + y0.val, by omega⟩ y1 : S4096x512.Idx) := by
    funext a
    fin_cases a
    · refine Fin.ext ?_
      blk_simp
      simp [idx t]
      omega
    · refine Fin.ext ?_
      blk_simp
      simp [idx t]
  rw [he, hG, e]

theorem out6 (G : S4096x128.Idx → EReal) (hG : ∀ (r : Fin 4096) (l : Fin 128), G (ix2 r l) = (gK A r (l / 64) (l % 64) : EReal)) :
    (dats m 0 c).arrAt 6 (cfgs 0).N = G := by
  refine (dats m 0 c).arrAt_eq_of_after_last 6 t0_3 (by decide +kernel) _ fun j => ?_
  blk_simp
  rw [after_6]
  have e := (left_sums m c H 4 le_rfl).dk
  rw [show t0_3.val + 1 = 4 from rfl]
  generalize left m c 4 = o at e ⊢
  idx_vars j
  rw [hG, e, Finset.sum_range]
  rfl

theorem out7 (G : S4096x128.Idx → EReal) (hG : ∀ (r : Fin 4096) (l : Fin 128), G (ix2 r l) = (gV A r (l / 64) (l % 64) : EReal)) :
    (dats m 0 c).arrAt 7 (cfgs 0).N = G := by
  refine (dats m 0 c).arrAt_eq_of_after_last 7 t0_3 (by decide +kernel) _ fun j => ?_
  blk_simp
  rw [after_7]
  have e := (left_sums m c H 4 le_rfl).dv
  rw [show t0_3.val + 1 = 4 from rfl]
  generalize left m c 4 = o at e ⊢
  idx_vars j
  rw [hG, e, Finset.sum_range]
  rfl

theorem out8 (G : S8x128.Idx → EReal) (hG : ∀ (r : Fin 8) (l : Fin 128), G (ix2 r l) = (gS A r : EReal)) :
    (dats m 0 c).arrAt 8 (cfgs 0).N = G := by
  refine (dats m 0 c).arrAt_eq_of_after_last 8 t0_3 (by decide +kernel) _ fun j => ?_
  blk_simp
  rw [after_8]
  have e := left_sums m c H 4 le_rfl
  rw [show t0_3.val + 1 = 4 from rfl]
  generalize left m c 4 = o at e ⊢
  idx_vars j
  rw [hG, sinkOut_at o e]

end Result

/-- The reference's run, its four results named. -/
theorem run_reference (m : (ℓ : Loc ReferenceAttnIdeal.nD ReferenceAttnIdeal.τ ReferenceAttnIdeal.sig) → Buf (Elt Ideal) ℓ)
    (g : Dev ReferenceAttnIdeal.nD → PrngReg) :
    θ_run (ReferenceAttnIdeal.defs (F := Ideal)) (onTc (τ := ReferenceAttnIdeal.τ) (ReferenceAttnIdeal.main (F := Ideal)))
      ⟨m, fun _ => 0, g⟩ (fun r => ∀ c : Dev ReferenceAttnIdeal.nD,
        r.2.mem ((c.tc : Thread ReferenceAttnIdeal.nD ReferenceAttnIdeal.τ).loc ReferenceAttnIdeal.main_v178)
          = val_main_v178 (F := Ideal) (m ((c.tc : Thread ReferenceAttnIdeal.nD ReferenceAttnIdeal.τ).loc ReferenceAttnIdeal.main_arg0))
            (m ((c.tc : Thread ReferenceAttnIdeal.nD ReferenceAttnIdeal.τ).loc ReferenceAttnIdeal.main_arg1))
            (m ((c.tc : Thread ReferenceAttnIdeal.nD ReferenceAttnIdeal.τ).loc ReferenceAttnIdeal.main_arg2))
            (m ((c.tc : Thread ReferenceAttnIdeal.nD ReferenceAttnIdeal.τ).loc ReferenceAttnIdeal.main_arg3))
            (m ((c.tc : Thread ReferenceAttnIdeal.nD ReferenceAttnIdeal.τ).loc ReferenceAttnIdeal.main_arg4))
        ∧ r.2.mem ((c.tc : Thread ReferenceAttnIdeal.nD ReferenceAttnIdeal.τ).loc ReferenceAttnIdeal.main_v179)
          = val_main_v179 (F := Ideal) (m ((c.tc : Thread ReferenceAttnIdeal.nD ReferenceAttnIdeal.τ).loc ReferenceAttnIdeal.main_arg0))
            (m ((c.tc : Thread ReferenceAttnIdeal.nD ReferenceAttnIdeal.τ).loc ReferenceAttnIdeal.main_arg1))
            (m ((c.tc : Thread ReferenceAttnIdeal.nD ReferenceAttnIdeal.τ).loc ReferenceAttnIdeal.main_arg2))
            (m ((c.tc : Thread ReferenceAttnIdeal.nD ReferenceAttnIdeal.τ).loc ReferenceAttnIdeal.main_arg3))
            (m ((c.tc : Thread ReferenceAttnIdeal.nD ReferenceAttnIdeal.τ).loc ReferenceAttnIdeal.main_arg4))
        ∧ r.2.mem ((c.tc : Thread ReferenceAttnIdeal.nD ReferenceAttnIdeal.τ).loc ReferenceAttnIdeal.main_v180)
          = val_main_v180 (F := Ideal) (m ((c.tc : Thread ReferenceAttnIdeal.nD ReferenceAttnIdeal.τ).loc ReferenceAttnIdeal.main_arg0))
            (m ((c.tc : Thread ReferenceAttnIdeal.nD ReferenceAttnIdeal.τ).loc ReferenceAttnIdeal.main_arg1))
            (m ((c.tc : Thread ReferenceAttnIdeal.nD ReferenceAttnIdeal.τ).loc ReferenceAttnIdeal.main_arg3))
            (m ((c.tc : Thread ReferenceAttnIdeal.nD ReferenceAttnIdeal.τ).loc ReferenceAttnIdeal.main_arg4))
        ∧ r.2.mem ((c.tc : Thread ReferenceAttnIdeal.nD ReferenceAttnIdeal.τ).loc ReferenceAttnIdeal.main_v182)
          = val_main_v182 (F := Ideal) (m ((c.tc : Thread ReferenceAttnIdeal.nD ReferenceAttnIdeal.τ).loc ReferenceAttnIdeal.main_arg0))
            (m ((c.tc : Thread ReferenceAttnIdeal.nD ReferenceAttnIdeal.τ).loc ReferenceAttnIdeal.main_arg1))
            (m ((c.tc : Thread ReferenceAttnIdeal.nD ReferenceAttnIdeal.τ).loc ReferenceAttnIdeal.main_arg2))
            (m ((c.tc : Thread ReferenceAttnIdeal.nD ReferenceAttnIdeal.τ).loc ReferenceAttnIdeal.main_arg3))
            (m ((c.tc : Thread ReferenceAttnIdeal.nD ReferenceAttnIdeal.τ).loc ReferenceAttnIdeal.main_arg4))) :=
  (θ_run _ _ _).mono (fun r h c =>
    ⟨(h c).1.trans (val_main_v178_eq _), (h c).2.1.trans (val_main_v179_eq _), (h c).2.2.1.trans (val_main_v180_eq _),
      (h c).2.2.2.1.trans (val_main_v182_eq _)⟩)
    (Cert.ReferenceAttnIdeal.Value.run m g)

/-- The reference ends with its arguments unchanged; it has no semaphores. -/
theorem frame_reference : Cert.quiescent_ReferenceAttnIdeal := fun m g _ =>
  (θ_run Cert.ReferenceAttnIdeal.defs _ _).mono
    (fun r h => ⟨fun c => (h c).2.2.2.2, sem_eq_zero_of_no_sems rfl r.2⟩) (Cert.ReferenceAttnIdeal.Value.run m g)

/-- The masked scores' constant stands for −∞. -/
theorem preserves : Cert.preserves_KernelAttn_KernelAttnIdeal :=
  IdealRules.named_const.statement _ _ _ _ _ rfl

/-- The call computes the gradients that the reference computes. -/
theorem algebraic : Cert.algebraic_KernelAttnIdeal_ReferenceAttnIdeal_pre_attn_finite := by
  pair_intro
  · run_from run_main m g
  · run_from run_reference m' g' & frame_reference m' g' trivial
    all_goals
      obtain ⟨h0, h1, h2, h3, h4⟩ := hpre c
      have H := holds h0 h1 h2 h3 h4
    · exact (out5 m c (fun t => reads m c H rfl rfl rfl rfl rfl t) _ fun r l => AttnRef.dq H r l).symm
    · exact (out6 m c (fun t => reads m c H rfl rfl rfl rfl rfl t) _ fun r l => AttnRef.dk H r l).symm
    · exact (out7 m c (fun t => reads m c H rfl rfl rfl rfl rfl t) _ fun r l => AttnRef.dv H r l).symm
    · exact (out8 m c (fun t => reads m c H rfl rfl rfl rfl rfl t) _ fun r l => AttnRef.dsink H r l).symm

end Cert.AttnValue

end
-- ==== Proof.Rms.lean ====
/- The derivative of a root-mean-square norm and of a sigmoid gate, on the extended reals: the forms that the calls
   write out by hand equal the forms that the derivative of the reference's lines has. -/
module

public import Idealize.ShloMosaic.Lib.Claim
public import Idealize.ShloMosaic.Lib.Pointwise
public import proofs.«01_k».proof.Proof.AttnMath

@[expose] public section

noncomputable section

namespace Cert.Rms

open Idealize.ShloMosaic

theorem lit_half : Ideal.ofBits .f32 0x3F000000#32 = ((1 / 2 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

theorem lit_1024 : Ideal.ofBits .f32 0x44800000#32 = ((1024 : ℝ) : EReal) := by
  simp [Ideal.ofBits, Ideal.ieee, -EReal.coe_mul]; norm_num

/-- The norm's small constant is a positive real. -/
theorem lit_eps : ∃ e : ℝ, 0 < e ∧ Ideal.ofBits .f32 0x358637BD#32 = (e : EReal) := by
  refine ⟨_, ?_, by simp [Ideal.ofBits, Ideal.ieee, -EReal.coe_mul]; rfl⟩
  norm_num

/-- The reference's sigmoid. -/
def sigm (x : EReal) : EReal := Ideal.div 1 (1 + Ideal.exp (-x))

theorem sigm_coe (x : ℝ) : sigm (x : EReal) = ((1 / (1 + Real.exp (-x)) : ℝ) : EReal) := by
  have h : (1 + Real.exp (-x) : ℝ) ≠ 0 := by positivity
  have e : (1 : EReal) + Ideal.exp (-(x : EReal)) = ((1 + Real.exp (-x) : ℝ) : EReal) := by
    rw [← EReal.coe_neg, AttnMath.exp_coe, EReal.coe_add, EReal.coe_one]
  unfold sigm
  rw [e, ← EReal.coe_one, AttnMath.div_coe _ _ h]

theorem sigm_top : sigm ⊤ = 1 := by
  unfold sigm
  rw [EReal.neg_top, AttnMath.exp_bot, add_zero]
  simp [Ideal.div]

theorem sigm_bot : sigm ⊥ = 0 := by
  unfold sigm
  rw [EReal.neg_bot]
  show Ideal.div 1 (1 + ⊤) = 0
  rw [show (1 : EReal) + ⊤ = ⊤ from rfl]
  simp [Ideal.div]

/-- Half a hyperbolic tangent of half the argument, plus a half, is the sigmoid. -/
theorem sigm_tanh (x : EReal) :
    Ideal.ofBits .f32 0x3F000000#32 * Ideal.tanh (Ideal.ofBits .f32 0x3F000000#32 * x) + Ideal.ofBits .f32 0x3F000000#32 = sigm x := by
  rw [lit_half]
  induction x using EReal.rec with
  | bot =>
    rw [EReal.coe_mul_bot_of_pos (by norm_num), sigm_bot]
    show ((1 / 2 : ℝ) : EReal) * (-1) + ((1 / 2 : ℝ) : EReal) = 0
    rw [show (-1 : EReal) = ((-1 : ℝ) : EReal) from rfl, ← EReal.coe_mul, ← EReal.coe_add]
    norm_num
  | top =>
    rw [EReal.coe_mul_top_of_pos (by norm_num), sigm_top]
    show ((1 / 2 : ℝ) : EReal) * 1 + ((1 / 2 : ℝ) : EReal) = 1
    rw [mul_one, ← EReal.coe_add]
    norm_num
  | coe x =>
    rw [sigm_coe, ← EReal.coe_mul]
    show ((1 / 2 : ℝ) : EReal) * ((Real.tanh (1 / 2 * x) : ℝ) : EReal) + ((1 / 2 : ℝ) : EReal) = _
    rw [← EReal.coe_mul, ← EReal.coe_add]
    congr 1
    have h1 : Real.exp (-x) = Real.exp (-(1 / 2 * x)) * Real.exp (-(1 / 2 * x)) := by rw [← Real.exp_add]; congr 1; ring
    have h2 : Real.exp (1 / 2 * x) * Real.exp (-(1 / 2 * x)) = 1 := by rw [← Real.exp_add]; simp
    have p := Real.exp_pos (1 / 2 * x)
    have q := Real.exp_pos (-(1 / 2 * x))
    rw [Real.tanh_eq_sinh_div_cosh, Real.sinh_eq, Real.cosh_eq, h1]
    generalize Real.exp (1 / 2 * x) = a at *
    generalize Real.exp (-(1 / 2 * x)) = b at *
    have hab : (a + b) / 2 ≠ 0 := by positivity
    have hb : 1 + b * b ≠ 0 := by positivity
    have hs : a + b ≠ 0 := by positivity
    field_simp
    linear_combination (2 * b : ℝ) * h2

/-- The derivative of `gate · sigmoid gate`, times a real cotangent: the two forms. -/
theorem gate_back (y : ℝ) (g : EReal) :
    (y : EReal) * (sigm g * (1 + g * (1 - sigm g))) = (y : EReal) * sigm g + g * (y : EReal) * (sigm g * (1 - sigm g)) := by
  have h10 : (1 : EReal) - 1 = 0 := by rw [← EReal.coe_one, ← EReal.coe_sub, sub_self, EReal.coe_zero]
  induction g using EReal.rec with
  | bot => simp [sigm_bot]
  | top => simp [sigm_top, h10]
  | coe g =>
    rw [sigm_coe]
    generalize 1 / (1 + Real.exp (-g)) = s
    rw [← EReal.coe_one]
    norm_cast
    ring

/-- A nonnegative real factor goes into a sum. -/
theorem mul_sum {n : ℕ} (r : ℝ) (hr : 0 ≤ r) (f : Fin n → EReal) : (∑ i, f i) * (r : EReal) = ∑ i, f i * (r : EReal) := by
  have key : ∀ s : Finset (Fin n), (∑ i ∈ s, f i) * (r : EReal) = ∑ i ∈ s, f i * (r : EReal) := fun s => by
    induction s using Finset.cons_induction with
    | empty => simp
    | cons a s ha ih =>
      rw [Finset.sum_cons, Finset.sum_cons, ← ih]
      exact EReal.right_distrib_of_nonneg_of_ne_top (EReal.coe_nonneg.mpr hr) (EReal.coe_ne_top r) _ _
  exact key _

/-- The derivative of the norm at one place: `D` is the cotangent times the gain there, `T` its product with the row,
    summed; `r` the reciprocal root. -/
theorem norm_back (D T : EReal) (x r : ℝ) (hr : 0 < r) :
    (r : EReal) * (D - ((x * r : ℝ) : EReal) * (T * ((r / 1024 : ℝ) : EReal)))
      = D * (r : EReal) + (x : EReal) * (T * ((-(1 / 2) * (r ^ 3) / 1024 : ℝ) : EReal)) + (T * ((-(1 / 2) * (r ^ 3) / 1024 : ℝ) : EReal)) * (x : EReal) := by
  have h3 : 0 < r ^ 3 := by positivity
  have hn : (-(1 / 2) * (r ^ 3) / 1024 : ℝ) < 0 := by nlinarith
  have hp : (0 : ℝ) < r / 1024 := by positivity
  have flip : ∀ E : EReal, (r : EReal) * (D + E) = D * (r : EReal) + (r : EReal) * E := fun E => by
    rw [EReal.left_distrib_of_nonneg_of_ne_top (EReal.coe_nonneg.mpr hr.le) (EReal.coe_ne_top r), mul_comm (r : EReal) D]
  rw [sub_eq_add_neg, flip, add_assoc]
  congr 1
  induction T using EReal.rec with
  | coe T => norm_cast; ring
  | top =>
    rw [EReal.top_mul_coe_of_pos hp, EReal.top_mul_coe_of_neg hn]
    rcases lt_trichotomy x 0 with h | h | h
    · rw [EReal.coe_mul_top_of_neg (mul_neg_of_neg_of_pos h hr), EReal.neg_bot, EReal.coe_mul_top_of_pos hr,
        EReal.coe_mul_bot_of_neg h, EReal.bot_mul_coe_of_neg h]; rfl
    · subst h; simp
    · rw [EReal.coe_mul_top_of_pos (mul_pos h hr), EReal.neg_top, EReal.coe_mul_bot_of_pos hr,
        EReal.coe_mul_bot_of_pos h, EReal.bot_mul_coe_of_pos h]; rfl
  | bot =>
    rw [EReal.bot_mul_coe_of_pos hp, EReal.bot_mul_coe_of_neg hn]
    rcases lt_trichotomy x 0 with h | h | h
    · rw [EReal.coe_mul_bot_of_neg (mul_neg_of_neg_of_pos h hr), EReal.neg_top, EReal.coe_mul_bot_of_pos hr,
        EReal.coe_mul_top_of_neg h, EReal.top_mul_coe_of_neg h]; rfl
    · subst h; simp
    · rw [EReal.coe_mul_bot_of_pos (mul_pos h hr), EReal.neg_bot, EReal.coe_mul_top_of_pos hr,
        EReal.coe_mul_top_of_pos h, EReal.top_mul_coe_of_pos h]; rfl

/-- The reciprocal root of a row's mean square. -/
def rr {n : ℕ} (x : Fin n → EReal) : EReal :=
  Ideal.rsqrt (Ideal.div (∑ k, x k * x k) (Ideal.ofBits .f32 0x44800000#32) + Ideal.ofBits .f32 0x358637BD#32)

/-- Of a real row the mean square, with the small constant, is a positive real. -/
theorem ms_coe {n : ℕ} (x : Fin n → ℝ) : ∃ v : ℝ, 0 < v ∧
    Ideal.div (∑ k, (x k : EReal) * (x k : EReal)) (Ideal.ofBits .f32 0x44800000#32) + Ideal.ofBits .f32 0x358637BD#32 = (v : EReal) := by
  obtain ⟨e, he, h⟩ := lit_eps
  refine ⟨(∑ k, x k * x k) / 1024 + e, by have : 0 ≤ ∑ k, x k * x k := Finset.sum_nonneg fun k _ => mul_self_nonneg _; positivity, ?_⟩
  rw [h, lit_1024, AttnMath.sum_coe (fun k => x k * x k) (fun k => (EReal.coe_mul _ _).symm), AttnMath.div_coe _ _ (by norm_num), EReal.coe_add]

theorem rsqrt_coe (v : ℝ) (h : 0 < v) : Ideal.rsqrt (v : EReal) = (((Real.sqrt v)⁻¹ : ℝ) : EReal) := by
  show (if v < 0 then (⊥ : EReal) else if v = 0 then ⊤ else (((Real.sqrt v)⁻¹ : ℝ) : EReal)) = _
  rw [if_neg (not_lt.mpr h.le), if_neg h.ne']

/-- The norm's derivative, as the calls write it and as the derivative of the reference's lines reads. -/
theorem back {n : ℕ} (x : Fin n → EReal) (hx : ∀ k, ∃ v : ℝ, x k = (v : EReal)) (D : Fin n → EReal) (k : Fin n) :
    rr x * (D k - x k * rr x * Ideal.div (∑ l, D l * (x l * rr x)) (Ideal.ofBits .f32 0x44800000#32))
      = D k * rr x
        + x k * Ideal.div ((∑ l, x l * D l) * (Ideal.ofBits .f32 0xBF000000#32 * Ideal.div (rr x)
            (Ideal.div (∑ k, x k * x k) (Ideal.ofBits .f32 0x44800000#32) + Ideal.ofBits .f32 0x358637BD#32))) (Ideal.ofBits .f32 0x44800000#32)
        + Ideal.div ((∑ l, x l * D l) * (Ideal.ofBits .f32 0xBF000000#32 * Ideal.div (rr x)
            (Ideal.div (∑ k, x k * x k) (Ideal.ofBits .f32 0x44800000#32) + Ideal.ofBits .f32 0x358637BD#32))) (Ideal.ofBits .f32 0x44800000#32)
          * x k := by
  choose v hv using hx
  obtain rfl : x = fun k => (v k : EReal) := funext hv
  obtain ⟨w, hw, e⟩ := ms_coe v
  have hr : 0 < (Real.sqrt w)⁻¹ := inv_pos.mpr (Real.sqrt_pos.mpr hw)
  have hrw : (Real.sqrt w)⁻¹ / w = (Real.sqrt w)⁻¹ ^ 3 := by
    have := Real.sq_sqrt hw.le
    have h0 := (Real.sqrt_pos.mpr hw).ne'
    field_simp
    linear_combination this
  have hd : ∀ (T : EReal), Ideal.div T ((1024 : ℝ) : EReal) = T * ((1 / 1024 : ℝ) : EReal) := fun T => by
    rw [Ideal.div, if_neg (by exact_mod_cast (by norm_num : (1024 : ℝ) ≠ 0)), ← EReal.coe_inv, one_div]
  have er : rr (fun k => (v k : EReal)) = (((Real.sqrt w)⁻¹ : ℝ) : EReal) := by unfold rr; rw [e, rsqrt_coe w hw]
  have es : ∑ l, D l * ((v l : EReal) * (((Real.sqrt w)⁻¹ : ℝ) : EReal)) = (∑ l, (v l : EReal) * D l) * (((Real.sqrt w)⁻¹ : ℝ) : EReal) := by
    rw [mul_sum _ hr.le]
    exact Finset.sum_congr rfl fun l _ => by rw [← mul_assoc, mul_comm (D l)]
  rw [er, e, lit_neg_half, lit_1024, es, AttnMath.div_coe _ _ hw.ne', hrw, hd, hd]
  generalize (Real.sqrt w)⁻¹ = r at *
  have fold : ∀ (T : EReal) (a b : ℝ), T * (a : EReal) * (b : EReal) = T * ((a * b : ℝ) : EReal) := fun T a b => by
    rw [mul_assoc, ← EReal.coe_mul]
  show (r : EReal) * (D k - (v k : EReal) * (r : EReal) * ((∑ l, (v l : EReal) * D l) * (r : EReal) * ((1 / 1024 : ℝ) : EReal)))
    = D k * (r : EReal) + (v k : EReal) * ((∑ l, (v l : EReal) * D l) * (((-(1 / 2) : ℝ) : EReal) * ((r ^ 3 : ℝ) : EReal)) * ((1 / 1024 : ℝ) : EReal))
      + (∑ l, (v l : EReal) * D l) * (((-(1 / 2) : ℝ) : EReal) * ((r ^ 3 : ℝ) : EReal)) * ((1 / 1024 : ℝ) : EReal) * (v k : EReal)
  rw [← EReal.coe_mul, ← EReal.coe_mul, fold, fold, show r * (1 / 1024) = r / 1024 by ring,
    show -(1 / 2) * r ^ 3 * (1 / 1024) = -(1 / 2) * r ^ 3 / 1024 by ring]
  exact norm_back (D k) (∑ l, (v l : EReal) * D l) (v k) r hr

/-! ## Which entries are real -/

/-- An extended real that is a real. -/
def Real' (x : EReal) : Prop := ∃ v : ℝ, x = (v : EReal)

theorem Real'.mul {x y : EReal} (hx : Real' x) (hy : Real' y) : Real' (x * y) := by
  obtain ⟨u, rfl⟩ := hx
  obtain ⟨v, rfl⟩ := hy
  exact ⟨u * v, (EReal.coe_mul _ _).symm⟩

theorem Real'.add {x y : EReal} (hx : Real' x) (hy : Real' y) : Real' (x + y) := by
  obtain ⟨u, rfl⟩ := hx
  obtain ⟨v, rfl⟩ := hy
  exact ⟨u + v, (EReal.coe_add _ _).symm⟩

theorem Real'.sum {n : ℕ} {f : Fin n → EReal} (h : ∀ i, Real' (f i)) : Real' (∑ i, f i) := by
  choose v hv using h
  exact ⟨∑ i, v i, AttnMath.sum_coe v hv⟩

theorem Real'.sigm {x : EReal} (h : Real' x) : Real' (sigm x) := by
  obtain ⟨v, rfl⟩ := h
  exact ⟨_, sigm_coe v⟩

/-- The reciprocal root of a real row's mean square is real. -/
theorem Real'.rr {n : ℕ} {x : Fin n → EReal} (h : ∀ k, Real' (x k)) : Real' (rr x) := by
  choose v hv using h
  obtain rfl : x = fun k => (v k : EReal) := funext hv
  obtain ⟨w, hw, e⟩ := ms_coe v
  unfold Rms.rr
  rw [e, rsqrt_coe w hw]
  exact ⟨_, rfl⟩

end Cert.Rms

end
-- ==== Proof.FfnMath.lean ====
/- What the channel mixer's backward call computes, entry by entry, as functions of the reference's arrays. -/
module

public import proofs.«01_k».proof.Proof.Rms
public import Idealize.ShloMosaic.Lib.ValueIdx

@[expose] public section

noncomputable section

namespace Cert.Ffn

open Idealize.ShloMosaic Cert.Rms

variable (x : (⟨3, ![1, 4096, 1024]⟩ : Shape).Idx → EReal) (g : (⟨2, ![1, 1024]⟩ : Shape).Idx → EReal)
  (wg wu : (⟨3, ![1, 1024, 2816]⟩ : Shape).Idx → EReal) (wd : (⟨3, ![1, 2816, 1024]⟩ : Shape).Idx → EReal)
  (ct : (⟨3, ![1, 4096, 1024]⟩ : Shape).Idx → EReal)

/-- One row of the input. -/
def row (r : Fin 4096) : Fin 1024 → EReal := fun k => x (ix3 0 r k)
/-- The normalised input. -/
def normed (r : Fin 4096) (k : Fin 1024) : EReal := x (ix3 0 r k) * rr (row x r) * g (ix2 0 k)
/-- A projection of the normalised input: the gate, or what it multiplies. -/
def proj (w : (⟨3, ![1, 1024, 2816]⟩ : Shape).Idx → EReal) (r : Fin 4096) (f : Fin 2816) : EReal :=
  ∑ k : Fin 1024, normed x g r k * w (ix3 0 k f)
/-- The cotangent of the gated product. -/
def dact (r : Fin 4096) (f : Fin 2816) : EReal := ∑ k : Fin 1024, ct (ix3 0 r k) * wd (ix3 0 f k)
/-- The gate through its activation. -/
def silu (r : Fin 4096) (f : Fin 2816) : EReal := proj x g wg r f * sigm (proj x g wg r f)
/-- The cotangent of the gate. -/
def dgate (r : Fin 4096) (f : Fin 2816) : EReal :=
  dact wd ct r f * proj x g wu r f * (sigm (proj x g wg r f) * (1 + proj x g wg r f * (1 - sigm (proj x g wg r f))))
/-- The cotangent of the gate's partner. -/
def dup (r : Fin 4096) (f : Fin 2816) : EReal := dact wd ct r f * silu x g wg r f
/-- The cotangent of the normalised input. -/
def dh (r : Fin 4096) (k : Fin 1024) : EReal :=
  ∑ f : Fin 2816, dgate x g wg wu wd ct r f * wg (ix3 0 k f) + ∑ f : Fin 2816, dup x g wg wd ct r f * wu (ix3 0 k f)
/-- The same, times the gain. -/
def dhg (r : Fin 4096) (k : Fin 1024) : EReal := dh x g wg wu wd ct r k * g (ix2 0 k)
/-- The gradient of the input: the residual's cotangent and the norm's. -/
def dx (r : Fin 4096) (k : Fin 1024) : EReal :=
  ct (ix3 0 r k) + rr (row x r) * (dhg x g wg wu wd ct r k
    - row x r k * rr (row x r) * Ideal.div (∑ l, dhg x g wg wu wd ct r l * (row x r l * rr (row x r))) (Ideal.ofBits .f32 0x44800000#32))
/-- The gradient of the gain. -/
def dgain (k : Fin 1024) : EReal := ∑ r : Fin 4096, dh x g wg wu wd ct r k * (x (ix3 0 r k) * rr (row x r))

end Cert.Ffn

end
-- ==== Proof.FfnRef.lean ====
/- The channel mixer's reference, entry by entry. -/
module

public import proofs.«01_k».proof.Proof.Gen.ReferenceFfnIdeal.Read
public import proofs.«01_k».proof.Proof.FfnMath
public import proofs.«01_k».proof.Proof.Sums
public import Idealize.ShloMosaic.Lib.Pipeline.ValueKit

@[expose] public section

set_option maxRecDepth 16384

noncomputable section

namespace Cert.Ffn

open Idealize.ShloMosaic Cert.Rms Cert.ReferenceFfnIdeal.Read

variable (x : (⟨3, ![1, 4096, 1024]⟩ : Shape).Idx → EReal) (g : (⟨2, ![1, 1024]⟩ : Shape).Idx → EReal)
  (wg wu : (⟨3, ![1, 1024, 2816]⟩ : Shape).Idx → EReal) (wd : (⟨3, ![1, 2816, 1024]⟩ : Shape).Idx → EReal)
  (ct : (⟨3, ![1, 4096, 1024]⟩ : Shape).Idx → EReal)

theorem r8 (r : Fin 4096) : val_main_v8 (F := Ideal) x (ix3 0 r 0) = rr (row x r) := by
  pointwise [val_main_v8, val_main_v7, val_main_v6, val_main_cst_1, val_main_v5, val_main_v4, val_main_cst_0, val_main_v3, val_main_v2, val_main_cst, val_main_v1]
  rfl
theorem r16 (r : Fin 4096) (k : Fin 1024) : val_main_v16 (F := Ideal) x g (ix3 0 r k) = normed x g r k := by
  pointwise [val_main_v16, val_main_v15, val_main_v14, val_main_v13, val_main_v12, val_main_v0, r8 x]
  rfl
theorem r70 (r : Fin 4096) (k : Fin 1024) : val_main_v70 (F := Ideal) x g (ix3 0 r k) = normed x g r k := by
  pointwise [val_main_v70, val_main_v69, val_main_v68, val_main_v67, val_main_v66, val_main_v65, val_main_v64, val_main_v63, val_main_cst_10, val_main_v62, val_main_v61, val_main_cst_9, val_main_v60, val_main_v59, val_main_cst_8, val_main_v58, val_main_v57]
  rfl
theorem r18 (r : Fin 4096) (f : Fin 2816) : val_main_v18 (F := Ideal) x g wg (ix3 0 r f) = proj x g wg r f := by
  pointwise [val_main_v18, val_main_v17, r16 x g]
  rfl
theorem r20 (r : Fin 4096) (f : Fin 2816) : val_main_v20 (F := Ideal) x g wu (ix3 0 r f) = proj x g wu r f := by
  pointwise [val_main_v20, val_main_v19, r16 x g]
  rfl
theorem r72 (r : Fin 4096) (f : Fin 2816) : val_main_v72 (F := Ideal) x g wg (ix3 0 r f) = proj x g wg r f := by
  pointwise [val_main_v72, val_main_v71, r70 x g]
  rfl
theorem r74 (r : Fin 4096) (f : Fin 2816) : val_main_v74 (F := Ideal) x g wu (ix3 0 r f) = proj x g wu r f := by
  pointwise [val_main_v74, val_main_v73, r70 x g]
  rfl
theorem s21_2 (r : Fin 4096) (f : Fin 2816) : val_main_v21_2 (F := Ideal) x g wg (ix3 0 r f) = sigm (proj x g wg r f) := by
  pointwise [val_main_v21_2, val_main_call0_v4, val_main_call0_cst_0, val_main_call0_v3, val_main_call0_v2, val_main_call0_cst, val_main_call0_v1, val_main_call0_v0, r18 x g wg]
  rfl
theorem s75_2 (r : Fin 4096) (f : Fin 2816) : val_main_v75_2 (F := Ideal) x g wg (ix3 0 r f) = sigm (proj x g wg r f) := by
  pointwise [val_main_v75_2, val_main_call2_v4, val_main_call2_cst_0, val_main_call2_v3, val_main_call2_v2, val_main_call2_cst, val_main_call2_v1, val_main_call2_v0, r72 x g wg]
  rfl
theorem s90 (r : Fin 4096) (f : Fin 2816) : val_main_v90 (F := Ideal) x g wg (ix3 0 r f) = silu x g wg r f := by
  pointwise [val_main_v90, val_main_call4_v5, val_main_call4_v4, val_main_call4_cst_0, val_main_call4_v3, val_main_call4_v2, val_main_call4_cst, val_main_call4_v1, val_main_call4_v0, r72 x g wg]
  rfl
theorem r27 (r : Fin 4096) (f : Fin 2816) : val_main_v27 (F := Ideal) wd ct (ix3 0 r f) = dact wd ct r f := by
  pointwise [val_main_v27, val_main_v26, val_main_v23]
  rfl
theorem r79 (r : Fin 4096) (f : Fin 2816) : val_main_v79 (F := Ideal) wd ct (ix3 0 r f) = dact wd ct r f := by
  pointwise [val_main_v79, val_main_v77]
  rfl
theorem r28 (r : Fin 4096) (f : Fin 2816) : val_main_v28 (F := Ideal) x g wg wd ct (ix3 0 r f) = dup x g wg wd ct r f := by
  pointwise [val_main_v28, val_main_v21_0, s21_2 x g wg, r18 x g wg, r27 wd ct]
  exact EReal.mul_comm _ _
theorem r80 (r : Fin 4096) (f : Fin 2816) : val_main_v80 (F := Ideal) x g wg wd ct (ix3 0 r f) = dup x g wg wd ct r f := by
  pointwise [val_main_v80, val_main_v75_0, s75_2 x g wg, r72 x g wg, r79 wd ct]
  exact EReal.mul_comm _ _

/-- Where the cotangent of the gated product times the gate's partner is real, the gate's cotangent is what the call
    writes. -/
theorem r30 (h : ∀ r f, ∃ v : ℝ, dact wd ct r f * proj x g wu r f = (v : EReal)) (r : Fin 4096) (f : Fin 2816) :
    val_main_v30 (F := Ideal) x g wg wu wd ct (ix3 0 r f) = dgate x g wg wu wd ct r f := by
  obtain ⟨v, hv⟩ := h r f
  pointwise [val_main_v30, val_main_call1_v0, val_main_call1_v1, val_main_call1_v2, val_main_v29, val_main_v21_1, val_main_call0_v7, val_main_call0_v6, val_main_call0_cst_1, s21_2 x g wg, r18 x g wg, r20 x g wu, r27 wd ct]
  unfold dgate
  rw [hv]
  exact (gate_back v _).symm
theorem r82 (h : ∀ r f, ∃ v : ℝ, dact wd ct r f * proj x g wu r f = (v : EReal)) (r : Fin 4096) (f : Fin 2816) :
    val_main_v82 (F := Ideal) x g wg wu wd ct (ix3 0 r f) = dgate x g wg wu wd ct r f := by
  obtain ⟨v, hv⟩ := h r f
  pointwise [val_main_v82, val_main_call3_v0, val_main_call3_v1, val_main_call3_v2, val_main_v81, val_main_v75_1, val_main_call2_v7, val_main_call2_v6, val_main_call2_cst_1, s75_2 x g wg, r72 x g wg, r74 x g wu, r79 wd ct]
  unfold dgate
  rw [hv]
  exact (gate_back v _).symm

theorem r33 (h : ∀ r f, ∃ v : ℝ, dact wd ct r f * proj x g wu r f = (v : EReal)) (r : Fin 4096) (k : Fin 1024) :
    val_main_v33 (F := Ideal) x g wg wu wd ct (ix3 0 r k) = dh x g wg wu wd ct r k := by
  pointwise [val_main_v33, val_main_v32, val_main_v31, val_main_v17, val_main_v19, r28 x g wg wd ct, r30 x g wg wu wd ct h]
  exact add_comm (G := EReal) _ _
theorem r38 (h : ∀ r f, ∃ v : ℝ, dact wd ct r f * proj x g wu r f = (v : EReal)) (r : Fin 4096) (k : Fin 1024) :
    val_main_v38 (F := Ideal) x g wg wu wd ct (ix3 0 r k) = dhg x g wg wu wd ct r k := by
  pointwise [val_main_v38, val_main_v37, val_main_v14, val_main_v0, r33 x g wg wu wd ct h]
  rfl

/-- The input's gradient. -/
theorem r55 (h : ∀ r f, ∃ v : ℝ, dact wd ct r f * proj x g wu r f = (v : EReal)) (hx : ∀ r k, ∃ v : ℝ, x (ix3 0 r k) = (v : EReal))
    (r : Fin 4096) (k : Fin 1024) : val_main_v55 (F := Ideal) x g wg wu wd ct (ix3 0 r k) = dx x g wg wu wd ct r k := by
  have b := back (row x r) (hx r) (fun k => dhg x g wg wu wd ct r k) k
  pointwise [val_main_v55, val_main_v54, val_main_v53, val_main_v52, val_main_v51, val_main_v50, val_main_v49, val_main_cst_7, val_main_v48, val_main_v47, val_main_cst_6, val_main_v46, val_main_v45, val_main_v44, val_main_v43, val_main_v42, val_main_v41, val_main_cst_5, val_main_v40, val_main_v11, val_main_v10, val_main_cst_2, val_main_v9, val_main_v7, val_main_v6, val_main_cst_1, val_main_v5, val_main_v4, val_main_cst_0, val_main_v3, val_main_v2, val_main_cst, val_main_v1, r8 x, r38 x g wg wu wd ct h, Cert.Sums.hostReduceAdd_r3_a02]
  rw [Cert.Sums.sum_one, Cert.Sums.sum_one, r8 x]
  refine Eq.trans ?_ (congrArg (ct (ix3 0 r k) + ·) b.symm)
  rw [add_assoc, add_assoc, ← add_assoc (dhg x g wg wu wd ct r k * rr (row x r))]
  rfl

/-- The gain's gradient. -/
theorem r94 (h : ∀ r f, ∃ v : ℝ, dact wd ct r f * proj x g wu r f = (v : EReal))
    (r : Fin 8) (k : Fin 1024) : val_main_v94 (F := Ideal) x g wg wu wd ct (ix2 r k) = dgain x g wg wu wd ct k := by
  pointwise [val_main_v94, val_main_v56, val_main_v39, val_main_cst_4, val_main_v36, val_main_v35, val_main_cst_3, val_main_v34, val_main_v13, val_main_v12, r8 x, r33 x g wg wu wd ct h, Cert.Sums.hostReduceAdd_r3_a01]
  rw [Cert.Sums.sum_one, Cert.Sums.sum_one]
  exact Cert.Sums.sum_ext fun q => EReal.mul_comm _ _

end Cert.Ffn

end
-- ==== Proof.FfnValue.lean ====
/- The channel mixer's backward call: what it leaves in its six results is what the derivative of the reference's
   forward lines computes. -/
module

public import proofs.«01_k».proof.Proof.Gen.KernelFfnIdeal.Frame
public import proofs.«01_k».proof.Proof.FfnRef
public import proofs.«01_k».proof.Proof.AttnValue
public import proofs.«01_k».proof.Proof.Gen.KernelFfn
public import proofs.«01_k».proof.Proof.Gen.Pre_ffn_finite
public import proofs.«01_k».proof.Defs

@[expose] public section

set_option maxRecDepth 16384

noncomputable section

namespace Cert.Ffn

open Cert.KernelFfnIdeal Cert.KernelFfnIdeal.Gen Idealize.ShloMosaic Idealize.ShloMosaic.TcCoe Idealize.SL.Sem
open Idealize.ShloMosaic.Pipeline (Dat)
open Cert.ReferenceFfnIdeal.Read Cert.Rms

variable (m : (ℓ : Loc nD τ sig) → Buf (Elt Ideal) ℓ)

/-- The windows' block numbers at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![0, 0] :=
  (by decide +kernel : ∀ t : Fin grid0.N, _)

theorem lt16 (t : Fin cfg0.N) : t.val < 16 := lt_of_lt_of_eq t.isLt (show cfg0.N = 16 from N_0)

/-- The block's row `r` at the point `t`, in the whole array. -/
def at_ (t : Fin cfg0.N) (r : Fin 256) : Fin 4096 := ⟨256 * t.val + r.val, by have := lt16 t; have := r.isLt; omega⟩

variable {x : S1x4096x1024.Idx → EReal} {g : S1x1024.Idx → EReal} {wg wu : S1x1024x2816.Idx → EReal}
  {wd : S1x2816x1024.Idx → EReal} {ct : S1x4096x1024.Idx → EReal}

theorem blk0 (c : Dev nD) (t : Fin cfg0.N) (r : Fin 256) (k : Fin 1024) :
    iblk m c 0 t (ix2 r k) = m ((c : Thread nD τ).loc main_arg5) (ix3 0 (at_ t r) k) := by
  have ht := lt16 t
  have h : iblk m c 0 t (ix2 r k) = V m c main_v21 (ix2 (at_ t r) k) := by blk_point [iblk, idx t, at_]
  rw [h]
  entry_read
  pointwise

theorem blk1 (c : Dev nD) (t : Fin cfg0.N) (r : Fin 256) (k : Fin 1024) :
    iblk m c 1 t (ix2 r k) = m ((c : Thread nD τ).loc main_arg0) (ix3 0 (at_ t r) k) := by
  have ht := lt16 t
  have h : iblk m c 1 t (ix2 r k) = V m c main_v22 (ix2 (at_ t r) k) := by blk_point [iblk, idx t, at_]
  rw [h]
  entry_read
  pointwise

theorem blk2 (c : Dev nD) (h0 : m ((c : Thread nD τ).loc main_arg0) = x) (h1 : m ((c : Thread nD τ).loc main_arg1) = g)
    (h2 : m ((c : Thread nD τ).loc main_arg2) = wg) (t : Fin cfg0.N) (r : Fin 256) (f : Fin 2816) :
    iblk m c 2 t (ix2 r f) = proj x g wg (at_ t r) f := by
  have ht := lt16 t
  have h : iblk m c 2 t (ix2 r f) = V m c main_v17 (ix2 (at_ t r) f) := by blk_point [iblk, idx t, at_]
  rw [h, ← h0, ← h1, ← h2]
  generalize at_ t r = q
  entry_read
  pointwise
  rfl

theorem blk3 (c : Dev nD) (h0 : m ((c : Thread nD τ).loc main_arg0) = x) (h1 : m ((c : Thread nD τ).loc main_arg1) = g)
    (h3 : m ((c : Thread nD τ).loc main_arg3) = wu) (t : Fin cfg0.N) (r : Fin 256) (f : Fin 2816) :
    iblk m c 3 t (ix2 r f) = proj x g wu (at_ t r) f := by
  have ht := lt16 t
  have h : iblk m c 3 t (ix2 r f) = V m c main_v20 (ix2 (at_ t r) f) := by blk_point [iblk, idx t, at_]
  rw [h, ← h0, ← h1, ← h3]
  generalize at_ t r = q
  entry_read
  pointwise
  rfl

theorem blk4 (c : Dev nD) (t : Fin cfg0.N) (k : Fin 1024) :
    iblk m c 4 t (ix2 0 k) = m ((c : Thread nD τ).loc main_arg1) (ix2 0 k) := by
  blk_point [iblk, V, idx t]

theorem blk5 (c : Dev nD) (t : Fin cfg0.N) (f : Fin 2816) (k : Fin 1024) :
    iblk m c 5 t (ix2 f k) = m ((c : Thread nD τ).loc main_arg4) (ix3 0 f k) := by
  have h : iblk m c 5 t (ix2 f k) = V m c main_v24 (ix2 f k) := by blk_point [iblk, idx t]
  rw [h]
  entry_read
  pointwise

theorem blk6 (c : Dev nD) (t : Fin cfg0.N) (f : Fin 2816) (k : Fin 1024) :
    iblk m c 6 t (ix2 f k) = m ((c : Thread nD τ).loc main_arg2) (ix3 0 k f) := by
  have h : iblk m c 6 t (ix2 f k) = V m c main_v27 (ix2 f k) := by blk_point [iblk, idx t]
  rw [h]
  entry_read
  pointwise

theorem blk7 (c : Dev nD) (t : Fin cfg0.N) (f : Fin 2816) (k : Fin 1024) :
    iblk m c 7 t (ix2 f k) = m ((c : Thread nD τ).loc main_arg3) (ix3 0 k f) := by
  have h : iblk m c 7 t (ix2 f k) = V m c main_v30 (ix2 f k) := by blk_point [iblk, idx t]
  rw [h]
  entry_read
  pointwise

/-! ## One block's values -/

section Block

variable {b0 b1 : S256x1024.Idx → EReal} {b2 b3 : S256x2816.Idx → EReal} {b4 : S1x1024.Idx → EReal} {b5 b6 b7 : S2816x1024.Idx → EReal}
  (q : Fin 256 → Fin 4096)

theorem pay10 (h0 : ∀ r k, b0 (ix2 r k) = ct (ix3 0 (q r) k)) (h5 : ∀ f k, b5 (ix2 f k) = wd (ix3 0 f k)) (r : Fin 256) (f : Fin 2816) :
    k0_pay10 (F := Ideal) b0 b5 (ix2 r f) = dact wd ct (q r) f := by
  pointwise [k0_pay10, k0_pay6, h0, h5]
  rfl

theorem pay11 (h2 : ∀ r f, b2 (ix2 r f) = proj x g wg (q r) f) (r : Fin 256) (f : Fin 2816) :
    k0_pay11 (F := Ideal) b2 (ix2 r f) = sigm (proj x g wg (q r) f) := by
  pointwise [k0_pay11, k0_pay8, h2]
  exact sigm_tanh _

theorem pay12 (h2 : ∀ r f, b2 (ix2 r f) = proj x g wg (q r) f) (r : Fin 256) (f : Fin 2816) :
    k0_pay12 (F := Ideal) b2 (ix2 r f) = silu x g wg (q r) f := by
  pointwise [k0_pay12, k0_pay8, pay11 q h2, h2]
  rfl

theorem pay13 (h0 : ∀ r k, b0 (ix2 r k) = ct (ix3 0 (q r) k)) (h5 : ∀ f k, b5 (ix2 f k) = wd (ix3 0 f k))
    (h2 : ∀ r f, b2 (ix2 r f) = proj x g wg (q r) f) (r : Fin 256) (f : Fin 2816) :
    k0_pay13 (F := Ideal) b0 b2 b5 (ix2 r f) = dup x g wg wd ct (q r) f := by
  pointwise [k0_pay13, pay12 q h2, pay10 q h0 h5]
  rfl

theorem pay14 (h0 : ∀ r k, b0 (ix2 r k) = ct (ix3 0 (q r) k)) (h5 : ∀ f k, b5 (ix2 f k) = wd (ix3 0 f k))
    (h2 : ∀ r f, b2 (ix2 r f) = proj x g wg (q r) f) (h3 : ∀ r f, b3 (ix2 r f) = proj x g wu (q r) f) (r : Fin 256) (f : Fin 2816) :
    k0_pay14 (F := Ideal) b0 b2 b3 b5 (ix2 r f) = dgate x g wg wu wd ct (q r) f := by
  pointwise [k0_pay14, k0_pay8, k0_pay9, pay11 q h2, pay10 q h0 h5, h2, h3]
  rfl

theorem pay15 (h2 : ∀ r f, b2 (ix2 r f) = proj x g wg (q r) f) (h3 : ∀ r f, b3 (ix2 r f) = proj x g wu (q r) f)
    (r : Fin 256) (f : Fin 2816) : k0_pay15 (F := Ideal) b2 b3 (ix2 r f) = silu x g wg (q r) f * proj x g wu (q r) f := by
  pointwise [k0_pay15, k0_pay9, pay12 q h2, h3]

/-- The cotangent of the normalised rows, from the two products. -/
theorem pay19 {dg du : S256x2816.Idx → EReal} (hg : ∀ r f, dg (ix2 r f) = dgate x g wg wu wd ct (q r) f)
    (hu : ∀ r f, du (ix2 r f) = dup x g wg wd ct (q r) f) (h6 : ∀ f k, b6 (ix2 f k) = wg (ix3 0 k f))
    (h7 : ∀ f k, b7 (ix2 f k) = wu (ix3 0 k f)) (r : Fin 256) (k : Fin 1024) :
    k0_pay19 (F := Ideal) (k0_pay7 (F := Ideal)) du dg b6 b7 (ix2 r k) = dh x g wg wu wd ct (q r) k := by
  pointwise [k0_pay19, k0_pay7, hg, hu, h6, h7]
  rfl

theorem pay21 (h1 : ∀ r k, b1 (ix2 r k) = x (ix3 0 (q r) k)) (r : Fin 256) :
    k0_pay21 (F := Ideal) b1 (ix2 r 0) = rr (row x (q r)) := by
  pointwise [k0_pay21, k0_pay20, h1]
  rfl

theorem pay22 (h1 : ∀ r k, b1 (ix2 r k) = x (ix3 0 (q r) k)) (r : Fin 256) (k : Fin 1024) :
    k0_pay22 (F := Ideal) b1 (ix2 r k) = x (ix3 0 (q r) k) * rr (row x (q r)) := by
  pointwise [k0_pay22, k0_pay20, pay21 q h1, h1]

section Norm

variable {dg du : S256x2816.Idx → EReal} (h : ∀ r k, k0_pay19 (F := Ideal) (k0_pay7 (F := Ideal)) du dg b6 b7 (ix2 r k) = dh x g wg wu wd ct (q r) k)
  (h1 : ∀ r k, b1 (ix2 r k) = x (ix3 0 (q r) k)) (h4 : ∀ k, b4 (ix2 0 k) = g (ix2 0 k))
include h h1

theorem pay23 (k : Fin 1024) : k0_pay23 (F := Ideal) (k0_pay7 (F := Ideal)) du dg b6 b7 b1 (ix2 0 k)
    = ∑ r : Fin 256, dh x g wg wu wd ct (q r) k * (x (ix3 0 (q r) k) * rr (row x (q r))) := by
  pointwise [k0_pay23, pay22 q h1, h]

include h4

theorem pay24 (r : Fin 256) (k : Fin 1024) :
    k0_pay24 (F := Ideal) (k0_pay7 (F := Ideal)) du dg b6 b7 b4 (ix2 r k) = dhg x g wg wu wd ct (q r) k := by
  pointwise [k0_pay24, h, h4]
  rfl

theorem pay25 (r : Fin 256) : k0_pay25 (F := Ideal) (k0_pay7 (F := Ideal)) du dg b6 b7 b1 b4 (ix2 r 0)
    = ∑ l, dhg x g wg wu wd ct (q r) l * (row x (q r) l * rr (row x (q r))) := by
  pointwise [k0_pay25, pay24 q h h1 h4, pay22 q h1]
  rfl

/-- The input's gradient, on the block's rows. -/
theorem pay1 (h0 : ∀ r k, b0 (ix2 r k) = ct (ix3 0 (q r) k)) (r : Fin 256) (k : Fin 1024) :
    k0_pay1 (F := Ideal) (k0_pay6 b0) (k0_pay21 b1) (k0_pay22 b1) (k0_pay24 (k0_pay7 (F := Ideal)) du dg b6 b7 b4)
      (k0_pay25 (k0_pay7 (F := Ideal)) du dg b6 b7 b1 b4) (k0_pay26 (F := Ideal)) (ix2 r k) = dx x g wg wu wd ct (q r) k := by
  pointwise [k0_pay1, k0_pay6, k0_pay26, pay25 q h h1 h4, pay24 q h h1 h4, pay22 q h1, pay21 q h1, h0]
  rfl

end Norm

end Block

/-! ## The results -/

/-- The arguments of a run. -/
structure Holds (m : (ℓ : Loc nD τ sig) → Buf (Elt Ideal) ℓ) (c : Dev nD) (x : S1x4096x1024.Idx → EReal) (g : S1x1024.Idx → EReal)
    (wg wu : S1x1024x2816.Idx → EReal) (wd : S1x2816x1024.Idx → EReal) (ct : S1x4096x1024.Idx → EReal) : Prop where
  h0 : m ((c : Thread nD τ).loc main_arg0) = x
  h1 : m ((c : Thread nD τ).loc main_arg1) = g
  h2 : m ((c : Thread nD τ).loc main_arg2) = wg
  h3 : m ((c : Thread nD τ).loc main_arg3) = wu
  h4 : m ((c : Thread nD τ).loc main_arg4) = wd
  h5 : m ((c : Thread nD τ).loc main_arg5) = ct

section Result

variable {m} {c : Dev nD} (H : Holds m c x g wg wu wd ct)
include H

/-- The cotangent of the normalised rows at a grid point. -/
theorem dh_at (t : Fin cfg0.N) (r : Fin 256) (k : Fin 1024) :
    k0_pay19 (F := Ideal) (k0_pay7 (F := Ideal)) (k0_pay13 (iblk m c 0 t) (iblk m c 2 t) (iblk m c 5 t))
      (k0_pay14 (iblk m c 0 t) (iblk m c 2 t) (iblk m c 3 t) (iblk m c 5 t)) (iblk m c 6 t) (iblk m c 7 t) (ix2 r k)
      = dh x g wg wu wd ct (at_ t r) k :=
  have e0 := fun r k => (blk0 m c t r k).trans (congrFun H.h5 _)
  have e5 := fun f k => (blk5 m c t f k).trans (congrFun H.h4 _)
  have e2 := blk2 m c H.h0 H.h1 H.h2 t
  pay19 (at_ t) (pay14 (at_ t) e0 e5 e2 (blk3 m c H.h0 H.h1 H.h3 t)) (pay13 (at_ t) e0 e5 e2)
    (fun f k => (blk6 m c t f k).trans (congrFun H.h2 _)) (fun f k => (blk7 m c t f k).trans (congrFun H.h3 _)) r k

/-- The input's gradient at a grid point. -/
theorem dx_at (t : Fin cfg0.N) (r : Fin 256) (k : Fin 1024) :
    k0_pay1 (F := Ideal) (k0_pay6 (iblk m c 0 t)) (k0_pay21 (iblk m c 1 t)) (k0_pay22 (iblk m c 1 t))
      (k0_pay24 (k0_pay7 (F := Ideal)) (k0_pay13 (iblk m c 0 t) (iblk m c 2 t) (iblk m c 5 t))
        (k0_pay14 (iblk m c 0 t) (iblk m c 2 t) (iblk m c 3 t) (iblk m c 5 t)) (iblk m c 6 t) (iblk m c 7 t) (iblk m c 4 t))
      (k0_pay25 (k0_pay7 (F := Ideal)) (k0_pay13 (iblk m c 0 t) (iblk m c 2 t) (iblk m c 5 t))
        (k0_pay14 (iblk m c 0 t) (iblk m c 2 t) (iblk m c 3 t) (iblk m c 5 t)) (iblk m c 6 t) (iblk m c 7 t) (iblk m c 1 t) (iblk m c 4 t))
      (k0_pay26 (F := Ideal)) (ix2 r k) = dx x g wg wu wd ct (at_ t r) k :=
  pay1 (at_ t) (dh_at H t) (fun r k => (blk1 m c t r k).trans (congrFun H.h0 _)) (fun k => (blk4 m c t k).trans (congrFun H.h1 _))
    (fun r k => (blk0 m c t r k).trans (congrFun H.h5 _)) r k

/-- What a grid point leaves of the five tiled results. -/
theorem tile8 (t : Fin cfg0.N) (r : Fin 256) (k : Fin 1024) :
    (outsAt0 m c t.val t.isLt).1 (ix2 r k) = dx x g wg wu wd ct (at_ t r) k := by
  have e := dx_at H t r k
  by_cases hz : t.val % 16 = 0
  · rw [outsAt0_A m c t hz]
    frame_out
    pointwise [k0_pay2, e]
  · rw [outsAt0_B m c t hz]
    frame_out
    pointwise [k0_pay2, e]

theorem tile9 (t : Fin cfg0.N) (r : Fin 256) (k : Fin 1024) :
    (outsAt0 m c t.val t.isLt).2.1 (ix2 r k) = (dx x g wg wu wd ct (at_ t r) k : EReal) := by
  have e := dx_at H t r k
  by_cases hz : t.val % 16 = 0
  · rw [outsAt0_A m c t hz]
    frame_out
    pointwise [k0_pay3, e]
  · rw [outsAt0_B m c t hz]
    frame_out
    pointwise [k0_pay3, e]

theorem tile10 (t : Fin cfg0.N) (r : Fin 256) (f : Fin 2816) :
    (outsAt0 m c t.val t.isLt).2.2.1 (ix2 r f) = (dgate x g wg wu wd ct (at_ t r) f : EReal) := by
  have e := pay14 (at_ t) (fun r k => (blk0 m c t r k).trans (congrFun H.h5 _)) (fun f k => (blk5 m c t f k).trans (congrFun H.h4 _))
    (blk2 m c H.h0 H.h1 H.h2 t) (blk3 m c H.h0 H.h1 H.h3 t) r f
  by_cases hz : t.val % 16 = 0
  · rw [outsAt0_A m c t hz]
    frame_out
    pointwise [k0_pay17, e]
  · rw [outsAt0_B m c t hz]
    frame_out
    pointwise [k0_pay17, e]

theorem tile11 (t : Fin cfg0.N) (r : Fin 256) (f : Fin 2816) :
    (outsAt0 m c t.val t.isLt).2.2.2.1 (ix2 r f) = (dup x g wg wd ct (at_ t r) f : EReal) := by
  have e := pay13 (at_ t) (fun r k => (blk0 m c t r k).trans (congrFun H.h5 _)) (fun f k => (blk5 m c t f k).trans (congrFun H.h4 _))
    (blk2 m c H.h0 H.h1 H.h2 t) r f
  by_cases hz : t.val % 16 = 0
  · rw [outsAt0_A m c t hz]
    frame_out
    pointwise [k0_pay18, e]
  · rw [outsAt0_B m c t hz]
    frame_out
    pointwise [k0_pay18, e]

theorem tile12 (t : Fin cfg0.N) (r : Fin 256) (f : Fin 2816) :
    (outsAt0 m c t.val t.isLt).2.2.2.2.1 (ix2 r f) = (silu x g wg (at_ t r) f * proj x g wu (at_ t r) f : EReal) := by
  have e := pay15 (at_ t) (blk2 m c H.h0 H.h1 H.h2 t) (blk3 m c H.h0 H.h1 H.h3 t) r f
  by_cases hz : t.val % 16 = 0
  · rw [outsAt0_A m c t hz]
    frame_out
    pointwise [k0_pay16, e]
  · rw [outsAt0_B m c t hz]
    frame_out
    pointwise [k0_pay16, e]

theorem out8 (G : S4096x1024.Idx → EReal) (hG : ∀ r k, G (ix2 r k) = dx x g wg wu wd ct r k) : (dats m 0 c).arrAt 8 (cfgs 0).N = G := by
  refine (dats m 0 c).arrAt_eq_of_covers 8 _ (by decide +kernel) fun t _ y => ?_
  have ht := lt16 t
  blk_simp
  rw [after0_8]
  idx_vars y
  have he : ((View.whole main_v31_0).slice (win0_8.rect t)).emb (ix2 y0 y1) = (ix2 (at_ t y0) y1 : S4096x1024.Idx) := by
    funext a
    fin_cases a
    · refine Fin.ext ?_; blk_simp; simp [idx t, at_]; omega
    · refine Fin.ext ?_; blk_simp; simp [idx t]
  rw [he, hG]
  exact tile8 H t y0 y1

theorem out9 (G : S4096x1024.Idx → EReal) (hG : ∀ r k, G (ix2 r k) = dx x g wg wu wd ct r k) : (dats m 0 c).arrAt 9 (cfgs 0).N = G := by
  refine (dats m 0 c).arrAt_eq_of_covers 9 _ (by decide +kernel) fun t _ y => ?_
  have ht := lt16 t
  blk_simp
  rw [after0_9]
  idx_vars y
  have he : ((View.whole main_v31_1).slice (win0_9.rect t)).emb (ix2 y0 y1) = (ix2 (at_ t y0) y1 : S4096x1024.Idx) := by
    funext a
    fin_cases a
    · refine Fin.ext ?_; blk_simp; simp [idx t, at_]; omega
    · refine Fin.ext ?_; blk_simp; simp [idx t]
  rw [he, hG]
  exact tile9 H t y0 y1

theorem out10 (G : S4096x2816.Idx → EReal) (hG : ∀ r k, G (ix2 r k) = dgate x g wg wu wd ct r k) : (dats m 0 c).arrAt 10 (cfgs 0).N = G := by
  refine (dats m 0 c).arrAt_eq_of_covers 10 _ (by decide +kernel) fun t _ y => ?_
  have ht := lt16 t
  blk_simp
  rw [after0_10]
  idx_vars y
  have he : ((View.whole main_v31_2).slice (win0_10.rect t)).emb (ix2 y0 y1) = (ix2 (at_ t y0) y1 : S4096x2816.Idx) := by
    funext a
    fin_cases a
    · refine Fin.ext ?_; blk_simp; simp [idx t, at_]; omega
    · refine Fin.ext ?_; blk_simp; simp [idx t]
  rw [he, hG]
  exact tile10 H t y0 y1

theorem out11 (G : S4096x2816.Idx → EReal) (hG : ∀ r k, G (ix2 r k) = dup x g wg wd ct r k) : (dats m 0 c).arrAt 11 (cfgs 0).N = G := by
  refine (dats m 0 c).arrAt_eq_of_covers 11 _ (by decide +kernel) fun t _ y => ?_
  have ht := lt16 t
  blk_simp
  rw [after0_11]
  idx_vars y
  have he : ((View.whole main_v31_3).slice (win0_11.rect t)).emb (ix2 y0 y1) = (ix2 (at_ t y0) y1 : S4096x2816.Idx) := by
    funext a
    fin_cases a
    · refine Fin.ext ?_; blk_simp; simp [idx t, at_]; omega
    · refine Fin.ext ?_; blk_simp; simp [idx t]
  rw [he, hG]
  exact tile11 H t y0 y1

theorem out12 (G : S4096x2816.Idx → EReal) (hG : ∀ r k, G (ix2 r k) = silu x g wg r k * proj x g wu r k) : (dats m 0 c).arrAt 12 (cfgs 0).N = G := by
  refine (dats m 0 c).arrAt_eq_of_covers 12 _ (by decide +kernel) fun t _ y => ?_
  have ht := lt16 t
  blk_simp
  rw [after0_12]
  idx_vars y
  have he : ((View.whole main_v31_4).slice (win0_12.rect t)).emb (ix2 y0 y1) = (ix2 (at_ t y0) y1 : S4096x2816.Idx) := by
    funext a
    fin_cases a
    · refine Fin.ext ?_; blk_simp; simp [idx t, at_]; omega
    · refine Fin.ext ?_; blk_simp; simp [idx t]
  rw [he, hG]
  exact tile12 H t y0 y1

/-- The gain's gradient, on eight equal rows: the blocks' sums, added up over the grid. -/
theorem out13 (G : S8x1024.Idx → EReal) (hG : ∀ r k, G (ix2 r k) = dgain x g wg wu wd ct k) : (dats m 0 c).arrAt 13 (cfgs 0).N = G := by
  refine (dats m 0 c).arrAt_eq_of_after_last 13 t0_15 (by decide +kernel) _ fun j => ?_
  blk_simp
  rw [after0_13, Pipeline.eq_sum_fin_of_reset_step_apply_last (fun n h => (outsAt0 m c n h).2.2.2.2.2)
    16 (fun _ => 0)
    (fun t j => ∑ r : Fin 256, (dh x g wg wu wd ct (at_ t r) (j 1) * (x (ix3 0 (at_ t r) (j 1)) * rr (row x (at_ t r))) : EReal))
    (fun t h j => by
      rw [outsAt0_A m c t h]
      frame_out
      idx_vars j
      pointwise [k0_pay4, k0_pay5, pay23 (at_ t) (dh_at H t) (fun r k => (blk1 m c t r k).trans (congrFun H.h0 _))])
    (fun t h j => by
      rw [outsAt0_B m c t h]
      frame_out
      idx_vars j
      pointwise [k0_pay4, pay23 (at_ t) (dh_at H t) (fun r k => (blk1 m c t r k).trans (congrFun H.h0 _))])
    (le_of_eq N_0) t0_15 rfl j, zero_add]
  idx_vars j
  rw [hG]
  refine Fin.sum_mul_add_congr (S := 16) (n := 256) (L := 4096) fun t r hl => ?_
  have e : at_ t r = ⟨t.val * 256 + r.val, hl⟩ := Fin.ext (by simp only [at_]; omega)
  rw [e]

end Result

/-! ## The precondition -/

theorem finite0 (h : (Cert.Pre_ffn_finite.fn (F := Ideal) x g wg wu wd ct).1 = (fun _ => 1#1)) (r : Fin 4096) (k : Fin 1024) : Real' (x (ix3 0 r k)) := by
  have e := congrFun h (ix3 0 r k)
  refine ⟨_, Cert.AttnValue.real_of_finite _ ?_⟩
  revert e
  unfold Cert.Pre_ffn_finite.fn
  pointwise
  exact id

theorem finite1 (h : (Cert.Pre_ffn_finite.fn (F := Ideal) x g wg wu wd ct).2.1 = (fun _ => 1#1)) (k : Fin 1024) : Real' (g (ix2 0 k)) := by
  have e := congrFun h (ix2 0 k)
  refine ⟨_, Cert.AttnValue.real_of_finite _ ?_⟩
  revert e
  unfold Cert.Pre_ffn_finite.fn
  pointwise
  exact id

theorem finite3 (h : (Cert.Pre_ffn_finite.fn (F := Ideal) x g wg wu wd ct).2.2.1 = (fun _ => 1#1)) (k : Fin 1024) (f : Fin 2816) : Real' (wu (ix3 0 k f)) := by
  have e := congrFun h (ix3 0 k f)
  refine ⟨_, Cert.AttnValue.real_of_finite _ ?_⟩
  revert e
  unfold Cert.Pre_ffn_finite.fn
  pointwise
  exact id

theorem finite4 (h : (Cert.Pre_ffn_finite.fn (F := Ideal) x g wg wu wd ct).2.2.2.1 = (fun _ => 1#1)) (f : Fin 2816) (k : Fin 1024) : Real' (wd (ix3 0 f k)) := by
  have e := congrFun h (ix3 0 f k)
  refine ⟨_, Cert.AttnValue.real_of_finite _ ?_⟩
  revert e
  unfold Cert.Pre_ffn_finite.fn
  pointwise
  exact id

theorem finite5 (h : (Cert.Pre_ffn_finite.fn (F := Ideal) x g wg wu wd ct).2.2.2.2 = (fun _ => 1#1)) (r : Fin 4096) (k : Fin 1024) : Real' (ct (ix3 0 r k)) := by
  have e := congrFun h (ix3 0 r k)
  refine ⟨_, Cert.AttnValue.real_of_finite _ ?_⟩
  revert e
  unfold Cert.Pre_ffn_finite.fn
  pointwise
  exact id

/-- With finite arguments the cotangent of the gated product times the gate's partner is real. -/
theorem partner_real (hx : ∀ r k, Real' (x (ix3 0 r k))) (hg : ∀ k, Real' (g (ix2 0 k))) (hu : ∀ k f, Real' (wu (ix3 0 k f)))
    (hd : ∀ f k, Real' (wd (ix3 0 f k))) (hc : ∀ r k, Real' (ct (ix3 0 r k))) (r : Fin 4096) (f : Fin 2816) :
    Real' (dact wd ct r f * proj x g wu r f) :=
  .mul (.sum fun k => (hc r k).mul (hd f k)) (.sum fun k => (((hx r k).mul (.rr (hx r))).mul (hg k)).mul (hu k f))

/-! ## The claims -/

/-- The reference's run, its six results named. -/
theorem run_reference (m : (ℓ : Loc ReferenceFfnIdeal.nD ReferenceFfnIdeal.τ ReferenceFfnIdeal.sig) → Buf (Elt Ideal) ℓ)
    (g : Dev ReferenceFfnIdeal.nD → PrngReg) :
    θ_run (ReferenceFfnIdeal.defs (F := Ideal)) (onTc (τ := ReferenceFfnIdeal.τ) (ReferenceFfnIdeal.main (F := Ideal)))
      ⟨m, fun _ => 0, g⟩ (fun r => ∀ c : Dev ReferenceFfnIdeal.nD,
        r.2.mem ((c.tc : Thread ReferenceFfnIdeal.nD ReferenceFfnIdeal.τ).loc ReferenceFfnIdeal.main_v83)
          = val_main_v83 (F := Ideal) (m ((c.tc : Thread ReferenceFfnIdeal.nD ReferenceFfnIdeal.τ).loc ReferenceFfnIdeal.main_arg0))
            (m ((c.tc : Thread ReferenceFfnIdeal.nD ReferenceFfnIdeal.τ).loc ReferenceFfnIdeal.main_arg1))
            (m ((c.tc : Thread ReferenceFfnIdeal.nD ReferenceFfnIdeal.τ).loc ReferenceFfnIdeal.main_arg2))
            (m ((c.tc : Thread ReferenceFfnIdeal.nD ReferenceFfnIdeal.τ).loc ReferenceFfnIdeal.main_arg3))
            (m ((c.tc : Thread ReferenceFfnIdeal.nD ReferenceFfnIdeal.τ).loc ReferenceFfnIdeal.main_arg4))
            (m ((c.tc : Thread ReferenceFfnIdeal.nD ReferenceFfnIdeal.τ).loc ReferenceFfnIdeal.main_arg5))
        ∧ r.2.mem ((c.tc : Thread ReferenceFfnIdeal.nD ReferenceFfnIdeal.τ).loc ReferenceFfnIdeal.main_v85)
          = val_main_v85 (F := Ideal) (m ((c.tc : Thread ReferenceFfnIdeal.nD ReferenceFfnIdeal.τ).loc ReferenceFfnIdeal.main_arg0))
            (m ((c.tc : Thread ReferenceFfnIdeal.nD ReferenceFfnIdeal.τ).loc ReferenceFfnIdeal.main_arg1))
            (m ((c.tc : Thread ReferenceFfnIdeal.nD ReferenceFfnIdeal.τ).loc ReferenceFfnIdeal.main_arg2))
            (m ((c.tc : Thread ReferenceFfnIdeal.nD ReferenceFfnIdeal.τ).loc ReferenceFfnIdeal.main_arg3))
            (m ((c.tc : Thread ReferenceFfnIdeal.nD ReferenceFfnIdeal.τ).loc ReferenceFfnIdeal.main_arg4))
            (m ((c.tc : Thread ReferenceFfnIdeal.nD ReferenceFfnIdeal.τ).loc ReferenceFfnIdeal.main_arg5))
        ∧ r.2.mem ((c.tc : Thread ReferenceFfnIdeal.nD ReferenceFfnIdeal.τ).loc ReferenceFfnIdeal.main_v87)
          = val_main_v87 (F := Ideal) (m ((c.tc : Thread ReferenceFfnIdeal.nD ReferenceFfnIdeal.τ).loc ReferenceFfnIdeal.main_arg0))
            (m ((c.tc : Thread ReferenceFfnIdeal.nD ReferenceFfnIdeal.τ).loc ReferenceFfnIdeal.main_arg1))
            (m ((c.tc : Thread ReferenceFfnIdeal.nD ReferenceFfnIdeal.τ).loc ReferenceFfnIdeal.main_arg2))
            (m ((c.tc : Thread ReferenceFfnIdeal.nD ReferenceFfnIdeal.τ).loc ReferenceFfnIdeal.main_arg3))
            (m ((c.tc : Thread ReferenceFfnIdeal.nD ReferenceFfnIdeal.τ).loc ReferenceFfnIdeal.main_arg4))
            (m ((c.tc : Thread ReferenceFfnIdeal.nD ReferenceFfnIdeal.τ).loc ReferenceFfnIdeal.main_arg5))
        ∧ r.2.mem ((c.tc : Thread ReferenceFfnIdeal.nD ReferenceFfnIdeal.τ).loc ReferenceFfnIdeal.main_v89)
          = val_main_v89 (F := Ideal) (m ((c.tc : Thread ReferenceFfnIdeal.nD ReferenceFfnIdeal.τ).loc ReferenceFfnIdeal.main_arg0))
            (m ((c.tc : Thread ReferenceFfnIdeal.nD ReferenceFfnIdeal.τ).loc ReferenceFfnIdeal.main_arg1))
            (m ((c.tc : Thread ReferenceFfnIdeal.nD ReferenceFfnIdeal.τ).loc ReferenceFfnIdeal.main_arg2))
            (m ((c.tc : Thread ReferenceFfnIdeal.nD ReferenceFfnIdeal.τ).loc ReferenceFfnIdeal.main_arg4))
            (m ((c.tc : Thread ReferenceFfnIdeal.nD ReferenceFfnIdeal.τ).loc ReferenceFfnIdeal.main_arg5))
        ∧ r.2.mem ((c.tc : Thread ReferenceFfnIdeal.nD ReferenceFfnIdeal.τ).loc ReferenceFfnIdeal.main_v93)
          = val_main_v93 (F := Ideal) (m ((c.tc : Thread ReferenceFfnIdeal.nD ReferenceFfnIdeal.τ).loc ReferenceFfnIdeal.main_arg0))
            (m ((c.tc : Thread ReferenceFfnIdeal.nD ReferenceFfnIdeal.τ).loc ReferenceFfnIdeal.main_arg1))
            (m ((c.tc : Thread ReferenceFfnIdeal.nD ReferenceFfnIdeal.τ).loc ReferenceFfnIdeal.main_arg2))
            (m ((c.tc : Thread ReferenceFfnIdeal.nD ReferenceFfnIdeal.τ).loc ReferenceFfnIdeal.main_arg3))
        ∧ r.2.mem ((c.tc : Thread ReferenceFfnIdeal.nD ReferenceFfnIdeal.τ).loc ReferenceFfnIdeal.main_v94)
          = val_main_v94 (F := Ideal) (m ((c.tc : Thread ReferenceFfnIdeal.nD ReferenceFfnIdeal.τ).loc ReferenceFfnIdeal.main_arg0))
            (m ((c.tc : Thread ReferenceFfnIdeal.nD ReferenceFfnIdeal.τ).loc ReferenceFfnIdeal.main_arg1))
            (m ((c.tc : Thread ReferenceFfnIdeal.nD ReferenceFfnIdeal.τ).loc ReferenceFfnIdeal.main_arg2))
            (m ((c.tc : Thread ReferenceFfnIdeal.nD ReferenceFfnIdeal.τ).loc ReferenceFfnIdeal.main_arg3))
            (m ((c.tc : Thread ReferenceFfnIdeal.nD ReferenceFfnIdeal.τ).loc ReferenceFfnIdeal.main_arg4))
            (m ((c.tc : Thread ReferenceFfnIdeal.nD ReferenceFfnIdeal.τ).loc ReferenceFfnIdeal.main_arg5))) :=
  (θ_run _ _ _).mono (fun r h c =>
    ⟨(h c).1.trans (val_main_v83_eq m c), (h c).2.1.trans (val_main_v85_eq m c), (h c).2.2.1.trans (val_main_v87_eq m c),
      (h c).2.2.2.1.trans (val_main_v89_eq _ _ _ _ _), (h c).2.2.2.2.1.trans (val_main_v93_eq _ _ _ _), (h c).2.2.2.2.2.1.trans (val_main_v94_eq m c)⟩)
    (Cert.ReferenceFfnIdeal.Value.run m g)

/-- The reference ends with its arguments unchanged; it has no semaphores. -/
theorem frame_reference : Cert.quiescent_ReferenceFfnIdeal := fun m g _ =>
  (θ_run Cert.ReferenceFfnIdeal.defs _ _).mono
    (fun r h => ⟨fun c => (h c).2.2.2.2.2.2, sem_eq_zero_of_no_sems rfl r.2⟩) (Cert.ReferenceFfnIdeal.Value.run m g)

set_option maxHeartbeats 1000000 in
/-- The kernel's frame on floats: the same run, read at the float words. -/
theorem frame_kernel : Cert.quiescent_KernelFfn (hKernelFfn := Cert.KernelFfn.Gen.facts) := fun m ρ _ =>
  cast (by sl_kernel_rfl) (frame (F := Bits) m ρ)

set_option maxHeartbeats 2000000 in
/-- The call computes the gradients that the reference computes. -/
theorem algebraic : Cert.algebraic_KernelFfnIdeal_ReferenceFfnIdeal_pre_ffn_finite := by
  pair_intro
  · run_from run_main m g
  · run_from run_reference m' g' & frame_reference m' g' trivial
    all_goals
      obtain ⟨h0, h1, h3, h4, h5⟩ := hpre c
      have h := partner_real (finite0 h0) (finite1 h1) (finite3 h3) (finite4 h4) (finite5 h5)
    · refine (out8 (m := m) (c := c) ⟨rfl, rfl, rfl, rfl, rfl, rfl⟩ _ fun r k => ?_).symm
      pointwise [val_main_v83, r55 _ _ _ _ _ _ h (finite0 h0)]
    · refine (out9 (m := m) (c := c) ⟨rfl, rfl, rfl, rfl, rfl, rfl⟩ _ fun r k => ?_).symm
      pointwise [val_main_v85, val_main_v84, r55 _ _ _ _ _ _ h (finite0 h0)]
    · refine (out10 (m := m) (c := c) ⟨rfl, rfl, rfl, rfl, rfl, rfl⟩ _ fun r k => ?_).symm
      pointwise [val_main_v87, val_main_v86, r82 _ _ _ _ _ _ h]
    · refine (out11 (m := m) (c := c) ⟨rfl, rfl, rfl, rfl, rfl, rfl⟩ _ fun r k => ?_).symm
      pointwise [val_main_v89, val_main_v88, r80 _ _ _ _ _]
    · refine (out12 (m := m) (c := c) ⟨rfl, rfl, rfl, rfl, rfl, rfl⟩ _ fun r k => ?_).symm
      pointwise [val_main_v93, val_main_v92, val_main_v91, s90 _ _ _, r74 _ _ _]
    · exact (out13 (m := m) (c := c) ⟨rfl, rfl, rfl, rfl, rfl, rfl⟩ _ fun r k => r94 _ _ _ _ _ _ h r k).symm

end Cert.Ffn

end
-- ==== Proof.InMath.lean ====
/- What the in-projection's backward call computes, entry by entry, as functions of the reference's arrays. -/
module

public import proofs.«01_k».proof.Proof.Rms
public import Idealize.ShloMosaic.Lib.ValueIdx

@[expose] public section

noncomputable section

namespace Cert.In

open Idealize.ShloMosaic Cert.Rms

/-- One lane of the derivative of the rotary embedding, of a row `d` of cotangents with heads of 64 lanes, at the angles whose
    cosines and sines are `C` and `S`. -/
def rope (d C S : ℕ → EReal) (l : ℕ) : EReal :=
  if l % 64 < 32 then d (l + 32) * S l + d l * C l else d l * C l + -(d (l - 32)) * S l

/-- A row of heads, its lanes side by side. -/
def heads {n : ℕ} (d : (⟨4, ![1, 4096, n, 64]⟩ : Shape).Idx → EReal) (r : Fin 4096) (l : ℕ) : EReal :=
  if h : l / 64 < n then d (ix4 0 r ⟨l / 64, h⟩ ⟨l % 64, Nat.mod_lt _ (by norm_num)⟩) else 0

/-- A row of a table of 32 angles, repeated. -/
def angle (T : (⟨2, ![4096, 32]⟩ : Shape).Idx → EReal) (r : Fin 4096) (e : ℕ) : EReal := T (ix2 r ⟨e % 32, Nat.mod_lt _ (by norm_num)⟩)

theorem heads_at {n : ℕ} (d : (⟨4, ![1, 4096, n, 64]⟩ : Shape).Idx → EReal) (r : Fin 4096) (a : Fin n) (b : Fin 64) (l : ℕ)
    (h : l = 64 * a.val + b.val) : d (ix4 0 r a b) = heads d r l := by
  have h1 : l / 64 = a.val := by omega
  have h2 : l % 64 = b.val := by omega
  unfold heads
  rw [dif_pos (h1 ▸ a.isLt)]
  exact congrArg₂ (fun p q => d (ix4 0 r p q)) (Fin.ext h1.symm) (Fin.ext h2.symm)

theorem angle_at (T : (⟨2, ![4096, 32]⟩ : Shape).Idx → EReal) (r : Fin 4096) (e : Fin 32) (l : ℕ) (h : l % 32 = e.val) :
    T (ix2 r e) = angle T r l := by
  unfold angle
  exact congrArg (fun p => T (ix2 r p)) (Fin.ext h.symm)

theorem angle_mod (T : (⟨2, ![4096, 32]⟩ : Shape).Idx → EReal) (r : Fin 4096) {l l' : ℕ} (h : l % 32 = l' % 32) :
    angle T r l = angle T r l' := by
  unfold angle
  exact congrArg (fun p => T (ix2 r p)) (Fin.ext h)

variable (x : (⟨3, ![1, 4096, 1024]⟩ : Shape).Idx → EReal) (g : (⟨2, ![1, 1024]⟩ : Shape).Idx → EReal)
  (w : (⟨3, ![1, 1024, 1792]⟩ : Shape).Idx → EReal) (dglu : (⟨2, ![4096, 1024]⟩ : Shape).Idx → EReal)
  (dq : (⟨4, ![1, 4096, 8, 64]⟩ : Shape).Idx → EReal) (dk dv : (⟨4, ![1, 4096, 2, 64]⟩ : Shape).Idx → EReal)
  (dx1 : (⟨3, ![1, 4096, 1024]⟩ : Shape).Idx → EReal) (C S : (⟨2, ![4096, 32]⟩ : Shape).Idx → EReal)

/-- The cotangent of the attention's part of the projection. -/
def datt (r : Fin 4096) (l : ℕ) : EReal :=
  if l < 512 then rope (heads dq r) (angle C r) (angle S r) l
  else if l < 640 then rope (heads dk r) (angle C r) (angle S r) (l - 512) else heads dv r (l - 640)
/-- The cotangent of the whole projection. -/
def du (r : Fin 4096) (l : Fin 1792) : EReal :=
  if h : l.val < 1024 then dglu (ix2 r ⟨l, h⟩) else datt dq dk dv C S r (l - 1024)
/-- The cotangent of the normalised input. -/
def dh (r : Fin 4096) (k : Fin 1024) : EReal := ∑ l : Fin 1792, du dglu dq dk dv C S r l * w (ix3 0 k l)
/-- One row of the input. -/
def row (r : Fin 4096) : Fin 1024 → EReal := fun k => x (ix3 0 r k)
/-- The cotangent of the normalised input, times the gain. -/
def dhg (r : Fin 4096) (k : Fin 1024) : EReal := dh w dglu dq dk dv C S r k * g (ix2 0 k)
/-- The gradient of the input: the residual's cotangent and the norm's. -/
def dx (r : Fin 4096) (k : Fin 1024) : EReal :=
  dx1 (ix3 0 r k) + rr (row x r) * (dhg g w dglu dq dk dv C S r k
    - row x r k * rr (row x r) * Ideal.div (∑ l, dhg g w dglu dq dk dv C S r l * (row x r l * rr (row x r))) (Ideal.ofBits .f32 0x44800000#32))
/-- The gradient of the gain. -/
def dgain (k : Fin 1024) : EReal := ∑ r : Fin 4096, dh w dglu dq dk dv C S r k * (x (ix3 0 r k) * rr (row x r))
/-- The gradient of the bias, in the attention's part. -/
def dbias (l : ℕ) : EReal := ∑ r : Fin 4096, datt dq dk dv C S r l

end Cert.In

end
-- ==== Proof.InRef.lean ====
/- The in-projection's backward call: the reference's values, entry by entry. -/
module

public import proofs.«01_k».proof.Proof.Gen.ReferenceInIdeal.Read
public import proofs.«01_k».proof.Proof.InMath
public import proofs.«01_k».proof.Proof.Sums

@[expose] public section

set_option maxRecDepth 16384

noncomputable section

namespace Cert.In

open Cert.ReferenceInIdeal Idealize.ShloMosaic Idealize.ShloMosaic.TcCoe
open Cert.ReferenceInIdeal.Read Cert.Rms

variable (x : S1x4096x1024.Idx → EReal) (g : S1x1024.Idx → EReal) (w : S1x1024x1792.Idx → EReal) (dglu : S4096x1024.Idx → EReal)
  (dq : S1x4096x8x64.Idx → EReal) (dk dv : S1x4096x2x64.Idx → EReal) (dx1 : S1x4096x1024.Idx → EReal)

/-- The tables of cosines and sines. -/
abbrev cosT : S4096x32.Idx → EReal := val_main_v39 (F := Ideal)
abbrev sinT : S4096x32.Idx → EReal := val_main_v40 (F := Ideal)

/-- A position times one of the frequencies. -/
def phase (r : Fin 4096) (e : ℕ) : EReal :=
  (FloatOps.sitofp (F := Ideal) FTy.f32 (BitVec.ofNat 32 r.val) : EReal) * Ideal.pow (Ideal.ofBits FTy.f32 1176256512#32)
    (Ideal.div (-(Ideal.ofBits FTy.f32 1073741824#32 * (FloatOps.sitofp (F := Ideal) FTy.f32 (BitVec.ofNat 32 e) : EReal)))
      (Ideal.ofBits FTy.f32 1115684864#32))

theorem cos_at (r : Fin 4096) (e : Fin 32) : cosT (ix2 r e) = Ideal.cos (phase r e) := by
  pointwise [val_main_v39, val_main_v38, val_main_v37, val_main_v36, val_main_v35, val_main_v34, val_main_v33, val_main_v32, val_main_cst_6, val_main_v31, val_main_v30, val_main_cst_5, val_main_v29, val_main_v28, val_main_v27, val_main_cst_4, val_main_v26, val_main_v25, val_main_cst_3, val_main_v24, val_main_v23]
  rfl
theorem sin_at (r : Fin 4096) (e : Fin 32) : sinT (ix2 r e) = Ideal.sin (phase r e) := by
  pointwise [val_main_v40, val_main_v38, val_main_v37, val_main_v36, val_main_v35, val_main_v34, val_main_v33, val_main_v32, val_main_cst_6, val_main_v31, val_main_v30, val_main_cst_5, val_main_v29, val_main_v28, val_main_v27, val_main_cst_4, val_main_v26, val_main_v25, val_main_cst_3, val_main_v24, val_main_v23]
  rfl

theorem r109 (r : Fin 4096) (l : Fin 512) :
    val_main_v109 (F := Ideal) dq (ix3 0 r l) = rope (heads dq r) (angle cosT r) (angle sinT r) l := by
  have hl := l.isLt
  pointwise [val_main_v109, val_main_v108, val_main_v107, val_main_v106, val_main_v105, val_main_v104, val_main_v103, val_main_v102, val_main_v101, val_main_v100, val_main_v99, val_main_v98, val_main_v97, val_main_v96, val_main_v95, val_main_v49, val_main_v48]
  unfold rope
  by_cases h : l.val % 64 < 32
  · rw [dif_pos h, if_pos h]
    exact congrArg₂ (· + ·) (congrArg₂ (· * ·) (heads_at _ _ _ _ _ (by (try simp only); omega)) (angle_at _ _ _ _ (by (try simp only); omega)))
      (congrArg₂ (· * ·) (heads_at _ _ _ _ _ (by (try simp only); omega)) (angle_at _ _ _ _ (by (try simp only); omega)))
  · rw [dif_neg h, if_neg h]
    exact congrArg₂ (· + ·) (congrArg₂ (· * ·) (heads_at _ _ _ _ _ (by (try simp only); omega)) (angle_at _ _ _ _ (by (try simp only); omega)))
      (congrArg₂ (· * ·) (congrArg (-·) (heads_at _ _ _ _ _ (by (try simp only); omega))) (angle_at _ _ _ _ (by (try simp only); omega)))

theorem r94 (r : Fin 4096) (l : Fin 128) :
    val_main_v94 (F := Ideal) dk (ix3 0 r l) = rope (heads dk r) (angle cosT r) (angle sinT r) l := by
  have hl := l.isLt
  pointwise [val_main_v94, val_main_v93, val_main_v92, val_main_v91, val_main_v90, val_main_v89, val_main_v88, val_main_v87, val_main_v86, val_main_v85, val_main_v84, val_main_v83, val_main_v82, val_main_v81, val_main_v80, val_main_v65, val_main_v64]
  unfold rope
  by_cases h : l.val % 64 < 32
  · rw [dif_pos h, if_pos h]
    exact congrArg₂ (· + ·) (congrArg₂ (· * ·) (heads_at _ _ _ _ _ (by (try simp only); omega)) (angle_at _ _ _ _ (by (try simp only); omega)))
      (congrArg₂ (· * ·) (heads_at _ _ _ _ _ (by (try simp only); omega)) (angle_at _ _ _ _ (by (try simp only); omega)))
  · rw [dif_neg h, if_neg h]
    exact congrArg₂ (· + ·) (congrArg₂ (· * ·) (heads_at _ _ _ _ _ (by (try simp only); omega)) (angle_at _ _ _ _ (by (try simp only); omega)))
      (congrArg₂ (· * ·) (congrArg (-·) (heads_at _ _ _ _ _ (by (try simp only); omega))) (angle_at _ _ _ _ (by (try simp only); omega)))

theorem r110 (r : Fin 4096) (l : Fin 1792) :
    val_main_v110 (F := Ideal) dglu dq dk dv (ix3 0 r l) = du dglu dq dk dv cosT sinT r l := by
  have hl := l.isLt
  pointwise [val_main_v110, val_main_v78, val_main_v79, r109 dq, r94 dk]
  unfold du datt
  split_ifs with h1 h2 h3 h4 h5 <;> try omega
  all_goals first | rfl | skip
  refine Eq.trans ?_ (if_neg (show ¬(l.val - 1024 < 640) by omega)).symm
  exact heads_at dv r _ _ _ (by (try simp only); omega)

theorem r8 (r : Fin 4096) : val_main_v8 (F := Ideal) x (ix3 0 r 0) = rr (row x r) := by
  pointwise [val_main_v8, val_main_v7, val_main_v6, val_main_cst_1, val_main_v5, val_main_v4, val_main_cst_0, val_main_v3, val_main_v2, val_main_cst, val_main_v1]
  rfl

theorem r115 (r : Fin 4096) (k : Fin 1024) :
    val_main_v115 (F := Ideal) w dglu dq dk dv (ix3 0 r k) = dh w dglu dq dk dv cosT sinT r k := by
  pointwise [val_main_v115, val_main_v17, r110 dglu dq dk dv]
  rfl

theorem r120 (r : Fin 4096) (k : Fin 1024) :
    val_main_v120 (F := Ideal) g w dglu dq dk dv (ix3 0 r k) = dhg g w dglu dq dk dv cosT sinT r k := by
  pointwise [val_main_v120, val_main_v119, val_main_v14, val_main_v0, r115 w dglu dq dk dv]
  rfl

/-- The input's gradient. -/
theorem r140 (hx : ∀ r k, Real' (x (ix3 0 r k))) (r : Fin 4096) (k : Fin 1024) :
    val_main_v140 (F := Ideal) x g w dglu dq dk dv dx1 (ix2 r k) = dx x g w dglu dq dk dv dx1 cosT sinT r k := by
  have b := back (row x r) (hx r) (fun k => dhg g w dglu dq dk dv cosT sinT r k) k
  pointwise [val_main_v140, val_main_v139, val_main_v138, val_main_v136, val_main_v135, val_main_v134, val_main_v133, val_main_v132, val_main_v131, val_main_v130, val_main_v129, val_main_v128, val_main_v127, val_main_v126, val_main_v125, val_main_v124, val_main_v123, val_main_v122, val_main_cst_13, val_main_cst_12, val_main_cst_11, val_main_v11, val_main_v10, val_main_cst_2, val_main_v9, val_main_v7, val_main_v6, val_main_cst_1, val_main_v5, val_main_v4, val_main_cst_0, val_main_v3, val_main_v2, val_main_cst, val_main_v1, r8 x, r120 g w dglu dq dk dv, Cert.Sums.hostReduceAdd_r3_a02]
  rw [Cert.Sums.sum_one, Cert.Sums.sum_one, r8 x]
  refine Eq.trans ?_ (congrArg (dx1 (ix3 0 r k) + ·) b.symm)
  rfl

/-- The gain's gradient. -/
theorem r143 (r : Fin 8) (k : Fin 1024) : val_main_v143 (F := Ideal) x w dglu dq dk dv (ix2 r k) = dgain x w dglu dq dk dv cosT sinT k := by
  pointwise [val_main_v143, val_main_v137, val_main_v121, val_main_cst_10, val_main_v118, val_main_v117, val_main_cst_9, val_main_v116, val_main_v13, val_main_v12, r8 x, r115 w dglu dq dk dv, Cert.Sums.hostReduceAdd_r3_a01]
  rw [Cert.Sums.sum_one, Cert.Sums.sum_one]
  exact Cert.Sums.sum_ext fun q => EReal.mul_comm _ _

/-- The bias's gradient. -/
theorem r145 (r : Fin 8) (l : Fin 768) : val_main_v145 (F := Ideal) dglu dq dk dv (ix2 r l) = dbias dq dk dv cosT sinT l := by
  have hl := l.isLt
  pointwise [val_main_v145, val_main_v144, val_main_v114, val_main_v113, val_main_cst_8, val_main_v112, val_main_v111, val_main_cst_7, r110 dglu dq dk dv, Cert.Sums.hostReduceAdd_r3_a01]
  rw [Cert.Sums.sum_one]
  simp only [Cert.Sums.sum_one]
  refine Cert.Sums.sum_ext fun q => ?_
  unfold du
  rw [dif_neg (by (try simp only); omega)]
  exact congrArg (datt dq dk dv cosT sinT q) (by (try simp only); omega)

end Cert.In

end
-- ==== Proof.InValue.lean ====
/- The in-projection's backward call: what it leaves in its four results is what the derivative of the reference's
   forward lines computes. -/
module

public import proofs.«01_k».proof.Proof.Gen.KernelInIdeal.Frame
public import proofs.«01_k».proof.Proof.Gen.KernelIn
public import proofs.«01_k».proof.Proof.Gen.Pre_x_finite
public import proofs.«01_k».proof.Proof.Gen.ReferenceInIdeal.Run
public import proofs.«01_k».proof.Proof.InRef
public import proofs.«01_k».proof.Proof.AttnValue
public import proofs.«01_k».proof.Defs

@[expose] public section

set_option maxRecDepth 16384

noncomputable section

namespace Cert.In

open Cert.KernelInIdeal Cert.KernelInIdeal.Gen Idealize.ShloMosaic Idealize.ShloMosaic.TcCoe Idealize.SL.Sem
open Idealize.ShloMosaic.Pipeline (Dat)
open Cert.ReferenceInIdeal.Read Cert.Rms

variable (m : (ℓ : Loc nD τ sig) → Buf (Elt Ideal) ℓ)

/-- The windows' block numbers at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0] ∧ win0_9.index t = ![0, 0] ∧ win0_10.index t = ![t.val, 0]
    ∧ win0_11.index t = ![t.val, 0] ∧ win0_12.index t = ![0, 0] ∧ win0_13.index t = ![0, 0] :=
  (by decide +kernel : ∀ t : Fin grid0.N, _)

theorem lt8 (t : Fin cfg0.N) : t.val < 8 := lt_of_lt_of_eq t.isLt (show cfg0.N = 8 from N_0)

/-- The block's row `r` at the point `t`, in the whole array. -/
def at_ (t : Fin cfg0.N) (r : Fin 512) : Fin 4096 := ⟨512 * t.val + r.val, by have := lt8 t; have := r.isLt; omega⟩

variable {x : S1x4096x1024.Idx → EReal} {g : S1x1024.Idx → EReal} {w : S1x1024x1792.Idx → EReal} {dglu : S4096x1024.Idx → EReal}
  {dq : S1x4096x8x64.Idx → EReal} {dk dv : S1x4096x2x64.Idx → EReal} {dx1 : S1x4096x1024.Idx → EReal}

theorem blk0 (c : Dev nD) (t : Fin cfg0.N) (r : Fin 512) (k : Fin 1024) :
    iblk m c 0 t (ix2 r k) = m ((c : Thread nD τ).loc main_arg4) (ix2 (at_ t r) k) := by
  have ht := lt8 t
  have h : iblk m c 0 t (ix2 r k) = V m c main_v27 (ix2 (at_ t r) k) := by blk_point [iblk, idx t, at_]
  rw [h]
  entry_read
  pointwise

theorem blk1 (c : Dev nD) (t : Fin cfg0.N) (r : Fin 512) (k : Fin 512) :
    iblk m c 1 t (ix2 r k) = heads (m ((c : Thread nD τ).loc main_arg5) : S1x4096x8x64.Idx → EReal) (at_ t r) k := by
  have ht := lt8 t
  have h : iblk m c 1 t (ix2 r k) = V m c main_v28 (ix2 (at_ t r) k) := by blk_point [iblk, idx t, at_]
  rw [h]
  have hk := k.isLt
  entry_read
  pointwise
  exact (heads_at _ _ _ _ _ (by (try simp only); omega))

theorem blk2 (c : Dev nD) (t : Fin cfg0.N) (r : Fin 512) (k : Fin 128) :
    iblk m c 2 t (ix2 r k) = heads (m ((c : Thread nD τ).loc main_arg6) : S1x4096x2x64.Idx → EReal) (at_ t r) k := by
  have ht := lt8 t
  have h : iblk m c 2 t (ix2 r k) = V m c main_v29 (ix2 (at_ t r) k) := by blk_point [iblk, idx t, at_]
  rw [h]
  have hk := k.isLt
  entry_read
  pointwise
  exact (heads_at _ _ _ _ _ (by (try simp only); omega))

theorem blk3 (c : Dev nD) (t : Fin cfg0.N) (r : Fin 512) (k : Fin 128) :
    iblk m c 3 t (ix2 r k) = heads (m ((c : Thread nD τ).loc main_arg7) : S1x4096x2x64.Idx → EReal) (at_ t r) k := by
  have ht := lt8 t
  have h : iblk m c 3 t (ix2 r k) = V m c main_v30 (ix2 (at_ t r) k) := by blk_point [iblk, idx t, at_]
  rw [h]
  have hk := k.isLt
  entry_read
  pointwise
  exact (heads_at _ _ _ _ _ (by (try simp only); omega))

theorem blk4 (c : Dev nD) (t : Fin cfg0.N) (r : Fin 512) (k : Fin 128) :
    iblk m c 4 t (ix2 r k) = angle cosT (at_ t r) k := by
  have ht := lt8 t
  have h : iblk m c 4 t (ix2 r k) = V m c main_v21 (ix2 (at_ t r) k) := by blk_point [iblk, idx t, at_]
  rw [h]
  generalize at_ t r = q
  entry_read
  pointwise
  by_cases hh : k.val % 64 < 32
  · rw [dif_pos hh]
    exact (cos_at q ⟨k.val % 64, hh⟩).symm.trans (angle_at _ _ _ _ (by (try simp only); omega))
  · rw [dif_neg hh]
    exact (cos_at q ⟨k.val % 64 - 32, by omega⟩).symm.trans (angle_at _ _ _ _ (by (try simp only); omega))

theorem blk5 (c : Dev nD) (t : Fin cfg0.N) (r : Fin 512) (k : Fin 128) :
    iblk m c 5 t (ix2 r k) = (if k.val % 64 < 32 then -angle sinT (at_ t r) k else angle sinT (at_ t r) k : EReal) := by
  have ht := lt8 t
  have h : iblk m c 5 t (ix2 r k) = V m c main_v26 (ix2 (at_ t r) k) := by blk_point [iblk, idx t, at_]
  rw [h]
  generalize at_ t r = q
  entry_read
  pointwise
  by_cases hh : k.val % 64 < 32
  · rw [dif_pos hh, if_pos hh]
    exact congrArg (fun y : EReal => -y) ((sin_at q ⟨k.val % 64, hh⟩).symm.trans (angle_at _ _ _ _ (by (try simp only); omega)))
  · rw [dif_neg hh, if_neg hh]
    exact (sin_at q ⟨k.val % 64 - 32, by omega⟩).symm.trans (angle_at _ _ _ _ (by (try simp only); omega))

theorem blk6 (c : Dev nD) (t : Fin cfg0.N) (r : Fin 512) (k : Fin 1024) :
    iblk m c 6 t (ix2 r k) = m ((c : Thread nD τ).loc main_arg0) (ix3 0 (at_ t r) k) := by
  have ht := lt8 t
  have h : iblk m c 6 t (ix2 r k) = V m c main_v31 (ix2 (at_ t r) k) := by blk_point [iblk, idx t, at_]
  rw [h]
  entry_read
  pointwise

theorem blk7 (c : Dev nD) (t : Fin cfg0.N) (r : Fin 512) (k : Fin 1024) :
    iblk m c 7 t (ix2 r k) = m ((c : Thread nD τ).loc main_arg8) (ix3 0 (at_ t r) k) := by
  have ht := lt8 t
  have h : iblk m c 7 t (ix2 r k) = V m c main_v32 (ix2 (at_ t r) k) := by blk_point [iblk, idx t, at_]
  rw [h]
  entry_read
  pointwise

theorem blk8 (c : Dev nD) (t : Fin cfg0.N) (k : Fin 1024) : iblk m c 8 t (ix2 0 k) = m ((c : Thread nD τ).loc main_arg1) (ix2 0 k) := by
  blk_point [iblk, idx t]

theorem blk9 (c : Dev nD) (t : Fin cfg0.N) (r : Fin 1792) (k : Fin 1024) :
    iblk m c 9 t (ix2 r k) = m ((c : Thread nD τ).loc main_arg2) (ix3 0 k r) := by
  have ht := lt8 t
  have h : iblk m c 9 t (ix2 r k) = V m c main_v35 (ix2 r k) := by blk_point [iblk, idx t, at_]
  rw [h]
  entry_read
  pointwise

/-! ## The payloads -/

/-- The lanes in the first half of their head, as the call selects them. -/
theorem first_half : ∀ l : Fin 512, IntOp.cmpi CmpIPredicate.slt (IntOp.andi (BitVec.ofNat 32 l.val) 63#32) 32#32
    = if l.val % 64 < 32 then 1#1 else 0#1 := by decide +kernel

theorem select_half (n : ℕ) (h : n < 512) (a b : EReal) :
    Scalar.select (IntOp.cmpi CmpIPredicate.slt (IntOp.andi (BitVec.ofNat 32 n) 63#32) 32#32) a b = if n % 64 < 32 then a else b := by
  rw [first_half ⟨n, h⟩]
  by_cases e : n % 64 < 32
  · rw [if_pos e, if_pos e]; rfl
  · rw [if_neg e, if_neg e]; rfl

variable {b0 b6 b7 : S512x1024.Idx → EReal} {b1 : S512x512.Idx → EReal} {b2 b3 b4 b5 : S512x128.Idx → EReal} {b8 : S1x1024.Idx → EReal}
  {b9 : S1792x1024.Idx → EReal} (q : Fin 512 → Fin 4096)

/-- A table of 128 lanes, repeated. -/
theorem repeated (b : S512x128.Idx → EReal) (r : Fin 512) (f : ℕ → EReal) (hb : ∀ l : Fin 128, b (ix2 r l) = f l)
    (hf : ∀ l, f (l + 128) = f l) (n : ℕ) (hn : n < 512) :
    (if h : n < 128 then b (ix2 r ⟨n, h⟩) else if h2 : n - 128 < 128 then b (ix2 r ⟨n - 128, h2⟩)
      else if h3 : n - 128 - 128 < 128 then b (ix2 r ⟨n - 128 - 128, h3⟩) else b (ix2 r ⟨n - 128 - 128 - 128, by omega⟩)) = f n := by
  have e1 : ∀ k, f (k + 128 + 128) = f k := fun k => (hf _).trans (hf _)
  split_ifs with h h2 h3
  · exact hb _
  · exact (hb _).trans ((hf _).symm.trans (congrArg f (by (try simp only); omega)))
  · exact (hb _).trans ((hf _).symm.trans ((hf _).symm.trans (congrArg f (by (try simp only); omega))))
  · exact (hb _).trans ((hf _).symm.trans ((hf _).symm.trans ((hf _).symm.trans (congrArg f (by (try simp only); omega)))))

/-- The rotary embedding's derivative, with the partner's lane taken before the sine's sign. -/
theorem rope_split (d : ℕ → EReal) (T U : S4096x32.Idx → EReal) (r : Fin 4096) (l p1 p2 : ℕ) (h1 : l % 64 < 32 → p1 = l + 32)
    (h2 : ¬l % 64 < 32 → p2 = l - 32) :
    d l * angle T r l + (if l % 64 < 32 then d p1 * (if p1 % 64 < 32 then -angle U r p1 else angle U r p1)
      else d p2 * (if p2 % 64 < 32 then -angle U r p2 else angle U r p2)) = rope d (angle T r) (angle U r) l := by
  unfold rope
  by_cases h : l % 64 < 32
  · rw [if_pos h, if_pos h, h1 h, if_neg (by omega), angle_mod U r (l := l + 32) (l' := l) (by omega)]
    exact add_comm (G := EReal) _ _
  · rw [if_neg h, if_neg h, h2 h, if_pos (by omega), angle_mod U r (l := l - 32) (l' := l) (by omega), mul_neg, neg_mul]

set_option maxHeartbeats 1000000 in
theorem pay5 (h1 : ∀ r k, b1 (ix2 r k) = heads dq (q r) k) (h2 : ∀ r k, b2 (ix2 r k) = heads dk (q r) k)
    (h3 : ∀ r k, b3 (ix2 r k) = heads dv (q r) k) (h4 : ∀ r k, b4 (ix2 r k) = angle cosT (q r) k)
    (h5 : ∀ r (k : Fin 128), b5 (ix2 r k) = if k.val % 64 < 32 then -angle sinT (q r) k else angle sinT (q r) k) (r : Fin 512) (l : Fin 768) :
    k0_pay5 (F := Ideal) b4 b5 b1 b2 b3 (ix2 r l) = datt dq dk dv cosT sinT (q r) l := by
  have hl := l.isLt
  pointwise [k0_pay5]
  unfold datt
  by_cases a : l.val < 512
  · have hf : ∀ n, angle sinT (q r) (n + 128) = angle sinT (q r) n := fun n => angle_mod _ _ (by omega)
    have hs := repeated b5 r (fun n => if n % 64 < 32 then -angle sinT (q r) n else angle sinT (q r) n) (h5 r) fun n => by
      simp only [show (n + 128) % 64 = n % 64 by omega, hf]
    refine (dif_pos a).trans (Eq.trans ?_ (if_pos a).symm)
    rw [repeated b4 r (fun n => angle cosT (q r) n) (h4 r) (fun n => angle_mod _ _ (by omega)) l.val a]
    rw [hs ((l.val + 512 - 480) % 512) (by omega), hs ((l.val + 512 - 32) % 512) (by omega)]
    rw [select_half _ a, h1, h1, h1]
    exact rope_split _ _ _ _ l.val ((l.val + 512 - 480) % 512) ((l.val + 512 - 32) % 512) (fun h => by omega) fun h => by omega
  · by_cases b : l.val < 640
    · refine (dif_neg a).trans (Eq.trans ?_ ((if_neg a).trans (if_pos b)).symm)
      refine (dif_pos (by omega)).trans ?_
      rw [select_half _ (by omega), h2, h2, h2, h4, h5, h5]
      exact rope_split _ _ _ _ (l.val - 512) ((l.val - 512 + 128 - 96) % 128) ((l.val - 512 + 128 - 32) % 128) (fun h => by omega)
        fun h => by omega
    · refine (dif_neg a).trans (Eq.trans ?_ ((if_neg a).trans (if_neg b)).symm)
      refine (dif_neg (by omega)).trans ((h3 _ _).trans ?_)
      exact congrArg _ (by (try simp only); omega)

section Rows

variable {D : S512x768.Idx → EReal} (hD : ∀ r (l : Fin 768), D (ix2 r l) = datt dq dk dv cosT sinT (q r) l)
  (h0 : ∀ r k, b0 (ix2 r k) = dglu (ix2 (q r) k))
include hD

/-- The sum of the rows of the attention's part. -/
theorem pay6 (acc : S8x768.Idx → EReal) (a : Fin 8) (l : Fin 768) :
    k0_pay6 (F := Ideal) D acc (ix2 a l) = acc (ix2 a l) + ∑ r : Fin 512, datt dq dk dv cosT sinT (q r) l := by
  pointwise [k0_pay6, hD]

include h0

theorem pay7 (r : Fin 512) (l : Fin 1792) : k0_pay7 (F := Ideal) D b0 (ix2 r l) = du dglu dq dk dv cosT sinT (q r) l := by
  have hl := l.isLt
  pointwise [k0_pay7, hD, h0]
  rfl

theorem pay9 (h9 : ∀ l k, b9 (ix2 l k) = w (ix3 0 k l)) (r : Fin 512) (k : Fin 1024) :
    k0_pay9 (F := Ideal) D b0 b9 (ix2 r k) = dh w dglu dq dk dv cosT sinT (q r) k := by
  pointwise [k0_pay9, pay7 q hD h0, h9]
  rfl

end Rows

theorem pay11 (h6 : ∀ r k, b6 (ix2 r k) = x (ix3 0 (q r) k)) (r : Fin 512) : k0_pay11 (F := Ideal) b6 (ix2 r 0) = rr (row x (q r)) := by
  pointwise [k0_pay11, k0_pay10, h6]
  rfl

theorem pay12 (h6 : ∀ r k, b6 (ix2 r k) = x (ix3 0 (q r) k)) (r : Fin 512) (k : Fin 1024) :
    k0_pay12 (F := Ideal) b6 (ix2 r k) = x (ix3 0 (q r) k) * rr (row x (q r)) := by
  pointwise [k0_pay12, k0_pay10, pay11 q h6, h6]

section Norm

variable {D : S512x768.Idx → EReal} (h : ∀ r k, k0_pay9 (F := Ideal) D b0 b9 (ix2 r k) = dh w dglu dq dk dv cosT sinT (q r) k)
  (h6 : ∀ r k, b6 (ix2 r k) = x (ix3 0 (q r) k)) (h8 : ∀ k, b8 (ix2 0 k) = g (ix2 0 k))
include h h6

theorem pay13 (k : Fin 1024) : k0_pay13 (F := Ideal) D b0 b9 b6 (ix2 0 k)
    = ∑ r : Fin 512, dh w dglu dq dk dv cosT sinT (q r) k * (x (ix3 0 (q r) k) * rr (row x (q r))) := by
  pointwise [k0_pay13, pay12 q h6, h]

include h8

theorem pay14 (r : Fin 512) (k : Fin 1024) : k0_pay14 (F := Ideal) D b0 b9 b8 (ix2 r k) = dhg g w dglu dq dk dv cosT sinT (q r) k := by
  pointwise [k0_pay14, h, h8]
  rfl

theorem pay15 (r : Fin 512) (k : Fin 1024) : k0_pay15 (F := Ideal) D b0 b9 b6 b8 (ix2 r k)
    = dhg g w dglu dq dk dv cosT sinT (q r) k * (x (ix3 0 (q r) k) * rr (row x (q r))) := by
  pointwise [k0_pay15, pay14 q h h6 h8, pay12 q h6]

/-- The input's gradient, on the block's rows. -/
theorem pay1 (h7 : ∀ r k, b7 (ix2 r k) = dx1 (ix3 0 (q r) k)) (r : Fin 512) (k : Fin 1024) :
    k0_pay1 (F := Ideal) (k0_pay11 b6) (k0_pay12 b6) (k0_pay14 D b0 b9 b8) (k0_pay15 D b0 b9 b6 b8) b7 (ix2 r k)
      = dx x g w dglu dq dk dv dx1 cosT sinT (q r) k := by
  pointwise [k0_pay1, pay15 q h h6 h8, pay14 q h h6 h8, pay12 q h6, pay11 q h6, h7]
  rfl

end Norm

end Cert.In

end
-- ==== Proof.InOut.lean ====
/- The in-projection's backward call: its four results, and the claims about it. -/
module

public import proofs.«01_k».proof.Proof.InValue

@[expose] public section

set_option maxRecDepth 16384

noncomputable section

namespace Cert.In

open Cert.KernelInIdeal Cert.KernelInIdeal.Gen Idealize.ShloMosaic Idealize.ShloMosaic.TcCoe Idealize.SL.Sem
open Idealize.ShloMosaic.Pipeline (Dat)
open Cert.ReferenceInIdeal.Read Cert.Rms

variable {x : S1x4096x1024.Idx → EReal} {g : S1x1024.Idx → EReal} {w : S1x1024x1792.Idx → EReal} {dglu : S4096x1024.Idx → EReal}
  {dq : S1x4096x8x64.Idx → EReal} {dk dv : S1x4096x2x64.Idx → EReal} {dx1 : S1x4096x1024.Idx → EReal}

/-- The arguments of a run that the results depend on. -/
structure Holds (m : (ℓ : Loc nD τ sig) → Buf (Elt Ideal) ℓ) (c : Dev nD) (x : S1x4096x1024.Idx → EReal) (g : S1x1024.Idx → EReal)
    (w : S1x1024x1792.Idx → EReal) (dglu : S4096x1024.Idx → EReal) (dq : S1x4096x8x64.Idx → EReal) (dk dv : S1x4096x2x64.Idx → EReal)
    (dx1 : S1x4096x1024.Idx → EReal) : Prop where
  h0 : m ((c : Thread nD τ).loc main_arg0) = x
  h1 : m ((c : Thread nD τ).loc main_arg1) = g
  h2 : m ((c : Thread nD τ).loc main_arg2) = w
  h4 : m ((c : Thread nD τ).loc main_arg4) = dglu
  h5 : m ((c : Thread nD τ).loc main_arg5) = dq
  h6 : m ((c : Thread nD τ).loc main_arg6) = dk
  h7 : m ((c : Thread nD τ).loc main_arg7) = dv
  h8 : m ((c : Thread nD τ).loc main_arg8) = dx1

section Result

/-- The attention's part of the projection's cotangent, as the body holds it at a grid point. -/
abbrev attPart (m : (ℓ : Loc nD τ sig) → Buf (Elt Ideal) ℓ) (c : Dev nD) (t : Fin cfg0.N) : S512x768.Idx → EReal :=
  k0_pay5 (F := Ideal) (iblk m c 4 t) (iblk m c 5 t) (iblk m c 1 t) (iblk m c 2 t) (iblk m c 3 t)

variable {m : (ℓ : Loc nD τ sig) → Buf (Elt Ideal) ℓ} {c : Dev nD} (H : Holds m c x g w dglu dq dk dv dx1)
include H

theorem att_at (t : Fin cfg0.N) (r : Fin 512) (l : Fin 768) :
    attPart m c t (ix2 r l) = datt dq dk dv cosT sinT (at_ t r) l :=
  pay5 (at_ t) (fun r k => (blk1 m c t r k).trans (by rw [H.h5])) (fun r k => (blk2 m c t r k).trans (by rw [H.h6]))
    (fun r k => (blk3 m c t r k).trans (by rw [H.h7])) (blk4 m c t) (blk5 m c t) r l

theorem glu_at (t : Fin cfg0.N) (r : Fin 512) (k : Fin 1024) : iblk m c 0 t (ix2 r k) = dglu (ix2 (at_ t r) k) :=
  (blk0 m c t r k).trans (congrFun H.h4 _)

theorem x_at (t : Fin cfg0.N) (r : Fin 512) (k : Fin 1024) : iblk m c 6 t (ix2 r k) = x (ix3 0 (at_ t r) k) :=
  (blk6 m c t r k).trans (congrFun H.h0 _)

/-- The cotangent of the normalised rows at a grid point. -/
theorem dh_at (t : Fin cfg0.N) (r : Fin 512) (k : Fin 1024) :
    k0_pay9 (F := Ideal) (attPart m c t) (iblk m c 0 t) (iblk m c 9 t) (ix2 r k) = dh w dglu dq dk dv cosT sinT (at_ t r) k :=
  pay9 (at_ t) (att_at H t) (glu_at H t) (fun l k => (blk9 m c t l k).trans (congrFun H.h2 _)) r k

/-- The input's gradient at a grid point. -/
theorem dx_at (t : Fin cfg0.N) (r : Fin 512) (k : Fin 1024) :
    k0_pay1 (F := Ideal) (k0_pay11 (iblk m c 6 t)) (k0_pay12 (iblk m c 6 t)) (k0_pay14 (attPart m c t) (iblk m c 0 t) (iblk m c 9 t) (iblk m c 8 t))
      (k0_pay15 (attPart m c t) (iblk m c 0 t) (iblk m c 9 t) (iblk m c 6 t) (iblk m c 8 t)) (iblk m c 7 t) (ix2 r k)
      = dx x g w dglu dq dk dv dx1 cosT sinT (at_ t r) k :=
  pay1 (at_ t) (dh_at H t) (x_at H t) (fun k => (blk8 m c t k).trans (congrFun H.h1 _))
    (fun r k => (blk7 m c t r k).trans (congrFun H.h8 _)) r k

/-- What a grid point leaves of the two tiled results. -/
theorem tile10 (t : Fin cfg0.N) (r : Fin 512) (k : Fin 1024) :
    (outsAt0 m c t.val t.isLt).1 (ix2 r k) = dx x g w dglu dq dk dv dx1 cosT sinT (at_ t r) k := by
  have e := dx_at H t r k
  by_cases hz : t.val % 8 = 0
  · rw [outsAt0_A m c t hz]
    frame_out
    exact e
  · rw [outsAt0_B m c t hz]
    frame_out
    exact e

theorem tile11 (t : Fin cfg0.N) (r : Fin 512) (l : Fin 1792) :
    (outsAt0 m c t.val t.isLt).2.1 (ix2 r l) = (du dglu dq dk dv cosT sinT (at_ t r) l : EReal) := by
  have e := pay7 (at_ t) (att_at H t) (glu_at H t) r l
  by_cases hz : t.val % 8 = 0
  · rw [outsAt0_A m c t hz]
    frame_out
    pointwise [k0_pay8, e]
  · rw [outsAt0_B m c t hz]
    frame_out
    pointwise [k0_pay8, e]

theorem out10 (G : S4096x1024.Idx → EReal) (hG : ∀ r k, G (ix2 r k) = dx x g w dglu dq dk dv dx1 cosT sinT r k) :
    (dats m 0 c).arrAt 10 (cfgs 0).N = G := by
  refine (dats m 0 c).arrAt_eq_of_covers 10 _ (by decide +kernel) fun t _ y => ?_
  have ht := lt8 t
  blk_simp
  rw [after0_10]
  idx_vars y
  have he : ((View.whole main_v36_0).slice (win0_10.rect t)).emb (ix2 y0 y1) = (ix2 (at_ t y0) y1 : S4096x1024.Idx) := by
    funext a
    fin_cases a
    · refine Fin.ext ?_; blk_simp; simp [idx t, at_]; omega
    · refine Fin.ext ?_; blk_simp; simp [idx t]
  rw [he, hG]
  exact tile10 H t y0 y1

theorem out11 (G : S4096x1792.Idx → EReal) (hG : ∀ r l, G (ix2 r l) = du dglu dq dk dv cosT sinT r l) :
    (dats m 0 c).arrAt 11 (cfgs 0).N = G := by
  refine (dats m 0 c).arrAt_eq_of_covers 11 _ (by decide +kernel) fun t _ y => ?_
  have ht := lt8 t
  blk_simp
  rw [after0_11]
  idx_vars y
  have he : ((View.whole main_v36_1).slice (win0_11.rect t)).emb (ix2 y0 y1) = (ix2 (at_ t y0) y1 : S4096x1792.Idx) := by
    funext a
    fin_cases a
    · refine Fin.ext ?_; blk_simp; simp [idx t, at_]; omega
    · refine Fin.ext ?_; blk_simp; simp [idx t]
  rw [he, hG]
  exact tile11 H t y0 y1

/-- The gain's gradient, on eight equal rows: the blocks' sums, added up over the grid. -/
theorem out12 (G : S8x1024.Idx → EReal) (hG : ∀ r k, G (ix2 r k) = dgain x w dglu dq dk dv cosT sinT k) :
    (dats m 0 c).arrAt 12 (cfgs 0).N = G := by
  refine (dats m 0 c).arrAt_eq_of_after_last 12 t0_7 (by decide +kernel) _ fun j => ?_
  blk_simp
  rw [after0_12, Pipeline.eq_sum_fin_of_reset_step_apply_last (fun n h => (outsAt0 m c n h).2.2.1)
    8 (fun _ => 0)
    (fun t j => ∑ r : Fin 512, (dh w dglu dq dk dv cosT sinT (at_ t r) (j 1) * (x (ix3 0 (at_ t r) (j 1)) * rr (row x (at_ t r))) : EReal))
    (fun t h j => by
      rw [outsAt0_A m c t h]
      frame_out
      idx_vars j
      pointwise [k0_pay2, k0_pay3, pay13 (at_ t) (dh_at H t) (x_at H t)])
    (fun t h j => by
      rw [outsAt0_B m c t h]
      frame_out
      idx_vars j
      pointwise [k0_pay2, pay13 (at_ t) (dh_at H t) (x_at H t)])
    (le_of_eq N_0) t0_7 rfl j, zero_add]
  idx_vars j
  rw [hG]
  refine Fin.sum_mul_add_congr (S := 8) (n := 512) (L := 4096) fun t r hl => ?_
  have e : at_ t r = ⟨t.val * 512 + r.val, hl⟩ := Fin.ext (by simp only [at_]; omega)
  rw [e]

/-- The bias's gradient, in the attention's part, on eight equal rows. -/
theorem out13 (G : S8x768.Idx → EReal) (hG : ∀ r (l : Fin 768), G (ix2 r l) = dbias dq dk dv cosT sinT l) :
    (dats m 0 c).arrAt 13 (cfgs 0).N = G := by
  refine (dats m 0 c).arrAt_eq_of_after_last 13 t0_7 (by decide +kernel) _ fun j => ?_
  blk_simp
  rw [after0_13, Pipeline.eq_sum_fin_of_reset_step_apply_last (fun n h => (outsAt0 m c n h).2.2.2)
    8 (fun _ => 0)
    (fun t j => ∑ r : Fin 512, (datt dq dk dv cosT sinT (at_ t r) (j 1).val : EReal))
    (fun t h j => by
      rw [outsAt0_A m c t h]
      frame_out
      idx_vars j
      pointwise [k0_pay4, pay6 (at_ t) (att_at H t)])
    (fun t h j => by
      rw [outsAt0_B m c t h]
      frame_out
      idx_vars j
      pointwise [pay6 (at_ t) (att_at H t)])
    (le_of_eq N_0) t0_7 rfl j, zero_add]
  idx_vars j
  rw [hG]
  refine Fin.sum_mul_add_congr (S := 8) (n := 512) (L := 4096) fun t r hl => ?_
  have e : at_ t r = ⟨t.val * 512 + r.val, hl⟩ := Fin.ext (by simp only [at_]; omega)
  rw [e]

end Result

theorem finite {bias : S1x1792.Idx → EReal} (h : Cert.Pre_x_finite.fn (F := Ideal) x g w bias dglu dq dk dv dx1 = (fun _ => 1#1))
    (r : Fin 4096) (k : Fin 1024) : Real' (x (ix3 0 r k)) := by
  have e := congrFun h (ix3 0 r k)
  refine ⟨_, Cert.AttnValue.real_of_finite _ ?_⟩
  revert e
  unfold Cert.Pre_x_finite.fn
  pointwise
  exact id

/-! ## The claims -/

/-- The reference's run, its four results named. -/
theorem run_reference (m : (ℓ : Loc ReferenceInIdeal.nD ReferenceInIdeal.τ ReferenceInIdeal.sig) → Buf (Elt Ideal) ℓ) (g : Dev ReferenceInIdeal.nD → PrngReg) :
    θ_run (ReferenceInIdeal.defs (F := Ideal)) (onTc (τ := ReferenceInIdeal.τ) (ReferenceInIdeal.main (F := Ideal))) ⟨m, fun _ => 0, g⟩ (fun r => ∀ c : Dev ReferenceInIdeal.nD,
        r.2.mem ((c.tc : Thread ReferenceInIdeal.nD ReferenceInIdeal.τ).loc ReferenceInIdeal.main_v140)
          = val_main_v140 (F := Ideal) (m ((c.tc : Thread ReferenceInIdeal.nD ReferenceInIdeal.τ).loc ReferenceInIdeal.main_arg0))
            (m ((c.tc : Thread ReferenceInIdeal.nD ReferenceInIdeal.τ).loc ReferenceInIdeal.main_arg1))
            (m ((c.tc : Thread ReferenceInIdeal.nD ReferenceInIdeal.τ).loc ReferenceInIdeal.main_arg2))
            (m ((c.tc : Thread ReferenceInIdeal.nD ReferenceInIdeal.τ).loc ReferenceInIdeal.main_arg4))
            (m ((c.tc : Thread ReferenceInIdeal.nD ReferenceInIdeal.τ).loc ReferenceInIdeal.main_arg5))
            (m ((c.tc : Thread ReferenceInIdeal.nD ReferenceInIdeal.τ).loc ReferenceInIdeal.main_arg6))
            (m ((c.tc : Thread ReferenceInIdeal.nD ReferenceInIdeal.τ).loc ReferenceInIdeal.main_arg7))
            (m ((c.tc : Thread ReferenceInIdeal.nD ReferenceInIdeal.τ).loc ReferenceInIdeal.main_arg8))
        ∧ r.2.mem ((c.tc : Thread ReferenceInIdeal.nD ReferenceInIdeal.τ).loc ReferenceInIdeal.main_v142)
          = val_main_v142 (F := Ideal) (m ((c.tc : Thread ReferenceInIdeal.nD ReferenceInIdeal.τ).loc ReferenceInIdeal.main_arg4))
            (m ((c.tc : Thread ReferenceInIdeal.nD ReferenceInIdeal.τ).loc ReferenceInIdeal.main_arg5))
            (m ((c.tc : Thread ReferenceInIdeal.nD ReferenceInIdeal.τ).loc ReferenceInIdeal.main_arg6))
            (m ((c.tc : Thread ReferenceInIdeal.nD ReferenceInIdeal.τ).loc ReferenceInIdeal.main_arg7))
        ∧ r.2.mem ((c.tc : Thread ReferenceInIdeal.nD ReferenceInIdeal.τ).loc ReferenceInIdeal.main_v143)
          = val_main_v143 (F := Ideal) (m ((c.tc : Thread ReferenceInIdeal.nD ReferenceInIdeal.τ).loc ReferenceInIdeal.main_arg0))
            (m ((c.tc : Thread ReferenceInIdeal.nD ReferenceInIdeal.τ).loc ReferenceInIdeal.main_arg2))
            (m ((c.tc : Thread ReferenceInIdeal.nD ReferenceInIdeal.τ).loc ReferenceInIdeal.main_arg4))
            (m ((c.tc : Thread ReferenceInIdeal.nD ReferenceInIdeal.τ).loc ReferenceInIdeal.main_arg5))
            (m ((c.tc : Thread ReferenceInIdeal.nD ReferenceInIdeal.τ).loc ReferenceInIdeal.main_arg6))
            (m ((c.tc : Thread ReferenceInIdeal.nD ReferenceInIdeal.τ).loc ReferenceInIdeal.main_arg7))
        ∧ r.2.mem ((c.tc : Thread ReferenceInIdeal.nD ReferenceInIdeal.τ).loc ReferenceInIdeal.main_v145)
          = val_main_v145 (F := Ideal) (m ((c.tc : Thread ReferenceInIdeal.nD ReferenceInIdeal.τ).loc ReferenceInIdeal.main_arg4))
            (m ((c.tc : Thread ReferenceInIdeal.nD ReferenceInIdeal.τ).loc ReferenceInIdeal.main_arg5))
            (m ((c.tc : Thread ReferenceInIdeal.nD ReferenceInIdeal.τ).loc ReferenceInIdeal.main_arg6))
            (m ((c.tc : Thread ReferenceInIdeal.nD ReferenceInIdeal.τ).loc ReferenceInIdeal.main_arg7))) :=
  (θ_run _ _ _).mono (fun r h c => ⟨(h c).1.trans (val_main_v140_eq m c), (h c).2.1.trans (val_main_v142_eq m c),
    (h c).2.2.1.trans (val_main_v143_eq m c), (h c).2.2.2.1.trans (val_main_v145_eq m c)⟩) (Cert.ReferenceInIdeal.Value.run m g)

/-- The reference ends with its arguments unchanged; it has no semaphores. -/
theorem frame_reference : Cert.quiescent_ReferenceInIdeal := fun m g _ =>
  (θ_run Cert.ReferenceInIdeal.defs _ _).mono
    (fun r h => ⟨fun c => (h c).2.2.2.2, sem_eq_zero_of_no_sems rfl r.2⟩) (Cert.ReferenceInIdeal.Value.run m g)

set_option maxHeartbeats 1000000 in
/-- The kernel's frame on floats: the same run, read at the float words. -/
theorem frame_kernel : Cert.quiescent_KernelIn (hKernelIn := Cert.KernelIn.Gen.facts) := fun m ρ _ =>
  cast (by sl_kernel_rfl) (frame (F := Bits) m ρ)

set_option maxHeartbeats 2000000 in
/-- The call computes the gradients that the reference computes. -/
theorem algebraic : Cert.algebraic_KernelInIdeal_ReferenceInIdeal_pre_x_finite := by
  pair_intro
  · run_from run_main m g
  · run_from run_reference m' g' & frame_reference m' g' trivial
    · refine (out10 (m := m) (c := c) ⟨rfl, rfl, rfl, rfl, rfl, rfl, rfl, rfl⟩ _ fun r k => ?_).symm
      exact r140 _ _ _ _ _ _ _ _ (finite (hpre c)) r k
    · refine (out11 (m := m) (c := c) ⟨rfl, rfl, rfl, rfl, rfl, rfl, rfl, rfl⟩ _ fun r l => ?_).symm
      pointwise [val_main_v142, val_main_v141, r110 _ _ _ _]
    · exact (out12 (m := m) (c := c) ⟨rfl, rfl, rfl, rfl, rfl, rfl, rfl, rfl⟩ _ fun r k => r143 _ _ _ _ _ _ r k).symm
    · exact (out13 (m := m) (c := c) ⟨rfl, rfl, rfl, rfl, rfl, rfl, rfl, rfl⟩ _ fun r l => r145 _ _ _ _ r l).symm

end Cert.In

end
-- ==== Proof.MemFrame.lean ====
/- The memory attention's backward call: the frame on floats. -/
module

public import proofs.«01_k».proof.Proof.Gen.KernelMemIdeal.Frame
public import proofs.«01_k».proof.Proof.Gen.KernelMem
public import proofs.«01_k».proof.Defs

@[expose] public section

set_option maxRecDepth 16384

noncomputable section

namespace Cert.Mem

open Cert.KernelMemIdeal Cert.KernelMemIdeal.Gen Idealize.ShloMosaic Idealize.ShloMosaic.TcCoe Idealize.SL.Sem

set_option maxHeartbeats 1000000 in
/-- The kernel's frame on floats: the same run, read at the float words. -/
theorem frame_kernel : Cert.quiescent_KernelMem (hKernelMem := Cert.KernelMem.Gen.facts) := fun m ρ _ =>
  cast (by sl_kernel_rfl) (frame (F := Bits) m ρ)

end Cert.Mem

end
-- ==== Proof.LossFrame.lean ====
/- The channel mixer's forward call with the loss: the frame on floats. -/
module

public import proofs.«01_k».proof.Proof.Gen.KernelLossIdeal.Frame
public import proofs.«01_k».proof.Proof.Gen.KernelLoss
public import proofs.«01_k».proof.Defs

@[expose] public section

set_option maxRecDepth 16384

noncomputable section

namespace Cert.Loss

open Cert.KernelLossIdeal Cert.KernelLossIdeal.Gen Idealize.ShloMosaic Idealize.ShloMosaic.TcCoe Idealize.SL.Sem

set_option maxHeartbeats 1000000 in
/-- The kernel's frame on floats: the same run, read at the float words. -/
theorem frame_kernel : Cert.quiescent_KernelLoss (hKernelLoss := Cert.KernelLoss.Gen.facts) := fun m ρ _ =>
  cast (by sl_kernel_rfl) (frame (F := Bits) m ρ)

end Cert.Loss

end
-- ==== Proof.LossMath.lean ====
/- What the forward call of the channel mixer with the loss computes, entry by entry, as functions of the reference's
   arrays: the residual stream after the mixer, the loss of its norm, and the loss's gradients. -/
module

public import proofs.«01_k».proof.Proof.FfnMath

@[expose] public section

noncomputable section

namespace Cert.Loss

open Idealize.ShloMosaic Cert.Rms Cert.Ffn

variable (x t : (⟨3, ![1, 4096, 1024]⟩ : Shape).Idx → EReal) (g : (⟨2, ![1, 1024]⟩ : Shape).Idx → EReal)
  (wg wu : (⟨3, ![1, 1024, 2816]⟩ : Shape).Idx → EReal) (wd : (⟨3, ![1, 2816, 1024]⟩ : Shape).Idx → EReal)
  (gl : (⟨1, ![1024]⟩ : Shape).Idx → EReal)

/-- The gated product. -/
def act (r : Fin 4096) (f : Fin 2816) : EReal := silu x g wg r f * proj x g wu r f
/-- A row of the residual stream after the mixer. -/
def x3 (r : Fin 4096) (k : Fin 1024) : EReal := x (ix3 0 r k) + ∑ f : Fin 2816, act x g wg wu r f * wd (ix3 0 f k)
/-- The reciprocal root of its mean square. -/
def rs (r : Fin 4096) : EReal := rr (x3 x g wg wu wd r)
/-- How far the final norm is from the target. -/
def err (r : Fin 4096) (k : Fin 1024) : EReal :=
  x3 x g wg wu wd r k * rs x g wg wu wd r * gl (ix1 k) - t (ix3 0 r k)
/-- The loss's cotangent at the final norm. -/
def dy (r : Fin 4096) (k : Fin 1024) : EReal := err x t g wg wu wd gl r k * Ideal.ofBits .f32 0x3A800000#32
/-- The same, times the gain. -/
def dyg (r : Fin 4096) (k : Fin 1024) : EReal := dy x t g wg wu wd gl r k * gl (ix1 k)
/-- The loss's gradient at the residual stream. -/
def dx3 (r : Fin 4096) (k : Fin 1024) : EReal :=
  rs x g wg wu wd r * (dyg x t g wg wu wd gl r k - x3 x g wg wu wd r k * rs x g wg wu wd r
    * Ideal.div (∑ l, dyg x t g wg wu wd gl r l * (x3 x g wg wu wd r l * rs x g wg wu wd r)) (Ideal.ofBits .f32 0x44800000#32))
/-- The gradient of the final norm's gain. -/
def dgl (k : Fin 1024) : EReal := ∑ r : Fin 4096, dy x t g wg wu wd gl r k * (x3 x g wg wu wd r k * rs x g wg wu wd r)
/-- The loss. -/
def loss : EReal := ∑ r : Fin 4096, (∑ k : Fin 1024, err x t g wg wu wd gl r k * err x t g wg wu wd gl r k) * Ideal.ofBits .f32 0x3A000000#32

/-- Where the mixer's arguments are real, so is the residual stream after it. -/
theorem x3_real (hx : ∀ r k, Real' (x (ix3 0 r k))) (hg : ∀ k, Real' (g (ix2 0 k))) (hw : ∀ k f, Real' (wg (ix3 0 k f)))
    (hu : ∀ k f, Real' (wu (ix3 0 k f))) (hd : ∀ f k, Real' (wd (ix3 0 f k))) (r : Fin 4096) (k : Fin 1024) :
    Real' (x3 x g wg wu wd r k) := by
  have hn : ∀ r k, Real' (normed x g r k) := fun r k => ((hx r k).mul (Real'.rr fun k => hx r k)).mul (hg k)
  have hp : ∀ r f, Real' (proj x g wg r f) := fun r f => Real'.sum fun k => (hn r k).mul (hw k f)
  have hq : ∀ r f, Real' (proj x g wu r f) := fun r f => Real'.sum fun k => (hn r k).mul (hu k f)
  exact (hx r k).add (Real'.sum fun f => (((hp r f).mul (hp r f).sigm).mul (hq r f)).mul (hd f k))

end Cert.Loss

end
-- ==== Proof.MemMath.lean ====
/- The memory attention's backward call, entry by entry: a softmax's gradient and a layer norm's over the reals, and what
   the call's results are as functions of the reference's arrays. -/
module

public import proofs.«01_k».proof.Proof.Rms
public import Idealize.ShloMosaic.Lib.ValueIdx

@[expose] public section

noncomputable section

namespace Cert.Mem

open Idealize.ShloMosaic Cert.Rms Cert.AttnMath

/-! ## A softmax over real scores -/

section Column

variable {n : ℕ} (z dp : Fin n → ℝ)

/-- The probability of place `i`, -/
def prob (i : Fin n) : ℝ := Real.exp (z i) / ∑ j, Real.exp (z j)
/-- and the cotangent of its score, from the probabilities' cotangents. -/
def dscore (i : Fin n) : ℝ := prob z i * (dp i - ∑ j, dp j * prob z j)

theorem den_pos (i : Fin n) : 0 < ∑ j, Real.exp (z j) :=
  Finset.sum_pos (fun j _ => Real.exp_pos _) ⟨i, Finset.mem_univ i⟩

/-- The largest of real scores is real. -/
theorem fold_real (i : Fin n) : ∃ μ : ℝ, (Finset.univ : Finset (Fin n)).fold max ⊥ (fun j => (z j : EReal)) = (μ : EReal) := by
  refine ⟨_, (EReal.coe_toReal ?_ ?_).symm⟩
  · exact ne_of_lt ((Finset.fold_max_lt _).mpr ⟨bot_lt_top, fun j _ => EReal.coe_lt_top _⟩)
  · refine ne_of_gt (lt_of_lt_of_le (EReal.bot_lt_coe (z i)) ?_)
    exact (Finset.le_fold_max _).mpr (Or.inr ⟨i, Finset.mem_univ i, le_rfl⟩)

theorem exp_less (μ : ℝ) (j : Fin n) : Ideal.exp ((z j : EReal) - (μ : EReal)) = ((Real.exp (z j) * Real.exp (-μ) : ℝ) : EReal) := by
  rw [← EReal.coe_sub, exp_coe, ← Real.exp_add, sub_eq_add_neg]

/-- The exponentials' sum, whatever real was taken off. -/
theorem sum_less (μ : ℝ) : ∑ j, Ideal.exp ((z j : EReal) - (μ : EReal)) = (((∑ j, Real.exp (z j)) * Real.exp (-μ) : ℝ) : EReal) := by
  rw [sum_coe _ (exp_less z μ), Finset.sum_mul]

/-- The probability as a product with a reciprocal, and as a quotient. -/
theorem prob_mul (μ : ℝ) (i : Fin n) :
    Ideal.exp ((z i : EReal) - (μ : EReal)) * Ideal.div 1 (∑ j, Ideal.exp ((z j : EReal) - (μ : EReal))) = ((prob z i : ℝ) : EReal) := by
  have h := (den_pos z i).ne'
  have hc := (Real.exp_pos (-μ)).ne'
  rw [sum_less, exp_less, ← EReal.coe_one, div_coe _ _ (mul_ne_zero h hc), ← EReal.coe_mul, prob]
  congr 1
  field_simp

theorem prob_div (μ : ℝ) (i : Fin n) :
    Ideal.div (Ideal.exp ((z i : EReal) - (μ : EReal))) (∑ j, Ideal.exp ((z j : EReal) - (μ : EReal))) = ((prob z i : ℝ) : EReal) := by
  have h := (den_pos z i).ne'
  have hc := (Real.exp_pos (-μ)).ne'
  rw [sum_less, exp_less, div_coe _ _ (mul_ne_zero h hc), prob]
  congr 1
  field_simp

/-- The scores' cotangent through the probabilities, -/
theorem dscore_mul (i : Fin n) :
    ((prob z i : ℝ) : EReal) * ((dp i : EReal) - ∑ j, (dp j : EReal) * ((prob z j : ℝ) : EReal)) = ((dscore z dp i : ℝ) : EReal) := by
  rw [sum_coe (fun j => dp j * prob z j) fun j => (EReal.coe_mul _ _).symm, ← EReal.coe_sub, ← EReal.coe_mul, dscore]

/-- and through the quotient of the exponentials and their sum. -/
theorem dscore_quot (μ : ℝ) (i : Fin n) :
    (Ideal.div (dp i : EReal) (∑ j, Ideal.exp ((z j : EReal) - (μ : EReal)))
        + -(∑ k, (dp k : EReal) * Ideal.div 1 ((∑ j, Ideal.exp ((z j : EReal) - (μ : EReal))) * ∑ j, Ideal.exp ((z j : EReal) - (μ : EReal)))
            * Ideal.exp ((z k : EReal) - (μ : EReal)))) * Ideal.exp ((z i : EReal) - (μ : EReal)) = ((dscore z dp i : ℝ) : EReal) := by
  have h := (den_pos z i).ne'
  have hc := (Real.exp_pos (-μ)).ne'
  have hd := mul_ne_zero h hc
  rw [sum_less]
  generalize hZ : ∑ j, Real.exp (z j) = Z at *
  have hk : ∀ k, (dp k : EReal) * Ideal.div 1 (((Z * Real.exp (-μ) : ℝ) : EReal) * ((Z * Real.exp (-μ) : ℝ) : EReal))
      * Ideal.exp ((z k : EReal) - (μ : EReal))
      = ((dp k * (1 / (Z * Real.exp (-μ) * (Z * Real.exp (-μ)))) * (Real.exp (z k) * Real.exp (-μ)) : ℝ) : EReal) := fun k => by
    rw [exp_less, ← EReal.coe_mul, ← EReal.coe_one, div_coe _ _ (mul_ne_zero hd hd), ← EReal.coe_mul, ← EReal.coe_mul]
  rw [sum_coe _ hk, exp_less, div_coe _ _ hd, ← EReal.coe_neg, ← EReal.coe_add, ← EReal.coe_mul, dscore]
  congr 1
  have e1 : ∑ k, dp k * (1 / (Z * Real.exp (-μ) * (Z * Real.exp (-μ)))) * (Real.exp (z k) * Real.exp (-μ))
      = (∑ k, dp k * Real.exp (z k)) / (Z * Z * Real.exp (-μ)) := by
    rw [Finset.sum_div]; refine Finset.sum_congr rfl fun k _ => ?_
    field_simp
  have e2 : ∑ k, dp k * prob z k = (∑ k, dp k * Real.exp (z k)) / Z := by
    rw [Finset.sum_div]; refine Finset.sum_congr rfl fun k _ => ?_
    rw [prob, hZ, mul_div_assoc]
  rw [e1, e2, prob, hZ]
  field_simp
  ring

end Column

/-! ## The attention over the memory, over the reals -/

/-- Lane `d` of head `h`. -/
def col (h : Fin 4) (d : Fin 256) : Fin 1024 := ⟨256 * h.val + d.val, by have := h.isLt; have := d.isLt; omega⟩

section Heads

variable {n : ℕ} (q : Fin n → Fin 1024 → ℝ) (km vm : Fin 256 → Fin 1024 → ℝ) (dom : Fin n → Fin 1024 → ℝ)

/-- The scores of a row's query over the memory, -/
def score (h : Fin 4) (r : Fin n) (μ : Fin 256) : ℝ := ∑ d : Fin 256, km μ (col h d) * (q r (col h d) * (1 / 16))
/-- the cotangents of their probabilities, -/
def dprob (h : Fin 4) (r : Fin n) (μ : Fin 256) : ℝ := ∑ d : Fin 256, vm μ (col h d) * dom r (col h d)
/-- the scores' cotangents, -/
def ds (h : Fin 4) (r : Fin n) (μ : Fin 256) : ℝ := dscore (score q km h r) (dprob vm dom h r) μ
/-- the gradient of the queries before their scale, -/
def gq (h : Fin 4) (r : Fin n) (d : Fin 256) : ℝ := (∑ μ : Fin 256, ds q km vm dom h r μ * km μ (col h d)) * (1 / 16)
/-- and one row's part of the keys' and the values' gradients. -/
def gk (h : Fin 4) (r : Fin n) (μ : Fin 256) (d : Fin 256) : ℝ := ds q km vm dom h r μ * (q r (col h d) * (1 / 16))
def gv (h : Fin 4) (r : Fin n) (μ : Fin 256) (d : Fin 256) : ℝ := prob (score q km h r) μ * dom r (col h d)

end Heads

/-! ## A layer norm over a real row -/

theorem lit_512 : Ideal.ofBits .f32 0x44000000#32 = ((512 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_16th : Ideal.ofBits .f32 0x3D800000#32 = ((1 / 16 : ℝ) : EReal) := by
  simp [Ideal.ofBits, Ideal.ieee, -EReal.coe_mul]; norm_num

/-- A row less its mean, -/
def ctr (y : Fin 512 → EReal) (k : Fin 512) : EReal := y k - Ideal.div (∑ l, y l) (Ideal.ofBits .f32 0x44000000#32)
/-- the variance with the small constant, -/
def vps (y : Fin 512 → EReal) : EReal :=
  Ideal.div (∑ k, ctr y k * ctr y k) (Ideal.ofBits .f32 0x44000000#32) + Ideal.ofBits .f32 0x358637BD#32
/-- the reciprocal root, -/
def lrr (y : Fin 512 → EReal) : EReal := Ideal.rsqrt (vps y)
/-- and the normalised row. -/
def lhat (y : Fin 512 → EReal) (k : Fin 512) : EReal := ctr y k * lrr y

/-- The gradient of a row from the cotangents `D` of the normalised row. -/
def lback (y D : Fin 512 → EReal) (k : Fin 512) : EReal :=
  lrr y * (D k - Ideal.div (∑ l, D l) (Ideal.ofBits .f32 0x44000000#32)
    - lhat y k * Ideal.div (∑ l, D l * lhat y l) (Ideal.ofBits .f32 0x44000000#32))

theorem ctr_coe (y : Fin 512 → ℝ) (k : Fin 512) : ctr (fun k => (y k : EReal)) k = ((y k - (∑ l, y l) / 512 : ℝ) : EReal) := by
  unfold ctr
  rw [lit_512, sum_coe y fun _ => rfl, div_coe _ _ (by norm_num), EReal.coe_sub]

theorem vps_coe (y : Fin 512 → ℝ) : ∃ v : ℝ, 0 < v ∧ vps (fun k => (y k : EReal)) = (v : EReal) := by
  obtain ⟨e, he, h⟩ := lit_eps
  refine ⟨(∑ k, (y k - (∑ l, y l) / 512) * (y k - (∑ l, y l) / 512)) / 512 + e, ?_, ?_⟩
  · have : 0 ≤ ∑ k, (y k - (∑ l, y l) / 512) * (y k - (∑ l, y l) / 512) := Finset.sum_nonneg fun k _ => mul_self_nonneg _
    positivity
  · unfold vps
    rw [h, lit_512, sum_coe (fun k => (y k - (∑ l, y l) / 512) * (y k - (∑ l, y l) / 512)) fun k => by rw [ctr_coe, EReal.coe_mul],
      div_coe _ _ (by norm_num), EReal.coe_add]

theorem _root_.Cert.Rms.Real'.lhat {y : Fin 512 → EReal} (hy : ∀ k, Real' (y k)) (k : Fin 512) : Real' (lhat y k) := by
  choose v hv using hy
  obtain rfl : y = fun k => (v k : EReal) := funext hv
  obtain ⟨w, hw, e⟩ := vps_coe v
  unfold Mem.lhat lrr
  rw [ctr_coe, e, rsqrt_coe w hw]
  exact ⟨_, (EReal.coe_mul _ _).symm⟩

/-- What flows into the variance, in the derivative of the norm's lines. -/
def lvar (y D : Fin 512 → EReal) : EReal :=
  Ideal.div ((∑ l, ctr y l * D l) * (Ideal.ofBits .f32 0xBF000000#32 * Ideal.div (lrr y) (vps y))) (Ideal.ofBits .f32 0x44000000#32)

/-- The norm's derivative, as the calls write it and as the derivative of the reference's lines reads. -/
theorem lback_eq (y D : Fin 512 → EReal) (hy : ∀ k, Real' (y k)) (hD : ∀ k, Real' (D k)) (k : Fin 512) :
    D k * lrr y + lvar y D * (Ideal.ofBits .f32 0x40000000#32 * ctr y k)
      + Ideal.div (∑ l, -(D l * lrr y) + ∑ l, -(lvar y D * (Ideal.ofBits .f32 0x40000000#32 * ctr y l))) (Ideal.ofBits .f32 0x44000000#32)
      = lback y D k := by
  choose v hv using hy
  choose e he using hD
  obtain rfl : y = fun k => (v k : EReal) := funext hv
  obtain rfl : D = fun k => (e k : EReal) := funext he
  obtain ⟨w, hw, ew⟩ := vps_coe v
  have h0 := (Real.sqrt_pos.mpr hw).ne'
  have hrw : (Real.sqrt w)⁻¹ / w = (Real.sqrt w)⁻¹ ^ 3 := by
    have := Real.sq_sqrt hw.le
    field_simp
    linear_combination this
  have er : lrr (fun k => (v k : EReal)) = (((Real.sqrt w)⁻¹ : ℝ) : EReal) := by unfold lrr; rw [ew, rsqrt_coe w hw]
  have hc : ∑ l, (v l - (∑ l, v l) / 512) = 0 := by
    rw [Finset.sum_sub_distrib, Finset.sum_const, Finset.card_univ, Fintype.card_fin]; simp; ring
  unfold lback lhat lvar
  rw [er, ew]
  generalize (Real.sqrt w)⁻¹ = r at *
  have hL : ∀ l, ctr (fun k => (v k : EReal)) l = ((v l - (∑ l, v l) / 512 : ℝ) : EReal) := ctr_coe v
  generalize hS : (fun l => v l - (∑ l, v l) / 512) = c at *
  have hcl : ∀ l, v l - (∑ l, v l) / 512 = c l := fun l => congrFun hS l
  simp only [hcl] at hL hc
  simp only [hL]
  rw [lit_512, lit_neg_half, lit_two, div_coe _ _ hw.ne', hrw, sum_coe (fun l => c l * e l) fun l => (EReal.coe_mul _ _).symm]
  have hQ : ∀ a b d : ℝ, Ideal.div ((a : EReal) * ((b : EReal) * (d : EReal))) ((512 : ℝ) : EReal) = ((a * (b * d) / 512 : ℝ) : EReal) := fun a b d => by
    rw [← EReal.coe_mul, ← EReal.coe_mul, div_coe _ _ (by norm_num)]
  rw [hQ]
  generalize hB : (∑ l, c l * e l) * (-(1 / 2) * r ^ 3) / 512 = B
  have hN : ∀ l, -((e l : EReal) * (r : EReal)) = ((-(e l * r) : ℝ) : EReal) := fun l => by rw [← EReal.coe_mul, ← EReal.coe_neg]
  have hM : ∀ l, -((B : EReal) * (((2 : ℝ) : EReal) * (c l : EReal))) = ((-(B * (2 * c l)) : ℝ) : EReal) := fun l => by
    rw [← EReal.coe_mul, ← EReal.coe_mul, ← EReal.coe_neg]
  have hP : ∀ l, (e l : EReal) * ((c l : EReal) * (r : EReal)) = ((e l * (c l * r) : ℝ) : EReal) := fun l => by
    rw [← EReal.coe_mul, ← EReal.coe_mul]
  rw [sum_coe _ hN, sum_coe _ hM, sum_coe _ hP, sum_coe e fun _ => rfl]
  have s1 : ∑ l, -(e l * r) = -((∑ l, e l) * r) := by rw [Finset.sum_neg_distrib, Finset.sum_mul]
  have s2 : ∑ l, -(B * (2 * c l)) = 0 := by
    rw [Finset.sum_neg_distrib, ← Finset.mul_sum, ← Finset.mul_sum, hc]; ring
  have s3 : ∑ l, e l * (c l * r) = (∑ l, c l * e l) * r := by
    rw [Finset.sum_mul]; exact Finset.sum_congr rfl fun l _ => by ring
  rw [s1, s2, s3, ← EReal.coe_add, div_coe _ _ (by norm_num), div_coe _ _ (by norm_num), div_coe _ _ (by norm_num)]
  norm_cast
  rw [← hB]
  ring

/-! ## The arrays -/

variable (x : (⟨3, ![1, 4096, 1024]⟩ : Shape).Idx → EReal) (yv : (⟨3, ![1, 4096, 512]⟩ : Shape).Idx → EReal)
  (bd : (⟨2, ![1, 512]⟩ : Shape).Idx → EReal) (ya : (⟨3, ![1, 4096, 512]⟩ : Shape).Idx → EReal)
  (mem : (⟨3, ![1, 256, 1024]⟩ : Shape).Idx → EReal) (lg lb : (⟨2, ![1, 512]⟩ : Shape).Idx → EReal)
  (wout : (⟨3, ![1, 1024, 1024]⟩ : Shape).Idx → EReal) (bo gm gkv : (⟨2, ![1, 1024]⟩ : Shape).Idx → EReal)
  (wq : (⟨3, ![1, 1024, 1024]⟩ : Shape).Idx → EReal) (wkv : (⟨3, ![1, 1024, 2048]⟩ : Shape).Idx → EReal)
  (wo : (⟨3, ![1, 1024, 1024]⟩ : Shape).Idx → EReal) (dx2 : (⟨3, ![1, 4096, 1024]⟩ : Shape).Idx → EReal)

/-- The convolution's output with its bias, one row. -/
def yrow (r : Fin 4096) : Fin 512 → EReal := fun k => yv (ix3 0 r k) + bd (ix2 0 k)
/-- The gate's argument. -/
def gate (r : Fin 4096) (k : Fin 512) : EReal := lhat (yrow yv bd r) k * lg (ix2 0 k) + lb (ix2 0 k)
/-- The residual after the mixing, one row. -/
def x1 (r : Fin 4096) : Fin 1024 → EReal := fun k =>
  x (ix3 0 r k) + (∑ l : Fin 512, gate yv bd lg lb r l * sigm (gate yv bd lg lb r l) * wout (ix3 0 ⟨l.val, by have := l.isLt; omega⟩ k)
    + ∑ l : Fin 512, ya (ix3 0 r l) * wout (ix3 0 ⟨512 + l.val, by have := l.isLt; omega⟩ k) + bo (ix2 0 k))

/-- The normalised residual, -/
def hq (X : Fin 4096 → Fin 1024 → EReal) (r : Fin 4096) (k : Fin 1024) : EReal := X r k * rr (X r) * gm (ix2 0 k)
/-- the queries before their scale, -/
def qry (X : Fin 4096 → Fin 1024 → EReal) (r : Fin 4096) (k : Fin 1024) : EReal := ∑ l : Fin 1024, hq gm X r l * wq (ix3 0 l k)
/-- the memory's keys and values side by side, -/
def kv (μ : Fin 256) (j : Fin 2048) : EReal :=
  ∑ k : Fin 1024, mem (ix3 0 μ k) * rr (fun k => mem (ix3 0 μ k)) * gkv (ix2 0 k) * wkv (ix3 0 k j)
def keys (μ : Fin 256) (k : Fin 1024) : EReal := kv mem gkv wkv μ ⟨k, by have := k.isLt; omega⟩
def vals (μ : Fin 256) (k : Fin 1024) : EReal := kv mem gkv wkv μ ⟨1024 + k, by have := k.isLt; omega⟩
/-- and the cotangent of the attention's output. -/
def dom (r : Fin 4096) (k : Fin 1024) : EReal := ∑ l : Fin 1024, wo (ix3 0 k l) * dx2 (ix3 0 r l)

/-- The reals among the extended reals' entries. -/
def re {a b : ℕ} (f : Fin a → Fin b → EReal) : Fin a → Fin b → ℝ := fun i j => (f i j).toReal

theorem re_coe {a b : ℕ} {f : Fin a → Fin b → EReal} (h : ∀ i j, Real' (f i j)) (i : Fin a) (j : Fin b) : f i j = ((re f i j : ℝ) : EReal) := by
  obtain ⟨v, e⟩ := h i j
  unfold re
  rw [e, EReal.toReal_coe]

section Grad

variable (Q : Fin 4096 → Fin 1024 → EReal) (K V : Fin 256 → Fin 1024 → EReal) (O : Fin 4096 → Fin 1024 → EReal)

/-- The gradient of the queries before their scale, of the keys and of the values. -/
def dqry (r : Fin 4096) (k : Fin 1024) : EReal :=
  ((gq (re Q) (re K) (re V) (re O) ⟨k.val / 256, by have := k.isLt; omega⟩ r ⟨k.val % 256, Nat.mod_lt _ (by norm_num)⟩ : ℝ) : EReal)
def dkey (μ : Fin 256) (k : Fin 1024) : EReal :=
  ∑ r : Fin 4096, ((gk (re Q) (re K) (re V) (re O) ⟨k.val / 256, by have := k.isLt; omega⟩ r μ ⟨k.val % 256, Nat.mod_lt _ (by norm_num)⟩ : ℝ) : EReal)
def dval (μ : Fin 256) (k : Fin 1024) : EReal :=
  ∑ r : Fin 4096, ((gv (re Q) (re K) (re O) ⟨k.val / 256, by have := k.isLt; omega⟩ r μ ⟨k.val % 256, Nat.mod_lt _ (by norm_num)⟩ : ℝ) : EReal)

end Grad

section Back

variable (X : Fin 4096 → Fin 1024 → EReal) (P : Fin 4096 → Fin 1024 → EReal)

/-- The cotangent of the normalised residual, from that of the queries, `P`, -/
def dhq (r : Fin 4096) (k : Fin 1024) : EReal := ∑ l : Fin 1024, P r l * wq (ix3 0 k l)
/-- with the gain, -/
def dhg (r : Fin 4096) (k : Fin 1024) : EReal := dhq wq P r k * gm (ix2 0 k)
/-- the gradient of the residual, -/
def dx1 (r : Fin 4096) (k : Fin 1024) : EReal :=
  dx2 (ix3 0 r k) + rr (X r) * (dhg gm wq P r k
    - X r k * rr (X r) * Ideal.div (∑ l, dhg gm wq P r l * (X r l * rr (X r))) (Ideal.ofBits .f32 0x44800000#32))
/-- of the gain, -/
def dgain (k : Fin 1024) : EReal := ∑ r : Fin 4096, dhq wq P r k * (X r k * rr (X r))

end Back

section Conv

variable (R : Fin 4096 → Fin 1024 → EReal)

/-- and, from the residual's gradient `R`, that of what the out-projection is of, -/
def dmix (r : Fin 4096) (l : Fin 1024) : EReal := ∑ k : Fin 1024, R r k * wout (ix3 0 l k)
/-- of the gate's argument, -/
def dz (r : Fin 4096) (k : Fin 512) : EReal :=
  dmix wout R r ⟨k, by have := k.isLt; omega⟩
    * (sigm (gate yv bd lg lb r k) * (1 + gate yv bd lg lb r k * (1 - sigm (gate yv bd lg lb r k))))
/-- of the normalised convolution, -/
def dyh (r : Fin 4096) (k : Fin 512) : EReal := dz yv bd lg lb wout R r k * lg (ix2 0 k)
/-- and of the convolution. -/
def dy (r : Fin 4096) (k : Fin 512) : EReal := lback (yrow yv bd r) (dyh yv bd lg lb wout R r) k

end Conv

/-! ## The call's functions of its arguments -/

abbrev rX := x1 x yv bd ya lg lb wout bo
abbrev rQ := qry gm wq (rX x yv bd ya lg lb wout bo)
abbrev rK := keys mem gkv wkv
abbrev rV := vals mem gkv wkv
abbrev rO := dom wo dx2
abbrev rP := dqry (rQ x yv bd ya lg lb wout bo gm wq) (rK mem gkv wkv) (rV mem gkv wkv) (rO wo dx2)
abbrev rR := dx1 gm wq dx2 (rX x yv bd ya lg lb wout bo) (rP x yv bd ya mem lg lb wout bo gm gkv wq wkv wo dx2)
abbrev rD := dyh yv bd lg lb wout (rR x yv bd ya mem lg lb wout bo gm gkv wq wkv wo dx2)

/-- The arguments are real. -/
structure Reals : Prop where
  x : ∀ r k, Real' (x (ix3 0 r k))
  yv : ∀ r k, Real' (yv (ix3 0 r k))
  bd : ∀ k, Real' (bd (ix2 0 k))
  ya : ∀ r k, Real' (ya (ix3 0 r k))
  mem : ∀ r k, Real' (mem (ix3 0 r k))
  lg : ∀ k, Real' (lg (ix2 0 k))
  lb : ∀ k, Real' (lb (ix2 0 k))
  wout : ∀ r k, Real' (wout (ix3 0 r k))
  bo : ∀ k, Real' (bo (ix2 0 k))
  gm : ∀ k, Real' (gm (ix2 0 k))
  gkv : ∀ k, Real' (gkv (ix2 0 k))
  wq : ∀ r k, Real' (wq (ix3 0 r k))
  wkv : ∀ r k, Real' (wkv (ix3 0 r k))
  wo : ∀ r k, Real' (wo (ix3 0 r k))
  dx2 : ∀ r k, Real' (dx2 (ix3 0 r k))

theorem _root_.Cert.Rms.Real'.sub {a b : EReal} (ha : Real' a) (hb : Real' b) : Real' (a - b) := by
  obtain ⟨u, rfl⟩ := ha; obtain ⟨v, rfl⟩ := hb; exact ⟨_, (EReal.coe_sub _ _).symm⟩
theorem _root_.Cert.Rms.Real'.div {a : EReal} (ha : Real' a) {b : EReal} {v : ℝ} (hb : b = (v : EReal)) (h0 : v ≠ 0) : Real' (Ideal.div a b) := by
  obtain ⟨u, rfl⟩ := ha; rw [hb]; exact ⟨_, div_coe _ _ h0⟩
theorem _root_.Cert.Rms.Real'.one : Real' 1 := ⟨1, rfl⟩

namespace Reals

variable {x yv bd ya mem lg lb wout bo gm gkv wq wkv wo dx2}
variable (H : Reals x yv bd ya mem lg lb wout bo gm gkv wq wkv wo dx2)
include H

theorem yrow (r : Fin 4096) (k : Fin 512) : Real' (yrow yv bd r k) := (H.yv r k).add (H.bd k)
theorem gate (r : Fin 4096) (k : Fin 512) : Real' (gate yv bd lg lb r k) :=
  ((Real'.lhat (H.yrow r) k).mul (H.lg k)).add (H.lb k)
theorem X (r : Fin 4096) (k : Fin 1024) : Real' (rX x yv bd ya lg lb wout bo r k) :=
  (H.x r k).add (((Real'.sum fun l => ((H.gate r l).mul (H.gate r l).sigm).mul (H.wout _ k)).add
    (Real'.sum fun l => (H.ya r l).mul (H.wout _ k))).add (H.bo k))
theorem Q (r : Fin 4096) (k : Fin 1024) : Real' (rQ x yv bd ya lg lb wout bo gm wq r k) :=
  Real'.sum fun l => (((H.X r l).mul (Real'.rr (H.X r))).mul (H.gm l)).mul (H.wq l k)
theorem kv (μ : Fin 256) (j : Fin 2048) : Real' (kv mem gkv wkv μ j) :=
  Real'.sum fun k => (((H.mem μ k).mul (Real'.rr (H.mem μ))).mul (H.gkv k)).mul (H.wkv k j)
theorem K (μ : Fin 256) (k : Fin 1024) : Real' (rK mem gkv wkv μ k) := H.kv μ _
theorem V (μ : Fin 256) (k : Fin 1024) : Real' (rV mem gkv wkv μ k) := H.kv μ _
theorem O (r : Fin 4096) (k : Fin 1024) : Real' (rO wo dx2 r k) := Real'.sum fun l => (H.wo k l).mul (H.dx2 r l)
theorem R (r : Fin 4096) (k : Fin 1024) : Real' (rR x yv bd ya mem lg lb wout bo gm gkv wq wkv wo dx2 r k) := by
  have hg : ∀ l, Real' (dhg gm wq (rP x yv bd ya mem lg lb wout bo gm gkv wq wkv wo dx2) r l) := fun l =>
    (Real'.sum fun m => Real'.mul ⟨_, rfl⟩ (H.wq l m)).mul (H.gm l)
  have hr := Real'.rr (H.X r)
  exact (H.dx2 r k).add (hr.mul ((hg k).sub (((H.X r k).mul hr).mul
    ((Real'.sum fun l => (hg l).mul ((H.X r l).mul hr)).div lit_1024 (by norm_num)))))
theorem D (r : Fin 4096) (k : Fin 512) : Real' (rD x yv bd ya mem lg lb wout bo gm gkv wq wkv wo dx2 r k) := by
  have hs := (H.gate r k).sigm
  exact ((Real'.sum fun l => (H.R r l).mul (H.wout _ l)).mul (hs.mul (Real'.one.add ((H.gate r k).mul (Real'.one.sub hs))))).mul (H.lg k)

end Reals

end Cert.Mem

end
-- ==== Proof.MemBlk.lean ====
/- The memory attention's backward call: the blocks that a grid point reads, entry by entry. -/
module

public import proofs.«01_k».proof.Proof.Gen.KernelMemIdeal.Frame
public import proofs.«01_k».proof.Proof.MemMath
public import proofs.«01_k».proof.Proof.AttnValue
public import proofs.«01_k».proof.Proof.Gen.KernelMem
public import proofs.«01_k».proof.Proof.Gen.Pre_mem_finite
public import proofs.«01_k».proof.Defs

@[expose] public section

set_option maxRecDepth 16384

noncomputable section

namespace Cert.Mem

open Cert.KernelMemIdeal Cert.KernelMemIdeal.Gen Idealize.ShloMosaic Idealize.ShloMosaic.TcCoe Idealize.SL.Sem
open Idealize.ShloMosaic.StableHlo (after)
open Cert.Rms

/-- The windows' block numbers at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![0, 0]
    ∧ win0_11.index t = ![0, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] :=
  (by decide +kernel : ∀ t : Fin grid0.N, _)

theorem lt8 (t : Fin cfg0.N) : t.val < 8 := lt_of_lt_of_eq t.isLt (show cfg0.N = 8 from N_0)

/-- The block's row `r` at the point `t`, in the whole array. -/
def at_ (t : Fin cfg0.N) (r : Fin 512) : Fin 4096 := ⟨512 * t.val + r.val, by have := lt8 t; have := r.isLt; omega⟩

/-- A device's buffers hold these arguments. -/
structure Args (W : Idealize.ShloMosaic.Valuation τ sig (Elt Ideal)) (x : S1x4096x1024.Idx → EReal) (yv : S1x4096x512.Idx → EReal)
    (bd : S1x512.Idx → EReal) (ya : S1x4096x512.Idx → EReal) (mem : S1x256x1024.Idx → EReal) (lg lb : S1x512.Idx → EReal)
    (wout : S1x1024x1024.Idx → EReal) (bo gm gkv : S1x1024.Idx → EReal) (wq : S1x1024x1024.Idx → EReal) (wkv : S1x1024x2048.Idx → EReal)
    (wo : S1x1024x1024.Idx → EReal) (dx2 : S1x4096x1024.Idx → EReal) : Prop where
  h0 : W (Proc.devRef .tc main_arg0) = x
  h1 : W (Proc.devRef .tc main_arg1) = yv
  h2 : W (Proc.devRef .tc main_arg2) = bd
  h3 : W (Proc.devRef .tc main_arg3) = ya
  h4 : W (Proc.devRef .tc main_arg4) = mem
  h5 : W (Proc.devRef .tc main_arg5) = lg
  h6 : W (Proc.devRef .tc main_arg6) = lb
  h7 : W (Proc.devRef .tc main_arg7) = wout
  h8 : W (Proc.devRef .tc main_arg8) = bo
  h9 : W (Proc.devRef .tc main_arg9) = gm
  h10 : W (Proc.devRef .tc main_arg10) = gkv
  h11 : W (Proc.devRef .tc main_arg11) = wq
  h12 : W (Proc.devRef .tc main_arg12) = wkv
  h13 : W (Proc.devRef .tc main_arg13) = wo
  h14 : W (Proc.devRef .tc main_arg14) = dx2

section Lines

variable {W : Idealize.ShloMosaic.Valuation τ sig (Elt Ideal)}
  {x : S1x4096x1024.Idx → EReal} {yv : S1x4096x512.Idx → EReal} {bd : S1x512.Idx → EReal} {ya : S1x4096x512.Idx → EReal}
  {mem : S1x256x1024.Idx → EReal} {lg lb : S1x512.Idx → EReal} {wout : S1x1024x1024.Idx → EReal} {bo gm gkv : S1x1024.Idx → EReal}
  {wq : S1x1024x1024.Idx → EReal} {wkv : S1x1024x2048.Idx → EReal} {wo : S1x1024x1024.Idx → EReal} {dx2 : S1x4096x1024.Idx → EReal}
  (H : Args W x yv bd ya mem lg lb wout bo gm gkv wq wkv wo dx2)
include H

/-- The lines before the call leave the arguments alone. -/
theorem Args.first : Args (after hostOps0 W) x yv bd ya mem lg lb wout bo gm gkv wq wkv wo dx2 := by
  constructor <;> (entry_read; cases H; assumption)

theorem Args.second : Args (after hostOps0_1 W) x yv bd ya mem lg lb wout bo gm gkv wq wkv wo dx2 := by
  constructor <;> (entry_read; cases H; assumption)

/-- The gate's argument. -/
theorem v28_at (r : Fin 4096) (k : Fin 512) : after hostOps0 W (Proc.devRef .tc main_v28) (ix2 r k) = gate yv bd lg lb r k := by
  entry_read
  pointwise [H.h1, H.h2, H.h5, H.h6]
  rfl

theorem v2_first (r : Fin 4096) (k : Fin 512) : after hostOps0 W (Proc.devRef .tc main_v2) (ix2 r k) = yrow yv bd r k := by
  entry_read
  pointwise [H.h1, H.h2]
  rfl

omit H in
theorem v2_later : after hostOps0_2 (after hostOps0_1 W) (Proc.devRef .tc main_v2) = W (Proc.devRef .tc main_v2) := by
  have h : ∀ U : Idealize.ShloMosaic.Valuation τ sig (Elt Ideal), after hostOps0_2 U (Proc.devRef .tc main_v2) = U (Proc.devRef .tc main_v2) := fun U => by
    entry_read
    rfl
  rw [h]
  entry_read
  rfl

/-- The gate. -/
theorem v29_at (h : ∀ r k, W (Proc.devRef .tc main_v28) (ix2 r k) = gate yv bd lg lb r k) (r : Fin 4096) (k : Fin 512) :
    after hostOps0_1 W (Proc.devRef .tc main_v29) (ix2 r k) = gate yv bd lg lb r k * sigm (gate yv bd lg lb r k) := by
  have e : after hostOps0_1 W (Proc.devRef .tc main_v29)
      = mulf (F := Ideal) (s := S4096x512) (φ := .f32) (W (Proc.devRef .tc main_v28)) (Host.divf (broadcastInDim S4096x512 ![] bcast_S_S4096x512 (constant S_ .f32 0x3F800000#32))
          (addf (broadcastInDim S4096x512 ![] bcast_S_S4096x512 (constant S_ .f32 0x3F800000#32)) (Host.exp (Host.negf (W (Proc.devRef .tc main_v28)))))) := by
    entry_read
    simp only [StableHlo.TRef.ofBuf_toBuf]
    rfl
  rw [e]
  pointwise [h]
  rfl

section Third

variable (h : ∀ r k, W (Proc.devRef .tc main_v29) (ix2 r k) = gate yv bd lg lb r k * sigm (gate yv bd lg lb r k))
include h

/-- The residual, -/
theorem v39_at (r : Fin 4096) (k : Fin 1024) : after hostOps0_2 W (Proc.devRef .tc main_v39) (ix2 r k) = rX x yv bd ya lg lb wout bo r k := by
  entry_read
  pointwise [H.h0, H.h3, H.h7, H.h8, h]
  rfl

/-- the scaled queries, -/
theorem v58_at (r : Fin 4096) (k : Fin 1024) : after hostOps0_2 W (Proc.devRef .tc main_v58) (ix2 r k)
    = rQ x yv bd ya lg lb wout bo gm wq r k * Ideal.ofBits .f32 0x3D800000#32 := by
  entry_read
  pointwise [H.h0, H.h3, H.h7, H.h8, H.h9, H.h11, h]
  rfl

end Third

/-- the memory's keys and values. -/
theorem v77_at (μ : Fin 256) (k : Fin 1024) : after hostOps0_2 W (Proc.devRef .tc main_v77) (ix2 μ k) = rK mem gkv wkv μ k := by
  entry_read
  pointwise [H.h4, H.h10, H.h12]
  rfl

theorem v78_at (μ : Fin 256) (k : Fin 1024) : after hostOps0_2 W (Proc.devRef .tc main_v78) (ix2 μ k) = rV mem gkv wkv μ k := by
  entry_read
  pointwise [H.h4, H.h10, H.h12]
  rfl

/-- The weights and the cotangent in the call's shapes. -/
theorem v79_at (r : Fin 4096) (k : Fin 1024) : after hostOps0_2 W (Proc.devRef .tc main_v79) (ix2 r k) = dx2 (ix3 0 r k) := by
  entry_read
  pointwise [H.h14]

theorem v81_at (r : Fin 1024) (k : Fin 1024) : after hostOps0_2 W (Proc.devRef .tc main_v81) (ix2 r k) = wq (ix3 0 r k) := by
  entry_read
  pointwise [H.h11]

theorem v83_at (r : Fin 1024) (k : Fin 1024) : after hostOps0_2 W (Proc.devRef .tc main_v83) (ix2 r k) = wo (ix3 0 r k) := by
  entry_read
  pointwise [H.h13]

theorem v85_at (r : Fin 1024) (k : Fin 1024) : after hostOps0_2 W (Proc.devRef .tc main_v85) (ix2 r k) = wout (ix3 0 r k) := by
  entry_read
  pointwise [H.h7]

/-- All three stretches of lines. -/
theorem Args.all : Args (after hostOps0_1 (after hostOps0 W)) x yv bd ya mem lg lb wout bo gm gkv wq wkv wo dx2 := H.first.second

theorem gate_all (r : Fin 4096) (k : Fin 512) : after hostOps0_1 (after hostOps0 W) (Proc.devRef .tc main_v29) (ix2 r k)
    = gate yv bd lg lb r k * sigm (gate yv bd lg lb r k) := v29_at H.first (v28_at H) r k

end Lines

variable {m : (ℓ : Loc nD τ sig) → Buf (Elt Ideal) ℓ} {c : Dev nD}
  {x : S1x4096x1024.Idx → EReal} {yv : S1x4096x512.Idx → EReal} {bd : S1x512.Idx → EReal} {ya : S1x4096x512.Idx → EReal}
  {mem : S1x256x1024.Idx → EReal} {lg lb : S1x512.Idx → EReal} {wout : S1x1024x1024.Idx → EReal} {bo gm gkv : S1x1024.Idx → EReal}
  {wq : S1x1024x1024.Idx → EReal} {wkv : S1x1024x2048.Idx → EReal} {wo : S1x1024x1024.Idx → EReal} {dx2 : S1x4096x1024.Idx → EReal}

theorem V_eq (b : Ref sig .tc) : V m c b = after hostOps0_2 (after hostOps0_1 (after hostOps0 fun b => m (c, b))) (Proc.devRef .tc b) := by
  show after (List.flatten [hostOps0, hostOps0_1, hostOps0_2]) _ _ = _
  rw [List.flatten_cons, List.flatten_cons, List.flatten_cons, List.flatten_nil, List.append_nil, StableHlo.after_append, StableHlo.after_append]

variable (H : Args (fun b => m (c, b)) x yv bd ya mem lg lb wout bo gm gkv wq wkv wo dx2)
include H

/-! ## The blocks -/

theorem blk0 (t : Fin cfg0.N) (r : Fin 512) (k : Fin 1024) : iblk m c 0 t (ix2 r k) = dx2 (ix3 0 (at_ t r) k) := by
  have ht := lt8 t
  have h : iblk m c 0 t (ix2 r k) = V m c main_v79 (ix2 (at_ t r) k) := by blk_point [iblk, idx t, at_]
  rw [h, V_eq]
  exact v79_at H.all _ _

theorem blk1 (t : Fin cfg0.N) (r : Fin 512) (k : Fin 1024) : iblk m c 1 t (ix2 r k) = rX x yv bd ya lg lb wout bo (at_ t r) k := by
  have ht := lt8 t
  have h : iblk m c 1 t (ix2 r k) = V m c main_v39 (ix2 (at_ t r) k) := by blk_point [iblk, idx t, at_]
  rw [h, V_eq]
  exact v39_at H.all (gate_all H) _ _

theorem blk2 (t : Fin cfg0.N) (r : Fin 512) (k : Fin 1024) :
    iblk m c 2 t (ix2 r k) = rQ x yv bd ya lg lb wout bo gm wq (at_ t r) k * Ideal.ofBits .f32 0x3D800000#32 := by
  have ht := lt8 t
  have h : iblk m c 2 t (ix2 r k) = V m c main_v58 (ix2 (at_ t r) k) := by blk_point [iblk, idx t, at_]
  rw [h, V_eq]
  exact v58_at H.all (gate_all H) _ _

theorem blk3 (t : Fin cfg0.N) (μ : Fin 256) (k : Fin 1024) : iblk m c 3 t (ix2 μ k) = rK mem gkv wkv μ k := by
  have h : iblk m c 3 t (ix2 μ k) = V m c main_v77 (ix2 μ k) := by blk_point [iblk, idx t, at_]
  rw [h, V_eq]
  exact v77_at H.all _ _

theorem blk4 (t : Fin cfg0.N) (μ : Fin 256) (k : Fin 1024) : iblk m c 4 t (ix2 μ k) = rV mem gkv wkv μ k := by
  have h : iblk m c 4 t (ix2 μ k) = V m c main_v78 (ix2 μ k) := by blk_point [iblk, idx t, at_]
  rw [h, V_eq]
  exact v78_at H.all _ _

theorem blk5 (t : Fin cfg0.N) (k : Fin 1024) : iblk m c 5 t (ix2 0 k) = gm (ix2 0 k) := by
  rw [← H.h9]
  blk_point [iblk, idx t]

theorem blk6 (t : Fin cfg0.N) (r : Fin 1024) (k : Fin 1024) : iblk m c 6 t (ix2 r k) = wq (ix3 0 r k) := by
  have h : iblk m c 6 t (ix2 r k) = V m c main_v81 (ix2 r k) := by blk_point [iblk, idx t, at_]
  rw [h, V_eq]
  exact v81_at H.all _ _

theorem blk7 (t : Fin cfg0.N) (r : Fin 1024) (k : Fin 1024) : iblk m c 7 t (ix2 r k) = wo (ix3 0 r k) := by
  have h : iblk m c 7 t (ix2 r k) = V m c main_v83 (ix2 r k) := by blk_point [iblk, idx t, at_]
  rw [h, V_eq]
  exact v83_at H.all _ _

theorem blk8 (t : Fin cfg0.N) (r : Fin 1024) (k : Fin 1024) : iblk m c 8 t (ix2 r k) = wout (ix3 0 r k) := by
  have h : iblk m c 8 t (ix2 r k) = V m c main_v85 (ix2 r k) := by blk_point [iblk, idx t, at_]
  rw [h, V_eq]
  exact v85_at H.all _ _

theorem blk9 (t : Fin cfg0.N) (r : Fin 512) (k : Fin 512) : iblk m c 9 t (ix2 r k) = yrow yv bd (at_ t r) k := by
  have ht := lt8 t
  have h : iblk m c 9 t (ix2 r k) = V m c main_v2 (ix2 (at_ t r) k) := by blk_point [iblk, idx t, at_]
  rw [h, V_eq]
  exact (congrFun v2_later _).trans (v2_first H _ _)

theorem blk10 (t : Fin cfg0.N) (k : Fin 512) : iblk m c 10 t (ix2 0 k) = lg (ix2 0 k) := by
  rw [← H.h5]
  blk_point [iblk, idx t]

theorem blk11 (t : Fin cfg0.N) (k : Fin 512) : iblk m c 11 t (ix2 0 k) = lb (ix2 0 k) := by
  rw [← H.h6]
  blk_point [iblk, idx t]

end Cert.Mem

end
-- ==== Proof.MemRef.lean ====
/- The memory attention's backward call: the reference's values, entry by entry. -/
module

public import proofs.«01_k».proof.Proof.Gen.ReferenceMemIdeal.Read
public import proofs.«01_k».proof.Proof.MemMath
public import proofs.«01_k».proof.Proof.Sums

@[expose] public section

set_option maxRecDepth 16384

noncomputable section

namespace Cert.Mem

open Cert.ReferenceMemIdeal Idealize.ShloMosaic Idealize.ShloMosaic.TcCoe
open Cert.ReferenceMemIdeal.Read Cert.Rms

variable (x : S1x4096x1024.Idx → EReal) (yv : S1x4096x512.Idx → EReal) (bd : S1x512.Idx → EReal) (ya : S1x4096x512.Idx → EReal)
  (mem : S1x256x1024.Idx → EReal) (lg lb : S1x512.Idx → EReal) (wout : S1x1024x1024.Idx → EReal) (bo gm gkv : S1x1024.Idx → EReal)
  (wq : S1x1024x1024.Idx → EReal) (wkv : S1x1024x2048.Idx → EReal) (wo : S1x1024x1024.Idx → EReal) (dx2 : S1x4096x1024.Idx → EReal)

theorem lit_bot : Ideal.ofBits .f32 0xFF800000#32 = ⊥ := by simp [Ideal.ofBits, Ideal.ieee]

/-- A host sum over the first and the last axis of a rank-4 array is the double sum. -/
theorem hostReduceAdd_r4_a03 {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (p : Fin n1) (q : Fin n2) :
    Ideal.hostReduceAdd h v init (ix2 p q) = init + ∑ a : Fin n0, ∑ b : Fin n3, v (ix4 a p q b) := by
  have key : ∑ i ∈ Finset.univ.filter (fun i => h.drop i = ix2 p q), v i = ∑ x : Fin n0 × Fin n3, v (ix4 x.1 p q x.2) := by
    refine Finset.sum_filter_eq_sum_of_fiber _ (fun x : Fin n0 × Fin n3 => ix4 x.1 p q x.2)
      (fun x x' e => Prod.ext (congrFun e 0) (congrFun e 3)) (fun i => ⟨fun e => ⟨(i 0, i 3), ?_⟩, ?_⟩) v
    · funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨x, rfl⟩
      funext a
      apply Fin.ext
      match a with
      | ⟨0, _⟩ => rfl
      | ⟨1, _⟩ => rfl
  exact (congrArg (init + ·) key).trans (by rw [Fintype.sum_prod_type])

/-! ## The forward lines -/

theorem r21 (r : Fin 4096) (k : Fin 512) : val_main_v21 (F := Ideal) yv bd (ix3 0 r k) = yrow yv bd r k := by
  pointwise [val_main_v21, val_main_v20, val_main_v19, val_main_v18]
  rfl
theorem r38 (r : Fin 4096) (k : Fin 512) : val_main_v38 (F := Ideal) yv bd (ix3 0 r k) = ctr (yrow yv bd r) k := by
  pointwise [val_main_v38, val_main_v37, val_main_v27, val_main_v25, val_main_v24, val_main_cst_2, val_main_v26, val_main_cst_3, r21]
  rfl
theorem r29 (r : Fin 4096) (k : Fin 512) : val_main_v29 (F := Ideal) yv bd (ix3 0 r k) = ctr (yrow yv bd r) k := by
  pointwise [val_main_v29, val_main_v28, val_main_v27, val_main_v25, val_main_v24, val_main_cst_2, val_main_v26, val_main_cst_3, r21]
  rfl
theorem r40 (r : Fin 4096) : val_main_v40 (F := Ideal) yv bd (ix3 0 r 0) = vps (yrow yv bd r) := by
  pointwise [val_main_v40, val_main_v36, val_main_v34, val_main_v33, val_main_v30, val_main_cst_5, val_main_v35, val_main_cst_6, val_main_v39, val_main_cst_7, r29]
  rfl
theorem r46 (r : Fin 4096) (k : Fin 512) : val_main_v46 (F := Ideal) yv bd (ix3 0 r k) = lhat (yrow yv bd r) k := by
  pointwise [val_main_v46, val_main_v45, val_main_v41, r38, r40]
  rfl
theorem r52 (r : Fin 4096) (k : Fin 512) : val_main_v52 (F := Ideal) yv bd lg lb (ix3 0 r k) = gate yv bd lg lb r k := by
  pointwise [val_main_v52, val_main_v49, val_main_v48, val_main_v47, val_main_v22, val_main_v51, val_main_v50, val_main_v23, r46]
  rfl
theorem s53 (r : Fin 4096) (k : Fin 512) : val_main_v53_2 (F := Ideal) yv bd lg lb (ix3 0 r k) = sigm (gate yv bd lg lb r k) := by
  pointwise [val_main_v53_2, val_main_call0_v4, val_main_call0_cst_0, val_main_call0_v3, val_main_call0_v2, val_main_call0_cst, val_main_call0_v1, val_main_call0_v0, r52]
  rfl
theorem r61 (r : Fin 4096) (k : Fin 1024) : val_main_v61 (F := Ideal) x yv bd ya lg lb wout bo (ix3 0 r k) = rX x yv bd ya lg lb wout bo r k := by
  pointwise [val_main_v61, val_main_v60, val_main_v56, val_main_v54, val_main_v53_0, val_main_v55, val_main_v59, val_main_v58, val_main_v57, r52, s53]
  rfl
theorem r70 (r : Fin 4096) : val_main_v70 (F := Ideal) x yv bd ya lg lb wout bo (ix3 0 r 0) = rr (rX x yv bd ya lg lb wout bo r) := by
  pointwise [val_main_v70, val_main_v69, val_main_v67, val_main_v65, val_main_v64, val_main_v63, val_main_cst_9, val_main_v66, val_main_cst_10, val_main_v68, val_main_cst_11, r61]
  rfl
theorem r78 (r : Fin 4096) (k : Fin 1024) : val_main_v78 (F := Ideal) x yv bd ya lg lb wout bo gm (ix3 0 r k) = hq gm (rX x yv bd ya lg lb wout bo) r k := by
  pointwise [val_main_v78, val_main_v75, val_main_v74, val_main_v77, val_main_v76, val_main_v62, r61, r70]
  rfl
theorem r80 (r : Fin 4096) (k : Fin 1024) : val_main_v80 (F := Ideal) x yv bd ya lg lb wout bo gm wq (ix3 0 r k) = rQ x yv bd ya lg lb wout bo gm wq r k := by
  pointwise [val_main_v80, val_main_v79, r78]
  rfl
theorem r15 (μ : Fin 256) (j : Fin 2048) : val_main_v15 (F := Ideal) mem gkv wkv (ix3 0 μ j) = kv mem gkv wkv μ j := by
  pointwise [val_main_v15, val_main_v13, val_main_v10, val_main_v9, val_main_v8, val_main_v7, val_main_v5, val_main_v3, val_main_v2, val_main_v1, val_main_cst, val_main_v4, val_main_cst_0, val_main_v6, val_main_cst_1, val_main_v12, val_main_v11, val_main_v0, val_main_v14]
  rfl
theorem r16 (μ : Fin 256) (k : Fin 1024) : val_main_v16 (F := Ideal) mem gkv wkv (ix3 0 μ k) = rK mem gkv wkv μ k := by
  pointwise [val_main_v16, r15]
  rfl
theorem r17 (μ : Fin 256) (k : Fin 1024) : val_main_v17 (F := Ideal) mem gkv wkv (ix3 0 μ k) = rV mem gkv wkv μ k := by
  pointwise [val_main_v17, r15]
  rfl
theorem r120 (r : Fin 4096) (k : Fin 1024) : val_main_v120 (F := Ideal) wo dx2 (ix3 0 r k) = rO wo dx2 r k := by
  pointwise [val_main_v120, val_main_v81]
  exact Cert.Sums.sum_ext fun l => EReal.mul_comm _ _

/-! ## The heads -/

theorem col_at (h : Fin 4) (d : Fin 256) (a : ℕ) (ha : a < 1024) (e : a = 256 * h.val + d.val) : (⟨a, ha⟩ : Fin 1024) = col h d := Fin.ext e

theorem r82 (r : Fin 4096) (h : Fin 4) (d : Fin 256) : val_main_v82 (F := Ideal) x yv bd ya lg lb wout bo gm wq (ix4 0 r h d) = rQ x yv bd ya lg lb wout bo gm wq r (col h d) := by
  have hd := d.isLt
  have hh := h.isLt
  pointwise [val_main_v82, r80]
  exact congrArg (rQ x yv bd ya lg lb wout bo gm wq r) (Fin.ext (by simp only [col]; omega))
theorem r83 (μ : Fin 256) (h : Fin 4) (d : Fin 256) : val_main_v83 (F := Ideal) mem gkv wkv (ix4 0 μ h d) = rK mem gkv wkv μ (col h d) := by
  have hd := d.isLt
  have hh := h.isLt
  pointwise [val_main_v83, r16]
  exact congrArg (rK mem gkv wkv μ) (Fin.ext (by simp only [col]; omega))
theorem r84 (μ : Fin 256) (h : Fin 4) (d : Fin 256) : val_main_v84 (F := Ideal) mem gkv wkv (ix4 0 μ h d) = rV mem gkv wkv μ (col h d) := by
  have hd := d.isLt
  have hh := h.isLt
  pointwise [val_main_v84, r17]
  exact congrArg (rV mem gkv wkv μ) (Fin.ext (by simp only [col]; omega))
theorem r121 (r : Fin 4096) (h : Fin 4) (d : Fin 256) : val_main_v121 (F := Ideal) wo dx2 (ix4 0 r h d) = rO wo dx2 r (col h d) := by
  have hd := d.isLt
  have hh := h.isLt
  pointwise [val_main_v121, r120]
  exact congrArg (rO wo dx2 r) (Fin.ext (by simp only [col]; omega))

section Finite

variable (H : Reals x yv bd ya mem lg lb wout bo gm gkv wq wkv wo dx2)
include H

theorem r87 (r : Fin 4096) (h : Fin 4) (μ : Fin 256) : val_main_v87 (F := Ideal) x yv bd ya mem lg lb wout bo gm gkv wq wkv (ix4 0 h r μ) = ((score (re (rQ x yv bd ya lg lb wout bo gm wq)) (re (rK mem gkv wkv)) h r μ : ℝ) : EReal) := by
  pointwise [val_main_v87, val_main_v85, val_main_v86, val_main_cst_13, r82, r83]
  rw [lit_16th, AttnMath.sum_coe (fun d => re (rQ x yv bd ya lg lb wout bo gm wq) r (col h d) * re (rK mem gkv wkv) μ (col h d)) fun d => ?_, ← EReal.coe_mul, score, Finset.sum_mul]
  · congr 1
    exact Finset.sum_congr rfl fun d _ => by ring
  · rw [re_coe H.Q, re_coe H.K, EReal.coe_mul]
theorem r123 (r : Fin 4096) (h : Fin 4) (μ : Fin 256) : val_main_v123 (F := Ideal) mem gkv wkv wo dx2 (ix4 0 h r μ) = ((dprob (re (rV mem gkv wkv)) (re (rO wo dx2)) h r μ : ℝ) : EReal) := by
  pointwise [val_main_v123, val_main_v122, r84, r121]
  rw [AttnMath.sum_coe (fun d => re (rO wo dx2) r (col h d) * re (rV mem gkv wkv) μ (col h d)) fun d => ?_, dprob]
  · congr 1
    exact Finset.sum_congr rfl fun d _ => by ring
  · rw [re_coe H.O, re_coe H.V, EReal.coe_mul]

/-! ## The softmax and its derivative -/

theorem r88 (r : Fin 4096) (h : Fin 4) : val_main_v88 (F := Ideal) x yv bd ya mem lg lb wout bo gm gkv wq wkv (ix3 0 h r)
    = Finset.univ.fold max ⊥ (fun μ => ((score (re (rQ x yv bd ya lg lb wout bo gm wq)) (re (rK mem gkv wkv)) h r μ : ℝ) : EReal)) := by
  pointwise [val_main_v88, val_main_cst_14, r87 x yv bd ya mem lg lb wout bo gm gkv wq wkv wo dx2 H]
  rw [lit_bot]
omit H in
/-- The maximum with the lowest number, of any array. -/
theorem max_low (y z : (⟨S1x4x4096, .f32⟩ : BufTy).Contents (Elt Ideal)) (i : S1x4x4096.Idx) (hz : z i = (⊥ : EReal)) :
    maximumf (F := Ideal) (φ := .f32) z y i = y i := by
  have h : maximumf (F := Ideal) (φ := .f32) z y i = max (α := EReal) (z i) (y i) := by pointwise []
  rw [h, hz]
  exact max_eq_right bot_le
omit H in
theorem r94 (r : Fin 4096) (h : Fin 4) : val_main_v94 (F := Ideal) (ix3 0 h r) = (⊥ : EReal) := by
  pointwise [val_main_v94, val_main_cst_16]
  exact lit_bot
theorem r95 (r : Fin 4096) (h : Fin 4) : ∃ a : ℝ, val_main_v95 (F := Ideal) x yv bd ya mem lg lb wout bo gm gkv wq wkv (ix3 0 h r) = (a : EReal) := by
  obtain ⟨a, ha⟩ := fold_real (score (re (rQ x yv bd ya lg lb wout bo gm wq)) (re (rK mem gkv wkv)) h r) 0
  refine ⟨a, (max_low (val_main_v88 (F := Ideal) x yv bd ya mem lg lb wout bo gm gkv wq wkv) (val_main_v94 (F := Ideal)) (ix3 0 h r) (r94 r h)).trans ?_⟩
  rw [r88 x yv bd ya mem lg lb wout bo gm gkv wq wkv wo dx2 H]
  exact ha
theorem r112 (r : Fin 4096) (h : Fin 4) (μ : Fin 256) : val_main_v112 (F := Ideal) x yv bd ya mem lg lb wout bo gm gkv wq wkv (ix4 0 h r μ) = ((prob (score (re (rQ x yv bd ya lg lb wout bo gm wq)) (re (rK mem gkv wkv)) h r) μ : ℝ) : EReal) := by
  obtain ⟨a, ha⟩ := r95 x yv bd ya mem lg lb wout bo gm gkv wq wkv wo dx2 H r h
  pointwise [val_main_v112, val_main_v108, val_main_v107, val_main_v106, val_main_v105, val_main_v111, val_main_v110, val_main_v109, val_main_cst_22, ha, r87 x yv bd ya mem lg lb wout bo gm gkv wq wkv wo dx2 H]
  exact prob_div _ a μ
theorem r140 (r : Fin 4096) (h : Fin 4) (μ : Fin 256) :
    val_main_v140 (F := Ideal) x yv bd ya mem lg lb wout bo gm gkv wq wkv wo dx2 (ix4 0 h r μ) = ((ds (re (rQ x yv bd ya lg lb wout bo gm wq)) (re (rK mem gkv wkv)) (re (rV mem gkv wkv)) (re (rO wo dx2)) h r μ * (1 / 16) : ℝ) : EReal) := by
  obtain ⟨a, ha⟩ := r95 x yv bd ya mem lg lb wout bo gm gkv wq wkv wo dx2 H r h
  pointwise [val_main_v140, val_main_v138, val_main_v137, val_main_v133, val_main_v132, val_main_v110, val_main_v109, val_main_v108, val_main_v107, val_main_v106, val_main_v105, val_main_cst_22, val_main_v136, val_main_v135, val_main_v134, val_main_v131, val_main_v130, val_main_v129, val_main_v128, val_main_v127, val_main_v126, val_main_v115, val_main_v114, val_main_cst_23, val_main_v113, val_main_cst_24, val_main_cst_25, val_main_v139, val_main_cst_26, ha, r87 x yv bd ya mem lg lb wout bo gm gkv wq wkv wo dx2 H, r123 x yv bd ya mem lg lb wout bo gm gkv wq wkv wo dx2 H, hostReduceAdd_r4_a03]
  rw [Cert.Sums.sum_one, Cert.Sums.sum_one, lit_16th, EReal.coe_mul]
  exact congrArg (fun y : EReal => y * _) (dscore_quot _ _ a μ)

/-! ## The heads' gradients -/

theorem r125 (μ : Fin 256) (h : Fin 4) (d : Fin 256) :
    val_main_v125 (F := Ideal) x yv bd ya mem lg lb wout bo gm gkv wq wkv wo dx2 (ix4 0 μ h d) = ∑ r : Fin 4096, ((gv (re (rQ x yv bd ya lg lb wout bo gm wq)) (re (rK mem gkv wkv)) (re (rO wo dx2)) h r μ d : ℝ) : EReal) := by
  pointwise [val_main_v125, val_main_v124, val_main_v122, r112 x yv bd ya mem lg lb wout bo gm gkv wq wkv wo dx2 H, r121]
  refine Cert.Sums.sum_ext fun r => ?_
  rw [re_coe H.O, gv, mul_comm, EReal.coe_mul]
theorem r142 (μ : Fin 256) (h : Fin 4) (d : Fin 256) :
    val_main_v142 (F := Ideal) x yv bd ya mem lg lb wout bo gm gkv wq wkv wo dx2 (ix4 0 μ h d) = ∑ r : Fin 4096, ((gk (re (rQ x yv bd ya lg lb wout bo gm wq)) (re (rK mem gkv wkv)) (re (rV mem gkv wkv)) (re (rO wo dx2)) h r μ d : ℝ) : EReal) := by
  pointwise [val_main_v142, val_main_v141, r140 x yv bd ya mem lg lb wout bo gm gkv wq wkv wo dx2 H, r82]
  refine Cert.Sums.sum_ext fun r => ?_
  rw [re_coe H.Q, gk, ← EReal.coe_mul]
  exact congrArg _ (by ring)
theorem r144 (r : Fin 4096) (h : Fin 4) (d : Fin 256) :
    val_main_v144 (F := Ideal) x yv bd ya mem lg lb wout bo gm gkv wq wkv wo dx2 (ix4 0 r h d) = ((gq (re (rQ x yv bd ya lg lb wout bo gm wq)) (re (rK mem gkv wkv)) (re (rV mem gkv wkv)) (re (rO wo dx2)) h r d : ℝ) : EReal) := by
  pointwise [val_main_v144, val_main_v143, r140 x yv bd ya mem lg lb wout bo gm gkv wq wkv wo dx2 H, r83]
  rw [AttnMath.sum_coe (fun μ => ds (re (rQ x yv bd ya lg lb wout bo gm wq)) (re (rK mem gkv wkv)) (re (rV mem gkv wkv)) (re (rO wo dx2)) h r μ * (1 / 16) * re (rK mem gkv wkv) μ (col h d)) fun μ => ?_, gq, Finset.sum_mul]
  · exact congrArg _ (Finset.sum_congr rfl fun μ _ => by ring)
  · rw [re_coe H.K, ← EReal.coe_mul]
omit H in
/-- A place of the heads side by side. -/
theorem head_at {n : ℕ} (f : Fin n → Fin 4 → Fin 256 → EReal) (i : Fin n) (k : Fin 1024) (a b c : ℕ) (ha : a < n) (hb : b < 4) (hc : c < 256)
    (ea : a = i.val) (eb : b = k.val / 256) (ec : c = k.val % 256) :
    f ⟨a, ha⟩ ⟨b, hb⟩ ⟨c, hc⟩ = f i ⟨k.val / 256, by have := k.isLt; omega⟩ ⟨k.val % 256, Nat.mod_lt _ (by norm_num)⟩ := by
  subst ea eb ec; rfl
theorem r145 (μ : Fin 256) (k : Fin 1024) : val_main_v145 (F := Ideal) x yv bd ya mem lg lb wout bo gm gkv wq wkv wo dx2 (ix3 0 μ k) = dval (rQ x yv bd ya lg lb wout bo gm wq) (rK mem gkv wkv) (rO wo dx2) μ k := by
  have hk := k.isLt
  have hμ := μ.isLt
  pointwise [val_main_v145, r125 x yv bd ya mem lg lb wout bo gm gkv wq wkv wo dx2 H]
  exact head_at (fun μ h d => ∑ r : Fin 4096, ((gv (re (rQ x yv bd ya lg lb wout bo gm wq)) (re (rK mem gkv wkv)) (re (rO wo dx2)) h r μ d : ℝ) : EReal)) μ k _ _ _ _ _ _ (by omega) (by omega) (by omega)
theorem r146 (μ : Fin 256) (k : Fin 1024) : val_main_v146 (F := Ideal) x yv bd ya mem lg lb wout bo gm gkv wq wkv wo dx2 (ix3 0 μ k) = dkey (rQ x yv bd ya lg lb wout bo gm wq) (rK mem gkv wkv) (rV mem gkv wkv) (rO wo dx2) μ k := by
  have hk := k.isLt
  have hμ := μ.isLt
  pointwise [val_main_v146, r142 x yv bd ya mem lg lb wout bo gm gkv wq wkv wo dx2 H]
  exact head_at (fun μ h d => ∑ r : Fin 4096, ((gk (re (rQ x yv bd ya lg lb wout bo gm wq)) (re (rK mem gkv wkv)) (re (rV mem gkv wkv)) (re (rO wo dx2)) h r μ d : ℝ) : EReal)) μ k _ _ _ _ _ _ (by omega) (by omega) (by omega)
theorem r147 (r : Fin 4096) (k : Fin 1024) : val_main_v147 (F := Ideal) x yv bd ya mem lg lb wout bo gm gkv wq wkv wo dx2 (ix3 0 r k) = rP x yv bd ya mem lg lb wout bo gm gkv wq wkv wo dx2 r k := by
  have hk := k.isLt
  have hr := r.isLt
  pointwise [val_main_v147, r144 x yv bd ya mem lg lb wout bo gm gkv wq wkv wo dx2 H]
  exact head_at (fun r h d => ((gq (re (rQ x yv bd ya lg lb wout bo gm wq)) (re (rK mem gkv wkv)) (re (rV mem gkv wkv)) (re (rO wo dx2)) h r d : ℝ) : EReal)) r k _ _ _ _ _ _ (by omega) (by omega) (by omega)

/-! ## The norm of the residual -/

theorem r148 (r : Fin 4096) (k : Fin 1024) : val_main_v148 (F := Ideal) x yv bd ya mem lg lb wout bo gm gkv wq wkv wo dx2 (ix3 0 r k) = dhq wq (rP x yv bd ya mem lg lb wout bo gm gkv wq wkv wo dx2) r k := by
  pointwise [val_main_v148, val_main_v79, r147 x yv bd ya mem lg lb wout bo gm gkv wq wkv wo dx2 H]
  rfl
theorem r153 (r : Fin 4096) (k : Fin 1024) : val_main_v153 (F := Ideal) x yv bd ya mem lg lb wout bo gm gkv wq wkv wo dx2 (ix3 0 r k) = dhg gm wq (rP x yv bd ya mem lg lb wout bo gm gkv wq wkv wo dx2) r k := by
  pointwise [val_main_v153, val_main_v152, val_main_v76, val_main_v62, r148 x yv bd ya mem lg lb wout bo gm gkv wq wkv wo dx2 H]
  rfl
theorem r171 (r : Fin 4096) (k : Fin 1024) : val_main_v171 (F := Ideal) x yv bd ya mem lg lb wout bo gm gkv wq wkv wo dx2 (ix3 0 r k) = rR x yv bd ya mem lg lb wout bo gm gkv wq wkv wo dx2 r k := by
  have b := back (rX x yv bd ya lg lb wout bo r) (H.X r) (fun k => dhg gm wq (rP x yv bd ya mem lg lb wout bo gm gkv wq wkv wo dx2) r k) k
  pointwise [val_main_v171, val_main_v169, val_main_v167, val_main_v159, val_main_v158, val_main_v70, val_main_v69, val_main_v67, val_main_v65, val_main_v64, val_main_v63, val_main_cst_9, val_main_v66, val_main_cst_10, val_main_v68, val_main_cst_11, val_main_v166, val_main_v165, val_main_v164, val_main_v163, val_main_v162, val_main_v160, val_main_v157, val_main_v156, val_main_v155, val_main_cst_29, val_main_v73, val_main_v72, val_main_cst_12, val_main_v71, val_main_v161, val_main_cst_30, val_main_cst_31, val_main_v168, r153 x yv bd ya mem lg lb wout bo gm gkv wq wkv wo dx2 H, r61, Cert.Sums.hostReduceAdd_r3_a02]
  rw [Cert.Sums.sum_one, Cert.Sums.sum_one]
  refine Eq.trans ?_ (congrArg (dx2 (ix3 0 r k) + ·) b.symm)
  rfl
theorem r170 (k : Fin 1024) : val_main_v170 (F := Ideal) x yv bd ya mem lg lb wout bo gm gkv wq wkv wo dx2 (ix2 0 k) = dgain wq (rX x yv bd ya lg lb wout bo) (rP x yv bd ya mem lg lb wout bo gm gkv wq wkv wo dx2) k := by
  pointwise [val_main_v170, val_main_v154, val_main_v151, val_main_v150, val_main_v149, val_main_v75, val_main_v74, val_main_cst_27, val_main_cst_28, r148 x yv bd ya mem lg lb wout bo gm gkv wq wkv wo dx2 H, r61, r70, Cert.Sums.hostReduceAdd_r3_a01]
  rw [Cert.Sums.sum_one, Cert.Sums.sum_one]
  exact Cert.Sums.sum_ext fun q => EReal.mul_comm _ _

/-! ## The mixing and the gate -/

theorem r175 (k : Fin 1024) : val_main_v175 (F := Ideal) x yv bd ya mem lg lb wout bo gm gkv wq wkv wo dx2 (ix2 0 k) = ∑ r : Fin 4096, rR x yv bd ya mem lg lb wout bo gm gkv wq wkv wo dx2 r k := by
  pointwise [val_main_v175, val_main_v174, val_main_v173, val_main_v172, val_main_cst_32, val_main_cst_33, r171 x yv bd ya mem lg lb wout bo gm gkv wq wkv wo dx2 H, Cert.Sums.hostReduceAdd_r3_a01]
  rw [Cert.Sums.sum_one, Cert.Sums.sum_one]
theorem r176 (r : Fin 4096) (l : Fin 1024) : val_main_v176 (F := Ideal) x yv bd ya mem lg lb wout bo gm gkv wq wkv wo dx2 (ix3 0 r l) = dmix wout (rR x yv bd ya mem lg lb wout bo gm gkv wq wkv wo dx2) r l := by
  pointwise [val_main_v176, val_main_v55, r171 x yv bd ya mem lg lb wout bo gm gkv wq wkv wo dx2 H]
  rfl
theorem r178 (r : Fin 4096) (l : Fin 512) : val_main_v178 (F := Ideal) x yv bd ya mem lg lb wout bo gm gkv wq wkv wo dx2 (ix3 0 r l) = dmix wout (rR x yv bd ya mem lg lb wout bo gm gkv wq wkv wo dx2) r ⟨512 + l.val, by have := l.isLt; omega⟩ := by
  pointwise [val_main_v178, r176 x yv bd ya mem lg lb wout bo gm gkv wq wkv wo dx2 H]
theorem r179 (r : Fin 4096) (k : Fin 512) : val_main_v179 (F := Ideal) x yv bd ya mem lg lb wout bo gm gkv wq wkv wo dx2 (ix3 0 r k) = dz yv bd lg lb wout (rR x yv bd ya mem lg lb wout bo gm gkv wq wkv wo dx2) r k := by
  obtain ⟨v, hv⟩ : Real' (dmix wout (rR x yv bd ya mem lg lb wout bo gm gkv wq wkv wo dx2) r ⟨k.val, by have := k.isLt; omega⟩) := Real'.sum fun l => (H.R r l).mul (H.wout _ l)
  pointwise [val_main_v179, val_main_call1_v1, val_main_v177, val_main_call1_v2, val_main_call1_v0, val_main_v53_1, val_main_call0_v7, val_main_call0_v6, val_main_call0_cst_1, r176 x yv bd ya mem lg lb wout bo gm gkv wq wkv wo dx2 H, r52, s53]
  rw [dz, hv]
  exact (gate_back v _).symm
theorem r215 (k : Fin 512) : val_main_v215 (F := Ideal) x yv bd ya mem lg lb wout bo gm gkv wq wkv wo dx2 (ix2 0 k) = ∑ r : Fin 4096, dz yv bd lg lb wout (rR x yv bd ya mem lg lb wout bo gm gkv wq wkv wo dx2) r k := by
  pointwise [val_main_v215, val_main_v182, val_main_v181, val_main_v180, val_main_cst_34, val_main_cst_35, r179 x yv bd ya mem lg lb wout bo gm gkv wq wkv wo dx2 H, Cert.Sums.hostReduceAdd_r3_a01]
  rw [Cert.Sums.sum_one, Cert.Sums.sum_one]
theorem r216 (k : Fin 512) : val_main_v216 (F := Ideal) x yv bd ya mem lg lb wout bo gm gkv wq wkv wo dx2 (ix2 0 k) = ∑ r : Fin 4096, dz yv bd lg lb wout (rR x yv bd ya mem lg lb wout bo gm gkv wq wkv wo dx2) r k * lhat (yrow yv bd r) k := by
  pointwise [val_main_v216, val_main_v188, val_main_v185, val_main_v184, val_main_v183, val_main_cst_36, val_main_cst_37, r179 x yv bd ya mem lg lb wout bo gm gkv wq wkv wo dx2 H, r46, Cert.Sums.hostReduceAdd_r3_a01]
  rw [Cert.Sums.sum_one, Cert.Sums.sum_one]
  exact Cert.Sums.sum_ext fun q => EReal.mul_comm _ _
theorem r187 (r : Fin 4096) (k : Fin 512) : val_main_v187 (F := Ideal) x yv bd ya mem lg lb wout bo gm gkv wq wkv wo dx2 (ix3 0 r k) = rD x yv bd ya mem lg lb wout bo gm gkv wq wkv wo dx2 r k := by
  pointwise [val_main_v187, val_main_v186, val_main_v47, val_main_v22, r179 x yv bd ya mem lg lb wout bo gm gkv wq wkv wo dx2 H]
  rfl
theorem r214 (r : Fin 4096) (k : Fin 512) : val_main_v214 (F := Ideal) x yv bd ya mem lg lb wout bo gm gkv wq wkv wo dx2 (ix3 0 r k) = dy yv bd lg lb wout (rR x yv bd ya mem lg lb wout bo gm gkv wq wkv wo dx2) r k := by
  have b := lback_eq (yrow yv bd r) (rD x yv bd ya mem lg lb wout bo gm gkv wq wkv wo dx2 r) (H.yrow r) (H.D r) k
  pointwise [val_main_v214, val_main_v207, val_main_v193, val_main_v192, val_main_v41, val_main_v203, val_main_v202, val_main_v201, val_main_v200, val_main_v199, val_main_v194, val_main_v191, val_main_v190, val_main_v189, val_main_cst_38, val_main_v44, val_main_v43, val_main_cst_8, val_main_v42, val_main_v198, val_main_cst_40, val_main_cst_41, val_main_v32, val_main_v31, val_main_cst_4, val_main_v213, val_main_v212, val_main_v211, val_main_v210, val_main_v208, val_main_v197, val_main_v196, val_main_v195, val_main_cst_39, val_main_v206, val_main_v205, val_main_v204, val_main_cst_42, val_main_v209, val_main_cst_43, val_main_cst_44, r187 x yv bd ya mem lg lb wout bo gm gkv wq wkv wo dx2 H, r38, r29, r40, Cert.Sums.hostReduceAdd_r3_a02]
  simp only [Cert.Sums.sum_one, r40]
  refine Eq.trans ?_ b
  rfl
theorem r220 (k : Fin 512) : val_main_v220 (F := Ideal) x yv bd ya mem lg lb wout bo gm gkv wq wkv wo dx2 (ix2 0 k) = ∑ r : Fin 4096, dy yv bd lg lb wout (rR x yv bd ya mem lg lb wout bo gm gkv wq wkv wo dx2) r k := by
  pointwise [val_main_v220, val_main_v219, val_main_v218, val_main_v217, val_main_cst_45, val_main_cst_46, r214 x yv bd ya mem lg lb wout bo gm gkv wq wkv wo dx2 H, Cert.Sums.hostReduceAdd_r3_a01]
  rw [Cert.Sums.sum_one, Cert.Sums.sum_one]

end Finite

end Cert.Mem

end
-- ==== Proof.MemValue.lean ====
/- The memory attention's backward call: what its body computes of one block of rows, head by head. -/
module

public import proofs.«01_k».proof.Proof.MemBlk
public import proofs.«01_k».proof.Proof.MemRef

@[expose] public section

set_option maxRecDepth 16384

noncomputable section

namespace Cert.Mem

open Cert.KernelMemIdeal Cert.KernelMemIdeal.Gen Idealize.ShloMosaic Idealize.ShloMosaic.TcCoe Idealize.SL.Sem
open Cert.Rms Cert.AttnMath

/-! ## A softmax over the memory, the scores in columns -/

/-- The columns' largest entries, -/
def topOf (s : FVec Ideal S256x512 .f32) : FVec Ideal S1x512 .f32 :=
  shapeCast S1x512 (multiReduction (F := Ideal) .maximumf [0] S512 s 0xFF800000#32 reduces_S256x512_S512 (.inl rfl) rfl) shapeCasts_S512_S1x512
/-- and the probabilities, from the scores and from what is taken off each column. -/
def probOf (s : FVec Ideal S256x512 .f32) (M : FVec Ideal S1x512 .f32) : FVec Ideal S256x512 .f32 :=
  mulf (exp (subf s (broadcastTo S256x512 M broadcasts_S1x512_S256x512)))
    (broadcastTo S256x512 (divf (broadcast S1x512 (Scalar.ofBits .f32 0x3F800000#32))
      (shapeCast S1x512 (multiReduction .add [0] S512 (exp (subf s (broadcastTo S256x512 M broadcasts_S1x512_S256x512)))
        0x00000000#32 reduces_S256x512_S512 (.inl rfl) rfl) shapeCasts_S512_S1x512)) broadcasts_S1x512_S256x512)

theorem topOf_at (s : FVec Ideal S256x512 .f32) (r : Fin 512) :
    topOf s (ix2 0 r) = (Finset.univ : Finset (Fin 256)).fold max (Ideal.ofBits .f32 0xFF800000#32) (fun μ => s (ix2 μ r)) := by
  pointwise [topOf]

theorem probOf_at (s : FVec Ideal S256x512 .f32) (M : FVec Ideal S1x512 .f32) (μ : Fin 256) (r : Fin 512) :
    probOf s M (ix2 μ r) = Ideal.exp ((s (ix2 μ r) : EReal) - M (ix2 0 r))
      * Ideal.div 1 (∑ j : Fin 256, Ideal.exp ((s (ix2 j r) : EReal) - M (ix2 0 r))) := by
  pointwise [probOf]

theorem pay40_at {s : FVec Ideal S256x512 .f32} {z : Fin 512 → Fin 256 → ℝ} (hs : ∀ μ r, s (ix2 μ r) = (z r μ : EReal))
    (μ : Fin 256) (r : Fin 512) : k0_pay40 (F := Ideal) s (ix2 μ r) = ((prob (z r) μ : ℝ) : EReal) := by
  refine (show _ = probOf s (topOf s) (ix2 μ r) from rfl).trans ?_
  obtain ⟨M, hM⟩ := fold_real (z r) μ
  have ht : topOf s (ix2 0 r) = (M : EReal) := by
    rw [topOf_at, lit_bot, ← hM]; simp only [hs]
  rw [probOf_at, ht, hs, ← prob_mul (z r) M μ]
  simp only [hs]

/-! ## One head -/

/-- The cotangents of the probabilities, of a head's values and of its part of the output's cotangent; -/
def dpOf (v : FVec Ideal S256x256 .bf16) (o : FVec Ideal S256x512 .bf16) : FVec Ideal S256x512 .f32 :=
  matmul dot_S256x256_S256x512_S256x512_1_0_0_1_n_n none (shapeCast S256x256 v shapeCasts_S256x256_S256x256) o (constant S256x512 .f32 0x00000000#32)
/-- the values' gradient, added to what is there. -/
def dvOf (o : FVec Ideal S256x512 .bf16) (p : FVec Ideal S256x512 .f32) (acc : FVec Ideal S256x256 .f32) : FVec Ideal S256x256 .f32 :=
  shapeCast S256x256 (addf acc (matmul dot_S256x512_S256x512_S256x256_1_1_0_0_n_n none (truncf .bf16 p bitsLt_bf16_f32) o
    (constant S256x256 .f32 0x00000000#32))) shapeCasts_S256x256_S256x256

/-- A head's lanes of the block's queries, of the keys and the values, and of the output's cotangent. -/
structure Head (h : Fin 4) (Q O : Fin 512 → Fin 1024 → ℝ) (K V : Fin 256 → Fin 1024 → ℝ) (q : FVec Ideal S512x256 .bf16)
    (k v : FVec Ideal S256x256 .bf16) (o : FVec Ideal S256x512 .bf16) : Prop where
  q : ∀ r d, q (ix2 r d) = ((Q r (col h d) * (1 / 16) : ℝ) : EReal)
  k : ∀ μ d, k (ix2 μ d) = (K μ (col h d) : EReal)
  v : ∀ μ d, v (ix2 μ d) = (V μ (col h d) : EReal)
  o : ∀ d r, o (ix2 d r) = (O r (col h d) : EReal)

namespace Head

variable {h : Fin 4} {Q O : Fin 512 → Fin 1024 → ℝ} {K V : Fin 256 → Fin 1024 → ℝ} {q : FVec Ideal S512x256 .bf16}
  {k v : FVec Ideal S256x256 .bf16} {o : FVec Ideal S256x512 .bf16} (H : Head h Q O K V q k v o)
include H

theorem score (μ : Fin 256) (r : Fin 512) : k0_pay39 (F := Ideal) q k (ix2 μ r) = ((score Q K h r μ : ℝ) : EReal) := by
  pointwise [k0_pay39, k0_pay38, k0_pay37, H.q, H.k]
  exact sum_coe _ fun d => (EReal.coe_mul _ _).symm

theorem prob (μ : Fin 256) (r : Fin 512) : k0_pay40 (F := Ideal) (k0_pay39 q k) (ix2 μ r) = ((prob (Mem.score Q K h r) μ : ℝ) : EReal) :=
  pay40_at H.score μ r

theorem dprob (μ : Fin 256) (r : Fin 512) : dpOf v o (ix2 μ r) = ((dprob V O h r μ : ℝ) : EReal) := by
  pointwise [dpOf, H.v, H.o]
  exact sum_coe _ fun d => (EReal.coe_mul _ _).symm

theorem ds (μ : Fin 256) (r : Fin 512) : k0_pay23 (F := Ideal) (k0_pay40 (k0_pay39 q k)) (dpOf v o) (ix2 μ r) = ((ds Q K V O h r μ : ℝ) : EReal) := by
  pointwise [k0_pay23, H.prob, H.dprob]
  exact dscore_mul _ _ _

theorem gq (r : Fin 512) (d : Fin 256) : k0_pay24 (F := Ideal) (k0_pay12 k) (k0_pay40 (k0_pay39 q k)) (dpOf v o) (ix2 r d)
    = ((gq Q K V O h r d : ℝ) : EReal) := by
  pointwise [k0_pay24, k0_pay12, H.ds, H.k, lit_16th]
  rw [sum_coe (fun μ => Mem.ds Q K V O h r μ * K μ (col h d)) fun μ => (EReal.coe_mul _ _).symm]
  exact (EReal.coe_mul _ _).symm

theorem gk (acc : FVec Ideal S256x256 .f32) (μ d : Fin 256) :
    k0_pay25 (F := Ideal) (k0_pay11 q) (k0_pay40 (k0_pay39 q k)) (dpOf v o) acc (ix2 μ d)
      = (acc (ix2 μ d) + ∑ r : Fin 512, ((gk Q K V O h r μ d : ℝ) : EReal) : EReal) := by
  pointwise [k0_pay25, k0_pay11, H.ds, H.q]
  exact congrArg (fun y : EReal => acc (ix2 μ d) + y) (Cert.Sums.sum_ext fun r => (EReal.coe_mul _ _).symm)

theorem gv (acc : FVec Ideal S256x256 .f32) (μ d : Fin 256) : dvOf o (k0_pay40 (k0_pay39 q k)) acc (ix2 μ d)
      = (acc (ix2 μ d) + ∑ r : Fin 512, ((gv Q K O h r μ d : ℝ) : EReal) : EReal) := by
  pointwise [dvOf, H.prob, H.o]
  exact congrArg (fun y : EReal => acc (ix2 μ d) + y) (Cert.Sums.sum_ext fun r => (EReal.coe_mul _ _).symm)

end Head

/-! ## The four heads' payloads are the one head's -/

section Same

variable (a : Vec Ideal S512x1024 .f32) (b : Vec Ideal S1024x1024 .bf16) (w : FVec Ideal S1024x512 .bf16) (q : Vec Ideal S512x256 .bf16)
  (k v : Vec Ideal S256x256 .bf16) (acc : Vec Ideal S256x256 .f32)

/-- A head's lanes of the output's cotangent. -/
abbrev o0 : FVec Ideal S256x512 .bf16 := extractStridedSlice S256x512 ![0, 0] w slices_S1024x512_o0_0_S256x512
abbrev o1 : FVec Ideal S256x512 .bf16 := extractStridedSlice S256x512 ![256, 0] w slices_S1024x512_o256_0_S256x512
abbrev o2 : FVec Ideal S256x512 .bf16 := extractStridedSlice S256x512 ![512, 0] w slices_S1024x512_o512_0_S256x512
abbrev o3 : FVec Ideal S256x512 .bf16 := extractStridedSlice S256x512 ![768, 0] w slices_S1024x512_o768_0_S256x512

theorem dq0 : k0_pay16 (F := Ideal) (k0_pay15 a b q k v)
    = k0_pay24 (k0_pay12 k) (k0_pay40 (k0_pay39 q k)) (dpOf v (o0 (k0_pay10 a b))) := rfl
theorem dq1 : k0_pay24 (F := Ideal) (k0_pay20 k) (k0_pay21 q k) (k0_pay22 w v)
    = k0_pay24 (k0_pay12 k) (k0_pay40 (k0_pay39 q k)) (dpOf v (o1 w)) := rfl
theorem dq2 : k0_pay34 (F := Ideal) w (k0_pay28 k) (k0_pay29 q k) (k0_pay30 q k) k0_pay31 v
    = k0_pay24 (k0_pay12 k) (k0_pay40 (k0_pay39 q k)) (dpOf v (o2 w)) := rfl
theorem dk0 : k0_pay17 (F := Ideal) (k0_pay11 q) (k0_pay14 a b q k v) acc
    = k0_pay25 (k0_pay11 q) (k0_pay40 (k0_pay39 q k)) (dpOf v (o0 (k0_pay10 a b))) acc := rfl
theorem dk1 : k0_pay25 (F := Ideal) (k0_pay19 q) (k0_pay21 q k) (k0_pay22 w v) acc
    = k0_pay25 (k0_pay11 q) (k0_pay40 (k0_pay39 q k)) (dpOf v (o1 w)) acc := rfl
theorem dk2 : k0_pay35 (F := Ideal) w (k0_pay27 q) (k0_pay29 q k) (k0_pay30 q k) k0_pay31 v acc
    = k0_pay25 (k0_pay11 q) (k0_pay40 (k0_pay39 q k)) (dpOf v (o2 w)) acc := rfl
theorem dk3 : k0_pay42 (F := Ideal) w (k0_pay37 q) (k0_pay39 q k) v acc
    = k0_pay25 (k0_pay11 q) (k0_pay40 (k0_pay39 q k)) (dpOf v (o3 w)) acc := rfl
theorem dv0 : k0_pay18 (F := Ideal) w (k0_pay13 q k) acc = dvOf (o0 w) (k0_pay40 (k0_pay39 q k)) acc := rfl
theorem dv1 : k0_pay26 (F := Ideal) w (k0_pay21 q k) acc = dvOf (o1 w) (k0_pay40 (k0_pay39 q k)) acc := rfl
theorem dv2 : k0_pay36 (F := Ideal) w (k0_pay29 q k) (k0_pay30 q k) k0_pay31 acc = dvOf (o2 w) (k0_pay40 (k0_pay39 q k)) acc := rfl
theorem dv3 : k0_pay43 (F := Ideal) w (k0_pay39 q k) acc = dvOf (o3 w) (k0_pay40 (k0_pay39 q k)) acc := rfl

variable (d0 d1 d2 : FVec Ideal S512x256 .f32)

/-- The heads' query gradients side by side. -/
theorem dq_cat (G : Fin 4 → Fin 512 → Fin 256 → EReal) (h0 : ∀ r d, d0 (ix2 r d) = G 0 r d) (h1 : ∀ r d, d1 (ix2 r d) = G 1 r d)
    (h2 : ∀ r d, d2 (ix2 r d) = G 2 r d)
    (h3 : ∀ r d, k0_pay24 (F := Ideal) (k0_pay12 k) (k0_pay40 (k0_pay39 q k)) (dpOf v (o3 w)) (ix2 r d) = G 3 r d)
    (r : Fin 512) (l : Fin 1024) :
    k0_pay44 (F := Ideal) w d0 d1 d2 (k0_pay38 k) (k0_pay39 q k) v (ix2 r l)
      = G ⟨l.val / 256, by have := l.isLt; omega⟩ r ⟨l.val % 256, Nat.mod_lt _ (by norm_num)⟩ := by
  have hl := l.isLt
  refine (show _ = concatenate S512x1024 1 [⟨S512x256, d0⟩, ⟨S512x256, d1⟩, ⟨S512x256, d2⟩,
    ⟨S512x256, k0_pay24 (F := Ideal) (k0_pay12 k) (k0_pay40 (k0_pay39 q k)) (dpOf v (o3 w))⟩]
    concatenates_S512x256_S512x256_S512x256_S512x256_S512x1024_d1 (ix2 r l) from rfl).trans ?_
  generalize k0_pay24 (F := Ideal) (k0_pay12 k) (k0_pay40 (k0_pay39 q k)) (dpOf v (o3 w)) = d3 at *
  have e : ∀ (i : Fin 4) (j : Fin 256), 256 * i.val + j.val = l.val → G i r j
      = G ⟨l.val / 256, by omega⟩ r ⟨l.val % 256, Nat.mod_lt _ (by norm_num)⟩ := fun i j h => by
    have := j.isLt
    rw [show (⟨l.val / 256, by omega⟩ : Fin 4) = i from Fin.ext (by simp only; omega),
      show (⟨l.val % 256, Nat.mod_lt _ (by norm_num)⟩ : Fin 256) = j from Fin.ext (by simp only; omega)]
  pointwise
  by_cases a : l.val < 256
  · exact (dif_pos a).trans ((h0 _ _).trans (e 0 ⟨l.val, a⟩ (by simp)))
  refine (dif_neg a).trans ?_
  by_cases b : l.val - 256 < 256
  · exact (dif_pos b).trans ((h1 _ _).trans (e 1 ⟨l.val - 256, b⟩ (by show 256 * 1 + (l.val - 256) = _; omega)))
  refine (dif_neg b).trans ?_
  by_cases c : l.val - 256 - 256 < 256
  · exact (dif_pos c).trans ((h2 _ _).trans (e 2 ⟨l.val - 256 - 256, c⟩ (by show 256 * 2 + (l.val - 256 - 256) = _; omega)))
  refine (dif_neg c).trans ?_
  exact (h3 _ _).trans (e 3 ⟨l.val - 256 - 256 - 256, by omega⟩ (by show 256 * 3 + (l.val - 256 - 256 - 256) = _; omega))

end Same

/-! ## The rows: the norm before the queries, the out-projection, the gate and the layer norm -/

section Rows

variable {n : ℕ} (q : Fin 512 → Fin 4096) {E : FVec Ideal S512x1024 .f32} {b0 b1 : Vec Ideal S512x1024 .f32}
  {b6 b8 : Vec Ideal S1024x1024 .bf16} {b5 : Vec Ideal S1x1024 .f32} {b9 : Vec Ideal S512x512 .f32} {b10 b11 : Vec Ideal S1x512 .f32}
  {X P R : Fin 4096 → Fin 1024 → EReal}
  {yv : S1x4096x512.Idx → EReal} {bd lg lb : S1x512.Idx → EReal} {wout wq : S1x1024x1024.Idx → EReal} {gm : S1x1024.Idx → EReal}
  {dx2 : S1x4096x1024.Idx → EReal}

theorem pay49 (h1 : ∀ r k, b1 (ix2 r k) = X (q r) k) (r : Fin 512) : k0_pay49 (F := Ideal) b1 (ix2 r 0) = rr (X (q r)) := by
  pointwise [k0_pay49, k0_pay48, h1]
  rfl

theorem pay51 (h1 : ∀ r k, b1 (ix2 r k) = X (q r) k) (r : Fin 512) (k : Fin 1024) :
    k0_pay51 (F := Ideal) b1 (ix2 r k) = (X (q r) k * rr (X (q r)) : EReal) := by
  pointwise [k0_pay51, k0_pay48, pay49 q h1, h1]

/-- The normalised residual. -/
theorem pay50 (h1 : ∀ r k, b1 (ix2 r k) = X (q r) k) (h5 : ∀ k, b5 (ix2 0 k) = gm (ix2 0 k)) (r : Fin 512) (k : Fin 1024) :
    k0_pay50 (F := Ideal) b1 b5 (ix2 r k) = hq gm X (q r) k := by
  pointwise [k0_pay50, k0_pay48, pay49 q h1, h1, h5]
  rfl

theorem pay46 (hE : ∀ r k, E (ix2 r k) = P (q r) k) (r : Fin 512) (k : Fin 1024) : k0_pay46 (F := Ideal) E (ix2 r k) = P (q r) k := by
  pointwise [k0_pay46, k0_pay45, hE]

theorem pay47 (hE : ∀ r k, E (ix2 r k) = P (q r) k) (h6 : ∀ r k, b6 (ix2 r k) = wq (ix3 0 r k)) (r : Fin 512) (k : Fin 1024) :
    k0_pay47 (F := Ideal) E b6 (ix2 r k) = dhq wq P (q r) k := by
  pointwise [k0_pay47, k0_pay45, hE, h6]
  rfl

section Norm

variable (hE : ∀ r k, E (ix2 r k) = P (q r) k) (h6 : ∀ r k, b6 (ix2 r k) = wq (ix3 0 r k)) (h1 : ∀ r k, b1 (ix2 r k) = X (q r) k)
include hE h6 h1

/-- The gain's gradient, of the block's rows, added to what is there. -/
theorem pay60 (acc : Vec Ideal S8x1024 .f32) (a : Fin 8) (k : Fin 1024) :
    k0_pay60 (F := Ideal) (k0_pay52 E b6 b1) acc (ix2 a k)
      = (acc (ix2 a k) + ∑ r : Fin 512, dhq wq P (q r) k * (X (q r) k * rr (X (q r))) : EReal) := by
  pointwise [k0_pay60, k0_pay52, pay47 q hE h6, pay51 q h1]

theorem pay53 (h5 : ∀ k, b5 (ix2 0 k) = gm (ix2 0 k)) (r : Fin 512) (k : Fin 1024) :
    k0_pay53 (F := Ideal) E b6 b1 b5 (ix2 r k) = (dhg gm wq P (q r) k - X (q r) k * rr (X (q r))
      * Ideal.div (∑ l, dhg gm wq P (q r) l * (X (q r) l * rr (X (q r)))) (Ideal.ofBits .f32 0x44800000#32) : EReal) := by
  pointwise [k0_pay53, pay47 q hE h6, pay51 q h1, h5]
  rfl

/-- The gradient of the residual. -/
theorem pay54 (h5 : ∀ k, b5 (ix2 0 k) = gm (ix2 0 k)) (h0 : ∀ r k, b0 (ix2 r k) = dx2 (ix3 0 (q r) k)) (r : Fin 512) (k : Fin 1024) :
    k0_pay54 (F := Ideal) (k0_pay9 b0) (k0_pay49 b1) (k0_pay53 E b6 b1 b5) (ix2 r k) = dx1 gm wq dx2 X P (q r) k := by
  pointwise [k0_pay54, k0_pay9, pay53 q hE h6 h1 h5, pay49 q h1, h0]
  rfl

end Norm

section Residual

variable {A D : FVec Ideal S512x1024 .f32} {B : FVec Ideal S512x1 .f32} (hR : ∀ r k, k0_pay54 (F := Ideal) A B D (ix2 r k) = R (q r) k)
include hR

theorem pay55 (r : Fin 512) (k : Fin 1024) : k0_pay55 (F := Ideal) A B D (ix2 r k) = R (q r) k := by
  pointwise [k0_pay55, hR]
theorem pay57 (r : Fin 512) (k : Fin 1024) : k0_pay57 (F := Ideal) A B D (ix2 r k) = R (q r) k := by
  pointwise [k0_pay57, k0_pay56, hR]
/-- The bias's gradient. -/
theorem pay61 (acc : Vec Ideal S8x1024 .f32) (a : Fin 8) (k : Fin 1024) :
    k0_pay61 (F := Ideal) A B D acc (ix2 a k) = (acc (ix2 a k) + ∑ r : Fin 512, R (q r) k : EReal) := by
  pointwise [k0_pay61, hR]

variable (h8 : ∀ r k, b8 (ix2 r k) = wout (ix3 0 r k))
include h8

/-- What flows into the out-projection's argument. -/
theorem pay58 (r : Fin 512) (k : Fin 1024) : k0_pay58 (F := Ideal) A B D b8 (ix2 r k) = dmix wout R (q r) k := by
  pointwise [k0_pay58, k0_pay56, hR, h8]
  rfl
theorem pay59 (r : Fin 512) (k : Fin 512) :
    k0_pay59 (F := Ideal) A B D b8 (ix2 r k) = dmix wout R (q r) ⟨512 + k.val, by have := k.isLt; omega⟩ := by
  pointwise [k0_pay59, pay58 q hR h8]

end Residual

section Layer

variable (h9 : ∀ r k, b9 (ix2 r k) = yrow yv bd (q r) k)
include h9

theorem pay62 (r k : Fin 512) : k0_pay62 (F := Ideal) b9 (ix2 r k) = ctr (yrow yv bd (q r)) k := by
  pointwise [k0_pay62, h9]
  rfl
theorem pay63 (r : Fin 512) : k0_pay63 (F := Ideal) b9 (ix2 r 0) = lrr (yrow yv bd (q r)) := by
  pointwise [k0_pay63, pay62 q h9]
  rfl
/-- The normalised rows. -/
theorem pay64 (r k : Fin 512) : k0_pay64 (F := Ideal) b9 (ix2 r k) = lhat (yrow yv bd (q r)) k := by
  pointwise [k0_pay64, pay62 q h9, pay63 q h9]
  rfl

variable {M : FVec Ideal S512x1024 .f32} (hM : ∀ r k, M (ix2 r k) = dmix wout R (q r) k) (h10 : ∀ k, b10 (ix2 0 k) = lg (ix2 0 k))
  (h11 : ∀ k, b11 (ix2 0 k) = lb (ix2 0 k))
include hM h10 h11

/-- The gate's argument's gradient, the sigmoid by a hyperbolic tangent. -/
theorem pay65 (r k : Fin 512) : k0_pay65 (F := Ideal) M b10 b9 b11 (ix2 r k) = dz yv bd lg lb wout R (q r) k := by
  have hx := sigm_tanh (gate yv bd lg lb (q r) k)
  pointwise [k0_pay65, pay64 q h9, hM, h10, h11]
  unfold gate at hx
  simp only [hx]
  rfl

theorem pay66 (r k : Fin 512) : k0_pay66 (F := Ideal) M b10 b9 b11 (ix2 r k) = dyh yv bd lg lb wout R (q r) k := by
  pointwise [k0_pay66, pay65 q h9 hM h10 h11, h10]
  rfl
theorem pay67 (r : Fin 512) : k0_pay67 (F := Ideal) M b10 b9 b11 (ix2 r 0)
    = Ideal.div (∑ l, dyh yv bd lg lb wout R (q r) l) (Ideal.ofBits .f32 0x44000000#32) := by
  pointwise [k0_pay67, pay66 q h9 hM h10 h11]
/-- The convolution's output's gradient. -/
theorem pay68 (r k : Fin 512) : k0_pay68 (F := Ideal) (k0_pay63 b9) (k0_pay64 b9) (k0_pay66 M b10 b9 b11) (k0_pay67 M b10 b9 b11) (ix2 r k)
    = dy yv bd lg lb wout R (q r) k := by
  pointwise [k0_pay68, pay63 q h9, pay64 q h9, pay66 q h9 hM h10 h11, pay67 q h9 hM h10 h11]
  rfl
theorem pay69 (r k : Fin 512) : k0_pay69 (F := Ideal) (k0_pay63 b9) (k0_pay64 b9) (k0_pay66 M b10 b9 b11) (k0_pay67 M b10 b9 b11) (ix2 r k)
    = dy yv bd lg lb wout R (q r) k := by
  pointwise [k0_pay69, pay68 q h9 hM h10 h11]

variable (acc : Vec Ideal S8x512 .f32) (a : Fin 8) (k : Fin 512)

/-- The sums over the block's rows: the layer norm's two gradients, and the convolution's bias's. -/
theorem pay70 : k0_pay70 (F := Ideal) (k0_pay64 b9) (k0_pay65 M b10 b9 b11) acc (ix2 a k)
    = (acc (ix2 a k) + ∑ r : Fin 512, dz yv bd lg lb wout R (q r) k * lhat (yrow yv bd (q r)) k : EReal) := by
  pointwise [k0_pay70, pay64 q h9, pay65 q h9 hM h10 h11]
theorem pay71 : k0_pay71 (F := Ideal) (k0_pay65 M b10 b9 b11) acc (ix2 a k)
    = (acc (ix2 a k) + ∑ r : Fin 512, dz yv bd lg lb wout R (q r) k : EReal) := by
  pointwise [k0_pay71, pay65 q h9 hM h10 h11]
theorem pay72 : k0_pay1 (F := Ideal) (k0_pay72 (k0_pay63 b9) (k0_pay64 b9) (k0_pay66 M b10 b9 b11) (k0_pay67 M b10 b9 b11) acc) (ix2 a k)
    = (acc (ix2 a k) + ∑ r : Fin 512, dy yv bd lg lb wout R (q r) k : EReal) := by
  pointwise [k0_pay1, k0_pay72, pay68 q h9 hM h10 h11]

end Layer

end Rows

end Cert.Mem

end
-- ==== Proof.MemTile.lean ====
/- The memory attention's backward call: what a grid point leaves in each of the results' blocks. -/
module

public import proofs.«01_k».proof.Proof.MemValue

@[expose] public section

set_option maxRecDepth 16384

noncomputable section

namespace Cert.Mem

open Cert.KernelMemIdeal Cert.KernelMemIdeal.Gen Idealize.ShloMosaic Idealize.ShloMosaic.TcCoe Idealize.SL.Sem
open Cert.Rms

/-! ## Loads and stores of 256 columns -/

section Columns

variable {n N : ℕ} {e : EltTy}

/-- The columns from `off` on. -/
abbrev colsAt (n N off : ℕ) (i : ∀ a, (![0, off] : Fin 2 → ℕ) a + (![n, 256] : Fin 2 → ℕ) a ≤ (![n, N] : Fin 2 → ℕ) a) :
    Rect (⟨2, ![n, N]⟩ : Shape) := Rect.unit ![0, off] ![n, 256] i

theorem emb_cols (off : ℕ) (i) (r : Fin n) (d : Fin 256) (k : Fin N) (h : k.val = off + d.val) :
    (colsAt n N off i).emb (ix2 r d : (⟨2, ![n, 256]⟩ : Shape).Idx) = (ix2 r k : (⟨2, ![n, N]⟩ : Shape).Idx) := by
  funext a
  fin_cases a
  · refine Fin.ext ?_; rw [Rect.emb_apply]; show 0 + 1 * r.val = r.val; omega
  · refine Fin.ext ?_; rw [Rect.emb_apply]; show off + 1 * d.val = k.val; omega

theorem ld_cols (b : (⟨2, ![n, N]⟩ : Shape).Idx → Elt Ideal e) (off : ℕ) (i) (r : Fin n) (d : Fin 256) (k : Fin N) (h : k.val = off + d.val) :
    View.ld (Val := Elt Ideal) b (colsAt n N off i) (ix2 r d : (⟨2, ![n, 256]⟩ : Shape).Idx) = b (ix2 r k) :=
  congrArg b (emb_cols off i r d k h)

theorem hit (off : ℕ) (i) (w : (⟨2, ![n, 256]⟩ : Shape).Idx → Elt Ideal e) (L : List (View.Piece (Elt Ideal) (⟨2, ![n, N]⟩ : Shape) e))
    (r : Fin n) (d : Fin 256) (k : Fin N) (h : k.val = off + d.val) :
    View.canon (Val := Elt Ideal) ((⟨colsAt n N off i, w⟩ : View.Piece (Elt Ideal) (⟨2, ![n, N]⟩ : Shape) e) :: L) (ix2 r k) = w (ix2 r d) := by
  rw [← emb_cols off i r d k h]
  exact View.canon_cons_emb _ _ _ _

theorem miss (off : ℕ) (i) (w : (⟨2, ![n, 256]⟩ : Shape).Idx → Elt Ideal e) (L : List (View.Piece (Elt Ideal) (⟨2, ![n, N]⟩ : Shape) e))
    (r : Fin n) (k : Fin N) (h : k.val < off ∨ off + 256 ≤ k.val) :
    View.canon (Val := Elt Ideal) ((⟨colsAt n N off i, w⟩ : View.Piece (Elt Ideal) (⟨2, ![n, N]⟩ : Shape) e) :: L) (ix2 r k) = View.canon L (ix2 r k) := by
  refine View.canon_cons_of_not_mem _ _ fun hm => ?_
  have h1 : off ≤ k.val ∧ k.val < off + 256 :=
    (Rect.mem_set_unit (s := (⟨2, ![n, N]⟩ : Shape)) (off := ![0, off]) (size := ![n, 256]) (inb := i)).mp hm 1
  omega

theorem load_cols {κ : Kind} {sp : Space} (v : View sig κ sp (⟨2, ![n, N]⟩ : Shape) e) (L : List (View.Piece (Elt Ideal) (⟨2, ![n, N]⟩ : Shape) e))
    (off : ℕ) (i) (r : Fin n) (d : Fin 256) (k : Fin N) (h : k.val = off + d.val) :
    v.readCov (Val := Elt Ideal) L (colsAt n N off i).toLoadRect (ix2 r d : (⟨2, ![n, 256]⟩ : Shape).Idx) = View.canon L (ix2 r k) := by
  rw [View.readCov_eq_canon']
  exact congrArg _ (emb_cols off i r d k h)

end Columns

/-- A head and a lane, from the column. -/
theorem at_col {α : Type} (F : Fin 4 → Fin 256 → α) (h : Fin 4) (d : Fin 256) :
    F ⟨(col h d).val / 256, by have := (col h d).isLt; omega⟩ ⟨(col h d).val % 256, Nat.mod_lt _ (by norm_num)⟩ = F h d := by
  have := d.isLt
  rw [show (⟨(col h d).val / 256, by have := (col h d).isLt; omega⟩ : Fin 4) = h from Fin.ext (by simp only [col]; omega),
    show (⟨(col h d).val % 256, Nat.mod_lt _ (by norm_num)⟩ : Fin 256) = d from Fin.ext (by simp only [col]; omega)]

theorem col_of (k : Fin 1024) : ∃ h d, k = col h d :=
  ⟨⟨k.val / 256, by have := k.isLt; omega⟩, ⟨k.val % 256, Nat.mod_lt _ (by norm_num)⟩, Fin.ext (by simp only [col]; omega)⟩

/-- Four stores, a head's columns each, whatever was stored before. -/
theorem four (i3 i2 i1 i0) (w3 w2 w1 w0 : S256x256.Idx → Elt Ideal .f32) (L : List (View.Piece (Elt Ideal) S256x1024 .f32))
    (f : Fin 1024 → EReal) (μ : Fin 256) (h0 : ∀ d, w0 (ix2 μ d) = f (col 0 d)) (h1 : ∀ d, w1 (ix2 μ d) = f (col 1 d))
    (h2 : ∀ d, w2 (ix2 μ d) = f (col 2 d)) (h3 : ∀ d, w3 (ix2 μ d) = f (col 3 d)) (k : Fin 1024) :
    View.canon (Val := Elt Ideal) ((⟨colsAt 256 1024 768 i3, w3⟩ : View.Piece (Elt Ideal) S256x1024 .f32) :: ⟨colsAt 256 1024 512 i2, w2⟩
      :: ⟨colsAt 256 1024 256 i1, w1⟩ :: ⟨colsAt 256 1024 0 i0, w0⟩ :: L) (ix2 μ k) = f k := by
  obtain ⟨h, d, rfl⟩ := col_of k
  have hd := d.isLt
  have ha : (col 0 d).val = 256 * 0 + d.val := rfl
  have hb : (col 1 d).val = 256 * 1 + d.val := rfl
  have hc : (col 2 d).val = 256 * 2 + d.val := rfl
  have he : (col 3 d).val = 256 * 3 + d.val := rfl
  rcases (by decide : ∀ h : Fin 4, h = 0 ∨ h = 1 ∨ h = 2 ∨ h = 3) h with rfl | rfl | rfl | rfl
  · exact (miss _ _ _ _ _ _ (by omega)).trans ((miss _ _ _ _ _ _ (by omega)).trans ((miss _ _ _ _ _ _ (by omega)).trans
      ((hit _ _ _ _ _ d _ (by omega)).trans (h0 d))))
  · exact (miss _ _ _ _ _ _ (by omega)).trans ((miss _ _ _ _ _ _ (by omega)).trans ((hit _ _ _ _ _ d _ (by omega)).trans (h1 d)))
  · exact (miss _ _ _ _ _ _ (by omega)).trans ((hit _ _ _ _ _ d _ (by omega)).trans (h2 d))
  · exact (hit _ _ _ _ _ d _ (by omega)).trans (h3 d)

/-! ## The heads of a grid point's blocks -/

section Blocks

variable (m : (ℓ : Loc nD τ sig) → Buf (Elt Ideal) ℓ) (c : Dev nD) (t : Fin cfg0.N)

abbrev q0 : FVec Ideal S512x256 .bf16 := View.ld (iblk m c 2 t) (Rect.unit ![0, 0] ![512, 256] inb_S512x1024_S512x256_0_0)
abbrev q1 : FVec Ideal S512x256 .bf16 := View.ld (iblk m c 2 t) (Rect.unit ![0, 256] ![512, 256] inb_S512x1024_S512x256_0_256)
abbrev q2 : FVec Ideal S512x256 .bf16 := View.ld (iblk m c 2 t) (Rect.unit ![0, 512] ![512, 256] inb_S512x1024_S512x256_0_512)
abbrev q3 : FVec Ideal S512x256 .bf16 := View.ld (iblk m c 2 t) (Rect.unit ![0, 768] ![512, 256] inb_S512x1024_S512x256_0_768)
abbrev k0 : FVec Ideal S256x256 .bf16 := View.ld (iblk m c 3 t) (Rect.unit ![0, 0] ![256, 256] inb_S256x1024_S256x256_0_0)
abbrev k1 : FVec Ideal S256x256 .bf16 := View.ld (iblk m c 3 t) (Rect.unit ![0, 256] ![256, 256] inb_S256x1024_S256x256_0_256)
abbrev k2 : FVec Ideal S256x256 .bf16 := View.ld (iblk m c 3 t) (Rect.unit ![0, 512] ![256, 256] inb_S256x1024_S256x256_0_512)
abbrev k3 : FVec Ideal S256x256 .bf16 := View.ld (iblk m c 3 t) (Rect.unit ![0, 768] ![256, 256] inb_S256x1024_S256x256_0_768)
abbrev v0 : FVec Ideal S256x256 .bf16 := View.ld (iblk m c 4 t) (Rect.unit ![0, 0] ![256, 256] inb_S256x1024_S256x256_0_0)
abbrev v1 : FVec Ideal S256x256 .bf16 := View.ld (iblk m c 4 t) (Rect.unit ![0, 256] ![256, 256] inb_S256x1024_S256x256_0_256)
abbrev v2 : FVec Ideal S256x256 .bf16 := View.ld (iblk m c 4 t) (Rect.unit ![0, 512] ![256, 256] inb_S256x1024_S256x256_0_512)
abbrev v3 : FVec Ideal S256x256 .bf16 := View.ld (iblk m c 4 t) (Rect.unit ![0, 768] ![256, 256] inb_S256x1024_S256x256_0_768)
/-- The block's part of the attention's output's cotangent, transposed, -/
abbrev om : FVec Ideal S1024x512 .bf16 := k0_pay10 (iblk m c 0 t) (iblk m c 7 t)
/-- the queries' gradient, -/
abbrev dqB : FVec Ideal S512x1024 .f32 :=
  k0_pay44 (om m c t) (k0_pay16 (k0_pay15 (iblk m c 0 t) (iblk m c 7 t) (q0 m c t) (k0 m c t) (v0 m c t)))
    (k0_pay24 (k0_pay20 (k1 m c t)) (k0_pay21 (q1 m c t) (k1 m c t)) (k0_pay22 (om m c t) (v1 m c t)))
    (k0_pay34 (om m c t) (k0_pay28 (k2 m c t)) (k0_pay29 (q2 m c t) (k2 m c t)) (k0_pay30 (q2 m c t) (k2 m c t)) k0_pay31 (v2 m c t))
    (k0_pay38 (k3 m c t)) (k0_pay39 (q3 m c t) (k3 m c t)) (v3 m c t)
/-- and what the residual's gradient and the out-projection's are from. -/
abbrev dnB : FVec Ideal S512x1024 .f32 := k0_pay53 (dqB m c t) (iblk m c 6 t) (iblk m c 1 t) (iblk m c 5 t)
abbrev dmB : FVec Ideal S512x1024 .f32 := k0_pay58 (k0_pay9 (iblk m c 0 t)) (k0_pay49 (iblk m c 1 t)) (dnB m c t) (iblk m c 8 t)

end Blocks

section Points

variable {x : (⟨3, ![1, 4096, 1024]⟩ : Shape).Idx → EReal} {yv : (⟨3, ![1, 4096, 512]⟩ : Shape).Idx → EReal}
  {bd : (⟨2, ![1, 512]⟩ : Shape).Idx → EReal} {ya : (⟨3, ![1, 4096, 512]⟩ : Shape).Idx → EReal}
  {mem : (⟨3, ![1, 256, 1024]⟩ : Shape).Idx → EReal} {lg lb : (⟨2, ![1, 512]⟩ : Shape).Idx → EReal}
  {wout : (⟨3, ![1, 1024, 1024]⟩ : Shape).Idx → EReal} {bo gm gkv : (⟨2, ![1, 1024]⟩ : Shape).Idx → EReal}
  {wq : (⟨3, ![1, 1024, 1024]⟩ : Shape).Idx → EReal} {wkv : (⟨3, ![1, 1024, 2048]⟩ : Shape).Idx → EReal}
  {wo : (⟨3, ![1, 1024, 1024]⟩ : Shape).Idx → EReal} {dx2 : (⟨3, ![1, 4096, 1024]⟩ : Shape).Idx → EReal}
  {m : (ℓ : Loc nD τ sig) → Buf (Elt Ideal) ℓ} {c : Dev nD}
  (H : Args (fun b => m (c, b)) x yv bd ya mem lg lb wout bo gm gkv wq wkv wo dx2)
  (W : Reals x yv bd ya mem lg lb wout bo gm gkv wq wkv wo dx2) (t : Fin cfg0.N)

/-- The arrays over the reals. -/
abbrev sQ (x : (⟨3, ![1, 4096, 1024]⟩ : Shape).Idx → EReal) (yv : (⟨3, ![1, 4096, 512]⟩ : Shape).Idx → EReal)
    (bd : (⟨2, ![1, 512]⟩ : Shape).Idx → EReal) (ya : (⟨3, ![1, 4096, 512]⟩ : Shape).Idx → EReal) (lg lb : (⟨2, ![1, 512]⟩ : Shape).Idx → EReal)
    (wout : (⟨3, ![1, 1024, 1024]⟩ : Shape).Idx → EReal) (bo gm : (⟨2, ![1, 1024]⟩ : Shape).Idx → EReal)
    (wq : (⟨3, ![1, 1024, 1024]⟩ : Shape).Idx → EReal) := re (rQ x yv bd ya lg lb wout bo gm wq)
abbrev sK (mem : (⟨3, ![1, 256, 1024]⟩ : Shape).Idx → EReal) (gkv : (⟨2, ![1, 1024]⟩ : Shape).Idx → EReal)
    (wkv : (⟨3, ![1, 1024, 2048]⟩ : Shape).Idx → EReal) := re (rK mem gkv wkv)
abbrev sV (mem : (⟨3, ![1, 256, 1024]⟩ : Shape).Idx → EReal) (gkv : (⟨2, ![1, 1024]⟩ : Shape).Idx → EReal)
    (wkv : (⟨3, ![1, 1024, 2048]⟩ : Shape).Idx → EReal) := re (rV mem gkv wkv)
abbrev sO (wo : (⟨3, ![1, 1024, 1024]⟩ : Shape).Idx → EReal) (dx2 : (⟨3, ![1, 4096, 1024]⟩ : Shape).Idx → EReal) := re (rO wo dx2)

include H W

theorem om_at (k : Fin 1024) (r : Fin 512) : om m c t (ix2 k r) = ((sO wo dx2 (at_ t r) k : ℝ) : EReal) := by
  rw [← re_coe W.O]
  pointwise [k0_pay10, k0_pay9, blk0 H t, blk7 H t]
  rfl

/-- The lanes of head `h`, from the blocks'. -/
theorem head_of (h : Fin 4) (q : FVec Ideal S512x256 .bf16) (k v : FVec Ideal S256x256 .bf16) (o : FVec Ideal S256x512 .bf16)
    (hq : ∀ r d, q (ix2 r d) = iblk m c 2 t (ix2 r (col h d))) (hk : ∀ μ d, k (ix2 μ d) = iblk m c 3 t (ix2 μ (col h d)))
    (hv : ∀ μ d, v (ix2 μ d) = iblk m c 4 t (ix2 μ (col h d))) (ho : ∀ d r, o (ix2 d r) = om m c t (ix2 (col h d) r)) :
    Head h (fun r => sQ x yv bd ya lg lb wout bo gm wq (at_ t r)) (fun r => sO wo dx2 (at_ t r)) (sK mem gkv wkv) (sV mem gkv wkv) q k v o where
  q r d := by rw [hq, blk2 H t, re_coe W.Q, lit_16th]; exact (EReal.coe_mul _ _).symm
  k μ d := by rw [hk, blk3 H t, re_coe W.K]
  v μ d := by rw [hv, blk4 H t, re_coe W.V]
  o d r := by rw [ho, om_at H W t]

theorem head0 : Head 0 (fun r => sQ x yv bd ya lg lb wout bo gm wq (at_ t r)) (fun r => sO wo dx2 (at_ t r)) (sK mem gkv wkv) (sV mem gkv wkv)
    (q0 m c t) (k0 m c t) (v0 m c t) (o0 (om m c t)) :=
  head_of H W t 0 _ _ _ _ (fun r d => ld_cols _ _ _ _ _ _ rfl) (fun r d => ld_cols _ _ _ _ _ _ rfl) (fun r d => ld_cols _ _ _ _ _ _ rfl)
    fun d r => by
      generalize om m c t = w
      pointwise [o0]
      exact congrArg (fun l => w (ix2 l r)) (Fin.ext (by simp [col]))
theorem head1 : Head 1 (fun r => sQ x yv bd ya lg lb wout bo gm wq (at_ t r)) (fun r => sO wo dx2 (at_ t r)) (sK mem gkv wkv) (sV mem gkv wkv)
    (q1 m c t) (k1 m c t) (v1 m c t) (o1 (om m c t)) :=
  head_of H W t 1 _ _ _ _ (fun r d => ld_cols _ _ _ _ _ _ rfl) (fun r d => ld_cols _ _ _ _ _ _ rfl) (fun r d => ld_cols _ _ _ _ _ _ rfl)
    fun d r => by
      generalize om m c t = w
      pointwise [o1]
      exact congrArg (fun l => w (ix2 l r)) (Fin.ext (by simp [col]))
theorem head2 : Head 2 (fun r => sQ x yv bd ya lg lb wout bo gm wq (at_ t r)) (fun r => sO wo dx2 (at_ t r)) (sK mem gkv wkv) (sV mem gkv wkv)
    (q2 m c t) (k2 m c t) (v2 m c t) (o2 (om m c t)) :=
  head_of H W t 2 _ _ _ _ (fun r d => ld_cols _ _ _ _ _ _ rfl) (fun r d => ld_cols _ _ _ _ _ _ rfl) (fun r d => ld_cols _ _ _ _ _ _ rfl)
    fun d r => by
      generalize om m c t = w
      pointwise [o2]
      exact congrArg (fun l => w (ix2 l r)) (Fin.ext (by simp [col]))
theorem head3 : Head 3 (fun r => sQ x yv bd ya lg lb wout bo gm wq (at_ t r)) (fun r => sO wo dx2 (at_ t r)) (sK mem gkv wkv) (sV mem gkv wkv)
    (q3 m c t) (k3 m c t) (v3 m c t) (o3 (om m c t)) :=
  head_of H W t 3 _ _ _ _ (fun r d => ld_cols _ _ _ _ _ _ rfl) (fun r d => ld_cols _ _ _ _ _ _ rfl) (fun r d => ld_cols _ _ _ _ _ _ rfl)
    fun d r => by
      generalize om m c t = w
      pointwise [o3]
      exact congrArg (fun l => w (ix2 l r)) (Fin.ext (by simp [col]))

/-- The queries' gradient at a grid point, -/
theorem dq_at (r : Fin 512) (l : Fin 1024) :
    dqB m c t (ix2 r l) = rP x yv bd ya mem lg lb wout bo gm gkv wq wkv wo dx2 (at_ t r) l :=
  dq_cat (om m c t) (q3 m c t) (k3 m c t) (v3 m c t) _ _ _
    (fun h r d => ((gq (sQ x yv bd ya lg lb wout bo gm wq) (sK mem gkv wkv) (sV mem gkv wkv) (sO wo dx2) h (at_ t r) d : ℝ) : EReal))
    (fun r d => (congrFun (dq0 _ _ _ _ _) _).trans ((head0 H W t).gq r d)) (fun r d => (congrFun (dq1 _ _ _ _) _).trans ((head1 H W t).gq r d))
    (fun r d => (congrFun (dq2 _ _ _ _) _).trans ((head2 H W t).gq r d)) (fun r d => (head3 H W t).gq r d) r l

/-- the residual's, -/
theorem dr_at (r : Fin 512) (k : Fin 1024) :
    k0_pay54 (F := Ideal) (k0_pay9 (iblk m c 0 t)) (k0_pay49 (iblk m c 1 t)) (dnB m c t) (ix2 r k)
      = rR x yv bd ya mem lg lb wout bo gm gkv wq wkv wo dx2 (at_ t r) k :=
  pay54 (at_ t) (dq_at H W t) (blk6 H t) (blk1 H t) (blk5 H t) (blk0 H t) r k

/-- and what flows into the out-projection. -/
theorem dm_at (r : Fin 512) (k : Fin 1024) :
    dmB m c t (ix2 r k) = dmix wout (rR x yv bd ya mem lg lb wout bo gm gkv wq wkv wo dx2) (at_ t r) k :=
  pay58 (at_ t) (dr_at H W t) (blk8 H t) r k

/-- The keys' gradient after a grid point, of what each head's columns held before. -/
theorem keys_at (A : S256x1024.Idx → EReal) (c0 c1 c2 c3 : FVec Ideal S256x256 .f32) (h0 : ∀ μ d, c0 (ix2 μ d) = A (ix2 μ (col 0 d)))
    (h1 : ∀ μ d, c1 (ix2 μ d) = A (ix2 μ (col 1 d))) (h2 : ∀ μ d, c2 (ix2 μ d) = A (ix2 μ (col 2 d)))
    (h3 : ∀ μ d, c3 (ix2 μ d) = A (ix2 μ (col 3 d))) (L : List (View.Piece (Elt Ideal) S256x1024 .f32)) (μ : Fin 256) (k : Fin 1024) :
    View.canon (Val := Elt Ideal) ((⟨Rect.unit ![0, 768] ![256, 256] inb_S256x1024_S256x256_0_768, k0_pay42 (om m c t) (k0_pay37 (q3 m c t)) (k0_pay39 (q3 m c t) (k3 m c t)) (v3 m c t) c3⟩ : View.Piece (Elt Ideal) S256x1024 .f32)
        :: ⟨Rect.unit ![0, 512] ![256, 256] inb_S256x1024_S256x256_0_512, k0_pay35 (om m c t) (k0_pay27 (q2 m c t)) (k0_pay29 (q2 m c t) (k2 m c t)) (k0_pay30 (q2 m c t) (k2 m c t)) k0_pay31 (v2 m c t) c2⟩
        :: ⟨Rect.unit ![0, 256] ![256, 256] inb_S256x1024_S256x256_0_256, k0_pay25 (k0_pay19 (q1 m c t)) (k0_pay21 (q1 m c t) (k1 m c t)) (k0_pay22 (om m c t) (v1 m c t)) c1⟩
        :: ⟨Rect.unit ![0, 0] ![256, 256] inb_S256x1024_S256x256_0_0, k0_pay17 (k0_pay11 (q0 m c t)) (k0_pay14 (iblk m c 0 t) (iblk m c 7 t) (q0 m c t) (k0 m c t) (v0 m c t)) c0⟩ :: L) (ix2 μ k)
      = (A (ix2 μ k) + ∑ r : Fin 512, ((gk (sQ x yv bd ya lg lb wout bo gm wq) (sK mem gkv wkv) (sV mem gkv wkv) (sO wo dx2) ⟨k.val / 256, by have := k.isLt; omega⟩ (at_ t r) μ
          ⟨k.val % 256, Nat.mod_lt _ (by norm_num)⟩ : ℝ) : EReal) : EReal) := by
  have e : ∀ h d, (A (ix2 μ (col h d)) + ∑ r : Fin 512, ((gk (sQ x yv bd ya lg lb wout bo gm wq) (sK mem gkv wkv) (sV mem gkv wkv) (sO wo dx2) h (at_ t r) μ d : ℝ) : EReal) : EReal)
      = (fun k : Fin 1024 => (A (ix2 μ k) + ∑ r : Fin 512, ((gk (sQ x yv bd ya lg lb wout bo gm wq) (sK mem gkv wkv) (sV mem gkv wkv) (sO wo dx2) ⟨k.val / 256, by have := k.isLt; omega⟩ (at_ t r) μ
          ⟨k.val % 256, Nat.mod_lt _ (by norm_num)⟩ : ℝ) : EReal) : EReal)) (col h d) := fun h d =>
    (at_col (fun h' d' => (A (ix2 μ (col h d)) + ∑ r : Fin 512, ((gk (sQ x yv bd ya lg lb wout bo gm wq) (sK mem gkv wkv) (sV mem gkv wkv) (sO wo dx2) h' (at_ t r) μ d' : ℝ) : EReal) : EReal)) h d).symm
  refine four _ _ _ _ _ _ _ _ L (fun k : Fin 1024 => (A (ix2 μ k) + ∑ r : Fin 512, ((gk (sQ x yv bd ya lg lb wout bo gm wq) (sK mem gkv wkv) (sV mem gkv wkv) (sO wo dx2) ⟨k.val / 256, by have := k.isLt; omega⟩ (at_ t r) μ
          ⟨k.val % 256, Nat.mod_lt _ (by norm_num)⟩ : ℝ) : EReal) : EReal)) μ (fun d => ?_) (fun d => ?_) (fun d => ?_) (fun d => ?_) k
  · exact (congrFun (dk0 _ _ _ _ _ _) _).trans (((head0 H W t).gk c0 μ d).trans ((congrArg (fun y : EReal => y + _) (h0 μ d)).trans (e 0 d)))
  · exact (congrFun (dk1 _ _ _ _ _) _).trans (((head1 H W t).gk c1 μ d).trans ((congrArg (fun y : EReal => y + _) (h1 μ d)).trans (e 1 d)))
  · exact (congrFun (dk2 _ _ _ _ _) _).trans (((head2 H W t).gk c2 μ d).trans ((congrArg (fun y : EReal => y + _) (h2 μ d)).trans (e 2 d)))
  · exact (congrFun (dk3 _ _ _ _ _) _).trans (((head3 H W t).gk c3 μ d).trans ((congrArg (fun y : EReal => y + _) (h3 μ d)).trans (e 3 d)))

/-- The values' gradient likewise. -/
theorem vals_at (A : S256x1024.Idx → EReal) (c0 c1 c2 c3 : FVec Ideal S256x256 .f32) (h0 : ∀ μ d, c0 (ix2 μ d) = A (ix2 μ (col 0 d)))
    (h1 : ∀ μ d, c1 (ix2 μ d) = A (ix2 μ (col 1 d))) (h2 : ∀ μ d, c2 (ix2 μ d) = A (ix2 μ (col 2 d)))
    (h3 : ∀ μ d, c3 (ix2 μ d) = A (ix2 μ (col 3 d))) (L : List (View.Piece (Elt Ideal) S256x1024 .f32)) (μ : Fin 256) (k : Fin 1024) :
    View.canon (Val := Elt Ideal) ((⟨Rect.unit ![0, 768] ![256, 256] inb_S256x1024_S256x256_0_768, k0_pay43 (om m c t) (k0_pay39 (q3 m c t) (k3 m c t)) c3⟩ : View.Piece (Elt Ideal) S256x1024 .f32)
        :: ⟨Rect.unit ![0, 512] ![256, 256] inb_S256x1024_S256x256_0_512, k0_pay36 (om m c t) (k0_pay29 (q2 m c t) (k2 m c t)) (k0_pay30 (q2 m c t) (k2 m c t)) k0_pay31 c2⟩
        :: ⟨Rect.unit ![0, 256] ![256, 256] inb_S256x1024_S256x256_0_256, k0_pay26 (om m c t) (k0_pay21 (q1 m c t) (k1 m c t)) c1⟩
        :: ⟨Rect.unit ![0, 0] ![256, 256] inb_S256x1024_S256x256_0_0, k0_pay18 (om m c t) (k0_pay13 (q0 m c t) (k0 m c t)) c0⟩ :: L) (ix2 μ k)
      = (A (ix2 μ k) + ∑ r : Fin 512, ((gv (sQ x yv bd ya lg lb wout bo gm wq) (sK mem gkv wkv) (sO wo dx2) ⟨k.val / 256, by have := k.isLt; omega⟩ (at_ t r) μ
          ⟨k.val % 256, Nat.mod_lt _ (by norm_num)⟩ : ℝ) : EReal) : EReal) := by
  have e : ∀ h d, (A (ix2 μ (col h d)) + ∑ r : Fin 512, ((gv (sQ x yv bd ya lg lb wout bo gm wq) (sK mem gkv wkv) (sO wo dx2) h (at_ t r) μ d : ℝ) : EReal) : EReal)
      = (fun k : Fin 1024 => (A (ix2 μ k) + ∑ r : Fin 512, ((gv (sQ x yv bd ya lg lb wout bo gm wq) (sK mem gkv wkv) (sO wo dx2) ⟨k.val / 256, by have := k.isLt; omega⟩ (at_ t r) μ
          ⟨k.val % 256, Nat.mod_lt _ (by norm_num)⟩ : ℝ) : EReal) : EReal)) (col h d) := fun h d =>
    (at_col (fun h' d' => (A (ix2 μ (col h d)) + ∑ r : Fin 512, ((gv (sQ x yv bd ya lg lb wout bo gm wq) (sK mem gkv wkv) (sO wo dx2) h' (at_ t r) μ d' : ℝ) : EReal) : EReal)) h d).symm
  refine four _ _ _ _ _ _ _ _ L (fun k : Fin 1024 => (A (ix2 μ k) + ∑ r : Fin 512, ((gv (sQ x yv bd ya lg lb wout bo gm wq) (sK mem gkv wkv) (sO wo dx2) ⟨k.val / 256, by have := k.isLt; omega⟩ (at_ t r) μ
          ⟨k.val % 256, Nat.mod_lt _ (by norm_num)⟩ : ℝ) : EReal) : EReal)) μ (fun d => ?_) (fun d => ?_) (fun d => ?_) (fun d => ?_) k
  · exact (congrFun (dv0 _ _ _ _) _).trans (((head0 H W t).gv c0 μ d).trans ((congrArg (fun y : EReal => y + _) (h0 μ d)).trans (e 0 d)))
  · exact (congrFun (dv1 _ _ _ _) _).trans (((head1 H W t).gv c1 μ d).trans ((congrArg (fun y : EReal => y + _) (h1 μ d)).trans (e 1 d)))
  · exact (congrFun (dv2 _ _ _ _) _).trans (((head2 H W t).gv c2 μ d).trans ((congrArg (fun y : EReal => y + _) (h2 μ d)).trans (e 2 d)))
  · exact (congrFun (dv3 _ _ _ _) _).trans (((head3 H W t).gv c3 μ d).trans ((congrArg (fun y : EReal => y + _) (h3 μ d)).trans (e 3 d)))

end Points

end Cert.Mem

end
-- ==== Proof.LossBlk.lean ====
/- The channel mixer's forward call with the loss: the blocks that a grid point reads. -/
module

public import proofs.«01_k».proof.Proof.Gen.KernelLossIdeal.Value
public import proofs.«01_k».proof.Proof.LossMath
public import proofs.«01_k».proof.Proof.MemTile
public import Idealize.ShloMosaic.Lib.Pipeline.ValueKit

@[expose] public section

set_option maxRecDepth 16384

noncomputable section

namespace Cert.Loss

open Cert.KernelLossIdeal Cert.KernelLossIdeal.Gen Idealize.ShloMosaic Idealize.ShloMosaic.TcCoe Idealize.SL.Sem
open Cert.Rms Cert.Ffn

/-- The windows' block numbers at a grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![0, 0] ∧ win0_13.index t = ![0, 0] :=
  (by decide +kernel : ∀ t : Fin grid0.N, _)

theorem lt8 (t : Fin cfg0.N) : t.val < 8 := lt_of_lt_of_eq t.isLt (show cfg0.N = 8 from N_0)

/-- The block's row `r` at the point `t`, in the whole array. -/
def at_ (t : Fin cfg0.N) (r : Fin 512) : Fin 4096 := ⟨512 * t.val + r.val, by have := lt8 t; have := r.isLt; omega⟩

/-- The arguments of a run. -/
structure Holds (m : (ℓ : Loc nD τ sig) → Buf (Elt Ideal) ℓ) (c : Dev nD) (x t : S1x4096x1024.Idx → EReal) (g : S1x1024.Idx → EReal)
    (wg wu : S1x1024x2816.Idx → EReal) (wd : S1x2816x1024.Idx → EReal) (gl : S1024.Idx → EReal) : Prop where
  h0 : m ((c : Thread nD τ).loc main_arg0) = x
  h1 : m ((c : Thread nD τ).loc main_arg1) = t
  h2 : m ((c : Thread nD τ).loc main_arg2) = g
  h3 : m ((c : Thread nD τ).loc main_arg3) = wg
  h4 : m ((c : Thread nD τ).loc main_arg4) = wu
  h5 : m ((c : Thread nD τ).loc main_arg5) = wd
  h6 : m ((c : Thread nD τ).loc main_arg6) = gl

variable {x tg : S1x4096x1024.Idx → EReal} {g : S1x1024.Idx → EReal} {wg wu : S1x1024x2816.Idx → EReal}
  {wd : S1x2816x1024.Idx → EReal} {gl : S1024.Idx → EReal}
  {m : (ℓ : Loc nD τ sig) → Buf (Elt Ideal) ℓ} {c : Dev nD} (H : Holds m c x tg g wg wu wd gl) (t : Fin cfg0.N)
include H

theorem blk0 (r : Fin 512) (k : Fin 1024) : iblk m c 0 t (ix2 r k) = x (ix3 0 (at_ t r) k) := by
  have ht := lt8 t
  have h : iblk m c 0 t (ix2 r k) = V m c main_v0 (ix2 (at_ t r) k) := by blk_point [iblk, idx t, at_]
  rw [h, ← H.h0]
  entry_read
  pointwise

theorem blk1 (r : Fin 512) (k : Fin 1024) : iblk m c 1 t (ix2 r k) = tg (ix3 0 (at_ t r) k) := by
  have ht := lt8 t
  have h : iblk m c 1 t (ix2 r k) = V m c main_v1 (ix2 (at_ t r) k) := by blk_point [iblk, idx t, at_]
  rw [h, ← H.h1]
  entry_read
  pointwise

theorem blk2 (k : Fin 1024) : iblk m c 2 t (ix2 0 k) = g (ix2 0 k) := by
  rw [← H.h2]
  blk_point [iblk, V, idx t]

theorem blk3 (k : Fin 1024) : iblk m c 3 t (ix2 0 k) = gl (ix1 k) := by
  have h : iblk m c 3 t (ix2 0 k) = V m c main_v2 (ix2 0 k) := by blk_point [iblk, idx t]
  rw [h, ← H.h6]
  entry_read
  pointwise

theorem blk4 (f : Fin 2816) (k : Fin 1024) : iblk m c 4 t (ix2 f k) = wg (ix3 0 k f) := by
  have h : iblk m c 4 t (ix2 f k) = V m c main_v5 (ix2 f k) := by blk_point [iblk, idx t]
  rw [h, ← H.h3]
  entry_read
  pointwise

theorem blk5 (f : Fin 2816) (k : Fin 1024) : iblk m c 5 t (ix2 f k) = wu (ix3 0 k f) := by
  have h : iblk m c 5 t (ix2 f k) = V m c main_v8 (ix2 f k) := by blk_point [iblk, idx t]
  rw [h, ← H.h4]
  entry_read
  pointwise

theorem blk6 (f : Fin 2816) (k : Fin 1024) : iblk m c 6 t (ix2 f k) = wd (ix3 0 f k) := by
  have h : iblk m c 6 t (ix2 f k) = V m c main_v10 (ix2 f k) := by blk_point [iblk, idx t]
  rw [h, ← H.h5]
  entry_read
  pointwise

end Cert.Loss

end
-- ==== Proof.LossVal.lean ====
/- The channel mixer's forward call with the loss: what a grid point computes from its blocks. The mixer's hidden
   width is taken in eleven chunks of 256 columns, and the residual stream grows by one chunk at a time. -/
module

public import proofs.«01_k».proof.Proof.LossBlk

@[expose] public section

set_option maxRecDepth 16384

noncomputable section

namespace Cert.Loss

open Cert.KernelLossIdeal Cert.KernelLossIdeal.Gen Idealize.ShloMosaic Idealize.ShloMosaic.TcCoe Idealize.SL.Sem
open Cert.Rms Cert.Ffn

/-- Column `d` of chunk `j`, in the hidden width. -/
def ch (j : Fin 11) (d : Fin 256) : Fin 2816 := ⟨256 * j.val + d.val, by have := j.isLt; have := d.isLt; omega⟩

theorem inb_rows (j : Fin 11) : ∀ a, (![256 * j.val, 0] : Fin 2 → ℕ) a + (![256, 1024] : Fin 2 → ℕ) a ≤ (![2816, 1024] : Fin 2 → ℕ) a := by
  have := j.isLt
  intro a
  fin_cases a
  · show 256 * j.val + 256 ≤ 2816; omega
  · exact le_refl 1024

/-- The rows of chunk `j`. -/
abbrev rows (b : S2816x1024.Idx → EReal) (j : Fin 11) : FVec Ideal S256x1024 .bf16 :=
  View.ld (Val := Elt Ideal) (e' := EltTy.bf16) b (Rect.unit (s := S2816x1024) ![256 * j.val, 0] ![256, 1024] (inb_rows j))

theorem rows_at (b : S2816x1024.Idx → EReal) (j : Fin 11) (d : Fin 256) (k : Fin 1024) : rows b j (ix2 d k) = b (ix2 (ch j d) k) := by
  have h : (Rect.unit (s := S2816x1024) ![256 * j.val, 0] ![256, 1024] (inb_rows j)).emb (ix2 d k : S256x1024.Idx) = (ix2 (ch j d) k : S2816x1024.Idx) := by
    funext a
    fin_cases a
    · refine Fin.ext ?_; rw [Rect.emb_apply]; show 256 * j.val + 1 * d.val = 256 * j.val + d.val; omega
    · refine Fin.ext ?_; rw [Rect.emb_apply]; show 0 + 1 * k.val = k.val; omega
  exact congrArg b h

section Block

variable {x tg : S1x4096x1024.Idx → EReal} {g : S1x1024.Idx → EReal} {wg wu : S1x1024x2816.Idx → EReal}
  {wd : S1x2816x1024.Idx → EReal} {gl : S1024.Idx → EReal}
variable {b0 b1 : S512x1024.Idx → EReal} {b2 b3 : S1x1024.Idx → EReal} {b4 b5 b6 : S2816x1024.Idx → EReal}

/-- What the blocks hold, for the rows `q` of the arrays. -/
structure Block (q : Fin 512 → Fin 4096) (x tg : S1x4096x1024.Idx → EReal) (g : S1x1024.Idx → EReal) (wg wu : S1x1024x2816.Idx → EReal)
    (wd : S1x2816x1024.Idx → EReal) (gl : S1024.Idx → EReal) (b0 b1 : S512x1024.Idx → EReal) (b2 b3 : S1x1024.Idx → EReal)
    (b4 b5 b6 : S2816x1024.Idx → EReal) : Prop where
  h0 : ∀ r k, b0 (ix2 r k) = x (ix3 0 (q r) k)
  h1 : ∀ r k, b1 (ix2 r k) = tg (ix3 0 (q r) k)
  h2 : ∀ k, b2 (ix2 0 k) = g (ix2 0 k)
  h3 : ∀ k, b3 (ix2 0 k) = gl (ix1 k)
  h4 : ∀ f k, b4 (ix2 f k) = wg (ix3 0 k f)
  h5 : ∀ f k, b5 (ix2 f k) = wu (ix3 0 k f)
  h6 : ∀ f k, b6 (ix2 f k) = wd (ix3 0 f k)

variable {q : Fin 512 → Fin 4096} (B : Block q x tg g wg wu wd gl b0 b1 b2 b3 b4 b5 b6)

/-- The gate of chunk `j`, and what it multiplies. -/
abbrev gB (b0 : S512x1024.Idx → EReal) (b2 : S1x1024.Idx → EReal) (b4 : S2816x1024.Idx → EReal) (j : Fin 11) : FVec Ideal S512x256 .f32 :=
  k0_pay16 (F := Ideal) (k0_pay8 (F := Ideal) b0 b2) (rows b4 j)

/-- The residual stream after the first chunks. -/
def acc (b0 : S512x1024.Idx → EReal) (b2 : S1x1024.Idx → EReal) (b4 b5 b6 : S2816x1024.Idx → EReal) : ℕ → FVec Ideal S512x1024 .f32
  | 0 => k0_pay7 (F := Ideal) b0
  | n + 1 => if h : n < 11 then k0_pay15 (F := Ideal) (acc b0 b2 b4 b5 b6 n) (gB b0 b2 b4 ⟨n, h⟩) (gB b0 b2 b5 ⟨n, h⟩) (rows b6 ⟨n, h⟩)
    else acc b0 b2 b4 b5 b6 n

theorem acc_succ (n : ℕ) (h : n < 11) : acc b0 b2 b4 b5 b6 (n + 1)
    = k0_pay15 (F := Ideal) (acc b0 b2 b4 b5 b6 n) (gB b0 b2 b4 ⟨n, h⟩) (gB b0 b2 b5 ⟨n, h⟩) (rows b6 ⟨n, h⟩) := dif_pos h

/-- A column's part of the mixer's product. -/
def term (x : S1x4096x1024.Idx → EReal) (g : S1x1024.Idx → EReal) (wg wu : S1x1024x2816.Idx → EReal) (wd : S1x2816x1024.Idx → EReal)
    (r : Fin 4096) (k : Fin 1024) (i : ℕ) : EReal :=
  if h : i < 2816 then act x g wg wu r ⟨i, h⟩ * wd (ix3 0 ⟨i, h⟩ k) else 0

theorem term_ch (r : Fin 4096) (k : Fin 1024) (j : Fin 11) (d : Fin 256) :
    term x g wg wu wd r k (256 * j.val + d.val) = act x g wg wu r (ch j d) * wd (ix3 0 (ch j d) k) := dif_pos (ch j d).isLt

include B

/-- The normalised block. -/
theorem normed_at (r : Fin 512) (k : Fin 1024) : k0_pay8 (F := Ideal) b0 b2 (ix2 r k) = normed x g (q r) k := by
  pointwise [k0_pay8, k0_pay7, B.h0, B.h2]
  rfl

theorem gate_at (j : Fin 11) (r : Fin 512) (d : Fin 256) : gB b0 b2 b4 j (ix2 r d) = proj x g wg (q r) (ch j d) := by
  have hn := normed_at B
  have hr : ∀ d k, rows b4 j (ix2 d k) = wg (ix3 0 k (ch j d)) := fun d k => (rows_at b4 j d k).trans (B.h4 _ _)
  unfold gB
  generalize k0_pay8 (F := Ideal) b0 b2 = n at hn ⊢
  generalize rows b4 j = w at hr ⊢
  pointwise [k0_pay16, hn, hr]
  rfl

theorem up_at (j : Fin 11) (r : Fin 512) (d : Fin 256) : gB b0 b2 b5 j (ix2 r d) = proj x g wu (q r) (ch j d) := by
  have hn := normed_at B
  have hr : ∀ d k, rows b5 j (ix2 d k) = wu (ix3 0 k (ch j d)) := fun d k => (rows_at b5 j d k).trans (B.h5 _ _)
  unfold gB
  generalize k0_pay8 (F := Ideal) b0 b2 = n at hn ⊢
  generalize rows b5 j = w at hr ⊢
  pointwise [k0_pay16, hn, hr]
  rfl

omit B in
/-- One chunk. -/
theorem step_at (v : FVec Ideal S512x1024 .f32) (a u : FVec Ideal S512x256 .f32) (w : FVec Ideal S256x1024 .bf16) (r : Fin 512) (k : Fin 1024)
    (A U W : Fin 256 → EReal) (ha : ∀ d, a (ix2 r d) = A d) (hu : ∀ d, u (ix2 r d) = U d) (hw : ∀ d, w (ix2 d k) = W d) :
    k0_pay15 (F := Ideal) v a u w (ix2 r k) = v (ix2 r k) + ∑ d : Fin 256, A d * sigm (A d) * U d * W d := by
  pointwise [k0_pay15, ha, hu, hw]
  refine congrArg _ (Finset.sum_congr rfl fun d _ => ?_)
  rw [← sigm_tanh]

/-- The residual stream after the first `n` chunks. -/
theorem acc_at (r : Fin 512) (k : Fin 1024) (n : ℕ) (hn : n ≤ 11) : acc b0 b2 b4 b5 b6 n (ix2 r k)
    = x (ix3 0 (q r) k) + ∑ i ∈ Finset.range (256 * n), term x g wg wu wd (q r) k i := by
  induction n with
  | zero =>
    show k0_pay7 (F := Ideal) b0 (ix2 r k) = _
    pointwise [k0_pay7, B.h0]
    simp
  | succ n ih =>
    have h : n < 11 := hn
    rw [acc_succ n h, step_at _ _ _ _ r k _ _ _ (gate_at B ⟨n, h⟩ r) (up_at B ⟨n, h⟩ r) (fun d => (rows_at b6 ⟨n, h⟩ d k).trans (B.h6 _ _)),
      ih h.le, show 256 * (n + 1) = 256 * n + 256 from rfl, Finset.sum_range_add, add_assoc, Finset.sum_range (n := 256)]
    exact congrArg _ (congrArg _ (Finset.sum_congr rfl fun d _ => (term_ch (q r) k ⟨n, h⟩ d).symm))

/-- The residual stream after the mixer. -/
theorem x3_at (r : Fin 512) (k : Fin 1024) : acc b0 b2 b4 b5 b6 11 (ix2 r k) = x3 x g wg wu wd (q r) k := by
  rw [acc_at B r k 11 le_rfl, Finset.sum_range]
  exact congrArg _ (Finset.sum_congr rfl fun i _ => dif_pos i.isLt)

end Block

end Cert.Loss

end
-- ==== Proof.LossRef.lean ====
/- The loss's reference, entry by entry. -/
module

public import proofs.«01_k».proof.Proof.Gen.ReferenceLossIdeal.Read
public import proofs.«01_k».proof.Proof.LossMath
public import proofs.«01_k».proof.Proof.Sums
public import Idealize.ShloMosaic.Lib.Pipeline.ValueKit

@[expose] public section

set_option maxRecDepth 16384

noncomputable section

namespace Cert.Loss

open Idealize.ShloMosaic Cert.Rms Cert.Ffn Cert.ReferenceLossIdeal.Read

/-! ## The numbers in the loss -/

theorem lit_inv : Ideal.ofBits .f32 0x3A800000#32 = ((1 / 1024 : ℝ) : EReal) := by
  simp [Ideal.ofBits, Ideal.ieee, -EReal.coe_mul]; norm_num
theorem lit_half_inv : Ideal.ofBits .f32 0x3A000000#32 = ((1 / 2048 : ℝ) : EReal) := by
  simp [Ideal.ofBits, Ideal.ieee, -EReal.coe_mul]; norm_num

/-- The two halves of a square's derivative. -/
theorem twice (e : EReal) : e * Ideal.div ((1 / 2 : ℝ) : EReal) ((1024 : ℝ) : EReal) + Ideal.div ((1 / 2 : ℝ) : EReal) ((1024 : ℝ) : EReal) * e
    = e * ((1 / 1024 : ℝ) : EReal) := by
  rw [AttnMath.div_coe _ _ (by norm_num), mul_comm (((1 / 2 / 1024 : ℝ) : EReal)) e]
  induction e using EReal.rec with
  | coe e => norm_cast; ring
  | top => rw [EReal.top_mul_coe_of_pos (by norm_num), EReal.top_mul_coe_of_pos (by norm_num)]; rfl
  | bot => rw [EReal.bot_mul_coe_of_pos (by norm_num), EReal.bot_mul_coe_of_pos (by norm_num)]; rfl

/-- Half the sum of the rows' means. -/
theorem half_mean {n : ℕ} (f : Fin n → EReal) :
    ((1 / 2 : ℝ) : EReal) * ∑ r, Ideal.div (f r) ((1024 : ℝ) : EReal) = ∑ r, f r * ((1 / 2048 : ℝ) : EReal) := by
  rw [mul_comm, mul_sum _ (by norm_num)]
  refine Cert.Sums.sum_ext fun r => ?_
  rw [Ideal.div, if_neg (by exact_mod_cast (by norm_num : (1024 : ℝ) ≠ 0)), ← EReal.coe_inv, mul_assoc, ← EReal.coe_mul]
  norm_num

variable (x t : (⟨3, ![1, 4096, 1024]⟩ : Shape).Idx → EReal) (g : (⟨2, ![1, 1024]⟩ : Shape).Idx → EReal)
  (wg wu : (⟨3, ![1, 1024, 2816]⟩ : Shape).Idx → EReal) (wd : (⟨3, ![1, 2816, 1024]⟩ : Shape).Idx → EReal)
  (gl : (⟨1, ![1024]⟩ : Shape).Idx → EReal)

theorem r8 (r : Fin 4096) : val_main_v8 (F := Ideal) x (ix3 0 r 0) = rr (row x r) := by
  pointwise [val_main_v8, val_main_v7, val_main_v6, val_main_cst_1, val_main_v5, val_main_v4, val_main_cst_0, val_main_v3, val_main_v2, val_main_cst, val_main_v1]
  rfl
theorem r13 (r : Fin 4096) (k : Fin 1024) : val_main_v13 (F := Ideal) x g (ix3 0 r k) = normed x g r k := by
  pointwise [val_main_v13, val_main_v12, val_main_v11, val_main_v10, val_main_v9, val_main_v0, r8 x]
  rfl
theorem r17 (r : Fin 4096) (f : Fin 2816) : val_main_v17 (F := Ideal) x g wg (ix3 0 r f) = proj x g wg r f := by
  pointwise [val_main_v17, val_main_v14, r13 x g]
  rfl
theorem r19 (r : Fin 4096) (f : Fin 2816) : val_main_v19 (F := Ideal) x g wu (ix3 0 r f) = proj x g wu r f := by
  pointwise [val_main_v19, val_main_v15, r13 x g]
  rfl
theorem r20 (r : Fin 4096) (f : Fin 2816) : val_main_v20 (F := Ideal) x g wg wu (ix3 0 r f) = act x g wg wu r f := by
  pointwise [val_main_v20, val_main_v18, val_main_call0_v5, val_main_call0_v4, val_main_call0_cst_0, val_main_call0_v3, val_main_call0_v2, val_main_call0_cst, val_main_call0_v1, val_main_call0_v0, r17 x g wg, r19 x g wu]
  rfl
theorem r22 (r : Fin 4096) (k : Fin 1024) : val_main_v22 (F := Ideal) x g wg wu wd (ix3 0 r k) = x3 x g wg wu wd r k := by
  pointwise [val_main_v22, val_main_v21, val_main_v16, r20 x g wg wu]
  rfl
theorem r29 (r : Fin 4096) : val_main_v29 (F := Ideal) x g wg wu wd (ix3 0 r 0)
    = Ideal.div (∑ k, x3 x g wg wu wd r k * x3 x g wg wu wd r k) (Ideal.ofBits .f32 0x44800000#32) + Ideal.ofBits .f32 0x358637BD#32 := by
  pointwise [val_main_v29, val_main_v28, val_main_cst_4, val_main_v27, val_main_v26, val_main_cst_3, val_main_v25, val_main_v24, val_main_cst_2, val_main_v23, r22 x g wg wu wd]
theorem r30 (r : Fin 4096) : val_main_v30 (F := Ideal) x g wg wu wd (ix3 0 r 0) = rs x g wg wu wd r := by
  pointwise [val_main_v30, r29 x g wg wu wd]
  rfl
theorem r35 (r : Fin 4096) (k : Fin 1024) : val_main_v35 (F := Ideal) x g wg wu wd (ix3 0 r k) = x3 x g wg wu wd r k * rs x g wg wu wd r := by
  pointwise [val_main_v35, val_main_v34, r22 x g wg wu wd, r30 x g wg wu wd]
theorem r39 (r : Fin 4096) (k : Fin 1024) : val_main_v39 (F := Ideal) x t g wg wu wd gl (ix3 0 r k) = err x t g wg wu wd gl r k := by
  pointwise [val_main_v39, val_main_v38, val_main_v37, val_main_v36, r35 x g wg wu wd]
  rfl
theorem r53 (r : Fin 4096) (k : Fin 1024) : val_main_v53 (F := Ideal) x t g wg wu wd gl (ix3 0 r k) = dy x t g wg wu wd gl r k := by
  have e := twice (err x t g wg wu wd gl r k)
  rw [← lit_half, ← lit_1024, ← lit_inv] at e
  pointwise [val_main_v53, val_main_v52, val_main_v51, val_main_v50, val_main_v49, val_main_v48, val_main_cst_12, val_main_v47, val_main_v46, val_main_cst_11, val_main_cst_10, r39 x t g wg wu wd gl]
  exact e
theorem r58 (r : Fin 4096) (k : Fin 1024) : val_main_v58 (F := Ideal) x t g wg wu wd gl (ix3 0 r k) = dyg x t g wg wu wd gl r k := by
  pointwise [val_main_v58, val_main_v57, val_main_v36, r53 x t g wg wu wd gl]
  rfl

/-- The loss. -/
theorem r88 (a : Fin 8) (b : Fin 128) : val_main_v88 (F := Ideal) x t g wg wu wd gl (ix2 a b) = loss x t g wg wu wd gl := by
  have e := half_mean fun r => ∑ k, err x t g wg wu wd gl r k * err x t g wg wu wd gl r k
  rw [← lit_half, ← lit_1024, ← lit_half_inv] at e
  pointwise [val_main_v88, val_main_v45, val_main_cst_9, val_main_v44, val_main_cst_8, val_main_v43, val_main_v42, val_main_cst_7, val_main_v41, val_main_cst_6, val_main_v40, r39 x t g wg wu wd gl]
  rw [Cert.Sums.sum_one]
  exact e

/-- The gradient of the final norm's gain. -/
theorem r90 (a : Fin 8) (k : Fin 1024) : val_main_v90 (F := Ideal) x t g wg wu wd gl (ix2 a k) = dgl x t g wg wu wd gl k := by
  pointwise [val_main_v90, val_main_v89, val_main_v59, val_main_cst_14, val_main_v56, val_main_v55, val_main_cst_13, val_main_v54, r35 x g wg wu wd, r53 x t g wg wu wd gl, Cert.Sums.hostReduceAdd_r3_a01]
  rw [Cert.Sums.sum_one, Cert.Sums.sum_one]
  exact Cert.Sums.sum_ext fun q => EReal.mul_comm _ _

/-- The gradient at the residual stream. -/
theorem r74 (h : ∀ r k, Real' (x3 x g wg wu wd r k)) (r : Fin 4096) (k : Fin 1024) :
    val_main_v74 (F := Ideal) x t g wg wu wd gl (ix3 0 r k) = dx3 x t g wg wu wd gl r k := by
  have b := back (x3 x g wg wu wd r) (h r) (fun k => dyg x t g wg wu wd gl r k) k
  pointwise [val_main_v74, val_main_v73, val_main_v72, val_main_v71, val_main_v70, val_main_v69, val_main_v68, val_main_cst_17, val_main_v67, val_main_v66, val_main_cst_16, val_main_v65, val_main_v64, val_main_v63, val_main_v62, val_main_v61, val_main_cst_15, val_main_v60, val_main_v33, val_main_v32, val_main_cst_5, val_main_v31, r22 x g wg wu wd, r29 x g wg wu wd, r30 x g wg wu wd, r58 x t g wg wu wd gl, Cert.Sums.hostReduceAdd_r3_a02]
  rw [Cert.Sums.sum_one, Cert.Sums.sum_one, r29 x g wg wu wd, r30 x g wg wu wd]
  exact b.symm

end Cert.Loss

end
-- ==== Proof.LossPt.lean ====
/- The channel mixer's forward call with the loss: what a grid point leaves in the results' blocks, from its blocks. -/
module

public import proofs.«01_k».proof.Proof.LossVal
public import proofs.«01_k».proof.Proof.LossRef

@[expose] public section

set_option maxRecDepth 16384

noncomputable section

namespace Cert.Loss

open Cert.KernelLossIdeal Cert.KernelLossIdeal.Gen Idealize.ShloMosaic Idealize.ShloMosaic.TcCoe Idealize.SL.Sem
open Cert.Rms Cert.Ffn

/-! ## The hidden columns, stored chunk by chunk -/

/-- One more chunk's store, over those of the columns before it. -/
theorem store_chunk (off : ℕ) (i) (w : S512x256.Idx → Elt Ideal .bf16) (L : List (View.Piece (Elt Ideal) S512x2816 .bf16))
    (r : Fin 512) (f : Fin 2816 → EReal) (hw : ∀ (d : Fin 256) (k : Fin 2816), k.val = off + d.val → w (ix2 r d) = f k)
    (hL : ∀ k : Fin 2816, k.val < off → View.canon L (ix2 r k) = f k) (k : Fin 2816) (hk : k.val < off + 256) :
    View.canon (Val := Elt Ideal) ((⟨Cert.Mem.colsAt 512 2816 off i, w⟩ : View.Piece (Elt Ideal) S512x2816 .bf16) :: L) (ix2 r k) = f k := by
  by_cases h : k.val < off
  · exact (Cert.Mem.miss off i w L r k (Or.inl h)).trans (hL k h)
  · have e : k.val = off + (⟨k.val - off, by omega⟩ : Fin 256).val := by show k.val = off + (k.val - off); omega
    exact (Cert.Mem.hit off i w L r _ k e).trans (hw _ k e)

/-- The eleven chunks' stores hold the whole row. -/
theorem all_chunks (i0 i1 i2 i3 i4 i5 i6 i7 i8 i9 i10) (w0 w1 w2 w3 w4 w5 w6 w7 w8 w9 w10 : S512x256.Idx → Elt Ideal .bf16) (r : Fin 512)
    (f : Fin 2816 → EReal) (h0 : ∀ d, w0 (ix2 r d) = f (ch 0 d)) (h1 : ∀ d, w1 (ix2 r d) = f (ch 1 d)) (h2 : ∀ d, w2 (ix2 r d) = f (ch 2 d))
    (h3 : ∀ d, w3 (ix2 r d) = f (ch 3 d)) (h4 : ∀ d, w4 (ix2 r d) = f (ch 4 d)) (h5 : ∀ d, w5 (ix2 r d) = f (ch 5 d))
    (h6 : ∀ d, w6 (ix2 r d) = f (ch 6 d)) (h7 : ∀ d, w7 (ix2 r d) = f (ch 7 d)) (h8 : ∀ d, w8 (ix2 r d) = f (ch 8 d))
    (h9 : ∀ d, w9 (ix2 r d) = f (ch 9 d)) (h10 : ∀ d, w10 (ix2 r d) = f (ch 10 d)) (k : Fin 2816) :
    View.canon (Val := Elt Ideal) ((⟨Cert.Mem.colsAt 512 2816 2560 i10, w10⟩ : View.Piece (Elt Ideal) S512x2816 .bf16)
      :: ⟨Cert.Mem.colsAt 512 2816 2304 i9, w9⟩ :: ⟨Cert.Mem.colsAt 512 2816 2048 i8, w8⟩ :: ⟨Cert.Mem.colsAt 512 2816 1792 i7, w7⟩
      :: ⟨Cert.Mem.colsAt 512 2816 1536 i6, w6⟩ :: ⟨Cert.Mem.colsAt 512 2816 1280 i5, w5⟩ :: ⟨Cert.Mem.colsAt 512 2816 1024 i4, w4⟩
      :: ⟨Cert.Mem.colsAt 512 2816 768 i3, w3⟩ :: ⟨Cert.Mem.colsAt 512 2816 512 i2, w2⟩ :: ⟨Cert.Mem.colsAt 512 2816 256 i1, w1⟩
      :: ⟨Cert.Mem.colsAt 512 2816 0 i0, w0⟩ :: []) (ix2 r k) = f k := by
  have key : ∀ (j : Fin 11) (w : S512x256.Idx → Elt Ideal .bf16), (∀ d, w (ix2 r d) = f (ch j d)) →
      ∀ (d : Fin 256) (k : Fin 2816), k.val = 256 * j.val + d.val → w (ix2 r d) = f k :=
    fun j w h d k e => (h d).trans (congrArg f (Fin.ext e.symm))
  exact store_chunk _ _ _ _ r f (key 10 _ h10) (store_chunk _ _ _ _ r f (key 9 _ h9) (store_chunk _ _ _ _ r f (key 8 _ h8)
    (store_chunk _ _ _ _ r f (key 7 _ h7) (store_chunk _ _ _ _ r f (key 6 _ h6) (store_chunk _ _ _ _ r f (key 5 _ h5)
    (store_chunk _ _ _ _ r f (key 4 _ h4) (store_chunk _ _ _ _ r f (key 3 _ h3) (store_chunk _ _ _ _ r f (key 2 _ h2)
    (store_chunk _ _ _ _ r f (key 1 _ h1) (store_chunk _ _ _ _ r f (key 0 _ h0) fun k h => absurd h (Nat.not_lt_zero _)))))))))))
    k k.isLt

/-! ## The residual stream -/

/-- The residual stream after ten chunks, as the call computes it. -/
abbrev a10 (b0 : S512x1024.Idx → EReal) (b2 : S1x1024.Idx → EReal) (b4 b5 b6 : S2816x1024.Idx → EReal) : FVec Ideal S512x1024 .f32 :=
  k0_pay63 (F := Ideal) (k0_pay57 (k0_pay51 (k0_pay8 b0 b2) (k0_pay46 (k0_pay8 b0 b2)
      (k0_pay36 (k0_pay30 (k0_pay8 b0 b2) (k0_pay25 (k0_pay8 b0 b2)
            (k0_pay15 (k0_pay7 b0) (k0_pay10 b0 b2 (rows b4 0)) (k0_pay11 b0 b2 (rows b5 0)) (rows b6 0))
            (k0_pay20 (k0_pay8 b0 b2) (rows b4 1) (rows b5 1)) (rows b6 1) (rows b4 2) (rows b5 2) (rows b6 2))
          (k0_pay26 (k0_pay8 b0 b2) (rows b4 3)) (rows b5 3) (rows b6 3))
        (k0_pay31 (k0_pay8 b0 b2) (rows b4 4)) (k0_pay32 (k0_pay8 b0 b2) (rows b5 4)) (rows b6 4))
      (k0_pay37 (k0_pay8 b0 b2) (rows b4 5)) (k0_pay38 (k0_pay8 b0 b2) (rows b5 5)) (k0_pay41 (k0_pay8 b0 b2) (rows b4 5))
      (FloatOps.ofBits FTy.f32 1056964608#32) (rows b6 5) (rows b4 6) (rows b5 6) (rows b6 6))
    (rows b4 7) (rows b5 7) (rows b6 7))
    (k0_pay52 (k0_pay8 b0 b2) (rows b4 8)) (k0_pay53 (k0_pay8 b0 b2) (rows b5 8)) (rows b6 8))
    (k0_pay58 (k0_pay8 b0 b2) (rows b4 9)) (k0_pay59 (k0_pay8 b0 b2) (rows b5 9)) (k0_pay62 (k0_pay8 b0 b2) (rows b4 9)) (rows b6 9)

section Block

variable {x tg : S1x4096x1024.Idx → EReal} {g : S1x1024.Idx → EReal} {wg wu : S1x1024x2816.Idx → EReal}
  {wd : S1x2816x1024.Idx → EReal} {gl : S1024.Idx → EReal}
variable {b0 b1 : S512x1024.Idx → EReal} {b2 b3 : S1x1024.Idx → EReal} {b4 b5 b6 : S2816x1024.Idx → EReal}

/-- It is the stream of the chunks, one by one. -/
theorem x3_eq : k0_pay70 (F := Ideal) (a10 b0 b2 b4 b5 b6) (k0_pay68 (rows b6 10)) (k0_pay69 (k0_pay8 b0 b2) (rows b4 10) (rows b5 10))
    (constant S512x1024 FTy.f32 0#32) = acc b0 b2 b4 b5 b6 11 := by
  rw [acc_succ 10 (by decide), acc_succ 9 (by decide), acc_succ 8 (by decide), acc_succ 7 (by decide), acc_succ 6 (by decide),
    acc_succ 5 (by decide), acc_succ 4 (by decide), acc_succ 3 (by decide), acc_succ 2 (by decide), acc_succ 1 (by decide), acc_succ 0 (by decide)]
  rfl

variable {q : Fin 512 → Fin 4096} (B : Block q x tg g wg wu wd gl b0 b1 b2 b3 b4 b5 b6)
variable {v : FVec Ideal S512x1024 .f32} {w : FVec Ideal S256x1024 .bf16} {a : FVec Ideal S512x256 .bf16} {z : FVec Ideal S512x1024 .f32}
  (hx : ∀ r k, k0_pay70 (F := Ideal) v w a z (ix2 r k) = x3 x g wg wu wd (q r) k)

include hx

theorem rs_at (r : Fin 512) : k0_pay72 (F := Ideal) v w a z (ix2 r 0) = rs x g wg wu wd (q r) := by
  pointwise [k0_pay72, hx]
  rfl

theorem xr_at (r : Fin 512) (k : Fin 1024) : k0_pay76 (F := Ideal) v w a z (ix2 r k) = x3 x g wg wu wd (q r) k * rs x g wg wu wd (q r) := by
  pointwise [k0_pay76, hx, rs_at hx]

include B

theorem err_at (r : Fin 512) (k : Fin 1024) : k0_pay73 (F := Ideal) v w a z b3 b1 (ix2 r k) = err x tg g wg wu wd gl (q r) k := by
  pointwise [k0_pay73, k0_pay71, hx, rs_at hx, B.h3, B.h1]
  rfl

/-- The block's part of the loss, added to what was there. -/
theorem loss_at (p : FVec Ideal S8x128 .f32) (i : Fin 8) (j : Fin 128) : k0_pay74 (F := Ideal) v w a z b3 b1 p (ix2 i j)
    = p (ix2 i j) + ∑ r : Fin 512, (∑ k : Fin 1024, err x tg g wg wu wd gl (q r) k * err x tg g wg wu wd gl (q r) k) * Ideal.ofBits .f32 0x3A000000#32 := by
  have e := mul_sum (1 / 2048) (by norm_num)
    (fun r : Fin 512 => ∑ k : Fin 1024, err x tg g wg wu wd gl (q r) k * err x tg g wg wu wd gl (q r) k)
  rw [← lit_half_inv] at e
  pointwise [k0_pay74, err_at B hx]
  exact congrArg _ e

theorem dy_at (r : Fin 512) (k : Fin 1024) : k0_pay75 (F := Ideal) v w a z b3 b1 (ix2 r k) = dy x tg g wg wu wd gl (q r) k := by
  pointwise [k0_pay75, err_at B hx]
  rfl

theorem dgl_at (k : Fin 1024) : k0_pay77 (F := Ideal) v w a z b3 b1 (ix2 0 k)
    = ∑ r : Fin 512, dy x tg g wg wu wd gl (q r) k * (x3 x g wg wu wd (q r) k * rs x g wg wu wd (q r)) := by
  pointwise [k0_pay77, dy_at B hx, xr_at hx]

theorem dyg_at (r : Fin 512) (k : Fin 1024) : k0_pay78 (F := Ideal) v w a z b3 b1 (ix2 r k) = dyg x tg g wg wu wd gl (q r) k := by
  pointwise [k0_pay78, k0_pay71, dy_at B hx, B.h3]
  rfl

theorem dx3_at (r : Fin 512) (k : Fin 1024) : k0_pay1 (F := Ideal) (k0_pay72 v w a z) (k0_pay76 v w a z) (k0_pay78 v w a z b3 b1)
    (k0_pay79 v w a z b3 b1) (ix2 r k) = dx3 x tg g wg wu wd gl (q r) k := by
  pointwise [k0_pay1, k0_pay79, dyg_at B hx, xr_at hx, rs_at hx]
  rfl

end Block

/-! ## The stored copies, and the sums' first values -/

theorem dx3_copy (a : FVec Ideal S512x1 .f32) (b d e : FVec Ideal S512x1024 .f32) (r : Fin 512) (k : Fin 1024) :
    k0_pay2 (F := Ideal) a b d e (ix2 r k) = k0_pay1 (F := Ideal) a b d e (ix2 r k) := by
  unfold k0_pay2
  generalize k0_pay1 (F := Ideal) a b d e = u
  pointwise

theorem dx3_half (a : FVec Ideal S512x1 .f32) (b d e : FVec Ideal S512x1024 .f32) (r : Fin 512) (k : Fin 1024) :
    k0_pay3 (F := Ideal) a b d e (ix2 r k) = k0_pay1 (F := Ideal) a b d e (ix2 r k) := by
  unfold k0_pay3
  generalize k0_pay1 (F := Ideal) a b d e = u
  pointwise

theorem dgl_step (d : FVec Ideal S1x1024 .f32) (p : FVec Ideal S8x1024 .f32) (i : Fin 8) (k : Fin 1024) :
    k0_pay4 (F := Ideal) d p (ix2 i k) = p (ix2 i k) + d (ix2 0 k) := by
  pointwise [k0_pay4]

/-- A chunk's product, as it is stored: any block that is the same product's rounding holds it. -/
theorem stored {h : FVec Ideal S512x1024 .bf16} {w : FVec Ideal S256x1024 .bf16} {u : FVec Ideal S512x256 .bf16}
    (hu : u = k0_pay18 (F := Ideal) h w) {r : Fin 512} {d : Fin 256} {y : EReal} (hy : k0_pay16 (F := Ideal) h w (ix2 r d) = y) : u (ix2 r d) = y := by
  rw [hu, ← hy]
  unfold k0_pay18
  generalize k0_pay16 (F := Ideal) h w = z
  pointwise

theorem zero_at_loss {i : Fin 8} {j : Fin 128} : k0_pay5 (F := Ideal) (ix2 i j) = (0 : EReal) := by
  pointwise [k0_pay5]

theorem zero_at_dgl {i : Fin 8} {k : Fin 1024} : k0_pay6 (F := Ideal) (ix2 i k) = (0 : EReal) := by
  pointwise [k0_pay6]

end Cert.Loss

end
-- ==== Proof.LossOut.lean ====
/- The channel mixer's forward call with the loss: its seven results. -/
module

public import proofs.«01_k».proof.Proof.LossPt

@[expose] public section

set_option maxRecDepth 16384

noncomputable section

namespace Cert.Loss

open Cert.KernelLossIdeal Cert.KernelLossIdeal.Gen Idealize.ShloMosaic Idealize.ShloMosaic.TcCoe Idealize.SL.Sem
open Idealize.ShloMosaic.Pipeline (Dat)
open Cert.Rms Cert.Ffn

variable {x tg : S1x4096x1024.Idx → EReal} {g : S1x1024.Idx → EReal} {wg wu : S1x1024x2816.Idx → EReal}
  {wd : S1x2816x1024.Idx → EReal} {gl : S1024.Idx → EReal}
  {m : (ℓ : Loc nD τ sig) → Buf (Elt Ideal) ℓ} {c : Dev nD} (H : Holds m c x tg g wg wu wd gl)
include H

/-- What the blocks hold at a grid point, -/
theorem block (t : Fin cfg0.N) : Block (at_ t) x tg g wg wu wd gl (iblk m c 0 t) (iblk m c 1 t) (iblk m c 2 t) (iblk m c 3 t)
    (iblk m c 4 t) (iblk m c 5 t) (iblk m c 6 t) :=
  ⟨blk0 H t, blk1 H t, blk2 H t, blk3 H t, blk4 H t, blk5 H t, blk6 H t⟩

/-- and the residual stream there. -/
theorem stream (t : Fin cfg0.N) (r : Fin 512) (k : Fin 1024) :
    k0_pay70 (F := Ideal) (a10 (iblk m c 0 t) (iblk m c 2 t) (iblk m c 4 t) (iblk m c 5 t) (iblk m c 6 t)) (k0_pay68 (rows (iblk m c 6 t) 10))
      (k0_pay69 (k0_pay8 (iblk m c 0 t) (iblk m c 2 t)) (rows (iblk m c 4 t) 10) (rows (iblk m c 5 t) 10))
      (constant S512x1024 FTy.f32 0#32) (ix2 r k) = x3 x g wg wu wd (at_ t r) k :=
  (congrFun x3_eq _).trans (x3_at (block H t) r k)

/-- The gate, -/
theorem out7 (G : S4096x2816.Idx → EReal) (hG : ∀ r (f : Fin 2816), G (ix2 r f) = proj x g wg r f) : (dats m 0 c).arrAt 7 (cfgs 0).N = G := by
  refine (dats m 0 c).arrAt_eq_of_covers 7 _ (by decide +kernel) fun t _ y => ?_
  have ht := lt8 t
  blk_simp
  rw [after0_7]
  idx_vars y
  have he : ((View.whole main_v11_0).slice (win0_7.rect t)).emb (ix2 y0 y1) = (ix2 (at_ t y0) y1 : S4096x2816.Idx) := by
    funext a
    fin_cases a
    · refine Fin.ext ?_; blk_simp; simp [idx t, at_]; omega
    · refine Fin.ext ?_; blk_simp; simp [idx t]
  rw [he, hG]
  have e := fun j d (u : FVec Ideal S512x256 .bf16) (hu : u = k0_pay18 (F := Ideal) (k0_pay8 (F := Ideal) (iblk m c 0 t) (iblk m c 2 t)) (rows (iblk m c 4 t) j)) =>
    stored hu (gate_at (block H t) j y0 d)
  by_cases hz : t.val % 8 = 0
  · rw [outsAt0_A m c t hz]
    frame_out
    refine all_chunks _ _ _ _ _ _ _ _ _ _ _ _ _ _ _ _ _ _ _ _ _ _ y0 (proj x g wg (at_ t y0)) (fun d => e 0 d _ ?_) (fun d => e 1 d _ ?_)
      (fun d => e 2 d _ ?_) (fun d => e 3 d _ ?_) (fun d => e 4 d _ ?_) (fun d => e 5 d _ ?_) (fun d => e 6 d _ ?_) (fun d => e 7 d _ ?_)
      (fun d => e 8 d _ ?_) (fun d => e 9 d _ ?_) (fun d => e 10 d _ ?_) y1 <;> rfl
  · rw [outsAt0_B m c t hz]
    frame_out
    refine all_chunks _ _ _ _ _ _ _ _ _ _ _ _ _ _ _ _ _ _ _ _ _ _ y0 (proj x g wg (at_ t y0)) (fun d => e 0 d _ ?_) (fun d => e 1 d _ ?_)
      (fun d => e 2 d _ ?_) (fun d => e 3 d _ ?_) (fun d => e 4 d _ ?_) (fun d => e 5 d _ ?_) (fun d => e 6 d _ ?_) (fun d => e 7 d _ ?_)
      (fun d => e 8 d _ ?_) (fun d => e 9 d _ ?_) (fun d => e 10 d _ ?_) y1 <;> rfl

/-- what it multiplies, -/
theorem out8 (G : S4096x2816.Idx → EReal) (hG : ∀ r (f : Fin 2816), G (ix2 r f) = proj x g wu r f) : (dats m 0 c).arrAt 8 (cfgs 0).N = G := by
  refine (dats m 0 c).arrAt_eq_of_covers 8 _ (by decide +kernel) fun t _ y => ?_
  have ht := lt8 t
  blk_simp
  rw [after0_8]
  idx_vars y
  have he : ((View.whole main_v11_1).slice (win0_8.rect t)).emb (ix2 y0 y1) = (ix2 (at_ t y0) y1 : S4096x2816.Idx) := by
    funext a
    fin_cases a
    · refine Fin.ext ?_; blk_simp; simp [idx t, at_]; omega
    · refine Fin.ext ?_; blk_simp; simp [idx t]
  rw [he, hG]
  have e := fun j d (u : FVec Ideal S512x256 .bf16) (hu : u = k0_pay18 (F := Ideal) (k0_pay8 (F := Ideal) (iblk m c 0 t) (iblk m c 2 t)) (rows (iblk m c 5 t) j)) =>
    stored hu (up_at (block H t) j y0 d)
  by_cases hz : t.val % 8 = 0
  · rw [outsAt0_A m c t hz]
    frame_out
    refine all_chunks _ _ _ _ _ _ _ _ _ _ _ _ _ _ _ _ _ _ _ _ _ _ y0 (proj x g wu (at_ t y0)) (fun d => e 0 d _ ?_) (fun d => e 1 d _ ?_)
      (fun d => e 2 d _ ?_) (fun d => e 3 d _ ?_) (fun d => e 4 d _ ?_) (fun d => e 5 d _ ?_) (fun d => e 6 d _ ?_) (fun d => e 7 d _ ?_)
      (fun d => e 8 d _ ?_) (fun d => e 9 d _ ?_) (fun d => e 10 d _ ?_) y1 <;> rfl
  · rw [outsAt0_B m c t hz]
    frame_out
    refine all_chunks _ _ _ _ _ _ _ _ _ _ _ _ _ _ _ _ _ _ _ _ _ _ y0 (proj x g wu (at_ t y0)) (fun d => e 0 d _ ?_) (fun d => e 1 d _ ?_)
      (fun d => e 2 d _ ?_) (fun d => e 3 d _ ?_) (fun d => e 4 d _ ?_) (fun d => e 5 d _ ?_) (fun d => e 6 d _ ?_) (fun d => e 7 d _ ?_)
      (fun d => e 8 d _ ?_) (fun d => e 9 d _ ?_) (fun d => e 10 d _ ?_) y1 <;> rfl

/-- the normalised input, -/
theorem out9 (G : S4096x1024.Idx → EReal) (hG : ∀ r (k : Fin 1024), G (ix2 r k) = normed x g r k) : (dats m 0 c).arrAt 9 (cfgs 0).N = G := by
  refine (dats m 0 c).arrAt_eq_of_covers 9 _ (by decide +kernel) fun t _ y => ?_
  have ht := lt8 t
  blk_simp
  rw [after0_9]
  idx_vars y
  have he : ((View.whole main_v11_2).slice (win0_9.rect t)).emb (ix2 y0 y1) = (ix2 (at_ t y0) y1 : S4096x1024.Idx) := by
    funext a
    fin_cases a
    · refine Fin.ext ?_; blk_simp; simp [idx t, at_]; omega
    · refine Fin.ext ?_; blk_simp; simp [idx t]
  rw [he, hG]
  have e : k0_pay9 (F := Ideal) (iblk m c 0 t) (iblk m c 2 t) (ix2 y0 y1) = normed x g (at_ t y0) y1 := by
    pointwise [k0_pay9, normed_at (block H t)]
  by_cases hz : t.val % 8 = 0
  · rw [outsAt0_A m c t hz]
    frame_out
    exact e
  · rw [outsAt0_B m c t hz]
    frame_out
    exact e

/-- the residual stream's gradient in full precision, -/
theorem out10 (G : S4096x1024.Idx → EReal) (hG : ∀ r (k : Fin 1024), G (ix2 r k) = dx3 x tg g wg wu wd gl r k) :
    (dats m 0 c).arrAt 10 (cfgs 0).N = G := by
  refine (dats m 0 c).arrAt_eq_of_covers 10 _ (by decide +kernel) fun t _ y => ?_
  have ht := lt8 t
  blk_simp
  rw [after0_10]
  idx_vars y
  have he : ((View.whole main_v11_3).slice (win0_10.rect t)).emb (ix2 y0 y1) = (ix2 (at_ t y0) y1 : S4096x1024.Idx) := by
    funext a
    fin_cases a
    · refine Fin.ext ?_; blk_simp; simp [idx t, at_]; omega
    · refine Fin.ext ?_; blk_simp; simp [idx t]
  rw [he, hG]
  have e := dx3_at (block H t) (stream H t) y0 y1
  by_cases hz : t.val % 8 = 0
  · rw [outsAt0_A m c t hz]
    frame_out
    exact (dx3_copy _ _ _ _ _ _).trans e
  · rw [outsAt0_B m c t hz]
    frame_out
    exact (dx3_copy _ _ _ _ _ _).trans e

/-- and rounded, -/
theorem out11 (G : S4096x1024.Idx → EReal) (hG : ∀ r (k : Fin 1024), G (ix2 r k) = dx3 x tg g wg wu wd gl r k) :
    (dats m 0 c).arrAt 11 (cfgs 0).N = G := by
  refine (dats m 0 c).arrAt_eq_of_covers 11 _ (by decide +kernel) fun t _ y => ?_
  have ht := lt8 t
  blk_simp
  rw [after0_11]
  idx_vars y
  have he : ((View.whole main_v11_4).slice (win0_11.rect t)).emb (ix2 y0 y1) = (ix2 (at_ t y0) y1 : S4096x1024.Idx) := by
    funext a
    fin_cases a
    · refine Fin.ext ?_; blk_simp; simp [idx t, at_]; omega
    · refine Fin.ext ?_; blk_simp; simp [idx t]
  rw [he, hG]
  have e := dx3_at (block H t) (stream H t) y0 y1
  by_cases hz : t.val % 8 = 0
  · rw [outsAt0_A m c t hz]
    frame_out
    exact (dx3_half _ _ _ _ _ _).trans e
  · rw [outsAt0_B m c t hz]
    frame_out
    exact (dx3_half _ _ _ _ _ _).trans e

/-- the loss, summed over the grid, -/
theorem out12 (G : S8x128.Idx → EReal) (hG : ∀ (a : Fin 8) (b : Fin 128), G (ix2 a b) = loss x tg g wg wu wd gl) :
    (dats m 0 c).arrAt 12 (cfgs 0).N = G := by
  refine (dats m 0 c).arrAt_eq_of_after_last 12 t0_7 (by decide +kernel) _ fun j => ?_
  blk_simp
  rw [after0_12, Pipeline.eq_sum_fin_of_reset_step_apply_last (fun n h => (outsAt0 m c n h).2.2.2.2.2.1)
    8 (fun _ => 0) (fun t j => ∑ r : Fin 512, ((∑ k : Fin 1024, err x tg g wg wu wd gl (at_ t r) k * err x tg g wg wu wd gl (at_ t r) k)
      * Ideal.ofBits .f32 0x3A000000#32 : EReal))
    (fun t h j => by
      rw [outsAt0_A m c t h]
      frame_out
      idx_vars j
      refine (loss_at (block H t) (stream H t) _ j0 j1).trans ?_
      exact congrArg (· + _) zero_at_loss)
    (fun t h j => by
      rw [outsAt0_B m c t h]
      frame_out
      idx_vars j
      exact loss_at (block H t) (stream H t) _ j0 j1)
    (le_of_eq N_0) t0_7 rfl j, zero_add]
  idx_vars j
  rw [hG]
  refine Fin.sum_mul_add_congr (S := 8) (n := 512) (L := 4096) fun t r hl => ?_
  have e : at_ t r = ⟨t.val * 512 + r.val, hl⟩ := Fin.ext (by simp only [at_]; omega)
  rw [e]

/-- and the gradient of the final norm's gain. -/
theorem out13 (G : S8x1024.Idx → EReal) (hG : ∀ (a : Fin 8) (k : Fin 1024), G (ix2 a k) = dgl x tg g wg wu wd gl k) :
    (dats m 0 c).arrAt 13 (cfgs 0).N = G := by
  refine (dats m 0 c).arrAt_eq_of_after_last 13 t0_7 (by decide +kernel) _ fun j => ?_
  blk_simp
  rw [after0_13, Pipeline.eq_sum_fin_of_reset_step_apply_last (fun n h => (outsAt0 m c n h).2.2.2.2.2.2)
    8 (fun _ => 0) (fun t j => ∑ r : Fin 512, (dy x tg g wg wu wd gl (at_ t r) (j 1)
      * (x3 x g wg wu wd (at_ t r) (j 1) * rs x g wg wu wd (at_ t r)) : EReal))
    (fun t h j => by
      rw [outsAt0_A m c t h]
      frame_out
      idx_vars j
      refine (dgl_step _ _ j0 j1).trans ?_
      exact congrArg₂ (· + ·) zero_at_dgl (dgl_at (block H t) (stream H t) j1))
    (fun t h j => by
      rw [outsAt0_B m c t h]
      frame_out
      idx_vars j
      refine (dgl_step _ _ j0 j1).trans ?_
      exact congrArg (_ + ·) (dgl_at (block H t) (stream H t) j1))
    (le_of_eq N_0) t0_7 rfl j, zero_add]
  idx_vars j
  rw [hG]
  refine Fin.sum_mul_add_congr (S := 8) (n := 512) (L := 4096) fun t r hl => ?_
  have e : at_ t r = ⟨t.val * 512 + r.val, hl⟩ := Fin.ext (by simp only [at_]; omega)
  rw [e]

end Cert.Loss

end
-- ==== Proof.MemOut.lean ====
/- The memory attention's backward call: its thirteen results. -/
module

public import proofs.«01_k».proof.Proof.MemTile

@[expose] public section

set_option maxRecDepth 16384

noncomputable section

namespace Cert.Mem

open Cert.KernelMemIdeal Cert.KernelMemIdeal.Gen Idealize.ShloMosaic Idealize.ShloMosaic.TcCoe Idealize.SL.Sem
open Idealize.ShloMosaic.Pipeline (Dat)
open Cert.Rms

/-- What was stored last over the whole block of zeros. -/
theorem zero2 (i) (μ : Fin 256) (k : Fin 1024) : View.canon (Val := Elt Ideal)
    [(⟨Rect.unit ![0, 0] ![256, 1024] i, k0_pay2 (F := Ideal)⟩ : View.Piece (Elt Ideal) S256x1024 .f32)] (ix2 μ k) = (0 : EReal) := by
  refine (congrFun (View.canon_cons_unit_lit i _ _ (by decide)) _).trans ?_
  pointwise [k0_pay2]
theorem zero3 (i) (μ : Fin 256) (k : Fin 1024) : View.canon (Val := Elt Ideal)
    [(⟨Rect.unit ![0, 0] ![256, 1024] i, k0_pay3 (F := Ideal)⟩ : View.Piece (Elt Ideal) S256x1024 .f32)] (ix2 μ k) = (0 : EReal) := by
  refine (congrFun (View.canon_cons_unit_lit i _ _ (by decide)) _).trans ?_
  pointwise [k0_pay3]

section Result

variable {x : (⟨3, ![1, 4096, 1024]⟩ : Shape).Idx → EReal} {yv : (⟨3, ![1, 4096, 512]⟩ : Shape).Idx → EReal}
  {bd : (⟨2, ![1, 512]⟩ : Shape).Idx → EReal} {ya : (⟨3, ![1, 4096, 512]⟩ : Shape).Idx → EReal}
  {mem : (⟨3, ![1, 256, 1024]⟩ : Shape).Idx → EReal} {lg lb : (⟨2, ![1, 512]⟩ : Shape).Idx → EReal}
  {wout : (⟨3, ![1, 1024, 1024]⟩ : Shape).Idx → EReal} {bo gm gkv : (⟨2, ![1, 1024]⟩ : Shape).Idx → EReal}
  {wq : (⟨3, ![1, 1024, 1024]⟩ : Shape).Idx → EReal} {wkv : (⟨3, ![1, 1024, 2048]⟩ : Shape).Idx → EReal}
  {wo : (⟨3, ![1, 1024, 1024]⟩ : Shape).Idx → EReal} {dx2 : (⟨3, ![1, 4096, 1024]⟩ : Shape).Idx → EReal}
  {m : (ℓ : Loc nD τ sig) → Buf (Elt Ideal) ℓ} {c : Dev nD}
  (H : Args (fun b => m (c, b)) x yv bd ya mem lg lb wout bo gm gkv wq wkv wo dx2)
  (W : Reals x yv bd ya mem lg lb wout bo gm gkv wq wkv wo dx2)
include H W

/-- The residual's gradient, in full precision -/
theorem out12 (G : S4096x1024.Idx → EReal) (hG : ∀ r (k : Fin 1024), G (ix2 r k) = rR x yv bd ya mem lg lb wout bo gm gkv wq wkv wo dx2 r k) :
    (dats m 0 c).arrAt 12 (cfgs 0).N = G := by
  refine (dats m 0 c).arrAt_eq_of_covers 12 _ (by decide +kernel) fun t _ y => ?_
  have ht := lt8 t
  blk_simp
  rw [after0_12]
  idx_vars y
  have he : ((View.whole main_v87_0).slice (win0_12.rect t)).emb (ix2 y0 y1) = (ix2 (at_ t y0) y1 : S4096x1024.Idx) := by
    funext a
    fin_cases a
    · refine Fin.ext ?_; blk_simp; simp [idx t, at_]; omega
    · refine Fin.ext ?_; blk_simp; simp [idx t]
  rw [he, hG]
  have e := pay55 (at_ t) (dr_at H W t) y0 y1
  by_cases hz : t.val % 8 = 0
  · rw [outsAt0_A m c t hz]
    frame_out
    exact e
  · rw [outsAt0_B m c t hz]
    frame_out
    exact e

/-- and rounded; -/
theorem out13 (G : S4096x1024.Idx → EReal) (hG : ∀ r (k : Fin 1024), G (ix2 r k) = rR x yv bd ya mem lg lb wout bo gm gkv wq wkv wo dx2 r k) :
    (dats m 0 c).arrAt 13 (cfgs 0).N = G := by
  refine (dats m 0 c).arrAt_eq_of_covers 13 _ (by decide +kernel) fun t _ y => ?_
  have ht := lt8 t
  blk_simp
  rw [after0_13]
  idx_vars y
  have he : ((View.whole main_v87_1).slice (win0_13.rect t)).emb (ix2 y0 y1) = (ix2 (at_ t y0) y1 : S4096x1024.Idx) := by
    funext a
    fin_cases a
    · refine Fin.ext ?_; blk_simp; simp [idx t, at_]; omega
    · refine Fin.ext ?_; blk_simp; simp [idx t]
  rw [he, hG]
  have e := pay57 (at_ t) (dr_at H W t) y0 y1
  by_cases hz : t.val % 8 = 0
  · rw [outsAt0_A m c t hz]
    frame_out
    exact e
  · rw [outsAt0_B m c t hz]
    frame_out
    exact e

/-- the normalised residual; -/
theorem out14 (G : S4096x1024.Idx → EReal) (hG : ∀ r (k : Fin 1024), G (ix2 r k) = hq gm (rX x yv bd ya lg lb wout bo) r k) :
    (dats m 0 c).arrAt 14 (cfgs 0).N = G := by
  refine (dats m 0 c).arrAt_eq_of_covers 14 _ (by decide +kernel) fun t _ y => ?_
  have ht := lt8 t
  blk_simp
  rw [after0_14]
  idx_vars y
  have he : ((View.whole main_v87_2).slice (win0_14.rect t)).emb (ix2 y0 y1) = (ix2 (at_ t y0) y1 : S4096x1024.Idx) := by
    funext a
    fin_cases a
    · refine Fin.ext ?_; blk_simp; simp [idx t, at_]; omega
    · refine Fin.ext ?_; blk_simp; simp [idx t]
  rw [he, hG]
  have e := pay50 (at_ t) (blk1 H t) (blk5 H t) y0 y1
  by_cases hz : t.val % 8 = 0
  · rw [outsAt0_A m c t hz]
    frame_out
    exact e
  · rw [outsAt0_B m c t hz]
    frame_out
    exact e

/-- the queries' gradient; -/
theorem out15 (G : S4096x1024.Idx → EReal) (hG : ∀ r (k : Fin 1024), G (ix2 r k) = rP x yv bd ya mem lg lb wout bo gm gkv wq wkv wo dx2 r k) :
    (dats m 0 c).arrAt 15 (cfgs 0).N = G := by
  refine (dats m 0 c).arrAt_eq_of_covers 15 _ (by decide +kernel) fun t _ y => ?_
  have ht := lt8 t
  blk_simp
  rw [after0_15]
  idx_vars y
  have he : ((View.whole main_v87_3).slice (win0_15.rect t)).emb (ix2 y0 y1) = (ix2 (at_ t y0) y1 : S4096x1024.Idx) := by
    funext a
    fin_cases a
    · refine Fin.ext ?_; blk_simp; simp [idx t, at_]; omega
    · refine Fin.ext ?_; blk_simp; simp [idx t]
  rw [he, hG]
  have e := pay46 (at_ t) (dq_at H W t) y0 y1
  by_cases hz : t.val % 8 = 0
  · rw [outsAt0_A m c t hz]
    frame_out
    exact e
  · rw [outsAt0_B m c t hz]
    frame_out
    exact e

/-- the convolution's output's gradient; -/
theorem out16 (G : S4096x512.Idx → EReal) (hG : ∀ r (k : Fin 512), G (ix2 r k) = dy yv bd lg lb wout (rR x yv bd ya mem lg lb wout bo gm gkv wq wkv wo dx2) r k) :
    (dats m 0 c).arrAt 16 (cfgs 0).N = G := by
  refine (dats m 0 c).arrAt_eq_of_covers 16 _ (by decide +kernel) fun t _ y => ?_
  have ht := lt8 t
  blk_simp
  rw [after0_16]
  idx_vars y
  have he : ((View.whole main_v87_4).slice (win0_16.rect t)).emb (ix2 y0 y1) = (ix2 (at_ t y0) y1 : S4096x512.Idx) := by
    funext a
    fin_cases a
    · refine Fin.ext ?_; blk_simp; simp [idx t, at_]; omega
    · refine Fin.ext ?_; blk_simp; simp [idx t]
  rw [he, hG]
  have e := pay69 (at_ t) (blk9 H t) (dm_at H W t) (blk10 H t) (blk11 H t) y0 y1
  by_cases hz : t.val % 8 = 0
  · rw [outsAt0_A m c t hz]
    frame_out
    exact e
  · rw [outsAt0_B m c t hz]
    frame_out
    exact e

/-- the windowed attention's output's gradient. -/
theorem out17 (G : S4096x512.Idx → EReal) (hG : ∀ r (k : Fin 512), G (ix2 r k) = dmix wout (rR x yv bd ya mem lg lb wout bo gm gkv wq wkv wo dx2) r ⟨512 + k.val, by have := k.isLt; omega⟩) :
    (dats m 0 c).arrAt 17 (cfgs 0).N = G := by
  refine (dats m 0 c).arrAt_eq_of_covers 17 _ (by decide +kernel) fun t _ y => ?_
  have ht := lt8 t
  blk_simp
  rw [after0_17]
  idx_vars y
  have he : ((View.whole main_v87_5).slice (win0_17.rect t)).emb (ix2 y0 y1) = (ix2 (at_ t y0) y1 : S4096x512.Idx) := by
    funext a
    fin_cases a
    · refine Fin.ext ?_; blk_simp; simp [idx t, at_]; omega
    · refine Fin.ext ?_; blk_simp; simp [idx t]
  rw [he, hG]
  have e := pay59 (at_ t) (dr_at H W t) (blk8 H t) y0 y1
  by_cases hz : t.val % 8 = 0
  · rw [outsAt0_A m c t hz]
    frame_out
    exact e
  · rw [outsAt0_B m c t hz]
    frame_out
    exact e

/-- The keys' gradient, added up over the grid, -/
theorem out18 (G : S256x1024.Idx → EReal) (hG : ∀ (μ : Fin 256) (k : Fin 1024), G (ix2 μ k) = dkey (rQ x yv bd ya lg lb wout bo gm wq) (rK mem gkv wkv) (rV mem gkv wkv) (rO wo dx2) μ k) :
    (dats m 0 c).arrAt 18 (cfgs 0).N = G := by
  refine (dats m 0 c).arrAt_eq_of_after_last 18 t0_7 (by decide +kernel) _ fun j => ?_
  blk_simp
  rw [after0_18, Pipeline.eq_sum_fin_of_reset_step_apply_last (fun n h => (outsAt0 m c n h).2.2.2.2.2.2.1)
    8 (fun _ => 0)
    (fun t j => ∑ r : Fin 512, (((gk (sQ x yv bd ya lg lb wout bo gm wq) (sK mem gkv wkv) (sV mem gkv wkv) (sO wo dx2) ⟨(j 1).val / 256, by have h : (j 1).val < 1024 := (j 1).isLt; omega⟩ (at_ t r) (j 0) ⟨(j 1).val % 256, Nat.mod_lt _ (by norm_num)⟩ : ℝ) : EReal) : EReal))
    (fun t h j => by
      rw [outsAt0_A m c t h]
      frame_out
      idx_vars j
      exact keys_at H W t (fun _ => 0) _ _ _ _
        (fun μ d => (load_cols _ _ _ _ μ d (col 0 d) rfl).trans (zero2 _ _ _))
        (fun μ d => (load_cols _ _ _ _ μ d (col 1 d) rfl).trans ((miss _ _ _ _ _ _ (Or.inr (by show 0 + 256 ≤ 256 * 1 + d.val; omega))).trans (zero2 _ _ _)))
        (fun μ d => (load_cols _ _ _ _ μ d (col 2 d) rfl).trans ((miss _ _ _ _ _ _ (Or.inr (by show 256 + 256 ≤ 256 * 2 + d.val; omega))).trans ((miss _ _ _ _ _ _ (Or.inr (by show 0 + 256 ≤ 256 * 2 + d.val; omega))).trans (zero2 _ _ _))))
        (fun μ d => (load_cols _ _ _ _ μ d (col 3 d) rfl).trans ((miss _ _ _ _ _ _ (Or.inr (by show 512 + 256 ≤ 256 * 3 + d.val; omega))).trans ((miss _ _ _ _ _ _ (Or.inr (by show 256 + 256 ≤ 256 * 3 + d.val; omega))).trans ((miss _ _ _ _ _ _ (Or.inr (by show 0 + 256 ≤ 256 * 3 + d.val; omega))).trans (zero2 _ _ _))))) _ j0 j1)
    (fun t h j => by
      rw [outsAt0_B m c t h]
      frame_out
      idx_vars j
      exact keys_at H W t _ _ _ _ _ (fun μ d => ld_cols _ _ _ μ d _ rfl) (fun μ d => ld_cols _ _ _ μ d _ rfl) (fun μ d => ld_cols _ _ _ μ d _ rfl) (fun μ d => ld_cols _ _ _ μ d _ rfl) [] j0 j1)
    (le_of_eq N_0) t0_7 rfl j, zero_add]
  idx_vars j
  rw [hG]
  refine Fin.sum_mul_add_congr (S := 8) (n := 512) (L := 4096) fun t r hl => ?_
  have e : at_ t r = ⟨t.val * 512 + r.val, hl⟩ := Fin.ext (by simp only [at_]; omega)
  rw [e]

/-- and the values'. -/
theorem out19 (G : S256x1024.Idx → EReal) (hG : ∀ (μ : Fin 256) (k : Fin 1024), G (ix2 μ k) = dval (rQ x yv bd ya lg lb wout bo gm wq) (rK mem gkv wkv) (rO wo dx2) μ k) :
    (dats m 0 c).arrAt 19 (cfgs 0).N = G := by
  refine (dats m 0 c).arrAt_eq_of_after_last 19 t0_7 (by decide +kernel) _ fun j => ?_
  blk_simp
  rw [after0_19, Pipeline.eq_sum_fin_of_reset_step_apply_last (fun n h => (outsAt0 m c n h).2.2.2.2.2.2.2.1)
    8 (fun _ => 0)
    (fun t j => ∑ r : Fin 512, (((gv (sQ x yv bd ya lg lb wout bo gm wq) (sK mem gkv wkv) (sO wo dx2) ⟨(j 1).val / 256, by have h : (j 1).val < 1024 := (j 1).isLt; omega⟩ (at_ t r) (j 0) ⟨(j 1).val % 256, Nat.mod_lt _ (by norm_num)⟩ : ℝ) : EReal) : EReal))
    (fun t h j => by
      rw [outsAt0_A m c t h]
      frame_out
      idx_vars j
      exact vals_at H W t (fun _ => 0) _ _ _ _
        (fun μ d => (load_cols _ _ _ _ μ d (col 0 d) rfl).trans (zero3 _ _ _))
        (fun μ d => (load_cols _ _ _ _ μ d (col 1 d) rfl).trans ((miss _ _ _ _ _ _ (Or.inr (by show 0 + 256 ≤ 256 * 1 + d.val; omega))).trans (zero3 _ _ _)))
        (fun μ d => (load_cols _ _ _ _ μ d (col 2 d) rfl).trans ((miss _ _ _ _ _ _ (Or.inr (by show 256 + 256 ≤ 256 * 2 + d.val; omega))).trans ((miss _ _ _ _ _ _ (Or.inr (by show 0 + 256 ≤ 256 * 2 + d.val; omega))).trans (zero3 _ _ _))))
        (fun μ d => (load_cols _ _ _ _ μ d (col 3 d) rfl).trans ((miss _ _ _ _ _ _ (Or.inr (by show 512 + 256 ≤ 256 * 3 + d.val; omega))).trans ((miss _ _ _ _ _ _ (Or.inr (by show 256 + 256 ≤ 256 * 3 + d.val; omega))).trans ((miss _ _ _ _ _ _ (Or.inr (by show 0 + 256 ≤ 256 * 3 + d.val; omega))).trans (zero3 _ _ _))))) _ j0 j1)
    (fun t h j => by
      rw [outsAt0_B m c t h]
      frame_out
      idx_vars j
      exact vals_at H W t _ _ _ _ _ (fun μ d => ld_cols _ _ _ μ d _ rfl) (fun μ d => ld_cols _ _ _ μ d _ rfl) (fun μ d => ld_cols _ _ _ μ d _ rfl) (fun μ d => ld_cols _ _ _ μ d _ rfl) [] j0 j1)
    (le_of_eq N_0) t0_7 rfl j, zero_add]
  idx_vars j
  rw [hG]
  refine Fin.sum_mul_add_congr (S := 8) (n := 512) (L := 4096) fun t r hl => ?_
  have e : at_ t r = ⟨t.val * 512 + r.val, hl⟩ := Fin.ext (by simp only [at_]; omega)
  rw [e]

/-- The gain's gradient, on eight equal rows, -/
theorem out20 (G : S8x1024.Idx → EReal) (hG : ∀ (a : Fin 8) (k : Fin 1024), G (ix2 a k) = dgain wq (rX x yv bd ya lg lb wout bo) (rP x yv bd ya mem lg lb wout bo gm gkv wq wkv wo dx2) k) :
    (dats m 0 c).arrAt 20 (cfgs 0).N = G := by
  refine (dats m 0 c).arrAt_eq_of_after_last 20 t0_7 (by decide +kernel) _ fun j => ?_
  blk_simp
  rw [after0_20, Pipeline.eq_sum_fin_of_reset_step_apply_last (fun n h => (outsAt0 m c n h).2.2.2.2.2.2.2.2.1)
    8 (fun _ => 0)
    (fun t j => ∑ r : Fin 512, (dhq wq (rP x yv bd ya mem lg lb wout bo gm gkv wq wkv wo dx2) (at_ t r) (j 1) * (rX x yv bd ya lg lb wout bo (at_ t r) (j 1) * rr (rX x yv bd ya lg lb wout bo (at_ t r))) : EReal))
    (fun t h j => by
      rw [outsAt0_A m c t h]
      frame_out
      idx_vars j
      refine (pay60 (at_ t) (dq_at H W t) (blk6 H t) (blk1 H t) _ j0 j1).trans (congrArg (fun y : EReal => y + _) ?_)
      pointwise [k0_pay4])
    (fun t h j => by
      rw [outsAt0_B m c t h]
      frame_out
      idx_vars j
      exact pay60 (at_ t) (dq_at H W t) (blk6 H t) (blk1 H t) _ j0 j1)
    (le_of_eq N_0) t0_7 rfl j, zero_add]
  idx_vars j
  rw [hG]
  refine Fin.sum_mul_add_congr (S := 8) (n := 512) (L := 4096) fun t r hl => ?_
  have e : at_ t r = ⟨t.val * 512 + r.val, hl⟩ := Fin.ext (by simp only [at_]; omega)
  rw [e]

/-- the out-projection's bias's, -/
theorem out21 (G : S8x1024.Idx → EReal) (hG : ∀ (a : Fin 8) (k : Fin 1024), G (ix2 a k) = ∑ r : Fin 4096, rR x yv bd ya mem lg lb wout bo gm gkv wq wkv wo dx2 r k) :
    (dats m 0 c).arrAt 21 (cfgs 0).N = G := by
  refine (dats m 0 c).arrAt_eq_of_after_last 21 t0_7 (by decide +kernel) _ fun j => ?_
  blk_simp
  rw [after0_21, Pipeline.eq_sum_fin_of_reset_step_apply_last (fun n h => (outsAt0 m c n h).2.2.2.2.2.2.2.2.2.1)
    8 (fun _ => 0)
    (fun t j => ∑ r : Fin 512, (rR x yv bd ya mem lg lb wout bo gm gkv wq wkv wo dx2 (at_ t r) (j 1) : EReal))
    (fun t h j => by
      rw [outsAt0_A m c t h]
      frame_out
      idx_vars j
      refine (pay61 (at_ t) (dr_at H W t) _ j0 j1).trans (congrArg (fun y : EReal => y + _) ?_)
      pointwise [k0_pay5])
    (fun t h j => by
      rw [outsAt0_B m c t h]
      frame_out
      idx_vars j
      exact pay61 (at_ t) (dr_at H W t) _ j0 j1)
    (le_of_eq N_0) t0_7 rfl j, zero_add]
  idx_vars j
  rw [hG]
  refine Fin.sum_mul_add_congr (S := 8) (n := 512) (L := 4096) fun t r hl => ?_
  have e : at_ t r = ⟨t.val * 512 + r.val, hl⟩ := Fin.ext (by simp only [at_]; omega)
  rw [e]

/-- the layer norm's gain's, -/
theorem out22 (G : S8x512.Idx → EReal) (hG : ∀ (a : Fin 8) (k : Fin 512), G (ix2 a k) = ∑ r : Fin 4096, dz yv bd lg lb wout (rR x yv bd ya mem lg lb wout bo gm gkv wq wkv wo dx2) r k * lhat (yrow yv bd r) k) :
    (dats m 0 c).arrAt 22 (cfgs 0).N = G := by
  refine (dats m 0 c).arrAt_eq_of_after_last 22 t0_7 (by decide +kernel) _ fun j => ?_
  blk_simp
  rw [after0_22, Pipeline.eq_sum_fin_of_reset_step_apply_last (fun n h => (outsAt0 m c n h).2.2.2.2.2.2.2.2.2.2.1)
    8 (fun _ => 0)
    (fun t j => ∑ r : Fin 512, (dz yv bd lg lb wout (rR x yv bd ya mem lg lb wout bo gm gkv wq wkv wo dx2) (at_ t r) (j 1) * lhat (yrow yv bd (at_ t r)) (j 1) : EReal))
    (fun t h j => by
      rw [outsAt0_A m c t h]
      frame_out
      idx_vars j
      refine (pay70 (at_ t) (blk9 H t) (dm_at H W t) (blk10 H t) (blk11 H t) _ j0 j1).trans (congrArg (fun y : EReal => y + _) ?_)
      pointwise [k0_pay6])
    (fun t h j => by
      rw [outsAt0_B m c t h]
      frame_out
      idx_vars j
      exact pay70 (at_ t) (blk9 H t) (dm_at H W t) (blk10 H t) (blk11 H t) _ j0 j1)
    (le_of_eq N_0) t0_7 rfl j, zero_add]
  idx_vars j
  rw [hG]
  refine Fin.sum_mul_add_congr (S := 8) (n := 512) (L := 4096) fun t r hl => ?_
  have e : at_ t r = ⟨t.val * 512 + r.val, hl⟩ := Fin.ext (by simp only [at_]; omega)
  rw [e]

/-- its bias's, -/
theorem out23 (G : S8x512.Idx → EReal) (hG : ∀ (a : Fin 8) (k : Fin 512), G (ix2 a k) = ∑ r : Fin 4096, dz yv bd lg lb wout (rR x yv bd ya mem lg lb wout bo gm gkv wq wkv wo dx2) r k) :
    (dats m 0 c).arrAt 23 (cfgs 0).N = G := by
  refine (dats m 0 c).arrAt_eq_of_after_last 23 t0_7 (by decide +kernel) _ fun j => ?_
  blk_simp
  rw [after0_23, Pipeline.eq_sum_fin_of_reset_step_apply_last (fun n h => (outsAt0 m c n h).2.2.2.2.2.2.2.2.2.2.2.1)
    8 (fun _ => 0)
    (fun t j => ∑ r : Fin 512, (dz yv bd lg lb wout (rR x yv bd ya mem lg lb wout bo gm gkv wq wkv wo dx2) (at_ t r) (j 1) : EReal))
    (fun t h j => by
      rw [outsAt0_A m c t h]
      frame_out
      idx_vars j
      refine (pay71 (at_ t) (blk9 H t) (dm_at H W t) (blk10 H t) (blk11 H t) _ j0 j1).trans (congrArg (fun y : EReal => y + _) ?_)
      pointwise [k0_pay7])
    (fun t h j => by
      rw [outsAt0_B m c t h]
      frame_out
      idx_vars j
      exact pay71 (at_ t) (blk9 H t) (dm_at H W t) (blk10 H t) (blk11 H t) _ j0 j1)
    (le_of_eq N_0) t0_7 rfl j, zero_add]
  idx_vars j
  rw [hG]
  refine Fin.sum_mul_add_congr (S := 8) (n := 512) (L := 4096) fun t r hl => ?_
  have e : at_ t r = ⟨t.val * 512 + r.val, hl⟩ := Fin.ext (by simp only [at_]; omega)
  rw [e]

/-- and the convolution's bias's. -/
theorem out24 (G : S8x512.Idx → EReal) (hG : ∀ (a : Fin 8) (k : Fin 512), G (ix2 a k) = ∑ r : Fin 4096, dy yv bd lg lb wout (rR x yv bd ya mem lg lb wout bo gm gkv wq wkv wo dx2) r k) :
    (dats m 0 c).arrAt 24 (cfgs 0).N = G := by
  refine (dats m 0 c).arrAt_eq_of_after_last 24 t0_7 (by decide +kernel) _ fun j => ?_
  blk_simp
  rw [after0_24, Pipeline.eq_sum_fin_of_reset_step_apply_last (fun n h => (outsAt0 m c n h).2.2.2.2.2.2.2.2.2.2.2.2)
    8 (fun _ => 0)
    (fun t j => ∑ r : Fin 512, (dy yv bd lg lb wout (rR x yv bd ya mem lg lb wout bo gm gkv wq wkv wo dx2) (at_ t r) (j 1) : EReal))
    (fun t h j => by
      rw [outsAt0_A m c t h]
      frame_out
      idx_vars j
      refine (pay72 (at_ t) (blk9 H t) (dm_at H W t) (blk10 H t) (blk11 H t) _ j0 j1).trans (congrArg (fun y : EReal => y + _) ?_)
      pointwise [k0_pay8])
    (fun t h j => by
      rw [outsAt0_B m c t h]
      frame_out
      idx_vars j
      exact pay72 (at_ t) (blk9 H t) (dm_at H W t) (blk10 H t) (blk11 H t) _ j0 j1)
    (le_of_eq N_0) t0_7 rfl j, zero_add]
  idx_vars j
  rw [hG]
  refine Fin.sum_mul_add_congr (S := 8) (n := 512) (L := 4096) fun t r hl => ?_
  have e : at_ t r = ⟨t.val * 512 + r.val, hl⟩ := Fin.ext (by simp only [at_]; omega)
  rw [e]

end Result

end Cert.Mem

end
-- ==== Proof.MemRes.lean ====
/- The memory attention's backward call: each result of the reference is the kernel's. -/
module

public import proofs.«01_k».proof.Proof.MemOut

@[expose] public section

set_option maxRecDepth 16384

noncomputable section

namespace Cert.Mem

open Cert.KernelMemIdeal Cert.KernelMemIdeal.Gen Cert.ReferenceMemIdeal.Read Idealize.ShloMosaic Idealize.ShloMosaic.TcCoe Idealize.SL.Sem
open Cert.Rms

variable {x : S1x4096x1024.Idx → EReal} {yv : S1x4096x512.Idx → EReal} {bd : S1x512.Idx → EReal} {ya : S1x4096x512.Idx → EReal} {mem : S1x256x1024.Idx → EReal} {lg : S1x512.Idx → EReal} {lb : S1x512.Idx → EReal} {wout : S1x1024x1024.Idx → EReal} {bo : S1x1024.Idx → EReal} {gm : S1x1024.Idx → EReal} {gkv : S1x1024.Idx → EReal} {wq : S1x1024x1024.Idx → EReal} {wkv : S1x1024x2048.Idx → EReal} {wo : S1x1024x1024.Idx → EReal} {dx2 : S1x4096x1024.Idx → EReal}
  {m : (ℓ : Loc nD τ sig) → Buf (Elt Ideal) ℓ} {c : Dev nD} (H : Args (fun b => m (c, b)) x yv bd ya mem lg lb wout bo gm gkv wq wkv wo dx2) (W : Reals x yv bd ya mem lg lb wout bo gm gkv wq wkv wo dx2)
include H W

theorem res12 : val_main_v221 (F := Ideal) x yv bd ya mem lg lb wout bo gm gkv wq wkv wo dx2 = (dats m 0 c).arrAt 12 (cfgs 0).N := by
  refine (out12 (m := m) (c := c) H W _ fun r k => ?_).symm
  pointwise [val_main_v221, r171 _ _ _ _ _ _ _ _ _ _ _ _ _ _ _ W]
theorem res13 : val_main_v223 (F := Ideal) x yv bd ya mem lg lb wout bo gm gkv wq wkv wo dx2 = (dats m 0 c).arrAt 13 (cfgs 0).N := by
  refine (out13 (m := m) (c := c) H W _ fun r k => ?_).symm
  pointwise [val_main_v223, val_main_v222, r171 _ _ _ _ _ _ _ _ _ _ _ _ _ _ _ W]
theorem res14 : val_main_v225 (F := Ideal) x yv bd ya lg lb wout bo gm = (dats m 0 c).arrAt 14 (cfgs 0).N := by
  refine (out14 (m := m) (c := c) H W _ fun r k => ?_).symm
  pointwise [val_main_v225, val_main_v224, r78]
theorem res15 : val_main_v227 (F := Ideal) x yv bd ya mem lg lb wout bo gm gkv wq wkv wo dx2 = (dats m 0 c).arrAt 15 (cfgs 0).N := by
  refine (out15 (m := m) (c := c) H W _ fun r k => ?_).symm
  pointwise [val_main_v227, val_main_v226, r147 _ _ _ _ _ _ _ _ _ _ _ _ _ _ _ W]
theorem res16 : val_main_v228 (F := Ideal) x yv bd ya mem lg lb wout bo gm gkv wq wkv wo dx2 = (dats m 0 c).arrAt 16 (cfgs 0).N := by
  refine (out16 (m := m) (c := c) H W _ fun r k => ?_).symm
  pointwise [val_main_v228, r214 _ _ _ _ _ _ _ _ _ _ _ _ _ _ _ W]
theorem res17 : val_main_v230 (F := Ideal) x yv bd ya mem lg lb wout bo gm gkv wq wkv wo dx2 = (dats m 0 c).arrAt 17 (cfgs 0).N := by
  refine (out17 (m := m) (c := c) H W _ fun r k => ?_).symm
  pointwise [val_main_v230, val_main_v229, r178 _ _ _ _ _ _ _ _ _ _ _ _ _ _ _ W]
theorem res18 : val_main_v231 (F := Ideal) x yv bd ya mem lg lb wout bo gm gkv wq wkv wo dx2 = (dats m 0 c).arrAt 18 (cfgs 0).N := by
  refine (out18 (m := m) (c := c) H W _ fun r k => ?_).symm
  pointwise [val_main_v231, r146 _ _ _ _ _ _ _ _ _ _ _ _ _ _ _ W]
theorem res19 : val_main_v232 (F := Ideal) x yv bd ya mem lg lb wout bo gm gkv wq wkv wo dx2 = (dats m 0 c).arrAt 19 (cfgs 0).N := by
  refine (out19 (m := m) (c := c) H W _ fun r k => ?_).symm
  pointwise [val_main_v232, r145 _ _ _ _ _ _ _ _ _ _ _ _ _ _ _ W]
theorem res20 : val_main_v233 (F := Ideal) x yv bd ya mem lg lb wout bo gm gkv wq wkv wo dx2 = (dats m 0 c).arrAt 20 (cfgs 0).N := by
  refine (out20 (m := m) (c := c) H W _ fun r k => ?_).symm
  pointwise [val_main_v233, r170 _ _ _ _ _ _ _ _ _ _ _ _ _ _ _ W]
theorem res21 : val_main_v234 (F := Ideal) x yv bd ya mem lg lb wout bo gm gkv wq wkv wo dx2 = (dats m 0 c).arrAt 21 (cfgs 0).N := by
  refine (out21 (m := m) (c := c) H W _ fun r k => ?_).symm
  pointwise [val_main_v234, r175 _ _ _ _ _ _ _ _ _ _ _ _ _ _ _ W]
theorem res22 : val_main_v235 (F := Ideal) x yv bd ya mem lg lb wout bo gm gkv wq wkv wo dx2 = (dats m 0 c).arrAt 22 (cfgs 0).N := by
  refine (out22 (m := m) (c := c) H W _ fun r k => ?_).symm
  pointwise [val_main_v235, r216 _ _ _ _ _ _ _ _ _ _ _ _ _ _ _ W]
theorem res23 : val_main_v236 (F := Ideal) x yv bd ya mem lg lb wout bo gm gkv wq wkv wo dx2 = (dats m 0 c).arrAt 23 (cfgs 0).N := by
  refine (out23 (m := m) (c := c) H W _ fun r k => ?_).symm
  pointwise [val_main_v236, r215 _ _ _ _ _ _ _ _ _ _ _ _ _ _ _ W]
theorem res24 : val_main_v237 (F := Ideal) x yv bd ya mem lg lb wout bo gm gkv wq wkv wo dx2 = (dats m 0 c).arrAt 24 (cfgs 0).N := by
  refine (out24 (m := m) (c := c) H W _ fun r k => ?_).symm
  pointwise [val_main_v237, r220 _ _ _ _ _ _ _ _ _ _ _ _ _ _ _ W]

end Cert.Mem

end
-- ==== Proof.MemClaim.lean ====
/- The memory attention's backward call computes the reference's gradients. -/
module

public import proofs.«01_k».proof.Proof.MemRes
public import proofs.«01_k».proof.Proof.Gen.Pre_mem_finite

@[expose] public section

set_option maxRecDepth 16384

noncomputable section

namespace Cert.Mem

open Cert.KernelMemIdeal Cert.KernelMemIdeal.Gen Cert.ReferenceMemIdeal.Read Idealize.ShloMosaic Idealize.ShloMosaic.TcCoe Idealize.SL.Sem
open Cert.Rms

/-- An array whose magnitudes all compare below ∞ has real entries. -/
theorem real_at {s : Shape} {a : FVec Ideal s .f32} {hb : (⟨0, ![]⟩ : Shape).BroadcastsInDim s (![] : Fin 0 → Fin s.rank)}
    (p : cmpf .olt (Host.absf a) (broadcastInDim s ![] hb (constant ⟨0, ![]⟩ .f32 0x7F800000#32)) = fun _ => 1#1) (i : s.Idx) : Real' (a i) :=
  ⟨_, Cert.AttnValue.real_of_finite _ (congrFun p i)⟩

/-- The precondition says that all the arguments are real. -/
theorem reals {m : (ℓ : Loc nD τ sig) → Buf (Elt Ideal) ℓ} (h : Cert.Pre_KernelMemIdeal_mem_finite m) (c : Dev nD) :
    Reals (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  obtain ⟨p0, p1, p2, p3, p4, p5, p6, p7, p8, p9, p10, p11, p12, p13, p14⟩ := h c
  exact ⟨fun r k => real_at p0 (ix3 0 r k), fun r k => real_at p1 (ix3 0 r k), fun k => real_at p2 (ix2 0 k), fun r k => real_at p3 (ix3 0 r k), fun r k => real_at p4 (ix3 0 r k), fun k => real_at p5 (ix2 0 k), fun k => real_at p6 (ix2 0 k), fun r k => real_at p7 (ix3 0 r k), fun k => real_at p8 (ix2 0 k), fun k => real_at p9 (ix2 0 k), fun k => real_at p10 (ix2 0 k), fun r k => real_at p11 (ix3 0 r k), fun r k => real_at p12 (ix3 0 r k), fun r k => real_at p13 (ix3 0 r k), fun r k => real_at p14 (ix3 0 r k)⟩

/-- A reference's argument at launch. -/
abbrev arg (m : (ℓ : Loc ReferenceMemIdeal.nD ReferenceMemIdeal.τ ReferenceMemIdeal.sig) → Buf (Elt Ideal) ℓ) (c : Dev ReferenceMemIdeal.nD)
    (b : Ref ReferenceMemIdeal.sig .tc) := m ((c.tc : Thread ReferenceMemIdeal.nD ReferenceMemIdeal.τ).loc b)

open Cert.ReferenceMemIdeal in
/-- The reference's run, its thirteen results named. -/
theorem run_reference (m : (ℓ : Loc ReferenceMemIdeal.nD ReferenceMemIdeal.τ ReferenceMemIdeal.sig) → Buf (Elt Ideal) ℓ) (g : Dev ReferenceMemIdeal.nD → PrngReg) :
    θ_run (ReferenceMemIdeal.defs (F := Ideal)) (onTc (τ := ReferenceMemIdeal.τ) (ReferenceMemIdeal.main (F := Ideal))) ⟨m, fun _ => 0, g⟩ (fun r => ∀ c : Dev ReferenceMemIdeal.nD,
      arg r.2.mem c ReferenceMemIdeal.main_v221 = val_main_v221 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14)
      ∧ arg r.2.mem c ReferenceMemIdeal.main_v223 = val_main_v223 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14)
      ∧ arg r.2.mem c ReferenceMemIdeal.main_v225 = val_main_v225 (F := Ideal) (arg m c main_arg0) (arg m c main_arg1) (arg m c main_arg2) (arg m c main_arg3) (arg m c main_arg5) (arg m c main_arg6) (arg m c main_arg7) (arg m c main_arg8) (arg m c main_arg9)
      ∧ arg r.2.mem c ReferenceMemIdeal.main_v227 = val_main_v227 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14)
      ∧ arg r.2.mem c ReferenceMemIdeal.main_v228 = val_main_v228 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14)
      ∧ arg r.2.mem c ReferenceMemIdeal.main_v230 = val_main_v230 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14)
      ∧ arg r.2.mem c ReferenceMemIdeal.main_v231 = val_main_v231 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14)
      ∧ arg r.2.mem c ReferenceMemIdeal.main_v232 = val_main_v232 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14)
      ∧ arg r.2.mem c ReferenceMemIdeal.main_v233 = val_main_v233 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14)
      ∧ arg r.2.mem c ReferenceMemIdeal.main_v234 = val_main_v234 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14)
      ∧ arg r.2.mem c ReferenceMemIdeal.main_v235 = val_main_v235 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14)
      ∧ arg r.2.mem c ReferenceMemIdeal.main_v236 = val_main_v236 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14)
      ∧ arg r.2.mem c ReferenceMemIdeal.main_v237 = val_main_v237 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14)) :=
  (θ_run _ _ _).mono (fun r h c => ⟨(h c).1.trans (val_main_v221_eq _), (h c).2.1.trans (val_main_v223_eq _), (h c).2.2.1.trans (val_main_v225_eq _), (h c).2.2.2.1.trans (val_main_v227_eq _), (h c).2.2.2.2.1.trans (val_main_v228_eq _), (h c).2.2.2.2.2.1.trans (val_main_v230_eq _), (h c).2.2.2.2.2.2.1.trans (val_main_v231_eq _), (h c).2.2.2.2.2.2.2.1.trans (val_main_v232_eq _), (h c).2.2.2.2.2.2.2.2.1.trans (val_main_v233_eq _), (h c).2.2.2.2.2.2.2.2.2.1.trans (val_main_v234_eq _), (h c).2.2.2.2.2.2.2.2.2.2.1.trans (val_main_v235_eq _), (h c).2.2.2.2.2.2.2.2.2.2.2.1.trans (val_main_v236_eq _), (h c).2.2.2.2.2.2.2.2.2.2.2.2.1.trans (val_main_v237_eq _)⟩) (Cert.ReferenceMemIdeal.Value.run m g)

/-- The reference ends with its arguments unchanged; it has no semaphores. -/
theorem frame_reference : Cert.quiescent_ReferenceMemIdeal := fun m g _ =>
  (θ_run Cert.ReferenceMemIdeal.defs _ _).mono
    (fun r h => ⟨fun c => (h c).2.2.2.2.2.2.2.2.2.2.2.2.2, sem_eq_zero_of_no_sems rfl r.2⟩) (Cert.ReferenceMemIdeal.Value.run m g)

/-- Where both programs start from the same arguments, the kernel's are those of the reference. -/
theorem args {m : (ℓ : Loc nD τ sig) → Buf (Elt Ideal) ℓ} {m' : (ℓ : Loc ReferenceMemIdeal.nD ReferenceMemIdeal.τ ReferenceMemIdeal.sig) → Buf (Elt Ideal) ℓ} {c : Dev nD}
    (e : arg m' c ReferenceMemIdeal.main_arg0 = m ((c.tc : Thread nD τ).loc main_arg0) ∧ arg m' c ReferenceMemIdeal.main_arg1 = m ((c.tc : Thread nD τ).loc main_arg1) ∧ arg m' c ReferenceMemIdeal.main_arg2 = m ((c.tc : Thread nD τ).loc main_arg2) ∧ arg m' c ReferenceMemIdeal.main_arg3 = m ((c.tc : Thread nD τ).loc main_arg3) ∧ arg m' c ReferenceMemIdeal.main_arg4 = m ((c.tc : Thread nD τ).loc main_arg4) ∧ arg m' c ReferenceMemIdeal.main_arg5 = m ((c.tc : Thread nD τ).loc main_arg5) ∧ arg m' c ReferenceMemIdeal.main_arg6 = m ((c.tc : Thread nD τ).loc main_arg6) ∧ arg m' c ReferenceMemIdeal.main_arg7 = m ((c.tc : Thread nD τ).loc main_arg7) ∧ arg m' c ReferenceMemIdeal.main_arg8 = m ((c.tc : Thread nD τ).loc main_arg8) ∧ arg m' c ReferenceMemIdeal.main_arg9 = m ((c.tc : Thread nD τ).loc main_arg9) ∧ arg m' c ReferenceMemIdeal.main_arg10 = m ((c.tc : Thread nD τ).loc main_arg10) ∧ arg m' c ReferenceMemIdeal.main_arg11 = m ((c.tc : Thread nD τ).loc main_arg11) ∧ arg m' c ReferenceMemIdeal.main_arg12 = m ((c.tc : Thread nD τ).loc main_arg12) ∧ arg m' c ReferenceMemIdeal.main_arg13 = m ((c.tc : Thread nD τ).loc main_arg13) ∧ arg m' c ReferenceMemIdeal.main_arg14 = m ((c.tc : Thread nD τ).loc main_arg14))
    (W : Reals (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))) :
    Args (fun b => m (c, b)) (arg m' c ReferenceMemIdeal.main_arg0) (arg m' c ReferenceMemIdeal.main_arg1) (arg m' c ReferenceMemIdeal.main_arg2) (arg m' c ReferenceMemIdeal.main_arg3) (arg m' c ReferenceMemIdeal.main_arg4) (arg m' c ReferenceMemIdeal.main_arg5) (arg m' c ReferenceMemIdeal.main_arg6) (arg m' c ReferenceMemIdeal.main_arg7) (arg m' c ReferenceMemIdeal.main_arg8) (arg m' c ReferenceMemIdeal.main_arg9) (arg m' c ReferenceMemIdeal.main_arg10) (arg m' c ReferenceMemIdeal.main_arg11) (arg m' c ReferenceMemIdeal.main_arg12) (arg m' c ReferenceMemIdeal.main_arg13) (arg m' c ReferenceMemIdeal.main_arg14) ∧ Reals (arg m' c ReferenceMemIdeal.main_arg0) (arg m' c ReferenceMemIdeal.main_arg1) (arg m' c ReferenceMemIdeal.main_arg2) (arg m' c ReferenceMemIdeal.main_arg3) (arg m' c ReferenceMemIdeal.main_arg4) (arg m' c ReferenceMemIdeal.main_arg5) (arg m' c ReferenceMemIdeal.main_arg6) (arg m' c ReferenceMemIdeal.main_arg7) (arg m' c ReferenceMemIdeal.main_arg8) (arg m' c ReferenceMemIdeal.main_arg9) (arg m' c ReferenceMemIdeal.main_arg10) (arg m' c ReferenceMemIdeal.main_arg11) (arg m' c ReferenceMemIdeal.main_arg12) (arg m' c ReferenceMemIdeal.main_arg13) (arg m' c ReferenceMemIdeal.main_arg14) := by
  obtain ⟨e0, e1, e2, e3, e4, e5, e6, e7, e8, e9, e10, e11, e12, e13, e14⟩ := e
  refine ⟨⟨e0.symm, e1.symm, e2.symm, e3.symm, e4.symm, e5.symm, e6.symm, e7.symm, e8.symm, e9.symm, e10.symm, e11.symm, e12.symm, e13.symm, e14.symm⟩, ?_⟩
  rw [e0, e1, e2, e3, e4, e5, e6, e7, e8, e9, e10, e11, e12, e13, e14]
  exact W

set_option maxHeartbeats 2000000 in
/-- The call computes the gradients that the reference computes. -/
theorem algebraic : Cert.algebraic_KernelMemIdeal_ReferenceMemIdeal_pre_mem_finite := by
  intro m g m' g' hpre hagree
  refine ⟨fun c => (dats m 0 c).arrAt 12 (cfgs 0).N, fun c => (dats m 0 c).arrAt 13 (cfgs 0).N, fun c => (dats m 0 c).arrAt 14 (cfgs 0).N, fun c => (dats m 0 c).arrAt 15 (cfgs 0).N, fun c => (dats m 0 c).arrAt 16 (cfgs 0).N, fun c => (dats m 0 c).arrAt 17 (cfgs 0).N, fun c => (dats m 0 c).arrAt 18 (cfgs 0).N, fun c => (dats m 0 c).arrAt 19 (cfgs 0).N, fun c => (dats m 0 c).arrAt 20 (cfgs 0).N, fun c => (dats m 0 c).arrAt 21 (cfgs 0).N, fun c => (dats m 0 c).arrAt 22 (cfgs 0).N, fun c => (dats m 0 c).arrAt 23 (cfgs 0).N, fun c => (dats m 0 c).arrAt 24 (cfgs 0).N, ?_, ?_⟩
  · refine θ_run_mono (θ_run_and (run_main m g) (unchanged m g)) fun r h c => ?_
    exact ⟨(h.1 c).1 12, (h.1 c).1 13, (h.1 c).1 14, (h.1 c).1 15, (h.1 c).1 16, (h.1 c).1 17, (h.1 c).1 18, (h.1 c).1 19, (h.1 c).1 20, (h.1 c).1 21, (h.1 c).1 22, (h.1 c).1 23, (h.1 c).1 24, h.2 c⟩
  · have hf := frame_reference m' g' trivial
    have hr := θ_run_and (run_reference m' g') hf
    refine θ_run_mono hr fun r h c => ?_
    obtain ⟨H, W⟩ := args (hagree c) (reals hpre c)
    obtain ⟨h0, h1, h2, h3, h4, h5, h6, h7, h8, h9, h10, h11, h12⟩ := h.1 c
    exact ⟨h0.trans (res12 H W), h1.trans (res13 H W), h2.trans (res14 H W), h3.trans (res15 H W), h4.trans (res16 H W), h5.trans (res17 H W), h6.trans (res18 H W), h7.trans (res19 H W), h8.trans (res20 H W), h9.trans (res21 H W), h10.trans (res22 H W), h11.trans (res23 H W), h12.trans (res24 H W), h.2.1 c⟩

end Cert.Mem

end
-- ==== Proof.LossClaim.lean ====
/- The channel mixer's forward call with the loss computes what the reference computes. -/
module

public import proofs.«01_k».proof.Proof.LossOut
public import proofs.«01_k».proof.Proof.MemClaim
public import proofs.«01_k».proof.Proof.Gen.Pre_loss_finite
public import proofs.«01_k».proof.Defs

@[expose] public section

set_option maxRecDepth 16384

noncomputable section

namespace Cert.Loss

open Cert.KernelLossIdeal Cert.KernelLossIdeal.Gen Cert.ReferenceLossIdeal.Read Idealize.ShloMosaic Idealize.ShloMosaic.TcCoe Idealize.SL.Sem
open Cert.Rms Cert.Ffn

/-! ## Each result of the reference is the kernel's -/

section Results

variable {x tg : S1x4096x1024.Idx → EReal} {g : S1x1024.Idx → EReal} {wg wu : S1x1024x2816.Idx → EReal}
  {wd : S1x2816x1024.Idx → EReal} {gl : S1024.Idx → EReal}
  {m : (ℓ : Loc nD τ sig) → Buf (Elt Ideal) ℓ} {c : Dev nD} (H : Holds m c x tg g wg wu wd gl)
  (W : ∀ r k, Real' (x3 x g wg wu wd r k))
include H

theorem res7 : val_main_v78 (F := Ideal) x g wg = (dats m 0 c).arrAt 7 (cfgs 0).N := by
  refine (out7 (m := m) (c := c) H _ fun r f => ?_).symm
  pointwise [val_main_v78, val_main_v77, val_main_v76, val_main_v75, r13 x g]
  rfl
theorem res8 : val_main_v82 (F := Ideal) x g wu = (dats m 0 c).arrAt 8 (cfgs 0).N := by
  refine (out8 (m := m) (c := c) H _ fun r f => ?_).symm
  pointwise [val_main_v82, val_main_v81, val_main_v80, val_main_v79, r13 x g]
  rfl
theorem res9 : val_main_v84 (F := Ideal) x g = (dats m 0 c).arrAt 9 (cfgs 0).N := by
  refine (out9 (m := m) (c := c) H _ fun r k => ?_).symm
  pointwise [val_main_v84, val_main_v83, r13 x g]
theorem res12 : val_main_v88 (F := Ideal) x tg g wg wu wd gl = (dats m 0 c).arrAt 12 (cfgs 0).N :=
  (out12 (m := m) (c := c) H _ fun a b => r88 x tg g wg wu wd gl a b).symm
theorem res13 : val_main_v90 (F := Ideal) x tg g wg wu wd gl = (dats m 0 c).arrAt 13 (cfgs 0).N :=
  (out13 (m := m) (c := c) H _ fun a k => r90 x tg g wg wu wd gl a k).symm

include W

theorem res10 : val_main_v85 (F := Ideal) x tg g wg wu wd gl = (dats m 0 c).arrAt 10 (cfgs 0).N := by
  refine (out10 (m := m) (c := c) H _ fun r k => ?_).symm
  pointwise [val_main_v85, r74 x tg g wg wu wd gl W]
theorem res11 : val_main_v87 (F := Ideal) x tg g wg wu wd gl = (dats m 0 c).arrAt 11 (cfgs 0).N := by
  refine (out11 (m := m) (c := c) H _ fun r k => ?_).symm
  pointwise [val_main_v87, val_main_v86, r74 x tg g wg wu wd gl W]

end Results

/-! ## The claim -/

/-- The precondition makes the residual stream after the mixer real. -/
theorem reals {m : (ℓ : Loc nD τ sig) → Buf (Elt Ideal) ℓ} (h : Cert.Pre_KernelLossIdeal_loss_finite m) (c : Dev nD) (r : Fin 4096) (k : Fin 1024) :
    Real' (x3 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) r k) := by
  obtain ⟨p0, p1, p2, p3, p4⟩ := h c
  exact x3_real _ _ _ _ _ (fun r k => Cert.Mem.real_at p0 (ix3 0 r k)) (fun k => Cert.Mem.real_at p1 (ix2 0 k)) (fun k f => Cert.Mem.real_at p2 (ix3 0 k f))
    (fun k f => Cert.Mem.real_at p3 (ix3 0 k f)) (fun f k => Cert.Mem.real_at p4 (ix3 0 f k)) r k

/-- A reference's argument at launch. -/
abbrev arg (m : (ℓ : Loc ReferenceLossIdeal.nD ReferenceLossIdeal.τ ReferenceLossIdeal.sig) → Buf (Elt Ideal) ℓ) (c : Dev ReferenceLossIdeal.nD)
    (b : Ref ReferenceLossIdeal.sig .tc) := m ((c.tc : Thread ReferenceLossIdeal.nD ReferenceLossIdeal.τ).loc b)

open Cert.ReferenceLossIdeal in
/-- The reference's run, its seven results named. -/
theorem run_reference (m : (ℓ : Loc ReferenceLossIdeal.nD ReferenceLossIdeal.τ ReferenceLossIdeal.sig) → Buf (Elt Ideal) ℓ) (g : Dev ReferenceLossIdeal.nD → PrngReg) :
    θ_run (ReferenceLossIdeal.defs (F := Ideal)) (onTc (τ := ReferenceLossIdeal.τ) (ReferenceLossIdeal.main (F := Ideal))) ⟨m, fun _ => 0, g⟩ (fun r => ∀ c : Dev ReferenceLossIdeal.nD,
      arg r.2.mem c ReferenceLossIdeal.main_v78 = val_main_v78 (F := Ideal) (arg m c main_arg0) (arg m c main_arg2) (arg m c main_arg3)
      ∧ arg r.2.mem c ReferenceLossIdeal.main_v82 = val_main_v82 (F := Ideal) (arg m c main_arg0) (arg m c main_arg2) (arg m c main_arg4)
      ∧ arg r.2.mem c ReferenceLossIdeal.main_v84 = val_main_v84 (F := Ideal) (arg m c main_arg0) (arg m c main_arg2)
      ∧ arg r.2.mem c ReferenceLossIdeal.main_v85 = val_main_v85 (F := Ideal) (arg m c main_arg0) (arg m c main_arg1) (arg m c main_arg2) (arg m c main_arg3) (arg m c main_arg4) (arg m c main_arg5) (arg m c main_arg6)
      ∧ arg r.2.mem c ReferenceLossIdeal.main_v87 = val_main_v87 (F := Ideal) (arg m c main_arg0) (arg m c main_arg1) (arg m c main_arg2) (arg m c main_arg3) (arg m c main_arg4) (arg m c main_arg5) (arg m c main_arg6)
      ∧ arg r.2.mem c ReferenceLossIdeal.main_v88 = val_main_v88 (F := Ideal) (arg m c main_arg0) (arg m c main_arg1) (arg m c main_arg2) (arg m c main_arg3) (arg m c main_arg4) (arg m c main_arg5) (arg m c main_arg6)
      ∧ arg r.2.mem c ReferenceLossIdeal.main_v90 = val_main_v90 (F := Ideal) (arg m c main_arg0) (arg m c main_arg1) (arg m c main_arg2) (arg m c main_arg3) (arg m c main_arg4) (arg m c main_arg5) (arg m c main_arg6)) :=
  (θ_run _ _ _).mono (fun r h c => ⟨(h c).1.trans (val_main_v78_eq _), (h c).2.1.trans (val_main_v82_eq _), (h c).2.2.1.trans (val_main_v84_eq _), (h c).2.2.2.1.trans (val_main_v85_eq _), (h c).2.2.2.2.1.trans (val_main_v87_eq _), (h c).2.2.2.2.2.1.trans (val_main_v88_eq _), (h c).2.2.2.2.2.2.1.trans (val_main_v90_eq _)⟩)
    (Cert.ReferenceLossIdeal.Value.run m g)

/-- The reference ends with its arguments unchanged; it has no semaphores. -/
theorem frame_reference : Cert.quiescent_ReferenceLossIdeal := fun m g _ =>
  (θ_run Cert.ReferenceLossIdeal.defs _ _).mono
    (fun r h => ⟨fun c => (h c).2.2.2.2.2.2.2, sem_eq_zero_of_no_sems rfl r.2⟩) (Cert.ReferenceLossIdeal.Value.run m g)

/-- Where both programs start from the same arguments, the kernel's are those of the reference. -/
theorem args {m : (ℓ : Loc nD τ sig) → Buf (Elt Ideal) ℓ} {m' : (ℓ : Loc ReferenceLossIdeal.nD ReferenceLossIdeal.τ ReferenceLossIdeal.sig) → Buf (Elt Ideal) ℓ} {c : Dev nD}
    (e : arg m' c ReferenceLossIdeal.main_arg0 = m ((c.tc : Thread nD τ).loc main_arg0) ∧ arg m' c ReferenceLossIdeal.main_arg1 = m ((c.tc : Thread nD τ).loc main_arg1) ∧ arg m' c ReferenceLossIdeal.main_arg2 = m ((c.tc : Thread nD τ).loc main_arg2) ∧ arg m' c ReferenceLossIdeal.main_arg3 = m ((c.tc : Thread nD τ).loc main_arg3) ∧ arg m' c ReferenceLossIdeal.main_arg4 = m ((c.tc : Thread nD τ).loc main_arg4) ∧ arg m' c ReferenceLossIdeal.main_arg5 = m ((c.tc : Thread nD τ).loc main_arg5) ∧ arg m' c ReferenceLossIdeal.main_arg6 = m ((c.tc : Thread nD τ).loc main_arg6))
    (W : ∀ r k, Real' (x3 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) r k)) :
    Holds m c (arg m' c ReferenceLossIdeal.main_arg0) (arg m' c ReferenceLossIdeal.main_arg1) (arg m' c ReferenceLossIdeal.main_arg2) (arg m' c ReferenceLossIdeal.main_arg3) (arg m' c ReferenceLossIdeal.main_arg4) (arg m' c ReferenceLossIdeal.main_arg5) (arg m' c ReferenceLossIdeal.main_arg6) ∧ ∀ r k, Real' (x3 (arg m' c ReferenceLossIdeal.main_arg0) (arg m' c ReferenceLossIdeal.main_arg2) (arg m' c ReferenceLossIdeal.main_arg3) (arg m' c ReferenceLossIdeal.main_arg4) (arg m' c ReferenceLossIdeal.main_arg5) r k) := by
  obtain ⟨e0, e1, e2, e3, e4, e5, e6⟩ := e
  refine ⟨⟨e0.symm, e1.symm, e2.symm, e3.symm, e4.symm, e5.symm, e6.symm⟩, ?_⟩
  rw [e0, e2, e3, e4, e5]
  exact W

set_option maxHeartbeats 2000000 in
/-- The call computes what the reference computes: the mixer's saved values, the loss, and the loss's gradients. -/
theorem algebraic : Cert.algebraic_KernelLossIdeal_ReferenceLossIdeal_pre_loss_finite := by
  intro m g m' g' hpre hagree
  refine ⟨fun c => (dats m 0 c).arrAt 7 (cfgs 0).N, fun c => (dats m 0 c).arrAt 8 (cfgs 0).N, fun c => (dats m 0 c).arrAt 9 (cfgs 0).N, fun c => (dats m 0 c).arrAt 10 (cfgs 0).N, fun c => (dats m 0 c).arrAt 11 (cfgs 0).N, fun c => (dats m 0 c).arrAt 12 (cfgs 0).N, fun c => (dats m 0 c).arrAt 13 (cfgs 0).N, ?_, ?_⟩
  · refine θ_run_mono (θ_run_and (run_main m g) (unchanged m g)) fun r h c => ?_
    exact ⟨(h.1 c).1 7, (h.1 c).1 8, (h.1 c).1 9, (h.1 c).1 10, (h.1 c).1 11, (h.1 c).1 12, (h.1 c).1 13, h.2 c⟩
  · have hf := frame_reference m' g' trivial
    have hr := θ_run_and (run_reference m' g') hf
    refine θ_run_mono hr fun r h c => ?_
    obtain ⟨H, W⟩ := args (hagree c) (reals hpre c)
    obtain ⟨h0, h1, h2, h3, h4, h5, h6⟩ := h.1 c
    exact ⟨h0.trans (res7 H), h1.trans (res8 H), h2.trans (res9 H), h3.trans (res10 H W), h4.trans (res11 H W), h5.trans (res12 H), h6.trans (res13 H), h.2.1 c⟩

end Cert.Loss

end
-- ==== Proof.lean ====
/- The claims about the backward calls of the training step, put together from the calls' own modules. -/
module

public import proofs.«01_k».proof.Defs
public import proofs.«01_k».proof.Proof.Gen.KernelKv
public import proofs.«01_k».proof.Proof.Gen.KernelKv.Skeleton
public import proofs.«01_k».proof.Proof.Gen.KernelKv.Launch
public import proofs.«01_k».proof.Proof.Gen.KernelKv.Points
public import proofs.«01_k».proof.Proof.Gen.KernelKv.Frame
public import proofs.«01_k».proof.Proof.Gen.KernelKvIdeal
public import proofs.«01_k».proof.Proof.Gen.KernelKvIdeal.Skeleton
public import proofs.«01_k».proof.Proof.Gen.KernelKvIdeal.Launch
public import proofs.«01_k».proof.Proof.Gen.KernelKvIdeal.Points
public import proofs.«01_k».proof.Proof.Gen.KernelKvIdeal.Frame
public import proofs.«01_k».proof.Proof.Gen.ReferenceKvIdeal
public import proofs.«01_k».proof.Proof.Gen.KernelKvIdeal.Value
public import proofs.«01_k».proof.Proof.Gen.ReferenceKvIdeal.Run
public import proofs.«01_k».proof.Proof.Gen.ReferenceKvIdeal.Read
public import proofs.«01_k».proof.Proof.Gen.KernelAttnIdeal
public import proofs.«01_k».proof.Proof.Gen.KernelAttnIdeal.Launch
public import proofs.«01_k».proof.Proof.Gen.KernelAttnIdeal.Points
public import proofs.«01_k».proof.Proof.Gen.KernelAttnIdeal.Frame
public import proofs.«01_k».proof.Proof.Gen.KernelAttn
public import proofs.«01_k».proof.Proof.Gen.ReferenceAttnIdeal.Run
public import proofs.«01_k».proof.Proof.Gen.ReferenceAttnIdeal.Read
public import proofs.«01_k».proof.Proof.Gen.Pre_attn_finite
public import proofs.«01_k».proof.Proof.Gen.Pre_ffn_finite
public import proofs.«01_k».proof.Proof.Gen.Pre_x_finite
public import proofs.«01_k».proof.Proof.Gen.KernelFfn
public import proofs.«01_k».proof.Proof.Gen.KernelIn
public import proofs.«01_k».proof.Proof.Gen.KernelFfnIdeal.Value
public import proofs.«01_k».proof.Proof.Gen.ReferenceFfnIdeal.Run
public import proofs.«01_k».proof.Proof.Gen.ReferenceFfnIdeal.Read
public import proofs.«01_k».proof.Proof.Gen.KernelInIdeal.Value
public import proofs.«01_k».proof.Proof.Gen.ReferenceInIdeal.Run
public import proofs.«01_k».proof.Proof.Gen.ReferenceInIdeal.Read
public import proofs.«01_k».proof.Proof.Gen.Pre_mem_finite
public import proofs.«01_k».proof.Proof.Gen.KernelMem
public import proofs.«01_k».proof.Proof.Gen.KernelMemIdeal.Value
public import proofs.«01_k».proof.Proof.Gen.ReferenceMemIdeal.Run
public import proofs.«01_k».proof.Proof.Gen.ReferenceMemIdeal.Read
public import proofs.«01_k».proof.Proof.Gen.Pre_loss_finite
public import proofs.«01_k».proof.Proof.Gen.KernelLoss
public import proofs.«01_k».proof.Proof.Gen.KernelLossIdeal.Value
public import proofs.«01_k».proof.Proof.Gen.ReferenceLossIdeal.Run
public import proofs.«01_k».proof.Proof.Gen.ReferenceLossIdeal.Read
public import proofs.«01_k».proof.Proof.KvValue
public import proofs.«01_k».proof.Proof.AttnBits
public import proofs.«01_k».proof.Proof.AttnValue
public import proofs.«01_k».proof.Proof.FfnValue
public import proofs.«01_k».proof.Proof.InOut
public import proofs.«01_k».proof.Proof.MemFrame
public import proofs.«01_k».proof.Proof.LossFrame
public import proofs.«01_k».proof.Proof.LossClaim
public import proofs.«01_k».proof.Proof.MemClaim
public import Idealize.ShloMosaic.Adequacy
public import Idealize.ShloMosaic.Init

@[expose] public section

noncomputable section

namespace Cert.Proof

open Idealize.ShloMosaic Idealize.SL.Sem Cert.KernelKv

/-- All claims. -/
theorem claim : Cert.Claim :=
  ⟨Cert.KernelKv.Gen.facts, Cert.KernelKvIdeal.Gen.facts, Cert.ReferenceKvIdeal.Gen.facts,
    Cert.KernelAttn.Gen.facts, Cert.KernelAttnIdeal.Gen.facts, Cert.ReferenceAttnIdeal.Gen.facts,
    Cert.KernelFfn.Gen.facts, Cert.KernelFfnIdeal.Gen.facts, Cert.ReferenceFfnIdeal.Gen.facts,
    Cert.KernelIn.Gen.facts, Cert.KernelInIdeal.Gen.facts, Cert.ReferenceInIdeal.Gen.facts,
    Cert.KernelMem.Gen.facts, Cert.KernelMemIdeal.Gen.facts, Cert.ReferenceMemIdeal.Gen.facts,
    Cert.KernelLoss.Gen.facts, Cert.KernelLossIdeal.Gen.facts, Cert.ReferenceLossIdeal.Gen.facts,
    Cert.Pre_attn_finite.Gen.facts, Cert.Pre_ffn_finite.Gen.facts, Cert.Pre_x_finite.Gen.facts, Cert.Pre_mem_finite.Gen.facts, Cert.Pre_loss_finite.Gen.facts,
    fun m ρ _ => Cert.KernelKv.Gen.frame m ρ, fun m ρ _ => Cert.KernelKvIdeal.Gen.frame m ρ, Cert.Kv.frame_reference,
    Cert.Attn.frame_kernel, Cert.Attn.frame_ideal, fun m ρ _ => Cert.Attn.frame_ideal m ρ trivial,
    Cert.AttnValue.frame_reference, fun m ρ _ => Cert.AttnValue.frame_reference m ρ trivial,
    Cert.Ffn.frame_kernel, fun m ρ _ => Cert.KernelFfnIdeal.Gen.frame m ρ, fun m ρ _ => Cert.KernelFfnIdeal.Gen.frame m ρ,
    Cert.Ffn.frame_reference, fun m ρ _ => Cert.Ffn.frame_reference m ρ trivial,
    Cert.In.frame_kernel, fun m ρ _ => Cert.KernelInIdeal.Gen.frame m ρ, fun m ρ _ => Cert.KernelInIdeal.Gen.frame m ρ,
    Cert.In.frame_reference, fun m ρ _ => Cert.In.frame_reference m ρ trivial,
    Cert.Mem.frame_kernel, fun m ρ _ => Cert.KernelMemIdeal.Gen.frame m ρ, fun m ρ _ => Cert.KernelMemIdeal.Gen.frame m ρ,
    Cert.Mem.frame_reference, fun m ρ _ => Cert.Mem.frame_reference m ρ trivial,
    Cert.Loss.frame_kernel, fun m ρ _ => Cert.KernelLossIdeal.Gen.frame m ρ, fun m ρ _ => Cert.KernelLossIdeal.Gen.frame m ρ,
    Cert.Loss.frame_reference, fun m ρ _ => Cert.Loss.frame_reference m ρ trivial,
    trivial, Cert.Kv.algebraic,
    Cert.AttnValue.preserves, Cert.AttnValue.algebraic,
    trivial, Cert.Ffn.algebraic,
    trivial, Cert.In.algebraic,
    trivial, Cert.Mem.algebraic,
    trivial, Cert.Loss.algebraic⟩

end Cert.Proof

end
